-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_WoDw (m : (ℓ : Loc Cert.WoDw.nD Cert.WoDw.τ Cert.WoDw.sig) → Buf (Elt Bits) ℓ) : Prop :=
  True

def Pre_WoDwIdeal (m : (ℓ : Loc Cert.WoDwIdeal.nD Cert.WoDwIdeal.τ Cert.WoDwIdeal.sig) → Buf (Elt Ideal) ℓ) : Prop :=
  True

def Pre_WoDwRefIdeal (m : (ℓ : Loc Cert.WoDwRefIdeal.nD Cert.WoDwRefIdeal.τ Cert.WoDwRefIdeal.sig) → Buf (Elt Ideal) ℓ) : Prop :=
  True

def Pre_WqDw (m : (ℓ : Loc Cert.WqDw.nD Cert.WqDw.τ Cert.WqDw.sig) → Buf (Elt Bits) ℓ) : Prop :=
  True

def Pre_WqDwIdeal (m : (ℓ : Loc Cert.WqDwIdeal.nD Cert.WqDwIdeal.τ Cert.WqDwIdeal.sig) → Buf (Elt Ideal) ℓ) : Prop :=
  True

def Pre_WqDwRefIdeal (m : (ℓ : Loc Cert.WqDwRefIdeal.nD Cert.WqDwRefIdeal.τ Cert.WqDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_WoDx (m : (ℓ : Loc Cert.WoDx.nD Cert.WoDx.τ Cert.WoDx.sig) → Buf (Elt Bits) ℓ) : Prop :=
  True

def Pre_WoDxIdeal (m : (ℓ : Loc Cert.WoDxIdeal.nD Cert.WoDxIdeal.τ Cert.WoDxIdeal.sig) → Buf (Elt Ideal) ℓ) : Prop :=
  True

def Pre_WoDxRefIdeal (m : (ℓ : Loc Cert.WoDxRefIdeal.nD Cert.WoDxRefIdeal.τ Cert.WoDxRefIdeal.sig) → Buf (Elt Ideal) ℓ) : Prop :=
  True

def Pre_WqDx (m : (ℓ : Loc Cert.WqDx.nD Cert.WqDx.τ Cert.WqDx.sig) → Buf (Elt Bits) ℓ) : Prop :=
  True

def Pre_WqDxIdeal (m : (ℓ : Loc Cert.WqDxIdeal.nD Cert.WqDxIdeal.τ Cert.WqDxIdeal.sig) → Buf (Elt Ideal) ℓ) : Prop :=
  True

def Pre_WqDxRefIdeal (m : (ℓ : Loc Cert.WqDxRefIdeal.nD Cert.WqDxRefIdeal.τ Cert.WqDxRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Wq (m : (ℓ : Loc Cert.Wq.nD Cert.Wq.τ Cert.Wq.sig) → Buf (Elt Bits) ℓ) : Prop :=
  True

def Pre_WqIdeal (m : (ℓ : Loc Cert.WqIdeal.nD Cert.WqIdeal.τ Cert.WqIdeal.sig) → Buf (Elt Ideal) ℓ) : Prop :=
  True

def Pre_WqRefIdeal (m : (ℓ : Loc Cert.WqRefIdeal.nD Cert.WqRefIdeal.τ Cert.WqRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_GdnPost (m : (ℓ : Loc Cert.GdnPost.nD Cert.GdnPost.τ Cert.GdnPost.sig) → Buf (Elt Bits) ℓ) : Prop :=
  True

def Pre_GdnPostIdeal (m : (ℓ : Loc Cert.GdnPostIdeal.nD Cert.GdnPostIdeal.τ Cert.GdnPostIdeal.sig) → Buf (Elt Ideal) ℓ) : Prop :=
  True

def Pre_GdnPostRefIdeal (m : (ℓ : Loc Cert.GdnPostRefIdeal.nD Cert.GdnPostRefIdeal.τ Cert.GdnPostRefIdeal.sig) → Buf (Elt Ideal) ℓ) : Prop :=
  True

def Pre_SsdPost (m : (ℓ : Loc Cert.SsdPost.nD Cert.SsdPost.τ Cert.SsdPost.sig) → Buf (Elt Bits) ℓ) : Prop :=
  True

def Pre_SsdPostIdeal (m : (ℓ : Loc Cert.SsdPostIdeal.nD Cert.SsdPostIdeal.τ Cert.SsdPostIdeal.sig) → Buf (Elt Ideal) ℓ) : Prop :=
  True

def Pre_SsdPostRefIdeal (m : (ℓ : Loc Cert.SsdPostRefIdeal.nD Cert.SsdPostRefIdeal.τ Cert.SsdPostRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamMem (m : (ℓ : Loc Cert.AdamMem.nD Cert.AdamMem.τ Cert.AdamMem.sig) → Buf (Elt Bits) ℓ) : Prop :=
  True

def Pre_AdamMemIdeal (m : (ℓ : Loc Cert.AdamMemIdeal.nD Cert.AdamMemIdeal.τ Cert.AdamMemIdeal.sig) → Buf (Elt Ideal) ℓ) : Prop :=
  True

def Pre_AdamMemRefIdeal (m : (ℓ : Loc Cert.AdamMemRefIdeal.nD Cert.AdamMemRefIdeal.τ Cert.AdamMemRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadRefIdeal (m : (ℓ : Loc Cert.AdamHeadRefIdeal.nD Cert.AdamHeadRefIdeal.τ Cert.AdamHeadRefIdeal.sig) → Buf (Elt Ideal) ℓ) : Prop :=
  True

def Pre_AdamSkip (m : (ℓ : Loc Cert.AdamSkip.nD Cert.AdamSkip.τ Cert.AdamSkip.sig) → Buf (Elt Bits) ℓ) : Prop :=
  True

def Pre_AdamSkipIdeal (m : (ℓ : Loc Cert.AdamSkipIdeal.nD Cert.AdamSkipIdeal.τ Cert.AdamSkipIdeal.sig) → Buf (Elt Ideal) ℓ) : Prop :=
  True

def Pre_AdamSkipRefIdeal (m : (ℓ : Loc Cert.AdamSkipRefIdeal.nD Cert.AdamSkipRefIdeal.τ Cert.AdamSkipRefIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasRefIdeal (m : (ℓ : Loc Cert.AdamBiasRefIdeal.nD Cert.AdamBiasRefIdeal.τ Cert.AdamBiasRefIdeal.sig) → Buf (Elt Ideal) ℓ) : Prop :=
  True

def Pre_AdamTaps (m : (ℓ : Loc Cert.AdamTaps.nD Cert.AdamTaps.τ Cert.AdamTaps.sig) → Buf (Elt Bits) ℓ) : Prop :=
  True

def Pre_AdamTapsIdeal (m : (ℓ : Loc Cert.AdamTapsIdeal.nD Cert.AdamTapsIdeal.τ Cert.AdamTapsIdeal.sig) → Buf (Elt Ideal) ℓ) : Prop :=
  True

def Pre_AdamTapsRefIdeal (m : (ℓ : Loc Cert.AdamTapsRefIdeal.nD Cert.AdamTapsRefIdeal.τ Cert.AdamTapsRefIdeal.sig) → Buf (Elt Ideal) ℓ) : Prop :=
  True

def Pre_AdamFilter (m : (ℓ : Loc Cert.AdamFilter.nD Cert.AdamFilter.τ Cert.AdamFilter.sig) → Buf (Elt Bits) ℓ) : Prop :=
  True

def Pre_AdamFilterIdeal (m : (ℓ : Loc Cert.AdamFilterIdeal.nD Cert.AdamFilterIdeal.τ Cert.AdamFilterIdeal.sig) → Buf (Elt Ideal) ℓ) : Prop :=
  True

def Pre_AdamFilterRefIdeal (m : (ℓ : Loc Cert.AdamFilterRefIdeal.nD Cert.AdamFilterRefIdeal.τ Cert.AdamFilterRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysRefIdeal (m : (ℓ : Loc Cert.KeysRefIdeal.nD Cert.KeysRefIdeal.τ Cert.KeysRefIdeal.sig) → Buf (Elt Ideal) ℓ) : Prop :=
  True

def Pre_KeysDw (m : (ℓ : Loc Cert.KeysDw.nD Cert.KeysDw.τ Cert.KeysDw.sig) → Buf (Elt Bits) ℓ) : Prop :=
  True

def Pre_KeysDwIdeal (m : (ℓ : Loc Cert.KeysDwIdeal.nD Cert.KeysDwIdeal.τ Cert.KeysDwIdeal.sig) → Buf (Elt Ideal) ℓ) : Prop :=
  True

def Pre_KeysDwRefIdeal (m : (ℓ : Loc Cert.KeysDwRefIdeal.nD Cert.KeysDwRefIdeal.τ Cert.KeysDwRefIdeal.sig) → Buf (Elt Ideal) ℓ) : Prop :=
  True

def Pre_KeysDx (m : (ℓ : Loc Cert.KeysDx.nD Cert.KeysDx.τ Cert.KeysDx.sig) → Buf (Elt Bits) ℓ) : Prop :=
  True

def Pre_KeysDxIdeal (m : (ℓ : Loc Cert.KeysDxIdeal.nD Cert.KeysDxIdeal.τ Cert.KeysDxIdeal.sig) → Buf (Elt Ideal) ℓ) : Prop :=
  True

def Pre_KeysDxRefIdeal (m : (ℓ : Loc Cert.KeysDxRefIdeal.nD Cert.KeysDxRefIdeal.τ Cert.KeysDxRefIdeal.sig) → Buf (Elt Ideal) ℓ) : Prop :=
  True

def Pre_ValuesDx (m : (ℓ : Loc Cert.ValuesDx.nD Cert.ValuesDx.τ Cert.ValuesDx.sig) → Buf (Elt Bits) ℓ) : Prop :=
  True

def Pre_ValuesDxIdeal (m : (ℓ : Loc Cert.ValuesDxIdeal.nD Cert.ValuesDxIdeal.τ Cert.ValuesDxIdeal.sig) → Buf (Elt Ideal) ℓ) : Prop :=
  True

def Pre_ValuesDxRefIdeal (m : (ℓ : Loc Cert.ValuesDxRefIdeal.nD Cert.ValuesDxRefIdeal.τ Cert.ValuesDxRefIdeal.sig) → Buf (Elt Ideal) ℓ) : Prop :=
  True

def Pre_RowNorm (m : (ℓ : Loc Cert.RowNorm.nD Cert.RowNorm.τ Cert.RowNorm.sig) → Buf (Elt Bits) ℓ) : Prop :=
  True

def Pre_RowNormIdeal (m : (ℓ : Loc Cert.RowNormIdeal.nD Cert.RowNormIdeal.τ Cert.RowNormIdeal.sig) → Buf (Elt Ideal) ℓ) : Prop :=
  True

def Pre_RowNormRefIdeal (m : (ℓ : Loc Cert.RowNormRefIdeal.nD Cert.RowNormRefIdeal.τ Cert.RowNormRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_MemNormDx (m : (ℓ : Loc Cert.MemNormDx.nD Cert.MemNormDx.τ Cert.MemNormDx.sig) → Buf (Elt Bits) ℓ) : Prop :=
  True

def Pre_MemNormDxIdeal (m : (ℓ : Loc Cert.MemNormDxIdeal.nD Cert.MemNormDxIdeal.τ Cert.MemNormDxIdeal.sig) → Buf (Elt Ideal) ℓ) : Prop :=
  True

def Pre_MemNormDxRefIdeal (m : (ℓ : Loc Cert.MemNormDxRefIdeal.nD Cert.MemNormDxRefIdeal.τ Cert.MemNormDxRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_ConvV (m : (ℓ : Loc Cert.ConvV.nD Cert.ConvV.τ Cert.ConvV.sig) → Buf (Elt Bits) ℓ) : Prop :=
  True

def Pre_ConvVIdeal (m : (ℓ : Loc Cert.ConvVIdeal.nD Cert.ConvVIdeal.τ Cert.ConvVIdeal.sig) → Buf (Elt Ideal) ℓ) : Prop :=
  True

def Pre_ConvVRefIdeal (m : (ℓ : Loc Cert.ConvVRefIdeal.nD Cert.ConvVRefIdeal.τ Cert.ConvVRefIdeal.sig) → Buf (Elt Ideal) ℓ) : Prop :=
  True

def Pre_ConvX (m : (ℓ : Loc Cert.ConvX.nD Cert.ConvX.τ Cert.ConvX.sig) → Buf (Elt Bits) ℓ) : Prop :=
  True

def Pre_ConvXIdeal (m : (ℓ : Loc Cert.ConvXIdeal.nD Cert.ConvXIdeal.τ Cert.ConvXIdeal.sig) → Buf (Elt Ideal) ℓ) : Prop :=
  True

def Pre_ConvXRefIdeal (m : (ℓ : Loc Cert.ConvXRefIdeal.nD Cert.ConvXRefIdeal.τ Cert.ConvXRefIdeal.sig) → Buf (Elt Ideal) ℓ) : Prop :=
  True

def Pre_ConvQk (m : (ℓ : Loc Cert.ConvQk.nD Cert.ConvQk.τ Cert.ConvQk.sig) → Buf (Elt Bits) ℓ) : Prop :=
  True

def Pre_ConvQkIdeal (m : (ℓ : Loc Cert.ConvQkIdeal.nD Cert.ConvQkIdeal.τ Cert.ConvQkIdeal.sig) → Buf (Elt Ideal) ℓ) : Prop :=
  True

def Pre_ConvQkRefIdeal (m : (ℓ : Loc Cert.ConvQkRefIdeal.nD Cert.ConvQkRefIdeal.τ Cert.ConvQkRefIdeal.sig) → Buf (Elt Ideal) ℓ) : Prop :=
  True

def Pre_ConvVIn (m : (ℓ : Loc Cert.ConvVIn.nD Cert.ConvVIn.τ Cert.ConvVIn.sig) → Buf (Elt Bits) ℓ) : Prop :=
  True

def Pre_ConvVInIdeal (m : (ℓ : Loc Cert.ConvVInIdeal.nD Cert.ConvVInIdeal.τ Cert.ConvVInIdeal.sig) → Buf (Elt Ideal) ℓ) : Prop :=
  True

def Pre_ConvVInRefIdeal (m : (ℓ : Loc Cert.ConvVInRefIdeal.nD Cert.ConvVInRefIdeal.τ Cert.ConvVInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_WoDw [hWoDw : Cert.WoDw.Facts] : Prop :=
  ∀ (m : (ℓ : Loc Cert.WoDw.nD Cert.WoDw.τ Cert.WoDw.sig) → Buf (Elt Bits) ℓ) (g : Dev Cert.WoDw.nD → PrngReg), Pre_WoDw m →
    θ_run (Cert.WoDw.defs (F := Bits)) (onTc (τ := Cert.WoDw.τ) (Cert.WoDw.main (F := Bits))) ⟨m, fun _ => 0, g⟩ (fun r => (∀ c : Dev Cert.WoDw.nD,
      r.2.mem ((c.tc : Thread Cert.WoDw.nD Cert.WoDw.τ).loc Cert.WoDw.main_arg0) = m ((c.tc : Thread Cert.WoDw.nD Cert.WoDw.τ).loc Cert.WoDw.main_arg0)
      ∧ r.2.mem ((c.tc : Thread Cert.WoDw.nD Cert.WoDw.τ).loc Cert.WoDw.main_arg1) = m ((c.tc : Thread Cert.WoDw.nD Cert.WoDw.τ).loc Cert.WoDw.main_arg1))
      ∧ r.2.sem = fun _ => 0)

def quiescent_WoDwIdeal [hWoDwIdeal : Cert.WoDwIdeal.Facts] : Prop :=
  ∀ (m : (ℓ : Loc Cert.WoDwIdeal.nD Cert.WoDwIdeal.τ Cert.WoDwIdeal.sig) → Buf (Elt Ideal) ℓ) (g : Dev Cert.WoDwIdeal.nD → PrngReg), Pre_WoDwIdeal m →
    θ_run (Cert.WoDwIdeal.defs (F := Ideal)) (onTc (τ := Cert.WoDwIdeal.τ) (Cert.WoDwIdeal.main (F := Ideal))) ⟨m, fun _ => 0, g⟩ (fun r => (∀ c : Dev Cert.WoDwIdeal.nD,
      r.2.mem ((c.tc : Thread Cert.WoDwIdeal.nD Cert.WoDwIdeal.τ).loc Cert.WoDwIdeal.main_arg0) = m ((c.tc : Thread Cert.WoDwIdeal.nD Cert.WoDwIdeal.τ).loc Cert.WoDwIdeal.main_arg0)
      ∧ r.2.mem ((c.tc : Thread Cert.WoDwIdeal.nD Cert.WoDwIdeal.τ).loc Cert.WoDwIdeal.main_arg1) = m ((c.tc : Thread Cert.WoDwIdeal.nD Cert.WoDwIdeal.τ).loc Cert.WoDwIdeal.main_arg1))
      ∧ r.2.sem = fun _ => 0)

def quiescent_WoDwRefIdeal [hWoDwRefIdeal : Cert.WoDwRefIdeal.Facts] : Prop :=
  ∀ (m : (ℓ : Loc Cert.WoDwRefIdeal.nD Cert.WoDwRefIdeal.τ Cert.WoDwRefIdeal.sig) → Buf (Elt Ideal) ℓ) (g : Dev Cert.WoDwRefIdeal.nD → PrngReg), Pre_WoDwRefIdeal m →
    θ_run (Cert.WoDwRefIdeal.defs (F := Ideal)) (onTc (τ := Cert.WoDwRefIdeal.τ) (Cert.WoDwRefIdeal.main (F := Ideal))) ⟨m, fun _ => 0, g⟩ (fun r => (∀ c : Dev Cert.WoDwRefIdeal.nD,
      r.2.mem ((c.tc : Thread Cert.WoDwRefIdeal.nD Cert.WoDwRefIdeal.τ).loc Cert.WoDwRefIdeal.main_arg0) = m ((c.tc : Thread Cert.WoDwRefIdeal.nD Cert.WoDwRefIdeal.τ).loc Cert.WoDwRefIdeal.main_arg0)
      ∧ r.2.mem ((c.tc : Thread Cert.WoDwRefIdeal.nD Cert.WoDwRefIdeal.τ).loc Cert.WoDwRefIdeal.main_arg1) = m ((c.tc : Thread Cert.WoDwRefIdeal.nD Cert.WoDwRefIdeal.τ).loc Cert.WoDwRefIdeal.main_arg1))
      ∧ r.2.sem = fun _ => 0)

def quiescent_WqDw [hWqDw : Cert.WqDw.Facts] : Prop :=
  ∀ (m : (ℓ : Loc Cert.WqDw.nD Cert.WqDw.τ Cert.WqDw.sig) → Buf (Elt Bits) ℓ) (g : Dev Cert.WqDw.nD → PrngReg), Pre_WqDw m →
    θ_run (Cert.WqDw.defs (F := Bits)) (onTc (τ := Cert.WqDw.τ) (Cert.WqDw.main (F := Bits))) ⟨m, fun _ => 0, g⟩ (fun r => (∀ c : Dev Cert.WqDw.nD,
      r.2.mem ((c.tc : Thread Cert.WqDw.nD Cert.WqDw.τ).loc Cert.WqDw.main_arg0) = m ((c.tc : Thread Cert.WqDw.nD Cert.WqDw.τ).loc Cert.WqDw.main_arg0)
      ∧ r.2.mem ((c.tc : Thread Cert.WqDw.nD Cert.WqDw.τ).loc Cert.WqDw.main_arg1) = m ((c.tc : Thread Cert.WqDw.nD Cert.WqDw.τ).loc Cert.WqDw.main_arg1))
      ∧ r.2.sem = fun _ => 0)

def quiescent_WqDwIdeal [hWqDwIdeal : Cert.WqDwIdeal.Facts] : Prop :=
  ∀ (m : (ℓ : Loc Cert.WqDwIdeal.nD Cert.WqDwIdeal.τ Cert.WqDwIdeal.sig) → Buf (Elt Ideal) ℓ) (g : Dev Cert.WqDwIdeal.nD → PrngReg), Pre_WqDwIdeal m →
    θ_run (Cert.WqDwIdeal.defs (F := Ideal)) (onTc (τ := Cert.WqDwIdeal.τ) (Cert.WqDwIdeal.main (F := Ideal))) ⟨m, fun _ => 0, g⟩ (fun r => (∀ c : Dev Cert.WqDwIdeal.nD,
      r.2.mem ((c.tc : Thread Cert.WqDwIdeal.nD Cert.WqDwIdeal.τ).loc Cert.WqDwIdeal.main_arg0) = m ((c.tc : Thread Cert.WqDwIdeal.nD Cert.WqDwIdeal.τ).loc Cert.WqDwIdeal.main_arg0)
      ∧ r.2.mem ((c.tc : Thread Cert.WqDwIdeal.nD Cert.WqDwIdeal.τ).loc Cert.WqDwIdeal.main_arg1) = m ((c.tc : Thread Cert.WqDwIdeal.nD Cert.WqDwIdeal.τ).loc Cert.WqDwIdeal.main_arg1))
      ∧ r.2.sem = fun _ => 0)

def quiescent_WqDwRefIdeal [hWqDwRefIdeal : Cert.WqDwRefIdeal.Facts] : Prop :=
  ∀ (m : (ℓ : Loc Cert.WqDwRefIdeal.nD Cert.WqDwRefIdeal.τ Cert.WqDwRefIdeal.sig) → Buf (Elt Ideal) ℓ) (g : Dev Cert.WqDwRefIdeal.nD → PrngReg), Pre_WqDwRefIdeal m →
    θ_run (Cert.WqDwRefIdeal.defs (F := Ideal)) (onTc (τ := Cert.WqDwRefIdeal.τ) (Cert.WqDwRefIdeal.main (F := Ideal))) ⟨m, fun _ => 0, g⟩ (fun r => (∀ c : Dev Cert.WqDwRefIdeal.nD,
      r.2.mem ((c.tc : Thread Cert.WqDwRefIdeal.nD Cert.WqDwRefIdeal.τ).loc Cert.WqDwRefIdeal.main_arg0) = m ((c.tc : Thread Cert.WqDwRefIdeal.nD Cert.WqDwRefIdeal.τ).loc Cert.WqDwRefIdeal.main_arg0)
      ∧ r.2.mem ((c.tc : Thread Cert.WqDwRefIdeal.nD Cert.WqDwRefIdeal.τ).loc Cert.WqDwRefIdeal.main_arg1) = m ((c.tc : Thread Cert.WqDwRefIdeal.nD Cert.WqDwRefIdeal.τ).loc Cert.WqDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_WoDx [hWoDx : Cert.WoDx.Facts] : Prop :=
  ∀ (m : (ℓ : Loc Cert.WoDx.nD Cert.WoDx.τ Cert.WoDx.sig) → Buf (Elt Bits) ℓ) (g : Dev Cert.WoDx.nD → PrngReg), Pre_WoDx m →
    θ_run (Cert.WoDx.defs (F := Bits)) (onTc (τ := Cert.WoDx.τ) (Cert.WoDx.main (F := Bits))) ⟨m, fun _ => 0, g⟩ (fun r => (∀ c : Dev Cert.WoDx.nD,
      r.2.mem ((c.tc : Thread Cert.WoDx.nD Cert.WoDx.τ).loc Cert.WoDx.main_arg0) = m ((c.tc : Thread Cert.WoDx.nD Cert.WoDx.τ).loc Cert.WoDx.main_arg0)
      ∧ r.2.mem ((c.tc : Thread Cert.WoDx.nD Cert.WoDx.τ).loc Cert.WoDx.main_arg1) = m ((c.tc : Thread Cert.WoDx.nD Cert.WoDx.τ).loc Cert.WoDx.main_arg1))
      ∧ r.2.sem = fun _ => 0)

def quiescent_WoDxIdeal [hWoDxIdeal : Cert.WoDxIdeal.Facts] : Prop :=
  ∀ (m : (ℓ : Loc Cert.WoDxIdeal.nD Cert.WoDxIdeal.τ Cert.WoDxIdeal.sig) → Buf (Elt Ideal) ℓ) (g : Dev Cert.WoDxIdeal.nD → PrngReg), Pre_WoDxIdeal m →
    θ_run (Cert.WoDxIdeal.defs (F := Ideal)) (onTc (τ := Cert.WoDxIdeal.τ) (Cert.WoDxIdeal.main (F := Ideal))) ⟨m, fun _ => 0, g⟩ (fun r => (∀ c : Dev Cert.WoDxIdeal.nD,
      r.2.mem ((c.tc : Thread Cert.WoDxIdeal.nD Cert.WoDxIdeal.τ).loc Cert.WoDxIdeal.main_arg0) = m ((c.tc : Thread Cert.WoDxIdeal.nD Cert.WoDxIdeal.τ).loc Cert.WoDxIdeal.main_arg0)
      ∧ r.2.mem ((c.tc : Thread Cert.WoDxIdeal.nD Cert.WoDxIdeal.τ).loc Cert.WoDxIdeal.main_arg1) = m ((c.tc : Thread Cert.WoDxIdeal.nD Cert.WoDxIdeal.τ).loc Cert.WoDxIdeal.main_arg1))
      ∧ r.2.sem = fun _ => 0)

def quiescent_WoDxRefIdeal [hWoDxRefIdeal : Cert.WoDxRefIdeal.Facts] : Prop :=
  ∀ (m : (ℓ : Loc Cert.WoDxRefIdeal.nD Cert.WoDxRefIdeal.τ Cert.WoDxRefIdeal.sig) → Buf (Elt Ideal) ℓ) (g : Dev Cert.WoDxRefIdeal.nD → PrngReg), Pre_WoDxRefIdeal m →
    θ_run (Cert.WoDxRefIdeal.defs (F := Ideal)) (onTc (τ := Cert.WoDxRefIdeal.τ) (Cert.WoDxRefIdeal.main (F := Ideal))) ⟨m, fun _ => 0, g⟩ (fun r => (∀ c : Dev Cert.WoDxRefIdeal.nD,
      r.2.mem ((c.tc : Thread Cert.WoDxRefIdeal.nD Cert.WoDxRefIdeal.τ).loc Cert.WoDxRefIdeal.main_arg0) = m ((c.tc : Thread Cert.WoDxRefIdeal.nD Cert.WoDxRefIdeal.τ).loc Cert.WoDxRefIdeal.main_arg0)
      ∧ r.2.mem ((c.tc : Thread Cert.WoDxRefIdeal.nD Cert.WoDxRefIdeal.τ).loc Cert.WoDxRefIdeal.main_arg1) = m ((c.tc : Thread Cert.WoDxRefIdeal.nD Cert.WoDxRefIdeal.τ).loc Cert.WoDxRefIdeal.main_arg1))
      ∧ r.2.sem = fun _ => 0)

def quiescent_WqDx [hWqDx : Cert.WqDx.Facts] : Prop :=
  ∀ (m : (ℓ : Loc Cert.WqDx.nD Cert.WqDx.τ Cert.WqDx.sig) → Buf (Elt Bits) ℓ) (g : Dev Cert.WqDx.nD → PrngReg), Pre_WqDx m →
    θ_run (Cert.WqDx.defs (F := Bits)) (onTc (τ := Cert.WqDx.τ) (Cert.WqDx.main (F := Bits))) ⟨m, fun _ => 0, g⟩ (fun r => (∀ c : Dev Cert.WqDx.nD,
      r.2.mem ((c.tc : Thread Cert.WqDx.nD Cert.WqDx.τ).loc Cert.WqDx.main_arg0) = m ((c.tc : Thread Cert.WqDx.nD Cert.WqDx.τ).loc Cert.WqDx.main_arg0)
      ∧ r.2.mem ((c.tc : Thread Cert.WqDx.nD Cert.WqDx.τ).loc Cert.WqDx.main_arg1) = m ((c.tc : Thread Cert.WqDx.nD Cert.WqDx.τ).loc Cert.WqDx.main_arg1)
      ∧ r.2.mem ((c.tc : Thread Cert.WqDx.nD Cert.WqDx.τ).loc Cert.WqDx.main_arg2) = m ((c.tc : Thread Cert.WqDx.nD Cert.WqDx.τ).loc Cert.WqDx.main_arg2)
      ∧ r.2.mem ((c.tc : Thread Cert.WqDx.nD Cert.WqDx.τ).loc Cert.WqDx.main_arg3) = m ((c.tc : Thread Cert.WqDx.nD Cert.WqDx.τ).loc Cert.WqDx.main_arg3)
      ∧ r.2.mem ((c.tc : Thread Cert.WqDx.nD Cert.WqDx.τ).loc Cert.WqDx.main_arg4) = m ((c.tc : Thread Cert.WqDx.nD Cert.WqDx.τ).loc Cert.WqDx.main_arg4))
      ∧ r.2.sem = fun _ => 0)

def quiescent_WqDxIdeal [hWqDxIdeal : Cert.WqDxIdeal.Facts] : Prop :=
  ∀ (m : (ℓ : Loc Cert.WqDxIdeal.nD Cert.WqDxIdeal.τ Cert.WqDxIdeal.sig) → Buf (Elt Ideal) ℓ) (g : Dev Cert.WqDxIdeal.nD → PrngReg), Pre_WqDxIdeal m →
    θ_run (Cert.WqDxIdeal.defs (F := Ideal)) (onTc (τ := Cert.WqDxIdeal.τ) (Cert.WqDxIdeal.main (F := Ideal))) ⟨m, fun _ => 0, g⟩ (fun r => (∀ c : Dev Cert.WqDxIdeal.nD,
      r.2.mem ((c.tc : Thread Cert.WqDxIdeal.nD Cert.WqDxIdeal.τ).loc Cert.WqDxIdeal.main_arg0) = m ((c.tc : Thread Cert.WqDxIdeal.nD Cert.WqDxIdeal.τ).loc Cert.WqDxIdeal.main_arg0)
      ∧ r.2.mem ((c.tc : Thread Cert.WqDxIdeal.nD Cert.WqDxIdeal.τ).loc Cert.WqDxIdeal.main_arg1) = m ((c.tc : Thread Cert.WqDxIdeal.nD Cert.WqDxIdeal.τ).loc Cert.WqDxIdeal.main_arg1)
      ∧ r.2.mem ((c.tc : Thread Cert.WqDxIdeal.nD Cert.WqDxIdeal.τ).loc Cert.WqDxIdeal.main_arg2) = m ((c.tc : Thread Cert.WqDxIdeal.nD Cert.WqDxIdeal.τ).loc Cert.WqDxIdeal.main_arg2)
      ∧ r.2.mem ((c.tc : Thread Cert.WqDxIdeal.nD Cert.WqDxIdeal.τ).loc Cert.WqDxIdeal.main_arg3) = m ((c.tc : Thread Cert.WqDxIdeal.nD Cert.WqDxIdeal.τ).loc Cert.WqDxIdeal.main_arg3)
      ∧ r.2.mem ((c.tc : Thread Cert.WqDxIdeal.nD Cert.WqDxIdeal.τ).loc Cert.WqDxIdeal.main_arg4) = m ((c.tc : Thread Cert.WqDxIdeal.nD Cert.WqDxIdeal.τ).loc Cert.WqDxIdeal.main_arg4))
      ∧ r.2.sem = fun _ => 0)

def quiescent_WqDxRefIdeal [hWqDxRefIdeal : Cert.WqDxRefIdeal.Facts] : Prop :=
  ∀ (m : (ℓ : Loc Cert.WqDxRefIdeal.nD Cert.WqDxRefIdeal.τ Cert.WqDxRefIdeal.sig) → Buf (Elt Ideal) ℓ) (g : Dev Cert.WqDxRefIdeal.nD → PrngReg), Pre_WqDxRefIdeal m →
    θ_run (Cert.WqDxRefIdeal.defs (F := Ideal)) (onTc (τ := Cert.WqDxRefIdeal.τ) (Cert.WqDxRefIdeal.main (F := Ideal))) ⟨m, fun _ => 0, g⟩ (fun r => (∀ c : Dev Cert.WqDxRefIdeal.nD,
      r.2.mem ((c.tc : Thread Cert.WqDxRefIdeal.nD Cert.WqDxRefIdeal.τ).loc Cert.WqDxRefIdeal.main_arg0) = m ((c.tc : Thread Cert.WqDxRefIdeal.nD Cert.WqDxRefIdeal.τ).loc Cert.WqDxRefIdeal.main_arg0)
      ∧ r.2.mem ((c.tc : Thread Cert.WqDxRefIdeal.nD Cert.WqDxRefIdeal.τ).loc Cert.WqDxRefIdeal.main_arg1) = m ((c.tc : Thread Cert.WqDxRefIdeal.nD Cert.WqDxRefIdeal.τ).loc Cert.WqDxRefIdeal.main_arg1)
      ∧ r.2.mem ((c.tc : Thread Cert.WqDxRefIdeal.nD Cert.WqDxRefIdeal.τ).loc Cert.WqDxRefIdeal.main_arg2) = m ((c.tc : Thread Cert.WqDxRefIdeal.nD Cert.WqDxRefIdeal.τ).loc Cert.WqDxRefIdeal.main_arg2)
      ∧ r.2.mem ((c.tc : Thread Cert.WqDxRefIdeal.nD Cert.WqDxRefIdeal.τ).loc Cert.WqDxRefIdeal.main_arg3) = m ((c.tc : Thread Cert.WqDxRefIdeal.nD Cert.WqDxRefIdeal.τ).loc Cert.WqDxRefIdeal.main_arg3)
      ∧ r.2.mem ((c.tc : Thread Cert.WqDxRefIdeal.nD Cert.WqDxRefIdeal.τ).loc Cert.WqDxRefIdeal.main_arg4) = m ((c.tc : Thread Cert.WqDxRefIdeal.nD Cert.WqDxRefIdeal.τ).loc Cert.WqDxRefIdeal.main_arg4))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Wq [hWq : Cert.Wq.Facts] : Prop :=
  ∀ (m : (ℓ : Loc Cert.Wq.nD Cert.Wq.τ Cert.Wq.sig) → Buf (Elt Bits) ℓ) (g : Dev Cert.Wq.nD → PrngReg), Pre_Wq m →
    θ_run (Cert.Wq.defs (F := Bits)) (onTc (τ := Cert.Wq.τ) (Cert.Wq.main (F := Bits))) ⟨m, fun _ => 0, g⟩ (fun r => (∀ c : Dev Cert.Wq.nD,
      r.2.mem ((c.tc : Thread Cert.Wq.nD Cert.Wq.τ).loc Cert.Wq.main_arg0) = m ((c.tc : Thread Cert.Wq.nD Cert.Wq.τ).loc Cert.Wq.main_arg0)
      ∧ r.2.mem ((c.tc : Thread Cert.Wq.nD Cert.Wq.τ).loc Cert.Wq.main_arg1) = m ((c.tc : Thread Cert.Wq.nD Cert.Wq.τ).loc Cert.Wq.main_arg1))
      ∧ r.2.sem = fun _ => 0)

def quiescent_WqIdeal [hWqIdeal : Cert.WqIdeal.Facts] : Prop :=
  ∀ (m : (ℓ : Loc Cert.WqIdeal.nD Cert.WqIdeal.τ Cert.WqIdeal.sig) → Buf (Elt Ideal) ℓ) (g : Dev Cert.WqIdeal.nD → PrngReg), Pre_WqIdeal m →
    θ_run (Cert.WqIdeal.defs (F := Ideal)) (onTc (τ := Cert.WqIdeal.τ) (Cert.WqIdeal.main (F := Ideal))) ⟨m, fun _ => 0, g⟩ (fun r => (∀ c : Dev Cert.WqIdeal.nD,
      r.2.mem ((c.tc : Thread Cert.WqIdeal.nD Cert.WqIdeal.τ).loc Cert.WqIdeal.main_arg0) = m ((c.tc : Thread Cert.WqIdeal.nD Cert.WqIdeal.τ).loc Cert.WqIdeal.main_arg0)
      ∧ r.2.mem ((c.tc : Thread Cert.WqIdeal.nD Cert.WqIdeal.τ).loc Cert.WqIdeal.main_arg1) = m ((c.tc : Thread Cert.WqIdeal.nD Cert.WqIdeal.τ).loc Cert.WqIdeal.main_arg1))
      ∧ r.2.sem = fun _ => 0)

def quiescent_WqRefIdeal [hWqRefIdeal : Cert.WqRefIdeal.Facts] : Prop :=
  ∀ (m : (ℓ : Loc Cert.WqRefIdeal.nD Cert.WqRefIdeal.τ Cert.WqRefIdeal.sig) → Buf (Elt Ideal) ℓ) (g : Dev Cert.WqRefIdeal.nD → PrngReg), Pre_WqRefIdeal m →
    θ_run (Cert.WqRefIdeal.defs (F := Ideal)) (onTc (τ := Cert.WqRefIdeal.τ) (Cert.WqRefIdeal.main (F := Ideal))) ⟨m, fun _ => 0, g⟩ (fun r => (∀ c : Dev Cert.WqRefIdeal.nD,
      r.2.mem ((c.tc : Thread Cert.WqRefIdeal.nD Cert.WqRefIdeal.τ).loc Cert.WqRefIdeal.main_arg0) = m ((c.tc : Thread Cert.WqRefIdeal.nD Cert.WqRefIdeal.τ).loc Cert.WqRefIdeal.main_arg0)
      ∧ r.2.mem ((c.tc : Thread Cert.WqRefIdeal.nD Cert.WqRefIdeal.τ).loc Cert.WqRefIdeal.main_arg1) = m ((c.tc : Thread Cert.WqRefIdeal.nD Cert.WqRefIdeal.τ).loc Cert.WqRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1)
      ∧ r.2.mem ((c.tc : Thread Cert.Wo.nD Cert.Wo.τ).loc Cert.Wo.main_arg2) = m ((c.tc : Thread Cert.Wo.nD Cert.Wo.τ).loc Cert.Wo.main_arg2)
      ∧ r.2.mem ((c.tc : Thread Cert.Wo.nD Cert.Wo.τ).loc Cert.Wo.main_arg3) = m ((c.tc : Thread Cert.Wo.nD Cert.Wo.τ).loc Cert.Wo.main_arg3))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
      ∧ r.2.mem ((c.tc : Thread Cert.WoIdeal.nD Cert.WoIdeal.τ).loc Cert.WoIdeal.main_arg3) = m ((c.tc : Thread Cert.WoIdeal.nD Cert.WoIdeal.τ).loc Cert.WoIdeal.main_arg3))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2)
      ∧ r.2.mem ((c.tc : Thread Cert.WoRefIdeal.nD Cert.WoRefIdeal.τ).loc Cert.WoRefIdeal.main_arg3) = m ((c.tc : Thread Cert.WoRefIdeal.nD Cert.WoRefIdeal.τ).loc Cert.WoRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_GdnPost [hGdnPost : Cert.GdnPost.Facts] : Prop :=
  ∀ (m : (ℓ : Loc Cert.GdnPost.nD Cert.GdnPost.τ Cert.GdnPost.sig) → Buf (Elt Bits) ℓ) (g : Dev Cert.GdnPost.nD → PrngReg), Pre_GdnPost m →
    θ_run (Cert.GdnPost.defs (F := Bits)) (onTc (τ := Cert.GdnPost.τ) (Cert.GdnPost.main (F := Bits))) ⟨m, fun _ => 0, g⟩ (fun r => (∀ c : Dev Cert.GdnPost.nD,
      r.2.mem ((c.tc : Thread Cert.GdnPost.nD Cert.GdnPost.τ).loc Cert.GdnPost.main_arg0) = m ((c.tc : Thread Cert.GdnPost.nD Cert.GdnPost.τ).loc Cert.GdnPost.main_arg0)
      ∧ r.2.mem ((c.tc : Thread Cert.GdnPost.nD Cert.GdnPost.τ).loc Cert.GdnPost.main_arg1) = m ((c.tc : Thread Cert.GdnPost.nD Cert.GdnPost.τ).loc Cert.GdnPost.main_arg1)
      ∧ r.2.mem ((c.tc : Thread Cert.GdnPost.nD Cert.GdnPost.τ).loc Cert.GdnPost.main_arg2) = m ((c.tc : Thread Cert.GdnPost.nD Cert.GdnPost.τ).loc Cert.GdnPost.main_arg2)
      ∧ r.2.mem ((c.tc : Thread Cert.GdnPost.nD Cert.GdnPost.τ).loc Cert.GdnPost.main_arg3) = m ((c.tc : Thread Cert.GdnPost.nD Cert.GdnPost.τ).loc Cert.GdnPost.main_arg3)
      ∧ r.2.mem ((c.tc : Thread Cert.GdnPost.nD Cert.GdnPost.τ).loc Cert.GdnPost.main_arg4) = m ((c.tc : Thread Cert.GdnPost.nD Cert.GdnPost.τ).loc Cert.GdnPost.main_arg4))
      ∧ r.2.sem = fun _ => 0)

def quiescent_GdnPostIdeal [hGdnPostIdeal : Cert.GdnPostIdeal.Facts] : Prop :=
  ∀ (m : (ℓ : Loc Cert.GdnPostIdeal.nD Cert.GdnPostIdeal.τ Cert.GdnPostIdeal.sig) → Buf (Elt Ideal) ℓ) (g : Dev Cert.GdnPostIdeal.nD → PrngReg), Pre_GdnPostIdeal m →
    θ_run (Cert.GdnPostIdeal.defs (F := Ideal)) (onTc (τ := Cert.GdnPostIdeal.τ) (Cert.GdnPostIdeal.main (F := Ideal))) ⟨m, fun _ => 0, g⟩ (fun r => (∀ c : Dev Cert.GdnPostIdeal.nD,
      r.2.mem ((c.tc : Thread Cert.GdnPostIdeal.nD Cert.GdnPostIdeal.τ).loc Cert.GdnPostIdeal.main_arg0) = m ((c.tc : Thread Cert.GdnPostIdeal.nD Cert.GdnPostIdeal.τ).loc Cert.GdnPostIdeal.main_arg0)
      ∧ r.2.mem ((c.tc : Thread Cert.GdnPostIdeal.nD Cert.GdnPostIdeal.τ).loc Cert.GdnPostIdeal.main_arg1) = m ((c.tc : Thread Cert.GdnPostIdeal.nD Cert.GdnPostIdeal.τ).loc Cert.GdnPostIdeal.main_arg1)
      ∧ r.2.mem ((c.tc : Thread Cert.GdnPostIdeal.nD Cert.GdnPostIdeal.τ).loc Cert.GdnPostIdeal.main_arg2) = m ((c.tc : Thread Cert.GdnPostIdeal.nD Cert.GdnPostIdeal.τ).loc Cert.GdnPostIdeal.main_arg2)
      ∧ r.2.mem ((c.tc : Thread Cert.GdnPostIdeal.nD Cert.GdnPostIdeal.τ).loc Cert.GdnPostIdeal.main_arg3) = m ((c.tc : Thread Cert.GdnPostIdeal.nD Cert.GdnPostIdeal.τ).loc Cert.GdnPostIdeal.main_arg3)
      ∧ r.2.mem ((c.tc : Thread Cert.GdnPostIdeal.nD Cert.GdnPostIdeal.τ).loc Cert.GdnPostIdeal.main_arg4) = m ((c.tc : Thread Cert.GdnPostIdeal.nD Cert.GdnPostIdeal.τ).loc Cert.GdnPostIdeal.main_arg4))
      ∧ r.2.sem = fun _ => 0)

def quiescent_GdnPostRefIdeal [hGdnPostRefIdeal : Cert.GdnPostRefIdeal.Facts] : Prop :=
  ∀ (m : (ℓ : Loc Cert.GdnPostRefIdeal.nD Cert.GdnPostRefIdeal.τ Cert.GdnPostRefIdeal.sig) → Buf (Elt Ideal) ℓ) (g : Dev Cert.GdnPostRefIdeal.nD → PrngReg), Pre_GdnPostRefIdeal m →
    θ_run (Cert.GdnPostRefIdeal.defs (F := Ideal)) (onTc (τ := Cert.GdnPostRefIdeal.τ) (Cert.GdnPostRefIdeal.main (F := Ideal))) ⟨m, fun _ => 0, g⟩ (fun r => (∀ c : Dev Cert.GdnPostRefIdeal.nD,
      r.2.mem ((c.tc : Thread Cert.GdnPostRefIdeal.nD Cert.GdnPostRefIdeal.τ).loc Cert.GdnPostRefIdeal.main_arg0) = m ((c.tc : Thread Cert.GdnPostRefIdeal.nD Cert.GdnPostRefIdeal.τ).loc Cert.GdnPostRefIdeal.main_arg0)
      ∧ r.2.mem ((c.tc : Thread Cert.GdnPostRefIdeal.nD Cert.GdnPostRefIdeal.τ).loc Cert.GdnPostRefIdeal.main_arg1) = m ((c.tc : Thread Cert.GdnPostRefIdeal.nD Cert.GdnPostRefIdeal.τ).loc Cert.GdnPostRefIdeal.main_arg1)
      ∧ r.2.mem ((c.tc : Thread Cert.GdnPostRefIdeal.nD Cert.GdnPostRefIdeal.τ).loc Cert.GdnPostRefIdeal.main_arg2) = m ((c.tc : Thread Cert.GdnPostRefIdeal.nD Cert.GdnPostRefIdeal.τ).loc Cert.GdnPostRefIdeal.main_arg2)
      ∧ r.2.mem ((c.tc : Thread Cert.GdnPostRefIdeal.nD Cert.GdnPostRefIdeal.τ).loc Cert.GdnPostRefIdeal.main_arg3) = m ((c.tc : Thread Cert.GdnPostRefIdeal.nD Cert.GdnPostRefIdeal.τ).loc Cert.GdnPostRefIdeal.main_arg3)
      ∧ r.2.mem ((c.tc : Thread Cert.GdnPostRefIdeal.nD Cert.GdnPostRefIdeal.τ).loc Cert.GdnPostRefIdeal.main_arg4) = m ((c.tc : Thread Cert.GdnPostRefIdeal.nD Cert.GdnPostRefIdeal.τ).loc Cert.GdnPostRefIdeal.main_arg4))
      ∧ r.2.sem = fun _ => 0)

def quiescent_SsdPost [hSsdPost : Cert.SsdPost.Facts] : Prop :=
  ∀ (m : (ℓ : Loc Cert.SsdPost.nD Cert.SsdPost.τ Cert.SsdPost.sig) → Buf (Elt Bits) ℓ) (g : Dev Cert.SsdPost.nD → PrngReg), Pre_SsdPost m →
    θ_run (Cert.SsdPost.defs (F := Bits)) (onTc (τ := Cert.SsdPost.τ) (Cert.SsdPost.main (F := Bits))) ⟨m, fun _ => 0, g⟩ (fun r => (∀ c : Dev Cert.SsdPost.nD,
      r.2.mem ((c.tc : Thread Cert.SsdPost.nD Cert.SsdPost.τ).loc Cert.SsdPost.main_arg0) = m ((c.tc : Thread Cert.SsdPost.nD Cert.SsdPost.τ).loc Cert.SsdPost.main_arg0)
      ∧ r.2.mem ((c.tc : Thread Cert.SsdPost.nD Cert.SsdPost.τ).loc Cert.SsdPost.main_arg1) = m ((c.tc : Thread Cert.SsdPost.nD Cert.SsdPost.τ).loc Cert.SsdPost.main_arg1)
      ∧ r.2.mem ((c.tc : Thread Cert.SsdPost.nD Cert.SsdPost.τ).loc Cert.SsdPost.main_arg2) = m ((c.tc : Thread Cert.SsdPost.nD Cert.SsdPost.τ).loc Cert.SsdPost.main_arg2)
      ∧ r.2.mem ((c.tc : Thread Cert.SsdPost.nD Cert.SsdPost.τ).loc Cert.SsdPost.main_arg3) = m ((c.tc : Thread Cert.SsdPost.nD Cert.SsdPost.τ).loc Cert.SsdPost.main_arg3)
      ∧ r.2.mem ((c.tc : Thread Cert.SsdPost.nD Cert.SsdPost.τ).loc Cert.SsdPost.main_arg4) = m ((c.tc : Thread Cert.SsdPost.nD Cert.SsdPost.τ).loc Cert.SsdPost.main_arg4)
      ∧ r.2.mem ((c.tc : Thread Cert.SsdPost.nD Cert.SsdPost.τ).loc Cert.SsdPost.main_arg5) = m ((c.tc : Thread Cert.SsdPost.nD Cert.SsdPost.τ).loc Cert.SsdPost.main_arg5)
      ∧ r.2.mem ((c.tc : Thread Cert.SsdPost.nD Cert.SsdPost.τ).loc Cert.SsdPost.main_arg6) = m ((c.tc : Thread Cert.SsdPost.nD Cert.SsdPost.τ).loc Cert.SsdPost.main_arg6)
      ∧ r.2.mem ((c.tc : Thread Cert.SsdPost.nD Cert.SsdPost.τ).loc Cert.SsdPost.main_arg7) = m ((c.tc : Thread Cert.SsdPost.nD Cert.SsdPost.τ).loc Cert.SsdPost.main_arg7))
      ∧ r.2.sem = fun _ => 0)

def quiescent_SsdPostIdeal [hSsdPostIdeal : Cert.SsdPostIdeal.Facts] : Prop :=
  ∀ (m : (ℓ : Loc Cert.SsdPostIdeal.nD Cert.SsdPostIdeal.τ Cert.SsdPostIdeal.sig) → Buf (Elt Ideal) ℓ) (g : Dev Cert.SsdPostIdeal.nD → PrngReg), Pre_SsdPostIdeal m →
    θ_run (Cert.SsdPostIdeal.defs (F := Ideal)) (onTc (τ := Cert.SsdPostIdeal.τ) (Cert.SsdPostIdeal.main (F := Ideal))) ⟨m, fun _ => 0, g⟩ (fun r => (∀ c : Dev Cert.SsdPostIdeal.nD,
      r.2.mem ((c.tc : Thread Cert.SsdPostIdeal.nD Cert.SsdPostIdeal.τ).loc Cert.SsdPostIdeal.main_arg0) = m ((c.tc : Thread Cert.SsdPostIdeal.nD Cert.SsdPostIdeal.τ).loc Cert.SsdPostIdeal.main_arg0)
      ∧ r.2.mem ((c.tc : Thread Cert.SsdPostIdeal.nD Cert.SsdPostIdeal.τ).loc Cert.SsdPostIdeal.main_arg1) = m ((c.tc : Thread Cert.SsdPostIdeal.nD Cert.SsdPostIdeal.τ).loc Cert.SsdPostIdeal.main_arg1)
      ∧ r.2.mem ((c.tc : Thread Cert.SsdPostIdeal.nD Cert.SsdPostIdeal.τ).loc Cert.SsdPostIdeal.main_arg2) = m ((c.tc : Thread Cert.SsdPostIdeal.nD Cert.SsdPostIdeal.τ).loc Cert.SsdPostIdeal.main_arg2)
      ∧ r.2.mem ((c.tc : Thread Cert.SsdPostIdeal.nD Cert.SsdPostIdeal.τ).loc Cert.SsdPostIdeal.main_arg3) = m ((c.tc : Thread Cert.SsdPostIdeal.nD Cert.SsdPostIdeal.τ).loc Cert.SsdPostIdeal.main_arg3)
      ∧ r.2.mem ((c.tc : Thread Cert.SsdPostIdeal.nD Cert.SsdPostIdeal.τ).loc Cert.SsdPostIdeal.main_arg4) = m ((c.tc : Thread Cert.SsdPostIdeal.nD Cert.SsdPostIdeal.τ).loc Cert.SsdPostIdeal.main_arg4)
      ∧ r.2.mem ((c.tc : Thread Cert.SsdPostIdeal.nD Cert.SsdPostIdeal.τ).loc Cert.SsdPostIdeal.main_arg5) = m ((c.tc : Thread Cert.SsdPostIdeal.nD Cert.SsdPostIdeal.τ).loc Cert.SsdPostIdeal.main_arg5)
      ∧ r.2.mem ((c.tc : Thread Cert.SsdPostIdeal.nD Cert.SsdPostIdeal.τ).loc Cert.SsdPostIdeal.main_arg6) = m ((c.tc : Thread Cert.SsdPostIdeal.nD Cert.SsdPostIdeal.τ).loc Cert.SsdPostIdeal.main_arg6)
      ∧ r.2.mem ((c.tc : Thread Cert.SsdPostIdeal.nD Cert.SsdPostIdeal.τ).loc Cert.SsdPostIdeal.main_arg7) = m ((c.tc : Thread Cert.SsdPostIdeal.nD Cert.SsdPostIdeal.τ).loc Cert.SsdPostIdeal.main_arg7))
      ∧ r.2.sem = fun _ => 0)

def quiescent_SsdPostRefIdeal [hSsdPostRefIdeal : Cert.SsdPostRefIdeal.Facts] : Prop :=
  ∀ (m : (ℓ : Loc Cert.SsdPostRefIdeal.nD Cert.SsdPostRefIdeal.τ Cert.SsdPostRefIdeal.sig) → Buf (Elt Ideal) ℓ) (g : Dev Cert.SsdPostRefIdeal.nD → PrngReg), Pre_SsdPostRefIdeal m →
    θ_run (Cert.SsdPostRefIdeal.defs (F := Ideal)) (onTc (τ := Cert.SsdPostRefIdeal.τ) (Cert.SsdPostRefIdeal.main (F := Ideal))) ⟨m, fun _ => 0, g⟩ (fun r => (∀ c : Dev Cert.SsdPostRefIdeal.nD,
      r.2.mem ((c.tc : Thread Cert.SsdPostRefIdeal.nD Cert.SsdPostRefIdeal.τ).loc Cert.SsdPostRefIdeal.main_arg0) = m ((c.tc : Thread Cert.SsdPostRefIdeal.nD Cert.SsdPostRefIdeal.τ).loc Cert.SsdPostRefIdeal.main_arg0)
      ∧ r.2.mem ((c.tc : Thread Cert.SsdPostRefIdeal.nD Cert.SsdPostRefIdeal.τ).loc Cert.SsdPostRefIdeal.main_arg1) = m ((c.tc : Thread Cert.SsdPostRefIdeal.nD Cert.SsdPostRefIdeal.τ).loc Cert.SsdPostRefIdeal.main_arg1)
      ∧ r.2.mem ((c.tc : Thread Cert.SsdPostRefIdeal.nD Cert.SsdPostRefIdeal.τ).loc Cert.SsdPostRefIdeal.main_arg2) = m ((c.tc : Thread Cert.SsdPostRefIdeal.nD Cert.SsdPostRefIdeal.τ).loc Cert.SsdPostRefIdeal.main_arg2)
      ∧ r.2.mem ((c.tc : Thread Cert.SsdPostRefIdeal.nD Cert.SsdPostRefIdeal.τ).loc Cert.SsdPostRefIdeal.main_arg3) = m ((c.tc : Thread Cert.SsdPostRefIdeal.nD Cert.SsdPostRefIdeal.τ).loc Cert.SsdPostRefIdeal.main_arg3)
      ∧ r.2.mem ((c.tc : Thread Cert.SsdPostRefIdeal.nD Cert.SsdPostRefIdeal.τ).loc Cert.SsdPostRefIdeal.main_arg4) = m ((c.tc : Thread Cert.SsdPostRefIdeal.nD Cert.SsdPostRefIdeal.τ).loc Cert.SsdPostRefIdeal.main_arg4)
      ∧ r.2.mem ((c.tc : Thread Cert.SsdPostRefIdeal.nD Cert.SsdPostRefIdeal.τ).loc Cert.SsdPostRefIdeal.main_arg5) = m ((c.tc : Thread Cert.SsdPostRefIdeal.nD Cert.SsdPostRefIdeal.τ).loc Cert.SsdPostRefIdeal.main_arg5)
      ∧ r.2.mem ((c.tc : Thread Cert.SsdPostRefIdeal.nD Cert.SsdPostRefIdeal.τ).loc Cert.SsdPostRefIdeal.main_arg6) = m ((c.tc : Thread Cert.SsdPostRefIdeal.nD Cert.SsdPostRefIdeal.τ).loc Cert.SsdPostRefIdeal.main_arg6)
      ∧ r.2.mem ((c.tc : Thread Cert.SsdPostRefIdeal.nD Cert.SsdPostRefIdeal.τ).loc Cert.SsdPostRefIdeal.main_arg7) = m ((c.tc : Thread Cert.SsdPostRefIdeal.nD Cert.SsdPostRefIdeal.τ).loc Cert.SsdPostRefIdeal.main_arg7))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamMem [hAdamMem : Cert.AdamMem.Facts] : Prop :=
  ∀ (m : (ℓ : Loc Cert.AdamMem.nD Cert.AdamMem.τ Cert.AdamMem.sig) → Buf (Elt Bits) ℓ) (g : Dev Cert.AdamMem.nD → PrngReg), Pre_AdamMem m →
    θ_run (Cert.AdamMem.defs (F := Bits)) (onTc (τ := Cert.AdamMem.τ) (Cert.AdamMem.main (F := Bits))) ⟨m, fun _ => 0, g⟩ (fun r => (∀ c : Dev Cert.AdamMem.nD,
      r.2.mem ((c.tc : Thread Cert.AdamMem.nD Cert.AdamMem.τ).loc Cert.AdamMem.main_arg0) = m ((c.tc : Thread Cert.AdamMem.nD Cert.AdamMem.τ).loc Cert.AdamMem.main_arg0)
      ∧ r.2.mem ((c.tc : Thread Cert.AdamMem.nD Cert.AdamMem.τ).loc Cert.AdamMem.main_arg1) = m ((c.tc : Thread Cert.AdamMem.nD Cert.AdamMem.τ).loc Cert.AdamMem.main_arg1)
      ∧ r.2.mem ((c.tc : Thread Cert.AdamMem.nD Cert.AdamMem.τ).loc Cert.AdamMem.main_arg2) = m ((c.tc : Thread Cert.AdamMem.nD Cert.AdamMem.τ).loc Cert.AdamMem.main_arg2)
      ∧ r.2.mem ((c.tc : Thread Cert.AdamMem.nD Cert.AdamMem.τ).loc Cert.AdamMem.main_arg3) = m ((c.tc : Thread Cert.AdamMem.nD Cert.AdamMem.τ).loc Cert.AdamMem.main_arg3))
      ∧ r.2.sem = fun _ => 0)

def quiescent_AdamMemIdeal [hAdamMemIdeal : Cert.AdamMemIdeal.Facts] : Prop :=
  ∀ (m : (ℓ : Loc Cert.AdamMemIdeal.nD Cert.AdamMemIdeal.τ Cert.AdamMemIdeal.sig) → Buf (Elt Ideal) ℓ) (g : Dev Cert.AdamMemIdeal.nD → PrngReg), Pre_AdamMemIdeal m →
    θ_run (Cert.AdamMemIdeal.defs (F := Ideal)) (onTc (τ := Cert.AdamMemIdeal.τ) (Cert.AdamMemIdeal.main (F := Ideal))) ⟨m, fun _ => 0, g⟩ (fun r => (∀ c : Dev Cert.AdamMemIdeal.nD,
      r.2.mem ((c.tc : Thread Cert.AdamMemIdeal.nD Cert.AdamMemIdeal.τ).loc Cert.AdamMemIdeal.main_arg0) = m ((c.tc : Thread Cert.AdamMemIdeal.nD Cert.AdamMemIdeal.τ).loc Cert.AdamMemIdeal.main_arg0)
      ∧ r.2.mem ((c.tc : Thread Cert.AdamMemIdeal.nD Cert.AdamMemIdeal.τ).loc Cert.AdamMemIdeal.main_arg1) = m ((c.tc : Thread Cert.AdamMemIdeal.nD Cert.AdamMemIdeal.τ).loc Cert.AdamMemIdeal.main_arg1)
      ∧ r.2.mem ((c.tc : Thread Cert.AdamMemIdeal.nD Cert.AdamMemIdeal.τ).loc Cert.AdamMemIdeal.main_arg2) = m ((c.tc : Thread Cert.AdamMemIdeal.nD Cert.AdamMemIdeal.τ).loc Cert.AdamMemIdeal.main_arg2)
      ∧ r.2.mem ((c.tc : Thread Cert.AdamMemIdeal.nD Cert.AdamMemIdeal.τ).loc Cert.AdamMemIdeal.main_arg3) = m ((c.tc : Thread Cert.AdamMemIdeal.nD Cert.AdamMemIdeal.τ).loc Cert.AdamMemIdeal.main_arg3))
      ∧ r.2.sem = fun _ => 0)

def quiescent_AdamMemRefIdeal [hAdamMemRefIdeal : Cert.AdamMemRefIdeal.Facts] : Prop :=
  ∀ (m : (ℓ : Loc Cert.AdamMemRefIdeal.nD Cert.AdamMemRefIdeal.τ Cert.AdamMemRefIdeal.sig) → Buf (Elt Ideal) ℓ) (g : Dev Cert.AdamMemRefIdeal.nD → PrngReg), Pre_AdamMemRefIdeal m →
    θ_run (Cert.AdamMemRefIdeal.defs (F := Ideal)) (onTc (τ := Cert.AdamMemRefIdeal.τ) (Cert.AdamMemRefIdeal.main (F := Ideal))) ⟨m, fun _ => 0, g⟩ (fun r => (∀ c : Dev Cert.AdamMemRefIdeal.nD,
      r.2.mem ((c.tc : Thread Cert.AdamMemRefIdeal.nD Cert.AdamMemRefIdeal.τ).loc Cert.AdamMemRefIdeal.main_arg0) = m ((c.tc : Thread Cert.AdamMemRefIdeal.nD Cert.AdamMemRefIdeal.τ).loc Cert.AdamMemRefIdeal.main_arg0)
      ∧ r.2.mem ((c.tc : Thread Cert.AdamMemRefIdeal.nD Cert.AdamMemRefIdeal.τ).loc Cert.AdamMemRefIdeal.main_arg1) = m ((c.tc : Thread Cert.AdamMemRefIdeal.nD Cert.AdamMemRefIdeal.τ).loc Cert.AdamMemRefIdeal.main_arg1)
      ∧ r.2.mem ((c.tc : Thread Cert.AdamMemRefIdeal.nD Cert.AdamMemRefIdeal.τ).loc Cert.AdamMemRefIdeal.main_arg2) = m ((c.tc : Thread Cert.AdamMemRefIdeal.nD Cert.AdamMemRefIdeal.τ).loc Cert.AdamMemRefIdeal.main_arg2)
      ∧ r.2.mem ((c.tc : Thread Cert.AdamMemRefIdeal.nD Cert.AdamMemRefIdeal.τ).loc Cert.AdamMemRefIdeal.main_arg3) = m ((c.tc : Thread Cert.AdamMemRefIdeal.nD Cert.AdamMemRefIdeal.τ).loc Cert.AdamMemRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ r.2.sem = fun _ => 0)

def quiescent_AdamHeadRefIdeal [hAdamHeadRefIdeal : Cert.AdamHeadRefIdeal.Facts] : Prop :=
  ∀ (m : (ℓ : Loc Cert.AdamHeadRefIdeal.nD Cert.AdamHeadRefIdeal.τ Cert.AdamHeadRefIdeal.sig) → Buf (Elt Ideal) ℓ) (g : Dev Cert.AdamHeadRefIdeal.nD → PrngReg), Pre_AdamHeadRefIdeal m →
    θ_run (Cert.AdamHeadRefIdeal.defs (F := Ideal)) (onTc (τ := Cert.AdamHeadRefIdeal.τ) (Cert.AdamHeadRefIdeal.main (F := Ideal))) ⟨m, fun _ => 0, g⟩ (fun r => (∀ c : Dev Cert.AdamHeadRefIdeal.nD,
      r.2.mem ((c.tc : Thread Cert.AdamHeadRefIdeal.nD Cert.AdamHeadRefIdeal.τ).loc Cert.AdamHeadRefIdeal.main_arg0) = m ((c.tc : Thread Cert.AdamHeadRefIdeal.nD Cert.AdamHeadRefIdeal.τ).loc Cert.AdamHeadRefIdeal.main_arg0)
      ∧ r.2.mem ((c.tc : Thread Cert.AdamHeadRefIdeal.nD Cert.AdamHeadRefIdeal.τ).loc Cert.AdamHeadRefIdeal.main_arg1) = m ((c.tc : Thread Cert.AdamHeadRefIdeal.nD Cert.AdamHeadRefIdeal.τ).loc Cert.AdamHeadRefIdeal.main_arg1)
      ∧ r.2.mem ((c.tc : Thread Cert.AdamHeadRefIdeal.nD Cert.AdamHeadRefIdeal.τ).loc Cert.AdamHeadRefIdeal.main_arg2) = m ((c.tc : Thread Cert.AdamHeadRefIdeal.nD Cert.AdamHeadRefIdeal.τ).loc Cert.AdamHeadRefIdeal.main_arg2)
      ∧ r.2.mem ((c.tc : Thread Cert.AdamHeadRefIdeal.nD Cert.AdamHeadRefIdeal.τ).loc Cert.AdamHeadRefIdeal.main_arg3) = m ((c.tc : Thread Cert.AdamHeadRefIdeal.nD Cert.AdamHeadRefIdeal.τ).loc Cert.AdamHeadRefIdeal.main_arg3))
      ∧ r.2.sem = fun _ => 0)

def quiescent_AdamSkip [hAdamSkip : Cert.AdamSkip.Facts] : Prop :=
  ∀ (m : (ℓ : Loc Cert.AdamSkip.nD Cert.AdamSkip.τ Cert.AdamSkip.sig) → Buf (Elt Bits) ℓ) (g : Dev Cert.AdamSkip.nD → PrngReg), Pre_AdamSkip m →
    θ_run (Cert.AdamSkip.defs (F := Bits)) (onTc (τ := Cert.AdamSkip.τ) (Cert.AdamSkip.main (F := Bits))) ⟨m, fun _ => 0, g⟩ (fun r => (∀ c : Dev Cert.AdamSkip.nD,
      r.2.mem ((c.tc : Thread Cert.AdamSkip.nD Cert.AdamSkip.τ).loc Cert.AdamSkip.main_arg0) = m ((c.tc : Thread Cert.AdamSkip.nD Cert.AdamSkip.τ).loc Cert.AdamSkip.main_arg0)
      ∧ r.2.mem ((c.tc : Thread Cert.AdamSkip.nD Cert.AdamSkip.τ).loc Cert.AdamSkip.main_arg1) = m ((c.tc : Thread Cert.AdamSkip.nD Cert.AdamSkip.τ).loc Cert.AdamSkip.main_arg1)
      ∧ r.2.mem ((c.tc : Thread Cert.AdamSkip.nD Cert.AdamSkip.τ).loc Cert.AdamSkip.main_arg2) = m ((c.tc : Thread Cert.AdamSkip.nD Cert.AdamSkip.τ).loc Cert.AdamSkip.main_arg2)
      ∧ r.2.mem ((c.tc : Thread Cert.AdamSkip.nD Cert.AdamSkip.τ).loc Cert.AdamSkip.main_arg3) = m ((c.tc : Thread Cert.AdamSkip.nD Cert.AdamSkip.τ).loc Cert.AdamSkip.main_arg3))
      ∧ r.2.sem = fun _ => 0)

def quiescent_AdamSkipIdeal [hAdamSkipIdeal : Cert.AdamSkipIdeal.Facts] : Prop :=
  ∀ (m : (ℓ : Loc Cert.AdamSkipIdeal.nD Cert.AdamSkipIdeal.τ Cert.AdamSkipIdeal.sig) → Buf (Elt Ideal) ℓ) (g : Dev Cert.AdamSkipIdeal.nD → PrngReg), Pre_AdamSkipIdeal m →
    θ_run (Cert.AdamSkipIdeal.defs (F := Ideal)) (onTc (τ := Cert.AdamSkipIdeal.τ) (Cert.AdamSkipIdeal.main (F := Ideal))) ⟨m, fun _ => 0, g⟩ (fun r => (∀ c : Dev Cert.AdamSkipIdeal.nD,
      r.2.mem ((c.tc : Thread Cert.AdamSkipIdeal.nD Cert.AdamSkipIdeal.τ).loc Cert.AdamSkipIdeal.main_arg0) = m ((c.tc : Thread Cert.AdamSkipIdeal.nD Cert.AdamSkipIdeal.τ).loc Cert.AdamSkipIdeal.main_arg0)
      ∧ r.2.mem ((c.tc : Thread Cert.AdamSkipIdeal.nD Cert.AdamSkipIdeal.τ).loc Cert.AdamSkipIdeal.main_arg1) = m ((c.tc : Thread Cert.AdamSkipIdeal.nD Cert.AdamSkipIdeal.τ).loc Cert.AdamSkipIdeal.main_arg1)
      ∧ r.2.mem ((c.tc : Thread Cert.AdamSkipIdeal.nD Cert.AdamSkipIdeal.τ).loc Cert.AdamSkipIdeal.main_arg2) = m ((c.tc : Thread Cert.AdamSkipIdeal.nD Cert.AdamSkipIdeal.τ).loc Cert.AdamSkipIdeal.main_arg2)
      ∧ r.2.mem ((c.tc : Thread Cert.AdamSkipIdeal.nD Cert.AdamSkipIdeal.τ).loc Cert.AdamSkipIdeal.main_arg3) = m ((c.tc : Thread Cert.AdamSkipIdeal.nD Cert.AdamSkipIdeal.τ).loc Cert.AdamSkipIdeal.main_arg3))
      ∧ r.2.sem = fun _ => 0)

def quiescent_AdamSkipRefIdeal [hAdamSkipRefIdeal : Cert.AdamSkipRefIdeal.Facts] : Prop :=
  ∀ (m : (ℓ : Loc Cert.AdamSkipRefIdeal.nD Cert.AdamSkipRefIdeal.τ Cert.AdamSkipRefIdeal.sig) → Buf (Elt Ideal) ℓ) (g : Dev Cert.AdamSkipRefIdeal.nD → PrngReg), Pre_AdamSkipRefIdeal m →
    θ_run (Cert.AdamSkipRefIdeal.defs (F := Ideal)) (onTc (τ := Cert.AdamSkipRefIdeal.τ) (Cert.AdamSkipRefIdeal.main (F := Ideal))) ⟨m, fun _ => 0, g⟩ (fun r => (∀ c : Dev Cert.AdamSkipRefIdeal.nD,
      r.2.mem ((c.tc : Thread Cert.AdamSkipRefIdeal.nD Cert.AdamSkipRefIdeal.τ).loc Cert.AdamSkipRefIdeal.main_arg0) = m ((c.tc : Thread Cert.AdamSkipRefIdeal.nD Cert.AdamSkipRefIdeal.τ).loc Cert.AdamSkipRefIdeal.main_arg0)
      ∧ r.2.mem ((c.tc : Thread Cert.AdamSkipRefIdeal.nD Cert.AdamSkipRefIdeal.τ).loc Cert.AdamSkipRefIdeal.main_arg1) = m ((c.tc : Thread Cert.AdamSkipRefIdeal.nD Cert.AdamSkipRefIdeal.τ).loc Cert.AdamSkipRefIdeal.main_arg1)
      ∧ r.2.mem ((c.tc : Thread Cert.AdamSkipRefIdeal.nD Cert.AdamSkipRefIdeal.τ).loc Cert.AdamSkipRefIdeal.main_arg2) = m ((c.tc : Thread Cert.AdamSkipRefIdeal.nD Cert.AdamSkipRefIdeal.τ).loc Cert.AdamSkipRefIdeal.main_arg2)
      ∧ r.2.mem ((c.tc : Thread Cert.AdamSkipRefIdeal.nD Cert.AdamSkipRefIdeal.τ).loc Cert.AdamSkipRefIdeal.main_arg3) = m ((c.tc : Thread Cert.AdamSkipRefIdeal.nD Cert.AdamSkipRefIdeal.τ).loc Cert.AdamSkipRefIdeal.main_arg3))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ r.2.sem = fun _ => 0)

def quiescent_AdamBiasRefIdeal [hAdamBiasRefIdeal : Cert.AdamBiasRefIdeal.Facts] : Prop :=
  ∀ (m : (ℓ : Loc Cert.AdamBiasRefIdeal.nD Cert.AdamBiasRefIdeal.τ Cert.AdamBiasRefIdeal.sig) → Buf (Elt Ideal) ℓ) (g : Dev Cert.AdamBiasRefIdeal.nD → PrngReg), Pre_AdamBiasRefIdeal m →
    θ_run (Cert.AdamBiasRefIdeal.defs (F := Ideal)) (onTc (τ := Cert.AdamBiasRefIdeal.τ) (Cert.AdamBiasRefIdeal.main (F := Ideal))) ⟨m, fun _ => 0, g⟩ (fun r => (∀ c : Dev Cert.AdamBiasRefIdeal.nD,
      r.2.mem ((c.tc : Thread Cert.AdamBiasRefIdeal.nD Cert.AdamBiasRefIdeal.τ).loc Cert.AdamBiasRefIdeal.main_arg0) = m ((c.tc : Thread Cert.AdamBiasRefIdeal.nD Cert.AdamBiasRefIdeal.τ).loc Cert.AdamBiasRefIdeal.main_arg0)
      ∧ r.2.mem ((c.tc : Thread Cert.AdamBiasRefIdeal.nD Cert.AdamBiasRefIdeal.τ).loc Cert.AdamBiasRefIdeal.main_arg1) = m ((c.tc : Thread Cert.AdamBiasRefIdeal.nD Cert.AdamBiasRefIdeal.τ).loc Cert.AdamBiasRefIdeal.main_arg1)
      ∧ r.2.mem ((c.tc : Thread Cert.AdamBiasRefIdeal.nD Cert.AdamBiasRefIdeal.τ).loc Cert.AdamBiasRefIdeal.main_arg2) = m ((c.tc : Thread Cert.AdamBiasRefIdeal.nD Cert.AdamBiasRefIdeal.τ).loc Cert.AdamBiasRefIdeal.main_arg2)
      ∧ r.2.mem ((c.tc : Thread Cert.AdamBiasRefIdeal.nD Cert.AdamBiasRefIdeal.τ).loc Cert.AdamBiasRefIdeal.main_arg3) = m ((c.tc : Thread Cert.AdamBiasRefIdeal.nD Cert.AdamBiasRefIdeal.τ).loc Cert.AdamBiasRefIdeal.main_arg3))
      ∧ r.2.sem = fun _ => 0)

def quiescent_AdamTaps [hAdamTaps : Cert.AdamTaps.Facts] : Prop :=
  ∀ (m : (ℓ : Loc Cert.AdamTaps.nD Cert.AdamTaps.τ Cert.AdamTaps.sig) → Buf (Elt Bits) ℓ) (g : Dev Cert.AdamTaps.nD → PrngReg), Pre_AdamTaps m →
    θ_run (Cert.AdamTaps.defs (F := Bits)) (onTc (τ := Cert.AdamTaps.τ) (Cert.AdamTaps.main (F := Bits))) ⟨m, fun _ => 0, g⟩ (fun r => (∀ c : Dev Cert.AdamTaps.nD,
      r.2.mem ((c.tc : Thread Cert.AdamTaps.nD Cert.AdamTaps.τ).loc Cert.AdamTaps.main_arg0) = m ((c.tc : Thread Cert.AdamTaps.nD Cert.AdamTaps.τ).loc Cert.AdamTaps.main_arg0)
      ∧ r.2.mem ((c.tc : Thread Cert.AdamTaps.nD Cert.AdamTaps.τ).loc Cert.AdamTaps.main_arg1) = m ((c.tc : Thread Cert.AdamTaps.nD Cert.AdamTaps.τ).loc Cert.AdamTaps.main_arg1)
      ∧ r.2.mem ((c.tc : Thread Cert.AdamTaps.nD Cert.AdamTaps.τ).loc Cert.AdamTaps.main_arg2) = m ((c.tc : Thread Cert.AdamTaps.nD Cert.AdamTaps.τ).loc Cert.AdamTaps.main_arg2)
      ∧ r.2.mem ((c.tc : Thread Cert.AdamTaps.nD Cert.AdamTaps.τ).loc Cert.AdamTaps.main_arg3) = m ((c.tc : Thread Cert.AdamTaps.nD Cert.AdamTaps.τ).loc Cert.AdamTaps.main_arg3))
      ∧ r.2.sem = fun _ => 0)

def quiescent_AdamTapsIdeal [hAdamTapsIdeal : Cert.AdamTapsIdeal.Facts] : Prop :=
  ∀ (m : (ℓ : Loc Cert.AdamTapsIdeal.nD Cert.AdamTapsIdeal.τ Cert.AdamTapsIdeal.sig) → Buf (Elt Ideal) ℓ) (g : Dev Cert.AdamTapsIdeal.nD → PrngReg), Pre_AdamTapsIdeal m →
    θ_run (Cert.AdamTapsIdeal.defs (F := Ideal)) (onTc (τ := Cert.AdamTapsIdeal.τ) (Cert.AdamTapsIdeal.main (F := Ideal))) ⟨m, fun _ => 0, g⟩ (fun r => (∀ c : Dev Cert.AdamTapsIdeal.nD,
      r.2.mem ((c.tc : Thread Cert.AdamTapsIdeal.nD Cert.AdamTapsIdeal.τ).loc Cert.AdamTapsIdeal.main_arg0) = m ((c.tc : Thread Cert.AdamTapsIdeal.nD Cert.AdamTapsIdeal.τ).loc Cert.AdamTapsIdeal.main_arg0)
      ∧ r.2.mem ((c.tc : Thread Cert.AdamTapsIdeal.nD Cert.AdamTapsIdeal.τ).loc Cert.AdamTapsIdeal.main_arg1) = m ((c.tc : Thread Cert.AdamTapsIdeal.nD Cert.AdamTapsIdeal.τ).loc Cert.AdamTapsIdeal.main_arg1)
      ∧ r.2.mem ((c.tc : Thread Cert.AdamTapsIdeal.nD Cert.AdamTapsIdeal.τ).loc Cert.AdamTapsIdeal.main_arg2) = m ((c.tc : Thread Cert.AdamTapsIdeal.nD Cert.AdamTapsIdeal.τ).loc Cert.AdamTapsIdeal.main_arg2)
      ∧ r.2.mem ((c.tc : Thread Cert.AdamTapsIdeal.nD Cert.AdamTapsIdeal.τ).loc Cert.AdamTapsIdeal.main_arg3) = m ((c.tc : Thread Cert.AdamTapsIdeal.nD Cert.AdamTapsIdeal.τ).loc Cert.AdamTapsIdeal.main_arg3))
      ∧ r.2.sem = fun _ => 0)

def quiescent_AdamTapsRefIdeal [hAdamTapsRefIdeal : Cert.AdamTapsRefIdeal.Facts] : Prop :=
  ∀ (m : (ℓ : Loc Cert.AdamTapsRefIdeal.nD Cert.AdamTapsRefIdeal.τ Cert.AdamTapsRefIdeal.sig) → Buf (Elt Ideal) ℓ) (g : Dev Cert.AdamTapsRefIdeal.nD → PrngReg), Pre_AdamTapsRefIdeal m →
    θ_run (Cert.AdamTapsRefIdeal.defs (F := Ideal)) (onTc (τ := Cert.AdamTapsRefIdeal.τ) (Cert.AdamTapsRefIdeal.main (F := Ideal))) ⟨m, fun _ => 0, g⟩ (fun r => (∀ c : Dev Cert.AdamTapsRefIdeal.nD,
      r.2.mem ((c.tc : Thread Cert.AdamTapsRefIdeal.nD Cert.AdamTapsRefIdeal.τ).loc Cert.AdamTapsRefIdeal.main_arg0) = m ((c.tc : Thread Cert.AdamTapsRefIdeal.nD Cert.AdamTapsRefIdeal.τ).loc Cert.AdamTapsRefIdeal.main_arg0)
      ∧ r.2.mem ((c.tc : Thread Cert.AdamTapsRefIdeal.nD Cert.AdamTapsRefIdeal.τ).loc Cert.AdamTapsRefIdeal.main_arg1) = m ((c.tc : Thread Cert.AdamTapsRefIdeal.nD Cert.AdamTapsRefIdeal.τ).loc Cert.AdamTapsRefIdeal.main_arg1)
      ∧ r.2.mem ((c.tc : Thread Cert.AdamTapsRefIdeal.nD Cert.AdamTapsRefIdeal.τ).loc Cert.AdamTapsRefIdeal.main_arg2) = m ((c.tc : Thread Cert.AdamTapsRefIdeal.nD Cert.AdamTapsRefIdeal.τ).loc Cert.AdamTapsRefIdeal.main_arg2)
      ∧ r.2.mem ((c.tc : Thread Cert.AdamTapsRefIdeal.nD Cert.AdamTapsRefIdeal.τ).loc Cert.AdamTapsRefIdeal.main_arg3) = m ((c.tc : Thread Cert.AdamTapsRefIdeal.nD Cert.AdamTapsRefIdeal.τ).loc Cert.AdamTapsRefIdeal.main_arg3))
      ∧ r.2.sem = fun _ => 0)

def quiescent_AdamFilter [hAdamFilter : Cert.AdamFilter.Facts] : Prop :=
  ∀ (m : (ℓ : Loc Cert.AdamFilter.nD Cert.AdamFilter.τ Cert.AdamFilter.sig) → Buf (Elt Bits) ℓ) (g : Dev Cert.AdamFilter.nD → PrngReg), Pre_AdamFilter m →
    θ_run (Cert.AdamFilter.defs (F := Bits)) (onTc (τ := Cert.AdamFilter.τ) (Cert.AdamFilter.main (F := Bits))) ⟨m, fun _ => 0, g⟩ (fun r => (∀ c : Dev Cert.AdamFilter.nD,
      r.2.mem ((c.tc : Thread Cert.AdamFilter.nD Cert.AdamFilter.τ).loc Cert.AdamFilter.main_arg0) = m ((c.tc : Thread Cert.AdamFilter.nD Cert.AdamFilter.τ).loc Cert.AdamFilter.main_arg0)
      ∧ r.2.mem ((c.tc : Thread Cert.AdamFilter.nD Cert.AdamFilter.τ).loc Cert.AdamFilter.main_arg1) = m ((c.tc : Thread Cert.AdamFilter.nD Cert.AdamFilter.τ).loc Cert.AdamFilter.main_arg1)
      ∧ r.2.mem ((c.tc : Thread Cert.AdamFilter.nD Cert.AdamFilter.τ).loc Cert.AdamFilter.main_arg2) = m ((c.tc : Thread Cert.AdamFilter.nD Cert.AdamFilter.τ).loc Cert.AdamFilter.main_arg2)
      ∧ r.2.mem ((c.tc : Thread Cert.AdamFilter.nD Cert.AdamFilter.τ).loc Cert.AdamFilter.main_arg3) = m ((c.tc : Thread Cert.AdamFilter.nD Cert.AdamFilter.τ).loc Cert.AdamFilter.main_arg3))
      ∧ r.2.sem = fun _ => 0)

def quiescent_AdamFilterIdeal [hAdamFilterIdeal : Cert.AdamFilterIdeal.Facts] : Prop :=
  ∀ (m : (ℓ : Loc Cert.AdamFilterIdeal.nD Cert.AdamFilterIdeal.τ Cert.AdamFilterIdeal.sig) → Buf (Elt Ideal) ℓ) (g : Dev Cert.AdamFilterIdeal.nD → PrngReg), Pre_AdamFilterIdeal m →
    θ_run (Cert.AdamFilterIdeal.defs (F := Ideal)) (onTc (τ := Cert.AdamFilterIdeal.τ) (Cert.AdamFilterIdeal.main (F := Ideal))) ⟨m, fun _ => 0, g⟩ (fun r => (∀ c : Dev Cert.AdamFilterIdeal.nD,
      r.2.mem ((c.tc : Thread Cert.AdamFilterIdeal.nD Cert.AdamFilterIdeal.τ).loc Cert.AdamFilterIdeal.main_arg0) = m ((c.tc : Thread Cert.AdamFilterIdeal.nD Cert.AdamFilterIdeal.τ).loc Cert.AdamFilterIdeal.main_arg0)
      ∧ r.2.mem ((c.tc : Thread Cert.AdamFilterIdeal.nD Cert.AdamFilterIdeal.τ).loc Cert.AdamFilterIdeal.main_arg1) = m ((c.tc : Thread Cert.AdamFilterIdeal.nD Cert.AdamFilterIdeal.τ).loc Cert.AdamFilterIdeal.main_arg1)
      ∧ r.2.mem ((c.tc : Thread Cert.AdamFilterIdeal.nD Cert.AdamFilterIdeal.τ).loc Cert.AdamFilterIdeal.main_arg2) = m ((c.tc : Thread Cert.AdamFilterIdeal.nD Cert.AdamFilterIdeal.τ).loc Cert.AdamFilterIdeal.main_arg2)
      ∧ r.2.mem ((c.tc : Thread Cert.AdamFilterIdeal.nD Cert.AdamFilterIdeal.τ).loc Cert.AdamFilterIdeal.main_arg3) = m ((c.tc : Thread Cert.AdamFilterIdeal.nD Cert.AdamFilterIdeal.τ).loc Cert.AdamFilterIdeal.main_arg3))
      ∧ r.2.sem = fun _ => 0)

def quiescent_AdamFilterRefIdeal [hAdamFilterRefIdeal : Cert.AdamFilterRefIdeal.Facts] : Prop :=
  ∀ (m : (ℓ : Loc Cert.AdamFilterRefIdeal.nD Cert.AdamFilterRefIdeal.τ Cert.AdamFilterRefIdeal.sig) → Buf (Elt Ideal) ℓ) (g : Dev Cert.AdamFilterRefIdeal.nD → PrngReg), Pre_AdamFilterRefIdeal m →
    θ_run (Cert.AdamFilterRefIdeal.defs (F := Ideal)) (onTc (τ := Cert.AdamFilterRefIdeal.τ) (Cert.AdamFilterRefIdeal.main (F := Ideal))) ⟨m, fun _ => 0, g⟩ (fun r => (∀ c : Dev Cert.AdamFilterRefIdeal.nD,
      r.2.mem ((c.tc : Thread Cert.AdamFilterRefIdeal.nD Cert.AdamFilterRefIdeal.τ).loc Cert.AdamFilterRefIdeal.main_arg0) = m ((c.tc : Thread Cert.AdamFilterRefIdeal.nD Cert.AdamFilterRefIdeal.τ).loc Cert.AdamFilterRefIdeal.main_arg0)
      ∧ r.2.mem ((c.tc : Thread Cert.AdamFilterRefIdeal.nD Cert.AdamFilterRefIdeal.τ).loc Cert.AdamFilterRefIdeal.main_arg1) = m ((c.tc : Thread Cert.AdamFilterRefIdeal.nD Cert.AdamFilterRefIdeal.τ).loc Cert.AdamFilterRefIdeal.main_arg1)
      ∧ r.2.mem ((c.tc : Thread Cert.AdamFilterRefIdeal.nD Cert.AdamFilterRefIdeal.τ).loc Cert.AdamFilterRefIdeal.main_arg2) = m ((c.tc : Thread Cert.AdamFilterRefIdeal.nD Cert.AdamFilterRefIdeal.τ).loc Cert.AdamFilterRefIdeal.main_arg2)
      ∧ r.2.mem ((c.tc : Thread Cert.AdamFilterRefIdeal.nD Cert.AdamFilterRefIdeal.τ).loc Cert.AdamFilterRefIdeal.main_arg3) = m ((c.tc : Thread Cert.AdamFilterRefIdeal.nD Cert.AdamFilterRefIdeal.τ).loc Cert.AdamFilterRefIdeal.main_arg3))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ r.2.sem = fun _ => 0)

def quiescent_KeysRefIdeal [hKeysRefIdeal : Cert.KeysRefIdeal.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1))
      ∧ r.2.sem = fun _ => 0)

def quiescent_KeysDw [hKeysDw : Cert.KeysDw.Facts] : Prop :=
  ∀ (m : (ℓ : Loc Cert.KeysDw.nD Cert.KeysDw.τ Cert.KeysDw.sig) → Buf (Elt Bits) ℓ) (g : Dev Cert.KeysDw.nD → PrngReg), Pre_KeysDw m →
    θ_run (Cert.KeysDw.defs (F := Bits)) (onTc (τ := Cert.KeysDw.τ) (Cert.KeysDw.main (F := Bits))) ⟨m, fun _ => 0, g⟩ (fun r => (∀ c : Dev Cert.KeysDw.nD,
      r.2.mem ((c.tc : Thread Cert.KeysDw.nD Cert.KeysDw.τ).loc Cert.KeysDw.main_arg0) = m ((c.tc : Thread Cert.KeysDw.nD Cert.KeysDw.τ).loc Cert.KeysDw.main_arg0)
      ∧ r.2.mem ((c.tc : Thread Cert.KeysDw.nD Cert.KeysDw.τ).loc Cert.KeysDw.main_arg1) = m ((c.tc : Thread Cert.KeysDw.nD Cert.KeysDw.τ).loc Cert.KeysDw.main_arg1))
      ∧ r.2.sem = fun _ => 0)

def quiescent_KeysDwIdeal [hKeysDwIdeal : Cert.KeysDwIdeal.Facts] : Prop :=
  ∀ (m : (ℓ : Loc Cert.KeysDwIdeal.nD Cert.KeysDwIdeal.τ Cert.KeysDwIdeal.sig) → Buf (Elt Ideal) ℓ) (g : Dev Cert.KeysDwIdeal.nD → PrngReg), Pre_KeysDwIdeal m →
    θ_run (Cert.KeysDwIdeal.defs (F := Ideal)) (onTc (τ := Cert.KeysDwIdeal.τ) (Cert.KeysDwIdeal.main (F := Ideal))) ⟨m, fun _ => 0, g⟩ (fun r => (∀ c : Dev Cert.KeysDwIdeal.nD,
      r.2.mem ((c.tc : Thread Cert.KeysDwIdeal.nD Cert.KeysDwIdeal.τ).loc Cert.KeysDwIdeal.main_arg0) = m ((c.tc : Thread Cert.KeysDwIdeal.nD Cert.KeysDwIdeal.τ).loc Cert.KeysDwIdeal.main_arg0)
      ∧ r.2.mem ((c.tc : Thread Cert.KeysDwIdeal.nD Cert.KeysDwIdeal.τ).loc Cert.KeysDwIdeal.main_arg1) = m ((c.tc : Thread Cert.KeysDwIdeal.nD Cert.KeysDwIdeal.τ).loc Cert.KeysDwIdeal.main_arg1))
      ∧ r.2.sem = fun _ => 0)

def quiescent_KeysDwRefIdeal [hKeysDwRefIdeal : Cert.KeysDwRefIdeal.Facts] : Prop :=
  ∀ (m : (ℓ : Loc Cert.KeysDwRefIdeal.nD Cert.KeysDwRefIdeal.τ Cert.KeysDwRefIdeal.sig) → Buf (Elt Ideal) ℓ) (g : Dev Cert.KeysDwRefIdeal.nD → PrngReg), Pre_KeysDwRefIdeal m →
    θ_run (Cert.KeysDwRefIdeal.defs (F := Ideal)) (onTc (τ := Cert.KeysDwRefIdeal.τ) (Cert.KeysDwRefIdeal.main (F := Ideal))) ⟨m, fun _ => 0, g⟩ (fun r => (∀ c : Dev Cert.KeysDwRefIdeal.nD,
      r.2.mem ((c.tc : Thread Cert.KeysDwRefIdeal.nD Cert.KeysDwRefIdeal.τ).loc Cert.KeysDwRefIdeal.main_arg0) = m ((c.tc : Thread Cert.KeysDwRefIdeal.nD Cert.KeysDwRefIdeal.τ).loc Cert.KeysDwRefIdeal.main_arg0)
      ∧ r.2.mem ((c.tc : Thread Cert.KeysDwRefIdeal.nD Cert.KeysDwRefIdeal.τ).loc Cert.KeysDwRefIdeal.main_arg1) = m ((c.tc : Thread Cert.KeysDwRefIdeal.nD Cert.KeysDwRefIdeal.τ).loc Cert.KeysDwRefIdeal.main_arg1))
      ∧ r.2.sem = fun _ => 0)

def quiescent_KeysDx [hKeysDx : Cert.KeysDx.Facts] : Prop :=
  ∀ (m : (ℓ : Loc Cert.KeysDx.nD Cert.KeysDx.τ Cert.KeysDx.sig) → Buf (Elt Bits) ℓ) (g : Dev Cert.KeysDx.nD → PrngReg), Pre_KeysDx m →
    θ_run (Cert.KeysDx.defs (F := Bits)) (onTc (τ := Cert.KeysDx.τ) (Cert.KeysDx.main (F := Bits))) ⟨m, fun _ => 0, g⟩ (fun r => (∀ c : Dev Cert.KeysDx.nD,
      r.2.mem ((c.tc : Thread Cert.KeysDx.nD Cert.KeysDx.τ).loc Cert.KeysDx.main_arg0) = m ((c.tc : Thread Cert.KeysDx.nD Cert.KeysDx.τ).loc Cert.KeysDx.main_arg0)
      ∧ r.2.mem ((c.tc : Thread Cert.KeysDx.nD Cert.KeysDx.τ).loc Cert.KeysDx.main_arg1) = m ((c.tc : Thread Cert.KeysDx.nD Cert.KeysDx.τ).loc Cert.KeysDx.main_arg1))
      ∧ r.2.sem = fun _ => 0)

def quiescent_KeysDxIdeal [hKeysDxIdeal : Cert.KeysDxIdeal.Facts] : Prop :=
  ∀ (m : (ℓ : Loc Cert.KeysDxIdeal.nD Cert.KeysDxIdeal.τ Cert.KeysDxIdeal.sig) → Buf (Elt Ideal) ℓ) (g : Dev Cert.KeysDxIdeal.nD → PrngReg), Pre_KeysDxIdeal m →
    θ_run (Cert.KeysDxIdeal.defs (F := Ideal)) (onTc (τ := Cert.KeysDxIdeal.τ) (Cert.KeysDxIdeal.main (F := Ideal))) ⟨m, fun _ => 0, g⟩ (fun r => (∀ c : Dev Cert.KeysDxIdeal.nD,
      r.2.mem ((c.tc : Thread Cert.KeysDxIdeal.nD Cert.KeysDxIdeal.τ).loc Cert.KeysDxIdeal.main_arg0) = m ((c.tc : Thread Cert.KeysDxIdeal.nD Cert.KeysDxIdeal.τ).loc Cert.KeysDxIdeal.main_arg0)
      ∧ r.2.mem ((c.tc : Thread Cert.KeysDxIdeal.nD Cert.KeysDxIdeal.τ).loc Cert.KeysDxIdeal.main_arg1) = m ((c.tc : Thread Cert.KeysDxIdeal.nD Cert.KeysDxIdeal.τ).loc Cert.KeysDxIdeal.main_arg1))
      ∧ r.2.sem = fun _ => 0)

def quiescent_KeysDxRefIdeal [hKeysDxRefIdeal : Cert.KeysDxRefIdeal.Facts] : Prop :=
  ∀ (m : (ℓ : Loc Cert.KeysDxRefIdeal.nD Cert.KeysDxRefIdeal.τ Cert.KeysDxRefIdeal.sig) → Buf (Elt Ideal) ℓ) (g : Dev Cert.KeysDxRefIdeal.nD → PrngReg), Pre_KeysDxRefIdeal m →
    θ_run (Cert.KeysDxRefIdeal.defs (F := Ideal)) (onTc (τ := Cert.KeysDxRefIdeal.τ) (Cert.KeysDxRefIdeal.main (F := Ideal))) ⟨m, fun _ => 0, g⟩ (fun r => (∀ c : Dev Cert.KeysDxRefIdeal.nD,
      r.2.mem ((c.tc : Thread Cert.KeysDxRefIdeal.nD Cert.KeysDxRefIdeal.τ).loc Cert.KeysDxRefIdeal.main_arg0) = m ((c.tc : Thread Cert.KeysDxRefIdeal.nD Cert.KeysDxRefIdeal.τ).loc Cert.KeysDxRefIdeal.main_arg0)
      ∧ r.2.mem ((c.tc : Thread Cert.KeysDxRefIdeal.nD Cert.KeysDxRefIdeal.τ).loc Cert.KeysDxRefIdeal.main_arg1) = m ((c.tc : Thread Cert.KeysDxRefIdeal.nD Cert.KeysDxRefIdeal.τ).loc Cert.KeysDxRefIdeal.main_arg1))
      ∧ r.2.sem = fun _ => 0)

def quiescent_ValuesDx [hValuesDx : Cert.ValuesDx.Facts] : Prop :=
  ∀ (m : (ℓ : Loc Cert.ValuesDx.nD Cert.ValuesDx.τ Cert.ValuesDx.sig) → Buf (Elt Bits) ℓ) (g : Dev Cert.ValuesDx.nD → PrngReg), Pre_ValuesDx m →
    θ_run (Cert.ValuesDx.defs (F := Bits)) (onTc (τ := Cert.ValuesDx.τ) (Cert.ValuesDx.main (F := Bits))) ⟨m, fun _ => 0, g⟩ (fun r => (∀ c : Dev Cert.ValuesDx.nD,
      r.2.mem ((c.tc : Thread Cert.ValuesDx.nD Cert.ValuesDx.τ).loc Cert.ValuesDx.main_arg0) = m ((c.tc : Thread Cert.ValuesDx.nD Cert.ValuesDx.τ).loc Cert.ValuesDx.main_arg0)
      ∧ r.2.mem ((c.tc : Thread Cert.ValuesDx.nD Cert.ValuesDx.τ).loc Cert.ValuesDx.main_arg1) = m ((c.tc : Thread Cert.ValuesDx.nD Cert.ValuesDx.τ).loc Cert.ValuesDx.main_arg1)
      ∧ r.2.mem ((c.tc : Thread Cert.ValuesDx.nD Cert.ValuesDx.τ).loc Cert.ValuesDx.main_arg2) = m ((c.tc : Thread Cert.ValuesDx.nD Cert.ValuesDx.τ).loc Cert.ValuesDx.main_arg2))
      ∧ r.2.sem = fun _ => 0)

def quiescent_ValuesDxIdeal [hValuesDxIdeal : Cert.ValuesDxIdeal.Facts] : Prop :=
  ∀ (m : (ℓ : Loc Cert.ValuesDxIdeal.nD Cert.ValuesDxIdeal.τ Cert.ValuesDxIdeal.sig) → Buf (Elt Ideal) ℓ) (g : Dev Cert.ValuesDxIdeal.nD → PrngReg), Pre_ValuesDxIdeal m →
    θ_run (Cert.ValuesDxIdeal.defs (F := Ideal)) (onTc (τ := Cert.ValuesDxIdeal.τ) (Cert.ValuesDxIdeal.main (F := Ideal))) ⟨m, fun _ => 0, g⟩ (fun r => (∀ c : Dev Cert.ValuesDxIdeal.nD,
      r.2.mem ((c.tc : Thread Cert.ValuesDxIdeal.nD Cert.ValuesDxIdeal.τ).loc Cert.ValuesDxIdeal.main_arg0) = m ((c.tc : Thread Cert.ValuesDxIdeal.nD Cert.ValuesDxIdeal.τ).loc Cert.ValuesDxIdeal.main_arg0)
      ∧ r.2.mem ((c.tc : Thread Cert.ValuesDxIdeal.nD Cert.ValuesDxIdeal.τ).loc Cert.ValuesDxIdeal.main_arg1) = m ((c.tc : Thread Cert.ValuesDxIdeal.nD Cert.ValuesDxIdeal.τ).loc Cert.ValuesDxIdeal.main_arg1)
      ∧ r.2.mem ((c.tc : Thread Cert.ValuesDxIdeal.nD Cert.ValuesDxIdeal.τ).loc Cert.ValuesDxIdeal.main_arg2) = m ((c.tc : Thread Cert.ValuesDxIdeal.nD Cert.ValuesDxIdeal.τ).loc Cert.ValuesDxIdeal.main_arg2))
      ∧ r.2.sem = fun _ => 0)

def quiescent_ValuesDxRefIdeal [hValuesDxRefIdeal : Cert.ValuesDxRefIdeal.Facts] : Prop :=
  ∀ (m : (ℓ : Loc Cert.ValuesDxRefIdeal.nD Cert.ValuesDxRefIdeal.τ Cert.ValuesDxRefIdeal.sig) → Buf (Elt Ideal) ℓ) (g : Dev Cert.ValuesDxRefIdeal.nD → PrngReg), Pre_ValuesDxRefIdeal m →
    θ_run (Cert.ValuesDxRefIdeal.defs (F := Ideal)) (onTc (τ := Cert.ValuesDxRefIdeal.τ) (Cert.ValuesDxRefIdeal.main (F := Ideal))) ⟨m, fun _ => 0, g⟩ (fun r => (∀ c : Dev Cert.ValuesDxRefIdeal.nD,
      r.2.mem ((c.tc : Thread Cert.ValuesDxRefIdeal.nD Cert.ValuesDxRefIdeal.τ).loc Cert.ValuesDxRefIdeal.main_arg0) = m ((c.tc : Thread Cert.ValuesDxRefIdeal.nD Cert.ValuesDxRefIdeal.τ).loc Cert.ValuesDxRefIdeal.main_arg0)
      ∧ r.2.mem ((c.tc : Thread Cert.ValuesDxRefIdeal.nD Cert.ValuesDxRefIdeal.τ).loc Cert.ValuesDxRefIdeal.main_arg1) = m ((c.tc : Thread Cert.ValuesDxRefIdeal.nD Cert.ValuesDxRefIdeal.τ).loc Cert.ValuesDxRefIdeal.main_arg1)
      ∧ r.2.mem ((c.tc : Thread Cert.ValuesDxRefIdeal.nD Cert.ValuesDxRefIdeal.τ).loc Cert.ValuesDxRefIdeal.main_arg2) = m ((c.tc : Thread Cert.ValuesDxRefIdeal.nD Cert.ValuesDxRefIdeal.τ).loc Cert.ValuesDxRefIdeal.main_arg2))
      ∧ r.2.sem = fun _ => 0)

def quiescent_RowNorm [hRowNorm : Cert.RowNorm.Facts] : Prop :=
  ∀ (m : (ℓ : Loc Cert.RowNorm.nD Cert.RowNorm.τ Cert.RowNorm.sig) → Buf (Elt Bits) ℓ) (g : Dev Cert.RowNorm.nD → PrngReg), Pre_RowNorm m →
    θ_run (Cert.RowNorm.defs (F := Bits)) (onTc (τ := Cert.RowNorm.τ) (Cert.RowNorm.main (F := Bits))) ⟨m, fun _ => 0, g⟩ (fun r => (∀ c : Dev Cert.RowNorm.nD,
      r.2.mem ((c.tc : Thread Cert.RowNorm.nD Cert.RowNorm.τ).loc Cert.RowNorm.main_arg0) = m ((c.tc : Thread Cert.RowNorm.nD Cert.RowNorm.τ).loc Cert.RowNorm.main_arg0)
      ∧ r.2.mem ((c.tc : Thread Cert.RowNorm.nD Cert.RowNorm.τ).loc Cert.RowNorm.main_arg1) = m ((c.tc : Thread Cert.RowNorm.nD Cert.RowNorm.τ).loc Cert.RowNorm.main_arg1))
      ∧ r.2.sem = fun _ => 0)

def quiescent_RowNormIdeal [hRowNormIdeal : Cert.RowNormIdeal.Facts] : Prop :=
  ∀ (m : (ℓ : Loc Cert.RowNormIdeal.nD Cert.RowNormIdeal.τ Cert.RowNormIdeal.sig) → Buf (Elt Ideal) ℓ) (g : Dev Cert.RowNormIdeal.nD → PrngReg), Pre_RowNormIdeal m →
    θ_run (Cert.RowNormIdeal.defs (F := Ideal)) (onTc (τ := Cert.RowNormIdeal.τ) (Cert.RowNormIdeal.main (F := Ideal))) ⟨m, fun _ => 0, g⟩ (fun r => (∀ c : Dev Cert.RowNormIdeal.nD,
      r.2.mem ((c.tc : Thread Cert.RowNormIdeal.nD Cert.RowNormIdeal.τ).loc Cert.RowNormIdeal.main_arg0) = m ((c.tc : Thread Cert.RowNormIdeal.nD Cert.RowNormIdeal.τ).loc Cert.RowNormIdeal.main_arg0)
      ∧ r.2.mem ((c.tc : Thread Cert.RowNormIdeal.nD Cert.RowNormIdeal.τ).loc Cert.RowNormIdeal.main_arg1) = m ((c.tc : Thread Cert.RowNormIdeal.nD Cert.RowNormIdeal.τ).loc Cert.RowNormIdeal.main_arg1))
      ∧ r.2.sem = fun _ => 0)

def quiescent_RowNormRefIdeal [hRowNormRefIdeal : Cert.RowNormRefIdeal.Facts] : Prop :=
  ∀ (m : (ℓ : Loc Cert.RowNormRefIdeal.nD Cert.RowNormRefIdeal.τ Cert.RowNormRefIdeal.sig) → Buf (Elt Ideal) ℓ) (g : Dev Cert.RowNormRefIdeal.nD → PrngReg), Pre_RowNormRefIdeal m →
    θ_run (Cert.RowNormRefIdeal.defs (F := Ideal)) (onTc (τ := Cert.RowNormRefIdeal.τ) (Cert.RowNormRefIdeal.main (F := Ideal))) ⟨m, fun _ => 0, g⟩ (fun r => (∀ c : Dev Cert.RowNormRefIdeal.nD,
      r.2.mem ((c.tc : Thread Cert.RowNormRefIdeal.nD Cert.RowNormRefIdeal.τ).loc Cert.RowNormRefIdeal.main_arg0) = m ((c.tc : Thread Cert.RowNormRefIdeal.nD Cert.RowNormRefIdeal.τ).loc Cert.RowNormRefIdeal.main_arg0)
      ∧ r.2.mem ((c.tc : Thread Cert.RowNormRefIdeal.nD Cert.RowNormRefIdeal.τ).loc Cert.RowNormRefIdeal.main_arg1) = m ((c.tc : Thread Cert.RowNormRefIdeal.nD Cert.RowNormRefIdeal.τ).loc Cert.RowNormRefIdeal.main_arg1))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_MemNormDx [hMemNormDx : Cert.MemNormDx.Facts] : Prop :=
  ∀ (m : (ℓ : Loc Cert.MemNormDx.nD Cert.MemNormDx.τ Cert.MemNormDx.sig) → Buf (Elt Bits) ℓ) (g : Dev Cert.MemNormDx.nD → PrngReg), Pre_MemNormDx m →
    θ_run (Cert.MemNormDx.defs (F := Bits)) (onTc (τ := Cert.MemNormDx.τ) (Cert.MemNormDx.main (F := Bits))) ⟨m, fun _ => 0, g⟩ (fun r => (∀ c : Dev Cert.MemNormDx.nD,
      r.2.mem ((c.tc : Thread Cert.MemNormDx.nD Cert.MemNormDx.τ).loc Cert.MemNormDx.main_arg0) = m ((c.tc : Thread Cert.MemNormDx.nD Cert.MemNormDx.τ).loc Cert.MemNormDx.main_arg0)
      ∧ r.2.mem ((c.tc : Thread Cert.MemNormDx.nD Cert.MemNormDx.τ).loc Cert.MemNormDx.main_arg1) = m ((c.tc : Thread Cert.MemNormDx.nD Cert.MemNormDx.τ).loc Cert.MemNormDx.main_arg1)
      ∧ r.2.mem ((c.tc : Thread Cert.MemNormDx.nD Cert.MemNormDx.τ).loc Cert.MemNormDx.main_arg2) = m ((c.tc : Thread Cert.MemNormDx.nD Cert.MemNormDx.τ).loc Cert.MemNormDx.main_arg2))
      ∧ r.2.sem = fun _ => 0)

def quiescent_MemNormDxIdeal [hMemNormDxIdeal : Cert.MemNormDxIdeal.Facts] : Prop :=
  ∀ (m : (ℓ : Loc Cert.MemNormDxIdeal.nD Cert.MemNormDxIdeal.τ Cert.MemNormDxIdeal.sig) → Buf (Elt Ideal) ℓ) (g : Dev Cert.MemNormDxIdeal.nD → PrngReg), Pre_MemNormDxIdeal m →
    θ_run (Cert.MemNormDxIdeal.defs (F := Ideal)) (onTc (τ := Cert.MemNormDxIdeal.τ) (Cert.MemNormDxIdeal.main (F := Ideal))) ⟨m, fun _ => 0, g⟩ (fun r => (∀ c : Dev Cert.MemNormDxIdeal.nD,
      r.2.mem ((c.tc : Thread Cert.MemNormDxIdeal.nD Cert.MemNormDxIdeal.τ).loc Cert.MemNormDxIdeal.main_arg0) = m ((c.tc : Thread Cert.MemNormDxIdeal.nD Cert.MemNormDxIdeal.τ).loc Cert.MemNormDxIdeal.main_arg0)
      ∧ r.2.mem ((c.tc : Thread Cert.MemNormDxIdeal.nD Cert.MemNormDxIdeal.τ).loc Cert.MemNormDxIdeal.main_arg1) = m ((c.tc : Thread Cert.MemNormDxIdeal.nD Cert.MemNormDxIdeal.τ).loc Cert.MemNormDxIdeal.main_arg1)
      ∧ r.2.mem ((c.tc : Thread Cert.MemNormDxIdeal.nD Cert.MemNormDxIdeal.τ).loc Cert.MemNormDxIdeal.main_arg2) = m ((c.tc : Thread Cert.MemNormDxIdeal.nD Cert.MemNormDxIdeal.τ).loc Cert.MemNormDxIdeal.main_arg2))
      ∧ r.2.sem = fun _ => 0)

def quiescent_MemNormDxRefIdeal [hMemNormDxRefIdeal : Cert.MemNormDxRefIdeal.Facts] : Prop :=
  ∀ (m : (ℓ : Loc Cert.MemNormDxRefIdeal.nD Cert.MemNormDxRefIdeal.τ Cert.MemNormDxRefIdeal.sig) → Buf (Elt Ideal) ℓ) (g : Dev Cert.MemNormDxRefIdeal.nD → PrngReg), Pre_MemNormDxRefIdeal m →
    θ_run (Cert.MemNormDxRefIdeal.defs (F := Ideal)) (onTc (τ := Cert.MemNormDxRefIdeal.τ) (Cert.MemNormDxRefIdeal.main (F := Ideal))) ⟨m, fun _ => 0, g⟩ (fun r => (∀ c : Dev Cert.MemNormDxRefIdeal.nD,
      r.2.mem ((c.tc : Thread Cert.MemNormDxRefIdeal.nD Cert.MemNormDxRefIdeal.τ).loc Cert.MemNormDxRefIdeal.main_arg0) = m ((c.tc : Thread Cert.MemNormDxRefIdeal.nD Cert.MemNormDxRefIdeal.τ).loc Cert.MemNormDxRefIdeal.main_arg0)
      ∧ r.2.mem ((c.tc : Thread Cert.MemNormDxRefIdeal.nD Cert.MemNormDxRefIdeal.τ).loc Cert.MemNormDxRefIdeal.main_arg1) = m ((c.tc : Thread Cert.MemNormDxRefIdeal.nD Cert.MemNormDxRefIdeal.τ).loc Cert.MemNormDxRefIdeal.main_arg1)
      ∧ r.2.mem ((c.tc : Thread Cert.MemNormDxRefIdeal.nD Cert.MemNormDxRefIdeal.τ).loc Cert.MemNormDxRefIdeal.main_arg2) = m ((c.tc : Thread Cert.MemNormDxRefIdeal.nD Cert.MemNormDxRefIdeal.τ).loc Cert.MemNormDxRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_ConvV [hConvV : Cert.ConvV.Facts] : Prop :=
  ∀ (m : (ℓ : Loc Cert.ConvV.nD Cert.ConvV.τ Cert.ConvV.sig) → Buf (Elt Bits) ℓ) (g : Dev Cert.ConvV.nD → PrngReg), Pre_ConvV m →
    θ_run (Cert.ConvV.defs (F := Bits)) (onTc (τ := Cert.ConvV.τ) (Cert.ConvV.main (F := Bits))) ⟨m, fun _ => 0, g⟩ (fun r => (∀ c : Dev Cert.ConvV.nD,
      r.2.mem ((c.tc : Thread Cert.ConvV.nD Cert.ConvV.τ).loc Cert.ConvV.main_arg0) = m ((c.tc : Thread Cert.ConvV.nD Cert.ConvV.τ).loc Cert.ConvV.main_arg0)
      ∧ r.2.mem ((c.tc : Thread Cert.ConvV.nD Cert.ConvV.τ).loc Cert.ConvV.main_arg1) = m ((c.tc : Thread Cert.ConvV.nD Cert.ConvV.τ).loc Cert.ConvV.main_arg1))
      ∧ r.2.sem = fun _ => 0)

def quiescent_ConvVIdeal [hConvVIdeal : Cert.ConvVIdeal.Facts] : Prop :=
  ∀ (m : (ℓ : Loc Cert.ConvVIdeal.nD Cert.ConvVIdeal.τ Cert.ConvVIdeal.sig) → Buf (Elt Ideal) ℓ) (g : Dev Cert.ConvVIdeal.nD → PrngReg), Pre_ConvVIdeal m →
    θ_run (Cert.ConvVIdeal.defs (F := Ideal)) (onTc (τ := Cert.ConvVIdeal.τ) (Cert.ConvVIdeal.main (F := Ideal))) ⟨m, fun _ => 0, g⟩ (fun r => (∀ c : Dev Cert.ConvVIdeal.nD,
      r.2.mem ((c.tc : Thread Cert.ConvVIdeal.nD Cert.ConvVIdeal.τ).loc Cert.ConvVIdeal.main_arg0) = m ((c.tc : Thread Cert.ConvVIdeal.nD Cert.ConvVIdeal.τ).loc Cert.ConvVIdeal.main_arg0)
      ∧ r.2.mem ((c.tc : Thread Cert.ConvVIdeal.nD Cert.ConvVIdeal.τ).loc Cert.ConvVIdeal.main_arg1) = m ((c.tc : Thread Cert.ConvVIdeal.nD Cert.ConvVIdeal.τ).loc Cert.ConvVIdeal.main_arg1))
      ∧ r.2.sem = fun _ => 0)

def quiescent_ConvVRefIdeal [hConvVRefIdeal : Cert.ConvVRefIdeal.Facts] : Prop :=
  ∀ (m : (ℓ : Loc Cert.ConvVRefIdeal.nD Cert.ConvVRefIdeal.τ Cert.ConvVRefIdeal.sig) → Buf (Elt Ideal) ℓ) (g : Dev Cert.ConvVRefIdeal.nD → PrngReg), Pre_ConvVRefIdeal m →
    θ_run (Cert.ConvVRefIdeal.defs (F := Ideal)) (onTc (τ := Cert.ConvVRefIdeal.τ) (Cert.ConvVRefIdeal.main (F := Ideal))) ⟨m, fun _ => 0, g⟩ (fun r => (∀ c : Dev Cert.ConvVRefIdeal.nD,
      r.2.mem ((c.tc : Thread Cert.ConvVRefIdeal.nD Cert.ConvVRefIdeal.τ).loc Cert.ConvVRefIdeal.main_arg0) = m ((c.tc : Thread Cert.ConvVRefIdeal.nD Cert.ConvVRefIdeal.τ).loc Cert.ConvVRefIdeal.main_arg0)
      ∧ r.2.mem ((c.tc : Thread Cert.ConvVRefIdeal.nD Cert.ConvVRefIdeal.τ).loc Cert.ConvVRefIdeal.main_arg1) = m ((c.tc : Thread Cert.ConvVRefIdeal.nD Cert.ConvVRefIdeal.τ).loc Cert.ConvVRefIdeal.main_arg1))
      ∧ r.2.sem = fun _ => 0)

def quiescent_ConvX [hConvX : Cert.ConvX.Facts] : Prop :=
  ∀ (m : (ℓ : Loc Cert.ConvX.nD Cert.ConvX.τ Cert.ConvX.sig) → Buf (Elt Bits) ℓ) (g : Dev Cert.ConvX.nD → PrngReg), Pre_ConvX m →
    θ_run (Cert.ConvX.defs (F := Bits)) (onTc (τ := Cert.ConvX.τ) (Cert.ConvX.main (F := Bits))) ⟨m, fun _ => 0, g⟩ (fun r => (∀ c : Dev Cert.ConvX.nD,
      r.2.mem ((c.tc : Thread Cert.ConvX.nD Cert.ConvX.τ).loc Cert.ConvX.main_arg0) = m ((c.tc : Thread Cert.ConvX.nD Cert.ConvX.τ).loc Cert.ConvX.main_arg0)
      ∧ r.2.mem ((c.tc : Thread Cert.ConvX.nD Cert.ConvX.τ).loc Cert.ConvX.main_arg1) = m ((c.tc : Thread Cert.ConvX.nD Cert.ConvX.τ).loc Cert.ConvX.main_arg1)
      ∧ r.2.mem ((c.tc : Thread Cert.ConvX.nD Cert.ConvX.τ).loc Cert.ConvX.main_arg2) = m ((c.tc : Thread Cert.ConvX.nD Cert.ConvX.τ).loc Cert.ConvX.main_arg2))
      ∧ r.2.sem = fun _ => 0)

def quiescent_ConvXIdeal [hConvXIdeal : Cert.ConvXIdeal.Facts] : Prop :=
  ∀ (m : (ℓ : Loc Cert.ConvXIdeal.nD Cert.ConvXIdeal.τ Cert.ConvXIdeal.sig) → Buf (Elt Ideal) ℓ) (g : Dev Cert.ConvXIdeal.nD → PrngReg), Pre_ConvXIdeal m →
    θ_run (Cert.ConvXIdeal.defs (F := Ideal)) (onTc (τ := Cert.ConvXIdeal.τ) (Cert.ConvXIdeal.main (F := Ideal))) ⟨m, fun _ => 0, g⟩ (fun r => (∀ c : Dev Cert.ConvXIdeal.nD,
      r.2.mem ((c.tc : Thread Cert.ConvXIdeal.nD Cert.ConvXIdeal.τ).loc Cert.ConvXIdeal.main_arg0) = m ((c.tc : Thread Cert.ConvXIdeal.nD Cert.ConvXIdeal.τ).loc Cert.ConvXIdeal.main_arg0)
      ∧ r.2.mem ((c.tc : Thread Cert.ConvXIdeal.nD Cert.ConvXIdeal.τ).loc Cert.ConvXIdeal.main_arg1) = m ((c.tc : Thread Cert.ConvXIdeal.nD Cert.ConvXIdeal.τ).loc Cert.ConvXIdeal.main_arg1)
      ∧ r.2.mem ((c.tc : Thread Cert.ConvXIdeal.nD Cert.ConvXIdeal.τ).loc Cert.ConvXIdeal.main_arg2) = m ((c.tc : Thread Cert.ConvXIdeal.nD Cert.ConvXIdeal.τ).loc Cert.ConvXIdeal.main_arg2))
      ∧ r.2.sem = fun _ => 0)

def quiescent_ConvXRefIdeal [hConvXRefIdeal : Cert.ConvXRefIdeal.Facts] : Prop :=
  ∀ (m : (ℓ : Loc Cert.ConvXRefIdeal.nD Cert.ConvXRefIdeal.τ Cert.ConvXRefIdeal.sig) → Buf (Elt Ideal) ℓ) (g : Dev Cert.ConvXRefIdeal.nD → PrngReg), Pre_ConvXRefIdeal m →
    θ_run (Cert.ConvXRefIdeal.defs (F := Ideal)) (onTc (τ := Cert.ConvXRefIdeal.τ) (Cert.ConvXRefIdeal.main (F := Ideal))) ⟨m, fun _ => 0, g⟩ (fun r => (∀ c : Dev Cert.ConvXRefIdeal.nD,
      r.2.mem ((c.tc : Thread Cert.ConvXRefIdeal.nD Cert.ConvXRefIdeal.τ).loc Cert.ConvXRefIdeal.main_arg0) = m ((c.tc : Thread Cert.ConvXRefIdeal.nD Cert.ConvXRefIdeal.τ).loc Cert.ConvXRefIdeal.main_arg0)
      ∧ r.2.mem ((c.tc : Thread Cert.ConvXRefIdeal.nD Cert.ConvXRefIdeal.τ).loc Cert.ConvXRefIdeal.main_arg1) = m ((c.tc : Thread Cert.ConvXRefIdeal.nD Cert.ConvXRefIdeal.τ).loc Cert.ConvXRefIdeal.main_arg1)
      ∧ r.2.mem ((c.tc : Thread Cert.ConvXRefIdeal.nD Cert.ConvXRefIdeal.τ).loc Cert.ConvXRefIdeal.main_arg2) = m ((c.tc : Thread Cert.ConvXRefIdeal.nD Cert.ConvXRefIdeal.τ).loc Cert.ConvXRefIdeal.main_arg2))
      ∧ r.2.sem = fun _ => 0)

def quiescent_ConvQk [hConvQk : Cert.ConvQk.Facts] : Prop :=
  ∀ (m : (ℓ : Loc Cert.ConvQk.nD Cert.ConvQk.τ Cert.ConvQk.sig) → Buf (Elt Bits) ℓ) (g : Dev Cert.ConvQk.nD → PrngReg), Pre_ConvQk m →
    θ_run (Cert.ConvQk.defs (F := Bits)) (onTc (τ := Cert.ConvQk.τ) (Cert.ConvQk.main (F := Bits))) ⟨m, fun _ => 0, g⟩ (fun r => (∀ c : Dev Cert.ConvQk.nD,
      r.2.mem ((c.tc : Thread Cert.ConvQk.nD Cert.ConvQk.τ).loc Cert.ConvQk.main_arg0) = m ((c.tc : Thread Cert.ConvQk.nD Cert.ConvQk.τ).loc Cert.ConvQk.main_arg0)
      ∧ r.2.mem ((c.tc : Thread Cert.ConvQk.nD Cert.ConvQk.τ).loc Cert.ConvQk.main_arg1) = m ((c.tc : Thread Cert.ConvQk.nD Cert.ConvQk.τ).loc Cert.ConvQk.main_arg1))
      ∧ r.2.sem = fun _ => 0)

def quiescent_ConvQkIdeal [hConvQkIdeal : Cert.ConvQkIdeal.Facts] : Prop :=
  ∀ (m : (ℓ : Loc Cert.ConvQkIdeal.nD Cert.ConvQkIdeal.τ Cert.ConvQkIdeal.sig) → Buf (Elt Ideal) ℓ) (g : Dev Cert.ConvQkIdeal.nD → PrngReg), Pre_ConvQkIdeal m →
    θ_run (Cert.ConvQkIdeal.defs (F := Ideal)) (onTc (τ := Cert.ConvQkIdeal.τ) (Cert.ConvQkIdeal.main (F := Ideal))) ⟨m, fun _ => 0, g⟩ (fun r => (∀ c : Dev Cert.ConvQkIdeal.nD,
      r.2.mem ((c.tc : Thread Cert.ConvQkIdeal.nD Cert.ConvQkIdeal.τ).loc Cert.ConvQkIdeal.main_arg0) = m ((c.tc : Thread Cert.ConvQkIdeal.nD Cert.ConvQkIdeal.τ).loc Cert.ConvQkIdeal.main_arg0)
      ∧ r.2.mem ((c.tc : Thread Cert.ConvQkIdeal.nD Cert.ConvQkIdeal.τ).loc Cert.ConvQkIdeal.main_arg1) = m ((c.tc : Thread Cert.ConvQkIdeal.nD Cert.ConvQkIdeal.τ).loc Cert.ConvQkIdeal.main_arg1))
      ∧ r.2.sem = fun _ => 0)

def quiescent_ConvQkRefIdeal [hConvQkRefIdeal : Cert.ConvQkRefIdeal.Facts] : Prop :=
  ∀ (m : (ℓ : Loc Cert.ConvQkRefIdeal.nD Cert.ConvQkRefIdeal.τ Cert.ConvQkRefIdeal.sig) → Buf (Elt Ideal) ℓ) (g : Dev Cert.ConvQkRefIdeal.nD → PrngReg), Pre_ConvQkRefIdeal m →
    θ_run (Cert.ConvQkRefIdeal.defs (F := Ideal)) (onTc (τ := Cert.ConvQkRefIdeal.τ) (Cert.ConvQkRefIdeal.main (F := Ideal))) ⟨m, fun _ => 0, g⟩ (fun r => (∀ c : Dev Cert.ConvQkRefIdeal.nD,
      r.2.mem ((c.tc : Thread Cert.ConvQkRefIdeal.nD Cert.ConvQkRefIdeal.τ).loc Cert.ConvQkRefIdeal.main_arg0) = m ((c.tc : Thread Cert.ConvQkRefIdeal.nD Cert.ConvQkRefIdeal.τ).loc Cert.ConvQkRefIdeal.main_arg0)
      ∧ r.2.mem ((c.tc : Thread Cert.ConvQkRefIdeal.nD Cert.ConvQkRefIdeal.τ).loc Cert.ConvQkRefIdeal.main_arg1) = m ((c.tc : Thread Cert.ConvQkRefIdeal.nD Cert.ConvQkRefIdeal.τ).loc Cert.ConvQkRefIdeal.main_arg1))
      ∧ r.2.sem = fun _ => 0)

def quiescent_ConvVIn [hConvVIn : Cert.ConvVIn.Facts] : Prop :=
  ∀ (m : (ℓ : Loc Cert.ConvVIn.nD Cert.ConvVIn.τ Cert.ConvVIn.sig) → Buf (Elt Bits) ℓ) (g : Dev Cert.ConvVIn.nD → PrngReg), Pre_ConvVIn m →
    θ_run (Cert.ConvVIn.defs (F := Bits)) (onTc (τ := Cert.ConvVIn.τ) (Cert.ConvVIn.main (F := Bits))) ⟨m, fun _ => 0, g⟩ (fun r => (∀ c : Dev Cert.ConvVIn.nD,
      r.2.mem ((c.tc : Thread Cert.ConvVIn.nD Cert.ConvVIn.τ).loc Cert.ConvVIn.main_arg0) = m ((c.tc : Thread Cert.ConvVIn.nD Cert.ConvVIn.τ).loc Cert.ConvVIn.main_arg0)
      ∧ r.2.mem ((c.tc : Thread Cert.ConvVIn.nD Cert.ConvVIn.τ).loc Cert.ConvVIn.main_arg1) = m ((c.tc : Thread Cert.ConvVIn.nD Cert.ConvVIn.τ).loc Cert.ConvVIn.main_arg1)
      ∧ r.2.mem ((c.tc : Thread Cert.ConvVIn.nD Cert.ConvVIn.τ).loc Cert.ConvVIn.main_arg2) = m ((c.tc : Thread Cert.ConvVIn.nD Cert.ConvVIn.τ).loc Cert.ConvVIn.main_arg2))
      ∧ r.2.sem = fun _ => 0)

def quiescent_ConvVInIdeal [hConvVInIdeal : Cert.ConvVInIdeal.Facts] : Prop :=
  ∀ (m : (ℓ : Loc Cert.ConvVInIdeal.nD Cert.ConvVInIdeal.τ Cert.ConvVInIdeal.sig) → Buf (Elt Ideal) ℓ) (g : Dev Cert.ConvVInIdeal.nD → PrngReg), Pre_ConvVInIdeal m →
    θ_run (Cert.ConvVInIdeal.defs (F := Ideal)) (onTc (τ := Cert.ConvVInIdeal.τ) (Cert.ConvVInIdeal.main (F := Ideal))) ⟨m, fun _ => 0, g⟩ (fun r => (∀ c : Dev Cert.ConvVInIdeal.nD,
      r.2.mem ((c.tc : Thread Cert.ConvVInIdeal.nD Cert.ConvVInIdeal.τ).loc Cert.ConvVInIdeal.main_arg0) = m ((c.tc : Thread Cert.ConvVInIdeal.nD Cert.ConvVInIdeal.τ).loc Cert.ConvVInIdeal.main_arg0)
      ∧ r.2.mem ((c.tc : Thread Cert.ConvVInIdeal.nD Cert.ConvVInIdeal.τ).loc Cert.ConvVInIdeal.main_arg1) = m ((c.tc : Thread Cert.ConvVInIdeal.nD Cert.ConvVInIdeal.τ).loc Cert.ConvVInIdeal.main_arg1)
      ∧ r.2.mem ((c.tc : Thread Cert.ConvVInIdeal.nD Cert.ConvVInIdeal.τ).loc Cert.ConvVInIdeal.main_arg2) = m ((c.tc : Thread Cert.ConvVInIdeal.nD Cert.ConvVInIdeal.τ).loc Cert.ConvVInIdeal.main_arg2))
      ∧ r.2.sem = fun _ => 0)

def quiescent_ConvVInRefIdeal [hConvVInRefIdeal : Cert.ConvVInRefIdeal.Facts] : Prop :=
  ∀ (m : (ℓ : Loc Cert.ConvVInRefIdeal.nD Cert.ConvVInRefIdeal.τ Cert.ConvVInRefIdeal.sig) → Buf (Elt Ideal) ℓ) (g : Dev Cert.ConvVInRefIdeal.nD → PrngReg), Pre_ConvVInRefIdeal m →
    θ_run (Cert.ConvVInRefIdeal.defs (F := Ideal)) (onTc (τ := Cert.ConvVInRefIdeal.τ) (Cert.ConvVInRefIdeal.main (F := Ideal))) ⟨m, fun _ => 0, g⟩ (fun r => (∀ c : Dev Cert.ConvVInRefIdeal.nD,
      r.2.mem ((c.tc : Thread Cert.ConvVInRefIdeal.nD Cert.ConvVInRefIdeal.τ).loc Cert.ConvVInRefIdeal.main_arg0) = m ((c.tc : Thread Cert.ConvVInRefIdeal.nD Cert.ConvVInRefIdeal.τ).loc Cert.ConvVInRefIdeal.main_arg0)
      ∧ r.2.mem ((c.tc : Thread Cert.ConvVInRefIdeal.nD Cert.ConvVInRefIdeal.τ).loc Cert.ConvVInRefIdeal.main_arg1) = m ((c.tc : Thread Cert.ConvVInRefIdeal.nD Cert.ConvVInRefIdeal.τ).loc Cert.ConvVInRefIdeal.main_arg1)
      ∧ r.2.mem ((c.tc : Thread Cert.ConvVInRefIdeal.nD Cert.ConvVInRefIdeal.τ).loc Cert.ConvVInRefIdeal.main_arg2) = m ((c.tc : Thread Cert.ConvVInRefIdeal.nD Cert.ConvVInRefIdeal.τ).loc Cert.ConvVInRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v13) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v1_0)) (v1 : (c : Dev Cert.UpDxIdeal.nD) → Buf (Elt Ideal) ((c.tc : Thread Cert.UpDxIdeal.nD Cert.UpDxIdeal.τ).loc Cert.UpDxIdeal.main_v1_1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v1_0) = v0 c
          ∧ r.2.mem ((c.tc : Thread Cert.UpDxIdeal.nD Cert.UpDxIdeal.τ).loc Cert.UpDxIdeal.main_v1_1) = v1 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v40) = v0 c
          ∧ r.2.mem ((c.tc : Thread Cert.UpDxRefIdeal.nD Cert.UpDxRefIdeal.τ).loc Cert.UpDxRefIdeal.main_v41) = v1 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_WoDw_WoDwIdeal : Prop :=
  True

def algebraic_WoDwIdeal_WoDwRefIdeal [hWoDwIdeal : Cert.WoDwIdeal.Facts] [hWoDwRefIdeal : Cert.WoDwRefIdeal.Facts] : Prop :=
  ∀ (m : (ℓ : Loc Cert.WoDwIdeal.nD Cert.WoDwIdeal.τ Cert.WoDwIdeal.sig) → Buf (Elt Ideal) ℓ) (g : Dev Cert.WoDwIdeal.nD → PrngReg)
    (m' : (ℓ : Loc Cert.WoDwRefIdeal.nD Cert.WoDwRefIdeal.τ Cert.WoDwRefIdeal.sig) → Buf (Elt Ideal) ℓ) (g' : Dev Cert.WoDwRefIdeal.nD → PrngReg), Pre_WoDwIdeal m →
    (∀ c : Dev Cert.WoDwIdeal.nD,
      m' ((c.tc : Thread Cert.WoDwRefIdeal.nD Cert.WoDwRefIdeal.τ).loc Cert.WoDwRefIdeal.main_arg0) = m ((c.tc : Thread Cert.WoDwIdeal.nD Cert.WoDwIdeal.τ).loc Cert.WoDwIdeal.main_arg0)
      ∧ m' ((c.tc : Thread Cert.WoDwRefIdeal.nD Cert.WoDwRefIdeal.τ).loc Cert.WoDwRefIdeal.main_arg1) = m ((c.tc : Thread Cert.WoDwIdeal.nD Cert.WoDwIdeal.τ).loc Cert.WoDwIdeal.main_arg1)) →
    ∃ (v0 : (c : Dev Cert.WoDwIdeal.nD) → Buf (Elt Ideal) ((c.tc : Thread Cert.WoDwIdeal.nD Cert.WoDwIdeal.τ).loc Cert.WoDwIdeal.main_v0)),
      θ_run (Cert.WoDwIdeal.defs (F := Ideal)) (onTc (τ := Cert.WoDwIdeal.τ) (Cert.WoDwIdeal.main (F := Ideal))) ⟨m, fun _ => 0, g⟩ (fun r => ∀ c : Dev Cert.WoDwIdeal.nD,
          r.2.mem ((c.tc : Thread Cert.WoDwIdeal.nD Cert.WoDwIdeal.τ).loc Cert.WoDwIdeal.main_v0) = v0 c
          ∧ r.2.mem ((c.tc : Thread Cert.WoDwIdeal.nD Cert.WoDwIdeal.τ).loc Cert.WoDwIdeal.main_arg0) = m ((c.tc : Thread Cert.WoDwIdeal.nD Cert.WoDwIdeal.τ).loc Cert.WoDwIdeal.main_arg0)
          ∧ r.2.mem ((c.tc : Thread Cert.WoDwIdeal.nD Cert.WoDwIdeal.τ).loc Cert.WoDwIdeal.main_arg1) = m ((c.tc : Thread Cert.WoDwIdeal.nD Cert.WoDwIdeal.τ).loc Cert.WoDwIdeal.main_arg1))
      ∧ θ_run (Cert.WoDwRefIdeal.defs (F := Ideal)) (onTc (τ := Cert.WoDwRefIdeal.τ) (Cert.WoDwRefIdeal.main (F := Ideal))) ⟨m', fun _ => 0, g'⟩ (fun r => ∀ c : Dev Cert.WoDwRefIdeal.nD,
          r.2.mem ((c.tc : Thread Cert.WoDwRefIdeal.nD Cert.WoDwRefIdeal.τ).loc Cert.WoDwRefIdeal.main_v5) = v0 c
          ∧ r.2.mem ((c.tc : Thread Cert.WoDwRefIdeal.nD Cert.WoDwRefIdeal.τ).loc Cert.WoDwRefIdeal.main_arg0) = m' ((c.tc : Thread Cert.WoDwRefIdeal.nD Cert.WoDwRefIdeal.τ).loc Cert.WoDwRefIdeal.main_arg0)
          ∧ r.2.mem ((c.tc : Thread Cert.WoDwRefIdeal.nD Cert.WoDwRefIdeal.τ).loc Cert.WoDwRefIdeal.main_arg1) = m' ((c.tc : Thread Cert.WoDwRefIdeal.nD Cert.WoDwRefIdeal.τ).loc Cert.WoDwRefIdeal.main_arg1))

def preserves_WqDw_WqDwIdeal : Prop :=
  True

def algebraic_WqDwIdeal_WqDwRefIdeal [hWqDwIdeal : Cert.WqDwIdeal.Facts] [hWqDwRefIdeal : Cert.WqDwRefIdeal.Facts] : Prop :=
  ∀ (m : (ℓ : Loc Cert.WqDwIdeal.nD Cert.WqDwIdeal.τ Cert.WqDwIdeal.sig) → Buf (Elt Ideal) ℓ) (g : Dev Cert.WqDwIdeal.nD → PrngReg)
    (m' : (ℓ : Loc Cert.WqDwRefIdeal.nD Cert.WqDwRefIdeal.τ Cert.WqDwRefIdeal.sig) → Buf (Elt Ideal) ℓ) (g' : Dev Cert.WqDwRefIdeal.nD → PrngReg), Pre_WqDwIdeal m →
    (∀ c : Dev Cert.WqDwIdeal.nD,
      m' ((c.tc : Thread Cert.WqDwRefIdeal.nD Cert.WqDwRefIdeal.τ).loc Cert.WqDwRefIdeal.main_arg0) = m ((c.tc : Thread Cert.WqDwIdeal.nD Cert.WqDwIdeal.τ).loc Cert.WqDwIdeal.main_arg0)
      ∧ m' ((c.tc : Thread Cert.WqDwRefIdeal.nD Cert.WqDwRefIdeal.τ).loc Cert.WqDwRefIdeal.main_arg1) = m ((c.tc : Thread Cert.WqDwIdeal.nD Cert.WqDwIdeal.τ).loc Cert.WqDwIdeal.main_arg1)) →
    ∃ (v0 : (c : Dev Cert.WqDwIdeal.nD) → Buf (Elt Ideal) ((c.tc : Thread Cert.WqDwIdeal.nD Cert.WqDwIdeal.τ).loc Cert.WqDwIdeal.main_v0)),
      θ_run (Cert.WqDwIdeal.defs (F := Ideal)) (onTc (τ := Cert.WqDwIdeal.τ) (Cert.WqDwIdeal.main (F := Ideal))) ⟨m, fun _ => 0, g⟩ (fun r => ∀ c : Dev Cert.WqDwIdeal.nD,
          r.2.mem ((c.tc : Thread Cert.WqDwIdeal.nD Cert.WqDwIdeal.τ).loc Cert.WqDwIdeal.main_v0) = v0 c
          ∧ r.2.mem ((c.tc : Thread Cert.WqDwIdeal.nD Cert.WqDwIdeal.τ).loc Cert.WqDwIdeal.main_arg0) = m ((c.tc : Thread Cert.WqDwIdeal.nD Cert.WqDwIdeal.τ).loc Cert.WqDwIdeal.main_arg0)
          ∧ r.2.mem ((c.tc : Thread Cert.WqDwIdeal.nD Cert.WqDwIdeal.τ).loc Cert.WqDwIdeal.main_arg1) = m ((c.tc : Thread Cert.WqDwIdeal.nD Cert.WqDwIdeal.τ).loc Cert.WqDwIdeal.main_arg1))
      ∧ θ_run (Cert.WqDwRefIdeal.defs (F := Ideal)) (onTc (τ := Cert.WqDwRefIdeal.τ) (Cert.WqDwRefIdeal.main (F := Ideal))) ⟨m', fun _ => 0, g'⟩ (fun r => ∀ c : Dev Cert.WqDwRefIdeal.nD,
          r.2.mem ((c.tc : Thread Cert.WqDwRefIdeal.nD Cert.WqDwRefIdeal.τ).loc Cert.WqDwRefIdeal.main_v6) = v0 c
          ∧ r.2.mem ((c.tc : Thread Cert.WqDwRefIdeal.nD Cert.WqDwRefIdeal.τ).loc Cert.WqDwRefIdeal.main_arg0) = m' ((c.tc : Thread Cert.WqDwRefIdeal.nD Cert.WqDwRefIdeal.τ).loc Cert.WqDwRefIdeal.main_arg0)
          ∧ r.2.mem ((c.tc : Thread Cert.WqDwRefIdeal.nD Cert.WqDwRefIdeal.τ).loc Cert.WqDwRefIdeal.main_arg1) = m' ((c.tc : Thread Cert.WqDwRefIdeal.nD Cert.WqDwRefIdeal.τ).loc Cert.WqDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v6) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_WoDx_WoDxIdeal : Prop :=
  True

def algebraic_WoDxIdeal_WoDxRefIdeal [hWoDxIdeal : Cert.WoDxIdeal.Facts] [hWoDxRefIdeal : Cert.WoDxRefIdeal.Facts] : Prop :=
  ∀ (m : (ℓ : Loc Cert.WoDxIdeal.nD Cert.WoDxIdeal.τ Cert.WoDxIdeal.sig) → Buf (Elt Ideal) ℓ) (g : Dev Cert.WoDxIdeal.nD → PrngReg)
    (m' : (ℓ : Loc Cert.WoDxRefIdeal.nD Cert.WoDxRefIdeal.τ Cert.WoDxRefIdeal.sig) → Buf (Elt Ideal) ℓ) (g' : Dev Cert.WoDxRefIdeal.nD → PrngReg), Pre_WoDxIdeal m →
    (∀ c : Dev Cert.WoDxIdeal.nD,
      m' ((c.tc : Thread Cert.WoDxRefIdeal.nD Cert.WoDxRefIdeal.τ).loc Cert.WoDxRefIdeal.main_arg0) = m ((c.tc : Thread Cert.WoDxIdeal.nD Cert.WoDxIdeal.τ).loc Cert.WoDxIdeal.main_arg0)
      ∧ m' ((c.tc : Thread Cert.WoDxRefIdeal.nD Cert.WoDxRefIdeal.τ).loc Cert.WoDxRefIdeal.main_arg1) = m ((c.tc : Thread Cert.WoDxIdeal.nD Cert.WoDxIdeal.τ).loc Cert.WoDxIdeal.main_arg1)) →
    ∃ (v0 : (c : Dev Cert.WoDxIdeal.nD) → Buf (Elt Ideal) ((c.tc : Thread Cert.WoDxIdeal.nD Cert.WoDxIdeal.τ).loc Cert.WoDxIdeal.main_v0)),
      θ_run (Cert.WoDxIdeal.defs (F := Ideal)) (onTc (τ := Cert.WoDxIdeal.τ) (Cert.WoDxIdeal.main (F := Ideal))) ⟨m, fun _ => 0, g⟩ (fun r => ∀ c : Dev Cert.WoDxIdeal.nD,
          r.2.mem ((c.tc : Thread Cert.WoDxIdeal.nD Cert.WoDxIdeal.τ).loc Cert.WoDxIdeal.main_v0) = v0 c
          ∧ r.2.mem ((c.tc : Thread Cert.WoDxIdeal.nD Cert.WoDxIdeal.τ).loc Cert.WoDxIdeal.main_arg0) = m ((c.tc : Thread Cert.WoDxIdeal.nD Cert.WoDxIdeal.τ).loc Cert.WoDxIdeal.main_arg0)
          ∧ r.2.mem ((c.tc : Thread Cert.WoDxIdeal.nD Cert.WoDxIdeal.τ).loc Cert.WoDxIdeal.main_arg1) = m ((c.tc : Thread Cert.WoDxIdeal.nD Cert.WoDxIdeal.τ).loc Cert.WoDxIdeal.main_arg1))
      ∧ θ_run (Cert.WoDxRefIdeal.defs (F := Ideal)) (onTc (τ := Cert.WoDxRefIdeal.τ) (Cert.WoDxRefIdeal.main (F := Ideal))) ⟨m', fun _ => 0, g'⟩ (fun r => ∀ c : Dev Cert.WoDxRefIdeal.nD,
          r.2.mem ((c.tc : Thread Cert.WoDxRefIdeal.nD Cert.WoDxRefIdeal.τ).loc Cert.WoDxRefIdeal.main_v4) = v0 c
          ∧ r.2.mem ((c.tc : Thread Cert.WoDxRefIdeal.nD Cert.WoDxRefIdeal.τ).loc Cert.WoDxRefIdeal.main_arg0) = m' ((c.tc : Thread Cert.WoDxRefIdeal.nD Cert.WoDxRefIdeal.τ).loc Cert.WoDxRefIdeal.main_arg0)
          ∧ r.2.mem ((c.tc : Thread Cert.WoDxRefIdeal.nD Cert.WoDxRefIdeal.τ).loc Cert.WoDxRefIdeal.main_arg1) = m' ((c.tc : Thread Cert.WoDxRefIdeal.nD Cert.WoDxRefIdeal.τ).loc Cert.WoDxRefIdeal.main_arg1))

def preserves_WqDx_WqDxIdeal : Prop :=
  True

def algebraic_WqDxIdeal_WqDxRefIdeal [hWqDxIdeal : Cert.WqDxIdeal.Facts] [hWqDxRefIdeal : Cert.WqDxRefIdeal.Facts] : Prop :=
  ∀ (m : (ℓ : Loc Cert.WqDxIdeal.nD Cert.WqDxIdeal.τ Cert.WqDxIdeal.sig) → Buf (Elt Ideal) ℓ) (g : Dev Cert.WqDxIdeal.nD → PrngReg)
    (m' : (ℓ : Loc Cert.WqDxRefIdeal.nD Cert.WqDxRefIdeal.τ Cert.WqDxRefIdeal.sig) → Buf (Elt Ideal) ℓ) (g' : Dev Cert.WqDxRefIdeal.nD → PrngReg), Pre_WqDxIdeal m →
    (∀ c : Dev Cert.WqDxIdeal.nD,
      m' ((c.tc : Thread Cert.WqDxRefIdeal.nD Cert.WqDxRefIdeal.τ).loc Cert.WqDxRefIdeal.main_arg0) = m ((c.tc : Thread Cert.WqDxIdeal.nD Cert.WqDxIdeal.τ).loc Cert.WqDxIdeal.main_arg0)
      ∧ m' ((c.tc : Thread Cert.WqDxRefIdeal.nD Cert.WqDxRefIdeal.τ).loc Cert.WqDxRefIdeal.main_arg1) = m ((c.tc : Thread Cert.WqDxIdeal.nD Cert.WqDxIdeal.τ).loc Cert.WqDxIdeal.main_arg1)
      ∧ m' ((c.tc : Thread Cert.WqDxRefIdeal.nD Cert.WqDxRefIdeal.τ).loc Cert.WqDxRefIdeal.main_arg2) = m ((c.tc : Thread Cert.WqDxIdeal.nD Cert.WqDxIdeal.τ).loc Cert.WqDxIdeal.main_arg2)
      ∧ m' ((c.tc : Thread Cert.WqDxRefIdeal.nD Cert.WqDxRefIdeal.τ).loc Cert.WqDxRefIdeal.main_arg3) = m ((c.tc : Thread Cert.WqDxIdeal.nD Cert.WqDxIdeal.τ).loc Cert.WqDxIdeal.main_arg3)
      ∧ m' ((c.tc : Thread Cert.WqDxRefIdeal.nD Cert.WqDxRefIdeal.τ).loc Cert.WqDxRefIdeal.main_arg4) = m ((c.tc : Thread Cert.WqDxIdeal.nD Cert.WqDxIdeal.τ).loc Cert.WqDxIdeal.main_arg4)) →
    ∃ (v0 : (c : Dev Cert.WqDxIdeal.nD) → Buf (Elt Ideal) ((c.tc : Thread Cert.WqDxIdeal.nD Cert.WqDxIdeal.τ).loc Cert.WqDxIdeal.main_v1_0)) (v1 : (c : Dev Cert.WqDxIdeal.nD) → Buf (Elt Ideal) ((c.tc : Thread Cert.WqDxIdeal.nD Cert.WqDxIdeal.τ).loc Cert.WqDxIdeal.main_v1_1)),
      θ_run (Cert.WqDxIdeal.defs (F := Ideal)) (onTc (τ := Cert.WqDxIdeal.τ) (Cert.WqDxIdeal.main (F := Ideal))) ⟨m, fun _ => 0, g⟩ (fun r => ∀ c : Dev Cert.WqDxIdeal.nD,
          r.2.mem ((c.tc : Thread Cert.WqDxIdeal.nD Cert.WqDxIdeal.τ).loc Cert.WqDxIdeal.main_v1_0) = v0 c
          ∧ r.2.mem ((c.tc : Thread Cert.WqDxIdeal.nD Cert.WqDxIdeal.τ).loc Cert.WqDxIdeal.main_v1_1) = v1 c
          ∧ r.2.mem ((c.tc : Thread Cert.WqDxIdeal.nD Cert.WqDxIdeal.τ).loc Cert.WqDxIdeal.main_arg0) = m ((c.tc : Thread Cert.WqDxIdeal.nD Cert.WqDxIdeal.τ).loc Cert.WqDxIdeal.main_arg0)
          ∧ r.2.mem ((c.tc : Thread Cert.WqDxIdeal.nD Cert.WqDxIdeal.τ).loc Cert.WqDxIdeal.main_arg1) = m ((c.tc : Thread Cert.WqDxIdeal.nD Cert.WqDxIdeal.τ).loc Cert.WqDxIdeal.main_arg1)
          ∧ r.2.mem ((c.tc : Thread Cert.WqDxIdeal.nD Cert.WqDxIdeal.τ).loc Cert.WqDxIdeal.main_arg2) = m ((c.tc : Thread Cert.WqDxIdeal.nD Cert.WqDxIdeal.τ).loc Cert.WqDxIdeal.main_arg2)
          ∧ r.2.mem ((c.tc : Thread Cert.WqDxIdeal.nD Cert.WqDxIdeal.τ).loc Cert.WqDxIdeal.main_arg3) = m ((c.tc : Thread Cert.WqDxIdeal.nD Cert.WqDxIdeal.τ).loc Cert.WqDxIdeal.main_arg3)
          ∧ r.2.mem ((c.tc : Thread Cert.WqDxIdeal.nD Cert.WqDxIdeal.τ).loc Cert.WqDxIdeal.main_arg4) = m ((c.tc : Thread Cert.WqDxIdeal.nD Cert.WqDxIdeal.τ).loc Cert.WqDxIdeal.main_arg4))
      ∧ θ_run (Cert.WqDxRefIdeal.defs (F := Ideal)) (onTc (τ := Cert.WqDxRefIdeal.τ) (Cert.WqDxRefIdeal.main (F := Ideal))) ⟨m', fun _ => 0, g'⟩ (fun r => ∀ c : Dev Cert.WqDxRefIdeal.nD,
          r.2.mem ((c.tc : Thread Cert.WqDxRefIdeal.nD Cert.WqDxRefIdeal.τ).loc Cert.WqDxRefIdeal.main_v40) = v0 c
          ∧ r.2.mem ((c.tc : Thread Cert.WqDxRefIdeal.nD Cert.WqDxRefIdeal.τ).loc Cert.WqDxRefIdeal.main_v41) = v1 c
          ∧ r.2.mem ((c.tc : Thread Cert.WqDxRefIdeal.nD Cert.WqDxRefIdeal.τ).loc Cert.WqDxRefIdeal.main_arg0) = m' ((c.tc : Thread Cert.WqDxRefIdeal.nD Cert.WqDxRefIdeal.τ).loc Cert.WqDxRefIdeal.main_arg0)
          ∧ r.2.mem ((c.tc : Thread Cert.WqDxRefIdeal.nD Cert.WqDxRefIdeal.τ).loc Cert.WqDxRefIdeal.main_arg1) = m' ((c.tc : Thread Cert.WqDxRefIdeal.nD Cert.WqDxRefIdeal.τ).loc Cert.WqDxRefIdeal.main_arg1)
          ∧ r.2.mem ((c.tc : Thread Cert.WqDxRefIdeal.nD Cert.WqDxRefIdeal.τ).loc Cert.WqDxRefIdeal.main_arg2) = m' ((c.tc : Thread Cert.WqDxRefIdeal.nD Cert.WqDxRefIdeal.τ).loc Cert.WqDxRefIdeal.main_arg2)
          ∧ r.2.mem ((c.tc : Thread Cert.WqDxRefIdeal.nD Cert.WqDxRefIdeal.τ).loc Cert.WqDxRefIdeal.main_arg3) = m' ((c.tc : Thread Cert.WqDxRefIdeal.nD Cert.WqDxRefIdeal.τ).loc Cert.WqDxRefIdeal.main_arg3)
          ∧ r.2.mem ((c.tc : Thread Cert.WqDxRefIdeal.nD Cert.WqDxRefIdeal.τ).loc Cert.WqDxRefIdeal.main_arg4) = m' ((c.tc : Thread Cert.WqDxRefIdeal.nD Cert.WqDxRefIdeal.τ).loc Cert.WqDxRefIdeal.main_arg4))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v1_0)) (v1 : (c : Dev Cert.InDxIdeal.nD) → Buf (Elt Ideal) ((c.tc : Thread Cert.InDxIdeal.nD Cert.InDxIdeal.τ).loc Cert.InDxIdeal.main_v1_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v1_0) = v0 c
          ∧ r.2.mem ((c.tc : Thread Cert.InDxIdeal.nD Cert.InDxIdeal.τ).loc Cert.InDxIdeal.main_v1_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v40) = v0 c
          ∧ r.2.mem ((c.tc : Thread Cert.InDxRefIdeal.nD Cert.InDxRefIdeal.τ).loc Cert.InDxRefIdeal.main_v41) = v1 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v4) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Wq_WqIdeal : Prop :=
  True

def algebraic_WqIdeal_WqRefIdeal [hWqIdeal : Cert.WqIdeal.Facts] [hWqRefIdeal : Cert.WqRefIdeal.Facts] : Prop :=
  ∀ (m : (ℓ : Loc Cert.WqIdeal.nD Cert.WqIdeal.τ Cert.WqIdeal.sig) → Buf (Elt Ideal) ℓ) (g : Dev Cert.WqIdeal.nD → PrngReg)
    (m' : (ℓ : Loc Cert.WqRefIdeal.nD Cert.WqRefIdeal.τ Cert.WqRefIdeal.sig) → Buf (Elt Ideal) ℓ) (g' : Dev Cert.WqRefIdeal.nD → PrngReg), Pre_WqIdeal m →
    (∀ c : Dev Cert.WqIdeal.nD,
      m' ((c.tc : Thread Cert.WqRefIdeal.nD Cert.WqRefIdeal.τ).loc Cert.WqRefIdeal.main_arg0) = m ((c.tc : Thread Cert.WqIdeal.nD Cert.WqIdeal.τ).loc Cert.WqIdeal.main_arg0)
      ∧ m' ((c.tc : Thread Cert.WqRefIdeal.nD Cert.WqRefIdeal.τ).loc Cert.WqRefIdeal.main_arg1) = m ((c.tc : Thread Cert.WqIdeal.nD Cert.WqIdeal.τ).loc Cert.WqIdeal.main_arg1)) →
    ∃ (v0 : (c : Dev Cert.WqIdeal.nD) → Buf (Elt Ideal) ((c.tc : Thread Cert.WqIdeal.nD Cert.WqIdeal.τ).loc Cert.WqIdeal.main_v0)),
      θ_run (Cert.WqIdeal.defs (F := Ideal)) (onTc (τ := Cert.WqIdeal.τ) (Cert.WqIdeal.main (F := Ideal))) ⟨m, fun _ => 0, g⟩ (fun r => ∀ c : Dev Cert.WqIdeal.nD,
          r.2.mem ((c.tc : Thread Cert.WqIdeal.nD Cert.WqIdeal.τ).loc Cert.WqIdeal.main_v0) = v0 c
          ∧ r.2.mem ((c.tc : Thread Cert.WqIdeal.nD Cert.WqIdeal.τ).loc Cert.WqIdeal.main_arg0) = m ((c.tc : Thread Cert.WqIdeal.nD Cert.WqIdeal.τ).loc Cert.WqIdeal.main_arg0)
          ∧ r.2.mem ((c.tc : Thread Cert.WqIdeal.nD Cert.WqIdeal.τ).loc Cert.WqIdeal.main_arg1) = m ((c.tc : Thread Cert.WqIdeal.nD Cert.WqIdeal.τ).loc Cert.WqIdeal.main_arg1))
      ∧ θ_run (Cert.WqRefIdeal.defs (F := Ideal)) (onTc (τ := Cert.WqRefIdeal.τ) (Cert.WqRefIdeal.main (F := Ideal))) ⟨m', fun _ => 0, g'⟩ (fun r => ∀ c : Dev Cert.WqRefIdeal.nD,
          r.2.mem ((c.tc : Thread Cert.WqRefIdeal.nD Cert.WqRefIdeal.τ).loc Cert.WqRefIdeal.main_v3) = v0 c
          ∧ r.2.mem ((c.tc : Thread Cert.WqRefIdeal.nD Cert.WqRefIdeal.τ).loc Cert.WqRefIdeal.main_arg0) = m' ((c.tc : Thread Cert.WqRefIdeal.nD Cert.WqRefIdeal.τ).loc Cert.WqRefIdeal.main_arg0)
          ∧ r.2.mem ((c.tc : Thread Cert.WqRefIdeal.nD Cert.WqRefIdeal.τ).loc Cert.WqRefIdeal.main_arg1) = m' ((c.tc : Thread Cert.WqRefIdeal.nD Cert.WqRefIdeal.τ).loc Cert.WqRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_v17) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)
      ∧ m' ((c.tc : Thread Cert.WoRefIdeal.nD Cert.WoRefIdeal.τ).loc Cert.WoRefIdeal.main_arg2) = m ((c.tc : Thread Cert.WoIdeal.nD Cert.WoIdeal.τ).loc Cert.WoIdeal.main_arg2)
      ∧ m' ((c.tc : Thread Cert.WoRefIdeal.nD Cert.WoRefIdeal.τ).loc Cert.WoRefIdeal.main_arg3) = m ((c.tc : Thread Cert.WoIdeal.nD Cert.WoIdeal.τ).loc Cert.WoIdeal.main_arg3)) →
    ∃ (v0 : (c : Dev Cert.WoIdeal.nD) → Buf (Elt Ideal) ((c.tc : Thread Cert.WoIdeal.nD Cert.WoIdeal.τ).loc Cert.WoIdeal.main_v1_0)) (v1 : (c : Dev Cert.WoIdeal.nD) → Buf (Elt Ideal) ((c.tc : Thread Cert.WoIdeal.nD Cert.WoIdeal.τ).loc Cert.WoIdeal.main_v1_1)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v1_0) = v0 c
          ∧ r.2.mem ((c.tc : Thread Cert.WoIdeal.nD Cert.WoIdeal.τ).loc Cert.WoIdeal.main_v1_1) = v1 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
          ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
          ∧ r.2.mem ((c.tc : Thread Cert.WoIdeal.nD Cert.WoIdeal.τ).loc Cert.WoIdeal.main_arg3) = m ((c.tc : Thread Cert.WoIdeal.nD Cert.WoIdeal.τ).loc Cert.WoIdeal.main_arg3))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v3) = v0 c
          ∧ r.2.mem ((c.tc : Thread Cert.WoRefIdeal.nD Cert.WoRefIdeal.τ).loc Cert.WoRefIdeal.main_v17) = v1 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1)
          ∧ r.2.mem ((c.tc : Thread Cert.WoRefIdeal.nD Cert.WoRefIdeal.τ).loc Cert.WoRefIdeal.main_arg2) = m' ((c.tc : Thread Cert.WoRefIdeal.nD Cert.WoRefIdeal.τ).loc Cert.WoRefIdeal.main_arg2)
          ∧ r.2.mem ((c.tc : Thread Cert.WoRefIdeal.nD Cert.WoRefIdeal.τ).loc Cert.WoRefIdeal.main_arg3) = m' ((c.tc : Thread Cert.WoRefIdeal.nD Cert.WoRefIdeal.τ).loc Cert.WoRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_v6) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)) (v2 : (c : Dev Cert.DownIdeal.nD) → Buf (Elt Ideal) ((c.tc : Thread Cert.DownIdeal.nD Cert.DownIdeal.τ).loc Cert.DownIdeal.main_v1_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_v1_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v54) = v0 c
          ∧ r.2.mem ((c.tc : Thread Cert.DownRefIdeal.nD Cert.DownRefIdeal.τ).loc Cert.DownRefIdeal.main_v55) = v1 c
          ∧ r.2.mem ((c.tc : Thread Cert.DownRefIdeal.nD Cert.DownRefIdeal.τ).loc Cert.DownRefIdeal.main_v56) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v21) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_GdnPost_GdnPostIdeal : Prop :=
  True

def algebraic_GdnPostIdeal_GdnPostRefIdeal [hGdnPostIdeal : Cert.GdnPostIdeal.Facts] [hGdnPostRefIdeal : Cert.GdnPostRefIdeal.Facts] : Prop :=
  ∀ (m : (ℓ : Loc Cert.GdnPostIdeal.nD Cert.GdnPostIdeal.τ Cert.GdnPostIdeal.sig) → Buf (Elt Ideal) ℓ) (g : Dev Cert.GdnPostIdeal.nD → PrngReg)
    (m' : (ℓ : Loc Cert.GdnPostRefIdeal.nD Cert.GdnPostRefIdeal.τ Cert.GdnPostRefIdeal.sig) → Buf (Elt Ideal) ℓ) (g' : Dev Cert.GdnPostRefIdeal.nD → PrngReg), Pre_GdnPostIdeal m →
    (∀ c : Dev Cert.GdnPostIdeal.nD,
      m' ((c.tc : Thread Cert.GdnPostRefIdeal.nD Cert.GdnPostRefIdeal.τ).loc Cert.GdnPostRefIdeal.main_arg0) = m ((c.tc : Thread Cert.GdnPostIdeal.nD Cert.GdnPostIdeal.τ).loc Cert.GdnPostIdeal.main_arg0)
      ∧ m' ((c.tc : Thread Cert.GdnPostRefIdeal.nD Cert.GdnPostRefIdeal.τ).loc Cert.GdnPostRefIdeal.main_arg1) = m ((c.tc : Thread Cert.GdnPostIdeal.nD Cert.GdnPostIdeal.τ).loc Cert.GdnPostIdeal.main_arg1)
      ∧ m' ((c.tc : Thread Cert.GdnPostRefIdeal.nD Cert.GdnPostRefIdeal.τ).loc Cert.GdnPostRefIdeal.main_arg2) = m ((c.tc : Thread Cert.GdnPostIdeal.nD Cert.GdnPostIdeal.τ).loc Cert.GdnPostIdeal.main_arg2)
      ∧ m' ((c.tc : Thread Cert.GdnPostRefIdeal.nD Cert.GdnPostRefIdeal.τ).loc Cert.GdnPostRefIdeal.main_arg3) = m ((c.tc : Thread Cert.GdnPostIdeal.nD Cert.GdnPostIdeal.τ).loc Cert.GdnPostIdeal.main_arg3)
      ∧ m' ((c.tc : Thread Cert.GdnPostRefIdeal.nD Cert.GdnPostRefIdeal.τ).loc Cert.GdnPostRefIdeal.main_arg4) = m ((c.tc : Thread Cert.GdnPostIdeal.nD Cert.GdnPostIdeal.τ).loc Cert.GdnPostIdeal.main_arg4)) →
    ∃ (v0 : (c : Dev Cert.GdnPostIdeal.nD) → Buf (Elt Ideal) ((c.tc : Thread Cert.GdnPostIdeal.nD Cert.GdnPostIdeal.τ).loc Cert.GdnPostIdeal.main_v0_0)) (v1 : (c : Dev Cert.GdnPostIdeal.nD) → Buf (Elt Ideal) ((c.tc : Thread Cert.GdnPostIdeal.nD Cert.GdnPostIdeal.τ).loc Cert.GdnPostIdeal.main_v0_2)),
      θ_run (Cert.GdnPostIdeal.defs (F := Ideal)) (onTc (τ := Cert.GdnPostIdeal.τ) (Cert.GdnPostIdeal.main (F := Ideal))) ⟨m, fun _ => 0, g⟩ (fun r => ∀ c : Dev Cert.GdnPostIdeal.nD,
          r.2.mem ((c.tc : Thread Cert.GdnPostIdeal.nD Cert.GdnPostIdeal.τ).loc Cert.GdnPostIdeal.main_v0_0) = v0 c
          ∧ r.2.mem ((c.tc : Thread Cert.GdnPostIdeal.nD Cert.GdnPostIdeal.τ).loc Cert.GdnPostIdeal.main_v0_2) = v1 c
          ∧ r.2.mem ((c.tc : Thread Cert.GdnPostIdeal.nD Cert.GdnPostIdeal.τ).loc Cert.GdnPostIdeal.main_arg0) = m ((c.tc : Thread Cert.GdnPostIdeal.nD Cert.GdnPostIdeal.τ).loc Cert.GdnPostIdeal.main_arg0)
          ∧ r.2.mem ((c.tc : Thread Cert.GdnPostIdeal.nD Cert.GdnPostIdeal.τ).loc Cert.GdnPostIdeal.main_arg1) = m ((c.tc : Thread Cert.GdnPostIdeal.nD Cert.GdnPostIdeal.τ).loc Cert.GdnPostIdeal.main_arg1)
          ∧ r.2.mem ((c.tc : Thread Cert.GdnPostIdeal.nD Cert.GdnPostIdeal.τ).loc Cert.GdnPostIdeal.main_arg2) = m ((c.tc : Thread Cert.GdnPostIdeal.nD Cert.GdnPostIdeal.τ).loc Cert.GdnPostIdeal.main_arg2)
          ∧ r.2.mem ((c.tc : Thread Cert.GdnPostIdeal.nD Cert.GdnPostIdeal.τ).loc Cert.GdnPostIdeal.main_arg3) = m ((c.tc : Thread Cert.GdnPostIdeal.nD Cert.GdnPostIdeal.τ).loc Cert.GdnPostIdeal.main_arg3)
          ∧ r.2.mem ((c.tc : Thread Cert.GdnPostIdeal.nD Cert.GdnPostIdeal.τ).loc Cert.GdnPostIdeal.main_arg4) = m ((c.tc : Thread Cert.GdnPostIdeal.nD Cert.GdnPostIdeal.τ).loc Cert.GdnPostIdeal.main_arg4))
      ∧ θ_run (Cert.GdnPostRefIdeal.defs (F := Ideal)) (onTc (τ := Cert.GdnPostRefIdeal.τ) (Cert.GdnPostRefIdeal.main (F := Ideal))) ⟨m', fun _ => 0, g'⟩ (fun r => ∀ c : Dev Cert.GdnPostRefIdeal.nD,
          r.2.mem ((c.tc : Thread Cert.GdnPostRefIdeal.nD Cert.GdnPostRefIdeal.τ).loc Cert.GdnPostRefIdeal.main_v53) = v0 c
          ∧ r.2.mem ((c.tc : Thread Cert.GdnPostRefIdeal.nD Cert.GdnPostRefIdeal.τ).loc Cert.GdnPostRefIdeal.main_v51) = v1 c
          ∧ r.2.mem ((c.tc : Thread Cert.GdnPostRefIdeal.nD Cert.GdnPostRefIdeal.τ).loc Cert.GdnPostRefIdeal.main_arg0) = m' ((c.tc : Thread Cert.GdnPostRefIdeal.nD Cert.GdnPostRefIdeal.τ).loc Cert.GdnPostRefIdeal.main_arg0)
          ∧ r.2.mem ((c.tc : Thread Cert.GdnPostRefIdeal.nD Cert.GdnPostRefIdeal.τ).loc Cert.GdnPostRefIdeal.main_arg1) = m' ((c.tc : Thread Cert.GdnPostRefIdeal.nD Cert.GdnPostRefIdeal.τ).loc Cert.GdnPostRefIdeal.main_arg1)
          ∧ r.2.mem ((c.tc : Thread Cert.GdnPostRefIdeal.nD Cert.GdnPostRefIdeal.τ).loc Cert.GdnPostRefIdeal.main_arg2) = m' ((c.tc : Thread Cert.GdnPostRefIdeal.nD Cert.GdnPostRefIdeal.τ).loc Cert.GdnPostRefIdeal.main_arg2)
          ∧ r.2.mem ((c.tc : Thread Cert.GdnPostRefIdeal.nD Cert.GdnPostRefIdeal.τ).loc Cert.GdnPostRefIdeal.main_arg3) = m' ((c.tc : Thread Cert.GdnPostRefIdeal.nD Cert.GdnPostRefIdeal.τ).loc Cert.GdnPostRefIdeal.main_arg3)
          ∧ r.2.mem ((c.tc : Thread Cert.GdnPostRefIdeal.nD Cert.GdnPostRefIdeal.τ).loc Cert.GdnPostRefIdeal.main_arg4) = m' ((c.tc : Thread Cert.GdnPostRefIdeal.nD Cert.GdnPostRefIdeal.τ).loc Cert.GdnPostRefIdeal.main_arg4))

def preserves_SsdPost_SsdPostIdeal : Prop :=
  True

def algebraic_SsdPostIdeal_SsdPostRefIdeal [hSsdPostIdeal : Cert.SsdPostIdeal.Facts] [hSsdPostRefIdeal : Cert.SsdPostRefIdeal.Facts] : Prop :=
  ∀ (m : (ℓ : Loc Cert.SsdPostIdeal.nD Cert.SsdPostIdeal.τ Cert.SsdPostIdeal.sig) → Buf (Elt Ideal) ℓ) (g : Dev Cert.SsdPostIdeal.nD → PrngReg)
    (m' : (ℓ : Loc Cert.SsdPostRefIdeal.nD Cert.SsdPostRefIdeal.τ Cert.SsdPostRefIdeal.sig) → Buf (Elt Ideal) ℓ) (g' : Dev Cert.SsdPostRefIdeal.nD → PrngReg), Pre_SsdPostIdeal m →
    (∀ c : Dev Cert.SsdPostIdeal.nD,
      m' ((c.tc : Thread Cert.SsdPostRefIdeal.nD Cert.SsdPostRefIdeal.τ).loc Cert.SsdPostRefIdeal.main_arg0) = m ((c.tc : Thread Cert.SsdPostIdeal.nD Cert.SsdPostIdeal.τ).loc Cert.SsdPostIdeal.main_arg0)
      ∧ m' ((c.tc : Thread Cert.SsdPostRefIdeal.nD Cert.SsdPostRefIdeal.τ).loc Cert.SsdPostRefIdeal.main_arg1) = m ((c.tc : Thread Cert.SsdPostIdeal.nD Cert.SsdPostIdeal.τ).loc Cert.SsdPostIdeal.main_arg1)
      ∧ m' ((c.tc : Thread Cert.SsdPostRefIdeal.nD Cert.SsdPostRefIdeal.τ).loc Cert.SsdPostRefIdeal.main_arg2) = m ((c.tc : Thread Cert.SsdPostIdeal.nD Cert.SsdPostIdeal.τ).loc Cert.SsdPostIdeal.main_arg2)
      ∧ m' ((c.tc : Thread Cert.SsdPostRefIdeal.nD Cert.SsdPostRefIdeal.τ).loc Cert.SsdPostRefIdeal.main_arg3) = m ((c.tc : Thread Cert.SsdPostIdeal.nD Cert.SsdPostIdeal.τ).loc Cert.SsdPostIdeal.main_arg3)
      ∧ m' ((c.tc : Thread Cert.SsdPostRefIdeal.nD Cert.SsdPostRefIdeal.τ).loc Cert.SsdPostRefIdeal.main_arg4) = m ((c.tc : Thread Cert.SsdPostIdeal.nD Cert.SsdPostIdeal.τ).loc Cert.SsdPostIdeal.main_arg4)
      ∧ m' ((c.tc : Thread Cert.SsdPostRefIdeal.nD Cert.SsdPostRefIdeal.τ).loc Cert.SsdPostRefIdeal.main_arg5) = m ((c.tc : Thread Cert.SsdPostIdeal.nD Cert.SsdPostIdeal.τ).loc Cert.SsdPostIdeal.main_arg5)
      ∧ m' ((c.tc : Thread Cert.SsdPostRefIdeal.nD Cert.SsdPostRefIdeal.τ).loc Cert.SsdPostRefIdeal.main_arg6) = m ((c.tc : Thread Cert.SsdPostIdeal.nD Cert.SsdPostIdeal.τ).loc Cert.SsdPostIdeal.main_arg6)
      ∧ m' ((c.tc : Thread Cert.SsdPostRefIdeal.nD Cert.SsdPostRefIdeal.τ).loc Cert.SsdPostRefIdeal.main_arg7) = m ((c.tc : Thread Cert.SsdPostIdeal.nD Cert.SsdPostIdeal.τ).loc Cert.SsdPostIdeal.main_arg7)) →
    ∃ (v0 : (c : Dev Cert.SsdPostIdeal.nD) → Buf (Elt Ideal) ((c.tc : Thread Cert.SsdPostIdeal.nD Cert.SsdPostIdeal.τ).loc Cert.SsdPostIdeal.main_v0_0)) (v1 : (c : Dev Cert.SsdPostIdeal.nD) → Buf (Elt Ideal) ((c.tc : Thread Cert.SsdPostIdeal.nD Cert.SsdPostIdeal.τ).loc Cert.SsdPostIdeal.main_v0_2)) (v2 : (c : Dev Cert.SsdPostIdeal.nD) → Buf (Elt Ideal) ((c.tc : Thread Cert.SsdPostIdeal.nD Cert.SsdPostIdeal.τ).loc Cert.SsdPostIdeal.main_v0_3)),
      θ_run (Cert.SsdPostIdeal.defs (F := Ideal)) (onTc (τ := Cert.SsdPostIdeal.τ) (Cert.SsdPostIdeal.main (F := Ideal))) ⟨m, fun _ => 0, g⟩ (fun r => ∀ c : Dev Cert.SsdPostIdeal.nD,
          r.2.mem ((c.tc : Thread Cert.SsdPostIdeal.nD Cert.SsdPostIdeal.τ).loc Cert.SsdPostIdeal.main_v0_0) = v0 c
          ∧ r.2.mem ((c.tc : Thread Cert.SsdPostIdeal.nD Cert.SsdPostIdeal.τ).loc Cert.SsdPostIdeal.main_v0_2) = v1 c
          ∧ r.2.mem ((c.tc : Thread Cert.SsdPostIdeal.nD Cert.SsdPostIdeal.τ).loc Cert.SsdPostIdeal.main_v0_3) = v2 c
          ∧ r.2.mem ((c.tc : Thread Cert.SsdPostIdeal.nD Cert.SsdPostIdeal.τ).loc Cert.SsdPostIdeal.main_arg0) = m ((c.tc : Thread Cert.SsdPostIdeal.nD Cert.SsdPostIdeal.τ).loc Cert.SsdPostIdeal.main_arg0)
          ∧ r.2.mem ((c.tc : Thread Cert.SsdPostIdeal.nD Cert.SsdPostIdeal.τ).loc Cert.SsdPostIdeal.main_arg1) = m ((c.tc : Thread Cert.SsdPostIdeal.nD Cert.SsdPostIdeal.τ).loc Cert.SsdPostIdeal.main_arg1)
          ∧ r.2.mem ((c.tc : Thread Cert.SsdPostIdeal.nD Cert.SsdPostIdeal.τ).loc Cert.SsdPostIdeal.main_arg2) = m ((c.tc : Thread Cert.SsdPostIdeal.nD Cert.SsdPostIdeal.τ).loc Cert.SsdPostIdeal.main_arg2)
          ∧ r.2.mem ((c.tc : Thread Cert.SsdPostIdeal.nD Cert.SsdPostIdeal.τ).loc Cert.SsdPostIdeal.main_arg3) = m ((c.tc : Thread Cert.SsdPostIdeal.nD Cert.SsdPostIdeal.τ).loc Cert.SsdPostIdeal.main_arg3)
          ∧ r.2.mem ((c.tc : Thread Cert.SsdPostIdeal.nD Cert.SsdPostIdeal.τ).loc Cert.SsdPostIdeal.main_arg4) = m ((c.tc : Thread Cert.SsdPostIdeal.nD Cert.SsdPostIdeal.τ).loc Cert.SsdPostIdeal.main_arg4)
          ∧ r.2.mem ((c.tc : Thread Cert.SsdPostIdeal.nD Cert.SsdPostIdeal.τ).loc Cert.SsdPostIdeal.main_arg5) = m ((c.tc : Thread Cert.SsdPostIdeal.nD Cert.SsdPostIdeal.τ).loc Cert.SsdPostIdeal.main_arg5)
          ∧ r.2.mem ((c.tc : Thread Cert.SsdPostIdeal.nD Cert.SsdPostIdeal.τ).loc Cert.SsdPostIdeal.main_arg6) = m ((c.tc : Thread Cert.SsdPostIdeal.nD Cert.SsdPostIdeal.τ).loc Cert.SsdPostIdeal.main_arg6)
          ∧ r.2.mem ((c.tc : Thread Cert.SsdPostIdeal.nD Cert.SsdPostIdeal.τ).loc Cert.SsdPostIdeal.main_arg7) = m ((c.tc : Thread Cert.SsdPostIdeal.nD Cert.SsdPostIdeal.τ).loc Cert.SsdPostIdeal.main_arg7))
      ∧ θ_run (Cert.SsdPostRefIdeal.defs (F := Ideal)) (onTc (τ := Cert.SsdPostRefIdeal.τ) (Cert.SsdPostRefIdeal.main (F := Ideal))) ⟨m', fun _ => 0, g'⟩ (fun r => ∀ c : Dev Cert.SsdPostRefIdeal.nD,
          r.2.mem ((c.tc : Thread Cert.SsdPostRefIdeal.nD Cert.SsdPostRefIdeal.τ).loc Cert.SsdPostRefIdeal.main_v51) = v0 c
          ∧ r.2.mem ((c.tc : Thread Cert.SsdPostRefIdeal.nD Cert.SsdPostRefIdeal.τ).loc Cert.SsdPostRefIdeal.main_v54) = v1 c
          ∧ r.2.mem ((c.tc : Thread Cert.SsdPostRefIdeal.nD Cert.SsdPostRefIdeal.τ).loc Cert.SsdPostRefIdeal.main_v32) = v2 c
          ∧ r.2.mem ((c.tc : Thread Cert.SsdPostRefIdeal.nD Cert.SsdPostRefIdeal.τ).loc Cert.SsdPostRefIdeal.main_arg0) = m' ((c.tc : Thread Cert.SsdPostRefIdeal.nD Cert.SsdPostRefIdeal.τ).loc Cert.SsdPostRefIdeal.main_arg0)
          ∧ r.2.mem ((c.tc : Thread Cert.SsdPostRefIdeal.nD Cert.SsdPostRefIdeal.τ).loc Cert.SsdPostRefIdeal.main_arg1) = m' ((c.tc : Thread Cert.SsdPostRefIdeal.nD Cert.SsdPostRefIdeal.τ).loc Cert.SsdPostRefIdeal.main_arg1)
          ∧ r.2.mem ((c.tc : Thread Cert.SsdPostRefIdeal.nD Cert.SsdPostRefIdeal.τ).loc Cert.SsdPostRefIdeal.main_arg2) = m' ((c.tc : Thread Cert.SsdPostRefIdeal.nD Cert.SsdPostRefIdeal.τ).loc Cert.SsdPostRefIdeal.main_arg2)
          ∧ r.2.mem ((c.tc : Thread Cert.SsdPostRefIdeal.nD Cert.SsdPostRefIdeal.τ).loc Cert.SsdPostRefIdeal.main_arg3) = m' ((c.tc : Thread Cert.SsdPostRefIdeal.nD Cert.SsdPostRefIdeal.τ).loc Cert.SsdPostRefIdeal.main_arg3)
          ∧ r.2.mem ((c.tc : Thread Cert.SsdPostRefIdeal.nD Cert.SsdPostRefIdeal.τ).loc Cert.SsdPostRefIdeal.main_arg4) = m' ((c.tc : Thread Cert.SsdPostRefIdeal.nD Cert.SsdPostRefIdeal.τ).loc Cert.SsdPostRefIdeal.main_arg4)
          ∧ r.2.mem ((c.tc : Thread Cert.SsdPostRefIdeal.nD Cert.SsdPostRefIdeal.τ).loc Cert.SsdPostRefIdeal.main_arg5) = m' ((c.tc : Thread Cert.SsdPostRefIdeal.nD Cert.SsdPostRefIdeal.τ).loc Cert.SsdPostRefIdeal.main_arg5)
          ∧ r.2.mem ((c.tc : Thread Cert.SsdPostRefIdeal.nD Cert.SsdPostRefIdeal.τ).loc Cert.SsdPostRefIdeal.main_arg6) = m' ((c.tc : Thread Cert.SsdPostRefIdeal.nD Cert.SsdPostRefIdeal.τ).loc Cert.SsdPostRefIdeal.main_arg6)
          ∧ r.2.mem ((c.tc : Thread Cert.SsdPostRefIdeal.nD Cert.SsdPostRefIdeal.τ).loc Cert.SsdPostRefIdeal.main_arg7) = m' ((c.tc : Thread Cert.SsdPostRefIdeal.nD Cert.SsdPostRefIdeal.τ).loc Cert.SsdPostRefIdeal.main_arg7))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamMem_AdamMemIdeal : Prop :=
  True

def algebraic_AdamMemIdeal_AdamMemRefIdeal [hAdamMemIdeal : Cert.AdamMemIdeal.Facts] [hAdamMemRefIdeal : Cert.AdamMemRefIdeal.Facts] : Prop :=
  ∀ (m : (ℓ : Loc Cert.AdamMemIdeal.nD Cert.AdamMemIdeal.τ Cert.AdamMemIdeal.sig) → Buf (Elt Ideal) ℓ) (g : Dev Cert.AdamMemIdeal.nD → PrngReg)
    (m' : (ℓ : Loc Cert.AdamMemRefIdeal.nD Cert.AdamMemRefIdeal.τ Cert.AdamMemRefIdeal.sig) → Buf (Elt Ideal) ℓ) (g' : Dev Cert.AdamMemRefIdeal.nD → PrngReg), Pre_AdamMemIdeal m →
    (∀ c : Dev Cert.AdamMemIdeal.nD,
      m' ((c.tc : Thread Cert.AdamMemRefIdeal.nD Cert.AdamMemRefIdeal.τ).loc Cert.AdamMemRefIdeal.main_arg0) = m ((c.tc : Thread Cert.AdamMemIdeal.nD Cert.AdamMemIdeal.τ).loc Cert.AdamMemIdeal.main_arg0)
      ∧ m' ((c.tc : Thread Cert.AdamMemRefIdeal.nD Cert.AdamMemRefIdeal.τ).loc Cert.AdamMemRefIdeal.main_arg1) = m ((c.tc : Thread Cert.AdamMemIdeal.nD Cert.AdamMemIdeal.τ).loc Cert.AdamMemIdeal.main_arg1)
      ∧ m' ((c.tc : Thread Cert.AdamMemRefIdeal.nD Cert.AdamMemRefIdeal.τ).loc Cert.AdamMemRefIdeal.main_arg2) = m ((c.tc : Thread Cert.AdamMemIdeal.nD Cert.AdamMemIdeal.τ).loc Cert.AdamMemIdeal.main_arg2)
      ∧ m' ((c.tc : Thread Cert.AdamMemRefIdeal.nD Cert.AdamMemRefIdeal.τ).loc Cert.AdamMemRefIdeal.main_arg3) = m ((c.tc : Thread Cert.AdamMemIdeal.nD Cert.AdamMemIdeal.τ).loc Cert.AdamMemIdeal.main_arg3)) →
    ∃ (v0 : (c : Dev Cert.AdamMemIdeal.nD) → Buf (Elt Ideal) ((c.tc : Thread Cert.AdamMemIdeal.nD Cert.AdamMemIdeal.τ).loc Cert.AdamMemIdeal.main_v0_0)) (v1 : (c : Dev Cert.AdamMemIdeal.nD) → Buf (Elt Ideal) ((c.tc : Thread Cert.AdamMemIdeal.nD Cert.AdamMemIdeal.τ).loc Cert.AdamMemIdeal.main_v0_1)) (v2 : (c : Dev Cert.AdamMemIdeal.nD) → Buf (Elt Ideal) ((c.tc : Thread Cert.AdamMemIdeal.nD Cert.AdamMemIdeal.τ).loc Cert.AdamMemIdeal.main_v0_2)) (v3 : (c : Dev Cert.AdamMemIdeal.nD) → Buf (Elt Ideal) ((c.tc : Thread Cert.AdamMemIdeal.nD Cert.AdamMemIdeal.τ).loc Cert.AdamMemIdeal.main_v0_3)),
      θ_run (Cert.AdamMemIdeal.defs (F := Ideal)) (onTc (τ := Cert.AdamMemIdeal.τ) (Cert.AdamMemIdeal.main (F := Ideal))) ⟨m, fun _ => 0, g⟩ (fun r => ∀ c : Dev Cert.AdamMemIdeal.nD,
          r.2.mem ((c.tc : Thread Cert.AdamMemIdeal.nD Cert.AdamMemIdeal.τ).loc Cert.AdamMemIdeal.main_v0_0) = v0 c
          ∧ r.2.mem ((c.tc : Thread Cert.AdamMemIdeal.nD Cert.AdamMemIdeal.τ).loc Cert.AdamMemIdeal.main_v0_1) = v1 c
          ∧ r.2.mem ((c.tc : Thread Cert.AdamMemIdeal.nD Cert.AdamMemIdeal.τ).loc Cert.AdamMemIdeal.main_v0_2) = v2 c
          ∧ r.2.mem ((c.tc : Thread Cert.AdamMemIdeal.nD Cert.AdamMemIdeal.τ).loc Cert.AdamMemIdeal.main_v0_3) = v3 c
          ∧ r.2.mem ((c.tc : Thread Cert.AdamMemIdeal.nD Cert.AdamMemIdeal.τ).loc Cert.AdamMemIdeal.main_arg0) = m ((c.tc : Thread Cert.AdamMemIdeal.nD Cert.AdamMemIdeal.τ).loc Cert.AdamMemIdeal.main_arg0)
          ∧ r.2.mem ((c.tc : Thread Cert.AdamMemIdeal.nD Cert.AdamMemIdeal.τ).loc Cert.AdamMemIdeal.main_arg1) = m ((c.tc : Thread Cert.AdamMemIdeal.nD Cert.AdamMemIdeal.τ).loc Cert.AdamMemIdeal.main_arg1)
          ∧ r.2.mem ((c.tc : Thread Cert.AdamMemIdeal.nD Cert.AdamMemIdeal.τ).loc Cert.AdamMemIdeal.main_arg2) = m ((c.tc : Thread Cert.AdamMemIdeal.nD Cert.AdamMemIdeal.τ).loc Cert.AdamMemIdeal.main_arg2)
          ∧ r.2.mem ((c.tc : Thread Cert.AdamMemIdeal.nD Cert.AdamMemIdeal.τ).loc Cert.AdamMemIdeal.main_arg3) = m ((c.tc : Thread Cert.AdamMemIdeal.nD Cert.AdamMemIdeal.τ).loc Cert.AdamMemIdeal.main_arg3))
      ∧ θ_run (Cert.AdamMemRefIdeal.defs (F := Ideal)) (onTc (τ := Cert.AdamMemRefIdeal.τ) (Cert.AdamMemRefIdeal.main (F := Ideal))) ⟨m', fun _ => 0, g'⟩ (fun r => ∀ c : Dev Cert.AdamMemRefIdeal.nD,
          r.2.mem ((c.tc : Thread Cert.AdamMemRefIdeal.nD Cert.AdamMemRefIdeal.τ).loc Cert.AdamMemRefIdeal.main_v1) = v0 c
          ∧ r.2.mem ((c.tc : Thread Cert.AdamMemRefIdeal.nD Cert.AdamMemRefIdeal.τ).loc Cert.AdamMemRefIdeal.main_v25) = v1 c
          ∧ r.2.mem ((c.tc : Thread Cert.AdamMemRefIdeal.nD Cert.AdamMemRefIdeal.τ).loc Cert.AdamMemRefIdeal.main_v6) = v2 c
          ∧ r.2.mem ((c.tc : Thread Cert.AdamMemRefIdeal.nD Cert.AdamMemRefIdeal.τ).loc Cert.AdamMemRefIdeal.main_v12) = v3 c
          ∧ r.2.mem ((c.tc : Thread Cert.AdamMemRefIdeal.nD Cert.AdamMemRefIdeal.τ).loc Cert.AdamMemRefIdeal.main_arg0) = m' ((c.tc : Thread Cert.AdamMemRefIdeal.nD Cert.AdamMemRefIdeal.τ).loc Cert.AdamMemRefIdeal.main_arg0)
          ∧ r.2.mem ((c.tc : Thread Cert.AdamMemRefIdeal.nD Cert.AdamMemRefIdeal.τ).loc Cert.AdamMemRefIdeal.main_arg1) = m' ((c.tc : Thread Cert.AdamMemRefIdeal.nD Cert.AdamMemRefIdeal.τ).loc Cert.AdamMemRefIdeal.main_arg1)
          ∧ r.2.mem ((c.tc : Thread Cert.AdamMemRefIdeal.nD Cert.AdamMemRefIdeal.τ).loc Cert.AdamMemRefIdeal.main_arg2) = m' ((c.tc : Thread Cert.AdamMemRefIdeal.nD Cert.AdamMemRefIdeal.τ).loc Cert.AdamMemRefIdeal.main_arg2)
          ∧ r.2.mem ((c.tc : Thread Cert.AdamMemRefIdeal.nD Cert.AdamMemRefIdeal.τ).loc Cert.AdamMemRefIdeal.main_arg3) = m' ((c.tc : Thread Cert.AdamMemRefIdeal.nD Cert.AdamMemRefIdeal.τ).loc Cert.AdamMemRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)) (v3 : (c : Dev Cert.AdamNormIdeal.nD) → Buf (Elt Ideal) ((c.tc : Thread Cert.AdamNormIdeal.nD Cert.AdamNormIdeal.τ).loc Cert.AdamNormIdeal.main_v0_3)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_v0_3) = v3 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_arg1) = v0 c
          ∧ r.2.mem ((c.tc : Thread Cert.AdamNormRefIdeal.nD Cert.AdamNormRefIdeal.τ).loc Cert.AdamNormRefIdeal.main_v23) = v1 c
          ∧ r.2.mem ((c.tc : Thread Cert.AdamNormRefIdeal.nD Cert.AdamNormRefIdeal.τ).loc Cert.AdamNormRefIdeal.main_v4) = v2 c
          ∧ r.2.mem ((c.tc : Thread Cert.AdamNormRefIdeal.nD Cert.AdamNormRefIdeal.τ).loc Cert.AdamNormRefIdeal.main_v10) = v3 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)) (v3 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_v0_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_arg1) = v0 c
          ∧ r.2.mem ((c.tc : Thread Cert.AdamGateRefIdeal.nD Cert.AdamGateRefIdeal.τ).loc Cert.AdamGateRefIdeal.main_v23) = v1 c
          ∧ r.2.mem ((c.tc : Thread Cert.AdamGateRefIdeal.nD Cert.AdamGateRefIdeal.τ).loc Cert.AdamGateRefIdeal.main_v4) = v2 c
          ∧ r.2.mem ((c.tc : Thread Cert.AdamGateRefIdeal.nD Cert.AdamGateRefIdeal.τ).loc Cert.AdamGateRefIdeal.main_v10) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamHead_AdamHeadIdeal : Prop :=
  True

def algebraic_AdamHeadIdeal_AdamHeadRefIdeal [hAdamHeadIdeal : Cert.AdamHeadIdeal.Facts] [hAdamHeadRefIdeal : Cert.AdamHeadRefIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadRefIdeal.nD Cert.AdamHeadRefIdeal.τ Cert.AdamHeadRefIdeal.sig) → Buf (Elt Ideal) ℓ) (g' : Dev Cert.AdamHeadRefIdeal.nD → PrngReg), Pre_AdamHeadIdeal m →
    (∀ c : Dev Cert.AdamHeadIdeal.nD,
      m' ((c.tc : Thread Cert.AdamHeadRefIdeal.nD Cert.AdamHeadRefIdeal.τ).loc Cert.AdamHeadRefIdeal.main_arg0) = m ((c.tc : Thread Cert.AdamHeadIdeal.nD Cert.AdamHeadIdeal.τ).loc Cert.AdamHeadIdeal.main_arg0)
      ∧ m' ((c.tc : Thread Cert.AdamHeadRefIdeal.nD Cert.AdamHeadRefIdeal.τ).loc Cert.AdamHeadRefIdeal.main_arg1) = m ((c.tc : Thread Cert.AdamHeadIdeal.nD Cert.AdamHeadIdeal.τ).loc Cert.AdamHeadIdeal.main_arg1)
      ∧ m' ((c.tc : Thread Cert.AdamHeadRefIdeal.nD Cert.AdamHeadRefIdeal.τ).loc Cert.AdamHeadRefIdeal.main_arg2) = m ((c.tc : Thread Cert.AdamHeadIdeal.nD Cert.AdamHeadIdeal.τ).loc Cert.AdamHeadIdeal.main_arg2)
      ∧ m' ((c.tc : Thread Cert.AdamHeadRefIdeal.nD Cert.AdamHeadRefIdeal.τ).loc Cert.AdamHeadRefIdeal.main_arg3) = m ((c.tc : Thread Cert.AdamHeadIdeal.nD Cert.AdamHeadIdeal.τ).loc Cert.AdamHeadIdeal.main_arg3)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)) (v3 : (c : Dev Cert.AdamHeadIdeal.nD) → Buf (Elt Ideal) ((c.tc : Thread Cert.AdamHeadIdeal.nD Cert.AdamHeadIdeal.τ).loc Cert.AdamHeadIdeal.main_v0_3)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_v0_3) = v3 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ θ_run (Cert.AdamHeadRefIdeal.defs (F := Ideal)) (onTc (τ := Cert.AdamHeadRefIdeal.τ) (Cert.AdamHeadRefIdeal.main (F := Ideal))) ⟨m', fun _ => 0, g'⟩ (fun r => ∀ c : Dev Cert.AdamHeadRefIdeal.nD,
          r.2.mem ((c.tc : Thread Cert.AdamHeadRefIdeal.nD Cert.AdamHeadRefIdeal.τ).loc Cert.AdamHeadRefIdeal.main_arg1) = v0 c
          ∧ r.2.mem ((c.tc : Thread Cert.AdamHeadRefIdeal.nD Cert.AdamHeadRefIdeal.τ).loc Cert.AdamHeadRefIdeal.main_v23) = v1 c
          ∧ r.2.mem ((c.tc : Thread Cert.AdamHeadRefIdeal.nD Cert.AdamHeadRefIdeal.τ).loc Cert.AdamHeadRefIdeal.main_v4) = v2 c
          ∧ r.2.mem ((c.tc : Thread Cert.AdamHeadRefIdeal.nD Cert.AdamHeadRefIdeal.τ).loc Cert.AdamHeadRefIdeal.main_v10) = v3 c
          ∧ r.2.mem ((c.tc : Thread Cert.AdamHeadRefIdeal.nD Cert.AdamHeadRefIdeal.τ).loc Cert.AdamHeadRefIdeal.main_arg0) = m' ((c.tc : Thread Cert.AdamHeadRefIdeal.nD Cert.AdamHeadRefIdeal.τ).loc Cert.AdamHeadRefIdeal.main_arg0)
          ∧ r.2.mem ((c.tc : Thread Cert.AdamHeadRefIdeal.nD Cert.AdamHeadRefIdeal.τ).loc Cert.AdamHeadRefIdeal.main_arg1) = m' ((c.tc : Thread Cert.AdamHeadRefIdeal.nD Cert.AdamHeadRefIdeal.τ).loc Cert.AdamHeadRefIdeal.main_arg1)
          ∧ r.2.mem ((c.tc : Thread Cert.AdamHeadRefIdeal.nD Cert.AdamHeadRefIdeal.τ).loc Cert.AdamHeadRefIdeal.main_arg2) = m' ((c.tc : Thread Cert.AdamHeadRefIdeal.nD Cert.AdamHeadRefIdeal.τ).loc Cert.AdamHeadRefIdeal.main_arg2)
          ∧ r.2.mem ((c.tc : Thread Cert.AdamHeadRefIdeal.nD Cert.AdamHeadRefIdeal.τ).loc Cert.AdamHeadRefIdeal.main_arg3) = m' ((c.tc : Thread Cert.AdamHeadRefIdeal.nD Cert.AdamHeadRefIdeal.τ).loc Cert.AdamHeadRefIdeal.main_arg3))

def preserves_AdamSkip_AdamSkipIdeal : Prop :=
  True

def algebraic_AdamSkipIdeal_AdamSkipRefIdeal [hAdamSkipIdeal : Cert.AdamSkipIdeal.Facts] [hAdamSkipRefIdeal : Cert.AdamSkipRefIdeal.Facts] : Prop :=
  ∀ (m : (ℓ : Loc Cert.AdamSkipIdeal.nD Cert.AdamSkipIdeal.τ Cert.AdamSkipIdeal.sig) → Buf (Elt Ideal) ℓ) (g : Dev Cert.AdamSkipIdeal.nD → PrngReg)
    (m' : (ℓ : Loc Cert.AdamSkipRefIdeal.nD Cert.AdamSkipRefIdeal.τ Cert.AdamSkipRefIdeal.sig) → Buf (Elt Ideal) ℓ) (g' : Dev Cert.AdamSkipRefIdeal.nD → PrngReg), Pre_AdamSkipIdeal m →
    (∀ c : Dev Cert.AdamSkipIdeal.nD,
      m' ((c.tc : Thread Cert.AdamSkipRefIdeal.nD Cert.AdamSkipRefIdeal.τ).loc Cert.AdamSkipRefIdeal.main_arg0) = m ((c.tc : Thread Cert.AdamSkipIdeal.nD Cert.AdamSkipIdeal.τ).loc Cert.AdamSkipIdeal.main_arg0)
      ∧ m' ((c.tc : Thread Cert.AdamSkipRefIdeal.nD Cert.AdamSkipRefIdeal.τ).loc Cert.AdamSkipRefIdeal.main_arg1) = m ((c.tc : Thread Cert.AdamSkipIdeal.nD Cert.AdamSkipIdeal.τ).loc Cert.AdamSkipIdeal.main_arg1)
      ∧ m' ((c.tc : Thread Cert.AdamSkipRefIdeal.nD Cert.AdamSkipRefIdeal.τ).loc Cert.AdamSkipRefIdeal.main_arg2) = m ((c.tc : Thread Cert.AdamSkipIdeal.nD Cert.AdamSkipIdeal.τ).loc Cert.AdamSkipIdeal.main_arg2)
      ∧ m' ((c.tc : Thread Cert.AdamSkipRefIdeal.nD Cert.AdamSkipRefIdeal.τ).loc Cert.AdamSkipRefIdeal.main_arg3) = m ((c.tc : Thread Cert.AdamSkipIdeal.nD Cert.AdamSkipIdeal.τ).loc Cert.AdamSkipIdeal.main_arg3)) →
    ∃ (v0 : (c : Dev Cert.AdamSkipIdeal.nD) → Buf (Elt Ideal) ((c.tc : Thread Cert.AdamSkipIdeal.nD Cert.AdamSkipIdeal.τ).loc Cert.AdamSkipIdeal.main_v0_0)) (v1 : (c : Dev Cert.AdamSkipIdeal.nD) → Buf (Elt Ideal) ((c.tc : Thread Cert.AdamSkipIdeal.nD Cert.AdamSkipIdeal.τ).loc Cert.AdamSkipIdeal.main_v0_1)) (v2 : (c : Dev Cert.AdamSkipIdeal.nD) → Buf (Elt Ideal) ((c.tc : Thread Cert.AdamSkipIdeal.nD Cert.AdamSkipIdeal.τ).loc Cert.AdamSkipIdeal.main_v0_2)) (v3 : (c : Dev Cert.AdamSkipIdeal.nD) → Buf (Elt Ideal) ((c.tc : Thread Cert.AdamSkipIdeal.nD Cert.AdamSkipIdeal.τ).loc Cert.AdamSkipIdeal.main_v0_3)),
      θ_run (Cert.AdamSkipIdeal.defs (F := Ideal)) (onTc (τ := Cert.AdamSkipIdeal.τ) (Cert.AdamSkipIdeal.main (F := Ideal))) ⟨m, fun _ => 0, g⟩ (fun r => ∀ c : Dev Cert.AdamSkipIdeal.nD,
          r.2.mem ((c.tc : Thread Cert.AdamSkipIdeal.nD Cert.AdamSkipIdeal.τ).loc Cert.AdamSkipIdeal.main_v0_0) = v0 c
          ∧ r.2.mem ((c.tc : Thread Cert.AdamSkipIdeal.nD Cert.AdamSkipIdeal.τ).loc Cert.AdamSkipIdeal.main_v0_1) = v1 c
          ∧ r.2.mem ((c.tc : Thread Cert.AdamSkipIdeal.nD Cert.AdamSkipIdeal.τ).loc Cert.AdamSkipIdeal.main_v0_2) = v2 c
          ∧ r.2.mem ((c.tc : Thread Cert.AdamSkipIdeal.nD Cert.AdamSkipIdeal.τ).loc Cert.AdamSkipIdeal.main_v0_3) = v3 c
          ∧ r.2.mem ((c.tc : Thread Cert.AdamSkipIdeal.nD Cert.AdamSkipIdeal.τ).loc Cert.AdamSkipIdeal.main_arg0) = m ((c.tc : Thread Cert.AdamSkipIdeal.nD Cert.AdamSkipIdeal.τ).loc Cert.AdamSkipIdeal.main_arg0)
          ∧ r.2.mem ((c.tc : Thread Cert.AdamSkipIdeal.nD Cert.AdamSkipIdeal.τ).loc Cert.AdamSkipIdeal.main_arg1) = m ((c.tc : Thread Cert.AdamSkipIdeal.nD Cert.AdamSkipIdeal.τ).loc Cert.AdamSkipIdeal.main_arg1)
          ∧ r.2.mem ((c.tc : Thread Cert.AdamSkipIdeal.nD Cert.AdamSkipIdeal.τ).loc Cert.AdamSkipIdeal.main_arg2) = m ((c.tc : Thread Cert.AdamSkipIdeal.nD Cert.AdamSkipIdeal.τ).loc Cert.AdamSkipIdeal.main_arg2)
          ∧ r.2.mem ((c.tc : Thread Cert.AdamSkipIdeal.nD Cert.AdamSkipIdeal.τ).loc Cert.AdamSkipIdeal.main_arg3) = m ((c.tc : Thread Cert.AdamSkipIdeal.nD Cert.AdamSkipIdeal.τ).loc Cert.AdamSkipIdeal.main_arg3))
      ∧ θ_run (Cert.AdamSkipRefIdeal.defs (F := Ideal)) (onTc (τ := Cert.AdamSkipRefIdeal.τ) (Cert.AdamSkipRefIdeal.main (F := Ideal))) ⟨m', fun _ => 0, g'⟩ (fun r => ∀ c : Dev Cert.AdamSkipRefIdeal.nD,
          r.2.mem ((c.tc : Thread Cert.AdamSkipRefIdeal.nD Cert.AdamSkipRefIdeal.τ).loc Cert.AdamSkipRefIdeal.main_arg1) = v0 c
          ∧ r.2.mem ((c.tc : Thread Cert.AdamSkipRefIdeal.nD Cert.AdamSkipRefIdeal.τ).loc Cert.AdamSkipRefIdeal.main_v23) = v1 c
          ∧ r.2.mem ((c.tc : Thread Cert.AdamSkipRefIdeal.nD Cert.AdamSkipRefIdeal.τ).loc Cert.AdamSkipRefIdeal.main_v4) = v2 c
          ∧ r.2.mem ((c.tc : Thread Cert.AdamSkipRefIdeal.nD Cert.AdamSkipRefIdeal.τ).loc Cert.AdamSkipRefIdeal.main_v10) = v3 c
          ∧ r.2.mem ((c.tc : Thread Cert.AdamSkipRefIdeal.nD Cert.AdamSkipRefIdeal.τ).loc Cert.AdamSkipRefIdeal.main_arg0) = m' ((c.tc : Thread Cert.AdamSkipRefIdeal.nD Cert.AdamSkipRefIdeal.τ).loc Cert.AdamSkipRefIdeal.main_arg0)
          ∧ r.2.mem ((c.tc : Thread Cert.AdamSkipRefIdeal.nD Cert.AdamSkipRefIdeal.τ).loc Cert.AdamSkipRefIdeal.main_arg1) = m' ((c.tc : Thread Cert.AdamSkipRefIdeal.nD Cert.AdamSkipRefIdeal.τ).loc Cert.AdamSkipRefIdeal.main_arg1)
          ∧ r.2.mem ((c.tc : Thread Cert.AdamSkipRefIdeal.nD Cert.AdamSkipRefIdeal.τ).loc Cert.AdamSkipRefIdeal.main_arg2) = m' ((c.tc : Thread Cert.AdamSkipRefIdeal.nD Cert.AdamSkipRefIdeal.τ).loc Cert.AdamSkipRefIdeal.main_arg2)
          ∧ r.2.mem ((c.tc : Thread Cert.AdamSkipRefIdeal.nD Cert.AdamSkipRefIdeal.τ).loc Cert.AdamSkipRefIdeal.main_arg3) = m' ((c.tc : Thread Cert.AdamSkipRefIdeal.nD Cert.AdamSkipRefIdeal.τ).loc Cert.AdamSkipRefIdeal.main_arg3))

def preserves_AdamBias_AdamBiasIdeal : Prop :=
  True

def algebraic_AdamBiasIdeal_AdamBiasRefIdeal [hAdamBiasIdeal : Cert.AdamBiasIdeal.Facts] [hAdamBiasRefIdeal : Cert.AdamBiasRefIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasRefIdeal.nD Cert.AdamBiasRefIdeal.τ Cert.AdamBiasRefIdeal.sig) → Buf (Elt Ideal) ℓ) (g' : Dev Cert.AdamBiasRefIdeal.nD → PrngReg), Pre_AdamBiasIdeal m →
    (∀ c : Dev Cert.AdamBiasIdeal.nD,
      m' ((c.tc : Thread Cert.AdamBiasRefIdeal.nD Cert.AdamBiasRefIdeal.τ).loc Cert.AdamBiasRefIdeal.main_arg0) = m ((c.tc : Thread Cert.AdamBiasIdeal.nD Cert.AdamBiasIdeal.τ).loc Cert.AdamBiasIdeal.main_arg0)
      ∧ m' ((c.tc : Thread Cert.AdamBiasRefIdeal.nD Cert.AdamBiasRefIdeal.τ).loc Cert.AdamBiasRefIdeal.main_arg1) = m ((c.tc : Thread Cert.AdamBiasIdeal.nD Cert.AdamBiasIdeal.τ).loc Cert.AdamBiasIdeal.main_arg1)
      ∧ m' ((c.tc : Thread Cert.AdamBiasRefIdeal.nD Cert.AdamBiasRefIdeal.τ).loc Cert.AdamBiasRefIdeal.main_arg2) = m ((c.tc : Thread Cert.AdamBiasIdeal.nD Cert.AdamBiasIdeal.τ).loc Cert.AdamBiasIdeal.main_arg2)
      ∧ m' ((c.tc : Thread Cert.AdamBiasRefIdeal.nD Cert.AdamBiasRefIdeal.τ).loc Cert.AdamBiasRefIdeal.main_arg3) = m ((c.tc : Thread Cert.AdamBiasIdeal.nD Cert.AdamBiasIdeal.τ).loc Cert.AdamBiasIdeal.main_arg3)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)) (v3 : (c : Dev Cert.AdamBiasIdeal.nD) → Buf (Elt Ideal) ((c.tc : Thread Cert.AdamBiasIdeal.nD Cert.AdamBiasIdeal.τ).loc Cert.AdamBiasIdeal.main_v0_3)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_v0_3) = v3 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ θ_run (Cert.AdamBiasRefIdeal.defs (F := Ideal)) (onTc (τ := Cert.AdamBiasRefIdeal.τ) (Cert.AdamBiasRefIdeal.main (F := Ideal))) ⟨m', fun _ => 0, g'⟩ (fun r => ∀ c : Dev Cert.AdamBiasRefIdeal.nD,
          r.2.mem ((c.tc : Thread Cert.AdamBiasRefIdeal.nD Cert.AdamBiasRefIdeal.τ).loc Cert.AdamBiasRefIdeal.main_arg1) = v0 c
          ∧ r.2.mem ((c.tc : Thread Cert.AdamBiasRefIdeal.nD Cert.AdamBiasRefIdeal.τ).loc Cert.AdamBiasRefIdeal.main_v23) = v1 c
          ∧ r.2.mem ((c.tc : Thread Cert.AdamBiasRefIdeal.nD Cert.AdamBiasRefIdeal.τ).loc Cert.AdamBiasRefIdeal.main_v4) = v2 c
          ∧ r.2.mem ((c.tc : Thread Cert.AdamBiasRefIdeal.nD Cert.AdamBiasRefIdeal.τ).loc Cert.AdamBiasRefIdeal.main_v10) = v3 c
          ∧ r.2.mem ((c.tc : Thread Cert.AdamBiasRefIdeal.nD Cert.AdamBiasRefIdeal.τ).loc Cert.AdamBiasRefIdeal.main_arg0) = m' ((c.tc : Thread Cert.AdamBiasRefIdeal.nD Cert.AdamBiasRefIdeal.τ).loc Cert.AdamBiasRefIdeal.main_arg0)
          ∧ r.2.mem ((c.tc : Thread Cert.AdamBiasRefIdeal.nD Cert.AdamBiasRefIdeal.τ).loc Cert.AdamBiasRefIdeal.main_arg1) = m' ((c.tc : Thread Cert.AdamBiasRefIdeal.nD Cert.AdamBiasRefIdeal.τ).loc Cert.AdamBiasRefIdeal.main_arg1)
          ∧ r.2.mem ((c.tc : Thread Cert.AdamBiasRefIdeal.nD Cert.AdamBiasRefIdeal.τ).loc Cert.AdamBiasRefIdeal.main_arg2) = m' ((c.tc : Thread Cert.AdamBiasRefIdeal.nD Cert.AdamBiasRefIdeal.τ).loc Cert.AdamBiasRefIdeal.main_arg2)
          ∧ r.2.mem ((c.tc : Thread Cert.AdamBiasRefIdeal.nD Cert.AdamBiasRefIdeal.τ).loc Cert.AdamBiasRefIdeal.main_arg3) = m' ((c.tc : Thread Cert.AdamBiasRefIdeal.nD Cert.AdamBiasRefIdeal.τ).loc Cert.AdamBiasRefIdeal.main_arg3))

def preserves_AdamTaps_AdamTapsIdeal : Prop :=
  True

def algebraic_AdamTapsIdeal_AdamTapsRefIdeal [hAdamTapsIdeal : Cert.AdamTapsIdeal.Facts] [hAdamTapsRefIdeal : Cert.AdamTapsRefIdeal.Facts] : Prop :=
  ∀ (m : (ℓ : Loc Cert.AdamTapsIdeal.nD Cert.AdamTapsIdeal.τ Cert.AdamTapsIdeal.sig) → Buf (Elt Ideal) ℓ) (g : Dev Cert.AdamTapsIdeal.nD → PrngReg)
    (m' : (ℓ : Loc Cert.AdamTapsRefIdeal.nD Cert.AdamTapsRefIdeal.τ Cert.AdamTapsRefIdeal.sig) → Buf (Elt Ideal) ℓ) (g' : Dev Cert.AdamTapsRefIdeal.nD → PrngReg), Pre_AdamTapsIdeal m →
    (∀ c : Dev Cert.AdamTapsIdeal.nD,
      m' ((c.tc : Thread Cert.AdamTapsRefIdeal.nD Cert.AdamTapsRefIdeal.τ).loc Cert.AdamTapsRefIdeal.main_arg0) = m ((c.tc : Thread Cert.AdamTapsIdeal.nD Cert.AdamTapsIdeal.τ).loc Cert.AdamTapsIdeal.main_arg0)
      ∧ m' ((c.tc : Thread Cert.AdamTapsRefIdeal.nD Cert.AdamTapsRefIdeal.τ).loc Cert.AdamTapsRefIdeal.main_arg1) = m ((c.tc : Thread Cert.AdamTapsIdeal.nD Cert.AdamTapsIdeal.τ).loc Cert.AdamTapsIdeal.main_arg1)
      ∧ m' ((c.tc : Thread Cert.AdamTapsRefIdeal.nD Cert.AdamTapsRefIdeal.τ).loc Cert.AdamTapsRefIdeal.main_arg2) = m ((c.tc : Thread Cert.AdamTapsIdeal.nD Cert.AdamTapsIdeal.τ).loc Cert.AdamTapsIdeal.main_arg2)
      ∧ m' ((c.tc : Thread Cert.AdamTapsRefIdeal.nD Cert.AdamTapsRefIdeal.τ).loc Cert.AdamTapsRefIdeal.main_arg3) = m ((c.tc : Thread Cert.AdamTapsIdeal.nD Cert.AdamTapsIdeal.τ).loc Cert.AdamTapsIdeal.main_arg3)) →
    ∃ (v0 : (c : Dev Cert.AdamTapsIdeal.nD) → Buf (Elt Ideal) ((c.tc : Thread Cert.AdamTapsIdeal.nD Cert.AdamTapsIdeal.τ).loc Cert.AdamTapsIdeal.main_v0_0)) (v1 : (c : Dev Cert.AdamTapsIdeal.nD) → Buf (Elt Ideal) ((c.tc : Thread Cert.AdamTapsIdeal.nD Cert.AdamTapsIdeal.τ).loc Cert.AdamTapsIdeal.main_v0_1)) (v2 : (c : Dev Cert.AdamTapsIdeal.nD) → Buf (Elt Ideal) ((c.tc : Thread Cert.AdamTapsIdeal.nD Cert.AdamTapsIdeal.τ).loc Cert.AdamTapsIdeal.main_v0_2)) (v3 : (c : Dev Cert.AdamTapsIdeal.nD) → Buf (Elt Ideal) ((c.tc : Thread Cert.AdamTapsIdeal.nD Cert.AdamTapsIdeal.τ).loc Cert.AdamTapsIdeal.main_v0_3)),
      θ_run (Cert.AdamTapsIdeal.defs (F := Ideal)) (onTc (τ := Cert.AdamTapsIdeal.τ) (Cert.AdamTapsIdeal.main (F := Ideal))) ⟨m, fun _ => 0, g⟩ (fun r => ∀ c : Dev Cert.AdamTapsIdeal.nD,
          r.2.mem ((c.tc : Thread Cert.AdamTapsIdeal.nD Cert.AdamTapsIdeal.τ).loc Cert.AdamTapsIdeal.main_v0_0) = v0 c
          ∧ r.2.mem ((c.tc : Thread Cert.AdamTapsIdeal.nD Cert.AdamTapsIdeal.τ).loc Cert.AdamTapsIdeal.main_v0_1) = v1 c
          ∧ r.2.mem ((c.tc : Thread Cert.AdamTapsIdeal.nD Cert.AdamTapsIdeal.τ).loc Cert.AdamTapsIdeal.main_v0_2) = v2 c
          ∧ r.2.mem ((c.tc : Thread Cert.AdamTapsIdeal.nD Cert.AdamTapsIdeal.τ).loc Cert.AdamTapsIdeal.main_v0_3) = v3 c
          ∧ r.2.mem ((c.tc : Thread Cert.AdamTapsIdeal.nD Cert.AdamTapsIdeal.τ).loc Cert.AdamTapsIdeal.main_arg0) = m ((c.tc : Thread Cert.AdamTapsIdeal.nD Cert.AdamTapsIdeal.τ).loc Cert.AdamTapsIdeal.main_arg0)
          ∧ r.2.mem ((c.tc : Thread Cert.AdamTapsIdeal.nD Cert.AdamTapsIdeal.τ).loc Cert.AdamTapsIdeal.main_arg1) = m ((c.tc : Thread Cert.AdamTapsIdeal.nD Cert.AdamTapsIdeal.τ).loc Cert.AdamTapsIdeal.main_arg1)
          ∧ r.2.mem ((c.tc : Thread Cert.AdamTapsIdeal.nD Cert.AdamTapsIdeal.τ).loc Cert.AdamTapsIdeal.main_arg2) = m ((c.tc : Thread Cert.AdamTapsIdeal.nD Cert.AdamTapsIdeal.τ).loc Cert.AdamTapsIdeal.main_arg2)
          ∧ r.2.mem ((c.tc : Thread Cert.AdamTapsIdeal.nD Cert.AdamTapsIdeal.τ).loc Cert.AdamTapsIdeal.main_arg3) = m ((c.tc : Thread Cert.AdamTapsIdeal.nD Cert.AdamTapsIdeal.τ).loc Cert.AdamTapsIdeal.main_arg3))
      ∧ θ_run (Cert.AdamTapsRefIdeal.defs (F := Ideal)) (onTc (τ := Cert.AdamTapsRefIdeal.τ) (Cert.AdamTapsRefIdeal.main (F := Ideal))) ⟨m', fun _ => 0, g'⟩ (fun r => ∀ c : Dev Cert.AdamTapsRefIdeal.nD,
          r.2.mem ((c.tc : Thread Cert.AdamTapsRefIdeal.nD Cert.AdamTapsRefIdeal.τ).loc Cert.AdamTapsRefIdeal.main_arg1) = v0 c
          ∧ r.2.mem ((c.tc : Thread Cert.AdamTapsRefIdeal.nD Cert.AdamTapsRefIdeal.τ).loc Cert.AdamTapsRefIdeal.main_v23) = v1 c
          ∧ r.2.mem ((c.tc : Thread Cert.AdamTapsRefIdeal.nD Cert.AdamTapsRefIdeal.τ).loc Cert.AdamTapsRefIdeal.main_v4) = v2 c
          ∧ r.2.mem ((c.tc : Thread Cert.AdamTapsRefIdeal.nD Cert.AdamTapsRefIdeal.τ).loc Cert.AdamTapsRefIdeal.main_v10) = v3 c
          ∧ r.2.mem ((c.tc : Thread Cert.AdamTapsRefIdeal.nD Cert.AdamTapsRefIdeal.τ).loc Cert.AdamTapsRefIdeal.main_arg0) = m' ((c.tc : Thread Cert.AdamTapsRefIdeal.nD Cert.AdamTapsRefIdeal.τ).loc Cert.AdamTapsRefIdeal.main_arg0)
          ∧ r.2.mem ((c.tc : Thread Cert.AdamTapsRefIdeal.nD Cert.AdamTapsRefIdeal.τ).loc Cert.AdamTapsRefIdeal.main_arg1) = m' ((c.tc : Thread Cert.AdamTapsRefIdeal.nD Cert.AdamTapsRefIdeal.τ).loc Cert.AdamTapsRefIdeal.main_arg1)
          ∧ r.2.mem ((c.tc : Thread Cert.AdamTapsRefIdeal.nD Cert.AdamTapsRefIdeal.τ).loc Cert.AdamTapsRefIdeal.main_arg2) = m' ((c.tc : Thread Cert.AdamTapsRefIdeal.nD Cert.AdamTapsRefIdeal.τ).loc Cert.AdamTapsRefIdeal.main_arg2)
          ∧ r.2.mem ((c.tc : Thread Cert.AdamTapsRefIdeal.nD Cert.AdamTapsRefIdeal.τ).loc Cert.AdamTapsRefIdeal.main_arg3) = m' ((c.tc : Thread Cert.AdamTapsRefIdeal.nD Cert.AdamTapsRefIdeal.τ).loc Cert.AdamTapsRefIdeal.main_arg3))

def preserves_AdamFilter_AdamFilterIdeal : Prop :=
  True

def algebraic_AdamFilterIdeal_AdamFilterRefIdeal [hAdamFilterIdeal : Cert.AdamFilterIdeal.Facts] [hAdamFilterRefIdeal : Cert.AdamFilterRefIdeal.Facts] : Prop :=
  ∀ (m : (ℓ : Loc Cert.AdamFilterIdeal.nD Cert.AdamFilterIdeal.τ Cert.AdamFilterIdeal.sig) → Buf (Elt Ideal) ℓ) (g : Dev Cert.AdamFilterIdeal.nD → PrngReg)
    (m' : (ℓ : Loc Cert.AdamFilterRefIdeal.nD Cert.AdamFilterRefIdeal.τ Cert.AdamFilterRefIdeal.sig) → Buf (Elt Ideal) ℓ) (g' : Dev Cert.AdamFilterRefIdeal.nD → PrngReg), Pre_AdamFilterIdeal m →
    (∀ c : Dev Cert.AdamFilterIdeal.nD,
      m' ((c.tc : Thread Cert.AdamFilterRefIdeal.nD Cert.AdamFilterRefIdeal.τ).loc Cert.AdamFilterRefIdeal.main_arg0) = m ((c.tc : Thread Cert.AdamFilterIdeal.nD Cert.AdamFilterIdeal.τ).loc Cert.AdamFilterIdeal.main_arg0)
      ∧ m' ((c.tc : Thread Cert.AdamFilterRefIdeal.nD Cert.AdamFilterRefIdeal.τ).loc Cert.AdamFilterRefIdeal.main_arg1) = m ((c.tc : Thread Cert.AdamFilterIdeal.nD Cert.AdamFilterIdeal.τ).loc Cert.AdamFilterIdeal.main_arg1)
      ∧ m' ((c.tc : Thread Cert.AdamFilterRefIdeal.nD Cert.AdamFilterRefIdeal.τ).loc Cert.AdamFilterRefIdeal.main_arg2) = m ((c.tc : Thread Cert.AdamFilterIdeal.nD Cert.AdamFilterIdeal.τ).loc Cert.AdamFilterIdeal.main_arg2)
      ∧ m' ((c.tc : Thread Cert.AdamFilterRefIdeal.nD Cert.AdamFilterRefIdeal.τ).loc Cert.AdamFilterRefIdeal.main_arg3) = m ((c.tc : Thread Cert.AdamFilterIdeal.nD Cert.AdamFilterIdeal.τ).loc Cert.AdamFilterIdeal.main_arg3)) →
    ∃ (v0 : (c : Dev Cert.AdamFilterIdeal.nD) → Buf (Elt Ideal) ((c.tc : Thread Cert.AdamFilterIdeal.nD Cert.AdamFilterIdeal.τ).loc Cert.AdamFilterIdeal.main_v0_0)) (v1 : (c : Dev Cert.AdamFilterIdeal.nD) → Buf (Elt Ideal) ((c.tc : Thread Cert.AdamFilterIdeal.nD Cert.AdamFilterIdeal.τ).loc Cert.AdamFilterIdeal.main_v0_1)) (v2 : (c : Dev Cert.AdamFilterIdeal.nD) → Buf (Elt Ideal) ((c.tc : Thread Cert.AdamFilterIdeal.nD Cert.AdamFilterIdeal.τ).loc Cert.AdamFilterIdeal.main_v0_2)) (v3 : (c : Dev Cert.AdamFilterIdeal.nD) → Buf (Elt Ideal) ((c.tc : Thread Cert.AdamFilterIdeal.nD Cert.AdamFilterIdeal.τ).loc Cert.AdamFilterIdeal.main_v0_3)),
      θ_run (Cert.AdamFilterIdeal.defs (F := Ideal)) (onTc (τ := Cert.AdamFilterIdeal.τ) (Cert.AdamFilterIdeal.main (F := Ideal))) ⟨m, fun _ => 0, g⟩ (fun r => ∀ c : Dev Cert.AdamFilterIdeal.nD,
          r.2.mem ((c.tc : Thread Cert.AdamFilterIdeal.nD Cert.AdamFilterIdeal.τ).loc Cert.AdamFilterIdeal.main_v0_0) = v0 c
          ∧ r.2.mem ((c.tc : Thread Cert.AdamFilterIdeal.nD Cert.AdamFilterIdeal.τ).loc Cert.AdamFilterIdeal.main_v0_1) = v1 c
          ∧ r.2.mem ((c.tc : Thread Cert.AdamFilterIdeal.nD Cert.AdamFilterIdeal.τ).loc Cert.AdamFilterIdeal.main_v0_2) = v2 c
          ∧ r.2.mem ((c.tc : Thread Cert.AdamFilterIdeal.nD Cert.AdamFilterIdeal.τ).loc Cert.AdamFilterIdeal.main_v0_3) = v3 c
          ∧ r.2.mem ((c.tc : Thread Cert.AdamFilterIdeal.nD Cert.AdamFilterIdeal.τ).loc Cert.AdamFilterIdeal.main_arg0) = m ((c.tc : Thread Cert.AdamFilterIdeal.nD Cert.AdamFilterIdeal.τ).loc Cert.AdamFilterIdeal.main_arg0)
          ∧ r.2.mem ((c.tc : Thread Cert.AdamFilterIdeal.nD Cert.AdamFilterIdeal.τ).loc Cert.AdamFilterIdeal.main_arg1) = m ((c.tc : Thread Cert.AdamFilterIdeal.nD Cert.AdamFilterIdeal.τ).loc Cert.AdamFilterIdeal.main_arg1)
          ∧ r.2.mem ((c.tc : Thread Cert.AdamFilterIdeal.nD Cert.AdamFilterIdeal.τ).loc Cert.AdamFilterIdeal.main_arg2) = m ((c.tc : Thread Cert.AdamFilterIdeal.nD Cert.AdamFilterIdeal.τ).loc Cert.AdamFilterIdeal.main_arg2)
          ∧ r.2.mem ((c.tc : Thread Cert.AdamFilterIdeal.nD Cert.AdamFilterIdeal.τ).loc Cert.AdamFilterIdeal.main_arg3) = m ((c.tc : Thread Cert.AdamFilterIdeal.nD Cert.AdamFilterIdeal.τ).loc Cert.AdamFilterIdeal.main_arg3))
      ∧ θ_run (Cert.AdamFilterRefIdeal.defs (F := Ideal)) (onTc (τ := Cert.AdamFilterRefIdeal.τ) (Cert.AdamFilterRefIdeal.main (F := Ideal))) ⟨m', fun _ => 0, g'⟩ (fun r => ∀ c : Dev Cert.AdamFilterRefIdeal.nD,
          r.2.mem ((c.tc : Thread Cert.AdamFilterRefIdeal.nD Cert.AdamFilterRefIdeal.τ).loc Cert.AdamFilterRefIdeal.main_arg1) = v0 c
          ∧ r.2.mem ((c.tc : Thread Cert.AdamFilterRefIdeal.nD Cert.AdamFilterRefIdeal.τ).loc Cert.AdamFilterRefIdeal.main_v23) = v1 c
          ∧ r.2.mem ((c.tc : Thread Cert.AdamFilterRefIdeal.nD Cert.AdamFilterRefIdeal.τ).loc Cert.AdamFilterRefIdeal.main_v4) = v2 c
          ∧ r.2.mem ((c.tc : Thread Cert.AdamFilterRefIdeal.nD Cert.AdamFilterRefIdeal.τ).loc Cert.AdamFilterRefIdeal.main_v10) = v3 c
          ∧ r.2.mem ((c.tc : Thread Cert.AdamFilterRefIdeal.nD Cert.AdamFilterRefIdeal.τ).loc Cert.AdamFilterRefIdeal.main_arg0) = m' ((c.tc : Thread Cert.AdamFilterRefIdeal.nD Cert.AdamFilterRefIdeal.τ).loc Cert.AdamFilterRefIdeal.main_arg0)
          ∧ r.2.mem ((c.tc : Thread Cert.AdamFilterRefIdeal.nD Cert.AdamFilterRefIdeal.τ).loc Cert.AdamFilterRefIdeal.main_arg1) = m' ((c.tc : Thread Cert.AdamFilterRefIdeal.nD Cert.AdamFilterRefIdeal.τ).loc Cert.AdamFilterRefIdeal.main_arg1)
          ∧ r.2.mem ((c.tc : Thread Cert.AdamFilterRefIdeal.nD Cert.AdamFilterRefIdeal.τ).loc Cert.AdamFilterRefIdeal.main_arg2) = m' ((c.tc : Thread Cert.AdamFilterRefIdeal.nD Cert.AdamFilterRefIdeal.τ).loc Cert.AdamFilterRefIdeal.main_arg2)
          ∧ r.2.mem ((c.tc : Thread Cert.AdamFilterRefIdeal.nD Cert.AdamFilterRefIdeal.τ).loc Cert.AdamFilterRefIdeal.main_arg3) = m' ((c.tc : Thread Cert.AdamFilterRefIdeal.nD Cert.AdamFilterRefIdeal.τ).loc Cert.AdamFilterRefIdeal.main_arg3))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v3) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Keys_KeysIdeal : Prop :=
  True

def algebraic_KeysIdeal_KeysRefIdeal [hKeysIdeal : Cert.KeysIdeal.Facts] [hKeysRefIdeal : Cert.KeysRefIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysRefIdeal.nD Cert.KeysRefIdeal.τ Cert.KeysRefIdeal.sig) → Buf (Elt Ideal) ℓ) (g' : Dev Cert.KeysRefIdeal.nD → PrngReg), Pre_KeysIdeal m →
    (∀ c : Dev Cert.KeysIdeal.nD,
      m' ((c.tc : Thread Cert.KeysRefIdeal.nD Cert.KeysRefIdeal.τ).loc Cert.KeysRefIdeal.main_arg0) = m ((c.tc : Thread Cert.KeysIdeal.nD Cert.KeysIdeal.τ).loc Cert.KeysIdeal.main_arg0)
      ∧ m' ((c.tc : Thread Cert.KeysRefIdeal.nD Cert.KeysRefIdeal.τ).loc Cert.KeysRefIdeal.main_arg1) = m ((c.tc : Thread Cert.KeysIdeal.nD Cert.KeysIdeal.τ).loc Cert.KeysIdeal.main_arg1)) →
    ∃ (v0 : (c : Dev Cert.KeysIdeal.nD) → Buf (Elt Ideal) ((c.tc : Thread Cert.KeysIdeal.nD Cert.KeysIdeal.τ).loc Cert.KeysIdeal.main_v0)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v0) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ θ_run (Cert.KeysRefIdeal.defs (F := Ideal)) (onTc (τ := Cert.KeysRefIdeal.τ) (Cert.KeysRefIdeal.main (F := Ideal))) ⟨m', fun _ => 0, g'⟩ (fun r => ∀ c : Dev Cert.KeysRefIdeal.nD,
          r.2.mem ((c.tc : Thread Cert.KeysRefIdeal.nD Cert.KeysRefIdeal.τ).loc Cert.KeysRefIdeal.main_v2) = v0 c
          ∧ r.2.mem ((c.tc : Thread Cert.KeysRefIdeal.nD Cert.KeysRefIdeal.τ).loc Cert.KeysRefIdeal.main_arg0) = m' ((c.tc : Thread Cert.KeysRefIdeal.nD Cert.KeysRefIdeal.τ).loc Cert.KeysRefIdeal.main_arg0)
          ∧ r.2.mem ((c.tc : Thread Cert.KeysRefIdeal.nD Cert.KeysRefIdeal.τ).loc Cert.KeysRefIdeal.main_arg1) = m' ((c.tc : Thread Cert.KeysRefIdeal.nD Cert.KeysRefIdeal.τ).loc Cert.KeysRefIdeal.main_arg1))

def preserves_KeysDw_KeysDwIdeal : Prop :=
  True

def algebraic_KeysDwIdeal_KeysDwRefIdeal [hKeysDwIdeal : Cert.KeysDwIdeal.Facts] [hKeysDwRefIdeal : Cert.KeysDwRefIdeal.Facts] : Prop :=
  ∀ (m : (ℓ : Loc Cert.KeysDwIdeal.nD Cert.KeysDwIdeal.τ Cert.KeysDwIdeal.sig) → Buf (Elt Ideal) ℓ) (g : Dev Cert.KeysDwIdeal.nD → PrngReg)
    (m' : (ℓ : Loc Cert.KeysDwRefIdeal.nD Cert.KeysDwRefIdeal.τ Cert.KeysDwRefIdeal.sig) → Buf (Elt Ideal) ℓ) (g' : Dev Cert.KeysDwRefIdeal.nD → PrngReg), Pre_KeysDwIdeal m →
    (∀ c : Dev Cert.KeysDwIdeal.nD,
      m' ((c.tc : Thread Cert.KeysDwRefIdeal.nD Cert.KeysDwRefIdeal.τ).loc Cert.KeysDwRefIdeal.main_arg0) = m ((c.tc : Thread Cert.KeysDwIdeal.nD Cert.KeysDwIdeal.τ).loc Cert.KeysDwIdeal.main_arg0)
      ∧ m' ((c.tc : Thread Cert.KeysDwRefIdeal.nD Cert.KeysDwRefIdeal.τ).loc Cert.KeysDwRefIdeal.main_arg1) = m ((c.tc : Thread Cert.KeysDwIdeal.nD Cert.KeysDwIdeal.τ).loc Cert.KeysDwIdeal.main_arg1)) →
    ∃ (v0 : (c : Dev Cert.KeysDwIdeal.nD) → Buf (Elt Ideal) ((c.tc : Thread Cert.KeysDwIdeal.nD Cert.KeysDwIdeal.τ).loc Cert.KeysDwIdeal.main_v0)),
      θ_run (Cert.KeysDwIdeal.defs (F := Ideal)) (onTc (τ := Cert.KeysDwIdeal.τ) (Cert.KeysDwIdeal.main (F := Ideal))) ⟨m, fun _ => 0, g⟩ (fun r => ∀ c : Dev Cert.KeysDwIdeal.nD,
          r.2.mem ((c.tc : Thread Cert.KeysDwIdeal.nD Cert.KeysDwIdeal.τ).loc Cert.KeysDwIdeal.main_v0) = v0 c
          ∧ r.2.mem ((c.tc : Thread Cert.KeysDwIdeal.nD Cert.KeysDwIdeal.τ).loc Cert.KeysDwIdeal.main_arg0) = m ((c.tc : Thread Cert.KeysDwIdeal.nD Cert.KeysDwIdeal.τ).loc Cert.KeysDwIdeal.main_arg0)
          ∧ r.2.mem ((c.tc : Thread Cert.KeysDwIdeal.nD Cert.KeysDwIdeal.τ).loc Cert.KeysDwIdeal.main_arg1) = m ((c.tc : Thread Cert.KeysDwIdeal.nD Cert.KeysDwIdeal.τ).loc Cert.KeysDwIdeal.main_arg1))
      ∧ θ_run (Cert.KeysDwRefIdeal.defs (F := Ideal)) (onTc (τ := Cert.KeysDwRefIdeal.τ) (Cert.KeysDwRefIdeal.main (F := Ideal))) ⟨m', fun _ => 0, g'⟩ (fun r => ∀ c : Dev Cert.KeysDwRefIdeal.nD,
          r.2.mem ((c.tc : Thread Cert.KeysDwRefIdeal.nD Cert.KeysDwRefIdeal.τ).loc Cert.KeysDwRefIdeal.main_v5) = v0 c
          ∧ r.2.mem ((c.tc : Thread Cert.KeysDwRefIdeal.nD Cert.KeysDwRefIdeal.τ).loc Cert.KeysDwRefIdeal.main_arg0) = m' ((c.tc : Thread Cert.KeysDwRefIdeal.nD Cert.KeysDwRefIdeal.τ).loc Cert.KeysDwRefIdeal.main_arg0)
          ∧ r.2.mem ((c.tc : Thread Cert.KeysDwRefIdeal.nD Cert.KeysDwRefIdeal.τ).loc Cert.KeysDwRefIdeal.main_arg1) = m' ((c.tc : Thread Cert.KeysDwRefIdeal.nD Cert.KeysDwRefIdeal.τ).loc Cert.KeysDwRefIdeal.main_arg1))

def preserves_KeysDx_KeysDxIdeal : Prop :=
  True

def algebraic_KeysDxIdeal_KeysDxRefIdeal [hKeysDxIdeal : Cert.KeysDxIdeal.Facts] [hKeysDxRefIdeal : Cert.KeysDxRefIdeal.Facts] : Prop :=
  ∀ (m : (ℓ : Loc Cert.KeysDxIdeal.nD Cert.KeysDxIdeal.τ Cert.KeysDxIdeal.sig) → Buf (Elt Ideal) ℓ) (g : Dev Cert.KeysDxIdeal.nD → PrngReg)
    (m' : (ℓ : Loc Cert.KeysDxRefIdeal.nD Cert.KeysDxRefIdeal.τ Cert.KeysDxRefIdeal.sig) → Buf (Elt Ideal) ℓ) (g' : Dev Cert.KeysDxRefIdeal.nD → PrngReg), Pre_KeysDxIdeal m →
    (∀ c : Dev Cert.KeysDxIdeal.nD,
      m' ((c.tc : Thread Cert.KeysDxRefIdeal.nD Cert.KeysDxRefIdeal.τ).loc Cert.KeysDxRefIdeal.main_arg0) = m ((c.tc : Thread Cert.KeysDxIdeal.nD Cert.KeysDxIdeal.τ).loc Cert.KeysDxIdeal.main_arg0)
      ∧ m' ((c.tc : Thread Cert.KeysDxRefIdeal.nD Cert.KeysDxRefIdeal.τ).loc Cert.KeysDxRefIdeal.main_arg1) = m ((c.tc : Thread Cert.KeysDxIdeal.nD Cert.KeysDxIdeal.τ).loc Cert.KeysDxIdeal.main_arg1)) →
    ∃ (v0 : (c : Dev Cert.KeysDxIdeal.nD) → Buf (Elt Ideal) ((c.tc : Thread Cert.KeysDxIdeal.nD Cert.KeysDxIdeal.τ).loc Cert.KeysDxIdeal.main_v0)),
      θ_run (Cert.KeysDxIdeal.defs (F := Ideal)) (onTc (τ := Cert.KeysDxIdeal.τ) (Cert.KeysDxIdeal.main (F := Ideal))) ⟨m, fun _ => 0, g⟩ (fun r => ∀ c : Dev Cert.KeysDxIdeal.nD,
          r.2.mem ((c.tc : Thread Cert.KeysDxIdeal.nD Cert.KeysDxIdeal.τ).loc Cert.KeysDxIdeal.main_v0) = v0 c
          ∧ r.2.mem ((c.tc : Thread Cert.KeysDxIdeal.nD Cert.KeysDxIdeal.τ).loc Cert.KeysDxIdeal.main_arg0) = m ((c.tc : Thread Cert.KeysDxIdeal.nD Cert.KeysDxIdeal.τ).loc Cert.KeysDxIdeal.main_arg0)
          ∧ r.2.mem ((c.tc : Thread Cert.KeysDxIdeal.nD Cert.KeysDxIdeal.τ).loc Cert.KeysDxIdeal.main_arg1) = m ((c.tc : Thread Cert.KeysDxIdeal.nD Cert.KeysDxIdeal.τ).loc Cert.KeysDxIdeal.main_arg1))
      ∧ θ_run (Cert.KeysDxRefIdeal.defs (F := Ideal)) (onTc (τ := Cert.KeysDxRefIdeal.τ) (Cert.KeysDxRefIdeal.main (F := Ideal))) ⟨m', fun _ => 0, g'⟩ (fun r => ∀ c : Dev Cert.KeysDxRefIdeal.nD,
          r.2.mem ((c.tc : Thread Cert.KeysDxRefIdeal.nD Cert.KeysDxRefIdeal.τ).loc Cert.KeysDxRefIdeal.main_v3) = v0 c
          ∧ r.2.mem ((c.tc : Thread Cert.KeysDxRefIdeal.nD Cert.KeysDxRefIdeal.τ).loc Cert.KeysDxRefIdeal.main_arg0) = m' ((c.tc : Thread Cert.KeysDxRefIdeal.nD Cert.KeysDxRefIdeal.τ).loc Cert.KeysDxRefIdeal.main_arg0)
          ∧ r.2.mem ((c.tc : Thread Cert.KeysDxRefIdeal.nD Cert.KeysDxRefIdeal.τ).loc Cert.KeysDxRefIdeal.main_arg1) = m' ((c.tc : Thread Cert.KeysDxRefIdeal.nD Cert.KeysDxRefIdeal.τ).loc Cert.KeysDxRefIdeal.main_arg1))

def preserves_ValuesDx_ValuesDxIdeal : Prop :=
  True

def algebraic_ValuesDxIdeal_ValuesDxRefIdeal [hValuesDxIdeal : Cert.ValuesDxIdeal.Facts] [hValuesDxRefIdeal : Cert.ValuesDxRefIdeal.Facts] : Prop :=
  ∀ (m : (ℓ : Loc Cert.ValuesDxIdeal.nD Cert.ValuesDxIdeal.τ Cert.ValuesDxIdeal.sig) → Buf (Elt Ideal) ℓ) (g : Dev Cert.ValuesDxIdeal.nD → PrngReg)
    (m' : (ℓ : Loc Cert.ValuesDxRefIdeal.nD Cert.ValuesDxRefIdeal.τ Cert.ValuesDxRefIdeal.sig) → Buf (Elt Ideal) ℓ) (g' : Dev Cert.ValuesDxRefIdeal.nD → PrngReg), Pre_ValuesDxIdeal m →
    (∀ c : Dev Cert.ValuesDxIdeal.nD,
      m' ((c.tc : Thread Cert.ValuesDxRefIdeal.nD Cert.ValuesDxRefIdeal.τ).loc Cert.ValuesDxRefIdeal.main_arg0) = m ((c.tc : Thread Cert.ValuesDxIdeal.nD Cert.ValuesDxIdeal.τ).loc Cert.ValuesDxIdeal.main_arg0)
      ∧ m' ((c.tc : Thread Cert.ValuesDxRefIdeal.nD Cert.ValuesDxRefIdeal.τ).loc Cert.ValuesDxRefIdeal.main_arg1) = m ((c.tc : Thread Cert.ValuesDxIdeal.nD Cert.ValuesDxIdeal.τ).loc Cert.ValuesDxIdeal.main_arg1)
      ∧ m' ((c.tc : Thread Cert.ValuesDxRefIdeal.nD Cert.ValuesDxRefIdeal.τ).loc Cert.ValuesDxRefIdeal.main_arg2) = m ((c.tc : Thread Cert.ValuesDxIdeal.nD Cert.ValuesDxIdeal.τ).loc Cert.ValuesDxIdeal.main_arg2)) →
    ∃ (v0 : (c : Dev Cert.ValuesDxIdeal.nD) → Buf (Elt Ideal) ((c.tc : Thread Cert.ValuesDxIdeal.nD Cert.ValuesDxIdeal.τ).loc Cert.ValuesDxIdeal.main_v0)),
      θ_run (Cert.ValuesDxIdeal.defs (F := Ideal)) (onTc (τ := Cert.ValuesDxIdeal.τ) (Cert.ValuesDxIdeal.main (F := Ideal))) ⟨m, fun _ => 0, g⟩ (fun r => ∀ c : Dev Cert.ValuesDxIdeal.nD,
          r.2.mem ((c.tc : Thread Cert.ValuesDxIdeal.nD Cert.ValuesDxIdeal.τ).loc Cert.ValuesDxIdeal.main_v0) = v0 c
          ∧ r.2.mem ((c.tc : Thread Cert.ValuesDxIdeal.nD Cert.ValuesDxIdeal.τ).loc Cert.ValuesDxIdeal.main_arg0) = m ((c.tc : Thread Cert.ValuesDxIdeal.nD Cert.ValuesDxIdeal.τ).loc Cert.ValuesDxIdeal.main_arg0)
          ∧ r.2.mem ((c.tc : Thread Cert.ValuesDxIdeal.nD Cert.ValuesDxIdeal.τ).loc Cert.ValuesDxIdeal.main_arg1) = m ((c.tc : Thread Cert.ValuesDxIdeal.nD Cert.ValuesDxIdeal.τ).loc Cert.ValuesDxIdeal.main_arg1)
          ∧ r.2.mem ((c.tc : Thread Cert.ValuesDxIdeal.nD Cert.ValuesDxIdeal.τ).loc Cert.ValuesDxIdeal.main_arg2) = m ((c.tc : Thread Cert.ValuesDxIdeal.nD Cert.ValuesDxIdeal.τ).loc Cert.ValuesDxIdeal.main_arg2))
      ∧ θ_run (Cert.ValuesDxRefIdeal.defs (F := Ideal)) (onTc (τ := Cert.ValuesDxRefIdeal.τ) (Cert.ValuesDxRefIdeal.main (F := Ideal))) ⟨m', fun _ => 0, g'⟩ (fun r => ∀ c : Dev Cert.ValuesDxRefIdeal.nD,
          r.2.mem ((c.tc : Thread Cert.ValuesDxRefIdeal.nD Cert.ValuesDxRefIdeal.τ).loc Cert.ValuesDxRefIdeal.main_v4) = v0 c
          ∧ r.2.mem ((c.tc : Thread Cert.ValuesDxRefIdeal.nD Cert.ValuesDxRefIdeal.τ).loc Cert.ValuesDxRefIdeal.main_arg0) = m' ((c.tc : Thread Cert.ValuesDxRefIdeal.nD Cert.ValuesDxRefIdeal.τ).loc Cert.ValuesDxRefIdeal.main_arg0)
          ∧ r.2.mem ((c.tc : Thread Cert.ValuesDxRefIdeal.nD Cert.ValuesDxRefIdeal.τ).loc Cert.ValuesDxRefIdeal.main_arg1) = m' ((c.tc : Thread Cert.ValuesDxRefIdeal.nD Cert.ValuesDxRefIdeal.τ).loc Cert.ValuesDxRefIdeal.main_arg1)
          ∧ r.2.mem ((c.tc : Thread Cert.ValuesDxRefIdeal.nD Cert.ValuesDxRefIdeal.τ).loc Cert.ValuesDxRefIdeal.main_arg2) = m' ((c.tc : Thread Cert.ValuesDxRefIdeal.nD Cert.ValuesDxRefIdeal.τ).loc Cert.ValuesDxRefIdeal.main_arg2))

def preserves_RowNorm_RowNormIdeal : Prop :=
  True

def algebraic_RowNormIdeal_RowNormRefIdeal [hRowNormIdeal : Cert.RowNormIdeal.Facts] [hRowNormRefIdeal : Cert.RowNormRefIdeal.Facts] : Prop :=
  ∀ (m : (ℓ : Loc Cert.RowNormIdeal.nD Cert.RowNormIdeal.τ Cert.RowNormIdeal.sig) → Buf (Elt Ideal) ℓ) (g : Dev Cert.RowNormIdeal.nD → PrngReg)
    (m' : (ℓ : Loc Cert.RowNormRefIdeal.nD Cert.RowNormRefIdeal.τ Cert.RowNormRefIdeal.sig) → Buf (Elt Ideal) ℓ) (g' : Dev Cert.RowNormRefIdeal.nD → PrngReg), Pre_RowNormIdeal m →
    (∀ c : Dev Cert.RowNormIdeal.nD,
      m' ((c.tc : Thread Cert.RowNormRefIdeal.nD Cert.RowNormRefIdeal.τ).loc Cert.RowNormRefIdeal.main_arg0) = m ((c.tc : Thread Cert.RowNormIdeal.nD Cert.RowNormIdeal.τ).loc Cert.RowNormIdeal.main_arg0)
      ∧ m' ((c.tc : Thread Cert.RowNormRefIdeal.nD Cert.RowNormRefIdeal.τ).loc Cert.RowNormRefIdeal.main_arg1) = m ((c.tc : Thread Cert.RowNormIdeal.nD Cert.RowNormIdeal.τ).loc Cert.RowNormIdeal.main_arg1)) →
    ∃ (v0 : (c : Dev Cert.RowNormIdeal.nD) → Buf (Elt Ideal) ((c.tc : Thread Cert.RowNormIdeal.nD Cert.RowNormIdeal.τ).loc Cert.RowNormIdeal.main_v1)),
      θ_run (Cert.RowNormIdeal.defs (F := Ideal)) (onTc (τ := Cert.RowNormIdeal.τ) (Cert.RowNormIdeal.main (F := Ideal))) ⟨m, fun _ => 0, g⟩ (fun r => ∀ c : Dev Cert.RowNormIdeal.nD,
          r.2.mem ((c.tc : Thread Cert.RowNormIdeal.nD Cert.RowNormIdeal.τ).loc Cert.RowNormIdeal.main_v1) = v0 c
          ∧ r.2.mem ((c.tc : Thread Cert.RowNormIdeal.nD Cert.RowNormIdeal.τ).loc Cert.RowNormIdeal.main_arg0) = m ((c.tc : Thread Cert.RowNormIdeal.nD Cert.RowNormIdeal.τ).loc Cert.RowNormIdeal.main_arg0)
          ∧ r.2.mem ((c.tc : Thread Cert.RowNormIdeal.nD Cert.RowNormIdeal.τ).loc Cert.RowNormIdeal.main_arg1) = m ((c.tc : Thread Cert.RowNormIdeal.nD Cert.RowNormIdeal.τ).loc Cert.RowNormIdeal.main_arg1))
      ∧ θ_run (Cert.RowNormRefIdeal.defs (F := Ideal)) (onTc (τ := Cert.RowNormRefIdeal.τ) (Cert.RowNormRefIdeal.main (F := Ideal))) ⟨m', fun _ => 0, g'⟩ (fun r => ∀ c : Dev Cert.RowNormRefIdeal.nD,
          r.2.mem ((c.tc : Thread Cert.RowNormRefIdeal.nD Cert.RowNormRefIdeal.τ).loc Cert.RowNormRefIdeal.main_v13) = v0 c
          ∧ r.2.mem ((c.tc : Thread Cert.RowNormRefIdeal.nD Cert.RowNormRefIdeal.τ).loc Cert.RowNormRefIdeal.main_arg0) = m' ((c.tc : Thread Cert.RowNormRefIdeal.nD Cert.RowNormRefIdeal.τ).loc Cert.RowNormRefIdeal.main_arg0)
          ∧ r.2.mem ((c.tc : Thread Cert.RowNormRefIdeal.nD Cert.RowNormRefIdeal.τ).loc Cert.RowNormRefIdeal.main_arg1) = m' ((c.tc : Thread Cert.RowNormRefIdeal.nD Cert.RowNormRefIdeal.τ).loc Cert.RowNormRefIdeal.main_arg1))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v1)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v1) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v13) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_MemNormDx_MemNormDxIdeal : Prop :=
  True

def algebraic_MemNormDxIdeal_MemNormDxRefIdeal [hMemNormDxIdeal : Cert.MemNormDxIdeal.Facts] [hMemNormDxRefIdeal : Cert.MemNormDxRefIdeal.Facts] : Prop :=
  ∀ (m : (ℓ : Loc Cert.MemNormDxIdeal.nD Cert.MemNormDxIdeal.τ Cert.MemNormDxIdeal.sig) → Buf (Elt Ideal) ℓ) (g : Dev Cert.MemNormDxIdeal.nD → PrngReg)
    (m' : (ℓ : Loc Cert.MemNormDxRefIdeal.nD Cert.MemNormDxRefIdeal.τ Cert.MemNormDxRefIdeal.sig) → Buf (Elt Ideal) ℓ) (g' : Dev Cert.MemNormDxRefIdeal.nD → PrngReg), Pre_MemNormDxIdeal m →
    (∀ c : Dev Cert.MemNormDxIdeal.nD,
      m' ((c.tc : Thread Cert.MemNormDxRefIdeal.nD Cert.MemNormDxRefIdeal.τ).loc Cert.MemNormDxRefIdeal.main_arg0) = m ((c.tc : Thread Cert.MemNormDxIdeal.nD Cert.MemNormDxIdeal.τ).loc Cert.MemNormDxIdeal.main_arg0)
      ∧ m' ((c.tc : Thread Cert.MemNormDxRefIdeal.nD Cert.MemNormDxRefIdeal.τ).loc Cert.MemNormDxRefIdeal.main_arg1) = m ((c.tc : Thread Cert.MemNormDxIdeal.nD Cert.MemNormDxIdeal.τ).loc Cert.MemNormDxIdeal.main_arg1)
      ∧ m' ((c.tc : Thread Cert.MemNormDxRefIdeal.nD Cert.MemNormDxRefIdeal.τ).loc Cert.MemNormDxRefIdeal.main_arg2) = m ((c.tc : Thread Cert.MemNormDxIdeal.nD Cert.MemNormDxIdeal.τ).loc Cert.MemNormDxIdeal.main_arg2)) →
    ∃ (v0 : (c : Dev Cert.MemNormDxIdeal.nD) → Buf (Elt Ideal) ((c.tc : Thread Cert.MemNormDxIdeal.nD Cert.MemNormDxIdeal.τ).loc Cert.MemNormDxIdeal.main_v1_0)) (v1 : (c : Dev Cert.MemNormDxIdeal.nD) → Buf (Elt Ideal) ((c.tc : Thread Cert.MemNormDxIdeal.nD Cert.MemNormDxIdeal.τ).loc Cert.MemNormDxIdeal.main_v1_1)),
      θ_run (Cert.MemNormDxIdeal.defs (F := Ideal)) (onTc (τ := Cert.MemNormDxIdeal.τ) (Cert.MemNormDxIdeal.main (F := Ideal))) ⟨m, fun _ => 0, g⟩ (fun r => ∀ c : Dev Cert.MemNormDxIdeal.nD,
          r.2.mem ((c.tc : Thread Cert.MemNormDxIdeal.nD Cert.MemNormDxIdeal.τ).loc Cert.MemNormDxIdeal.main_v1_0) = v0 c
          ∧ r.2.mem ((c.tc : Thread Cert.MemNormDxIdeal.nD Cert.MemNormDxIdeal.τ).loc Cert.MemNormDxIdeal.main_v1_1) = v1 c
          ∧ r.2.mem ((c.tc : Thread Cert.MemNormDxIdeal.nD Cert.MemNormDxIdeal.τ).loc Cert.MemNormDxIdeal.main_arg0) = m ((c.tc : Thread Cert.MemNormDxIdeal.nD Cert.MemNormDxIdeal.τ).loc Cert.MemNormDxIdeal.main_arg0)
          ∧ r.2.mem ((c.tc : Thread Cert.MemNormDxIdeal.nD Cert.MemNormDxIdeal.τ).loc Cert.MemNormDxIdeal.main_arg1) = m ((c.tc : Thread Cert.MemNormDxIdeal.nD Cert.MemNormDxIdeal.τ).loc Cert.MemNormDxIdeal.main_arg1)
          ∧ r.2.mem ((c.tc : Thread Cert.MemNormDxIdeal.nD Cert.MemNormDxIdeal.τ).loc Cert.MemNormDxIdeal.main_arg2) = m ((c.tc : Thread Cert.MemNormDxIdeal.nD Cert.MemNormDxIdeal.τ).loc Cert.MemNormDxIdeal.main_arg2))
      ∧ θ_run (Cert.MemNormDxRefIdeal.defs (F := Ideal)) (onTc (τ := Cert.MemNormDxRefIdeal.τ) (Cert.MemNormDxRefIdeal.main (F := Ideal))) ⟨m', fun _ => 0, g'⟩ (fun r => ∀ c : Dev Cert.MemNormDxRefIdeal.nD,
          r.2.mem ((c.tc : Thread Cert.MemNormDxRefIdeal.nD Cert.MemNormDxRefIdeal.τ).loc Cert.MemNormDxRefIdeal.main_v35) = v0 c
          ∧ r.2.mem ((c.tc : Thread Cert.MemNormDxRefIdeal.nD Cert.MemNormDxRefIdeal.τ).loc Cert.MemNormDxRefIdeal.main_v36) = v1 c
          ∧ r.2.mem ((c.tc : Thread Cert.MemNormDxRefIdeal.nD Cert.MemNormDxRefIdeal.τ).loc Cert.MemNormDxRefIdeal.main_arg0) = m' ((c.tc : Thread Cert.MemNormDxRefIdeal.nD Cert.MemNormDxRefIdeal.τ).loc Cert.MemNormDxRefIdeal.main_arg0)
          ∧ r.2.mem ((c.tc : Thread Cert.MemNormDxRefIdeal.nD Cert.MemNormDxRefIdeal.τ).loc Cert.MemNormDxRefIdeal.main_arg1) = m' ((c.tc : Thread Cert.MemNormDxRefIdeal.nD Cert.MemNormDxRefIdeal.τ).loc Cert.MemNormDxRefIdeal.main_arg1)
          ∧ r.2.mem ((c.tc : Thread Cert.MemNormDxRefIdeal.nD Cert.MemNormDxRefIdeal.τ).loc Cert.MemNormDxRefIdeal.main_arg2) = m' ((c.tc : Thread Cert.MemNormDxRefIdeal.nD Cert.MemNormDxRefIdeal.τ).loc Cert.MemNormDxRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v25) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_ConvV_ConvVIdeal : Prop :=
  True

def algebraic_ConvVIdeal_ConvVRefIdeal [hConvVIdeal : Cert.ConvVIdeal.Facts] [hConvVRefIdeal : Cert.ConvVRefIdeal.Facts] : Prop :=
  ∀ (m : (ℓ : Loc Cert.ConvVIdeal.nD Cert.ConvVIdeal.τ Cert.ConvVIdeal.sig) → Buf (Elt Ideal) ℓ) (g : Dev Cert.ConvVIdeal.nD → PrngReg)
    (m' : (ℓ : Loc Cert.ConvVRefIdeal.nD Cert.ConvVRefIdeal.τ Cert.ConvVRefIdeal.sig) → Buf (Elt Ideal) ℓ) (g' : Dev Cert.ConvVRefIdeal.nD → PrngReg), Pre_ConvVIdeal m →
    (∀ c : Dev Cert.ConvVIdeal.nD,
      m' ((c.tc : Thread Cert.ConvVRefIdeal.nD Cert.ConvVRefIdeal.τ).loc Cert.ConvVRefIdeal.main_arg0) = m ((c.tc : Thread Cert.ConvVIdeal.nD Cert.ConvVIdeal.τ).loc Cert.ConvVIdeal.main_arg0)
      ∧ m' ((c.tc : Thread Cert.ConvVRefIdeal.nD Cert.ConvVRefIdeal.τ).loc Cert.ConvVRefIdeal.main_arg1) = m ((c.tc : Thread Cert.ConvVIdeal.nD Cert.ConvVIdeal.τ).loc Cert.ConvVIdeal.main_arg1)) →
    ∃ (v0 : (c : Dev Cert.ConvVIdeal.nD) → Buf (Elt Ideal) ((c.tc : Thread Cert.ConvVIdeal.nD Cert.ConvVIdeal.τ).loc Cert.ConvVIdeal.main_v0)),
      θ_run (Cert.ConvVIdeal.defs (F := Ideal)) (onTc (τ := Cert.ConvVIdeal.τ) (Cert.ConvVIdeal.main (F := Ideal))) ⟨m, fun _ => 0, g⟩ (fun r => ∀ c : Dev Cert.ConvVIdeal.nD,
          r.2.mem ((c.tc : Thread Cert.ConvVIdeal.nD Cert.ConvVIdeal.τ).loc Cert.ConvVIdeal.main_v0) = v0 c
          ∧ r.2.mem ((c.tc : Thread Cert.ConvVIdeal.nD Cert.ConvVIdeal.τ).loc Cert.ConvVIdeal.main_arg0) = m ((c.tc : Thread Cert.ConvVIdeal.nD Cert.ConvVIdeal.τ).loc Cert.ConvVIdeal.main_arg0)
          ∧ r.2.mem ((c.tc : Thread Cert.ConvVIdeal.nD Cert.ConvVIdeal.τ).loc Cert.ConvVIdeal.main_arg1) = m ((c.tc : Thread Cert.ConvVIdeal.nD Cert.ConvVIdeal.τ).loc Cert.ConvVIdeal.main_arg1))
      ∧ θ_run (Cert.ConvVRefIdeal.defs (F := Ideal)) (onTc (τ := Cert.ConvVRefIdeal.τ) (Cert.ConvVRefIdeal.main (F := Ideal))) ⟨m', fun _ => 0, g'⟩ (fun r => ∀ c : Dev Cert.ConvVRefIdeal.nD,
          r.2.mem ((c.tc : Thread Cert.ConvVRefIdeal.nD Cert.ConvVRefIdeal.τ).loc Cert.ConvVRefIdeal.main_v33) = v0 c
          ∧ r.2.mem ((c.tc : Thread Cert.ConvVRefIdeal.nD Cert.ConvVRefIdeal.τ).loc Cert.ConvVRefIdeal.main_arg0) = m' ((c.tc : Thread Cert.ConvVRefIdeal.nD Cert.ConvVRefIdeal.τ).loc Cert.ConvVRefIdeal.main_arg0)
          ∧ r.2.mem ((c.tc : Thread Cert.ConvVRefIdeal.nD Cert.ConvVRefIdeal.τ).loc Cert.ConvVRefIdeal.main_arg1) = m' ((c.tc : Thread Cert.ConvVRefIdeal.nD Cert.ConvVRefIdeal.τ).loc Cert.ConvVRefIdeal.main_arg1))

def preserves_ConvX_ConvXIdeal : Prop :=
  True

def algebraic_ConvXIdeal_ConvXRefIdeal [hConvXIdeal : Cert.ConvXIdeal.Facts] [hConvXRefIdeal : Cert.ConvXRefIdeal.Facts] : Prop :=
  ∀ (m : (ℓ : Loc Cert.ConvXIdeal.nD Cert.ConvXIdeal.τ Cert.ConvXIdeal.sig) → Buf (Elt Ideal) ℓ) (g : Dev Cert.ConvXIdeal.nD → PrngReg)
    (m' : (ℓ : Loc Cert.ConvXRefIdeal.nD Cert.ConvXRefIdeal.τ Cert.ConvXRefIdeal.sig) → Buf (Elt Ideal) ℓ) (g' : Dev Cert.ConvXRefIdeal.nD → PrngReg), Pre_ConvXIdeal m →
    (∀ c : Dev Cert.ConvXIdeal.nD,
      m' ((c.tc : Thread Cert.ConvXRefIdeal.nD Cert.ConvXRefIdeal.τ).loc Cert.ConvXRefIdeal.main_arg0) = m ((c.tc : Thread Cert.ConvXIdeal.nD Cert.ConvXIdeal.τ).loc Cert.ConvXIdeal.main_arg0)
      ∧ m' ((c.tc : Thread Cert.ConvXRefIdeal.nD Cert.ConvXRefIdeal.τ).loc Cert.ConvXRefIdeal.main_arg1) = m ((c.tc : Thread Cert.ConvXIdeal.nD Cert.ConvXIdeal.τ).loc Cert.ConvXIdeal.main_arg1)
      ∧ m' ((c.tc : Thread Cert.ConvXRefIdeal.nD Cert.ConvXRefIdeal.τ).loc Cert.ConvXRefIdeal.main_arg2) = m ((c.tc : Thread Cert.ConvXIdeal.nD Cert.ConvXIdeal.τ).loc Cert.ConvXIdeal.main_arg2)) →
    ∃ (v0 : (c : Dev Cert.ConvXIdeal.nD) → Buf (Elt Ideal) ((c.tc : Thread Cert.ConvXIdeal.nD Cert.ConvXIdeal.τ).loc Cert.ConvXIdeal.main_v1)),
      θ_run (Cert.ConvXIdeal.defs (F := Ideal)) (onTc (τ := Cert.ConvXIdeal.τ) (Cert.ConvXIdeal.main (F := Ideal))) ⟨m, fun _ => 0, g⟩ (fun r => ∀ c : Dev Cert.ConvXIdeal.nD,
          r.2.mem ((c.tc : Thread Cert.ConvXIdeal.nD Cert.ConvXIdeal.τ).loc Cert.ConvXIdeal.main_v1) = v0 c
          ∧ r.2.mem ((c.tc : Thread Cert.ConvXIdeal.nD Cert.ConvXIdeal.τ).loc Cert.ConvXIdeal.main_arg0) = m ((c.tc : Thread Cert.ConvXIdeal.nD Cert.ConvXIdeal.τ).loc Cert.ConvXIdeal.main_arg0)
          ∧ r.2.mem ((c.tc : Thread Cert.ConvXIdeal.nD Cert.ConvXIdeal.τ).loc Cert.ConvXIdeal.main_arg1) = m ((c.tc : Thread Cert.ConvXIdeal.nD Cert.ConvXIdeal.τ).loc Cert.ConvXIdeal.main_arg1)
          ∧ r.2.mem ((c.tc : Thread Cert.ConvXIdeal.nD Cert.ConvXIdeal.τ).loc Cert.ConvXIdeal.main_arg2) = m ((c.tc : Thread Cert.ConvXIdeal.nD Cert.ConvXIdeal.τ).loc Cert.ConvXIdeal.main_arg2))
      ∧ θ_run (Cert.ConvXRefIdeal.defs (F := Ideal)) (onTc (τ := Cert.ConvXRefIdeal.τ) (Cert.ConvXRefIdeal.main (F := Ideal))) ⟨m', fun _ => 0, g'⟩ (fun r => ∀ c : Dev Cert.ConvXRefIdeal.nD,
          r.2.mem ((c.tc : Thread Cert.ConvXRefIdeal.nD Cert.ConvXRefIdeal.τ).loc Cert.ConvXRefIdeal.main_v36) = v0 c
          ∧ r.2.mem ((c.tc : Thread Cert.ConvXRefIdeal.nD Cert.ConvXRefIdeal.τ).loc Cert.ConvXRefIdeal.main_arg0) = m' ((c.tc : Thread Cert.ConvXRefIdeal.nD Cert.ConvXRefIdeal.τ).loc Cert.ConvXRefIdeal.main_arg0)
          ∧ r.2.mem ((c.tc : Thread Cert.ConvXRefIdeal.nD Cert.ConvXRefIdeal.τ).loc Cert.ConvXRefIdeal.main_arg1) = m' ((c.tc : Thread Cert.ConvXRefIdeal.nD Cert.ConvXRefIdeal.τ).loc Cert.ConvXRefIdeal.main_arg1)
          ∧ r.2.mem ((c.tc : Thread Cert.ConvXRefIdeal.nD Cert.ConvXRefIdeal.τ).loc Cert.ConvXRefIdeal.main_arg2) = m' ((c.tc : Thread Cert.ConvXRefIdeal.nD Cert.ConvXRefIdeal.τ).loc Cert.ConvXRefIdeal.main_arg2))

def preserves_ConvQk_ConvQkIdeal : Prop :=
  True

def algebraic_ConvQkIdeal_ConvQkRefIdeal [hConvQkIdeal : Cert.ConvQkIdeal.Facts] [hConvQkRefIdeal : Cert.ConvQkRefIdeal.Facts] : Prop :=
  ∀ (m : (ℓ : Loc Cert.ConvQkIdeal.nD Cert.ConvQkIdeal.τ Cert.ConvQkIdeal.sig) → Buf (Elt Ideal) ℓ) (g : Dev Cert.ConvQkIdeal.nD → PrngReg)
    (m' : (ℓ : Loc Cert.ConvQkRefIdeal.nD Cert.ConvQkRefIdeal.τ Cert.ConvQkRefIdeal.sig) → Buf (Elt Ideal) ℓ) (g' : Dev Cert.ConvQkRefIdeal.nD → PrngReg), Pre_ConvQkIdeal m →
    (∀ c : Dev Cert.ConvQkIdeal.nD,
      m' ((c.tc : Thread Cert.ConvQkRefIdeal.nD Cert.ConvQkRefIdeal.τ).loc Cert.ConvQkRefIdeal.main_arg0) = m ((c.tc : Thread Cert.ConvQkIdeal.nD Cert.ConvQkIdeal.τ).loc Cert.ConvQkIdeal.main_arg0)
      ∧ m' ((c.tc : Thread Cert.ConvQkRefIdeal.nD Cert.ConvQkRefIdeal.τ).loc Cert.ConvQkRefIdeal.main_arg1) = m ((c.tc : Thread Cert.ConvQkIdeal.nD Cert.ConvQkIdeal.τ).loc Cert.ConvQkIdeal.main_arg1)) →
    ∃ (v0 : (c : Dev Cert.ConvQkIdeal.nD) → Buf (Elt Ideal) ((c.tc : Thread Cert.ConvQkIdeal.nD Cert.ConvQkIdeal.τ).loc Cert.ConvQkIdeal.main_v0)),
      θ_run (Cert.ConvQkIdeal.defs (F := Ideal)) (onTc (τ := Cert.ConvQkIdeal.τ) (Cert.ConvQkIdeal.main (F := Ideal))) ⟨m, fun _ => 0, g⟩ (fun r => ∀ c : Dev Cert.ConvQkIdeal.nD,
          r.2.mem ((c.tc : Thread Cert.ConvQkIdeal.nD Cert.ConvQkIdeal.τ).loc Cert.ConvQkIdeal.main_v0) = v0 c
          ∧ r.2.mem ((c.tc : Thread Cert.ConvQkIdeal.nD Cert.ConvQkIdeal.τ).loc Cert.ConvQkIdeal.main_arg0) = m ((c.tc : Thread Cert.ConvQkIdeal.nD Cert.ConvQkIdeal.τ).loc Cert.ConvQkIdeal.main_arg0)
          ∧ r.2.mem ((c.tc : Thread Cert.ConvQkIdeal.nD Cert.ConvQkIdeal.τ).loc Cert.ConvQkIdeal.main_arg1) = m ((c.tc : Thread Cert.ConvQkIdeal.nD Cert.ConvQkIdeal.τ).loc Cert.ConvQkIdeal.main_arg1))
      ∧ θ_run (Cert.ConvQkRefIdeal.defs (F := Ideal)) (onTc (τ := Cert.ConvQkRefIdeal.τ) (Cert.ConvQkRefIdeal.main (F := Ideal))) ⟨m', fun _ => 0, g'⟩ (fun r => ∀ c : Dev Cert.ConvQkRefIdeal.nD,
          r.2.mem ((c.tc : Thread Cert.ConvQkRefIdeal.nD Cert.ConvQkRefIdeal.τ).loc Cert.ConvQkRefIdeal.main_v58) = v0 c
          ∧ r.2.mem ((c.tc : Thread Cert.ConvQkRefIdeal.nD Cert.ConvQkRefIdeal.τ).loc Cert.ConvQkRefIdeal.main_arg0) = m' ((c.tc : Thread Cert.ConvQkRefIdeal.nD Cert.ConvQkRefIdeal.τ).loc Cert.ConvQkRefIdeal.main_arg0)
          ∧ r.2.mem ((c.tc : Thread Cert.ConvQkRefIdeal.nD Cert.ConvQkRefIdeal.τ).loc Cert.ConvQkRefIdeal.main_arg1) = m' ((c.tc : Thread Cert.ConvQkRefIdeal.nD Cert.ConvQkRefIdeal.τ).loc Cert.ConvQkRefIdeal.main_arg1))

def preserves_ConvVIn_ConvVInIdeal : Prop :=
  True

def algebraic_ConvVInIdeal_ConvVInRefIdeal [hConvVInIdeal : Cert.ConvVInIdeal.Facts] [hConvVInRefIdeal : Cert.ConvVInRefIdeal.Facts] : Prop :=
  ∀ (m : (ℓ : Loc Cert.ConvVInIdeal.nD Cert.ConvVInIdeal.τ Cert.ConvVInIdeal.sig) → Buf (Elt Ideal) ℓ) (g : Dev Cert.ConvVInIdeal.nD → PrngReg)
    (m' : (ℓ : Loc Cert.ConvVInRefIdeal.nD Cert.ConvVInRefIdeal.τ Cert.ConvVInRefIdeal.sig) → Buf (Elt Ideal) ℓ) (g' : Dev Cert.ConvVInRefIdeal.nD → PrngReg), Pre_ConvVInIdeal m →
    (∀ c : Dev Cert.ConvVInIdeal.nD,
      m' ((c.tc : Thread Cert.ConvVInRefIdeal.nD Cert.ConvVInRefIdeal.τ).loc Cert.ConvVInRefIdeal.main_arg0) = m ((c.tc : Thread Cert.ConvVInIdeal.nD Cert.ConvVInIdeal.τ).loc Cert.ConvVInIdeal.main_arg0)
      ∧ m' ((c.tc : Thread Cert.ConvVInRefIdeal.nD Cert.ConvVInRefIdeal.τ).loc Cert.ConvVInRefIdeal.main_arg1) = m ((c.tc : Thread Cert.ConvVInIdeal.nD Cert.ConvVInIdeal.τ).loc Cert.ConvVInIdeal.main_arg1)
      ∧ m' ((c.tc : Thread Cert.ConvVInRefIdeal.nD Cert.ConvVInRefIdeal.τ).loc Cert.ConvVInRefIdeal.main_arg2) = m ((c.tc : Thread Cert.ConvVInIdeal.nD Cert.ConvVInIdeal.τ).loc Cert.ConvVInIdeal.main_arg2)) →
    ∃ (v0 : (c : Dev Cert.ConvVInIdeal.nD) → Buf (Elt Ideal) ((c.tc : Thread Cert.ConvVInIdeal.nD Cert.ConvVInIdeal.τ).loc Cert.ConvVInIdeal.main_v0)),
      θ_run (Cert.ConvVInIdeal.defs (F := Ideal)) (onTc (τ := Cert.ConvVInIdeal.τ) (Cert.ConvVInIdeal.main (F := Ideal))) ⟨m, fun _ => 0, g⟩ (fun r => ∀ c : Dev Cert.ConvVInIdeal.nD,
          r.2.mem ((c.tc : Thread Cert.ConvVInIdeal.nD Cert.ConvVInIdeal.τ).loc Cert.ConvVInIdeal.main_v0) = v0 c
          ∧ r.2.mem ((c.tc : Thread Cert.ConvVInIdeal.nD Cert.ConvVInIdeal.τ).loc Cert.ConvVInIdeal.main_arg0) = m ((c.tc : Thread Cert.ConvVInIdeal.nD Cert.ConvVInIdeal.τ).loc Cert.ConvVInIdeal.main_arg0)
          ∧ r.2.mem ((c.tc : Thread Cert.ConvVInIdeal.nD Cert.ConvVInIdeal.τ).loc Cert.ConvVInIdeal.main_arg1) = m ((c.tc : Thread Cert.ConvVInIdeal.nD Cert.ConvVInIdeal.τ).loc Cert.ConvVInIdeal.main_arg1)
          ∧ r.2.mem ((c.tc : Thread Cert.ConvVInIdeal.nD Cert.ConvVInIdeal.τ).loc Cert.ConvVInIdeal.main_arg2) = m ((c.tc : Thread Cert.ConvVInIdeal.nD Cert.ConvVInIdeal.τ).loc Cert.ConvVInIdeal.main_arg2))
      ∧ θ_run (Cert.ConvVInRefIdeal.defs (F := Ideal)) (onTc (τ := Cert.ConvVInRefIdeal.τ) (Cert.ConvVInRefIdeal.main (F := Ideal))) ⟨m', fun _ => 0, g'⟩ (fun r => ∀ c : Dev Cert.ConvVInRefIdeal.nD,
          r.2.mem ((c.tc : Thread Cert.ConvVInRefIdeal.nD Cert.ConvVInRefIdeal.τ).loc Cert.ConvVInRefIdeal.main_v55) = v0 c
          ∧ r.2.mem ((c.tc : Thread Cert.ConvVInRefIdeal.nD Cert.ConvVInRefIdeal.τ).loc Cert.ConvVInRefIdeal.main_arg0) = m' ((c.tc : Thread Cert.ConvVInRefIdeal.nD Cert.ConvVInRefIdeal.τ).loc Cert.ConvVInRefIdeal.main_arg0)
          ∧ r.2.mem ((c.tc : Thread Cert.ConvVInRefIdeal.nD Cert.ConvVInRefIdeal.τ).loc Cert.ConvVInRefIdeal.main_arg1) = m' ((c.tc : Thread Cert.ConvVInRefIdeal.nD Cert.ConvVInRefIdeal.τ).loc Cert.ConvVInRefIdeal.main_arg1)
          ∧ r.2.mem ((c.tc : Thread Cert.ConvVInRefIdeal.nD Cert.ConvVInRefIdeal.τ).loc Cert.ConvVInRefIdeal.main_arg2) = m' ((c.tc : Thread Cert.ConvVInRefIdeal.nD Cert.ConvVInRefIdeal.τ).loc Cert.ConvVInRefIdeal.main_arg2))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hOutDw : Cert.OutDw.Facts) (hOutDwIdeal : Cert.OutDwIdeal.Facts) (hOutDwRefIdeal : Cert.OutDwRefIdeal.Facts) (hWoDw : Cert.WoDw.Facts) (hWoDwIdeal : Cert.WoDwIdeal.Facts) (hWoDwRefIdeal : Cert.WoDwRefIdeal.Facts) (hWqDw : Cert.WqDw.Facts) (hWqDwIdeal : Cert.WqDwIdeal.Facts) (hWqDwRefIdeal : Cert.WqDwRefIdeal.Facts) (hInDw : Cert.InDw.Facts) (hInDwIdeal : Cert.InDwIdeal.Facts) (hInDwRefIdeal : Cert.InDwRefIdeal.Facts) (hWoDx : Cert.WoDx.Facts) (hWoDxIdeal : Cert.WoDxIdeal.Facts) (hWoDxRefIdeal : Cert.WoDxRefIdeal.Facts) (hWqDx : Cert.WqDx.Facts) (hWqDxIdeal : Cert.WqDxIdeal.Facts) (hWqDxRefIdeal : Cert.WqDxRefIdeal.Facts) (hInDx : Cert.InDx.Facts) (hInDxIdeal : Cert.InDxIdeal.Facts) (hInDxRefIdeal : Cert.InDxRefIdeal.Facts) (hIn : Cert.In.Facts) (hInIdeal : Cert.InIdeal.Facts) (hInRefIdeal : Cert.InRefIdeal.Facts) (hWq : Cert.Wq.Facts) (hWqIdeal : Cert.WqIdeal.Facts) (hWqRefIdeal : Cert.WqRefIdeal.Facts) (hOut : Cert.Out.Facts) (hOutIdeal : Cert.OutIdeal.Facts) (hOutRefIdeal : Cert.OutRefIdeal.Facts) (hWo : Cert.Wo.Facts) (hWoIdeal : Cert.WoIdeal.Facts) (hWoRefIdeal : Cert.WoRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hAttn : Cert.Attn.Facts) (hAttnIdeal : Cert.AttnIdeal.Facts) (hAttnRefIdeal : Cert.AttnRefIdeal.Facts) (hGdnPost : Cert.GdnPost.Facts) (hGdnPostIdeal : Cert.GdnPostIdeal.Facts) (hGdnPostRefIdeal : Cert.GdnPostRefIdeal.Facts) (hSsdPost : Cert.SsdPost.Facts) (hSsdPostIdeal : Cert.SsdPostIdeal.Facts) (hSsdPostRefIdeal : Cert.SsdPostRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamMem : Cert.AdamMem.Facts) (hAdamMemIdeal : Cert.AdamMemIdeal.Facts) (hAdamMemRefIdeal : Cert.AdamMemRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamNorm : Cert.AdamNorm.Facts) (hAdamNormIdeal : Cert.AdamNormIdeal.Facts) (hAdamNormRefIdeal : Cert.AdamNormRefIdeal.Facts) (hAdamGate : Cert.AdamGate.Facts) (hAdamGateIdeal : Cert.AdamGateIdeal.Facts) (hAdamGateRefIdeal : Cert.AdamGateRefIdeal.Facts) (hAdamHead : Cert.AdamHead.Facts) (hAdamHeadIdeal : Cert.AdamHeadIdeal.Facts) (hAdamHeadRefIdeal : Cert.AdamHeadRefIdeal.Facts) (hAdamSkip : Cert.AdamSkip.Facts) (hAdamSkipIdeal : Cert.AdamSkipIdeal.Facts) (hAdamSkipRefIdeal : Cert.AdamSkipRefIdeal.Facts) (hAdamBias : Cert.AdamBias.Facts) (hAdamBiasIdeal : Cert.AdamBiasIdeal.Facts) (hAdamBiasRefIdeal : Cert.AdamBiasRefIdeal.Facts) (hAdamTaps : Cert.AdamTaps.Facts) (hAdamTapsIdeal : Cert.AdamTapsIdeal.Facts) (hAdamTapsRefIdeal : Cert.AdamTapsRefIdeal.Facts) (hAdamFilter : Cert.AdamFilter.Facts) (hAdamFilterIdeal : Cert.AdamFilterIdeal.Facts) (hAdamFilterRefIdeal : Cert.AdamFilterRefIdeal.Facts) (hSum : Cert.Sum.Facts) (hSumIdeal : Cert.SumIdeal.Facts) (hSumRefIdeal : Cert.SumRefIdeal.Facts) (hGates : Cert.Gates.Facts) (hGatesIdeal : Cert.GatesIdeal.Facts) (hGatesRefIdeal : Cert.GatesRefIdeal.Facts) (hKeys : Cert.Keys.Facts) (hKeysIdeal : Cert.KeysIdeal.Facts) (hKeysRefIdeal : Cert.KeysRefIdeal.Facts) (hKeysDw : Cert.KeysDw.Facts) (hKeysDwIdeal : Cert.KeysDwIdeal.Facts) (hKeysDwRefIdeal : Cert.KeysDwRefIdeal.Facts) (hKeysDx : Cert.KeysDx.Facts) (hKeysDxIdeal : Cert.KeysDxIdeal.Facts) (hKeysDxRefIdeal : Cert.KeysDxRefIdeal.Facts) (hValuesDx : Cert.ValuesDx.Facts) (hValuesDxIdeal : Cert.ValuesDxIdeal.Facts) (hValuesDxRefIdeal : Cert.ValuesDxRefIdeal.Facts) (hRowNorm : Cert.RowNorm.Facts) (hRowNormIdeal : Cert.RowNormIdeal.Facts) (hRowNormRefIdeal : Cert.RowNormRefIdeal.Facts) (hMemNorm : Cert.MemNorm.Facts) (hMemNormIdeal : Cert.MemNormIdeal.Facts) (hMemNormRefIdeal : Cert.MemNormRefIdeal.Facts) (hMemNormDx : Cert.MemNormDx.Facts) (hMemNormDxIdeal : Cert.MemNormDxIdeal.Facts) (hMemNormDxRefIdeal : Cert.MemNormDxRefIdeal.Facts) (hMix : Cert.Mix.Facts) (hMixIdeal : Cert.MixIdeal.Facts) (hMixRefIdeal : Cert.MixRefIdeal.Facts) (hConvV : Cert.ConvV.Facts) (hConvVIdeal : Cert.ConvVIdeal.Facts) (hConvVRefIdeal : Cert.ConvVRefIdeal.Facts) (hConvX : Cert.ConvX.Facts) (hConvXIdeal : Cert.ConvXIdeal.Facts) (hConvXRefIdeal : Cert.ConvXRefIdeal.Facts) (hConvQk : Cert.ConvQk.Facts) (hConvQkIdeal : Cert.ConvQkIdeal.Facts) (hConvQkRefIdeal : Cert.ConvQkRefIdeal.Facts) (hConvVIn : Cert.ConvVIn.Facts) (hConvVInIdeal : Cert.ConvVInIdeal.Facts) (hConvVInRefIdeal : Cert.ConvVInRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_WoDw (hWoDw := hWoDw)
    ∧ quiescent_WoDwIdeal (hWoDwIdeal := hWoDwIdeal)
    ∧ quiescent_WoDwRefIdeal (hWoDwRefIdeal := hWoDwRefIdeal)
    ∧ quiescent_WqDw (hWqDw := hWqDw)
    ∧ quiescent_WqDwIdeal (hWqDwIdeal := hWqDwIdeal)
    ∧ quiescent_WqDwRefIdeal (hWqDwRefIdeal := hWqDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_WoDx (hWoDx := hWoDx)
    ∧ quiescent_WoDxIdeal (hWoDxIdeal := hWoDxIdeal)
    ∧ quiescent_WoDxRefIdeal (hWoDxRefIdeal := hWoDxRefIdeal)
    ∧ quiescent_WqDx (hWqDx := hWqDx)
    ∧ quiescent_WqDxIdeal (hWqDxIdeal := hWqDxIdeal)
    ∧ quiescent_WqDxRefIdeal (hWqDxRefIdeal := hWqDxRefIdeal)
    ∧ quiescent_InDx (hInDx := hInDx)
    ∧ quiescent_InDxIdeal (hInDxIdeal := hInDxIdeal)
    ∧ quiescent_InDxRefIdeal (hInDxRefIdeal := hInDxRefIdeal)
    ∧ quiescent_In (hIn := hIn)
    ∧ quiescent_InIdeal (hInIdeal := hInIdeal)
    ∧ quiescent_InRefIdeal (hInRefIdeal := hInRefIdeal)
    ∧ quiescent_Wq (hWq := hWq)
    ∧ quiescent_WqIdeal (hWqIdeal := hWqIdeal)
    ∧ quiescent_WqRefIdeal (hWqRefIdeal := hWqRefIdeal)
    ∧ quiescent_Out (hOut := hOut)
    ∧ quiescent_OutIdeal (hOutIdeal := hOutIdeal)
    ∧ quiescent_OutRefIdeal (hOutRefIdeal := hOutRefIdeal)
    ∧ quiescent_Wo (hWo := hWo)
    ∧ quiescent_WoIdeal (hWoIdeal := hWoIdeal)
    ∧ quiescent_WoRefIdeal (hWoRefIdeal := hWoRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Attn (hAttn := hAttn)
    ∧ quiescent_AttnIdeal (hAttnIdeal := hAttnIdeal)
    ∧ quiescent_AttnRefIdeal (hAttnRefIdeal := hAttnRefIdeal)
    ∧ quiescent_GdnPost (hGdnPost := hGdnPost)
    ∧ quiescent_GdnPostIdeal (hGdnPostIdeal := hGdnPostIdeal)
    ∧ quiescent_GdnPostRefIdeal (hGdnPostRefIdeal := hGdnPostRefIdeal)
    ∧ quiescent_SsdPost (hSsdPost := hSsdPost)
    ∧ quiescent_SsdPostIdeal (hSsdPostIdeal := hSsdPostIdeal)
    ∧ quiescent_SsdPostRefIdeal (hSsdPostRefIdeal := hSsdPostRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamMem (hAdamMem := hAdamMem)
    ∧ quiescent_AdamMemIdeal (hAdamMemIdeal := hAdamMemIdeal)
    ∧ quiescent_AdamMemRefIdeal (hAdamMemRefIdeal := hAdamMemRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamHead (hAdamHead := hAdamHead)
    ∧ quiescent_AdamHeadIdeal (hAdamHeadIdeal := hAdamHeadIdeal)
    ∧ quiescent_AdamHeadRefIdeal (hAdamHeadRefIdeal := hAdamHeadRefIdeal)
    ∧ quiescent_AdamSkip (hAdamSkip := hAdamSkip)
    ∧ quiescent_AdamSkipIdeal (hAdamSkipIdeal := hAdamSkipIdeal)
    ∧ quiescent_AdamSkipRefIdeal (hAdamSkipRefIdeal := hAdamSkipRefIdeal)
    ∧ quiescent_AdamBias (hAdamBias := hAdamBias)
    ∧ quiescent_AdamBiasIdeal (hAdamBiasIdeal := hAdamBiasIdeal)
    ∧ quiescent_AdamBiasRefIdeal (hAdamBiasRefIdeal := hAdamBiasRefIdeal)
    ∧ quiescent_AdamTaps (hAdamTaps := hAdamTaps)
    ∧ quiescent_AdamTapsIdeal (hAdamTapsIdeal := hAdamTapsIdeal)
    ∧ quiescent_AdamTapsRefIdeal (hAdamTapsRefIdeal := hAdamTapsRefIdeal)
    ∧ quiescent_AdamFilter (hAdamFilter := hAdamFilter)
    ∧ quiescent_AdamFilterIdeal (hAdamFilterIdeal := hAdamFilterIdeal)
    ∧ quiescent_AdamFilterRefIdeal (hAdamFilterRefIdeal := hAdamFilterRefIdeal)
    ∧ quiescent_Sum (hSum := hSum)
    ∧ quiescent_SumIdeal (hSumIdeal := hSumIdeal)
    ∧ quiescent_SumRefIdeal (hSumRefIdeal := hSumRefIdeal)
    ∧ quiescent_Gates (hGates := hGates)
    ∧ quiescent_GatesIdeal (hGatesIdeal := hGatesIdeal)
    ∧ quiescent_GatesRefIdeal (hGatesRefIdeal := hGatesRefIdeal)
    ∧ quiescent_Keys (hKeys := hKeys)
    ∧ quiescent_KeysIdeal (hKeysIdeal := hKeysIdeal)
    ∧ quiescent_KeysRefIdeal (hKeysRefIdeal := hKeysRefIdeal)
    ∧ quiescent_KeysDw (hKeysDw := hKeysDw)
    ∧ quiescent_KeysDwIdeal (hKeysDwIdeal := hKeysDwIdeal)
    ∧ quiescent_KeysDwRefIdeal (hKeysDwRefIdeal := hKeysDwRefIdeal)
    ∧ quiescent_KeysDx (hKeysDx := hKeysDx)
    ∧ quiescent_KeysDxIdeal (hKeysDxIdeal := hKeysDxIdeal)
    ∧ quiescent_KeysDxRefIdeal (hKeysDxRefIdeal := hKeysDxRefIdeal)
    ∧ quiescent_ValuesDx (hValuesDx := hValuesDx)
    ∧ quiescent_ValuesDxIdeal (hValuesDxIdeal := hValuesDxIdeal)
    ∧ quiescent_ValuesDxRefIdeal (hValuesDxRefIdeal := hValuesDxRefIdeal)
    ∧ quiescent_RowNorm (hRowNorm := hRowNorm)
    ∧ quiescent_RowNormIdeal (hRowNormIdeal := hRowNormIdeal)
    ∧ quiescent_RowNormRefIdeal (hRowNormRefIdeal := hRowNormRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_MemNormDx (hMemNormDx := hMemNormDx)
    ∧ quiescent_MemNormDxIdeal (hMemNormDxIdeal := hMemNormDxIdeal)
    ∧ quiescent_MemNormDxRefIdeal (hMemNormDxRefIdeal := hMemNormDxRefIdeal)
    ∧ quiescent_Mix (hMix := hMix)
    ∧ quiescent_MixIdeal (hMixIdeal := hMixIdeal)
    ∧ quiescent_MixRefIdeal (hMixRefIdeal := hMixRefIdeal)
    ∧ quiescent_ConvV (hConvV := hConvV)
    ∧ quiescent_ConvVIdeal (hConvVIdeal := hConvVIdeal)
    ∧ quiescent_ConvVRefIdeal (hConvVRefIdeal := hConvVRefIdeal)
    ∧ quiescent_ConvX (hConvX := hConvX)
    ∧ quiescent_ConvXIdeal (hConvXIdeal := hConvXIdeal)
    ∧ quiescent_ConvXRefIdeal (hConvXRefIdeal := hConvXRefIdeal)
    ∧ quiescent_ConvQk (hConvQk := hConvQk)
    ∧ quiescent_ConvQkIdeal (hConvQkIdeal := hConvQkIdeal)
    ∧ quiescent_ConvQkRefIdeal (hConvQkRefIdeal := hConvQkRefIdeal)
    ∧ quiescent_ConvVIn (hConvVIn := hConvVIn)
    ∧ quiescent_ConvVInIdeal (hConvVInIdeal := hConvVInIdeal)
    ∧ quiescent_ConvVInRefIdeal (hConvVInRefIdeal := hConvVInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_OutDw_OutDwIdeal
    ∧ algebraic_OutDwIdeal_OutDwRefIdeal (hOutDwIdeal := hOutDwIdeal) (hOutDwRefIdeal := hOutDwRefIdeal)
    ∧ preserves_WoDw_WoDwIdeal
    ∧ algebraic_WoDwIdeal_WoDwRefIdeal (hWoDwIdeal := hWoDwIdeal) (hWoDwRefIdeal := hWoDwRefIdeal)
    ∧ preserves_WqDw_WqDwIdeal
    ∧ algebraic_WqDwIdeal_WqDwRefIdeal (hWqDwIdeal := hWqDwIdeal) (hWqDwRefIdeal := hWqDwRefIdeal)
    ∧ preserves_InDw_InDwIdeal
    ∧ algebraic_InDwIdeal_InDwRefIdeal (hInDwIdeal := hInDwIdeal) (hInDwRefIdeal := hInDwRefIdeal)
    ∧ preserves_WoDx_WoDxIdeal
    ∧ algebraic_WoDxIdeal_WoDxRefIdeal (hWoDxIdeal := hWoDxIdeal) (hWoDxRefIdeal := hWoDxRefIdeal)
    ∧ preserves_WqDx_WqDxIdeal
    ∧ algebraic_WqDxIdeal_WqDxRefIdeal (hWqDxIdeal := hWqDxIdeal) (hWqDxRefIdeal := hWqDxRefIdeal)
    ∧ preserves_InDx_InDxIdeal
    ∧ algebraic_InDxIdeal_InDxRefIdeal (hInDxIdeal := hInDxIdeal) (hInDxRefIdeal := hInDxRefIdeal)
    ∧ preserves_In_InIdeal
    ∧ algebraic_InIdeal_InRefIdeal (hInIdeal := hInIdeal) (hInRefIdeal := hInRefIdeal)
    ∧ preserves_Wq_WqIdeal
    ∧ algebraic_WqIdeal_WqRefIdeal (hWqIdeal := hWqIdeal) (hWqRefIdeal := hWqRefIdeal)
    ∧ preserves_Out_OutIdeal
    ∧ algebraic_OutIdeal_OutRefIdeal (hOutIdeal := hOutIdeal) (hOutRefIdeal := hOutRefIdeal)
    ∧ preserves_Wo_WoIdeal
    ∧ algebraic_WoIdeal_WoRefIdeal (hWoIdeal := hWoIdeal) (hWoRefIdeal := hWoRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Attn_AttnIdeal
    ∧ algebraic_AttnIdeal_AttnRefIdeal (hAttnIdeal := hAttnIdeal) (hAttnRefIdeal := hAttnRefIdeal)
    ∧ preserves_GdnPost_GdnPostIdeal
    ∧ algebraic_GdnPostIdeal_GdnPostRefIdeal (hGdnPostIdeal := hGdnPostIdeal) (hGdnPostRefIdeal := hGdnPostRefIdeal)
    ∧ preserves_SsdPost_SsdPostIdeal
    ∧ algebraic_SsdPostIdeal_SsdPostRefIdeal (hSsdPostIdeal := hSsdPostIdeal) (hSsdPostRefIdeal := hSsdPostRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamMem_AdamMemIdeal
    ∧ algebraic_AdamMemIdeal_AdamMemRefIdeal (hAdamMemIdeal := hAdamMemIdeal) (hAdamMemRefIdeal := hAdamMemRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamHead_AdamHeadIdeal
    ∧ algebraic_AdamHeadIdeal_AdamHeadRefIdeal (hAdamHeadIdeal := hAdamHeadIdeal) (hAdamHeadRefIdeal := hAdamHeadRefIdeal)
    ∧ preserves_AdamSkip_AdamSkipIdeal
    ∧ algebraic_AdamSkipIdeal_AdamSkipRefIdeal (hAdamSkipIdeal := hAdamSkipIdeal) (hAdamSkipRefIdeal := hAdamSkipRefIdeal)
    ∧ preserves_AdamBias_AdamBiasIdeal
    ∧ algebraic_AdamBiasIdeal_AdamBiasRefIdeal (hAdamBiasIdeal := hAdamBiasIdeal) (hAdamBiasRefIdeal := hAdamBiasRefIdeal)
    ∧ preserves_AdamTaps_AdamTapsIdeal
    ∧ algebraic_AdamTapsIdeal_AdamTapsRefIdeal (hAdamTapsIdeal := hAdamTapsIdeal) (hAdamTapsRefIdeal := hAdamTapsRefIdeal)
    ∧ preserves_AdamFilter_AdamFilterIdeal
    ∧ algebraic_AdamFilterIdeal_AdamFilterRefIdeal (hAdamFilterIdeal := hAdamFilterIdeal) (hAdamFilterRefIdeal := hAdamFilterRefIdeal)
    ∧ preserves_Sum_SumIdeal
    ∧ algebraic_SumIdeal_SumRefIdeal (hSumIdeal := hSumIdeal) (hSumRefIdeal := hSumRefIdeal)
    ∧ preserves_Gates_GatesIdeal
    ∧ algebraic_GatesIdeal_GatesRefIdeal (hGatesIdeal := hGatesIdeal) (hGatesRefIdeal := hGatesRefIdeal)
    ∧ preserves_Keys_KeysIdeal
    ∧ algebraic_KeysIdeal_KeysRefIdeal (hKeysIdeal := hKeysIdeal) (hKeysRefIdeal := hKeysRefIdeal)
    ∧ preserves_KeysDw_KeysDwIdeal
    ∧ algebraic_KeysDwIdeal_KeysDwRefIdeal (hKeysDwIdeal := hKeysDwIdeal) (hKeysDwRefIdeal := hKeysDwRefIdeal)
    ∧ preserves_KeysDx_KeysDxIdeal
    ∧ algebraic_KeysDxIdeal_KeysDxRefIdeal (hKeysDxIdeal := hKeysDxIdeal) (hKeysDxRefIdeal := hKeysDxRefIdeal)
    ∧ preserves_ValuesDx_ValuesDxIdeal
    ∧ algebraic_ValuesDxIdeal_ValuesDxRefIdeal (hValuesDxIdeal := hValuesDxIdeal) (hValuesDxRefIdeal := hValuesDxRefIdeal)
    ∧ preserves_RowNorm_RowNormIdeal
    ∧ algebraic_RowNormIdeal_RowNormRefIdeal (hRowNormIdeal := hRowNormIdeal) (hRowNormRefIdeal := hRowNormRefIdeal)
    ∧ preserves_MemNorm_MemNormIdeal
    ∧ algebraic_MemNormIdeal_MemNormRefIdeal (hMemNormIdeal := hMemNormIdeal) (hMemNormRefIdeal := hMemNormRefIdeal)
    ∧ preserves_MemNormDx_MemNormDxIdeal
    ∧ algebraic_MemNormDxIdeal_MemNormDxRefIdeal (hMemNormDxIdeal := hMemNormDxIdeal) (hMemNormDxRefIdeal := hMemNormDxRefIdeal)
    ∧ preserves_Mix_MixIdeal
    ∧ algebraic_MixIdeal_MixRefIdeal (hMixIdeal := hMixIdeal) (hMixRefIdeal := hMixRefIdeal)
    ∧ preserves_ConvV_ConvVIdeal
    ∧ algebraic_ConvVIdeal_ConvVRefIdeal (hConvVIdeal := hConvVIdeal) (hConvVRefIdeal := hConvVRefIdeal)
    ∧ preserves_ConvX_ConvXIdeal
    ∧ algebraic_ConvXIdeal_ConvXRefIdeal (hConvXIdeal := hConvXIdeal) (hConvXRefIdeal := hConvXRefIdeal)
    ∧ preserves_ConvQk_ConvQkIdeal
    ∧ algebraic_ConvQkIdeal_ConvQkRefIdeal (hConvQkIdeal := hConvQkIdeal) (hConvQkRefIdeal := hConvQkRefIdeal)
    ∧ preserves_ConvVIn_ConvVInIdeal
    ∧ algebraic_ConvVInIdeal_ConvVInRefIdeal (hConvVInIdeal := hConvVInIdeal) (hConvVInRefIdeal := hConvVInRefIdeal)
-- ==== Pre_finite.lean ====
abbrev S8192x1024 : Shape := ⟨2, ![8192, 1024]⟩
abbrev S256x1024 : Shape := ⟨2, ![256, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S8192x1024 .bf16) (main_arg1 : FVec F S256x1024 .f32) (main_arg2 : FVec F S256x1024 .f32) (main_arg3 : FVec F S8192x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S256x1024 .f32 := Host.absf main_arg1
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  let main_c_1 : IVec S_ 1 := constantI S_ 1 1#1
  let main_v8 : IVec S_ 1 := (fun x v => Host.reduce IntOp.andi x v reducesTo_S256x1024_S_d0_1 h_S_) main_v7 main_c_1
  let main_v9 : IVec S_ 1 := andi main_v4 main_v8
  main_v9
-- ==== Kernel.lean ====
abbrev S8192x1024 : Shape := ⟨2, ![8192, 1024]⟩
abbrev S256x1024 : Shape := ⟨2, ![256, 1024]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S256x1024, .f32⟩
  | .hbm, ⟨2, _⟩ => ⟨S256x1024, .f32⟩
  | .hbm, ⟨3, _⟩ => ⟨S8192x1024, .bf16⟩
  | .hbm, ⟨4, _⟩ => ⟨S8192x1024, .bf16⟩
  | .hbm, ⟨5, _⟩ => ⟨S256x1024, .f32⟩
  | .hbm, ⟨6, _⟩ => ⟨S256x1024, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .f32⟩
  | .hbm, ⟨2, _⟩ => ⟨S256x1024, .f32⟩
  | .hbm, ⟨3, _⟩ => ⟨S8192x1024, .bf16⟩
  | .hbm, ⟨4, _⟩ => ⟨S8192x1024, .f32⟩
  | .hbm, ⟨5, _⟩ => ⟨S8192x4x256, .f32⟩
  | .hbm, ⟨6, _⟩ => ⟨S256x4x256, .f32⟩
  | .hbm, ⟨7, _⟩ => ⟨S256x4x256, .f32⟩
  | .hbm, ⟨8, _⟩ => ⟨S4x8192x256, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S4x8192x256, .f32⟩
  | .hbm, ⟨16, _⟩ => ⟨S4x8192x256, .i1⟩
  | .hbm, ⟨17, _⟩ => ⟨S4x8192x256, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .i1⟩
  | .hbm, ⟨26, _⟩ => ⟨S_, .f32⟩
  | .hbm, ⟨27, _⟩ => ⟨S4x8192, .f32⟩
  | .hbm, ⟨28, _⟩ => ⟨S4x8192, .i1⟩
  | .hbm, ⟨29, _⟩ => ⟨S_, .f32⟩
  | .hbm, ⟨30, _⟩ => ⟨S4x8192, .f32⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S4x8192, .f32⟩
  | .hbm, ⟨36, _⟩ => ⟨S4x8192, .f32⟩
  | .hbm, ⟨37, _⟩ => ⟨S4x8192x1, .f32⟩
  | .hbm, ⟨38, _⟩ => ⟨S4x8192x256, .f32⟩
  | .hbm, ⟨39, _⟩ => ⟨S4x8192x256, .f32⟩
  | .hbm, ⟨40, _⟩ => ⟨S4x8192x256, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S4x8192x256, .f32⟩
  | .hbm, ⟨45, _⟩ => ⟨S4x8192x256, .f32⟩
  | .hbm, ⟨46, _⟩ => ⟨S4x8192x1, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S4x256x8192, .f32⟩
  | .hbm, ⟨51, _⟩ => ⟨S8192x4x256, .f32⟩
  | .hbm, ⟨52, _⟩ => ⟨S8192x1024, .f32⟩
  | .hbm, ⟨53, _⟩ => ⟨S8192x1024, .f32⟩
  | .hbm, ⟨54, _⟩ => ⟨S8192x4x256, .f32⟩
  | .hbm, ⟨55, _⟩ => ⟨S4x256x8192, .f32⟩
  | .hbm, ⟨56, _⟩ => ⟨S4x8192x256, .f32⟩
  | .hbm, ⟨57, _⟩ => ⟨S4x256x256, .f32⟩
  | .hbm, ⟨58, _⟩ => ⟨S256x4x256, .f32⟩
  | .hbm, ⟨59, _⟩ => ⟨S4x8192x256, .f32⟩
  | .hbm, ⟨60, _⟩ => ⟨S4x8192x256, .f32⟩
  | .hbm, ⟨61, _⟩ => ⟨S4x8192x256, .f32⟩
  | .hbm, ⟨62, _⟩ => ⟨S_, .f32⟩
  | .hbm, ⟨63, _⟩ => ⟨S4x8192, .f32⟩
  | .hbm, ⟨64, _⟩ => ⟨S4x8192x1, .f32⟩
  | .hbm, ⟨65, _⟩ => ⟨S4x8192x1, .f32⟩
  | .hbm, ⟨66, _⟩ => ⟨S4x8192x256, .f32⟩
  | .hbm, ⟨67, _⟩ => ⟨S4x8192x256, .f32⟩
  | .hbm, ⟨68, _⟩ => ⟨S_, .f32⟩
  | .hbm, ⟨69, _⟩ => ⟨S4x8192, .f32⟩
  | .hbm, ⟨70, _⟩ => ⟨S4x8192x256, .f32⟩
  | .hbm, ⟨71, _⟩ => ⟨S4x8192x256, .f32⟩
  | .hbm, ⟨72, _⟩ => ⟨S4x8192x256, .f32⟩
  | .hbm, ⟨73, _⟩ => ⟨S_, .f32⟩
  | .hbm, ⟨74, _⟩ => ⟨S4x8192x256, .f32⟩
  | .hbm, ⟨75, _⟩ => ⟨S4x8192x256, .f32⟩
  | .hbm, ⟨76, _⟩ => ⟨S4x256x256, .f32⟩
  | .hbm, ⟨77, _⟩ => ⟨S256x4x256, .f32⟩
  | .hbm, ⟨78, _⟩ => ⟨S4x8192x256, .f32⟩
  | .hbm, ⟨79, _⟩ => ⟨S8192x4x256, .f32⟩
  | .hbm, ⟨80, _⟩ => ⟨S256x1024, .f32⟩
  | .hbm, ⟨81, _⟩ => ⟨S256x1024, .f32⟩
  | .hbm, ⟨82, _⟩ => ⟨S8192x1024, .f32⟩
  | .hbm, ⟨83, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== DownDx.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .bf16⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S8192x4096, .bf16⟩
  | .local _ .vmem, ⟨0, _⟩ => ⟨S1024x1024, .f32⟩
  | .local _ .vmem, ⟨1, _⟩ => ⟨S1024x1024, .f32⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 4, 1], ![false, false, false]⟩

def k0_mult1 (i : grid0.Coords) : BitVec 32 :=
  let arg1 : BitVec 32 := BitVec.ofNat 32 (i 1).val
  let c0_i32 : BitVec 32 := 0#32
  let v0 : BitVec 32 := Scalar.addi arg1 c0_i32
  let c1024_i32 : BitVec 32 := 1024#32
  let v1 : BitVec 32 := Scalar.muli v0 c1024_i32
  v1
def k0_mult2 (i : grid0.Coords) : BitVec 32 :=
  let arg2 : BitVec 32 := BitVec.ofNat 32 (i 2).val
  let c1024_i32_0 : BitVec 32 := 1024#32
  let v3 : BitVec 32 := Scalar.muli arg2 c1024_i32_0
  v3
def k0_off1 (i : grid0.Coords) : Fin 2 → Nat :=
  let arg1 : BitVec 32 := BitVec.ofNat 32 (i 1).val
  let c0_i32 : BitVec 32 := 0#32
  let v0 : BitVec 32 := Scalar.addi arg1 c0_i32
  let c1024_i32 : BitVec 32 := 1024#32
  let v1 : BitVec 32 := Scalar.muli v0 c1024_i32
  let v2 : BitVec 32 := v1
  let v5 : Index := Scalar.indexCast v2
  let arg2 : BitVec 32 := BitVec.ofNat 32 (i 2).val
  let c1024_i32_0 : BitVec 32 := 1024#32
  let v3 : BitVec 32 := Scalar.muli arg2 c1024_i32_0
  let v4 : BitVec 32 := v3
  let v6 : Index := Scalar.indexCast v4
  ![v5.toNat, v6.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .bf16⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S4096x1024, .f32⟩
  | .hbm, ⟨13, _⟩ => ⟨S8192x1024, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== DownDw.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S1024x4096, .f32⟩
  | .hbm, ⟨7, _⟩ => ⟨S4096x1024, .f32⟩
  | .hbm, ⟨8, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDw.lean ====
abbrev S8192x1024 : Shape := ⟨2, ![8192, 1024]⟩
abbrev S8192x4096 : Shape := ⟨2, ![8192, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .bf16⟩
  | .hbm, ⟨3, _⟩ => ⟨S8192x1024, .f32⟩
  | .hbm, ⟨4, _⟩ => ⟨S8192x4096, .bf16⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x4096, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 4], ![false, false, false]⟩

def k0_mult1 (i : grid0.Coords) : BitVec 32 :=
  let arg1 : BitVec 32 := BitVec.ofNat 32 (i 1).val
  let c0_i32_0 : BitVec 32 := 0#32
  let v1 : BitVec 32 := Scalar.addi arg1 c0_i32_0
  let c1024_i32 : BitVec 32 := 1024#32
  let v2 : BitVec 32 := Scalar.muli v1 c1024_i32
  v2
def k0_mult2 (i : grid0.Coords) : BitVec 32 :=
  let arg2 : BitVec 32 := BitVec.ofNat 32 (i 2).val
  let c1024_i32_1 : BitVec 32 := 1024#32
  let v4 : BitVec 32 := Scalar.muli arg2 c1024_i32_1
  v4
def k0_off1 (i : grid0.Coords) : Fin 2 → Nat :=
  let arg1 : BitVec 32 := BitVec.ofNat 32 (i 1).val
  let c0_i32_0 : BitVec 32 := 0#32
  let v1 : BitVec 32 := Scalar.addi arg1 c0_i32_0
  let c1024_i32 : BitVec 32 := 1024#32
  let v2 : BitVec 32 := Scalar.muli v1 c1024_i32
  let v3 : BitVec 32 := v2
  let v6 : Index := Scalar.indexCast v3
  let arg2 : BitVec 32 := BitVec.ofNat 32 (i 2).val
  let c1024_i32_1 : BitVec 32 := 1024#32
  let v4 : BitVec 32 := Scalar.muli arg2 c1024_i32_1
  let v5 : BitVec 32 := v4
  let v7 : Index := Scalar.indexCast v5
  ![v6.toNat, v7.toNat]
def k0_cond3 (i : grid0.Coords) : BitVec 1 :=
  let arg2 : BitVec 32 := BitVec.ofNat 32 (i 2).val
  let c3_i32_7 : BitVec 32 := 3#32
  let v19 : BitVec 1 := Scalar.cmpi .eq arg2 c3_i32_7
  let v20 : BitVec 32 := Scalar.extui v19
  let c0_i32_8 : BitVec 32 := 0#32
  let v21 : BitVec 1 := Scalar.cmpi .ne v20 c0_i32_8
  v21

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v55 : BitVec 32 := Scalar.extui v0
  let c0_i32_25 : BitVec 32 := 0#32
  let v56 : BitVec 1 := Scalar.cmpi .ne v55 c0_i32_25
  v56

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v57 : BitVec 1 := Scalar.xori v0 v_true
  let v58 : BitVec 32 := Scalar.extui v57
  let c0_i32_26 : BitVec 32 := 0#32
  let v59 : BitVec 1 := Scalar.cmpi .ne v58 c0_i32_26
  v59

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== UpDxRefIdeal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .bf16⟩
  | .hbm, ⟨3, _⟩ => ⟨S8192x1024, .f32⟩
  | .hbm, ⟨4, _⟩ => ⟨S8192x4096, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x4096, .f32⟩
  | .hbm, ⟨26, _⟩ => ⟨S8192x4096, .f32⟩
  | .hbm, ⟨27, _⟩ => ⟨S8192x4096, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== OutDw.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WoDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WoDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WqDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WqDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw.lean ====
abbrev S8192x1024 : Shape := ⟨2, ![8192, 1024]⟩
abbrev S8192x6912 : Shape := ⟨2, ![8192, 6912]⟩
abbrev S1024x6912 : Shape := ⟨2, ![1024, 6912]⟩
abbrev S4096x1024 : Shape := ⟨2, ![4096, 1024]⟩
abbrev S4096x1152 : Shape := ⟨2, ![4096, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6912, .bf16⟩
  | .hbm, ⟨2, _⟩ => ⟨S1024x6912, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1152, .bf16⟩
  | .local _ .vmem, ⟨3, _⟩ => ⟨S4096x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x1024 : Shape := ⟨2, ![8192, 1024]⟩
abbrev S8192x6912 : Shape := ⟨2, ![8192, 6912]⟩
abbrev S_ : Shape := ⟨0, ![]⟩
abbrev S1024x6912 : Shape := ⟨2, ![1024, 6912]⟩
abbrev S6912x1024 : Shape := ⟨2, ![6912, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6912, .bf16⟩
  | .hbm, ⟨2, _⟩ => ⟨S_, .f32⟩
  | .hbm, ⟨3, _⟩ => ⟨S1024x6912, .f32⟩
  | .hbm, ⟨4, _⟩ => ⟨S8192x1024, .f32⟩
  | .hbm, ⟨5, _⟩ => ⟨S8192x6912, .f32⟩
  | .hbm, ⟨6, _⟩ => ⟨S8192x6912, .f32⟩
  | .hbm, ⟨7, _⟩ => ⟨S6912x1024, .f32⟩
  | .hbm, ⟨8, _⟩ => ⟨S1024x6912, .f32⟩
  | .hbm, ⟨9, _⟩ => ⟨S1024x6912, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WoDx.lean ====
abbrev S1024x1024 : Shape := ⟨2, ![1024, 1024]⟩
abbrev S8192x1024 : Shape := ⟨2, ![8192, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .f32⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoDxRefIdeal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WqDx.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .bf16⟩
  | .hbm, ⟨3, _⟩ => ⟨S8192x1024, .f32⟩
  | .hbm, ⟨4, _⟩ => ⟨S8192x1024, .bf16⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v35 : BitVec 32 := Scalar.extui v0
  let c0_i32_17 : BitVec 32 := 0#32
  let v36 : BitVec 1 := Scalar.cmpi .ne v35 c0_i32_17
  v36

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v37 : BitVec 1 := Scalar.xori v0 v_true
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== WqDxRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .bf16⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== InDx.lean ====
abbrev S8192x1024 : Shape := ⟨2, ![8192, 1024]⟩
abbrev S1024 : Shape := ⟨1, ![1024]⟩
abbrev S1024x6912 : Shape := ⟨2, ![1024, 6912]⟩
abbrev S8192x6912 : Shape := ⟨2, ![8192, 6912]⟩
abbrev S1x1024 : Shape := ⟨2, ![1, 1024]⟩
abbrev S1024x1152 : Shape := ⟨2, ![1024, 1152]⟩
abbrev S1024x1024 : Shape := ⟨2, ![1024, 1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6912, .bf16⟩
  | .hbm, ⟨3, _⟩ => ⟨S8192x1024, .f32⟩
  | .hbm, ⟨4, _⟩ => ⟨S8192x6912, .bf16⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S1024x1152, .bf16⟩
  | .local _ .vmem, ⟨1, _⟩ => ⟨S1024x1152, .bf16⟩
  | .local _ .vmem, ⟨2, _⟩ => ⟨S1024x6912, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 6], ![false, false, false]⟩

def k0_mult1 (i : grid0.Coords) : BitVec 32 :=
  let arg1 : BitVec 32 := BitVec.ofNat 32 (i 1).val
  let c0_i32_0 : BitVec 32 := 0#32
  let v1 : BitVec 32 := Scalar.addi arg1 c0_i32_0
  let c1024_i32 : BitVec 32 := 1024#32
  let v2 : BitVec 32 := Scalar.muli v1 c1024_i32
  v2
def k0_mult2 (i : grid0.Coords) : BitVec 32 :=
  let arg2 : BitVec 32 := BitVec.ofNat 32 (i 2).val
  let c1152_i32 : BitVec 32 := 1152#32
  let v4 : BitVec 32 := Scalar.muli arg2 c1152_i32
  v4
def k0_off1 (i : grid0.Coords) : Fin 2 → Nat :=
  let arg1 : BitVec 32 := BitVec.ofNat 32 (i 1).val
  let c0_i32_0 : BitVec 32 := 0#32
  let v1 : BitVec 32 := Scalar.addi arg1 c0_i32_0
  let c1024_i32 : BitVec 32 := 1024#32
  let v2 : BitVec 32 := Scalar.muli v1 c1024_i32
  let v3 : BitVec 32 := v2
  let v6 : Index := Scalar.indexCast v3
  let arg2 : BitVec 32 := BitVec.ofNat 32 (i 2).val
  let c1152_i32 : BitVec 32 := 1152#32
  let v4 : BitVec 32 := Scalar.muli arg2 c1152_i32
  let v5 : BitVec 32 := v4
  let v7 : Index := Scalar.indexCast v5
  ![v6.toNat, v7.toNat]
def k0_cond3 (i : grid0.Coords) : BitVec 1 :=
  let arg2 : BitVec 32 := BitVec.ofNat 32 (i 2).val
  let c5_i32_6 : BitVec 32 := 5#32
  let v19 : BitVec 1 := Scalar.cmpi .eq arg2 c5_i32_6
  let v20 : BitVec 32 := Scalar.extui v19
  let c0_i32_7 : BitVec 32 := 0#32
  let v21 : BitVec 1 := Scalar.cmpi .ne v20 c0_i32_7
  v21

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v55 : BitVec 32 := Scalar.extui v0
  let c0_i32_24 : BitVec 32 := 0#32
  let v56 : BitVec 1 := Scalar.cmpi .ne v55 c0_i32_24
  v56

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v57 : BitVec 1 := Scalar.xori v0 v_true
  let v58 : BitVec 32 := Scalar.extui v57
  let c0_i32_25 : BitVec 32 := 0#32
  let v59 : BitVec 1 := Scalar.cmpi .ne v58 c0_i32_25
  v59

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x6912 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== InDxRefIdeal.lean ====
abbrev S8192x1024 : Shape := ⟨2, ![8192, 1024]⟩
abbrev S1024 : Shape := ⟨1, ![1024]⟩
abbrev S1024x6912 : Shape := ⟨2, ![1024, 6912]⟩
abbrev S8192x6912 : Shape := ⟨2, ![8192, 6912]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6912, .bf16⟩
  | .hbm, ⟨3, _⟩ => ⟨S8192x1024, .f32⟩
  | .hbm, ⟨4, _⟩ => ⟨S8192x6912, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x6912, .f32⟩
  | .hbm, ⟨26, _⟩ => ⟨S8192x6912, .f32⟩
  | .hbm, ⟨27, _⟩ => ⟨S8192x6912, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== In.lean ====
abbrev S8192x1024 : Shape := ⟨2, ![8192, 1024]⟩
abbrev S1024x6912 : Shape := ⟨2, ![1024, 6912]⟩
abbrev S8192x6656 : Shape := ⟨2, ![8192, 6656]⟩
abbrev S1024x1024 : Shape := ⟨2, ![1024, 1024]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x6912, .bf16⟩
  | .hbm, ⟨2, _⟩ => ⟨S8192x6656, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .bf16⟩
  | .local _ .vmem, ⟨5, _⟩ => ⟨S1024x1664, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S8192x1024 : Shape := ⟨2, ![8192, 1024]⟩
abbrev S1024x6912 : Shape := ⟨2, ![1024, 6912]⟩
abbrev S8192x6912 : Shape := ⟨2, ![8192, 6912]⟩
abbrev S8192x6656 : Shape := ⟨2, ![8192, 6656]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6912, .bf16⟩
  | .hbm, ⟨2, _⟩ => ⟨S8192x1024, .f32⟩
  | .hbm, ⟨3, _⟩ => ⟨S1024x6912, .f32⟩
  | .hbm, ⟨4, _⟩ => ⟨S8192x6912, .f32⟩
  | .hbm, ⟨5, _⟩ => ⟨S8192x6656, .f32⟩
  | .hbm, ⟨6, _⟩ => ⟨S8192x6656, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Wq.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WqRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S8192x1024 : Shape := ⟨2, ![8192, 1024]⟩
abbrev S8192x2048 : Shape := ⟨2, ![8192, 2048]⟩
abbrev S2048x1024 : Shape := ⟨2, ![2048, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S2048x1024, .bf16⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutRefIdeal.lean ====
abbrev S8192x1024 : Shape := ⟨2, ![8192, 1024]⟩
abbrev S8192x2048 : Shape := ⟨2, ![8192, 2048]⟩
abbrev S2048x1024 : Shape := ⟨2, ![2048, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S2048x1024, .bf16⟩
  | .hbm, ⟨3, _⟩ => ⟨S1024, .f32⟩
  | .hbm, ⟨4, _⟩ => ⟨S8192x2048, .f32⟩
  | .hbm, ⟨5, _⟩ => ⟨S2048x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Wo.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== WoRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Up.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x4096, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 2, 1], ![false, false, false]⟩

def k0_mult1 (i : grid0.Coords) : BitVec 32 :=
  let arg1 : BitVec 32 := BitVec.ofNat 32 (i 1).val
  let c0_i32 : BitVec 32 := 0#32
  let v0 : BitVec 32 := Scalar.addi arg1 c0_i32
  let c2048_i32 : BitVec 32 := 2048#32
  let v1 : BitVec 32 := Scalar.muli v0 c2048_i32
  v1
def k0_mult2 (i : grid0.Coords) : BitVec 32 :=
  let arg2 : BitVec 32 := BitVec.ofNat 32 (i 2).val
  let c1024_i32 : BitVec 32 := 1024#32
  let v3 : BitVec 32 := Scalar.muli arg2 c1024_i32
  v3
def k0_off1 (i : grid0.Coords) : Fin 2 → Nat :=
  let arg2 : BitVec 32 := BitVec.ofNat 32 (i 2).val
  let c1024_i32 : BitVec 32 := 1024#32
  let v3 : BitVec 32 := Scalar.muli arg2 c1024_i32
  let v4 : BitVec 32 := v3
  let v5 : Index := Scalar.indexCast v4
  let arg1 : BitVec 32 := BitVec.ofNat 32 (i 1).val
  let c0_i32 : BitVec 32 := 0#32
  let v0 : BitVec 32 := Scalar.addi arg1 c0_i32
  let c2048_i32 : BitVec 32 := 2048#32
  let v1 : BitVec 32 := Scalar.muli v0 c2048_i32
  let v2 : BitVec 32 := v1
  let v6 : Index := Scalar.indexCast v2
  ![v5.toNat, v6.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .bf16⟩
  | .hbm, ⟨9, _⟩ => ⟨S8192x4096, .f32⟩
  | .hbm, ⟨10, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Down.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨3, ![8, 1, 4], ![false, false, false]⟩

def k0_mult1 (i : grid0.Coords) : BitVec 32 :=
  let arg1 : BitVec 32 := BitVec.ofNat 32 (i 1).val
  let c0_i32_0 : BitVec 32 := 0#32
  let v1 : BitVec 32 := Scalar.addi arg1 c0_i32_0
  let c1024_i32 : BitVec 32 := 1024#32
  let v2 : BitVec 32 := Scalar.muli v1 c1024_i32
  v2
def k0_mult2 (i : grid0.Coords) : BitVec 32 :=
  let arg2 : BitVec 32 := BitVec.ofNat 32 (i 2).val
  let c1024_i32_1 : BitVec 32 := 1024#32
  let v4 : BitVec 32 := Scalar.muli arg2 c1024_i32_1
  v4
def k0_off1 (i : grid0.Coords) : Fin 2 → Nat :=
  let arg2 : BitVec 32 := BitVec.ofNat 32 (i 2).val
  let c1024_i32_1 : BitVec 32 := 1024#32
  let v4 : BitVec 32 := Scalar.muli arg2 c1024_i32_1
  let v5 : BitVec 32 := v4
  let v6 : Index := Scalar.indexCast v5
  let arg1 : BitVec 32 := BitVec.ofNat 32 (i 1).val
  let c0_i32_0 : BitVec 32 := 0#32
  let v1 : BitVec 32 := Scalar.addi arg1 c0_i32_0
  let c1024_i32 : BitVec 32 := 1024#32
  let v2 : BitVec 32 := Scalar.muli v1 c1024_i32
  let v3 : BitVec 32 := v2
  let v7 : Index := Scalar.indexCast v3
  ![v6.toNat, v7.toNat]
def k0_cond3 (i : grid0.Coords) : BitVec 1 :=
  let arg2 : BitVec 32 := BitVec.ofNat 32 (i 2).val
  let c3_i32_7 : BitVec 32 := 3#32
  let v19 : BitVec 1 := Scalar.cmpi .eq arg2 c3_i32_7
  let v20 : BitVec 32 := Scalar.extui v19
  let c0_i32_8 : BitVec 32 := 0#32
  let v21 : BitVec 1 := Scalar.cmpi .ne v20 c0_i32_8
  v21

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v71 : BitVec 32 := Scalar.extui v0
  let c0_i32_30 : BitVec 32 := 0#32
  let v72 : BitVec 1 := Scalar.cmpi .ne v71 c0_i32_30
  v72

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v73 : BitVec 1 := Scalar.xori v0 v_true
  let v74 : BitVec 32 := Scalar.extui v73
  let c0_i32_31 : BitVec 32 := 0#32
  let v75 : BitVec 1 := Scalar.cmpi .ne v74 c0_i32_31
  v75

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== DownRefIdeal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x4096, .f32⟩
  | .hbm, ⟨6, _⟩ => ⟨S4096x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S1x1024, .f32⟩
  | .hbm, ⟨78, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Attn.lean ====
abbrev S8192x1024 : Shape := ⟨2, ![8192, 1024]⟩
abbrev S256x1024 : Shape := ⟨2, ![256, 1024]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S256x1024, .f32⟩
  | .hbm, ⟨2, _⟩ => ⟨S256x1024, .f32⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnRefIdeal.lean ====
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .f32⟩
  | .hbm, ⟨2, _⟩ => ⟨S256x1024, .f32⟩
  | .hbm, ⟨3, _⟩ => ⟨S8192x1024, .f32⟩
  | .hbm, ⟨4, _⟩ => ⟨S8192x4x256, .f32⟩
  | .hbm, ⟨5, _⟩ => ⟨S256x4x256, .f32⟩
  | .hbm, ⟨6, _⟩ => ⟨S256x4x256, .f32⟩
  | .hbm, ⟨7, _⟩ => ⟨S4x8192x256, .f32⟩
  | .hbm, ⟨8, _⟩ => ⟨S_, .f32⟩
  | .hbm, ⟨9, _⟩ => ⟨S4x8192x256, .f32⟩
  | .hbm, ⟨10, _⟩ => ⟨S4x8192x256, .f32⟩
  | .hbm, ⟨11, _⟩ => ⟨S_, .f32⟩
  | .hbm, ⟨12, _⟩ => ⟨S4x8192, .f32⟩
  | .hbm, ⟨13, _⟩ => ⟨S_, .f32⟩
  | .hbm, ⟨14, _⟩ => ⟨S4x8192, .f32⟩
  | .hbm, ⟨15, _⟩ => ⟨S4x8192, .f32⟩
  | .hbm, ⟨16, _⟩ => ⟨S4x8192x1, .f32⟩
  | .hbm, ⟨17, _⟩ => ⟨S4x8192x256, .f32⟩
  | .hbm, ⟨18, _⟩ => ⟨S4x8192x256, .f32⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S4x8192x256, .f32⟩
  | .hbm, ⟨24, _⟩ => ⟨S4x8192x256, .f32⟩
  | .hbm, ⟨25, _⟩ => ⟨S4x256x8192, .f32⟩
  | .hbm, ⟨26, _⟩ => ⟨S8192x4x256, .f32⟩
  | .hbm, ⟨27, _⟩ => ⟨S8192x1024, .f32⟩
  | .hbm, ⟨28, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== GdnPost.lean ====
abbrev S8192x1024 : Shape := ⟨2, ![8192, 1024]⟩
abbrev S2048x1024 : Shape := ⟨2, ![2048, 1024]⟩
abbrev S8192x6656 : Shape := ⟨2, ![8192, 6656]⟩
abbrev S1x1024 : Shape := ⟨2, ![1, 1024]⟩
abbrev S8192x6912 : Shape := ⟨2, ![8192, 6912]⟩
abbrev S512x1024 : Shape := ⟨2, ![512, 1024]⟩
abbrev S1024x1024 : Shape := ⟨2, ![1024, 1024]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S128 : Shape := ⟨1, ![128]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x1024, .bf16⟩
  | .hbm, ⟨3, _⟩ => ⟨S8192x6656, .bf16⟩
  | .hbm, ⟨4, _⟩ => ⟨S1x1024, .f32⟩
  | .hbm, ⟨5, _⟩ => ⟨S8192x1024, .bf16⟩
  | .hbm, ⟨6, _⟩ => ⟨S8192x6912, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GdnPostRefIdeal.lean ====
abbrev S8192x1024 : Shape := ⟨2, ![8192, 1024]⟩
abbrev S2048x1024 : Shape := ⟨2, ![2048, 1024]⟩
abbrev S8192x6656 : Shape := ⟨2, ![8192, 6656]⟩
abbrev S1x1024 : Shape := ⟨2, ![1, 1024]⟩
abbrev S8192x8x128 : Shape := ⟨3, ![8192, 8, 128]⟩
abbrev S8x128 : Shape := ⟨2, ![8, 128]⟩
abbrev S_ : Shape := ⟨0, ![]⟩
abbrev S8192x8 : Shape := ⟨2, ![8192, 8]⟩
abbrev S8192x8x1 : Shape := ⟨3, ![8192, 8, 1]⟩
abbrev S1x8x128 : Shape := ⟨3, ![1, 8, 128]⟩
abbrev S1024x1024 : Shape := ⟨2, ![1024, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x1024, .bf16⟩
  | .hbm, ⟨3, _⟩ => ⟨S8192x6656, .bf16⟩
  | .hbm, ⟨4, _⟩ => ⟨S1x1024, .f32⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x8x128, .f32⟩
  | .hbm, ⟨9, _⟩ => ⟨S8x128, .f32⟩
  | .hbm, ⟨10, _⟩ => ⟨S8192x8x128, .f32⟩
  | .hbm, ⟨11, _⟩ => ⟨S_, .f32⟩
  | .hbm, ⟨12, _⟩ => ⟨S8192x8, .f32⟩
  | .hbm, ⟨13, _⟩ => ⟨S8192x8x1, .f32⟩
  | .hbm, ⟨14, _⟩ => ⟨S_, .f32⟩
  | .hbm, ⟨15, _⟩ => ⟨S8192x8x1, .f32⟩
  | .hbm, ⟨16, _⟩ => ⟨S8192x8x1, .f32⟩
  | .hbm, ⟨17, _⟩ => ⟨S_, .f32⟩
  | .hbm, ⟨18, _⟩ => ⟨S8192x8x1, .f32⟩
  | .hbm, ⟨19, _⟩ => ⟨S8192x8x1, .f32⟩
  | .hbm, ⟨20, _⟩ => ⟨S8192x8x1, .f32⟩
  | .hbm, ⟨21, _⟩ => ⟨S8192x8x1, .f32⟩
  | .hbm, ⟨22, _⟩ => ⟨S_, .f32⟩
  | .hbm, ⟨23, _⟩ => ⟨S8192x8x1, .f32⟩
  | .hbm, ⟨24, _⟩ => ⟨S8192x8x1, .f32⟩
  | .hbm, ⟨25, _⟩ => ⟨S8192x8x128, .f32⟩
  | .hbm, ⟨26, _⟩ => ⟨S8192x8x128, .f32⟩
  | .hbm, ⟨27, _⟩ => ⟨S1x8x128, .f32⟩
  | .hbm, ⟨28, _⟩ => ⟨S8192x8x128, .f32⟩
  | .hbm, ⟨29, _⟩ => ⟨S8192x8x128, .f32⟩
  | .hbm, ⟨30, _⟩ => ⟨S8192x8x128, .f32⟩
  | .hbm, ⟨31, _⟩ => ⟨S8192x8x128, .f32⟩
  | .hbm, ⟨32, _⟩ => ⟨S8192x8x128, .f32⟩
  | .hbm, ⟨33, _⟩ => ⟨S_, .f32⟩
  | .hbm, ⟨34, _⟩ => ⟨S8192x8x128, .f32⟩
  | .hbm, ⟨35, _⟩ => ⟨S8192x8x128, .f32⟩
  | .hbm, ⟨36, _⟩ => ⟨S_, .f32⟩
  | .hbm, ⟨37, _⟩ => ⟨S8192x8x128, .f32⟩
  | .hbm, ⟨38, _⟩ => ⟨S8192x8x128, .f32⟩
  | .hbm, ⟨39, _⟩ => ⟨S8192x8x128, .f32⟩
  | .hbm, ⟨40, _⟩ => ⟨S8192x8x128, .f32⟩
  | .hbm, ⟨41, _⟩ => ⟨S8192x1024, .f32⟩
  | .hbm, ⟨42, _⟩ => ⟨S1024x1024, .bf16⟩
  | .hbm, ⟨43, _⟩ => ⟨S1024x1024, .f32⟩
  | .hbm, ⟨44, _⟩ => ⟨S8192x1024, .f32⟩
  | .hbm, ⟨45, _⟩ => ⟨S8192x1024, .f32⟩
  | .hbm, ⟨46, _⟩ => ⟨S8192x8x128, .f32⟩
  | .hbm, ⟨47, _⟩ => ⟨S8192x8x128, .f32⟩
  | .hbm, ⟨48, _⟩ => ⟨S8192x8x128, .f32⟩
  | .hbm, ⟨49, _⟩ => ⟨S_, .f32⟩
  | .hbm, ⟨50, _⟩ => ⟨S8x128, .f32⟩
  | .hbm, ⟨51, _⟩ => ⟨S1x8x128, .f32⟩
  | .hbm, ⟨52, _⟩ => ⟨S8192x8x128, .f32⟩
  | .hbm, ⟨53, _⟩ => ⟨S8192x8x128, .f32⟩
  | .hbm, ⟨54, _⟩ => ⟨S_, .f32⟩
  | .hbm, ⟨55, _⟩ => ⟨S8x128, .f32⟩
  | .hbm, ⟨56, _⟩ => ⟨S8192x8x128, .f32⟩
  | .hbm, ⟨57, _⟩ => ⟨S_, .f32⟩
  | .hbm, ⟨58, _⟩ => ⟨S8192x8, .f32⟩
  | .hbm, ⟨59, _⟩ => ⟨S8192x8x1, .f32⟩
  | .hbm, ⟨60, _⟩ => ⟨S8192x8x128, .f32⟩
  | .hbm, ⟨61, _⟩ => ⟨S8192x8x128, .f32⟩
  | .hbm, ⟨62, _⟩ => ⟨S8192x8x1, .f32⟩
  | .hbm, ⟨63, _⟩ => ⟨S_, .f32⟩
  | .hbm, ⟨64, _⟩ => ⟨S8192x8x1, .f32⟩
  | .hbm, ⟨65, _⟩ => ⟨S8192x8x1, .f32⟩
  | .hbm, ⟨66, _⟩ => ⟨S_, .f32⟩
  | .hbm, ⟨67, _⟩ => ⟨S8192x8, .f32⟩
  | .hbm, ⟨68, _⟩ => ⟨S8192x8x128, .f32⟩
  | .hbm, ⟨69, _⟩ => ⟨S8192x8x128, .f32⟩
  | .hbm, ⟨70, _⟩ => ⟨S8192x8x128, .f32⟩
  | .hbm, ⟨71, _⟩ => ⟨S8192x8x128, .f32⟩
  | .hbm, ⟨72, _⟩ => ⟨S8192x8x128, .f32⟩
  | .hbm, ⟨73, _⟩ => ⟨S1x1024, .f32⟩
  | .hbm, ⟨74, _⟩ => ⟨S8192x1024, .f32⟩
  | .hbm, ⟨75, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== SsdPost.lean ====
abbrev S8192x1024 : Shape := ⟨2, ![8192, 1024]⟩
abbrev S2048x1024 : Shape := ⟨2, ![2048, 1024]⟩
abbrev S8192x1536 : Shape := ⟨2, ![8192, 1536]⟩
abbrev S8192x6656 : Shape := ⟨2, ![8192, 6656]⟩
abbrev S1x1024 : Shape := ⟨2, ![1, 1024]⟩
abbrev S8192x6912 : Shape := ⟨2, ![8192, 6912]⟩
abbrev S512x1024 : Shape := ⟨2, ![512, 1024]⟩
abbrev S1024x1024 : Shape := ⟨2, ![1024, 1024]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1024 : Shape := ⟨1, ![1024]⟩

abbrev nBuf : Space → Nat
  | .hbm => 12
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x1024, .bf16⟩
  | .hbm, ⟨3, _⟩ => ⟨S8192x1536, .f32⟩
  | .hbm, ⟨4, _⟩ => ⟨S8192x6656, .bf16⟩
  | .hbm, ⟨5, _⟩ => ⟨S1x1024, .f32⟩
  | .hbm, ⟨6, _⟩ => ⟨S1x1024, .f32⟩
  | .hbm, ⟨7, _⟩ => ⟨S8192x6912, .bf16⟩
  | .hbm, ⟨8, _⟩ => ⟨S8192x1024, .f32⟩
  | .hbm, ⟨9, _⟩ => ⟨S8192x6912, .bf16⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SsdPostRefIdeal.lean ====
abbrev S8192x1024 : Shape := ⟨2, ![8192, 1024]⟩
abbrev S2048x1024 : Shape := ⟨2, ![2048, 1024]⟩
abbrev S8192x1536 : Shape := ⟨2, ![8192, 1536]⟩
abbrev S8192x6656 : Shape := ⟨2, ![8192, 6656]⟩
abbrev S1x1024 : Shape := ⟨2, ![1, 1024]⟩
abbrev S8192x6912 : Shape := ⟨2, ![8192, 6912]⟩
abbrev S_ : Shape := ⟨0, ![]⟩
abbrev S8192x2x512 : Shape := ⟨3, ![8192, 2, 512]⟩
abbrev S8192x2 : Shape := ⟨2, ![8192, 2]⟩
abbrev S8192x2x1 : Shape := ⟨3, ![8192, 2, 1]⟩
abbrev S1024x1024 : Shape := ⟨2, ![1024, 1024]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x1024, .bf16⟩
  | .hbm, ⟨3, _⟩ => ⟨S8192x1536, .f32⟩
  | .hbm, ⟨4, _⟩ => ⟨S8192x6656, .bf16⟩
  | .hbm, ⟨5, _⟩ => ⟨S1x1024, .f32⟩
  | .hbm, ⟨6, _⟩ => ⟨S1x1024, .f32⟩
  | .hbm, ⟨7, _⟩ => ⟨S8192x6912, .bf16⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2x512, .f32⟩
  | .hbm, ⟨26, _⟩ => ⟨S8192x2x512, .f32⟩
  | .hbm, ⟨27, _⟩ => ⟨S_, .f32⟩
  | .hbm, ⟨28, _⟩ => ⟨S8192x2, .f32⟩
  | .hbm, ⟨29, _⟩ => ⟨S8192x2x1, .f32⟩
  | .hbm, ⟨30, _⟩ => ⟨S_, .f32⟩
  | .hbm, ⟨31, _⟩ => ⟨S8192x2x1, .f32⟩
  | .hbm, ⟨32, _⟩ => ⟨S8192x2x1, .f32⟩
  | .hbm, ⟨33, _⟩ => ⟨S_, .f32⟩
  | .hbm, ⟨34, _⟩ => ⟨S8192x2x1, .f32⟩
  | .hbm, ⟨35, _⟩ => ⟨S8192x2x1, .f32⟩
  | .hbm, ⟨36, _⟩ => ⟨S8192x2x1, .f32⟩
  | .hbm, ⟨37, _⟩ => ⟨S8192x2x1, .f32⟩
  | .hbm, ⟨38, _⟩ => ⟨S_, .f32⟩
  | .hbm, ⟨39, _⟩ => ⟨S8192x2x1, .f32⟩
  | .hbm, ⟨40, _⟩ => ⟨S8192x2x1, .f32⟩
  | .hbm, ⟨41, _⟩ => ⟨S8192x2x512, .f32⟩
  | .hbm, ⟨42, _⟩ => ⟨S8192x2x512, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S1024x1024, .bf16⟩
  | .hbm, ⟨47, _⟩ => ⟨S1024x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x2x512, .f32⟩
  | .hbm, ⟨57, _⟩ => ⟨S8192x2x512, .f32⟩
  | .hbm, ⟨58, _⟩ => ⟨S_, .f32⟩
  | .hbm, ⟨59, _⟩ => ⟨S8192x2, .f32⟩
  | .hbm, ⟨60, _⟩ => ⟨S8192x2x1, .f32⟩
  | .hbm, ⟨61, _⟩ => ⟨S8192x2x512, .f32⟩
  | .hbm, ⟨62, _⟩ => ⟨S8192x2x512, .f32⟩
  | .hbm, ⟨63, _⟩ => ⟨S8192x2x1, .f32⟩
  | .hbm, ⟨64, _⟩ => ⟨S_, .f32⟩
  | .hbm, ⟨65, _⟩ => ⟨S8192x2x1, .f32⟩
  | .hbm, ⟨66, _⟩ => ⟨S8192x2x1, .f32⟩
  | .hbm, ⟨67, _⟩ => ⟨S_, .f32⟩
  | .hbm, ⟨68, _⟩ => ⟨S8192x2, .f32⟩
  | .hbm, ⟨69, _⟩ => ⟨S8192x2x512, .f32⟩
  | .hbm, ⟨70, _⟩ => ⟨S8192x2x512, .f32⟩
  | .hbm, ⟨71, _⟩ => ⟨S8192x2x512, .f32⟩
  | .hbm, ⟨72, _⟩ => ⟨S8192x2x512, .f32⟩
  | .hbm, ⟨73, _⟩ => ⟨S8192x2x512, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_7 : Ref sig .tc := ⟨.hbm, 77, rfl⟩
abbrev main_v53 : Ref sig .tc := ⟨.hbm, 78, rfl⟩
abbrev main_v54 : Ref sig .tc := ⟨.hbm, 79, rfl⟩

abbrev nD : Nat := 1
abbrev τ : Topo := Topo.v7x

variable {F : FTy → Type} [FloatOps F]
-- ==== AdamIn.lean ====
abbrev S1024x836 : Shape := ⟨2, ![1024, 836]⟩
abbrev S8x1024x836 : Shape := ⟨3, ![8, 1024, 836]⟩
abbrev S128x836 : Shape := ⟨2, ![128, 836]⟩
abbrev S8x128x836 : Shape := ⟨3, ![8, 128, 836]⟩
abbrev S1x128x836 : Shape := ⟨3, ![1, 128, 836]⟩

abbrev nBuf : Space → Nat
  | .hbm => 8
  | .vmem => 16
  | .smem => 0
  | _ => 0

abbrev bufTy : (tb : Table) → Fin (tcTables nBuf tb) → BufTy
  | .hbm, ⟨0, _⟩ => ⟨S1024x836, .f32⟩
  | .hbm, ⟨1, _⟩ => ⟨S8x1024x836, .bf16⟩
  | .hbm, ⟨2, _⟩ => ⟨S1024x836, .f32⟩
  | .hbm, ⟨3, _⟩ => ⟨S1024x836, .f32⟩
  | .hbm, ⟨4, _⟩ => ⟨S1024x836, .f32⟩
  | .hbm, ⟨5, _⟩ => ⟨S1024x836, .f32⟩
  | .hbm, ⟨6, _⟩ => ⟨S1024x836, .f32⟩
  | .hbm, ⟨7, _⟩ => ⟨S1024x836, .f32⟩
  | .local _ .vmem, ⟨0, _⟩ => ⟨S128x836, .f32⟩
  | .local _ .vmem, ⟨1, _⟩ => ⟨S128x836, .f32⟩
  | .local _ .vmem, ⟨2, _⟩ => ⟨S8x128x836, .bf16⟩
  | .local _ .vmem, ⟨3, _⟩ => ⟨S8x128x836, .bf16⟩
  | .local _ .vmem, ⟨4, _⟩ => ⟨S128x836, .f32⟩
  | .local _ .vmem, ⟨5, _⟩ => ⟨S128x836, .f32⟩
  | .local _ .vmem, ⟨6, _⟩ => ⟨S128x836, .f32⟩
  | .local _ .vmem, ⟨7, _⟩ => ⟨S128x836, .f32⟩
  | .local _ .vmem, ⟨8, _⟩ => ⟨S128x836, .f32⟩
  | .local _ .vmem, ⟨9, _⟩ => ⟨S128x836, .f32⟩
  | .local _ .vmem, ⟨10, _⟩ => ⟨S128x836, .f32⟩
  | .local _ .vmem, ⟨11, _⟩ => ⟨S128x836, .f32⟩
  | .local _ .vmem, ⟨12, _⟩ => ⟨S128x836, .f32⟩
  | .local _ .vmem, ⟨13, _⟩ => ⟨S128x836, .f32⟩
  | .local _ .vmem, ⟨14, _⟩ => ⟨S128x836, .f32⟩
  | .local _ .vmem, ⟨15, _⟩ => ⟨S128x836, .f32⟩
  | _, _ => ⟨S1024x836, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x836 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x836 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x836 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x836 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x836 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x836 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x836 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x836 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S1024x836 : Shape := ⟨2, ![1024, 836]⟩
abbrev S8x1024x836 : Shape := ⟨3, ![8, 1024, 836]⟩
abbrev S128x836 : Shape := ⟨2, ![128, 836]⟩
abbrev S8x128x836 : Shape := ⟨3, ![8, 128, 836]⟩
abbrev S1x128x836 : Shape := ⟨3, ![1, 128, 836]⟩

abbrev nBuf : Space → Nat
  | .hbm => 8
  | .vmem => 16
  | .smem => 0
  | _ => 0

abbrev bufTy : (tb : Table) → Fin (tcTables nBuf tb) → BufTy
  | .hbm, ⟨0, _⟩ => ⟨S1024x836, .f32⟩
  | .hbm, ⟨1, _⟩ => ⟨S8x1024x836, .bf16⟩
  | .hbm, ⟨2, _⟩ => ⟨S1024x836, .f32⟩
  | .hbm, ⟨3, _⟩ => ⟨S1024x836, .f32⟩
  | .hbm, ⟨4, _⟩ => ⟨S1024x836, .f32⟩
  | .hbm, ⟨5, _⟩ => ⟨S1024x836, .f32⟩
  | .hbm, ⟨6, _⟩ => ⟨S1024x836, .f32⟩
  | .hbm, ⟨7, _⟩ => ⟨S1024x836, .f32⟩
  | .local _ .vmem, ⟨0, _⟩ => ⟨S128x836, .f32⟩
  | .local _ .vmem, ⟨1, _⟩ => ⟨S128x836, .f32⟩
  | .local _ .vmem, ⟨2, _⟩ => ⟨S8x128x836, .bf16⟩
  | .local _ .vmem, ⟨3, _⟩ => ⟨S8x128x836, .bf16⟩
  | .local _ .vmem, ⟨4, _⟩ => ⟨S128x836, .f32⟩
  | .local _ .vmem, ⟨5, _⟩ => ⟨S128x836, .f32⟩
  | .local _ .vmem, ⟨6, _⟩ => ⟨S128x836, .f32⟩
  | .local _ .vmem, ⟨7, _⟩ => ⟨S128x836, .f32⟩
  | .local _ .vmem, ⟨8, _⟩ => ⟨S128x836, .f32⟩
  | .local _ .vmem, ⟨9, _⟩ => ⟨S128x836, .f32⟩
  | .local _ .vmem, ⟨10, _⟩ => ⟨S128x836, .f32⟩
  | .local _ .vmem, ⟨11, _⟩ => ⟨S128x836, .f32⟩
  | .local _ .vmem, ⟨12, _⟩ => ⟨S128x836, .f32⟩
  | .local _ .vmem, ⟨13, _⟩ => ⟨S128x836, .f32⟩
  | .local _ .vmem, ⟨14, _⟩ => ⟨S128x836, .f32⟩
  | .local _ .vmem, ⟨15, _⟩ => ⟨S128x836, .f32⟩
  | _, _ => ⟨S1024x836, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x836 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x836 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x836 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x836 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x836 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x836 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x836 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x836 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S1024x836 : Shape := ⟨2, ![1024, 836]⟩
abbrev S8x1024x836 : Shape := ⟨3, ![8, 1024, 836]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x836, .f32⟩
  | .hbm, ⟨1, _⟩ => ⟨S8x1024x836, .bf16⟩
  | .hbm, ⟨2, _⟩ => ⟨S1024x836, .f32⟩
  | .hbm, ⟨3, _⟩ => ⟨S1024x836, .f32⟩
  | .hbm, ⟨4, _⟩ => ⟨S8x1024x836, .f32⟩
  | .hbm, ⟨5, _⟩ => ⟨S_, .f32⟩
  | .hbm, ⟨6, _⟩ => ⟨S1024x836, .f32⟩
  | .hbm, ⟨7, _⟩ => ⟨S_, .f32⟩
  | .hbm, ⟨8, _⟩ => ⟨S1024x836, .f32⟩
  | .hbm, ⟨9, _⟩ => ⟨S1024x836, .f32⟩
  | .hbm, ⟨10, _⟩ => ⟨S_, .f32⟩
  | .hbm, ⟨11, _⟩ => ⟨S1024x836, .f32⟩
  | .hbm, ⟨12, _⟩ => ⟨S1024x836, .f32⟩
  | .hbm, ⟨13, _⟩ => ⟨S1024x836, .f32⟩
  | .hbm, ⟨14, _⟩ => ⟨S_, .f32⟩
  | .hbm, ⟨15, _⟩ => ⟨S1024x836, .f32⟩
  | .hbm, ⟨16, _⟩ => ⟨S1024x836, .f32⟩
  | .hbm, ⟨17, _⟩ => ⟨S1024x836, .f32⟩
  | .hbm, ⟨18, _⟩ => ⟨S_, .f32⟩
  | .hbm, ⟨19, _⟩ => ⟨S1024x836, .f32⟩
  | .hbm, ⟨20, _⟩ => ⟨S1024x836, .f32⟩
  | .hbm, ⟨21, _⟩ => ⟨S1024x836, .f32⟩
  | .hbm, ⟨22, _⟩ => ⟨S_, .f32⟩
  | .hbm, ⟨23, _⟩ => ⟨S1024x836, .f32⟩
  | .hbm, ⟨24, _⟩ => ⟨S1024x836, .f32⟩
  | .hbm, ⟨25, _⟩ => ⟨S_, .f32⟩
  | .hbm, ⟨26, _⟩ => ⟨S1024x836, .f32⟩
  | .hbm, ⟨27, _⟩ => ⟨S1024x836, .f32⟩
  | .hbm, ⟨28, _⟩ => ⟨S1024x836, .f32⟩
  | .hbm, ⟨29, _⟩ => ⟨S_, .f32⟩
  | .hbm, ⟨30, _⟩ => ⟨S1024x836, .f32⟩
  | .hbm, ⟨31, _⟩ => ⟨S1024x836, .f32⟩
  | .hbm, ⟨32, _⟩ => ⟨S1024x836, .f32⟩
  | .hbm, ⟨33, _⟩ => ⟨S_, .f32⟩
  | .hbm, ⟨34, _⟩ => ⟨S1024x836, .f32⟩
  | .hbm, ⟨35, _⟩ => ⟨S1024x836, .f32⟩
  | .hbm, ⟨36, _⟩ => ⟨S1024x836, .f32⟩
  | .hbm, ⟨37, _⟩ => ⟨S_, .f32⟩
  | .hbm, ⟨38, _⟩ => ⟨S1024x836, .f32⟩
  | .hbm, ⟨39, _⟩ => ⟨S1024x836, .f32⟩
  | _, _ => ⟨S1024x836, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S256x1024 : Shape := ⟨2, ![256, 1024]⟩
abbrev S8x256x1024 : Shape := ⟨3, ![8, 256, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S8x256x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S256x1024 : Shape := ⟨2, ![256, 1024]⟩
abbrev S8x256x1024 : Shape := ⟨3, ![8, 256, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S8x256x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S256x1024 : Shape := ⟨2, ![256, 1024]⟩
abbrev S8x256x1024 : Shape := ⟨3, ![8, 256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8x256x1024, .bf16⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMem.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamMemIdeal.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamMemRefIdeal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S1024x512 : Shape := ⟨2, ![1024, 512]⟩
abbrev S8x1024x512 : Shape := ⟨3, ![8, 1024, 512]⟩
abbrev S128x512 : Shape := ⟨2, ![128, 512]⟩
abbrev S8x128x512 : Shape := ⟨3, ![8, 128, 512]⟩
abbrev S1x128x512 : Shape := ⟨3, ![1, 128, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S128x512, .f32⟩
  | .local _ .vmem, ⟨1, _⟩ => ⟨S128x512, .f32⟩
  | .local _ .vmem, ⟨2, _⟩ => ⟨S8x128x512, .bf16⟩
  | .local _ .vmem, ⟨3, _⟩ => ⟨S8x128x512, .bf16⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S1024x512 : Shape := ⟨2, ![1024, 512]⟩
abbrev S8x1024x512 : Shape := ⟨3, ![8, 1024, 512]⟩
abbrev S128x512 : Shape := ⟨2, ![128, 512]⟩
abbrev S8x128x512 : Shape := ⟨3, ![8, 128, 512]⟩
abbrev S1x128x512 : Shape := ⟨3, ![1, 128, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S128x512, .f32⟩
  | .local _ .vmem, ⟨1, _⟩ => ⟨S128x512, .f32⟩
  | .local _ .vmem, ⟨2, _⟩ => ⟨S8x128x512, .bf16⟩
  | .local _ .vmem, ⟨3, _⟩ => ⟨S8x128x512, .bf16⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S1024x512 : Shape := ⟨2, ![1024, 512]⟩
abbrev S8x1024x512 : Shape := ⟨3, ![8, 1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S512x1024 : Shape := ⟨2, ![512, 1024]⟩
abbrev S8x512x1024 : Shape := ⟨3, ![8, 512, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S512x1024 : Shape := ⟨2, ![512, 1024]⟩
abbrev S8x512x1024 : Shape := ⟨3, ![8, 512, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S512x1024 : Shape := ⟨2, ![512, 1024]⟩
abbrev S8x512x1024 : Shape := ⟨3, ![8, 512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamNorm.lean ====
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormIdeal.lean ====
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S1x8 : Shape := ⟨2, ![1, 8]⟩

abbrev nBuf : Space → Nat
  | .hbm => 8
  | .vmem => 8
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .hbm, ⟨7, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | .local _ .vmem, ⟨7, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGateIdeal.lean ====
abbrev S1x8 : Shape := ⟨2, ![1, 8]⟩

abbrev nBuf : Space → Nat
  | .hbm => 8
  | .vmem => 8
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .hbm, ⟨7, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | .local _ .vmem, ⟨7, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGateRefIdeal.lean ====
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S_, .f32⟩
  | .hbm, ⟨5, _⟩ => ⟨S1x8, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S_, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHead.lean ====
abbrev S1x128 : Shape := ⟨2, ![1, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamHeadIdeal.lean ====
abbrev S1x128 : Shape := ⟨2, ![1, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamHeadRefIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSkip.lean ====
abbrev S1x16 : Shape := ⟨2, ![1, 16]⟩

abbrev nBuf : Space → Nat
  | .hbm => 8
  | .vmem => 8
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .hbm, ⟨7, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | .local _ .vmem, ⟨7, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSkipIdeal.lean ====
abbrev S1x16 : Shape := ⟨2, ![1, 16]⟩

abbrev nBuf : Space → Nat
  | .hbm => 8
  | .vmem => 8
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .hbm, ⟨7, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | .local _ .vmem, ⟨7, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSkipRefIdeal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBias.lean ====
abbrev S1x1536 : Shape := ⟨2, ![1, 1536]⟩

abbrev nBuf : Space → Nat
  | .hbm => 8
  | .vmem => 8
  | .smem => 0
  | _ => 0

abbrev bufTy : (tb : Table) → Fin (tcTables nBuf tb) → BufTy
  | .hbm, ⟨0, _⟩ => ⟨S1x1536, .f32⟩
  | .hbm, ⟨1, _⟩ => ⟨S1x1536, .f32⟩
  | .hbm, ⟨2, _⟩ => ⟨S1x1536, .f32⟩
  | .hbm, ⟨3, _⟩ => ⟨S1x1536, .f32⟩
  | .hbm, ⟨4, _⟩ => ⟨S1x1536, .f32⟩
  | .hbm, ⟨5, _⟩ => ⟨S1x1536, .f32⟩
  | .hbm, ⟨6, _⟩ => ⟨S1x1536, .f32⟩
  | .hbm, ⟨7, _⟩ => ⟨S1x1536, .f32⟩
  | .local _ .vmem, ⟨0, _⟩ => ⟨S1x1536, .f32⟩
  | .local _ .vmem, ⟨1, _⟩ => ⟨S1x1536, .f32⟩
  | .local _ .vmem, ⟨2, _⟩ => ⟨S1x1536, .f32⟩
  | .local _ .vmem, ⟨3, _⟩ => ⟨S1x1536, .f32⟩
  | .local _ .vmem, ⟨4, _⟩ => ⟨S1x1536, .f32⟩
  | .local _ .vmem, ⟨5, _⟩ => ⟨S1x1536, .f32⟩
  | .local _ .vmem, ⟨6, _⟩ => ⟨S1x1536, .f32⟩
  | .local _ .vmem, ⟨7, _⟩ => ⟨S1x1536, .f32⟩
  | _, _ => ⟨S1x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBiasIdeal.lean ====
abbrev S1x1536 : Shape := ⟨2, ![1, 1536]⟩

abbrev nBuf : Space → Nat
  | .hbm => 8
  | .vmem => 8
  | .smem => 0
  | _ => 0

abbrev bufTy : (tb : Table) → Fin (tcTables nBuf tb) → BufTy
  | .hbm, ⟨0, _⟩ => ⟨S1x1536, .f32⟩
  | .hbm, ⟨1, _⟩ => ⟨S1x1536, .f32⟩
  | .hbm, ⟨2, _⟩ => ⟨S1x1536, .f32⟩
  | .hbm, ⟨3, _⟩ => ⟨S1x1536, .f32⟩
  | .hbm, ⟨4, _⟩ => ⟨S1x1536, .f32⟩
  | .hbm, ⟨5, _⟩ => ⟨S1x1536, .f32⟩
  | .hbm, ⟨6, _⟩ => ⟨S1x1536, .f32⟩
  | .hbm, ⟨7, _⟩ => ⟨S1x1536, .f32⟩
  | .local _ .vmem, ⟨0, _⟩ => ⟨S1x1536, .f32⟩
  | .local _ .vmem, ⟨1, _⟩ => ⟨S1x1536, .f32⟩
  | .local _ .vmem, ⟨2, _⟩ => ⟨S1x1536, .f32⟩
  | .local _ .vmem, ⟨3, _⟩ => ⟨S1x1536, .f32⟩
  | .local _ .vmem, ⟨4, _⟩ => ⟨S1x1536, .f32⟩
  | .local _ .vmem, ⟨5, _⟩ => ⟨S1x1536, .f32⟩
  | .local _ .vmem, ⟨6, _⟩ => ⟨S1x1536, .f32⟩
  | .local _ .vmem, ⟨7, _⟩ => ⟨S1x1536, .f32⟩
  | _, _ => ⟨S1x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBiasRefIdeal.lean ====
abbrev S1x1536 : Shape := ⟨2, ![1, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1536, .f32⟩
  | .hbm, ⟨1, _⟩ => ⟨S1x1536, .f32⟩
  | .hbm, ⟨2, _⟩ => ⟨S1x1536, .f32⟩
  | .hbm, ⟨3, _⟩ => ⟨S1x1536, .f32⟩
  | .hbm, ⟨4, _⟩ => ⟨S_, .f32⟩
  | .hbm, ⟨5, _⟩ => ⟨S1x1536, .f32⟩
  | .hbm, ⟨6, _⟩ => ⟨S1x1536, .f32⟩
  | .hbm, ⟨7, _⟩ => ⟨S_, .f32⟩
  | .hbm, ⟨8, _⟩ => ⟨S1x1536, .f32⟩
  | .hbm, ⟨9, _⟩ => ⟨S1x1536, .f32⟩
  | .hbm, ⟨10, _⟩ => ⟨S1x1536, .f32⟩
  | .hbm, ⟨11, _⟩ => ⟨S_, .f32⟩
  | .hbm, ⟨12, _⟩ => ⟨S1x1536, .f32⟩
  | .hbm, ⟨13, _⟩ => ⟨S1x1536, .f32⟩
  | .hbm, ⟨14, _⟩ => ⟨S1x1536, .f32⟩
  | .hbm, ⟨15, _⟩ => ⟨S_, .f32⟩
  | .hbm, ⟨16, _⟩ => ⟨S1x1536, .f32⟩
  | .hbm, ⟨17, _⟩ => ⟨S1x1536, .f32⟩
  | .hbm, ⟨18, _⟩ => ⟨S1x1536, .f32⟩
  | .hbm, ⟨19, _⟩ => ⟨S_, .f32⟩
  | .hbm, ⟨20, _⟩ => ⟨S1x1536, .f32⟩
  | .hbm, ⟨21, _⟩ => ⟨S1x1536, .f32⟩
  | .hbm, ⟨22, _⟩ => ⟨S_, .f32⟩
  | .hbm, ⟨23, _⟩ => ⟨S1x1536, .f32⟩
  | .hbm, ⟨24, _⟩ => ⟨S1x1536, .f32⟩
  | .hbm, ⟨25, _⟩ => ⟨S1x1536, .f32⟩
  | .hbm, ⟨26, _⟩ => ⟨S_, .f32⟩
  | .hbm, ⟨27, _⟩ => ⟨S1x1536, .f32⟩
  | .hbm, ⟨28, _⟩ => ⟨S1x1536, .f32⟩
  | .hbm, ⟨29, _⟩ => ⟨S1x1536, .f32⟩
  | .hbm, ⟨30, _⟩ => ⟨S_, .f32⟩
  | .hbm, ⟨31, _⟩ => ⟨S1x1536, .f32⟩
  | .hbm, ⟨32, _⟩ => ⟨S1x1536, .f32⟩
  | .hbm, ⟨33, _⟩ => ⟨S1x1536, .f32⟩
  | .hbm, ⟨34, _⟩ => ⟨S_, .f32⟩
  | .hbm, ⟨35, _⟩ => ⟨S1x1536, .f32⟩
  | .hbm, ⟨36, _⟩ => ⟨S1x1536, .f32⟩
  | _, _ => ⟨S1x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamTaps.lean ====
abbrev S4x384 : Shape := ⟨2, ![4, 384]⟩

abbrev nBuf : Space → Nat
  | .hbm => 8
  | .vmem => 8
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamTapsIdeal.lean ====
abbrev S4x384 : Shape := ⟨2, ![4, 384]⟩

abbrev nBuf : Space → Nat
  | .hbm => 8
  | .vmem => 8
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamTapsRefIdeal.lean ====
abbrev S4x384 : Shape := ⟨2, ![4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S4x384, .f32⟩
  | .hbm, ⟨10, _⟩ => ⟨S4x384, .f32⟩
  | .hbm, ⟨11, _⟩ => ⟨S_, .f32⟩
  | .hbm, ⟨12, _⟩ => ⟨S4x384, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFilter.lean ====
abbrev S4x192 : Shape := ⟨2, ![4, 192]⟩

abbrev nBuf : Space → Nat
  | .hbm => 8
  | .vmem => 8
  | .smem => 0
  | _ => 0

abbrev bufTy : (tb : Table) → Fin (tcTables nBuf tb) → BufTy
  | .hbm, ⟨0, _⟩ => ⟨S4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S4x192, .f32⟩
  | .hbm, ⟨5, _⟩ => ⟨S4x192, .f32⟩
  | .hbm, ⟨6, _⟩ => ⟨S4x192, .f32⟩
  | .hbm, ⟨7, _⟩ => ⟨S4x192, .f32⟩
  | .local _ .vmem, ⟨0, _⟩ => ⟨S4x192, .f32⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S4x192, .f32⟩
  | .local _ .vmem, ⟨5, _⟩ => ⟨S4x192, .f32⟩
  | .local _ .vmem, ⟨6, _⟩ => ⟨S4x192, .f32⟩
  | .local _ .vmem, ⟨7, _⟩ => ⟨S4x192, .f32⟩
  | _, _ => ⟨S4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamFilterRefIdeal.lean ====
abbrev S4x192 : Shape := ⟨2, ![4, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S_, .f32⟩
  | .hbm, ⟨5, _⟩ => ⟨S4x192, .f32⟩
  | .hbm, ⟨6, _⟩ => ⟨S4x192, .f32⟩
  | .hbm, ⟨7, _⟩ => ⟨S_, .f32⟩
  | .hbm, ⟨8, _⟩ => ⟨S4x192, .f32⟩
  | .hbm, ⟨9, _⟩ => ⟨S4x192, .f32⟩
  | .hbm, ⟨10, _⟩ => ⟨S4x192, .f32⟩
  | .hbm, ⟨11, _⟩ => ⟨S_, .f32⟩
  | .hbm, ⟨12, _⟩ => ⟨S4x192, .f32⟩
  | .hbm, ⟨13, _⟩ => ⟨S4x192, .f32⟩
  | .hbm, ⟨14, _⟩ => ⟨S4x192, .f32⟩
  | .hbm, ⟨15, _⟩ => ⟨S_, .f32⟩
  | .hbm, ⟨16, _⟩ => ⟨S4x192, .f32⟩
  | .hbm, ⟨17, _⟩ => ⟨S4x192, .f32⟩
  | .hbm, ⟨18, _⟩ => ⟨S4x192, .f32⟩
  | .hbm, ⟨19, _⟩ => ⟨S_, .f32⟩
  | .hbm, ⟨20, _⟩ => ⟨S4x192, .f32⟩
  | .hbm, ⟨21, _⟩ => ⟨S4x192, .f32⟩
  | .hbm, ⟨22, _⟩ => ⟨S_, .f32⟩
  | .hbm, ⟨23, _⟩ => ⟨S4x192, .f32⟩
  | .hbm, ⟨24, _⟩ => ⟨S4x192, .f32⟩
  | .hbm, ⟨25, _⟩ => ⟨S4x192, .f32⟩
  | .hbm, ⟨26, _⟩ => ⟨S_, .f32⟩
  | .hbm, ⟨27, _⟩ => ⟨S4x192, .f32⟩
  | .hbm, ⟨28, _⟩ => ⟨S4x192, .f32⟩
  | .hbm, ⟨29, _⟩ => ⟨S4x192, .f32⟩
  | .hbm, ⟨30, _⟩ => ⟨S_, .f32⟩
  | .hbm, ⟨31, _⟩ => ⟨S4x192, .f32⟩
  | .hbm, ⟨32, _⟩ => ⟨S4x192, .f32⟩
  | .hbm, ⟨33, _⟩ => ⟨S4x192, .f32⟩
  | .hbm, ⟨34, _⟩ => ⟨S_, .f32⟩
  | .hbm, ⟨35, _⟩ => ⟨S4x192, .f32⟩
  | .hbm, ⟨36, _⟩ => ⟨S4x192, .f32⟩
  | _, _ => ⟨S4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Sum.lean ====
abbrev S8x264x128 : Shape := ⟨3, ![8, 264, 128]⟩
abbrev S264x128 : Shape := ⟨2, ![264, 128]⟩
abbrev S8x88x128 : Shape := ⟨3, ![8, 88, 128]⟩
abbrev S88x128 : Shape := ⟨2, ![88, 128]⟩
abbrev S1x88x128 : Shape := ⟨3, ![1, 88, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x264x128, .f32⟩
  | .hbm, ⟨1, _⟩ => ⟨S264x128, .f32⟩
  | .local _ .vmem, ⟨0, _⟩ => ⟨S8x88x128, .f32⟩
  | .local _ .vmem, ⟨1, _⟩ => ⟨S8x88x128, .f32⟩
  | .local _ .vmem, ⟨2, _⟩ => ⟨S88x128, .f32⟩
  | .local _ .vmem, ⟨3, _⟩ => ⟨S88x128, .f32⟩
  | _, _ => ⟨S8x264x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x88x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumRefIdeal.lean ====
abbrev S8x264x128 : Shape := ⟨3, ![8, 264, 128]⟩
abbrev S_ : Shape := ⟨0, ![]⟩
abbrev S264x128 : Shape := ⟨2, ![264, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x264x128, .f32⟩
  | .hbm, ⟨1, _⟩ => ⟨S_, .f32⟩
  | .hbm, ⟨2, _⟩ => ⟨S264x128, .f32⟩
  | _, _ => ⟨S8x264x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Gates.lean ====
abbrev S8192x1024 : Shape := ⟨2, ![8192, 1024]⟩
abbrev S1024x6912 : Shape := ⟨2, ![1024, 6912]⟩
abbrev S8192x256 : Shape := ⟨2, ![8192, 256]⟩
abbrev S1024x1024 : Shape := ⟨2, ![1024, 1024]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x6912, .bf16⟩
  | .hbm, ⟨2, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.addi arg1 c26_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatesRefIdeal.lean ====
abbrev S8192x1024 : Shape := ⟨2, ![8192, 1024]⟩
abbrev S1024x6912 : Shape := ⟨2, ![1024, 6912]⟩
abbrev S1024x256 : Shape := ⟨2, ![1024, 256]⟩
abbrev S8192x256 : Shape := ⟨2, ![8192, 256]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6912, .bf16⟩
  | .hbm, ⟨2, _⟩ => ⟨S8192x1024, .f32⟩
  | .hbm, ⟨3, _⟩ => ⟨S1024x256, .bf16⟩
  | .hbm, ⟨4, _⟩ => ⟨S1024x256, .f32⟩
  | .hbm, ⟨5, _⟩ => ⟨S8192x256, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Keys.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KeysRefIdeal.lean ====
abbrev S256x1024 : Shape := ⟨2, ![256, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S1024x1024, .f32⟩
  | .hbm, ⟨4, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KeysDw.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S1024x1024, .bf16⟩
  | .local _ .vmem, ⟨0, _⟩ => ⟨S256x1024, .bf16⟩
  | .local _ .vmem, ⟨1, _⟩ => ⟨S256x1024, .f32⟩
  | .local _ .vmem, ⟨2, _⟩ => ⟨S1024x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KeysDwRefIdeal.lean ====
abbrev S256x1024 : Shape := ⟨2, ![256, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S_, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KeysDx.lean ====
abbrev S1024x1024 : Shape := ⟨2, ![1024, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S256x1024, .f32⟩
  | .hbm, ⟨2, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KeysDxRefIdeal.lean ====
abbrev S1024x1024 : Shape := ⟨2, ![1024, 1024]⟩
abbrev S256x1024 : Shape := ⟨2, ![256, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S256x1024, .f32⟩
  | .hbm, ⟨2, _⟩ => ⟨S_, .f32⟩
  | .hbm, ⟨3, _⟩ => ⟨S256x1024, .f32⟩
  | .hbm, ⟨4, _⟩ => ⟨S1024x1024, .f32⟩
  | .hbm, ⟨5, _⟩ => ⟨S256x1024, .f32⟩
  | .hbm, ⟨6, _⟩ => ⟨S256x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ValuesDx.lean ====
abbrev S1024x1024 : Shape := ⟨2, ![1024, 1024]⟩
abbrev S256x1024 : Shape := ⟨2, ![256, 1024]⟩

abbrev nBuf : Space → Nat
  | .hbm => 4
  | .vmem => 4
  | .smem => 0
  | _ => 0

abbrev bufTy : (tb : Table) → Fin (tcTables nBuf tb) → BufTy
  | .hbm, ⟨0, _⟩ => ⟨S1024x1024, .bf16⟩
  | .hbm, ⟨1, _⟩ => ⟨S256x1024, .f32⟩
  | .hbm, ⟨2, _⟩ => ⟨S256x1024, .f32⟩
  | .hbm, ⟨3, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | .local _ .vmem, ⟨3, _⟩ => ⟨S256x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== ValuesDxRefIdeal.lean ====
abbrev S1024x1024 : Shape := ⟨2, ![1024, 1024]⟩
abbrev S256x1024 : Shape := ⟨2, ![256, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S256x1024, .f32⟩
  | .hbm, ⟨2, _⟩ => ⟨S256x1024, .f32⟩
  | .hbm, ⟨3, _⟩ => ⟨S_, .f32⟩
  | .hbm, ⟨4, _⟩ => ⟨S256x1024, .f32⟩
  | .hbm, ⟨5, _⟩ => ⟨S1024x1024, .f32⟩
  | .hbm, ⟨6, _⟩ => ⟨S256x1024, .f32⟩
  | .hbm, ⟨7, _⟩ => ⟨S256x1024, .f32⟩
  | .hbm, ⟨8, _⟩ => ⟨S256x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== RowNorm.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowNormRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MemNorm.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MemNormDx.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S1x1024, .f32⟩
  | .hbm, ⟨4, _⟩ => ⟨S256x1024, .f32⟩
  | .hbm, ⟨5, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemNormDxRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Mix.lean ====
abbrev S8192x1024 : Shape := ⟨2, ![8192, 1024]⟩
abbrev S8192x1536 : Shape := ⟨2, ![8192, 1536]⟩
abbrev S8192x6656 : Shape := ⟨2, ![8192, 6656]⟩
abbrev S1x1024 : Shape := ⟨2, ![1, 1024]⟩
abbrev S8192x2048 : Shape := ⟨2, ![8192, 2048]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .f32⟩
  | .hbm, ⟨2, _⟩ => ⟨S8192x6656, .bf16⟩
  | .hbm, ⟨3, _⟩ => ⟨S1x1024, .f32⟩
  | .hbm, ⟨4, _⟩ => ⟨S1x1024, .f32⟩
  | .hbm, ⟨5, _⟩ => ⟨S8192x2048, .bf16⟩
  | .hbm, ⟨6, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixRefIdeal.lean ====
abbrev S8192x1024 : Shape := ⟨2, ![8192, 1024]⟩
abbrev S8192x1536 : Shape := ⟨2, ![8192, 1536]⟩
abbrev S8192x6656 : Shape := ⟨2, ![8192, 6656]⟩
abbrev S1x1024 : Shape := ⟨2, ![1, 1024]⟩
abbrev S8192x2048 : Shape := ⟨2, ![8192, 2048]⟩
abbrev S_ : Shape := ⟨0, ![]⟩
abbrev S8192x2x512 : Shape := ⟨3, ![8192, 2, 512]⟩
abbrev S8192x2 : Shape := ⟨2, ![8192, 2]⟩
abbrev S8192x2x1 : Shape := ⟨3, ![8192, 2, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .f32⟩
  | .hbm, ⟨2, _⟩ => ⟨S8192x6656, .bf16⟩
  | .hbm, ⟨3, _⟩ => ⟨S1x1024, .f32⟩
  | .hbm, ⟨4, _⟩ => ⟨S1x1024, .f32⟩
  | .hbm, ⟨5, _⟩ => ⟨S8192x2048, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x2x512, .f32⟩
  | .hbm, ⟨24, _⟩ => ⟨S8192x2x512, .f32⟩
  | .hbm, ⟨25, _⟩ => ⟨S_, .f32⟩
  | .hbm, ⟨26, _⟩ => ⟨S8192x2, .f32⟩
  | .hbm, ⟨27, _⟩ => ⟨S8192x2x1, .f32⟩
  | .hbm, ⟨28, _⟩ => ⟨S_, .f32⟩
  | .hbm, ⟨29, _⟩ => ⟨S8192x2x1, .f32⟩
  | .hbm, ⟨30, _⟩ => ⟨S8192x2x1, .f32⟩
  | .hbm, ⟨31, _⟩ => ⟨S_, .f32⟩
  | .hbm, ⟨32, _⟩ => ⟨S8192x2x1, .f32⟩
  | .hbm, ⟨33, _⟩ => ⟨S8192x2x1, .f32⟩
  | .hbm, ⟨34, _⟩ => ⟨S8192x2x1, .f32⟩
  | .hbm, ⟨35, _⟩ => ⟨S8192x2x512, .f32⟩
  | .hbm, ⟨36, _⟩ => ⟨S8192x2x512, .f32⟩
  | .hbm, ⟨37, _⟩ => ⟨S8192x1024, .bf16⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== ConvV.lean ====
abbrev S8192x6656 : Shape := ⟨2, ![8192, 6656]⟩
abbrev S4x1024 : Shape := ⟨2, ![4, 1024]⟩
abbrev S8192x1024 : Shape := ⟨2, ![8192, 1024]⟩
abbrev S512x1024 : Shape := ⟨2, ![512, 1024]⟩
abbrev S16x1024 : Shape := ⟨2, ![16, 1024]⟩
abbrev S528x1024 : Shape := ⟨2, ![528, 1024]⟩
abbrev S1x1024 : Shape := ⟨2, ![1, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6656, .bf16⟩
  | .hbm, ⟨1, _⟩ => ⟨S4x1024, .f32⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S4x1024, .f32⟩
  | .local _ .vmem, ⟨5, _⟩ => ⟨S512x1024, .f32⟩
  | .local _ .vmem, ⟨6, _⟩ => ⟨S512x1024, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvVRefIdeal.lean ====
abbrev S8192x6656 : Shape := ⟨2, ![8192, 6656]⟩
abbrev S4x1024 : Shape := ⟨2, ![4, 1024]⟩
abbrev S8192x1024 : Shape := ⟨2, ![8192, 1024]⟩
abbrev S_ : Shape := ⟨0, ![]⟩
abbrev S3x1024 : Shape := ⟨2, ![3, 1024]⟩
abbrev S8195x1024 : Shape := ⟨2, ![8195, 1024]⟩
abbrev S1x1024 : Shape := ⟨2, ![1, 1024]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S4x1024, .f32⟩
  | .hbm, ⟨2, _⟩ => ⟨S8192x1024, .bf16⟩
  | .hbm, ⟨3, _⟩ => ⟨S_, .f32⟩
  | .hbm, ⟨4, _⟩ => ⟨S3x1024, .f32⟩
  | .hbm, ⟨5, _⟩ => ⟨S8192x1024, .f32⟩
  | .hbm, ⟨6, _⟩ => ⟨S8195x1024, .f32⟩
  | .hbm, ⟨7, _⟩ => ⟨S8192x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== ConvX.lean ====
abbrev S8192x6656 : Shape := ⟨2, ![8192, 6656]⟩
abbrev S4x1536 : Shape := ⟨2, ![4, 1536]⟩
abbrev S1536 : Shape := ⟨1, ![1536]⟩
abbrev S1x1536 : Shape := ⟨2, ![1, 1536]⟩
abbrev S8192x1536 : Shape := ⟨2, ![8192, 1536]⟩
abbrev S512x512 : Shape := ⟨2, ![512, 512]⟩
abbrev S16x512 : Shape := ⟨2, ![16, 512]⟩
abbrev S4x512 : Shape := ⟨2, ![4, 512]⟩
abbrev S1x512 : Shape := ⟨2, ![1, 512]⟩
abbrev S528x512 : Shape := ⟨2, ![528, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x6656, .bf16⟩
  | .hbm, ⟨1, _⟩ => ⟨S4x1536, .f32⟩
  | .hbm, ⟨2, _⟩ => ⟨S1536, .f32⟩
  | .hbm, ⟨3, _⟩ => ⟨S1x1536, .f32⟩
  | .hbm, ⟨4, _⟩ => ⟨S8192x1536, .f32⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let v3 : BitVec 32 := Scalar.addi c10_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvXRefIdeal.lean ====
abbrev S8192x6656 : Shape := ⟨2, ![8192, 6656]⟩
abbrev S4x1536 : Shape := ⟨2, ![4, 1536]⟩
abbrev S1536 : Shape := ⟨1, ![1536]⟩
abbrev S8192x1536 : Shape := ⟨2, ![8192, 1536]⟩
abbrev S_ : Shape := ⟨0, ![]⟩
abbrev S3x1536 : Shape := ⟨2, ![3, 1536]⟩
abbrev S8195x1536 : Shape := ⟨2, ![8195, 1536]⟩
abbrev S1x1536 : Shape := ⟨2, ![1, 1536]⟩

abbrev nBuf : Space → Nat
  | .hbm => 50
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S4x1536, .f32⟩
  | .hbm, ⟨2, _⟩ => ⟨S1536, .f32⟩
  | .hbm, ⟨3, _⟩ => ⟨S8192x1536, .bf16⟩
  | .hbm, ⟨4, _⟩ => ⟨S_, .f32⟩
  | .hbm, ⟨5, _⟩ => ⟨S3x1536, .f32⟩
  | .hbm, ⟨6, _⟩ => ⟨S8192x1536, .f32⟩
  | .hbm, ⟨7, _⟩ => ⟨S8195x1536, .f32⟩
  | .hbm, ⟨8, _⟩ => ⟨S8192x1536, .f32⟩
  | .hbm, ⟨9, _⟩ => ⟨S1x1536, .f32⟩
  | .hbm, ⟨10, _⟩ => ⟨S1536, .f32⟩
  | .hbm, ⟨11, _⟩ => ⟨S1x1536, .f32⟩
  | .hbm, ⟨12, _⟩ => ⟨S8192x1536, .f32⟩
  | .hbm, ⟨13, _⟩ => ⟨S8192x1536, .f32⟩
  | .hbm, ⟨14, _⟩ => ⟨S_, .f32⟩
  | .hbm, ⟨15, _⟩ => ⟨S8192x1536, .f32⟩
  | .hbm, ⟨16, _⟩ => ⟨S8192x1536, .f32⟩
  | .hbm, ⟨17, _⟩ => ⟨S8192x1536, .f32⟩
  | .hbm, ⟨18, _⟩ => ⟨S1x1536, .f32⟩
  | .hbm, ⟨19, _⟩ => ⟨S1536, .f32⟩
  | .hbm, ⟨20, _⟩ => ⟨S1x1536, .f32⟩
  | .hbm, ⟨21, _⟩ => ⟨S8192x1536, .f32⟩
  | .hbm, ⟨22, _⟩ => ⟨S8192x1536, .f32⟩
  | .hbm, ⟨23, _⟩ => ⟨S8192x1536, .f32⟩
  | .hbm, ⟨24, _⟩ => ⟨S8192x1536, .f32⟩
  | .hbm, ⟨25, _⟩ => ⟨S1x1536, .f32⟩
  | .hbm, ⟨26, _⟩ => ⟨S1536, .f32⟩
  | .hbm, ⟨27, _⟩ => ⟨S1x1536, .f32⟩
  | .hbm, ⟨28, _⟩ => ⟨S8192x1536, .f32⟩
  | .hbm, ⟨29, _⟩ => ⟨S8192x1536, .f32⟩
  | .hbm, ⟨30, _⟩ => ⟨S8192x1536, .f32⟩
  | .hbm, ⟨31, _⟩ => ⟨S8192x1536, .f32⟩
  | .hbm, ⟨32, _⟩ => ⟨S1x1536, .f32⟩
  | .hbm, ⟨33, _⟩ => ⟨S1536, .f32⟩
  | .hbm, ⟨34, _⟩ => ⟨S1x1536, .f32⟩
  | .hbm, ⟨35, _⟩ => ⟨S8192x1536, .f32⟩
  | .hbm, ⟨36, _⟩ => ⟨S8192x1536, .f32⟩
  | .hbm, ⟨37, _⟩ => ⟨S8192x1536, .f32⟩
  | .hbm, ⟨38, _⟩ => ⟨S1x1536, .f32⟩
  | .hbm, ⟨39, _⟩ => ⟨S8192x1536, .f32⟩
  | .hbm, ⟨40, _⟩ => ⟨S8192x1536, .f32⟩
  | .hbm, ⟨41, _⟩ => ⟨S8192x1536, .f32⟩
  | .hbm, ⟨42, _⟩ => ⟨S8192x1536, .f32⟩
  | .hbm, ⟨43, _⟩ => ⟨S_, .f32⟩
  | .hbm, ⟨44, _⟩ => ⟨S8192x1536, .f32⟩
  | .hbm, ⟨45, _⟩ => ⟨S8192x1536, .f32⟩
  | .hbm, ⟨46, _⟩ => ⟨S_, .f32⟩
  | .hbm, ⟨47, _⟩ => ⟨S8192x1536, .f32⟩
  | .hbm, ⟨48, _⟩ => ⟨S8192x1536, .f32⟩
  | .hbm, ⟨49, _⟩ => ⟨S8192x1536, .f32⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== ConvQk.lean ====
abbrev S8192x6656 : Shape := ⟨2, ![8192, 6656]⟩
abbrev S4x2048 : Shape := ⟨2, ![4, 2048]⟩
abbrev S8192x2048 : Shape := ⟨2, ![8192, 2048]⟩
abbrev S512x1024 : Shape := ⟨2, ![512, 1024]⟩
abbrev S16x1024 : Shape := ⟨2, ![16, 1024]⟩
abbrev S4x1024 : Shape := ⟨2, ![4, 1024]⟩
abbrev S528x1024 : Shape := ⟨2, ![528, 1024]⟩
abbrev S1x1024 : Shape := ⟨2, ![1, 1024]⟩
abbrev S512x128 : Shape := ⟨2, ![512, 128]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x6656, .bf16⟩
  | .hbm, ⟨1, _⟩ => ⟨S4x2048, .f32⟩
  | .hbm, ⟨2, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S4x1024, .f32⟩
  | .local _ .vmem, ⟨5, _⟩ => ⟨S4x1024, .f32⟩
  | .local _ .vmem, ⟨6, _⟩ => ⟨S512x1024, .f32⟩
  | .local _ .vmem, ⟨7, _⟩ => ⟨S512x1024, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg1
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvQkRefIdeal.lean ====
abbrev S8192x6656 : Shape := ⟨2, ![8192, 6656]⟩
abbrev S4x2048 : Shape := ⟨2, ![4, 2048]⟩
abbrev S8192x2048 : Shape := ⟨2, ![8192, 2048]⟩
abbrev S_ : Shape := ⟨0, ![]⟩
abbrev S3x2048 : Shape := ⟨2, ![3, 2048]⟩
abbrev S8195x2048 : Shape := ⟨2, ![8195, 2048]⟩
abbrev S1x2048 : Shape := ⟨2, ![1, 2048]⟩
abbrev S2048 : Shape := ⟨1, ![2048]⟩
abbrev S8192x1024 : Shape := ⟨2, ![8192, 1024]⟩
abbrev S8192x8x128 : Shape := ⟨3, ![8192, 8, 128]⟩
abbrev S8192x8 : Shape := ⟨2, ![8192, 8]⟩
abbrev S8192x8x1 : Shape := ⟨3, ![8192, 8, 1]⟩

abbrev nBuf : Space → Nat
  | .hbm => 76
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S4x2048, .f32⟩
  | .hbm, ⟨2, _⟩ => ⟨S8192x2048, .bf16⟩
  | .hbm, ⟨3, _⟩ => ⟨S_, .f32⟩
  | .hbm, ⟨4, _⟩ => ⟨S3x2048, .f32⟩
  | .hbm, ⟨5, _⟩ => ⟨S8192x2048, .f32⟩
  | .hbm, ⟨6, _⟩ => ⟨S8195x2048, .f32⟩
  | .hbm, ⟨7, _⟩ => ⟨S8192x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S1x2048, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x1024, .f32⟩
  | .hbm, ⟨47, _⟩ => ⟨S8192x8x128, .f32⟩
  | .hbm, ⟨48, _⟩ => ⟨S8192x8x128, .f32⟩
  | .hbm, ⟨49, _⟩ => ⟨S_, .f32⟩
  | .hbm, ⟨50, _⟩ => ⟨S8192x8, .f32⟩
  | .hbm, ⟨51, _⟩ => ⟨S8192x8x1, .f32⟩
  | .hbm, ⟨52, _⟩ => ⟨S_, .f32⟩
  | .hbm, ⟨53, _⟩ => ⟨S8192x8x1, .f32⟩
  | .hbm, ⟨54, _⟩ => ⟨S8192x8x1, .f32⟩
  | .hbm, ⟨55, _⟩ => ⟨S8192x8x1, .f32⟩
  | .hbm, ⟨56, _⟩ => ⟨S8192x8x128, .f32⟩
  | .hbm, ⟨57, _⟩ => ⟨S8192x8x128, .f32⟩
  | .hbm, ⟨58, _⟩ => ⟨S_, .f32⟩
  | .hbm, ⟨59, _⟩ => ⟨S8192x8x128, .f32⟩
  | .hbm, ⟨60, _⟩ => ⟨S8192x8x128, .f32⟩
  | .hbm, ⟨61, _⟩ => ⟨S8192x1024, .f32⟩
  | .hbm, ⟨62, _⟩ => ⟨S8192x8x128, .f32⟩
  | .hbm, ⟨63, _⟩ => ⟨S8192x8x128, .f32⟩
  | .hbm, ⟨64, _⟩ => ⟨S_, .f32⟩
  | .hbm, ⟨65, _⟩ => ⟨S8192x8, .f32⟩
  | .hbm, ⟨66, _⟩ => ⟨S8192x8x1, .f32⟩
  | .hbm, ⟨67, _⟩ => ⟨S_, .f32⟩
  | .hbm, ⟨68, _⟩ => ⟨S8192x8x1, .f32⟩
  | .hbm, ⟨69, _⟩ => ⟨S8192x8x1, .f32⟩
  | .hbm, ⟨70, _⟩ => ⟨S8192x8x1, .f32⟩
  | .hbm, ⟨71, _⟩ => ⟨S8192x8x128, .f32⟩
  | .hbm, ⟨72, _⟩ => ⟨S8192x8x128, .f32⟩
  | .hbm, ⟨73, _⟩ => ⟨S8192x1024, .f32⟩
  | .hbm, ⟨74, _⟩ => ⟨S8192x1024, .f32⟩
  | .hbm, ⟨75, _⟩ => ⟨S8192x2048, .f32⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_1 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== ConvVIn.lean ====
abbrev S8192x1024 : Shape := ⟨2, ![8192, 1024]⟩
abbrev S4x1024 : Shape := ⟨2, ![4, 1024]⟩
abbrev S8192x6912 : Shape := ⟨2, ![8192, 6912]⟩
abbrev S1024x1024 : Shape := ⟨2, ![1024, 1024]⟩
abbrev S8x1024 : Shape := ⟨2, ![8, 1024]⟩
abbrev S1032x1024 : Shape := ⟨2, ![1032, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S8192x6912, .bf16⟩
  | .hbm, ⟨3, _⟩ => ⟨S8192x6912, .bf16⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S4x1024, .f32⟩
  | .local _ .vmem, ⟨5, _⟩ => ⟨S1024x1024, .bf16⟩
  | .local _ .vmem, ⟨6, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvVInRefIdeal.lean ====
abbrev S8192x1024 : Shape := ⟨2, ![8192, 1024]⟩
abbrev S4x1024 : Shape := ⟨2, ![4, 1024]⟩
abbrev S8192x6912 : Shape := ⟨2, ![8192, 6912]⟩
abbrev S_ : Shape := ⟨0, ![]⟩
abbrev S3x1024 : Shape := ⟨2, ![3, 1024]⟩
abbrev S8195x1024 : Shape := ⟨2, ![8195, 1024]⟩
abbrev S1x1024 : Shape := ⟨2, ![1, 1024]⟩
abbrev S1024 : Shape := ⟨1, ![1024]⟩
abbrev S8192x2048 : Shape := ⟨2, ![8192, 2048]⟩
abbrev S8192x3840 : Shape := ⟨2, ![8192, 3840]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S8192x6912, .bf16⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S3x1024, .f32⟩
  | .hbm, ⟨7, _⟩ => ⟨S8195x1024, .f32⟩
  | .hbm, ⟨8, _⟩ => ⟨S_, .f32⟩
  | .hbm, ⟨9, _⟩ => ⟨S3x1024, .f32⟩
  | .hbm, ⟨10, _⟩ => ⟨S8192x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8195x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8195x1024, .f32⟩
  | .hbm, ⟨50, _⟩ => ⟨S8195x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8195x1024, .f32⟩
  | .hbm, ⟨55, _⟩ => ⟨S8195x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8195x1024, .f32⟩
  | .hbm, ⟨60, _⟩ => ⟨S8195x1024, .f32⟩
  | .hbm, ⟨61, _⟩ => ⟨S3x1024, .f32⟩
  | .hbm, ⟨62, _⟩ => ⟨S8192x1024, .f32⟩
  | .hbm, ⟨63, _⟩ => ⟨S8192x1024, .bf16⟩
  | .hbm, ⟨64, _⟩ => ⟨S8192x2048, .bf16⟩
  | .hbm, ⟨65, _⟩ => ⟨S8192x3840, .bf16⟩
  | .hbm, ⟨66, _⟩ => ⟨S8192x6912, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩

abbrev nD : Nat := 1
abbrev τ : Topo := Topo.v7x

variable {F : FTy → Type} [FloatOps F]
-- ==== Proof.Rows.lean ====
/-
  One row of the attention's backward pass, as mathematics over the extended reals: the weights of one query over the
  256 memories, the gradient of its scores as the kernel writes it and as the gradient of the softmax gives it, and the
  equation between the two where the scores are numbers.
-/
module

public import Idealize.ShloMosaic.Lib.Pointwise

@[expose] public section

noncomputable section

namespace Cert.Proof.Rows

open Idealize.ShloMosaic

/-- The scale of the scores, `256 ^ (-1/2)`, as its single-precision word reads. -/
abbrev scale : EReal := Ideal.ofBits .f32 0x3D800000#32

theorem scale_eq : scale = ((1 / 16 : ℝ) : EReal) := by
  simp [scale, Ideal.ofBits, Ideal.ieee, -EReal.coe_mul]; norm_num

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_two : Ideal.ofBits .f32 0x40000000#32 = 2 := by
  simp [Ideal.ofBits, Ideal.ieee, -EReal.coe_mul]; norm_num; rfl

/-- A row's length, the constant its mean square is moved by, and minus one half, as their words read. -/
theorem ofBits_thousand : Ideal.ofBits .f32 0x44800000#32 = ((1024 : ℝ) : EReal) := by
  simp [Ideal.ofBits, Ideal.ieee, -EReal.coe_mul]; norm_num

theorem ofBits_small : Ideal.ofBits .f32 0x358637BD#32 = ((8796093 / 8796093022208 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem coe_sum {ι : Type*} [Fintype ι] (e : ι → ℝ) : ((∑ i, e i : ℝ) : EReal) = ∑ i, (e i : EReal) :=
  map_sum (⟨⟨Real.toEReal, EReal.coe_zero⟩, EReal.coe_add⟩ : ℝ →+ EReal) e Finset.univ

/-- The scaled scores of a query against the memories. -/
def scores (q : Fin 256 → EReal) (k : Fin 256 → Fin 256 → EReal) (j : Fin 256) : EReal := (∑ d, q d * k j d) * scale

/-- The greatest score. -/
def top (s : Fin 256 → EReal) : EReal := Finset.univ.fold max ⊥ s

/-- The exponential of a score less the greatest. -/
def ex (s : Fin 256 → EReal) (j : Fin 256) : EReal := Ideal.exp (s j - top s)

/-- The sum of the exponentials. -/
def den (s : Fin 256 → EReal) : EReal := ∑ j, ex s j

/-- The weight of a memory. -/
def prob (s : Fin 256 → EReal) (j : Fin 256) : EReal := Ideal.div (ex s j) (den s)

/-- The gradient of the scores before their scale, from the weights: `p (g - Σ g p)`, scaled. -/
def grad (s g : Fin 256 → EReal) (j : Fin 256) : EReal := prob s j * (g j - ∑ n, g n * prob s n) * scale

/-- The same gradient through the quotient and the exponential: `(g / z - Σ g z⁻² e) e`, scaled. -/
def gradQuot (s g : Fin 256 → EReal) (j : Fin 256) : EReal :=
  (Ideal.div (g j) (den s) + -(∑ n, g n * Ideal.div 1 (den s * den s) * ex s n)) * ex s j * scale

/-- A number that is not negative comes out of a sum of extended reals. -/
theorem sum_mul_coe {ι : Type*} (f : ι → EReal) (r : ℝ) (hr : 0 ≤ r) (S : Finset ι) :
    (∑ i ∈ S, f i) * (r : EReal) = ∑ i ∈ S, f i * (r : EReal) := by
  classical
  induction S using Finset.induction_on with
  | empty => simp
  | insert a S ha ih =>
    rw [Finset.sum_insert ha, Finset.sum_insert ha,
      EReal.right_distrib_of_nonneg_of_ne_top (by exact_mod_cast hr) (EReal.coe_ne_top r), ih]

/-- The greatest of the scores is one of them. -/
theorem top_mem (s : Fin 256 → EReal) : ∃ j, top s = s j := by
  obtain ⟨j, -, h⟩ := Finset.exists_mem_eq_sup (Finset.univ : Finset (Fin 256)) Finset.univ_nonempty s
  exact ⟨j, h⟩

/-- Where the scores are numbers the exponentials are positive numbers. -/
theorem ex_real (s : Fin 256 → EReal) (r : Fin 256 → ℝ) (h : ∀ j, s j = r j) :
    ∃ e : Fin 256 → ℝ, (∀ j, 0 < e j) ∧ ∀ j, ex s j = e j := by
  obtain ⟨i, hi⟩ := top_mem s
  refine ⟨fun j => Real.exp (r j - r i), fun j => Real.exp_pos _, fun j => ?_⟩
  unfold ex
  rw [hi, h j, h i, ← EReal.coe_sub]
  rfl

theorem div_coe (x : EReal) (z : ℝ) (hz : z ≠ 0) : Ideal.div x z = x * ((z⁻¹ : ℝ) : EReal) := by
  unfold Ideal.div
  rw [if_neg (by exact_mod_cast hz), EReal.coe_inv]

/-- The two gradients of the scores are one where the scores are numbers. -/
theorem grad_eq (s g : Fin 256 → EReal) (r : Fin 256 → ℝ) (h : ∀ j, s j = r j) (j : Fin 256) :
    grad s g j = gradQuot s g j := by
  obtain ⟨e, he, hs⟩ := ex_real s r h
  have hz : den s = ((∑ j, e j : ℝ) : EReal) := by
    unfold den; simp only [hs]; exact (coe_sum e).symm
  have hpos : 0 < ∑ j, e j := Finset.sum_pos (fun j _ => he j) Finset.univ_nonempty
  generalize (∑ j, e j) = z at hz hpos
  have hne : z ≠ 0 := ne_of_gt hpos
  have hzz : den s * den s = ((z * z : ℝ) : EReal) := by rw [hz, EReal.coe_mul]
  unfold grad gradQuot prob
  rw [hzz]
  simp only [hs, hz, div_coe _ _ hne, div_coe _ _ (mul_ne_zero hne hne), one_mul]
  have h1 : ∑ n, g n * ((e n : EReal) * ((z⁻¹ : ℝ) : EReal)) = (∑ n, g n * (e n : EReal)) * ((z⁻¹ : ℝ) : EReal) := by
    rw [sum_mul_coe _ _ (inv_nonneg.mpr hpos.le)]
    exact Finset.sum_congr rfl fun n _ => (mul_assoc _ _ _).symm
  have h2 : ∑ n, g n * (((z * z)⁻¹ : ℝ) : EReal) * (e n : EReal)
      = (∑ n, g n * (e n : EReal)) * ((z⁻¹ : ℝ) : EReal) * ((z⁻¹ : ℝ) : EReal) := by
    rw [mul_assoc, ← EReal.coe_mul, ← mul_inv, sum_mul_coe _ _ (inv_nonneg.mpr (mul_pos hpos hpos).le)]
    exact Finset.sum_congr rfl fun n _ => mul_right_comm _ _ _
  rw [h1, h2]
  generalize (∑ n, g n * (e n : EReal)) * ((z⁻¹ : ℝ) : EReal) = S
  congr 1
  rw [sub_eq_add_neg, ← EReal.neg_mul, ← EReal.right_distrib_of_nonneg_of_ne_top
    (by exact_mod_cast inv_nonneg.mpr hpos.le) (EReal.coe_ne_top _), mul_comm, mul_assoc, mul_comm (e j : EReal)]

end Cert.Proof.Rows

end
-- ==== Proof.Payloads.lean ====
/-
  What the body of the attention's backward kernel computes of one head's blocks, entry by entry over the extended
  reals: the scores, the exponentials and the weights of a query, the gradient of the scores, and the three products.
  The body has one text per head; the later heads' texts are the first's, so each is read once.
-/
module

public import proofs.«01_k».proof.Proof.Rows
public import proofs.«01_k».proof.Proof.Gen.KernelIdeal.Skeleton

@[expose] public section

noncomputable section

namespace Cert.Proof.Payloads

open Idealize.ShloMosaic Cert.KernelIdeal Cert.KernelIdeal.Gen Cert.Proof.Rows

/-- A row of a block of 1024 rows. -/
abbrev row (x : Vec Ideal S1024x256 .f32) (t : Fin 1024) (d : Fin 256) : EReal := x (ix2 t d)

/-- Head 0's scores. -/
theorem scores0 (q : Vec Ideal S1024x256 .bf16) (k : Vec Ideal S256x256 .f32) (t : Fin 1024) (j : Fin 256) :
    k0_pay6 q k (ix2 t j) = scores (fun d => q (ix2 t d)) (fun m d => k (ix2 m d)) j := by
  unfold k0_pay6 scores
  pointwise

theorem dots0 (q : Vec Ideal S1024x256 .bf16) (k : Vec Ideal S256x256 .f32) (t : Fin 1024) (j : Fin 256) :
    k0_pay10 q k (ix2 t j) = ∑ d : Fin 256, q (ix2 t d) * k (ix2 j d) := by
  unfold k0_pay10
  pointwise

theorem ex0 (s : FVec Ideal S1024x256 .f32) (t : Fin 1024) (j : Fin 256) :
    k0_pay14 s (ix2 t j) = ex (fun n => s (ix2 t n)) j := by
  unfold k0_pay14 ex top
  pointwise
  rw [ofBits_neg_inf]

theorem prob0 (s : FVec Ideal S1024x256 .f32) (t : Fin 1024) (j : Fin 256) :
    k0_pay18 s (ix2 t j) = Ideal.div (s (ix2 t j)) (∑ n : Fin 256, s (ix2 t n)) := by
  unfold k0_pay18
  pointwise

theorem grad0 (g p : FVec Ideal S1024x256 .f32) (t : Fin 1024) (j : Fin 256) :
    k0_pay21 g p (ix2 t j)
      = p (ix2 t j) * (g (ix2 t j) - ∑ n : Fin 256, g (ix2 t n) * p (ix2 t n)) * scale := by
  unfold k0_pay21
  pointwise

theorem dq0 (s : FVec Ideal S1024x256 .f32) (k : Vec Ideal S256x256 .f32) (t : Fin 1024) (d : Fin 256) :
    k0_pay30 s k (ix2 t d) = ∑ m : Fin 256, s (ix2 t m) * k (ix2 m d) := by
  unfold k0_pay30
  pointwise

theorem acc0 (s : FVec Ideal S1024x256 .f32) (a : Vec Ideal S256x256 .f32) (q : Vec Ideal S1024x256 .bf16) (m d : Fin 256) :
    k0_pay28 s a q (ix2 m d) = a (ix2 m d) + ∑ t : Fin 1024, s (ix2 t m) * q (ix2 t d) := by
  unfold k0_pay28
  pointwise

theorem pay7_eq : (k0_pay7 : Vec Ideal _ _ → _) = k0_pay6 := rfl
theorem pay8_eq : (k0_pay8 : Vec Ideal _ _ → _) = k0_pay6 := rfl
theorem pay9_eq : (k0_pay9 : Vec Ideal _ _ → _) = k0_pay6 := rfl
theorem pay11_eq : (k0_pay11 : Vec Ideal _ _ → _) = k0_pay10 := rfl
theorem pay12_eq : (k0_pay12 : Vec Ideal _ _ → _) = k0_pay10 := rfl
theorem pay13_eq : (k0_pay13 : Vec Ideal _ _ → _) = k0_pay10 := rfl
theorem pay15_eq : (k0_pay15 : FVec Ideal _ _ → _) = k0_pay14 := rfl
theorem pay16_eq : (k0_pay16 : FVec Ideal _ _ → _) = k0_pay14 := rfl
theorem pay17_eq (s : FVec Ideal S1024x256 .f32) : k0_pay17 s = k0_pay18 (k0_pay14 s) := rfl
theorem pay19_eq : (k0_pay19 : FVec Ideal _ _ → _) = k0_pay18 := rfl
theorem pay20_eq : (k0_pay20 : FVec Ideal _ _ → _) = k0_pay18 := rfl
theorem pay22_eq (g e : FVec Ideal S1024x256 .f32) : k0_pay22 g e = k0_pay21 g (k0_pay18 e) := rfl
theorem pay23_eq (g e : FVec Ideal S1024x256 .f32) : k0_pay23 g e = k0_pay21 g (k0_pay18 e) := rfl
theorem pay24_eq (g e : FVec Ideal S1024x256 .f32) : k0_pay24 g e = k0_pay21 g (k0_pay18 e) := rfl
theorem pay27_eq (g p : FVec Ideal S1024x256 .f32) (k : Vec Ideal S256x256 .f32) :
    k0_pay27 (k0_pay25 g p) (k0_pay26 k) = k0_pay30 (k0_pay21 g p) k := rfl
theorem pay33_eq : (k0_pay33 : FVec Ideal _ _ → _) = k0_pay30 := rfl
theorem pay1_eq : (k0_pay1 : FVec Ideal _ _ → _) = k0_pay30 := rfl
theorem pay29_eq : (k0_pay29 : FVec Ideal _ _ → _) = k0_pay28 := rfl
theorem pay31_eq : (k0_pay31 : FVec Ideal _ _ → _) = k0_pay28 := rfl
theorem pay32_eq : (k0_pay32 : FVec Ideal _ _ → _) = k0_pay28 := rfl
theorem pay34_eq : (k0_pay34 : FVec Ideal _ _ → _) = k0_pay28 := rfl
theorem pay35_eq : (k0_pay35 : FVec Ideal _ _ → _) = k0_pay28 := rfl
theorem pay2_eq : (k0_pay2 : FVec Ideal _ _ → _) = k0_pay28 := rfl
theorem pay3_eq : (k0_pay3 : FVec Ideal _ _ → _) = k0_pay28 := rfl
theorem zero4 (i : S256x1024.Idx) : (k0_pay4 : FVec Ideal _ _) i = 0 := by unfold k0_pay4; pointwise
theorem zero5 (i : S256x1024.Idx) : (k0_pay5 : FVec Ideal _ _) i = 0 := by unfold k0_pay5; pointwise

end Cert.Proof.Payloads

end
-- ==== Proof.Heads.lean ====
/-
  The four heads of the attention as the four groups of 256 columns of an array of 1024 columns: what a load and a
  store of one group read and leave, and the backward pass of the attention on arrays of any number of queries.
-/
module

public import proofs.«01_k».proof.Proof.Rows
public import Idealize.ShloMosaic.Lib.Pipeline.Value
public import Idealize.ShloMosaic.Lib.Pipeline.ValueKit

@[expose] public section

noncomputable section

namespace Cert.Proof.Heads

open Idealize.ShloMosaic Cert.Proof.Rows

/-- Column `d` of head `h`. -/
def col (h : Fin 4) (d : Fin 256) : Fin 1024 := ⟨256 * h.val + d.val, by have := h.isLt; have := d.isLt; omega⟩

theorem col_val (h : Fin 4) (d : Fin 256) : (col h d).val = 256 * h.val + d.val := rfl

/-- Every column is a column of a head. -/
theorem exists_col (c : Fin 1024) : ∃ h d, c = col h d :=
  ⟨⟨c.val / 256, by have := c.isLt; omega⟩, ⟨c.val % 256, Nat.mod_lt _ (by decide)⟩,
    Fin.ext (by rw [col_val]; exact (Nat.div_add_mod _ _).symm)⟩

/-! ## Loads and stores of one head's columns -/

section Columns

variable {Val : EltTy → Type} {e : EltTy} {n : ℕ}

/-- An array's columns of one head. -/
def head (h : Fin 4) (x : (⟨2, ![n, 1024]⟩ : Shape).Idx → Val e) (i : (⟨2, ![n, 256]⟩ : Shape).Idx) : Val e :=
  x (ix2 (i 0) (col h (i 1)))

theorem head_apply (h : Fin 4) (x : (⟨2, ![n, 1024]⟩ : Shape).Idx → Val e) (t : Fin n) (d : Fin 256) :
    head h x (ix2 t d) = x (ix2 t (col h d)) := rfl

theorem unit_idx (o : ℕ) (h : Fin 4) (ho : o = 256 * h.val) (inb) (t : Fin n) (d : Fin 256) :
    (Rect.unit (s := ⟨2, ![n, 1024]⟩) ![0, o] ![n, 256] inb).idx (ix2 t d) = ix2 t (col h d) := by
  subst ho
  funext a
  apply Fin.ext
  rw [Rect.idx_unit_val]
  match a with
  | ⟨0, _⟩ => exact Nat.zero_add _
  | ⟨1, _⟩ => rfl

theorem not_mem_unit (o : ℕ) (h h' : Fin 4) (ho : o = 256 * h'.val) (hne : h ≠ h') (inb) (t : Fin n) (d : Fin 256) :
    ix2 t (col h d) ∉ (Rect.unit (s := ⟨2, ![n, 1024]⟩) ![0, o] ![n, 256] inb).set := by
  rw [Rect.mem_set_unit]
  intro hm
  have h1 : o ≤ (col h d).val ∧ (col h d).val < o + 256 := hm 1
  rw [col_val] at h1
  have hd := d.isLt
  exact hne (Fin.ext (by omega))

/-- A load of a head's columns. -/
theorem ld_head (o : ℕ) (h : Fin 4) (ho : o = 256 * h.val) (inb) (x : (⟨2, ![n, 1024]⟩ : Shape).Idx → Val e) :
    View.ld x (Rect.unit (s := ⟨2, ![n, 1024]⟩) ![0, o] ![n, 256] inb) = head h x := by
  funext i
  rw [eq_ix2 i]
  exact congrArg x (unit_idx o h ho inb (i 0) (i 1))

variable [∀ e, Nonempty (Val e)]

/-- What a store of a head's columns leaves in them, -/
theorem canon_same (o : ℕ) (h : Fin 4) (ho : o = 256 * h.val) (inb)
    (w : (Rect.unit (s := ⟨2, ![n, 1024]⟩) ![0, o] ![n, 256] inb).shape.Idx → Val e) (L) (t : Fin n) (d : Fin 256) :
    View.canon (⟨Rect.unit ![0, o] ![n, 256] inb, w⟩ :: L) (ix2 t (col h d)) = w (ix2 t d) := by
  rw [← unit_idx o h ho inb t d]
  exact View.canon_cons_emb _ w L (ix2 t d)

/-- and in another head's. -/
theorem canon_other (o : ℕ) (h h' : Fin 4) (ho : o = 256 * h'.val) (hne : h ≠ h') (inb)
    (w : (Rect.unit (s := ⟨2, ![n, 1024]⟩) ![0, o] ![n, 256] inb).shape.Idx → Val e) (L) (t : Fin n) (d : Fin 256) :
    View.canon (⟨Rect.unit ![0, o] ![n, 256] inb, w⟩ :: L) (ix2 t (col h d)) = View.canon L (ix2 t (col h d)) :=
  View.canon_cons_of_not_mem _ L (not_mem_unit o h h' ho hne inb t d)

/-- A load of a head's columns after stores. -/
theorem readCov_head {sig : RefSig} {κ : Kind} {sp : Space} (v : View sig κ sp ⟨2, ![n, 1024]⟩ e) (L)
    (o : ℕ) (h : Fin 4) (ho : o = 256 * h.val) (inb) :
    v.readCov (Val := Val) L (Rect.unit (s := ⟨2, ![n, 1024]⟩) ![0, o] ![n, 256] inb).toLoadRect = head h (View.canon L) := by
  rw [View.readCov_eq_canon']
  funext i
  rw [eq_ix2 i]
  exact congrArg (View.canon L) (unit_idx o h ho inb (i 0) (i 1))

end Columns

/-! ## An array of 1024 columns given head by head -/

/-- The array whose entry in row `t` and column `d` of head `h` is `f h t d`. -/
def spread {n : ℕ} (f : Fin 4 → Fin n → Fin 256 → EReal) (i : (⟨2, ![n, 1024]⟩ : Shape).Idx) : EReal :=
  f ⟨(i 1).val / 256, by have : (i 1).val < 1024 := (i 1).isLt; omega⟩ (i 0) ⟨(i 1).val % 256, Nat.mod_lt _ (by decide)⟩

theorem spread_apply {n : ℕ} (f : Fin 4 → Fin n → Fin 256 → EReal) (t : Fin n) (h : Fin 4) (d : Fin 256) :
    spread f (ix2 t (col h d)) = f h t d := by
  have hh : (⟨(col h d).val / 256, by have := (col h d).isLt; omega⟩ : Fin 4) = h :=
    Fin.ext (by show (256 * h.val + d.val) / 256 = h.val; have := d.isLt; omega)
  have hd : (⟨(col h d).val % 256, Nat.mod_lt _ (by decide)⟩ : Fin 256) = d :=
    Fin.ext (by show (256 * h.val + d.val) % 256 = d.val; have := d.isLt; omega)
  show f _ t _ = _
  exact congrArg₂ (fun a b => f a t b) hh hd

/-- Two arrays of 1024 columns are equal when they are head by head. -/
theorem ext_heads {n : ℕ} {x y : (⟨2, ![n, 1024]⟩ : Shape).Idx → EReal}
    (H : ∀ (t : Fin n) (h : Fin 4) (d : Fin 256), x (ix2 t (col h d)) = y (ix2 t (col h d))) : x = y := by
  funext i
  obtain ⟨h, d, e⟩ := exists_col (i 1)
  have hi : i = ix2 (i 0) (col h d) := by rw [← e]; exact eq_ix2 i
  rw [hi]
  exact H (i 0) h d

/-! ## The backward pass on arrays -/

section Arrays

variable {n : ℕ} (q : Fin n → Fin 1024 → EReal) (k v : Fin 256 → Fin 1024 → EReal) (g : Fin n → Fin 1024 → EReal)

/-- The scores of query `t` in head `h`. -/
def sc (h : Fin 4) (t : Fin n) : Fin 256 → EReal := scores (fun d => q t (col h d)) (fun j d => k j (col h d))

/-- The gradient of the weights of query `t` in head `h`. -/
def gp (h : Fin 4) (t : Fin n) (j : Fin 256) : EReal := ∑ d, g t (col h d) * v j (col h d)

/-- The gradient of the scores. -/
def ds (h : Fin 4) (t : Fin n) (j : Fin 256) : EReal := grad (sc q k h t) (gp v g h t) j

/-- The gradient of the queries. -/
def dq (h : Fin 4) (t : Fin n) (d : Fin 256) : EReal := ∑ j, ds q k v g h t j * k j (col h d)

/-- The gradient of the keys: one query's part. -/
def dk (h : Fin 4) (j d : Fin 256) (t : Fin n) : EReal := ds q k v g h t j * q t (col h d)

/-- The gradient of the values: one query's part. -/
def dv (h : Fin 4) (j d : Fin 256) (t : Fin n) : EReal := prob (sc q k h t) j * g t (col h d)

end Arrays

end Cert.Proof.Heads

end
-- ==== Proof.Blocks.lean ====
/-
  What the body of the attention's backward kernel leaves in each of its three output blocks, entry by entry: the
  gradient of the queries of its 1024 rows, and the gradients of the keys and of the values with these rows' parts added.
-/
module

public import proofs.«01_k».proof.Proof.Payloads
public import proofs.«01_k».proof.Proof.Heads
public import proofs.«01_k».proof.Proof.Gen.KernelIdeal.Value
public import Idealize.ShloMosaic.Lib.Tactic

@[expose] public section

set_option maxRecDepth 16384

noncomputable section

namespace Cert.Proof.Blocks

open Idealize.ShloMosaic Idealize.ShloMosaic.TcCoe Idealize.SL.Sem Cert.KernelIdeal Cert.KernelIdeal.Gen
open Cert.Proof.Rows Cert.Proof.Payloads Cert.Proof.Heads

variable (c : Dev nD) (i : grid0.Coords) (a1 : Memref sig .tc .vmem S1024x1024 .bf16) (h1 : a1.IsWhole)
  (a2 : Memref sig .tc .vmem S256x1024 .f32) (h2 : a2.IsWhole) (a3 : Memref sig .tc .vmem S256x1024 .f32) (h3 : a3.IsWhole)
  (a4 : Memref sig .tc .vmem S1024x1024 .bf16) (h4 : a4.IsWhole) (a5 : Memref sig .tc .vmem S1024x1024 .bf16) (h5 : a5.IsWhole)
  (a6 : Memref sig .tc .vmem S256x1024 .f32) (h6 : a6.IsWhole) (a7 : Memref sig .tc .vmem S256x1024 .f32) (h7 : a7.IsWhole)
  (x0 : Vec Ideal S1024x1024 .bf16) (x1 x2 : Vec Ideal S256x1024 .f32) (x3 : Vec Ideal S1024x1024 .bf16)
  (o5 o6 : Vec Ideal S256x1024 .f32)

theorem hz : (![0, 0] : Fin 2 → Nat) = fun _ => 0 := funext fun a => by fin_cases a <;> rfl

/-- An array's entries by row and column. -/
abbrev ent {n m : ℕ} {e : EltTy} (x : (⟨2, ![n, m]⟩ : Shape).Idx → Elt Ideal e) (r : Fin n) (l : Fin m) : Elt Ideal e := x (ix2 r l)

/-- The weights of a head's rows. -/
abbrev probs (h : Fin 4) : FVec Ideal S1024x256 .f32 := k0_pay18 (k0_pay14 (k0_pay6 (head h x0) (head h x1)))

/-- The gradient of the scores of a head's rows. -/
abbrev grads (h : Fin 4) : FVec Ideal S1024x256 .f32 := k0_pay21 (k0_pay10 (head h x3) (head h x2)) (probs x0 x1 h)

theorem probs_apply (h : Fin 4) (t : Fin 1024) (j : Fin 256) :
    probs x0 x1 h (ix2 t j) = prob (sc (ent x0) (ent x1) h t) j := by
  unfold probs prob den
  simp only [prob0, ex0, scores0, head_apply]
  rfl

theorem grads_apply (h : Fin 4) (t : Fin 1024) (j : Fin 256) :
    grads x0 x1 x2 x3 h (ix2 t j) = ds (ent x0) (ent x1) (ent x2) (ent x3) h t j := by
  unfold grads ds grad
  simp only [grad0, probs_apply, dots0, head_apply]
  rfl

/-- The gradient of the queries, after the first point's body, -/
theorem outA4 (hc : cond0_0 i) (h : Fin 4) (t : Fin 1024) (d : Fin 256) :
    out0_A_4 c i a1 h1 a2 h2 a3 h3 a4 h4 a5 h5 a6 h6 a7 h7 hc x0 x1 x2 x3 (ix2 t (col h d))
      = dq (ent x0) (ent x1) (ent x2) (ent x3) h t d := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  simp only [View.readAt_eq_ld, h1.read_unread, h2.read_unread, h3.read_unread, h4.read_unread,
    ld_head 0 0 rfl, ld_head 256 1 rfl, ld_head 512 2 rfl, ld_head 768 3 rfl,
    pay7_eq, pay8_eq, pay9_eq, pay11_eq, pay12_eq, pay13_eq, pay15_eq, pay16_eq, pay17_eq, pay19_eq, pay20_eq,
    pay22_eq, pay23_eq, pay24_eq, pay27_eq, pay33_eq, pay1_eq]
  fin_cases h <;> simp (discharger := decide) only [Fin.zero_eta, Fin.mk_one, Fin.reduceFinMk, canon_same 0 0 rfl, canon_same 256 1 rfl,
    canon_same 512 2 rfl, canon_same 768 3 rfl, canon_other 256 _ 1 rfl, canon_other 512 _ 2 rfl, canon_other 768 _ 3 rfl] <;>
    simp only [dq0, head_apply, grads_apply] <;> rfl

/-- The gradient of the queries, after a later point's body. -/
theorem outB4 (hc : ¬cond0_0 i) (h : Fin 4) (t : Fin 1024) (d : Fin 256) :
    out0_B_4 c i a1 h1 a2 h2 a3 h3 a4 h4 a5 h5 a6 h6 a7 h7 hc x0 x1 x2 x3 o5 o6 (ix2 t (col h d))
      = dq (ent x0) (ent x1) (ent x2) (ent x3) h t d := by
  unfold out0_B_4
  rw [View.read_writes_eq_canon _ _ _ (cover0_B_4 c i a1 h1 a2 h2 a3 h3 a4 h4 a5 h5 a6 h6 a7 h7 hc x0 x1 x2 x3 o5 o6)]
  unfold kernelRun0_B
  dsimp only
  sl_unfold_words
  simp only [View.readAt_eq_ld, h1.read_unread, h2.read_unread, h3.read_unread, h4.read_unread, h6.read_unread, h7.read_unread,
    ld_head 0 0 rfl, ld_head 256 1 rfl, ld_head 512 2 rfl, ld_head 768 3 rfl,
    pay7_eq, pay8_eq, pay9_eq, pay11_eq, pay12_eq, pay13_eq, pay15_eq, pay16_eq, pay17_eq, pay19_eq, pay20_eq,
    pay22_eq, pay23_eq, pay24_eq, pay27_eq, pay33_eq, pay1_eq]
  fin_cases h <;> simp (discharger := decide) only [Fin.zero_eta, Fin.mk_one, Fin.reduceFinMk, canon_same 0 0 rfl, canon_same 256 1 rfl,
    canon_same 512 2 rfl, canon_same 768 3 rfl, canon_other 256 _ 1 rfl, canon_other 512 _ 2 rfl, canon_other 768 _ 3 rfl] <;>
    simp only [dq0, head_apply, grads_apply] <;> rfl

/-- The gradient of the keys, after the first point's body: these rows' part. -/
theorem outA5 (hc : cond0_0 i) (h : Fin 4) (j d : Fin 256) :
    out0_A_5 c i a1 h1 a2 h2 a3 h3 a4 h4 a5 h5 a6 h6 a7 h7 hc x0 x1 x2 x3 (ix2 j (col h d))
      = 0 + ∑ t : Fin 1024, dk (ent x0) (ent x1) (ent x2) (ent x3) h j d t := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  simp only [View.readAt_eq_ld, h1.read_unread, h2.read_unread, h3.read_unread, h4.read_unread,
    ld_head 0 0 rfl, ld_head 256 1 rfl, ld_head 512 2 rfl, ld_head 768 3 rfl,
    pay7_eq, pay8_eq, pay9_eq, pay11_eq, pay12_eq, pay13_eq, pay15_eq, pay16_eq, pay17_eq, pay19_eq, pay20_eq,
    pay22_eq, pay23_eq, pay24_eq, pay2_eq, pay31_eq, pay34_eq]
  fin_cases h <;> simp (discharger := decide) only [Fin.zero_eta, Fin.mk_one, Fin.reduceFinMk, canon_same 0 0 rfl, canon_same 256 1 rfl,
    canon_same 512 2 rfl, canon_same 768 3 rfl, canon_other 256 _ 1 rfl, canon_other 512 _ 2 rfl, canon_other 768 _ 3 rfl] <;>
    simp only [acc0, head_apply, grads_apply, readCov_head _ _ 0 0 rfl, readCov_head _ _ 256 1 rfl, readCov_head _ _ 512 2 rfl,
      readCov_head _ _ 768 3 rfl] <;>
    simp (discharger := decide) only [canon_other 0 _ 0 rfl, canon_other 256 _ 1 rfl, canon_other 512 _ 2 rfl,
      View.canon_unit_zero (S := S256x1024) hz, zero4] <;> rfl

/-- The gradient of the values, after the first point's body: these rows' part. -/
theorem outA6 (hc : cond0_0 i) (h : Fin 4) (j d : Fin 256) :
    out0_A_6 c i a1 h1 a2 h2 a3 h3 a4 h4 a5 h5 a6 h6 a7 h7 hc x0 x1 x2 x3 (ix2 j (col h d))
      = 0 + ∑ t : Fin 1024, dv (ent x0) (ent x1) (ent x3) h j d t := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  simp only [View.readAt_eq_ld, h1.read_unread, h2.read_unread, h3.read_unread, h4.read_unread,
    ld_head 0 0 rfl, ld_head 256 1 rfl, ld_head 512 2 rfl, ld_head 768 3 rfl,
    pay7_eq, pay8_eq, pay9_eq, pay11_eq, pay12_eq, pay13_eq, pay15_eq, pay16_eq, pay17_eq, pay19_eq, pay20_eq,
    pay22_eq, pay23_eq, pay24_eq, pay3_eq, pay29_eq, pay32_eq, pay35_eq]
  fin_cases h <;> simp (discharger := decide) only [Fin.zero_eta, Fin.mk_one, Fin.reduceFinMk, canon_same 0 0 rfl, canon_same 256 1 rfl,
    canon_same 512 2 rfl, canon_same 768 3 rfl, canon_other 256 _ 1 rfl, canon_other 512 _ 2 rfl, canon_other 768 _ 3 rfl] <;>
    simp only [acc0, head_apply, probs_apply, readCov_head _ _ 0 0 rfl, readCov_head _ _ 256 1 rfl, readCov_head _ _ 512 2 rfl,
      readCov_head _ _ 768 3 rfl] <;>
    simp (discharger := decide) only [canon_other 0 _ 0 rfl, canon_other 256 _ 1 rfl, canon_other 512 _ 2 rfl,
      View.canon_unit_zero (S := S256x1024) hz, zero5] <;> rfl

/-- The gradient of the keys, after a later point's body: what the point before left, and these rows' part. -/
theorem outB5 (hc : ¬cond0_0 i) (h : Fin 4) (j d : Fin 256) :
    out0_B_5 c i a1 h1 a2 h2 a3 h3 a4 h4 a5 h5 a6 h6 a7 h7 hc x0 x1 x2 x3 o5 o6 (ix2 j (col h d))
      = o5 (ix2 j (col h d)) + ∑ t : Fin 1024, dk (ent x0) (ent x1) (ent x2) (ent x3) h j d t := by
  unfold out0_B_5
  rw [View.read_writes_eq_canon _ _ _ (cover0_B_5 c i a1 h1 a2 h2 a3 h3 a4 h4 a5 h5 a6 h6 a7 h7 hc x0 x1 x2 x3 o5 o6)]
  unfold kernelRun0_B
  dsimp only
  sl_unfold_words
  simp only [View.readAt_eq_ld, h1.read_unread, h2.read_unread, h3.read_unread, h4.read_unread, h6.read_unread, h7.read_unread,
    ld_head 0 0 rfl, ld_head 256 1 rfl, ld_head 512 2 rfl, ld_head 768 3 rfl,
    pay7_eq, pay8_eq, pay9_eq, pay11_eq, pay12_eq, pay13_eq, pay15_eq, pay16_eq, pay17_eq, pay19_eq, pay20_eq,
    pay22_eq, pay23_eq, pay24_eq, pay2_eq, pay31_eq, pay34_eq]
  fin_cases h <;> simp (discharger := decide) only [Fin.zero_eta, Fin.mk_one, Fin.reduceFinMk, canon_same 0 0 rfl, canon_same 256 1 rfl,
    canon_same 512 2 rfl, canon_same 768 3 rfl, canon_other 256 _ 1 rfl, canon_other 512 _ 2 rfl, canon_other 768 _ 3 rfl] <;>
    simp only [acc0, head_apply, grads_apply] <;> rfl

/-- The gradient of the values, after a later point's body: what the point before left, and these rows' part. -/
theorem outB6 (hc : ¬cond0_0 i) (h : Fin 4) (j d : Fin 256) :
    out0_B_6 c i a1 h1 a2 h2 a3 h3 a4 h4 a5 h5 a6 h6 a7 h7 hc x0 x1 x2 x3 o5 o6 (ix2 j (col h d))
      = o6 (ix2 j (col h d)) + ∑ t : Fin 1024, dv (ent x0) (ent x1) (ent x3) h j d t := by
  unfold out0_B_6
  rw [View.read_writes_eq_canon _ _ _ (cover0_B_6 c i a1 h1 a2 h2 a3 h3 a4 h4 a5 h5 a6 h6 a7 h7 hc x0 x1 x2 x3 o5 o6)]
  unfold kernelRun0_B
  dsimp only
  sl_unfold_words
  simp only [View.readAt_eq_ld, h1.read_unread, h2.read_unread, h3.read_unread, h4.read_unread, h6.read_unread, h7.read_unread,
    ld_head 0 0 rfl, ld_head 256 1 rfl, ld_head 512 2 rfl, ld_head 768 3 rfl,
    pay7_eq, pay8_eq, pay9_eq, pay11_eq, pay12_eq, pay13_eq, pay15_eq, pay16_eq, pay17_eq, pay19_eq, pay20_eq,
    pay22_eq, pay23_eq, pay24_eq, pay3_eq, pay29_eq, pay32_eq, pay35_eq]
  fin_cases h <;> simp (discharger := decide) only [Fin.zero_eta, Fin.mk_one, Fin.reduceFinMk, canon_same 0 0 rfl, canon_same 256 1 rfl,
    canon_same 512 2 rfl, canon_same 768 3 rfl, canon_other 256 _ 1 rfl, canon_other 512 _ 2 rfl, canon_other 768 _ 3 rfl] <;>
    simp only [acc0, head_apply, probs_apply] <;> rfl

end Cert.Proof.Blocks

end
-- ==== Proof.Arrays.lean ====
/-
  The three arrays the attention's backward kernel leaves, entry by entry: the eight points' blocks of rows put together
  for the gradient of the queries, and the eight points' parts added for the gradients of the keys and of the values.
-/
module

public import proofs.«01_k».proof.Proof.Blocks
public import Idealize.ShloMosaic.Lib.Pipeline.ValueKit

@[expose] public section

set_option maxRecDepth 16384

noncomputable section

namespace Cert.Proof.Arrays

open Idealize.ShloMosaic Idealize.ShloMosaic.TcCoe Idealize.SL.Sem Cert.KernelIdeal Cert.KernelIdeal.Gen
open Idealize.ShloMosaic.Pipeline
open Cert.Proof.Rows Cert.Proof.Heads Cert.Proof.Blocks

/-! ## The blocks a point reads -/

variable (m : (ℓ : Loc nD τ sig) → Buf (Elt Ideal) ℓ) (c : Dev nD)

/-- The queries, the keys, the values and the gradient of the attention's result. -/
abbrev Q (r : Fin 8192) (l : Fin 1024) : EReal := ent (m ((c : Thread nD τ).loc main_arg0)) r l
abbrev K (r : Fin 256) (l : Fin 1024) : EReal := ent (m ((c : Thread nD τ).loc main_arg1)) r l
abbrev V' (r : Fin 256) (l : Fin 1024) : EReal := ent (m ((c : Thread nD τ).loc main_arg2)) r l
abbrev G' (r : Fin 8192) (l : Fin 1024) : EReal := ent (m ((c : Thread nD τ).loc main_arg3)) r l

theorem N8 : cfg0.N = 8 := by decide

/-- Row `r` of point `t`'s block. -/
def row (t : Fin cfg0.N) (r : Fin 1024) : Fin 8192 :=
  ⟨t.val * 1024 + r.val, by have h : t.val < 8 := N8 ▸ t.isLt; have := r.isLt; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

theorem blk0 (t : Fin cfg0.N) : ent (iblk m c 0 t) = fun r l => Q m c (row t r) l := by
  funext r l
  unfold ent
  blk_simp [iblk]
  rw [V_main_arg0]
  refine congrArg _ (funext fun a => Fin.ext ?_)
  match a with
  | ⟨0, _⟩ => blk_simp [idx0]; rfl
  | ⟨1, _⟩ => blk_simp [idx0]

theorem blk1 (t : Fin cfg0.N) : ent (iblk m c 1 t) = K m c := by
  funext r l
  unfold ent
  blk_simp [iblk]
  rw [V_main_arg1]
  refine congrArg _ (funext fun a => Fin.ext ?_)
  match a with
  | ⟨0, _⟩ => blk_simp [idx1]
  | ⟨1, _⟩ => blk_simp [idx1]

theorem blk2 (t : Fin cfg0.N) : ent (iblk m c 2 t) = V' m c := by
  funext r l
  unfold ent
  blk_simp [iblk]
  rw [V_main_arg2]
  refine congrArg _ (funext fun a => Fin.ext ?_)
  match a with
  | ⟨0, _⟩ => blk_simp [idx2]
  | ⟨1, _⟩ => blk_simp [idx2]

theorem blk3 (t : Fin cfg0.N) : ent (iblk m c 3 t) = fun r l => G' m c (row t r) l := by
  funext r l
  unfold ent
  blk_simp [iblk]
  rw [V_main_arg3]
  refine congrArg _ (funext fun a => Fin.ext ?_)
  match a with
  | ⟨0, _⟩ => blk_simp [idx3]; rfl
  | ⟨1, _⟩ => blk_simp [idx3]

/-! ## What the points leave -/

/-- The gradient of the queries, after any point: its rows'. -/
theorem out4 (t : Fin cfg0.N) (h : Fin 4) (r : Fin 1024) (d : Fin 256) :
    (outsAt0 m c t.val t.isLt).1 (ix2 r (col h d)) = dq (Q m c) (K m c) (V' m c) (G' m c) h (row t r) d := by
  by_cases h0 : t.val % 8 = 0
  · rw [outsAt0_A m c t h0]
    dsimp only
    rw [outA4, blk0, blk1, blk2, blk3]
    rfl
  · rw [outsAt0_B m c t h0]
    dsimp only
    rw [outB4, blk0, blk1, blk2, blk3]
    rfl

/-- The gradient of the keys, after the last point: the sum over every row. -/
theorem out5 (t : Fin cfg0.N) (ht : t.val + 1 = cfg0.N) (h : Fin 4) (j d : Fin 256) :
    (outsAt0 m c t.val t.isLt).2.1 (ix2 j (col h d))
      = ∑ r : Fin 8192, dk (Q m c) (K m c) (V' m c) (G' m c) h j d r := by
  refine (eq_sum_fin_of_reset_step_last (fun n hn => (outsAt0 m c n hn).2.1 (ix2 j (col h d))) 8 0
    (fun t => ∑ r : Fin 1024, dk (Q m c) (K m c) (V' m c) (G' m c) h j d (row t r)) ?_ ?_ (le_of_eq N8) t ht).trans ?_
  · intro t h0
    rw [outsAt0_A m c t h0]
    dsimp only
    rw [outA5, blk0, blk1, blk2, blk3]
    rfl
  · intro t h0
    rw [outsAt0_B m c t h0]
    dsimp only
    rw [outB5, blk0, blk1, blk2, blk3]
    rfl
  · rw [zero_add]
    exact Fin.sum_mul_add_fin 8 1024 (dk (Q m c) (K m c) (V' m c) (G' m c) h j d)

/-- The gradient of the values, after the last point: the sum over every row. -/
theorem out6 (t : Fin cfg0.N) (ht : t.val + 1 = cfg0.N) (h : Fin 4) (j d : Fin 256) :
    (outsAt0 m c t.val t.isLt).2.2 (ix2 j (col h d))
      = ∑ r : Fin 8192, dv (Q m c) (K m c) (G' m c) h j d r := by
  refine (eq_sum_fin_of_reset_step_last (fun n hn => (outsAt0 m c n hn).2.2 (ix2 j (col h d))) 8 0
    (fun t => ∑ r : Fin 1024, dv (Q m c) (K m c) (G' m c) h j d (row t r)) ?_ ?_ (le_of_eq N8) t ht).trans ?_
  · intro t h0
    rw [outsAt0_A m c t h0]
    dsimp only
    rw [outA6, blk0, blk1, blk3]
    rfl
  · intro t h0
    rw [outsAt0_B m c t h0]
    dsimp only
    rw [outB6, blk0, blk1, blk3]
    rfl
  · rw [zero_add]
    exact Fin.sum_mul_add_fin 8 1024 (dv (Q m c) (K m c) (G' m c) h j d)

/-! ## The arrays after the run -/

/-- The gradient of the queries, of the keys and of the values. -/
def DQ : (⟨2, ![8192, 1024]⟩ : Shape).Idx → EReal := spread (dq (Q m c) (K m c) (V' m c) (G' m c))
def DK : (⟨2, ![256, 1024]⟩ : Shape).Idx → EReal :=
  spread fun h j d => ∑ r : Fin 8192, dk (Q m c) (K m c) (V' m c) (G' m c) h j d r
def DV : (⟨2, ![256, 1024]⟩ : Shape).Idx → EReal :=
  spread fun h j d => ∑ r : Fin 8192, dv (Q m c) (K m c) (G' m c) h j d r

theorem DQ_at (t : Fin 8192) (h : Fin 4) (d : Fin 256) :
    DQ m c (ix2 t (col h d)) = dq (Q m c) (K m c) (V' m c) (G' m c) h t d := spread_apply _ _ _ _
theorem DK_at (j : Fin 256) (h : Fin 4) (d : Fin 256) :
    DK m c (ix2 j (col h d)) = ∑ r : Fin 8192, dk (Q m c) (K m c) (V' m c) (G' m c) h j d r := spread_apply _ _ _ _
theorem DV_at (j : Fin 256) (h : Fin 4) (d : Fin 256) :
    DV m c (ix2 j (col h d)) = ∑ r : Fin 8192, dv (Q m c) (K m c) (G' m c) h j d r := spread_apply _ _ _ _

theorem final4 : (dats m 0 c).arrAt 4 cfg0.N = DQ m c := by
  refine (dats m 0 c).arrAt_eq_of_covers 4 _ (by decide +kernel) fun t _ y => ?_
  blk_simp
  rw [after0_4]
  obtain ⟨h, d, e⟩ := exists_col (y 1)
  have hy : y = ix2 (y 0) (col h d) := by rw [← e]; exact eq_ix2 y
  have he : (win0_4.blk t).view.emb y = ix2 (row t (y 0)) (col h d) := by
    rw [hy]
    refine funext fun a => Fin.ext ?_
    match a with
    | ⟨0, _⟩ => blk_simp [idx4]; rfl
    | ⟨1, _⟩ => blk_simp [idx4]
  rw [he]
  exact (congrArg _ hy).trans ((out4 m c t h (y 0) d).trans (spread_apply _ _ _ _).symm)

theorem final5 : (dats m 0 c).arrAt 5 cfg0.N = DK m c := by
  refine (dats m 0 c).arrAt_eq_of_after_last 5 t0_7 (by decide +kernel) _ fun y => ?_
  obtain ⟨h, d, e⟩ := exists_col (y 1)
  have hy : y = ix2 (y 0) (col h d) := by rw [← e]; exact eq_ix2 y
  blk_simp
  rw [after0_5]
  exact (congrArg _ hy).trans ((out5 m c t0_7 (by decide) h (y 0) d).trans
    ((spread_apply _ _ _ _).symm.trans (congrArg (DK m c) hy.symm)))

theorem final6 : (dats m 0 c).arrAt 6 cfg0.N = DV m c := by
  refine (dats m 0 c).arrAt_eq_of_after_last 6 t0_7 (by decide +kernel) _ fun y => ?_
  obtain ⟨h, d, e⟩ := exists_col (y 1)
  have hy : y = ix2 (y 0) (col h d) := by rw [← e]; exact eq_ix2 y
  blk_simp
  rw [after0_6]
  exact (congrArg _ hy).trans ((out6 m c t0_7 (by decide) h (y 0) d).trans
    ((spread_apply _ _ _ _).symm.trans (congrArg (DV m c) hy.symm)))

/-- The run: the three gradients, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = DQ m c
      ∧ r.2.mem ((c : Thread nD τ).loc main_v0_1) = DK m c
      ∧ r.2.mem ((c : Thread nD τ).loc main_v0_2) = DV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h c).1.trans (final4 m c), (h c).2.1.trans (final5 m c), (h c).2.2.1.trans (final6 m c), (h c).2.2.2⟩)
    (Value.run_blocks m ρ)

end Cert.Proof.Arrays

end
-- ==== Proof.Reference.lean ====
/-
  The reference's three gradients, entry by entry: each stage of it over a head, a query, a memory and a column, and
  their identity with the gradients the kernel computes where every score is a number.
-/
module

public import proofs.«01_k».proof.Proof.Heads
public import proofs.«01_k».proof.Proof.Gen.ReferenceIdeal.Read
public import Idealize.ShloMosaic.Lib.Pointwise

@[expose] public section

set_option maxRecDepth 16384

noncomputable section

namespace Cert.Proof.Reference

open Idealize.ShloMosaic Cert.ReferenceIdeal Cert.ReferenceIdeal.Gen Cert.ReferenceIdeal.Read
open Cert.Proof.Rows Cert.Proof.Heads

variable (q g : S8192x1024.Idx → EReal) (k v : S256x1024.Idx → EReal)

/-- An array's entries by row and column. -/
abbrev at2 {n m : ℕ} (x : (⟨2, ![n, m]⟩ : Shape).Idx → EReal) (r : Fin n) (l : Fin m) : EReal := x (ix2 r l)

/-! ## The arguments head by head -/

theorem q_at (t : Fin 8192) (h : Fin 4) (d : Fin 256) : val_main_v1 (F := Ideal) q (ix3 t h d) = q (ix2 t (col h d)) := by
  rw [val_main_v1_apply, val_main_v0_apply]
  refine congrArg q (funext fun a => Fin.ext ?_)
  have := h.isLt
  have := d.isLt
  match a with
  | ⟨0, _⟩ => show ((t.val * 4 + h.val) * 256 + d.val) / 1024 = t.val; omega
  | ⟨1, _⟩ => show ((t.val * 4 + h.val) * 256 + d.val) % 1024 = 256 * h.val + d.val; omega

theorem k_at (j : Fin 256) (h : Fin 4) (d : Fin 256) : val_main_v2 (F := Ideal) k (ix3 j h d) = k (ix2 j (col h d)) := by
  rw [val_main_v2_apply]
  refine congrArg k (funext fun a => Fin.ext ?_)
  have := h.isLt
  have := d.isLt
  match a with
  | ⟨0, _⟩ => show ((j.val * 4 + h.val) * 256 + d.val) / 1024 = j.val; omega
  | ⟨1, _⟩ => show ((j.val * 4 + h.val) * 256 + d.val) % 1024 = 256 * h.val + d.val; omega

theorem v_at (j : Fin 256) (h : Fin 4) (d : Fin 256) : val_main_v3 (F := Ideal) v (ix3 j h d) = v (ix2 j (col h d)) := by
  rw [val_main_v3_apply]
  refine congrArg v (funext fun a => Fin.ext ?_)
  have := h.isLt
  have := d.isLt
  match a with
  | ⟨0, _⟩ => show ((j.val * 4 + h.val) * 256 + d.val) / 1024 = j.val; omega
  | ⟨1, _⟩ => show ((j.val * 4 + h.val) * 256 + d.val) % 1024 = 256 * h.val + d.val; omega

theorem g_at (h : Fin 4) (d : Fin 256) (t : Fin 8192) : val_main_v40 (F := Ideal) g (ix3 h d t) = g (ix2 t (col h d)) := by
  rw [val_main_v40_apply, val_main_v39_apply, val_main_v38_apply]
  refine congrArg g (funext fun a => Fin.ext ?_)
  have := h.isLt
  have := d.isLt
  match a with
  | ⟨0, _⟩ => show ((t.val * 4 + h.val) * 256 + d.val) / 1024 = t.val; omega
  | ⟨1, _⟩ => show ((t.val * 4 + h.val) * 256 + d.val) % 1024 = 256 * h.val + d.val; omega

/-! ## The softmax -/

theorem scores_at (h : Fin 4) (t : Fin 8192) (j : Fin 256) :
    val_main_v6 (F := Ideal) q k (ix3 h t j) = sc (at2 q) (at2 k) h t j := by
  rw [val_main_v6_apply, val_main_v4_apply, val_main_v5_apply, val_main_cst_apply]
  refine congrArg (· * scale) (Finset.sum_congr rfl fun d _ => ?_)
  rw [eq_ix3 (lidx_main_v4 (ix3 h t j) d), eq_ix3 (ridx_main_v4 (ix3 h t j) d)]
  exact congrArg₂ (· * ·) (q_at q t h d) (k_at k j h d)

theorem top_at (h : Fin 4) (t : Fin 8192) : val_main_v7 (F := Ideal) q k (ix2 h t) = top (sc (at2 q) (at2 k) h t) := by
  unfold val_main_v7
  rw [Host.reduce_eq_fold_single FloatOps.maximumf _ _ reducesTo_S4x8192x256_S4x8192_d2 (by decide) h_S_]
  rw [val_main_cst_0_apply]
  show Finset.univ.fold max (Ideal.ofBits .f32 0xFF800000#32) _ = _
  rw [ofBits_neg_inf]
  refine Finset.fold_congr fun j _ => ?_
  exact (congrArg _ (eq_ix3 _)).trans (scores_at q k h t j)

theorem ex_at (h : Fin 4) (t : Fin 8192) (j : Fin 256) :
    val_main_v27 (F := Ideal) q k (ix3 h t j) = ex (sc (at2 q) (at2 k) h t) j := by
  rw [val_main_v27_apply, val_main_v26_apply, val_main_v25_apply, val_main_v24_apply, val_main_v14_apply, val_main_v13_apply,
    val_main_cst_2_apply, scores_at, eq_ix2 (idx_main_v24 _)]
  show Ideal.exp (_ - max (Ideal.ofBits .f32 0xFF800000#32) (val_main_v7 (F := Ideal) q k (ix2 h t))) = _
  rw [top_at, ofBits_neg_inf, max_eq_right bot_le]
  rfl

theorem den_at (h : Fin 4) (t : Fin 8192) (u : Fin 1) :
    val_main_v29 (F := Ideal) q k (ix3 h t u) = den (sc (at2 q) (at2 k) h t) := by
  rw [val_main_v29_apply, val_main_v28_apply, val_main_cst_8_apply]
  show Ideal.ofBits .f32 0x00000000#32 + _ = _
  rw [ofBits_zero, zero_add]
  refine Finset.sum_congr rfl fun j _ => ?_
  rw [eq_ix3 (idx_main_v28 _ j)]
  exact ex_at q k h t j

theorem prob_at (h : Fin 4) (t : Fin 8192) (j : Fin 256) :
    val_main_v31 (F := Ideal) q k (ix3 h t j) = prob (sc (at2 q) (at2 k) h t) j := by
  rw [val_main_v31_apply, val_main_v30_apply, eq_ix3 (idx_main_v30 _), ex_at]
  exact congrArg (Ideal.div _) (den_at q k h t 0)

/-! ## Its gradient -/

theorem gp_at (h : Fin 4) (t : Fin 8192) (j : Fin 256) :
    val_main_v41 (F := Ideal) v g (ix3 h t j) = gp (at2 v) (at2 g) h t j := by
  rw [val_main_v41_apply]
  refine Finset.sum_congr rfl fun d _ => ?_
  rw [eq_ix3 (lidx_main_v41 (ix3 h t j) d), eq_ix3 (ridx_main_v41 (ix3 h t j) d)]
  exact congrArg₂ (· * ·) (g_at g h d t) (v_at v j h d)

theorem inner_at (h : Fin 4) (t : Fin 8192) (j : Fin 256) :
    val_main_v46 (F := Ideal) q k v g (ix3 h t j)
      = gp (at2 v) (at2 g) h t j
          * Ideal.div 1 (den (sc (at2 q) (at2 k) h t) * den (sc (at2 q) (at2 k) h t)) * ex (sc (at2 q) (at2 k) h t) j := by
  rw [val_main_v46_apply, val_main_v45_apply, val_main_v44_apply, val_main_v34_apply, val_main_v33_apply, val_main_cst_9_apply,
    val_main_v32_apply, gp_at, ex_at, eq_ix3 (idx_main_v44 _)]
  show _ * Ideal.div (Ideal.ofBits .f32 0x3F800000#32)
    (val_main_v29 (F := Ideal) q k (ix3 h t 0) * val_main_v29 (F := Ideal) q k (ix3 h t 0)) * _ = _
  rw [den_at, ofBits_one]

theorem sum_at (h : Fin 4) (t : Fin 8192) (u : Fin 1) :
    val_main_v48 (F := Ideal) q k v g (ix3 h t u)
      = ∑ j, gp (at2 v) (at2 g) h t j
          * Ideal.div 1 (den (sc (at2 q) (at2 k) h t) * den (sc (at2 q) (at2 k) h t)) * ex (sc (at2 q) (at2 k) h t) j := by
  have hi : idx_main_v48 (ix3 h t u) = ix2 h t := funext fun a => Fin.ext (by
    have := h.isLt
    have := t.isLt
    have := u.isLt
    match a with
    | ⟨0, _⟩ => show ((h.val * 8192 + t.val) * 1 + u.val) / 8192 = h.val; omega
    | ⟨1, _⟩ => show ((h.val * 8192 + t.val) * 1 + u.val) % 8192 = t.val; omega)
  rw [val_main_v48_apply, hi, val_main_v47_apply, val_main_cst_10_apply]
  show Ideal.ofBits .f32 0x00000000#32 + _ = _
  rw [ofBits_zero, zero_add]
  refine Finset.sum_congr rfl fun j _ => ?_
  rw [eq_ix3 (idx_main_v47 _ j)]
  exact inner_at q g k v h t j

theorem ds_at (h : Fin 4) (t : Fin 8192) (j : Fin 256) :
    val_main_v57 (F := Ideal) q k v g (ix3 h t j) = gradQuot (sc (at2 q) (at2 k) h t) (gp (at2 v) (at2 g) h t) j := by
  rw [val_main_v57_apply, val_main_v56_apply, val_main_cst_12_apply, val_main_v55_apply, val_main_v54_apply, val_main_v53_apply,
    val_main_v52_apply, val_main_cst_11_apply, val_main_v51_apply, val_main_v50_apply, gp_at, ex_at, Fin.sum_univ_one,
    val_main_v49_apply, eq_ix3 (idx_main_v50 _), eq_ix3 (idx_main_v52 _ 0)]
  show (Ideal.div _ (val_main_v29 (F := Ideal) q k (ix3 h t 0))
    + (Ideal.ofBits .f32 0x00000000#32 + -val_main_v48 (F := Ideal) q k v g (ix3 h t 0))) * _ * scale = _
  rw [den_at, sum_at, ofBits_zero, zero_add]
  rfl

/-! ## The three results -/

theorem dq_at (t : Fin 8192) (h : Fin 4) (d : Fin 256) :
    val_main_v65 (F := Ideal) q k v g (ix2 t (col h d))
      = ∑ j, gradQuot (sc (at2 q) (at2 k) h t) (gp (at2 v) (at2 g) h t) j * k (ix2 j (col h d)) := by
  have hi : idx_main_v64 (ix2 t (col h d)) = ix3 t h d := funext fun a => Fin.ext (by
    have := h.isLt
    have := d.isLt
    match a with
    | ⟨0, _⟩ => show (t.val * 1024 + (256 * h.val + d.val)) / 1024 = t.val; omega
    | ⟨1, _⟩ => show (t.val * 1024 + (256 * h.val + d.val)) / 256 % 4 = h.val; omega
    | ⟨2, _⟩ => show (t.val * 1024 + (256 * h.val + d.val)) % 256 = d.val; omega)
  rw [val_main_v65_apply, val_main_v64_apply, hi, val_main_v61_apply, val_main_v60_apply]
  refine Finset.sum_congr rfl fun j _ => ?_
  rw [eq_ix3 (lidx_main_v60 _ j), eq_ix3 (ridx_main_v60 _ j)]
  exact congrArg₂ (· * ·) (ds_at q g k v h t j) (k_at k j h d)

theorem dk_at (j : Fin 256) (h : Fin 4) (d : Fin 256) :
    val_main_v63 (F := Ideal) q k v g (ix2 j (col h d))
      = ∑ t, gradQuot (sc (at2 q) (at2 k) h t) (gp (at2 v) (at2 g) h t) j * q (ix2 t (col h d)) := by
  have hi : idx_main_v63 (ix2 j (col h d)) = ix3 j h d := funext fun a => Fin.ext (by
    have := h.isLt
    have := d.isLt
    match a with
    | ⟨0, _⟩ => show (j.val * 1024 + (256 * h.val + d.val)) / 1024 = j.val; omega
    | ⟨1, _⟩ => show (j.val * 1024 + (256 * h.val + d.val)) / 256 % 4 = h.val; omega
    | ⟨2, _⟩ => show (j.val * 1024 + (256 * h.val + d.val)) % 256 = d.val; omega)
  rw [val_main_v63_apply, hi, val_main_v59_apply, val_main_v58_apply]
  refine Finset.sum_congr rfl fun t _ => ?_
  rw [eq_ix3 (lidx_main_v58 _ t), eq_ix3 (ridx_main_v58 _ t)]
  exact congrArg₂ (· * ·) (ds_at q g k v h t j) (q_at q t h d)

theorem dv_at (j : Fin 256) (h : Fin 4) (d : Fin 256) :
    val_main_v62 (F := Ideal) q k g (ix2 j (col h d)) = ∑ t, dv (at2 q) (at2 k) (at2 g) h j d t := by
  have hi : idx_main_v62 (ix2 j (col h d)) = ix3 j h d := funext fun a => Fin.ext (by
    have := h.isLt
    have := d.isLt
    match a with
    | ⟨0, _⟩ => show (j.val * 1024 + (256 * h.val + d.val)) / 1024 = j.val; omega
    | ⟨1, _⟩ => show (j.val * 1024 + (256 * h.val + d.val)) / 256 % 4 = h.val; omega
    | ⟨2, _⟩ => show (j.val * 1024 + (256 * h.val + d.val)) % 256 = d.val; omega)
  rw [val_main_v62_apply, hi, val_main_v43_apply, val_main_v42_apply]
  refine Finset.sum_congr rfl fun t _ => ?_
  rw [eq_ix3 (lidx_main_v42 _ t), eq_ix3 (ridx_main_v42 _ t)]
  refine (congrArg₂ (· * ·) (g_at g h d t) (prob_at q k h t j)).trans ?_
  exact mul_comm _ _

/-! ## Where every entry of the queries and of the keys is a number -/

/-- The scores are numbers, -/
theorem scores_real (hq : ∀ i, ∃ r : ℝ, q i = r) (hk : ∀ i, ∃ r : ℝ, k i = r) (h : Fin 4) (t : Fin 8192) :
    ∃ r : Fin 256 → ℝ, ∀ j, sc (at2 q) (at2 k) h t j = r j := by
  choose a ha using hq
  choose b hb using hk
  refine ⟨fun j => (∑ d, a (ix2 t (col h d)) * b (ix2 j (col h d))) * (1 / 16), fun j => ?_⟩
  unfold sc scores
  rw [scale_eq, EReal.coe_mul, coe_sum]
  refine congrArg (· * _) (Finset.sum_congr rfl fun d _ => ?_)
  rw [EReal.coe_mul]
  exact congrArg₂ (· * ·) (ha _) (hb _)

/-- and the reference's gradient of the scores is the kernel's. -/
theorem ds_eq (hq : ∀ i, ∃ r : ℝ, q i = r) (hk : ∀ i, ∃ r : ℝ, k i = r) (h : Fin 4) (t : Fin 8192) (j : Fin 256) :
    gradQuot (sc (at2 q) (at2 k) h t) (gp (at2 v) (at2 g) h t) j = ds (at2 q) (at2 k) (at2 v) (at2 g) h t j := by
  obtain ⟨r, hr⟩ := scores_real q k hq hk h t
  exact (grad_eq _ _ r hr j).symm

theorem dq_eq (hq : ∀ i, ∃ r : ℝ, q i = r) (hk : ∀ i, ∃ r : ℝ, k i = r) (t : Fin 8192) (h : Fin 4) (d : Fin 256) :
    val_main_v65 (F := Ideal) q k v g (ix2 t (col h d)) = dq (at2 q) (at2 k) (at2 v) (at2 g) h t d := by
  rw [dq_at]
  simp only [ds_eq q g k v hq hk]
  rfl

theorem dk_eq (hq : ∀ i, ∃ r : ℝ, q i = r) (hk : ∀ i, ∃ r : ℝ, k i = r) (j : Fin 256) (h : Fin 4) (d : Fin 256) :
    val_main_v63 (F := Ideal) q k v g (ix2 j (col h d)) = ∑ t, dk (at2 q) (at2 k) (at2 v) (at2 g) h j d t := by
  rw [dk_at]
  simp only [ds_eq q g k v hq hk]
  rfl

end Cert.Proof.Reference

end
-- ==== Proof.Finite.lean ====
/-
  The precondition `finite`: its side conditions, and what it says of the two arrays it reads — every entry of the
  queries and of the keys is a real number.
-/
module

public import proofs.«01_k».proof.Pre_finite
public import proofs.«01_k».proof.Proof.Rows
public import Idealize.ShloMosaic.Lib.ReduceAll
public import Idealize.ShloMosaic.Lib.Pointwise

@[expose] public section

noncomputable section

namespace Cert.Proof.Finite

open Idealize.ShloMosaic Cert.Pre_finite Cert.Proof.Rows

/-- The shapes the predicate takes fit. -/
instance facts : Cert.Pre_finite.Facts where
  bitsLt_bf16_f32 := by decide
  bcast_S_S8192x1024 := by decide
  reducesTo_S8192x1024_S_d0_1 := by decide
  h_S_ := by decide
  bcast_S_S256x1024 := by decide
  reducesTo_S256x1024_S_d0_1 := by decide

/-- A value whose magnitude is below infinity is a real number. -/
theorem real_of_lt (x : EReal) (h : Ideal.cmp .olt (max x (-x)) ⊤ = 1#1) : ∃ r : ℝ, x = r := by
  have h' : max x (-x) < ⊤ := (Ideal.cmp_olt_eq_one _ _).1 h
  induction x with
  | bot => simp at h'
  | top => simp at h'
  | coe r => exact ⟨r, rfl⟩

/-- Every entry of both arrays is a real number. -/
theorem reals (q g : FVec Ideal S8192x1024 .bf16) (k v : FVec Ideal S256x1024 .f32)
    (h : fn (F := Ideal) q k v g = fun _ => 1#1) : (∀ i, ∃ r : ℝ, q i = r) ∧ ∀ i, ∃ r : ℝ, k i = r := by
  haveI : Subsingleton S_.Idx := ⟨fun _ _ => funext fun a => a.elim0⟩
  dsimp only [fn] at h
  have h0 := congrFun h fun a => a.elim0
  obtain ⟨hq, hk⟩ := IntOp.andi_eq_one.1 h0
  constructor
  · intro i
    have := Host.reduce_andi_all _ _ _ _ _ hq i
    refine real_of_lt _ ?_
    rw [← ofBits_inf]
    exact this
  · intro i
    have := Host.reduce_andi_all _ _ _ _ _ hk i
    refine real_of_lt _ ?_
    rw [← ofBits_inf]
    exact this

end Cert.Proof.Finite

end
-- ==== Proof.DownInput.lean ====
/-
  The gradient of the network's first layer before its nonlinearity: the kernel's blocks and the reference's vjp are both
  twice the product of the output's gradient with the second matrix, times the positive part of the layer.
-/
module

public import proofs.«01_k».proof.Proof.Rows
public import proofs.«01_k».proof.Proof.Gen.DownDxIdeal.Value
public import proofs.«01_k».proof.Proof.Gen.DownDxRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.DownInput

open Idealize.ShloMosaic Idealize.ShloMosaic.TcCoe Idealize.ShloMosaic.Pipeline Idealize.SL.Sem Cert.DownDxIdeal Cert.DownDxIdeal.Gen

theorem hz : (![0, 0] : Fin 2 → Nat) = fun _ => 0 := funext fun a => by fin_cases a <;> rfl

section Body

variable (c : Dev nD) (i : grid0.Coords) (a3 : Memref sig .tc .vmem S1024x1024 .f32) (h3 : a3.IsWhole)
  (a4 : Memref sig .tc .vmem S4096x1024 .bf16) (h4 : a4.IsWhole) (a5 : Memref sig .tc .vmem S1024x1024 .bf16) (h5 : a5.IsWhole)
  (a6 : Memref sig .tc .vmem S1024x1024 .bf16) (h6 : a6.IsWhole)
  (x0 : Vec Ideal S1024x1024 .f32) (x1 : Vec Ideal S4096x1024 .bf16) (x2 : Vec Ideal S1024x1024 .bf16)
  (r l : Fin 1024)

theorem product (w : Vec Ideal S1024x1024 .bf16) :
    k0_pay1 w x0 x2 (ix2 r l) = 2 * (∑ k : Fin 1024, x0 (ix2 r k) * w (ix2 l k)) * x2 (ix2 r l) := by
  unfold k0_pay1
  pointwise
  rw [Rows.ofBits_two]

/-- The rows of the matrix that a point's columns take. -/
def wrow (i : grid0.Coords) (l : Fin 1024) : Fin 4096 :=
  ⟨1024 * (i 1).val + l.val, by have : (i 1).val < 4 := (i 1).isLt; have := l.isLt; omega⟩

/-- A point's load of them. -/
theorem load (l k : Fin 1024) : View.ld x1 (Rect.unit (s := S4096x1024) (k0_off1 i) S1024x1024.size (k0_off1_inb i)) (ix2 l k)
    = x1 (ix2 (wrow i l) k) := by
  refine View.ld_unit_apply_of x1 _ _ _ _ _ fun a => ?_
  refine Eq.trans ?_ (congrArg (· + _) (congrFun (k0_off1_eq i) a).symm)
  have : (i 2).val = 0 := by have : (i 2).val < 1 := (i 2).isLt; omega
  match a with
  | ⟨0, _⟩ => rfl
  | ⟨1, _⟩ => show k.val = 1024 * (i 2).val + k.val; omega

/-- What a point leaves in its block. -/
theorem block : out0_A_3 c i a3 h3 a4 h4 a5 h5 a6 h6 x0 x1 x2 (ix2 r l)
    = 2 * (∑ k : Fin 1024, x0 (ix2 r k) * x1 (ix2 (wrow i l) k)) * x2 (ix2 r l) := by
  unfold out0_A_3
  rw [View.read_writes_eq_canon _ _ _ (cover0_A_3 c i a3 h3 a4 h4 a5 h5 a6 h6 x0 x1 x2)]
  unfold kernelRun0_A
  dsimp only
  sl_unfold_words
  simp only [View.readAt_eq_ld, h3.read_unread, h4.read_unread, h5.read_unread,
    View.ld_unit_zero (S := S1024x1024) hz, View.canon_unit_zero (S := S1024x1024) hz]
  exact (product x0 x2 r l _).trans (congrArg (2 * · * _) (Finset.sum_congr rfl fun k _ => congrArg (_ * ·) (load i x1 l k)))

end Body

variable (m : (b : Loc nD τ sig) → Buf (Elt Ideal) b) (c : Dev nD)

/-- The arguments, entry by entry. -/
abbrev pre (t : Fin 8192) (l : Fin 4096) : EReal := m ((c : Thread nD τ).loc main_arg0) (ix2 t l)
abbrev mat (l : Fin 4096) (k : Fin 1024) : EReal := m ((c : Thread nD τ).loc main_arg1) (ix2 l k)
abbrev grad (t : Fin 8192) (k : Fin 1024) : EReal := m ((c : Thread nD τ).loc main_arg2) (ix2 t k)

theorem positive (t : Fin 8192) (l : Fin 4096) : V m c main_v1 (ix2 t l) = max (pre m c t l) 0 := by
  have e : V m c main_v1 = (truncf .bf16 (maximumf (m ((c : Thread nD τ).loc main_arg0) : FVec Ideal S8192x4096 .f32)
      (broadcastInDim S8192x4096 ![] bcast_S_S8192x4096 (constant S_ .f32 0x00000000#32))) bitsLt_bf16_f32 : FVec Ideal S8192x4096 .bf16) := by
    unfold V
    simp only [hostOps0, hostOps0_1, List.flatten_cons, List.flatten_nil, List.append_nil, List.cons_append, List.nil_append]
    after_results
    rfl
  rw [e]
  pointwise

def row (n : ℕ) (r : Fin 1024) : Fin 8192 := ⟨n / 4 % 8 * 1024 + r.val, by have := r.isLt; omega⟩
def col (n : ℕ) (l : Fin 1024) : Fin 4096 := ⟨n % 4 * 1024 + l.val, by have := l.isLt; omega⟩

theorem idx0 : ∀ t : Fin cfg0.N, win0_0.index t = ![t.val / 4 % 8, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 4 % 8, t.val % 4] := (by decide +kernel : ∀ t : Fin grid0.N, _)
theorem idx3 : ∀ t : Fin cfg0.N, win0_3.index t = ![t.val / 4 % 8, t.val % 4] := (by decide +kernel : ∀ t : Fin grid0.N, _)
theorem coord : ∀ t : Fin cfg0.N, (grid0.coords t 1).val = t.val % 4 := (by decide +kernel : ∀ t : Fin grid0.N, _)

/-- The three blocks a point reads. -/
abbrev in0 (t : Fin cfg0.N) : Vec Ideal S1024x1024 .f32 := iblk m c 0 t
abbrev in1 (t : Fin cfg0.N) : Vec Ideal S4096x1024 .bf16 := iblk m c 1 t
abbrev in2 (t : Fin cfg0.N) : Vec Ideal S1024x1024 .bf16 := iblk m c 2 t

theorem blk0 (t : Fin cfg0.N) (r k : Fin 1024) : in0 m c t (ix2 r k) = grad m c (row t.val r) k := by
  blk_simp [in0, in1, in2, iblk]
  rw [V_main_arg2]
  refine congrArg _ (funext fun a => Fin.ext ?_)
  match a with
  | ⟨0, _⟩ => blk_simp [idx0]; rfl
  | ⟨1, _⟩ => blk_simp [idx0]

theorem blk1 (t : Fin cfg0.N) (l : Fin 1024) (k : Fin 1024) :
    in1 m c t (ix2 (wrow (grid0.coords t) l) k) = mat m c (col t.val l) k := by
  blk_simp [in0, in1, in2, iblk]
  rw [V_main_arg1]
  refine congrArg _ (funext fun a => Fin.ext ?_)
  match a with
  | ⟨0, _⟩ =>
    blk_simp [idx1]
    show 1024 * (grid0.coords t 1).val + l.val = t.val % 4 * 1024 + l.val
    rw [coord]
    omega
  | ⟨1, _⟩ => blk_simp [idx1]

theorem blk2 (t : Fin cfg0.N) (r l : Fin 1024) : in2 m c t (ix2 r l) = max (pre m c (row t.val r) (col t.val l)) 0 := by
  rw [← positive]
  blk_simp [in0, in1, in2, iblk]
  refine congrArg _ (funext fun a => Fin.ext ?_)
  match a with
  | ⟨0, _⟩ => blk_simp [idx2]; rfl
  | ⟨1, _⟩ => blk_simp [idx2]; rfl

/-- The gradient. -/
def DP : (⟨2, ![8192, 4096]⟩ : Shape).Idx → EReal := fun i =>
  2 * (∑ k : Fin 1024, grad m c (i 0) k * mat m c (i 1) k) * max (pre m c (i 0) (i 1)) 0

theorem out3 (t : Fin cfg0.N) (r l : Fin 1024) : outsAt0 m c t (ix2 r l) = DP m c (ix2 (row t.val r) (col t.val l)) := by
  unfold outsAt0
  refine (block c _ _ _ _ _ _ _ _ _ _ _ _ r l).trans (congrArg₂ (2 * · * ·) (Finset.sum_congr rfl fun k _ => ?_) (blk2 m c t r l))
  exact congrArg₂ (· * ·) (blk0 m c t r k) (blk1 m c t l k)

theorem final : (dats m 0 c).arrAt 3 cfg0.N = DP m c := by
  refine (dats m 0 c).arrAt_eq_of_covers 3 _ (by decide +kernel) fun t _ y => ?_
  blk_simp
  rw [after0_3, eq_ix2 y]
  refine (out3 m c t (y 0) (y 1)).trans (congrArg (DP m c) (funext fun a => Fin.ext ?_))
  match a with
  | ⟨0, _⟩ => blk_simp [idx3]; rfl
  | ⟨1, _⟩ => blk_simp [idx3]; rfl

/-- The run: the gradient, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v2) = DP m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

/-- The reference's gradient. -/
theorem reference (x0 : S8192x4096.Idx → EReal) (x1 : S4096x1024.Idx → EReal) (x2 : S8192x1024.Idx → EReal) :
    DownDxRefIdeal.Read.val_main_v13 (F := Ideal) x0 x1 x2 = fun i =>
      2 * (∑ k : Fin 1024, x2 (ix2 (i 0) k) * x1 (ix2 (i 1) k)) * max (x0 (ix2 (i 0) (i 1))) 0 := by
  open DownDxRefIdeal.Read in
  have product (i) : val_main_v7 (F := Ideal) x1 x2 i = ∑ k : Fin 1024, x2 (ix2 (i 0) k) * x1 (ix2 (i 1) k) := by
    rw [val_main_v7_apply]
    refine Finset.sum_congr rfl fun k _ => ?_
    rw [val_main_v5_apply, eq_ix2 (lidx_main_v7 i k), eq_ix2 (ridx_main_v7 i k)]
    rfl
  funext i
  open DownDxRefIdeal.Read in
  rw [val_main_v13_apply, val_main_v12_apply, val_main_v10_apply, val_main_v9_apply, val_main_v8_apply, val_main_v11_apply,
    product, val_main_v2_apply, val_main_v1_apply, val_main_v0_apply, val_main_call0_v0_apply, val_main_call0_cst_apply,
    val_main_cst_apply, val_main_cst_1_apply, ← eq_ix2 i]
  generalize ∑ k : Fin 1024, x2 (ix2 (i 0) k) * x1 (ix2 (i 1) k) = p
  generalize x0 i = x
  show Scalar.select (Ideal.cmp .ogt x (Ideal.ofBits .f32 0x00000000#32)) (max x (Ideal.ofBits .f32 0x00000000#32) * p
    + p * max x (Ideal.ofBits .f32 0x00000000#32)) (Ideal.ofBits .f32 0x00000000#32) = _
  rw [Rows.ofBits_zero]
  by_cases h : 0 < x
  · have two (q : EReal) : (2 : EReal) * q = q + q := by
      rw [← one_add_one_eq_two, EReal.right_distrib_of_nonneg zero_le_one zero_le_one, one_mul]
    rw [max_eq_left h.le, mul_assoc, two, show Ideal.cmp .ogt x 0 = 1 by simp [Ideal.cmp, h]]
    show x * p + p * x = p * x + p * x
    rw [mul_comm x p]
  · rw [max_eq_right (not_lt.mp h), mul_zero (2 * p), show Ideal.cmp .ogt x 0 = 0 by simp [Ideal.cmp, h]]
    rfl

end Cert.Proof.DownInput

end
-- ==== Proof.Runs.lean ====
/-
  A sum carried across the points of a grid whose points come in runs of `J`: the first point of a run stores its term in
  the accumulator, the points between add theirs to it, and the last adds its term to what it reads and writes the sum out.
-/
module

public import Idealize.ShloMosaic.PureOps.Ideal.Laws
public import Idealize.ShloMosaic.Lib.Pipeline.ValueKit

@[expose] public section

noncomputable section

namespace Cert.Proof.Runs

open Idealize.ShloMosaic

/-- What the last point of a run writes out is the sum of the run's terms. -/
theorem sum_of_run {N : ℕ} (J : ℕ) (hJ : 2 ≤ J) (acc out : (n : ℕ) → n < N → EReal) (term : ℕ → EReal)
    (hA : ∀ t : Fin N, t.val % J = 0 → acc t.val t.isLt = term t.val)
    (hB : ∀ t : Fin N, ¬t.val % J = 0 → ¬t.val % J = J - 1 →
      acc t.val t.isLt = acc (t.val - 1) (Nat.lt_of_le_of_lt (Nat.sub_le _ _) t.isLt) + term t.val)
    (hC : ∀ t : Fin N, t.val % J = J - 1 →
      out t.val t.isLt = acc (t.val - 1) (Nat.lt_of_le_of_lt (Nat.sub_le _ _) t.isLt) + term t.val)
    (t : Fin N) (ht : t.val % J = J - 1) :
    out t.val t.isLt = ∑ k : Fin J, term (J * (t.val / J) + k.val) := by
  have prev : ∀ t : Fin N, ¬t.val % J = 0 → ¬(t.val - 1) % J = J - 1 := by
    intro t h0 h
    have hd := Nat.div_add_mod (t.val - 1) J
    have h1 : t.val = J * ((t.val - 1) / J + 1) := by
      rw [Nat.mul_add, Nat.mul_one]
      have : t.val ≠ 0 := fun e => h0 (by rw [e]; exact Nat.zero_mod J)
      omega
    exact h0 (by rw [h1]; exact Nat.mul_mod_right _ _)
  have key := Pipeline.eq_sum_of_reset_step_of_mod
    (fun n hn => if n % J = J - 1 then out n hn else acc n hn) J 0 term
    (fun t h0 => by
      have : ¬t.val % J = J - 1 := by omega
      simp only [if_neg this, zero_add]
      exact hA t h0)
    (fun t h0 => by
      simp only [if_neg (prev t h0)]
      by_cases h : t.val % J = J - 1
      · rw [if_pos h]; exact hC t h
      · rw [if_neg h]; exact hB t h0 h) t ht
  simp only [if_pos ht, zero_add, show J - 1 + 1 = J from by omega] at key
  rw [key, Finset.sum_range]

/-- What is kept through each run, set to a term at the first run's last point and added a term at every later run's,
    is the sum of the terms so far. -/
theorem sum_of_steps {N : ℕ} (J : ℕ) (hJ : 2 ≤ J) (f : (n : ℕ) → n < N → EReal) (term : ℕ → EReal)
    (keep : ∀ t : Fin N, ¬t.val % J = J - 1 → f t.val t.isLt = f (t.val - 1) (Nat.lt_of_le_of_lt (Nat.sub_le _ _) t.isLt))
    (first : ∀ t : Fin N, t.val = J - 1 → f t.val t.isLt = term 0)
    (step : ∀ t : Fin N, t.val % J = J - 1 → J ≤ t.val →
      f t.val t.isLt = f (t.val - 1) (Nat.lt_of_le_of_lt (Nat.sub_le _ _) t.isLt) + term (t.val / J))
    (n : ℕ) (hn : J - 1 ≤ n) : ∀ h : n < N, f n h = ∑ q ∈ Finset.range ((n + 1) / J), term q := by
  induction n, hn using Nat.le_induction with
  | base =>
    intro h
    rw [show J - 1 + 1 = J by omega, Nat.div_self (by omega), Finset.sum_range_one]
    exact first ⟨J - 1, h⟩ rfl
  | succ n hn ih =>
    intro h
    have hd := Nat.succ_div (a := n + 1) (b := J)
    have hdvd : J ∣ n + 1 + 1 ↔ (n + 1) % J = J - 1 := by
      rw [Nat.dvd_iff_mod_eq_zero, Nat.add_mod, Nat.mod_eq_of_lt (show 1 < J by omega)]
      have := Nat.mod_lt (n + 1) (show 0 < J by omega)
      constructor
      · intro e
        by_contra hne
        rw [Nat.mod_eq_of_lt (by omega)] at e
        omega
      · intro e
        rw [e, show J - 1 + 1 = J by omega, Nat.mod_self]
    by_cases hm : (n + 1) % J = J - 1
    · rw [hd, if_pos (hdvd.mpr hm), Finset.sum_range_succ, ← ih (by omega)]
      exact step ⟨n + 1, h⟩ hm (by show J ≤ n + 1; omega)
    · rw [hd, if_neg fun e => hm (hdvd.mp e), Nat.add_zero ((n + 1) / J), ← ih (by omega)]
      exact keep ⟨n + 1, h⟩ hm

end Cert.Proof.Runs

end
-- ==== Proof.DownWeight.lean ====
/-
  The gradient of the second matrix of the network on each row: what the kernel accumulates over the rows' blocks, and
  the reference's, are one sum over all the rows.
-/
module

public import proofs.«01_k».proof.Proof.Runs
public import proofs.«01_k».proof.Proof.Gen.DownDwIdeal.Value
public import proofs.«01_k».proof.Proof.Gen.DownDwRefIdeal.Read
public import Idealize.ShloMosaic.Lib.Pointwise
public import Idealize.ShloMosaic.Lib.Tactic

@[expose] public section

set_option maxRecDepth 16384

noncomputable section

namespace Cert.Proof.DownWeight

open Idealize.ShloMosaic Idealize.ShloMosaic.TcCoe Idealize.ShloMosaic.Pipeline Idealize.SL.Sem Cert.DownDwIdeal Cert.DownDwIdeal.Gen

section Body

variable (c : Dev nD) (i : grid0.Coords) (a3 : Memref sig .tc .vmem S2048x1024 .bf16) (h3 : a3.IsWhole)
  (a4 : Memref sig .tc .vmem S2048x1024 .f32) (h4 : a4.IsWhole) (a5 : Memref sig .tc .vmem S1024x1024 .bf16) (h5 : a5.IsWhole)
  (a6 : Memref sig .tc .vmem S1024x1024 .f32) (h6 : a6.IsWhole)
  (x0 : Vec Ideal S2048x1024 .bf16) (x1 : Vec Ideal S2048x1024 .f32) (acc : Vec Ideal S1024x1024 .f32)
  (r l : Fin 1024)

theorem hz : (![0, 0] : Fin 2 → Nat) = fun _ => 0 := funext fun a => by fin_cases a <;> rfl

/-- The product of two blocks of rows, alone and added to the accumulator. -/
theorem product : k0_pay2 x1 x0 (ix2 r l) = ∑ k : Fin 2048, x0 (ix2 k r) * x1 (ix2 k l) := by
  unfold k0_pay2 k0_pay1
  pointwise

theorem added : k0_pay3 x1 x0 acc (ix2 r l) = acc (ix2 r l) + ∑ k : Fin 2048, x0 (ix2 k r) * x1 (ix2 k l) := by
  unfold k0_pay3 k0_pay1
  pointwise

theorem total : k0_pay4 x1 x0 acc (ix2 r l) = acc (ix2 r l) + ∑ k : Fin 2048, x0 (ix2 k r) * x1 (ix2 k l) := by
  unfold k0_pay4 k0_pay1
  pointwise

/-- The first point of a run stores its product in the accumulator, -/
theorem first (hc0 : cond0_0 i) (hc1 : ¬cond0_1 i) (hc2 : ¬cond0_2 i) :
    sout0_A_0 c i a3 h3 a4 h4 a5 h5 a6 h6 hc0 hc1 hc2 x0 x1 (ix2 r l) = ∑ k : Fin 2048, x0 (ix2 k r) * x1 (ix2 k l) := by
  unfold sout0_A_0
  rw [View.read_writes_eq_canon _ _ _ (scover0_A_0 c i a3 h3 a4 h4 a5 h5 a6 h6 hc0 hc1 hc2 x0 x1)]
  unfold kernelRun0_A
  dsimp only
  sl_unfold_words
  simp only [View.readAt_eq_ld, h3.read_unread, h4.read_unread, View.ld_unit_zero (S := S2048x1024) hz,
    View.canon_unit_zero (S := S1024x1024) hz]
  exact product x0 x1 r l

/-- a point between adds its product to it, -/
theorem next (hc0 : ¬cond0_0 i) (hc1 : cond0_1 i) (hc2 : ¬cond0_2 i) :
    sout0_B_0 c i a3 h3 a4 h4 a5 h5 a6 h6 hc0 hc1 hc2 x0 x1 acc (ix2 r l)
      = acc (ix2 r l) + ∑ k : Fin 2048, x0 (ix2 k r) * x1 (ix2 k l) := by
  unfold sout0_B_0
  rw [View.read_writes_eq_canon _ _ _ (scover0_B_0 c i a3 h3 a4 h4 a5 h5 a6 h6 hc0 hc1 hc2 x0 x1 acc)]
  unfold kernelRun0_B
  dsimp only
  sl_unfold_words
  simp only [View.readAt_eq_ld, h3.read_unread, h4.read_unread, h6.read_unread, View.ld_unit_zero (S := S2048x1024) hz,
    View.ld_unit_zero (S := S1024x1024) hz, View.canon_unit_zero (S := S1024x1024) hz]
  exact added x0 x1 acc r l

/-- and the last writes the sum out. -/
theorem last (hc0 : ¬cond0_0 i) (hc1 : ¬cond0_1 i) (hc2 : cond0_2 i) :
    out0_C_2 c i a3 h3 a4 h4 a5 h5 a6 h6 hc0 hc1 hc2 x0 x1 acc (ix2 r l)
      = acc (ix2 r l) + ∑ k : Fin 2048, x0 (ix2 k r) * x1 (ix2 k l) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  simp only [View.readAt_eq_ld, h3.read_unread, h4.read_unread, h6.read_unread, View.ld_unit_zero (S := S2048x1024) hz,
    View.ld_unit_zero (S := S1024x1024) hz, View.canon_unit_zero (S := S1024x1024) hz]
  exact total x0 x1 acc r l

end Body

variable (m : (b : Loc nD τ sig) → Buf (Elt Ideal) b) (c : Dev nD)

/-- The two arguments, entry by entry. -/
abbrev act (t : Fin 8192) (l : Fin 4096) : EReal := m ((c : Thread nD τ).loc main_arg0) (ix2 t l)
abbrev grad (t : Fin 8192) (l : Fin 1024) : EReal := m ((c : Thread nD τ).loc main_arg1) (ix2 t l)

/-- The row and the column of the arguments that a place of a point's blocks holds. -/
def row (n : ℕ) (k : Fin 2048) : Fin 8192 := ⟨n % 4 * 2048 + k.val, by have := k.isLt; omega⟩
def col (n : ℕ) (r : Fin 1024) : Fin 4096 := ⟨n / 4 % 4 * 1024 + r.val, by have := r.isLt; omega⟩

theorem idx0 : ∀ t : Fin cfg0.N, win0_0.index t = ![t.val % 4, t.val / 4 % 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4 % 4, 0] := (by decide +kernel : ∀ t : Fin grid0.N, _)

/-- The two blocks a point reads. -/
abbrev in0 (t : Fin cfg0.N) : Vec Ideal S2048x1024 .bf16 := iblk m c 0 t
abbrev in1 (t : Fin cfg0.N) : Vec Ideal S2048x1024 .f32 := iblk m c 1 t

theorem blk0 (t : Fin cfg0.N) (k : Fin 2048) (r : Fin 1024) : in0 m c t (ix2 k r) = act m c (row t.val k) (col t.val r) := by
  blk_simp [in0, in1, iblk]
  rw [V_main_arg0]
  refine congrArg _ (funext fun a => Fin.ext ?_)
  match a with
  | ⟨0, _⟩ => blk_simp [idx0]; rfl
  | ⟨1, _⟩ => blk_simp [idx0]; rfl

theorem blk1 (t : Fin cfg0.N) (k : Fin 2048) (l : Fin 1024) : in1 m c t (ix2 k l) = grad m c (row t.val k) l := by
  blk_simp [in0, in1, iblk]
  rw [V_main_arg1]
  refine congrArg _ (funext fun a => Fin.ext ?_)
  match a with
  | ⟨0, _⟩ => blk_simp [idx1]; rfl
  | ⟨1, _⟩ => blk_simp [idx1]

/-- A point's product. -/
def term (r l : Fin 1024) (n : ℕ) : EReal := ∑ k : Fin 2048, act m c (row n k) (col n r) * grad m c (row n k) l

theorem term_eq (r l : Fin 1024) (t : Fin cfg0.N) :
    ∑ k : Fin 2048, in0 m c t (ix2 k r) * in1 m c t (ix2 k l) = term m c r l t.val :=
  Finset.sum_congr rfl fun k _ => congrArg₂ (· * ·) (blk0 m c t k r) (blk1 m c t k l)

/-- The gradient: the sum over all the rows. -/
def DW : (⟨2, ![4096, 1024]⟩ : Shape).Idx → EReal := fun i => ∑ t : Fin 8192, act m c t (i 0) * grad m c t (i 1)

/-- What the last point of a run writes out. -/
theorem out2 (t : Fin cfg0.N) (ht : t.val % 4 = 3) (r l : Fin 1024) :
    (outsAt0 m c t.val t.isLt).1 (ix2 r l) = DW m c (ix2 (col t.val r) l) := by
  refine (Runs.sum_of_run 4 (by decide) (fun n hn => (outsAt0 m c n hn).2 (ix2 r l)) (fun n hn => (outsAt0 m c n hn).1 (ix2 r l))
    (term m c r l) (fun t h => ?_) (fun t h0 h1 => ?_) (fun t h => ?_) t ht).trans ?_
  · simp only [outsAt0_A m c t h (by omega) (by omega)]
    exact (first c _ _ _ _ _ _ _ _ _ _ _ r l _ _ _).trans (term_eq m c r l t)
  · simp only [outsAt0_B m c t h0 (by omega) h1]
    exact (next c _ _ _ _ _ _ _ _ _ _ _ _ r l _ _ _).trans (congrArg (_ + ·) (term_eq m c r l t))
  · simp only [outsAt0_C m c t (by omega) (by omega) h]
    exact (last c _ _ _ _ _ _ _ _ _ _ _ _ r l _ _ _).trans (congrArg (_ + ·) (term_eq m c r l t))
  · refine Eq.trans (Finset.sum_congr rfl fun k _ => ?_)
      (Fin.sum_mul_add_fin 4 2048 fun x => act m c x (col t.val r) * grad m c x l)
    have e : (4 * (t.val / 4) + k.val) % 4 = k.val := by have := k.isLt; omega
    have d : (4 * (t.val / 4) + k.val) / 4 = t.val / 4 := by have := k.isLt; omega
    refine Finset.sum_congr rfl fun x _ => ?_
    unfold row col
    simp only [e, d]

theorem final : (dats m 0 c).arrAt 2 cfg0.N = DW m c := by
  refine (dats m 0 c).arrAt_eq_of_covers 2 _ (by decide +kernel) fun t hf y => ?_
  blk_simp
  rw [after0_2, eq_ix2 y]
  refine (out2 m c t ((flush0_2 t).mp hf) (y 0) (y 1)).trans (congrArg (DW m c) (funext fun a => Fin.ext ?_))
  match a with
  | ⟨0, _⟩ => blk_simp [idx2]; rfl
  | ⟨1, _⟩ => blk_simp [idx2]

/-- The run: the gradient, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = DW m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference's gradient. -/
theorem reference (x0 : S8192x4096.Idx → EReal) (x1 : S8192x1024.Idx → EReal) :
    DownDwRefIdeal.Read.val_main_v5 (F := Ideal) x0 x1 = fun i => ∑ t : Fin 8192, x0 (ix2 t (i 0)) * x1 (ix2 t (i 1)) := by
  funext i
  rw [DownDwRefIdeal.Read.val_main_v5_apply, DownDwRefIdeal.Read.val_main_v4_apply, DownDwRefIdeal.Read.val_main_v3_apply]
  refine Finset.sum_congr rfl fun t _ => ?_
  rw [mul_comm, DownDwRefIdeal.Read.val_main_v1_apply, eq_ix2 (DownDwRefIdeal.Read.lidx_main_v3 _ t),
    eq_ix2 (DownDwRefIdeal.Read.ridx_main_v3 _ t)]
  rfl

end Cert.Proof.DownWeight

end
-- ==== Proof.UpWeight.lean ====
/-
  The gradient of the first matrix of the network on each row: what the kernel accumulates over the rows' blocks, and
  the reference's, are one sum over all the rows.
-/
module

public import proofs.«01_k».proof.Proof.Runs
public import proofs.«01_k».proof.Proof.Gen.UpDwIdeal.Value
public import proofs.«01_k».proof.Proof.Gen.UpDwRefIdeal.Read
public import Idealize.ShloMosaic.Lib.Pointwise
public import Idealize.ShloMosaic.Lib.Tactic

@[expose] public section

set_option maxRecDepth 16384

noncomputable section

namespace Cert.Proof.UpWeight

open Idealize.ShloMosaic Idealize.ShloMosaic.TcCoe Idealize.ShloMosaic.Pipeline Idealize.SL.Sem Cert.UpDwIdeal Cert.UpDwIdeal.Gen

section Body

variable (c : Dev nD) (i : grid0.Coords) (a3 : Memref sig .tc .vmem S4096x1024 .bf16) (h3 : a3.IsWhole)
  (a4 : Memref sig .tc .vmem S4096x1024 .bf16) (h4 : a4.IsWhole) (a5 : Memref sig .tc .vmem S1024x1024 .bf16) (h5 : a5.IsWhole)
  (a6 : Memref sig .tc .vmem S1024x1024 .f32) (h6 : a6.IsWhole)
  (x0 : Vec Ideal S4096x1024 .bf16) (x1 : Vec Ideal S4096x1024 .bf16) (acc : Vec Ideal S1024x1024 .f32)
  (r l : Fin 1024)

theorem hz : (![0, 0] : Fin 2 → Nat) = fun _ => 0 := funext fun a => by fin_cases a <;> rfl

/-- The product of two blocks of rows, alone and added to the accumulator. -/
theorem product : k0_pay2 x1 x0 (ix2 r l) = ∑ k : Fin 4096, x0 (ix2 k r) * x1 (ix2 k l) := by
  unfold k0_pay2 k0_pay1
  pointwise

theorem total : k0_pay4 x1 x0 acc (ix2 r l) = acc (ix2 r l) + ∑ k : Fin 4096, x0 (ix2 k r) * x1 (ix2 k l) := by
  unfold k0_pay4 k0_pay1
  pointwise

/-- The first of the two points of a run stores its product in the accumulator, -/
theorem first (hc0 : cond0_0 i) (hc1 : ¬cond0_1 i) (hc2 : ¬cond0_2 i) :
    sout0_A_0 c i a3 h3 a4 h4 a5 h5 a6 h6 hc0 hc1 hc2 x0 x1 (ix2 r l) = ∑ k : Fin 4096, x0 (ix2 k r) * x1 (ix2 k l) := by
  unfold sout0_A_0
  rw [View.read_writes_eq_canon _ _ _ (scover0_A_0 c i a3 h3 a4 h4 a5 h5 a6 h6 hc0 hc1 hc2 x0 x1)]
  unfold kernelRun0_A
  dsimp only
  sl_unfold_words
  simp only [View.readAt_eq_ld, h3.read_unread, h4.read_unread, View.ld_unit_zero (S := S4096x1024) hz,
    View.canon_unit_zero (S := S1024x1024) hz]
  exact product x0 x1 r l

/-- and the second adds its product and writes the sum out. -/
theorem last (hc0 : ¬cond0_0 i) (hc1 : ¬cond0_1 i) (hc2 : cond0_2 i) :
    out0_B_2 c i a3 h3 a4 h4 a5 h5 a6 h6 hc0 hc1 hc2 x0 x1 acc (ix2 r l)
      = acc (ix2 r l) + ∑ k : Fin 4096, x0 (ix2 k r) * x1 (ix2 k l) := by
  unfold out0_B_2
  rw [View.read_writes_eq_canon _ _ _ (cover0_B_2 c i a3 h3 a4 h4 a5 h5 a6 h6 hc0 hc1 hc2 x0 x1 acc)]
  unfold kernelRun0_B
  dsimp only
  sl_unfold_words
  simp only [View.readAt_eq_ld, h3.read_unread, h4.read_unread, h6.read_unread, View.ld_unit_zero (S := S4096x1024) hz,
    View.ld_unit_zero (S := S1024x1024) hz, View.canon_unit_zero (S := S1024x1024) hz]
  exact total x0 x1 acc r l

end Body

variable (m : (b : Loc nD τ sig) → Buf (Elt Ideal) b) (c : Dev nD)

/-- The two arguments, entry by entry. -/
abbrev act (t : Fin 8192) (l : Fin 1024) : EReal := m ((c : Thread nD τ).loc main_arg0) (ix2 t l)
abbrev grad (t : Fin 8192) (l : Fin 4096) : EReal := m ((c : Thread nD τ).loc main_arg1) (ix2 t l)

/-- The row and the column of the arguments that a place of a point's blocks holds. -/
def row (n : ℕ) (k : Fin 4096) : Fin 8192 := ⟨n % 2 * 4096 + k.val, by have := k.isLt; omega⟩
def col (n : ℕ) (l : Fin 1024) : Fin 4096 := ⟨n / 2 % 4 * 1024 + l.val, by have := l.isLt; omega⟩

theorem idx0 : ∀ t : Fin cfg0.N, win0_0.index t = ![t.val % 2, 0] := (by decide +kernel : ∀ t : Fin grid0.N, _)
theorem idx1 : ∀ t : Fin cfg0.N, win0_1.index t = ![t.val % 2, t.val / 2 % 4] := (by decide +kernel : ∀ t : Fin grid0.N, _)
theorem idx2 : ∀ t : Fin cfg0.N, win0_2.index t = ![0, t.val / 2 % 4] := (by decide +kernel : ∀ t : Fin grid0.N, _)

/-- The two blocks a point reads. -/
abbrev in0 (t : Fin cfg0.N) : Vec Ideal S4096x1024 .bf16 := iblk m c 0 t
abbrev in1 (t : Fin cfg0.N) : Vec Ideal S4096x1024 .bf16 := iblk m c 1 t

theorem blk0 (t : Fin cfg0.N) (k : Fin 4096) (r : Fin 1024) : in0 m c t (ix2 k r) = act m c (row t.val k) r := by
  blk_simp [in0, in1, iblk]
  rw [V_main_arg0]
  refine congrArg _ (funext fun a => Fin.ext ?_)
  match a with
  | ⟨0, _⟩ => blk_simp [idx0]; rfl
  | ⟨1, _⟩ => blk_simp [idx0]

theorem blk1 (t : Fin cfg0.N) (k : Fin 4096) (l : Fin 1024) : in1 m c t (ix2 k l) = grad m c (row t.val k) (col t.val l) := by
  blk_simp [in0, in1, iblk]
  rw [V_main_arg1]
  refine congrArg _ (funext fun a => Fin.ext ?_)
  match a with
  | ⟨0, _⟩ => blk_simp [idx1]; rfl
  | ⟨1, _⟩ => blk_simp [idx1]; rfl

/-- A point's product. -/
def term (r l : Fin 1024) (n : ℕ) : EReal := ∑ k : Fin 4096, act m c (row n k) r * grad m c (row n k) (col n l)

theorem term_eq (r l : Fin 1024) (t : Fin cfg0.N) :
    ∑ k : Fin 4096, in0 m c t (ix2 k r) * in1 m c t (ix2 k l) = term m c r l t.val :=
  Finset.sum_congr rfl fun k _ => congrArg₂ (· * ·) (blk0 m c t k r) (blk1 m c t k l)

/-- The gradient: the sum over all the rows. -/
def DW : (⟨2, ![1024, 4096]⟩ : Shape).Idx → EReal := fun i => ∑ t : Fin 8192, act m c t (i 0) * grad m c t (i 1)

/-- What the second point of a run writes out. -/
theorem out2 (t : Fin cfg0.N) (ht : t.val % 2 = 1) (r l : Fin 1024) :
    (outsAt0 m c t.val t.isLt).1 (ix2 r l) = DW m c (ix2 r (col t.val l)) := by
  refine (Runs.sum_of_run 2 (le_refl 2) (fun n hn => (outsAt0 m c n hn).2 (ix2 r l)) (fun n hn => (outsAt0 m c n hn).1 (ix2 r l))
    (term m c r l) (fun t h => ?_) (fun t h0 h1 => by omega) (fun t h => ?_) t ht).trans ?_
  · simp only [outsAt0_A m c t h (by omega)]
    exact (first c _ _ _ _ _ _ _ _ _ _ _ r l _ _ _).trans (term_eq m c r l t)
  · simp only [outsAt0_B m c t (by omega) h]
    exact (last c _ _ _ _ _ _ _ _ _ _ _ _ r l _ _ _).trans (congrArg (_ + ·) (term_eq m c r l t))
  · refine Eq.trans (Finset.sum_congr rfl fun k _ => ?_)
      (Fin.sum_mul_add_fin 2 4096 fun x => act m c x r * grad m c x (col t.val l))
    have e : (2 * (t.val / 2) + k.val) % 2 = k.val := by have := k.isLt; omega
    have d : (2 * (t.val / 2) + k.val) / 2 = t.val / 2 := by have := k.isLt; omega
    refine Finset.sum_congr rfl fun x _ => ?_
    unfold row col
    simp only [e, d]

theorem final : (dats m 0 c).arrAt 2 cfg0.N = DW m c := by
  refine (dats m 0 c).arrAt_eq_of_covers 2 _ (by decide +kernel) fun t hf y => ?_
  blk_simp
  rw [after0_2, eq_ix2 y]
  refine (out2 m c t ((flush0_2 t).mp hf) (y 0) (y 1)).trans (congrArg (DW m c) (funext fun a => Fin.ext ?_))
  match a with
  | ⟨0, _⟩ => blk_simp [idx2]
  | ⟨1, _⟩ => blk_simp [idx2]; rfl

/-- The run: the gradient, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = DW m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference's gradient. -/
theorem reference (x0 : S8192x1024.Idx → EReal) (x1 : S8192x4096.Idx → EReal) :
    UpDwRefIdeal.Read.val_main_v6 (F := Ideal) x0 x1 = fun i => ∑ t : Fin 8192, x0 (ix2 t (i 0)) * x1 (ix2 t (i 1)) := by
  funext i
  rw [UpDwRefIdeal.Read.val_main_v6_apply, UpDwRefIdeal.Read.val_main_v5_apply, UpDwRefIdeal.Read.val_main_v4_apply]
  refine Finset.sum_congr rfl fun t _ => ?_
  rw [mul_comm, UpDwRefIdeal.Read.val_main_v1_apply, UpDwRefIdeal.Read.val_main_v3_apply,
    eq_ix2 (UpDwRefIdeal.Read.lidx_main_v4 _ t), eq_ix2 (UpDwRefIdeal.Read.ridx_main_v4 _ t)]
  rfl

end Cert.Proof.UpWeight

end
-- ==== Proof.Norm.lean ====
/-
  The gradient of a row's root-mean-square normalisation, over the extended reals and with no condition on the row: the
  form `r (g - x r mean (g x r))`, with `r` the inverse root, and the form the chain rule gives through the inverse root,
  `g r + 2 x (-1/2 (r / v) Σ x g) / n`, are equal. On a row with an infinite entry the inverse root is zero, and so is each.
-/
module

public import proofs.«01_k».proof.Proof.Rows

@[expose] public section

noncomputable section

namespace Cert.Proof.Norm

open Idealize.ShloMosaic Cert.Proof.Rows

variable {ι : Type*} [Fintype ι]

/-- The mean of the squares plus the constant, and its inverse root. -/
def ms (n e : EReal) (x : ι → EReal) : EReal := Ideal.div (∑ i, x i * x i) n + e
def inv (n e : EReal) (x : ι → EReal) : EReal := Ideal.rsqrt (ms n e x)

/-- The gradient as one factor times a difference, -/
def direct (n e : EReal) (x g : ι → EReal) (j : ι) : EReal :=
  inv n e x * (g j - x j * inv n e x * Ideal.div (∑ i, g i * (x i * inv n e x)) n)

/-- and the coefficient the chain rule gives the row. -/
def coef (n e h : EReal) (x g : ι → EReal) : EReal :=
  Ideal.div ((∑ i, x i * g i) * (h * Ideal.div (inv n e x) (ms n e x))) n

theorem sum_squares_top (x : ι → EReal) (h : ∃ i, x i = ⊤ ∨ x i = ⊥) : ∑ i, x i * x i = ⊤ := by
  classical
  obtain ⟨i, hi⟩ := h
  have pos : ∀ j, 0 ≤ x j * x j := fun j => by
    rcases le_total 0 (x j) with h | h
    · exact mul_nonneg h h
    · rw [← neg_mul_neg]
      exact mul_nonneg (EReal.neg_nonneg.mpr h) (EReal.neg_nonneg.mpr h)
  have top : x i * x i = ⊤ := by
    rcases hi with h | h <;> rw [h] <;> rfl
  exact top_le_iff.mp (top ▸ Finset.single_le_sum (f := fun j => x j * x j) (fun j _ => pos j) (Finset.mem_univ i))

theorem real_or_infinite (x : ι → EReal) : (∃ y : ι → ℝ, ∀ i, x i = y i) ∨ ∃ i, x i = ⊤ ∨ x i = ⊥ := by
  by_cases h : ∃ i, x i = ⊤ ∨ x i = ⊥
  · exact .inr h
  · simp only [not_exists, not_or] at h
    exact .inl ⟨fun i => (x i).toReal, fun i => (EReal.coe_toReal (h i).1 (h i).2).symm⟩

variable {n e : EReal} {n' e' : ℝ} (hn : n = n') (he : e = e') (hn' : 0 < n') (he' : 0 < e')

include hn he hn' he'

/-- On a row of numbers the inverse root is a positive number `r` with `r / v = r³`; -/
theorem inv_real (x : ι → EReal) (y : ι → ℝ) (h : ∀ i, x i = y i) :
    ∃ r : ℝ, 0 < r ∧ inv n e x = r ∧ Ideal.div (inv n e x) (ms n e x) = ((r * r * r : ℝ) : EReal) := by
  have hs : ∑ i, x i * x i = ((∑ i, y i * y i : ℝ) : EReal) := by
    rw [coe_sum]; exact Finset.sum_congr rfl fun i _ => by rw [h i, EReal.coe_mul]
  have hpos : 0 < (∑ i, y i * y i) * n'⁻¹ + e' :=
    add_pos_of_nonneg_of_pos (mul_nonneg (Finset.sum_nonneg fun i _ => mul_self_nonneg _) (inv_nonneg.mpr hn'.le)) he'
  have hms : ms n e x = (((∑ i, y i * y i) * n'⁻¹ + e' : ℝ) : EReal) := by
    unfold ms; rw [hs, hn, he, div_coe _ _ hn'.ne', EReal.coe_add, EReal.coe_mul]
  generalize (∑ i, y i * y i) * n'⁻¹ + e' = v at hpos hms
  have hinv : inv n e x = (((Real.sqrt v)⁻¹ : ℝ) : EReal) := by
    unfold inv; rw [hms, Ideal.rsqrt_coe, if_neg hpos.not_gt, if_neg hpos.ne']
  refine ⟨(Real.sqrt v)⁻¹, inv_pos.mpr (Real.sqrt_pos.mpr hpos), hinv, ?_⟩
  rw [hinv, hms, div_coe _ _ hpos.ne', ← EReal.coe_mul]
  congr 1
  rw [mul_assoc (Real.sqrt v)⁻¹, ← mul_inv (Real.sqrt v) (Real.sqrt v), Real.mul_self_sqrt hpos.le]

/-- on any other it is zero, and so is its quotient by the mean. -/
theorem inv_infinite (x : ι → EReal) (h : ∃ i, x i = ⊤ ∨ x i = ⊥) :
    inv n e x = 0 ∧ Ideal.div (inv n e x) (ms n e x) = 0 := by
  have hms : ms n e x = ⊤ := by
    unfold ms
    rw [sum_squares_top x h, hn, he, div_coe _ _ hn'.ne', EReal.top_mul_coe_of_pos (inv_pos.mpr hn')]
    rfl
  have hinv : inv n e x = 0 := by unfold inv; rw [hms]; rfl
  exact ⟨hinv, by rw [hinv, hms, Ideal.div, if_neg EReal.top_ne_zero, zero_mul]⟩

/-- The two gradients, added to one number. -/
theorem direct_eq {h : EReal} (hh : h = ((-(1 / 2) : ℝ) : EReal)) (x g : ι → EReal) (b : EReal) (j : ι) :
    b + direct n e x g j = b + g j * inv n e x + x j * coef n e h x g + coef n e h x g * x j := by
  rcases real_or_infinite x with ⟨y, hy⟩ | hx
  · obtain ⟨r, hr, hinv, hdiv⟩ := inv_real hn he hn' he' x y hy
    unfold direct coef
    rw [hdiv, hinv, hh, hn, div_coe _ _ hn'.ne', div_coe _ _ hn'.ne']
    have hS : ∑ i, g i * (x i * (r : EReal)) = (∑ i, x i * g i) * (r : EReal) := by
      rw [sum_mul_coe (fun i => x i * g i) r hr.le]
      exact Finset.sum_congr rfl fun i _ => by rw [← mul_assoc, mul_comm (g i)]
    rw [hS]
    generalize ∑ i, x i * g i = S
    -- the row's part of each, as a number that is not negative times `-(x S)`
    have hd : (0 : ℝ) ≤ r * r * r * (1 / 2) * n'⁻¹ := by positivity
    have left : (r : EReal) * -(x j * r * (S * r * ((n'⁻¹ : ℝ) : EReal)))
        = -(x j * S) * ((r * r * r * (1 / 2) * n'⁻¹ + r * r * r * (1 / 2) * n'⁻¹ : ℝ) : EReal) := by
      rw [show r * r * r * (1 / 2) * n'⁻¹ + r * r * r * (1 / 2) * n'⁻¹ = r * r * r * n'⁻¹ from by ring]
      rw [mul_neg, neg_mul]
      simp only [EReal.coe_mul]
      congr 1
      ac_rfl
    have right : x j * (S * (((-(1 / 2) : ℝ) : EReal) * ((r * r * r : ℝ) : EReal)) * ((n'⁻¹ : ℝ) : EReal))
        = -(x j * S) * ((r * r * r * (1 / 2) * n'⁻¹ : ℝ) : EReal) := by
      rw [EReal.coe_neg, neg_mul, mul_neg, neg_mul, mul_neg, neg_mul]
      simp only [EReal.coe_mul]
      congr 1
      ac_rfl
    rw [mul_comm _ (x j), right, sub_eq_add_neg, EReal.left_distrib_of_nonneg_of_ne_top (by exact_mod_cast hr.le) (EReal.coe_ne_top r),
      left, EReal.coe_add, EReal.left_distrib_of_nonneg (by exact_mod_cast hd) (by exact_mod_cast hd), mul_comm (r : EReal),
      add_assoc, add_assoc]
  · obtain ⟨hinv, hdiv⟩ := inv_infinite hn he hn' he' x hx
    unfold direct coef
    rw [hdiv, hinv, hn, div_coe _ _ hn'.ne', div_coe _ _ hn'.ne']
    simp

end Cert.Proof.Norm

end
-- ==== Proof.UpInput.lean ====
/-
  The gradient of the network's input through its first layer and the norm before it: the kernel accumulates the
  product with the first matrix over the columns' blocks, takes the norm's gradient of each row in one step, and sums the
  norm weight's gradient over the rows' blocks.
-/
module

public import proofs.«01_k».proof.Proof.Runs
public import proofs.«01_k».proof.Proof.Norm
public import proofs.«01_k».proof.Proof.Gen.UpDxIdeal.Value
public import proofs.«01_k».proof.Proof.Gen.UpDxRefIdeal.Read
public import Idealize.ShloMosaic.Lib.Pointwise
public import Idealize.ShloMosaic.Lib.Tactic

@[expose] public section

set_option maxRecDepth 16384

noncomputable section

namespace Cert.Proof.UpInput

open Idealize.ShloMosaic Idealize.ShloMosaic.TcCoe Idealize.ShloMosaic.Pipeline Idealize.SL.Sem Cert.UpDxIdeal Cert.UpDxIdeal.Gen

theorem hz : (![0, 0] : Fin 2 → Nat) = fun _ => 0 := funext fun a => by fin_cases a <;> rfl

/-- A row's length and the constant of the norm. -/
abbrev len : EReal := Ideal.ofBits .f32 0x44800000#32
abbrev eps : EReal := Ideal.ofBits .f32 0x358637BD#32

section Payloads

variable (v8 v9 : Vec Ideal S1024x1024 .bf16) (v10 v22 v24 v39 : Vec Ideal S1024x1024 .f32) (v35 v60 : Vec Ideal S1x1024 .f32)
  (r j : Fin 1024)

theorem product : k0_pay1 v8 v9 (ix2 r j) = ∑ k : Fin 1024, v9 (ix2 r k) * v8 (ix2 j k) := by
  unfold k0_pay1
  pointwise

theorem stored : k0_pay2 v8 v9 (ix2 r j) = ∑ k : Fin 1024, v9 (ix2 r k) * v8 (ix2 j k) := by
  unfold k0_pay2 k0_pay1
  pointwise

theorem added : k0_pay3 v8 v9 v22 (ix2 r j) = v22 (ix2 r j) + ∑ k : Fin 1024, v9 (ix2 r k) * v8 (ix2 j k) := by
  unfold k0_pay3 k0_pay1
  pointwise

/-- The norm's gradient of a row, added to what comes along the residual. -/
theorem normed (d : Fin 1024 → EReal) (hd : ∀ l, v10 (ix2 r l) = d l) :
    k0_pay7 v10 v22 v24 v35 v39 (ix2 r j) = v39 (ix2 r j) + Norm.direct len eps (fun l => v24 (ix2 r l))
      (fun l => (v22 (ix2 r l) + d l) * v35 (ix2 0 l)) j := by
  obtain rfl : d = fun l => v10 (ix2 r l) := funext fun l => (hd l).symm
  unfold k0_pay7 k0_pay6 k0_pay5 k0_pay4
  pointwise
  rfl

/-- The norm weight's gradient over a block of rows. -/
theorem columns (d : Fin 1024 → EReal) (hd : ∀ r, v10 (ix2 r j) = d r) :
    k0_pay8 v10 v22 v24 (ix2 0 j) = ∑ r : Fin 1024, (v22 (ix2 r j) + d r) *
      (v24 (ix2 r j) * Norm.inv len eps (fun l => v24 (ix2 r l))) := by
  obtain rfl : d = fun r => v10 (ix2 r j) := funext fun l => (hd l).symm
  unfold k0_pay8 k0_pay6 k0_pay5 k0_pay4
  pointwise
  rfl

theorem columns_added (d : Fin 1024 → EReal) (hd : ∀ r, v10 (ix2 r j) = d r) :
    k0_pay9 v10 v22 v24 v60 (ix2 0 j) = v60 (ix2 0 j) + ∑ r : Fin 1024, (v22 (ix2 r j) + d r) *
      (v24 (ix2 r j) * Norm.inv len eps (fun l => v24 (ix2 r l))) := by
  rw [← columns v10 v22 v24 j d hd]
  unfold k0_pay9
  generalize k0_pay8 v10 v22 v24 = u
  pointwise

end Payloads

section Body

variable (c : Dev nD) (i : grid0.Coords) (a3 : Memref sig .tc .vmem S1024x1024 .bf16) (h3 : a3.IsWhole)
  (a4 : Memref sig .tc .vmem S1024x4096 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1x1024 .f32) (h7 : a7.IsWhole)
  (a8 : Memref sig .tc .vmem S1024x1024 .f32) (h8 : a8.IsWhole) (a9 : Memref sig .tc .vmem S1x1024 .f32) (h9 : a9.IsWhole)
  (a10 : Memref sig .tc .vmem S1024x1024 .f32) (h10 : a10.IsWhole)
  (x0 : Vec Ideal S1024x1024 .bf16) (x1 : Vec Ideal S1024x4096 .bf16) (x2 x3 : Vec Ideal S1024x1024 .f32)
  (x4 xo : Vec Ideal S1x1024 .f32) (acc : Vec Ideal S1024x1024 .f32)
  (r j : Fin 1024)

/-- The columns of the matrix that a point takes. -/
def wcol (i : grid0.Coords) (k : Fin 1024) : Fin 4096 :=
  ⟨1024 * (i 2).val + k.val, by have : (i 2).val < 4 := (i 2).isLt; have := k.isLt; omega⟩

/-- A point's load of them. -/
theorem load (l k : Fin 1024) : View.ld x1 (Rect.unit (s := S1024x4096) (k0_off1 i) S1024x1024.size (k0_off1_inb i)) (ix2 l k)
    = x1 (ix2 l (wcol i k)) := by
  refine View.ld_unit_apply_of x1 _ _ _ _ _ fun a => ?_
  refine Eq.trans ?_ (congrArg (· + _) (congrFun (k0_off1_eq i) a).symm)
  have : (i 1).val = 0 := by have : (i 1).val < 1 := (i 1).isLt; omega
  match a with
  | ⟨0, _⟩ => show l.val = 1024 * (i 1).val + l.val; omega
  | ⟨1, _⟩ => rfl

/-- A point's product. -/
def part (r l : Fin 1024) : EReal := ∑ k : Fin 1024, x0 (ix2 r k) * x1 (ix2 l (wcol i k))

theorem loaded (r l : Fin 1024) : ∑ k : Fin 1024, x0 (ix2 r k) *
    View.ld x1 (Rect.unit (s := S1024x4096) (k0_off1 i) S1024x1024.size (k0_off1_inb i)) (ix2 l k) = part i x0 x1 r l :=
  Finset.sum_congr rfl fun k _ => congrArg (_ * ·) (load i x1 l k)

/-- The first point of a run stores its product in the accumulator, -/
theorem first (hc0 : cond0_0 i) (hc1 : ¬cond0_1 i) (hc2 : ¬cond0_2 i) :
    sout0_A_0 c i a3 h3 a4 h4 a5 h5 a6 h6 a7 h7 a8 h8 a9 h9 a10 h10 hc0 hc1 hc2 x0 x1 x2 x3 x4 (ix2 r j) = part i x0 x1 r j := by
  unfold sout0_A_0
  rw [View.read_writes_eq_canon _ _ _ (scover0_A_0 c i a3 h3 a4 h4 a5 h5 a6 h6 a7 h7 a8 h8 a9 h9 a10 h10 hc0 hc1 hc2 x0 x1 x2 x3 x4)]
  unfold kernelRun0_A
  dsimp only
  sl_unfold_words
  simp only [View.readAt_eq_ld, h3.read_unread, h4.read_unread, View.ld_unit_zero (S := S1024x1024) hz,
    View.canon_unit_zero (S := S1024x1024) hz]
  exact (stored _ x0 r j).trans (loaded i x0 x1 r j)

/-- a point between adds its product to it, -/
theorem next (hc0 : ¬cond0_0 i) (hc1 : cond0_1 i) (hc2 : ¬cond0_2 i) :
    sout0_B_0 c i a3 h3 a4 h4 a5 h5 a6 h6 a7 h7 a8 h8 a9 h9 a10 h10 hc0 hc1 hc2 x0 x1 x2 x3 x4 acc (ix2 r j)
      = acc (ix2 r j) + part i x0 x1 r j := by
  unfold sout0_B_0
  rw [View.read_writes_eq_canon _ _ _ (scover0_B_0 c i a3 h3 a4 h4 a5 h5 a6 h6 a7 h7 a8 h8 a9 h9 a10 h10 hc0 hc1 hc2 x0 x1 x2 x3 x4 acc)]
  unfold kernelRun0_B
  dsimp only
  sl_unfold_words
  simp only [View.readAt_eq_ld, h3.read_unread, h4.read_unread, h10.read_unread, View.ld_unit_zero (S := S1024x1024) hz,
    View.canon_unit_zero (S := S1024x1024) hz]
  exact (added _ x0 acc r j).trans (congrArg (_ + ·) (loaded i x0 x1 r j))

/-- and the last takes the norm's gradient of the sum. -/
def result : EReal := x3 (ix2 r j) + Norm.direct len eps (fun l => x2 (ix2 r l))
  (fun l => (acc (ix2 r l) + part i x0 x1 r l) * x4 (ix2 0 l)) j

theorem last (hc0 : ¬cond0_0 i) (hc1 : ¬cond0_1 i) (hc2 : cond0_2 i) (hc3 : cond0_3 i) (hc4 : ¬cond0_4 i) :
    out0_C_5 c i a3 h3 a4 h4 a5 h5 a6 h6 a7 h7 a8 h8 a9 h9 a10 h10 hc0 hc1 hc2 hc3 hc4 x0 x1 x2 x3 x4 acc (ix2 r j)
      = result i x0 x1 x2 x3 x4 acc r j := by
  unfold out0_C_5
  rw [View.read_writes_eq_canon _ _ _ (cover0_C_5 c i a3 h3 a4 h4 a5 h5 a6 h6 a7 h7 a8 h8 a9 h9 a10 h10 hc0 hc1 hc2 hc3 hc4 x0 x1 x2 x3 x4 acc)]
  unfold kernelRun0_C
  dsimp only
  sl_unfold_words
  simp only [View.readAt_eq_ld, h3.read_unread, h4.read_unread, h5.read_unread, h6.read_unread, h7.read_unread, h10.read_unread,
    View.ld_unit_zero (S := S1024x1024) hz, View.ld_unit_zero (S := S1x1024) hz, View.canon_unit_zero (S := S1024x1024) hz]
  exact normed _ acc x2 x3 x4 r j _ fun l => (product _ x0 r l).trans (loaded i x0 x1 r l)

theorem last' (hc0 : ¬cond0_0 i) (hc1 : ¬cond0_1 i) (hc2 : cond0_2 i) (hc3 : ¬cond0_3 i) (hc4 : cond0_4 i) :
    out0_D_5 c i a3 h3 a4 h4 a5 h5 a6 h6 a7 h7 a8 h8 a9 h9 a10 h10 hc0 hc1 hc2 hc3 hc4 x0 x1 x2 x3 x4 xo acc (ix2 r j)
      = result i x0 x1 x2 x3 x4 acc r j := by
  unfold out0_D_5
  rw [View.read_writes_eq_canon _ _ _ (cover0_D_5 c i a3 h3 a4 h4 a5 h5 a6 h6 a7 h7 a8 h8 a9 h9 a10 h10 hc0 hc1 hc2 hc3 hc4 x0 x1 x2 x3 x4 xo acc)]
  unfold kernelRun0_D
  dsimp only
  sl_unfold_words
  simp only [View.readAt_eq_ld, h3.read_unread, h4.read_unread, h5.read_unread, h6.read_unread, h7.read_unread, h10.read_unread,
    View.ld_unit_zero (S := S1024x1024) hz, View.ld_unit_zero (S := S1x1024) hz, View.canon_unit_zero (S := S1024x1024) hz]
  exact normed _ acc x2 x3 x4 r j _ fun l => (product _ x0 r l).trans (loaded i x0 x1 r l)

/-- The norm weight's gradient over a point's rows, stored by the first run and added by the later ones. -/
def weight : EReal := ∑ r : Fin 1024, (acc (ix2 r j) + part i x0 x1 r j) *
  (x2 (ix2 r j) * Norm.inv len eps (fun l => x2 (ix2 r l)))

theorem weight_first (hc0 : ¬cond0_0 i) (hc1 : ¬cond0_1 i) (hc2 : cond0_2 i) (hc3 : cond0_3 i) (hc4 : ¬cond0_4 i) :
    out0_C_6 c i a3 h3 a4 h4 a5 h5 a6 h6 a7 h7 a8 h8 a9 h9 a10 h10 hc0 hc1 hc2 hc3 hc4 x0 x1 x2 x3 x4 acc (ix2 0 j)
      = weight i x0 x1 x2 acc j := by
  unfold out0_C_6
  rw [View.read_writes_eq_canon _ _ _ (cover0_C_6 c i a3 h3 a4 h4 a5 h5 a6 h6 a7 h7 a8 h8 a9 h9 a10 h10 hc0 hc1 hc2 hc3 hc4 x0 x1 x2 x3 x4 acc)]
  unfold kernelRun0_C
  dsimp only
  sl_unfold_words
  simp only [View.readAt_eq_ld, h3.read_unread, h4.read_unread, h5.read_unread, h10.read_unread,
    View.ld_unit_zero (S := S1024x1024) hz, View.canon_unit_zero (S := S1x1024) hz]
  exact columns _ acc x2 j _ fun r => (product _ x0 r j).trans (loaded i x0 x1 r j)

theorem weight_next (hc0 : ¬cond0_0 i) (hc1 : ¬cond0_1 i) (hc2 : cond0_2 i) (hc3 : ¬cond0_3 i) (hc4 : cond0_4 i) :
    out0_D_6 c i a3 h3 a4 h4 a5 h5 a6 h6 a7 h7 a8 h8 a9 h9 a10 h10 hc0 hc1 hc2 hc3 hc4 x0 x1 x2 x3 x4 xo acc (ix2 0 j)
      = xo (ix2 0 j) + weight i x0 x1 x2 acc j := by
  unfold out0_D_6
  rw [View.read_writes_eq_canon _ _ _ (cover0_D_6 c i a3 h3 a4 h4 a5 h5 a6 h6 a7 h7 a8 h8 a9 h9 a10 h10 hc0 hc1 hc2 hc3 hc4 x0 x1 x2 x3 x4 xo acc)]
  unfold kernelRun0_D
  dsimp only
  sl_unfold_words
  simp only [View.readAt_eq_ld, h3.read_unread, h4.read_unread, h5.read_unread, h9.read_unread, h10.read_unread,
    View.ld_unit_zero (S := S1024x1024) hz, View.ld_unit_zero (S := S1x1024) hz, View.canon_unit_zero (S := S1x1024) hz]
  exact columns_added _ acc x2 xo j _ fun r => (product _ x0 r j).trans (loaded i x0 x1 r j)

end Body

variable (m : (b : Loc nD τ sig) → Buf (Elt Ideal) b) (c : Dev nD)

/-- The arguments, entry by entry. -/
abbrev input (t : Fin 8192) (j : Fin 1024) : EReal := m ((c : Thread nD τ).loc main_arg0) (ix2 t j)
abbrev scale (j : Fin 1024) : EReal := m ((c : Thread nD τ).loc main_arg1) (ix1 j)
abbrev mat (j : Fin 1024) (k : Fin 4096) : EReal := m ((c : Thread nD τ).loc main_arg2) (ix2 j k)
abbrev along (t : Fin 8192) (j : Fin 1024) : EReal := m ((c : Thread nD τ).loc main_arg3) (ix2 t j)
abbrev grad (t : Fin 8192) (k : Fin 4096) : EReal := m ((c : Thread nD τ).loc main_arg4) (ix2 t k)

theorem reshaped (j : Fin 1024) : V m c main_v0 (ix2 0 j) = scale m c j := by
  have e : V m c main_v0 = (shapeCast S1x1024 (m ((c : Thread nD τ).loc main_arg1) : FVec Ideal S1024 .f32)
      shapeCasts_S1024_S1x1024 : FVec Ideal S1x1024 .f32) := by
    unfold V
    simp only [hostOps0, List.flatten_cons, List.flatten_nil, List.append_nil, List.cons_append, List.nil_append]
    after_results
    rfl
  rw [e]
  pointwise

def row (n : ℕ) (r : Fin 1024) : Fin 8192 := ⟨n / 4 % 8 * 1024 + r.val, by have := r.isLt; omega⟩
def col (n : ℕ) (k : Fin 1024) : Fin 4096 := ⟨n % 4 * 1024 + k.val, by have := k.isLt; omega⟩

theorem idx0 : ∀ t : Fin cfg0.N, win0_0.index t = ![t.val / 4 % 8, t.val % 4] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 4 % 8, 0] := (by decide +kernel : ∀ t : Fin grid0.N, _)
theorem idx3 : ∀ t : Fin cfg0.N, win0_3.index t = ![t.val / 4 % 8, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 4 % 8, 0] := (by decide +kernel : ∀ t : Fin grid0.N, _)
theorem idx6 : ∀ t : Fin cfg0.N, win0_6.index t = ![0, 0] := (by decide +kernel : ∀ t : Fin grid0.N, _)
theorem coord : ∀ t : Fin cfg0.N, (grid0.coords t 2).val = t.val % 4 := (by decide +kernel : ∀ t : Fin grid0.N, _)

/-- The blocks a point reads. -/
abbrev in0 (t : Fin cfg0.N) : Vec Ideal S1024x1024 .bf16 := iblk m c 0 t
abbrev in1 (t : Fin cfg0.N) : Vec Ideal S1024x4096 .bf16 := iblk m c 1 t
abbrev in2 (t : Fin cfg0.N) : Vec Ideal S1024x1024 .f32 := iblk m c 2 t
abbrev in3 (t : Fin cfg0.N) : Vec Ideal S1024x1024 .f32 := iblk m c 3 t
abbrev in4 (t : Fin cfg0.N) : Vec Ideal S1x1024 .f32 := iblk m c 4 t

theorem blk0 (t : Fin cfg0.N) (r k : Fin 1024) : in0 m c t (ix2 r k) = grad m c (row t.val r) (col t.val k) := by
  blk_simp [in0, iblk]
  rw [V_main_arg4]
  refine congrArg _ (funext fun a => Fin.ext ?_)
  match a with
  | ⟨0, _⟩ => blk_simp [idx0]; rfl
  | ⟨1, _⟩ => blk_simp [idx0]; rfl

theorem blk1 (t : Fin cfg0.N) (j k : Fin 1024) : in1 m c t (ix2 j (wcol (grid0.coords t) k)) = mat m c j (col t.val k) := by
  blk_simp [in1, iblk]
  rw [V_main_arg2]
  refine congrArg _ (funext fun a => Fin.ext ?_)
  match a with
  | ⟨0, _⟩ => blk_simp [idx1]
  | ⟨1, _⟩ =>
    blk_simp [idx1]
    show 1024 * (grid0.coords t 2).val + k.val = t.val % 4 * 1024 + k.val
    rw [coord]
    omega

theorem blk2 (t : Fin cfg0.N) (r j : Fin 1024) : in2 m c t (ix2 r j) = input m c (row t.val r) j := by
  blk_simp [in2, iblk]
  rw [V_main_arg0]
  refine congrArg _ (funext fun a => Fin.ext ?_)
  match a with
  | ⟨0, _⟩ => blk_simp [idx2]; rfl
  | ⟨1, _⟩ => blk_simp [idx2]

theorem blk3 (t : Fin cfg0.N) (r j : Fin 1024) : in3 m c t (ix2 r j) = along m c (row t.val r) j := by
  blk_simp [in3, iblk]
  rw [V_main_arg3]
  refine congrArg _ (funext fun a => Fin.ext ?_)
  match a with
  | ⟨0, _⟩ => blk_simp [idx3]; rfl
  | ⟨1, _⟩ => blk_simp [idx3]

theorem blk4 (t : Fin cfg0.N) (j : Fin 1024) : in4 m c t (ix2 0 j) = scale m c j := by
  rw [← reshaped]
  blk_simp [in4, iblk]
  refine congrArg _ (funext fun a => Fin.ext ?_)
  match a with
  | ⟨0, _⟩ => blk_simp [idx4]
  | ⟨1, _⟩ => blk_simp [idx4]

/-- What comes to the norm's output: the product over all the columns. -/
def dh (t : Fin 8192) (j : Fin 1024) : EReal := ∑ k : Fin 4096, grad m c t k * mat m c j k

/-- A point's product. -/
def term (r j : Fin 1024) (n : ℕ) : EReal := ∑ k : Fin 1024, grad m c (row n r) (col n k) * mat m c j (col n k)

theorem term_eq (r j : Fin 1024) (t : Fin cfg0.N) : part (grid0.coords t) (in0 m c t) (in1 m c t) r j = term m c r j t.val :=
  Finset.sum_congr rfl fun k _ => congrArg₂ (· * ·) (blk0 m c t r k) (blk1 m c t j k)

/-- What the point before left in the accumulator. -/
abbrev before (t : Fin cfg0.N) : Vec Ideal S1024x1024 .f32 :=
  (outsAt0 m c (t.val - 1) (Nat.lt_of_le_of_lt (Nat.sub_le _ _) t.isLt)).2.2

/-- The last point's sum is the whole product. -/
theorem summed (t : Fin cfg0.N) (ht : t.val % 4 = 3) (r j : Fin 1024) :
    before m c t (ix2 r j) + part (grid0.coords t) (in0 m c t) (in1 m c t) r j = dh m c (row t.val r) j := by
  rw [term_eq]
  refine (Runs.sum_of_run 4 (by decide) (fun n hn => (outsAt0 m c n hn).2.2 (ix2 r j))
    (fun n hn => (outsAt0 m c (n - 1) (Nat.lt_of_le_of_lt (Nat.sub_le _ _) hn)).2.2 (ix2 r j) + term m c r j n)
    (term m c r j) (fun t h => ?_) (fun t h0 h1 => ?_) (fun t h => rfl) t ht).trans ?_
  · simp only [outsAt0_A m c t h (by omega) (by omega)]
    exact (first c _ _ _ _ _ _ _ _ _ _ _ _ _ _ _ _ _ _ _ _ _ _ r j _ _ _).trans (term_eq m c r j t)
  · simp only [outsAt0_B m c t h0 (by omega) h1]
    exact (next c _ _ _ _ _ _ _ _ _ _ _ _ _ _ _ _ _ _ _ _ _ _ _ r j _ _ _).trans (congrArg (_ + ·) (term_eq m c r j t))
  · refine Eq.trans (Finset.sum_congr rfl fun k _ => ?_)
      (Fin.sum_mul_add_fin 4 1024 fun x => grad m c (row t.val r) x * mat m c j x)
    have e : (4 * (t.val / 4) + k.val) % 4 = k.val := by have := k.isLt; omega
    have d : (4 * (t.val / 4) + k.val) / 4 = t.val / 4 := by have := k.isLt; omega
    refine Finset.sum_congr rfl fun x _ => ?_
    unfold row col
    simp only [e, d]

/-- The input's gradient, -/
def DX : (⟨2, ![8192, 1024]⟩ : Shape).Idx → EReal := fun i => along m c (i 0) (i 1) +
  Norm.direct len eps (fun l => input m c (i 0) l) (fun l => dh m c (i 0) l * scale m c l) (i 1)

/-- and the norm weight's. -/
def GW : (⟨2, ![1, 1024]⟩ : Shape).Idx → EReal := fun i => ∑ t : Fin 8192, dh m c t (i 1) *
  (input m c t (i 1) * Norm.inv len eps (fun l => input m c t l))

theorem result_eq (t : Fin cfg0.N) (ht : t.val % 4 = 3) (r j : Fin 1024) :
    result (grid0.coords t) (in0 m c t) (in1 m c t) (in2 m c t) (in3 m c t) (in4 m c t) (before m c t) r j
      = DX m c (ix2 (row t.val r) j) := by
  unfold result DX
  simp only [summed m c t ht, blk2, blk3, blk4, ix2_0, ix2_1]

theorem out5 (t : Fin cfg0.N) (ht : t.val % 4 = 3) (r j : Fin 1024) :
    (outsAt0 m c t.val t.isLt).1 (ix2 r j) = DX m c (ix2 (row t.val r) j) := by
  by_cases h : t.val < 4
  · simp only [outsAt0_C m c t (by omega) (by omega) ht h (by omega)]
    exact (last c _ _ _ _ _ _ _ _ _ _ _ _ _ _ _ _ _ _ _ _ _ _ _ r j _ _ _ _ _).trans (result_eq m c t ht r j)
  · simp only [outsAt0_D m c t (by omega) (by omega) ht h (by omega)]
    exact (last' c _ _ _ _ _ _ _ _ _ _ _ _ _ _ _ _ _ _ _ _ _ _ _ _ r j _ _ _ _ _).trans (result_eq m c t ht r j)

theorem final5 : (dats m 0 c).arrAt 5 cfg0.N = DX m c := by
  refine (dats m 0 c).arrAt_eq_of_covers 5 _ (by decide +kernel) fun t hf y => ?_
  blk_simp
  rw [after0_5, eq_ix2 y]
  refine (out5 m c t ((flush0_5 t).mp hf) (y 0) (y 1)).trans (congrArg (DX m c) (funext fun a => Fin.ext ?_))
  match a with
  | ⟨0, _⟩ => blk_simp [idx5]; rfl
  | ⟨1, _⟩ => blk_simp [idx5]

/-- A run's part of the norm weight's gradient. -/
def rows (j : Fin 1024) (q : ℕ) : EReal := ∑ r : Fin 1024, dh m c (row (4 * q) r) j *
  (input m c (row (4 * q) r) j * Norm.inv len eps (fun l => input m c (row (4 * q) r) l))

theorem weight_eq (t : Fin cfg0.N) (ht : t.val % 4 = 3) (j : Fin 1024) :
    weight (grid0.coords t) (in0 m c t) (in1 m c t) (in2 m c t) (before m c t) j = rows m c j (t.val / 4) := by
  have e : ∀ r, row t.val r = row (4 * (t.val / 4)) r := fun r => by
    unfold row
    simp only [show 4 * (t.val / 4) / 4 = t.val / 4 by omega]
  unfold weight rows
  simp only [summed m c t ht, blk2, e]

theorem out6 (t : Fin cfg0.N) (ht : t.val % 32 = 31) (j : Fin 1024) :
    (outsAt0 m c t.val t.isLt).2.1 (ix2 0 j) = GW m c (ix2 0 j) := by
  have hN : t.val < 32 := lt_of_lt_of_eq t.isLt (show cfg0.N = 32 from N_0)
  refine (Runs.sum_of_steps 4 (by decide) (fun n hn => (outsAt0 m c n hn).2.1 (ix2 0 j)) (rows m c j)
    (fun t h => ?_) (fun t h => ?_) (fun t h h4 => ?_) t.val (by omega) t.isLt).trans ?_
  · by_cases h0 : t.val % 4 = 0
    · simp only [outsAt0_A m c t h0 (by omega) (by omega)]
      rfl
    · simp only [outsAt0_B m c t h0 (by omega) h]
      rfl
  · simp only [outsAt0_C m c t (by omega) (by omega) (by omega) (by omega) (by omega)]
    refine (weight_first c _ _ _ _ _ _ _ _ _ _ _ _ _ _ _ _ _ _ _ _ _ _ _ j _ _ _ _ _).trans
      ((weight_eq m c t (by omega) j).trans (congrArg (rows m c j) ?_))
    omega
  · simp only [outsAt0_D m c t (by omega) (by omega) h (by omega) h4]
    exact (weight_next c _ _ _ _ _ _ _ _ _ _ _ _ _ _ _ _ _ _ _ _ _ _ _ _ j _ _ _ _ _).trans
      (congrArg (_ + ·) (weight_eq m c t h j))
  · rw [show (t.val + 1) / 4 = 8 by omega, Finset.sum_range]
    refine Eq.trans (Finset.sum_congr rfl fun q _ => ?_) (Fin.sum_mul_add_fin 8 1024 fun x => dh m c x j *
      (input m c x j * Norm.inv len eps (fun l => input m c x l)))
    refine Finset.sum_congr rfl fun r _ => ?_
    unfold row
    simp only [show 4 * q.val / 4 % 8 = q.val by have := q.isLt; omega]

theorem final6 : (dats m 0 c).arrAt 6 cfg0.N = GW m c := by
  refine (dats m 0 c).arrAt_eq_of_covers 6 _ (by decide +kernel) fun t hf y => ?_
  blk_simp
  rw [after0_6, eq_ix2 y]
  refine (congrArg (fun a : Fin 1 => (outsAt0 m c t.val t.isLt).2.1 (ix2 a (y 1))) (Fin.fin_one_eq_zero (y 0))).trans
    ((out6 m c t ((flush0_6 t).mp hf) (y 1)).trans (congrArg (GW m c) (funext fun a => Fin.ext ?_)))
  match a with
  | ⟨0, _⟩ => blk_simp [idx6]; rfl
  | ⟨1, _⟩ => blk_simp [idx6]

/-- The run: the two gradients, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1_0) = DX m c
      ∧ r.2.mem ((c : Thread nD τ).loc main_v1_1) = GW m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2⟩)
    (Value.run_blocks m ρ)

section Reference

open UpDxRefIdeal.Read

variable (x0 : S8192x1024.Idx → EReal) (x1 : S1024.Idx → EReal) (x2 : S1024x4096.Idx → EReal) (x3 : S8192x1024.Idx → EReal)
  (x4 : S8192x4096.Idx → EReal)

/-- The reference's product, -/
def prod (t : Fin 8192) (j : Fin 1024) : EReal := ∑ k : Fin 4096, x4 (ix2 t k) * x2 (ix2 j k)

theorem ref_product (t : Fin 8192) (j : Fin 1024) : val_main_v19 (F := Ideal) x2 x4 (ix2 t j) = prod x2 x4 t j := by
  rw [val_main_v19_apply]
  refine Finset.sum_congr rfl fun k _ => ?_
  rw [val_main_v18_apply, val_main_v16_apply, eq_ix2 (lidx_main_v19 (ix2 t j) k), eq_ix2 (ridx_main_v19 (ix2 t j) k)]
  rfl

/-- its mean square and its inverse root, -/
theorem ref_ms (t : Fin 8192) : val_main_v6 (F := Ideal) x0 (ix2 t 0) = Norm.ms len eps fun l => x0 (ix2 t l) := by
  rw [val_main_v6_apply, val_main_v4_apply, val_main_v2_apply, val_main_v1_apply, val_main_cst_apply, val_main_v3_apply,
    val_main_cst_0_apply, val_main_v5_apply, val_main_cst_1_apply]
  show Ideal.div (Ideal.ofBits .f32 0x00000000#32 + _) _ + _ = _
  rw [Rows.ofBits_zero, zero_add]
  refine congrArg (fun s => Ideal.div s len + eps) (Finset.sum_congr rfl fun k _ => ?_)
  rw [val_main_v0_apply, eq_ix2 (idx_main_v1 _ k)]
  rfl

theorem ref_inv (t : Fin 8192) : val_main_v7 (F := Ideal) x0 (ix2 t 0) = Norm.inv len eps fun l => x0 (ix2 t l) := by
  rw [val_main_v7_apply, ref_ms]
  rfl

/-- what comes to the norm, -/
theorem ref_scaled (t : Fin 8192) (j : Fin 1024) :
    val_main_v24 (F := Ideal) x1 x2 x4 (ix2 t j) = prod x2 x4 t j * x1 (ix1 j) := by
  rw [val_main_v24_apply, ref_product, val_main_v23_apply, val_main_v13_apply, eq_ix1 (idx_main_v13 _)]
  rfl

/-- the row's sum of its products with the input, -/
theorem ref_sum (t : Fin 8192) : val_main_v28 (F := Ideal) x0 x1 x2 x4 (ix2 t 0)
    = ∑ l : Fin 1024, x0 (ix2 t l) * (prod x2 x4 t l * x1 (ix1 l)) := by
  rw [val_main_v28_apply, val_main_v27_apply, val_main_cst_5_apply]
  show Ideal.ofBits .f32 0x00000000#32 + _ = _
  rw [Rows.ofBits_zero, zero_add]
  refine Finset.sum_congr rfl fun k _ => ?_
  have e : idx_main_v27 (idx_main_v28 (ix2 t 0)) k = ix2 t k := funext fun a => Fin.ext (by
    match a with
    | ⟨0, _⟩ => show t.val * 1 + 0 = t.val; omega
    | ⟨1, _⟩ => rfl)
  rw [e, val_main_v26_apply, ref_scaled]
  rfl

/-- the coefficient of each row, -/
theorem ref_coef (t : Fin 8192) (j : Fin 1024) : val_main_v36 (F := Ideal) x0 x1 x2 x4 (ix2 t j)
    = Norm.coef len eps (Ideal.ofBits .f32 0xBF000000#32) (fun l => x0 (ix2 t l)) (fun l => prod x2 x4 t l * x1 (ix1 l)) := by
  rw [val_main_v36_apply, val_main_v35_apply, Fin.sum_univ_one, val_main_cst_7_apply, eq_ix2 (idx_main_v35 _ 0),
    val_main_v34_apply, val_main_v33_apply, val_main_cst_6_apply, val_main_v32_apply, val_main_v10_apply, val_main_v9_apply,
    val_main_cst_2_apply, val_main_v8_apply]
  show Ideal.ofBits .f32 0x00000000#32 + Ideal.div (val_main_v28 (F := Ideal) x0 x1 x2 x4 (ix2 t 0) * (_ * Ideal.div
    (val_main_v7 (F := Ideal) x0 (ix2 t 0)) (val_main_v6 (F := Ideal) x0 (ix2 t 0)))) _ = _
  rw [Rows.ofBits_zero, zero_add, ref_inv, ref_ms, ref_sum]
  rfl

/-- and its two gradients, entry by entry, -/
theorem ref_entry (t : Fin 8192) (j : Fin 1024) : val_main_v40 (F := Ideal) x0 x1 x2 x3 x4 (ix2 t j) = x3 (ix2 t j) +
    Norm.direct len eps (fun l => x0 (ix2 t l)) (fun l => prod x2 x4 t l * x1 (ix1 l)) j := by
  rw [Norm.direct_eq Rows.ofBits_thousand Rows.ofBits_small (by norm_num) (by norm_num) Rows.ofBits_neg_half,
    val_main_v40_apply, val_main_v38_apply, val_main_v39_apply, val_main_v37_apply, val_main_v31_apply, val_main_v30_apply,
    val_main_v29_apply, ref_coef, ref_scaled, eq_ix2 (idx_main_v29 _), ← ref_inv]
  rfl

theorem ref_weight (j : Fin 1024) : val_main_v41 (F := Ideal) x0 x2 x4 (ix2 0 j) = ∑ t : Fin 8192, prod x2 x4 t j *
    (x0 (ix2 t j) * Norm.inv len eps fun l => x0 (ix2 t l)) := by
  rw [val_main_v41_apply, val_main_v25_apply, Fin.sum_univ_one, val_main_cst_4_apply, val_main_v22_apply, val_main_v21_apply,
    val_main_cst_3_apply]
  show Ideal.ofBits .f32 0x00000000#32 + (Ideal.ofBits .f32 0x00000000#32 + _) = _
  rw [Rows.ofBits_zero, zero_add, zero_add]
  refine Finset.sum_congr rfl fun t _ => ?_
  have e : idx_main_v21 (idx_main_v22 (idx_main_v25 (idx_main_v41 (ix2 0 j)) 0)) t = ix2 t j := funext fun a => Fin.ext (by
    match a with
    | ⟨0, _⟩ => rfl
    | ⟨1, _⟩ => show 0 * 1024 + (0 * 1024 + j.val) = j.val; omega)
  rw [e, val_main_v20_apply, ref_product, val_main_v12_apply, val_main_v11_apply, eq_ix2 (idx_main_v11 _), ← ref_inv]
  exact mul_comm _ _

/-- and whole. -/
theorem reference : val_main_v40 (F := Ideal) x0 x1 x2 x3 x4 = fun i => x3 (ix2 (i 0) (i 1)) + Norm.direct len eps
    (fun l => x0 (ix2 (i 0) l)) (fun l => prod x2 x4 (i 0) l * x1 (ix1 l)) (i 1) :=
  funext fun i => (congrArg _ (eq_ix2 i)).trans (ref_entry x0 x1 x2 x3 x4 (i 0) (i 1))

theorem reference_weight : val_main_v41 (F := Ideal) x0 x2 x4 = fun i => ∑ t : Fin 8192, prod x2 x4 t (i 1) *
    (x0 (ix2 t (i 1)) * Norm.inv len eps fun l => x0 (ix2 t l)) :=
  funext fun i => (congrArg _ ((eq_ix2 i).trans (congrArg (fun a : Fin 1 => ix2 a (i 1)) (Fin.fin_one_eq_zero (i 0))))).trans
    (ref_weight x0 x2 x4 (i 1))

end Reference

end Cert.Proof.UpInput

end
-- ==== Proof.Mlp.lean ====
/-
  The claims about the four calls of the MLP's backward pass.

  Each reference leaves its arguments alone and has no semaphore; from agreeing arguments its results are the ones that
  the kernel's module (`DownInput`, `DownWeight`, `UpWeight`, `UpInput`) says the kernel leaves.
-/
module

public import proofs.«01_k».proof.Defs
public import proofs.«01_k».proof.Proof.DownInput
public import proofs.«01_k».proof.Proof.DownWeight
public import proofs.«01_k».proof.Proof.UpWeight
public import proofs.«01_k».proof.Proof.UpInput
public import proofs.«01_k».proof.Proof.Gen.DownDxRefIdeal.Run
public import proofs.«01_k».proof.Proof.Gen.DownDwRefIdeal.Run
public import proofs.«01_k».proof.Proof.Gen.UpDwRefIdeal.Run
public import proofs.«01_k».proof.Proof.Gen.UpDxRefIdeal.Run

@[expose] public section

set_option maxRecDepth 16384

noncomputable section

namespace Cert.Proof.Mlp

open Idealize.ShloMosaic Idealize.SL.Sem

theorem frame_down_input : Cert.quiescent_DownDxRefIdeal := fun m ρ _ =>
  (θ_run DownDxRefIdeal.defs _ _).mono (fun r h => ⟨fun c => (h c).2, sem_eq_zero_of_no_sems (by decide) r.2⟩)
    (DownDxRefIdeal.Value.run (F := Ideal) m ρ)

theorem frame_down_weight : Cert.quiescent_DownDwRefIdeal := fun m ρ _ =>
  (θ_run DownDwRefIdeal.defs _ _).mono (fun r h => ⟨fun c => (h c).2, sem_eq_zero_of_no_sems (by decide) r.2⟩)
    (DownDwRefIdeal.Value.run (F := Ideal) m ρ)

theorem frame_up_weight : Cert.quiescent_UpDwRefIdeal := fun m ρ _ =>
  (θ_run UpDwRefIdeal.defs _ _).mono (fun r h => ⟨fun c => (h c).2, sem_eq_zero_of_no_sems (by decide) r.2⟩)
    (UpDwRefIdeal.Value.run (F := Ideal) m ρ)

theorem frame_up_input : Cert.quiescent_UpDxRefIdeal := fun m ρ _ =>
  (θ_run UpDxRefIdeal.defs _ _).mono (fun r h => ⟨fun c => (h c).2.2, sem_eq_zero_of_no_sems (by decide) r.2⟩)
    (UpDxRefIdeal.Value.run (F := Ideal) m ρ)

/-- The gradient in what the ReLU takes. -/
theorem down_input : Cert.algebraic_DownDxIdeal_DownDxRefIdeal := by
  intro m ρ m' ρ' _ hagree
  refine ⟨DownInput.DP m, DownInput.run m ρ,
    (θ_run DownDxRefIdeal.defs _ _).mono (fun r h c => ?_) (DownDxRefIdeal.Value.run m' ρ')⟩
  obtain ⟨e0, e1, e2⟩ := hagree c
  refine ⟨(h c).1.trans ?_, (h c).2⟩
  rw [DownDxRefIdeal.Read.val_main_v13_eq, e0, e1, e2, DownInput.reference]
  rfl

/-- The gradient in the second matrix. -/
theorem down_weight : Cert.algebraic_DownDwIdeal_DownDwRefIdeal := by
  intro m ρ m' ρ' _ hagree
  refine ⟨DownWeight.DW m, DownWeight.run m ρ,
    (θ_run DownDwRefIdeal.defs _ _).mono (fun r h c => ?_) (DownDwRefIdeal.Value.run m' ρ')⟩
  obtain ⟨e0, e1⟩ := hagree c
  refine ⟨(h c).1.trans ?_, (h c).2⟩
  rw [DownDwRefIdeal.Read.val_main_v5_eq, e0, e1, DownWeight.reference]
  rfl

/-- The gradient in the first matrix. -/
theorem up_weight : Cert.algebraic_UpDwIdeal_UpDwRefIdeal := by
  intro m ρ m' ρ' _ hagree
  refine ⟨UpWeight.DW m, UpWeight.run m ρ,
    (θ_run UpDwRefIdeal.defs _ _).mono (fun r h c => ?_) (UpDwRefIdeal.Value.run m' ρ')⟩
  obtain ⟨e0, e1⟩ := hagree c
  refine ⟨(h c).1.trans ?_, (h c).2⟩
  rw [UpDwRefIdeal.Read.val_main_v6_eq, e0, e1, UpWeight.reference]
  rfl

/-- The gradient in the block's input, through the norm, and the norm weight's. -/
theorem up_input : Cert.algebraic_UpDxIdeal_UpDxRefIdeal := by
  intro m ρ m' ρ' _ hagree
  refine ⟨UpInput.DX m, UpInput.GW m, UpInput.run m ρ,
    (θ_run UpDxRefIdeal.defs _ _).mono (fun r h c => ?_) (UpDxRefIdeal.Value.run m' ρ')⟩
  obtain ⟨e0, e1, e2, e3, e4⟩ := hagree c
  refine ⟨(h c).1.trans ?_, (h c).2.1.trans ?_, (h c).2.2⟩
  · rw [UpDxRefIdeal.Read.val_main_v40_eq, e0, e1, e2, e3, e4, UpInput.reference]
    rfl
  · rw [UpDxRefIdeal.Read.val_main_v41_eq, e0, e2, e4, UpInput.reference_weight]
    rfl

end Cert.Proof.Mlp

end
-- ==== Proof.OutWeight.lean ====
/-
  The gradient of the matrix after the two mixers on each row: what the kernel accumulates over the rows' blocks, and
  the reference's, are one sum over all the rows.
-/
module

public import proofs.«01_k».proof.Proof.Runs
public import proofs.«01_k».proof.Proof.Gen.OutDwIdeal.Value
public import proofs.«01_k».proof.Proof.Gen.OutDwRefIdeal.Read
public import Idealize.ShloMosaic.Lib.Pointwise
public import Idealize.ShloMosaic.Lib.Tactic

@[expose] public section

set_option maxRecDepth 16384

noncomputable section

namespace Cert.Proof.OutWeight

open Idealize.ShloMosaic Idealize.ShloMosaic.TcCoe Idealize.ShloMosaic.Pipeline Idealize.SL.Sem Cert.OutDwIdeal Cert.OutDwIdeal.Gen

section Body

variable (c : Dev nD) (i : grid0.Coords) (a3 : Memref sig .tc .vmem S2048x1024 .bf16) (h3 : a3.IsWhole)
  (a4 : Memref sig .tc .vmem S2048x1024 .f32) (h4 : a4.IsWhole) (a5 : Memref sig .tc .vmem S1024x1024 .bf16) (h5 : a5.IsWhole)
  (a6 : Memref sig .tc .vmem S1024x1024 .f32) (h6 : a6.IsWhole)
  (x0 : Vec Ideal S2048x1024 .bf16) (x1 : Vec Ideal S2048x1024 .f32) (acc : Vec Ideal S1024x1024 .f32)
  (r l : Fin 1024)

theorem hz : (![0, 0] : Fin 2 → Nat) = fun _ => 0 := funext fun a => by fin_cases a <;> rfl

/-- The product of two blocks of rows, alone and added to the accumulator. -/
theorem product : k0_pay2 x1 x0 (ix2 r l) = ∑ k : Fin 2048, x0 (ix2 k r) * x1 (ix2 k l) := by
  unfold k0_pay2 k0_pay1
  pointwise

theorem added : k0_pay3 x1 x0 acc (ix2 r l) = acc (ix2 r l) + ∑ k : Fin 2048, x0 (ix2 k r) * x1 (ix2 k l) := by
  unfold k0_pay3 k0_pay1
  pointwise

theorem total : k0_pay4 x1 x0 acc (ix2 r l) = acc (ix2 r l) + ∑ k : Fin 2048, x0 (ix2 k r) * x1 (ix2 k l) := by
  unfold k0_pay4 k0_pay1
  pointwise

/-- The first point of a run stores its product in the accumulator, -/
theorem first (hc0 : cond0_0 i) (hc1 : ¬cond0_1 i) (hc2 : ¬cond0_2 i) :
    sout0_A_0 c i a3 h3 a4 h4 a5 h5 a6 h6 hc0 hc1 hc2 x0 x1 (ix2 r l) = ∑ k : Fin 2048, x0 (ix2 k r) * x1 (ix2 k l) := by
  unfold sout0_A_0
  rw [View.read_writes_eq_canon _ _ _ (scover0_A_0 c i a3 h3 a4 h4 a5 h5 a6 h6 hc0 hc1 hc2 x0 x1)]
  unfold kernelRun0_A
  dsimp only
  sl_unfold_words
  simp only [View.readAt_eq_ld, h3.read_unread, h4.read_unread, View.ld_unit_zero (S := S2048x1024) hz,
    View.canon_unit_zero (S := S1024x1024) hz]
  exact product x0 x1 r l

/-- a point between adds its product to it, -/
theorem next (hc0 : ¬cond0_0 i) (hc1 : cond0_1 i) (hc2 : ¬cond0_2 i) :
    sout0_B_0 c i a3 h3 a4 h4 a5 h5 a6 h6 hc0 hc1 hc2 x0 x1 acc (ix2 r l)
      = acc (ix2 r l) + ∑ k : Fin 2048, x0 (ix2 k r) * x1 (ix2 k l) := by
  unfold sout0_B_0
  rw [View.read_writes_eq_canon _ _ _ (scover0_B_0 c i a3 h3 a4 h4 a5 h5 a6 h6 hc0 hc1 hc2 x0 x1 acc)]
  unfold kernelRun0_B
  dsimp only
  sl_unfold_words
  simp only [View.readAt_eq_ld, h3.read_unread, h4.read_unread, h6.read_unread, View.ld_unit_zero (S := S2048x1024) hz,
    View.ld_unit_zero (S := S1024x1024) hz, View.canon_unit_zero (S := S1024x1024) hz]
  exact added x0 x1 acc r l

/-- and the last writes the sum out. -/
theorem last (hc0 : ¬cond0_0 i) (hc1 : ¬cond0_1 i) (hc2 : cond0_2 i) :
    out0_C_2 c i a3 h3 a4 h4 a5 h5 a6 h6 hc0 hc1 hc2 x0 x1 acc (ix2 r l)
      = acc (ix2 r l) + ∑ k : Fin 2048, x0 (ix2 k r) * x1 (ix2 k l) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  simp only [View.readAt_eq_ld, h3.read_unread, h4.read_unread, h6.read_unread, View.ld_unit_zero (S := S2048x1024) hz,
    View.ld_unit_zero (S := S1024x1024) hz, View.canon_unit_zero (S := S1024x1024) hz]
  exact total x0 x1 acc r l

end Body

variable (m : (b : Loc nD τ sig) → Buf (Elt Ideal) b) (c : Dev nD)

/-- The two arguments, entry by entry. -/
abbrev act (t : Fin 8192) (l : Fin 2048) : EReal := m ((c : Thread nD τ).loc main_arg0) (ix2 t l)
abbrev grad (t : Fin 8192) (l : Fin 1024) : EReal := m ((c : Thread nD τ).loc main_arg1) (ix2 t l)

/-- The row and the column of the arguments that a place of a point's blocks holds. -/
def row (n : ℕ) (k : Fin 2048) : Fin 8192 := ⟨n % 4 * 2048 + k.val, by have := k.isLt; omega⟩
def col (n : ℕ) (r : Fin 1024) : Fin 2048 := ⟨n / 4 % 2 * 1024 + r.val, by have := r.isLt; omega⟩

theorem idx0 : ∀ t : Fin cfg0.N, win0_0.index t = ![t.val % 4, t.val / 4 % 2] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4 % 2, 0] := (by decide +kernel : ∀ t : Fin grid0.N, _)

/-- The two blocks a point reads. -/
abbrev in0 (t : Fin cfg0.N) : Vec Ideal S2048x1024 .bf16 := iblk m c 0 t
abbrev in1 (t : Fin cfg0.N) : Vec Ideal S2048x1024 .f32 := iblk m c 1 t

theorem blk0 (t : Fin cfg0.N) (k : Fin 2048) (r : Fin 1024) : in0 m c t (ix2 k r) = act m c (row t.val k) (col t.val r) := by
  blk_simp [in0, in1, iblk]
  rw [V_main_arg0]
  refine congrArg _ (funext fun a => Fin.ext ?_)
  match a with
  | ⟨0, _⟩ => blk_simp [idx0]; rfl
  | ⟨1, _⟩ => blk_simp [idx0]; rfl

theorem blk1 (t : Fin cfg0.N) (k : Fin 2048) (l : Fin 1024) : in1 m c t (ix2 k l) = grad m c (row t.val k) l := by
  blk_simp [in0, in1, iblk]
  rw [V_main_arg1]
  refine congrArg _ (funext fun a => Fin.ext ?_)
  match a with
  | ⟨0, _⟩ => blk_simp [idx1]; rfl
  | ⟨1, _⟩ => blk_simp [idx1]

/-- A point's product. -/
def term (r l : Fin 1024) (n : ℕ) : EReal := ∑ k : Fin 2048, act m c (row n k) (col n r) * grad m c (row n k) l

theorem term_eq (r l : Fin 1024) (t : Fin cfg0.N) :
    ∑ k : Fin 2048, in0 m c t (ix2 k r) * in1 m c t (ix2 k l) = term m c r l t.val :=
  Finset.sum_congr rfl fun k _ => congrArg₂ (· * ·) (blk0 m c t k r) (blk1 m c t k l)

/-- The gradient: the sum over all the rows. -/
def DW : (⟨2, ![2048, 1024]⟩ : Shape).Idx → EReal := fun i => ∑ t : Fin 8192, act m c t (i 0) * grad m c t (i 1)

/-- What the last point of a run writes out. -/
theorem out2 (t : Fin cfg0.N) (ht : t.val % 4 = 3) (r l : Fin 1024) :
    (outsAt0 m c t.val t.isLt).1 (ix2 r l) = DW m c (ix2 (col t.val r) l) := by
  refine (Runs.sum_of_run 4 (by decide) (fun n hn => (outsAt0 m c n hn).2 (ix2 r l)) (fun n hn => (outsAt0 m c n hn).1 (ix2 r l))
    (term m c r l) (fun t h => ?_) (fun t h0 h1 => ?_) (fun t h => ?_) t ht).trans ?_
  · simp only [outsAt0_A m c t h (by omega) (by omega)]
    exact (first c _ _ _ _ _ _ _ _ _ _ _ r l _ _ _).trans (term_eq m c r l t)
  · simp only [outsAt0_B m c t h0 (by omega) h1]
    exact (next c _ _ _ _ _ _ _ _ _ _ _ _ r l _ _ _).trans (congrArg (_ + ·) (term_eq m c r l t))
  · simp only [outsAt0_C m c t (by omega) (by omega) h]
    exact (last c _ _ _ _ _ _ _ _ _ _ _ _ r l _ _ _).trans (congrArg (_ + ·) (term_eq m c r l t))
  · refine Eq.trans (Finset.sum_congr rfl fun k _ => ?_)
      (Fin.sum_mul_add_fin 4 2048 fun x => act m c x (col t.val r) * grad m c x l)
    have e : (4 * (t.val / 4) + k.val) % 4 = k.val := by have := k.isLt; omega
    have d : (4 * (t.val / 4) + k.val) / 4 = t.val / 4 := by have := k.isLt; omega
    refine Finset.sum_congr rfl fun x _ => ?_
    unfold row col
    simp only [e, d]

theorem final : (dats m 0 c).arrAt 2 cfg0.N = DW m c := by
  refine (dats m 0 c).arrAt_eq_of_covers 2 _ (by decide +kernel) fun t hf y => ?_
  blk_simp
  rw [after0_2, eq_ix2 y]
  refine (out2 m c t ((flush0_2 t).mp hf) (y 0) (y 1)).trans (congrArg (DW m c) (funext fun a => Fin.ext ?_))
  match a with
  | ⟨0, _⟩ => blk_simp [idx2]; rfl
  | ⟨1, _⟩ => blk_simp [idx2]

/-- The run: the gradient, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = DW m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference's gradient. -/
theorem reference (x0 : S8192x2048.Idx → EReal) (x1 : S8192x1024.Idx → EReal) :
    OutDwRefIdeal.Read.val_main_v5 (F := Ideal) x0 x1 = fun i => ∑ t : Fin 8192, x0 (ix2 t (i 0)) * x1 (ix2 t (i 1)) := by
  funext i
  rw [OutDwRefIdeal.Read.val_main_v5_apply, OutDwRefIdeal.Read.val_main_v4_apply, OutDwRefIdeal.Read.val_main_v3_apply]
  refine Finset.sum_congr rfl fun t _ => ?_
  rw [mul_comm, OutDwRefIdeal.Read.val_main_v1_apply, eq_ix2 (OutDwRefIdeal.Read.lidx_main_v3 _ t),
    eq_ix2 (OutDwRefIdeal.Read.ridx_main_v3 _ t)]
  rfl

end Cert.Proof.OutWeight

end
-- ==== Proof.AttnWeight.lean ====
/-
  The gradient of the matrix after the attention: what the kernel accumulates over the rows' blocks, and
  the reference's, are one sum over all the rows.
-/
module

public import proofs.«01_k».proof.Proof.Runs
public import proofs.«01_k».proof.Proof.Gen.WoDwIdeal.Value
public import proofs.«01_k».proof.Proof.Gen.WoDwRefIdeal.Read
public import Idealize.ShloMosaic.Lib.Pointwise
public import Idealize.ShloMosaic.Lib.Tactic

@[expose] public section

set_option maxRecDepth 16384

noncomputable section

namespace Cert.Proof.AttnWeight

open Idealize.ShloMosaic Idealize.ShloMosaic.TcCoe Idealize.ShloMosaic.Pipeline Idealize.SL.Sem Cert.WoDwIdeal Cert.WoDwIdeal.Gen

section Body

variable (c : Dev nD) (i : grid0.Coords) (a3 : Memref sig .tc .vmem S2048x1024 .bf16) (h3 : a3.IsWhole)
  (a4 : Memref sig .tc .vmem S2048x1024 .f32) (h4 : a4.IsWhole) (a5 : Memref sig .tc .vmem S1024x1024 .bf16) (h5 : a5.IsWhole)
  (a6 : Memref sig .tc .vmem S1024x1024 .f32) (h6 : a6.IsWhole)
  (x0 : Vec Ideal S2048x1024 .bf16) (x1 : Vec Ideal S2048x1024 .f32) (acc : Vec Ideal S1024x1024 .f32)
  (r l : Fin 1024)

theorem hz : (![0, 0] : Fin 2 → Nat) = fun _ => 0 := funext fun a => by fin_cases a <;> rfl

/-- The product of two blocks of rows, alone and added to the accumulator. -/
theorem product : k0_pay2 x1 x0 (ix2 r l) = ∑ k : Fin 2048, x0 (ix2 k r) * x1 (ix2 k l) := by
  unfold k0_pay2 k0_pay1
  pointwise

theorem added : k0_pay3 x1 x0 acc (ix2 r l) = acc (ix2 r l) + ∑ k : Fin 2048, x0 (ix2 k r) * x1 (ix2 k l) := by
  unfold k0_pay3 k0_pay1
  pointwise

theorem total : k0_pay4 x1 x0 acc (ix2 r l) = acc (ix2 r l) + ∑ k : Fin 2048, x0 (ix2 k r) * x1 (ix2 k l) := by
  unfold k0_pay4 k0_pay1
  pointwise

/-- The first point of a run stores its product in the accumulator, -/
theorem first (hc0 : cond0_0 i) (hc1 : ¬cond0_1 i) (hc2 : ¬cond0_2 i) :
    sout0_A_0 c i a3 h3 a4 h4 a5 h5 a6 h6 hc0 hc1 hc2 x0 x1 (ix2 r l) = ∑ k : Fin 2048, x0 (ix2 k r) * x1 (ix2 k l) := by
  unfold sout0_A_0
  rw [View.read_writes_eq_canon _ _ _ (scover0_A_0 c i a3 h3 a4 h4 a5 h5 a6 h6 hc0 hc1 hc2 x0 x1)]
  unfold kernelRun0_A
  dsimp only
  sl_unfold_words
  simp only [View.readAt_eq_ld, h3.read_unread, h4.read_unread, View.ld_unit_zero (S := S2048x1024) hz,
    View.canon_unit_zero (S := S1024x1024) hz]
  exact product x0 x1 r l

/-- a point between adds its product to it, -/
theorem next (hc0 : ¬cond0_0 i) (hc1 : cond0_1 i) (hc2 : ¬cond0_2 i) :
    sout0_B_0 c i a3 h3 a4 h4 a5 h5 a6 h6 hc0 hc1 hc2 x0 x1 acc (ix2 r l)
      = acc (ix2 r l) + ∑ k : Fin 2048, x0 (ix2 k r) * x1 (ix2 k l) := by
  unfold sout0_B_0
  rw [View.read_writes_eq_canon _ _ _ (scover0_B_0 c i a3 h3 a4 h4 a5 h5 a6 h6 hc0 hc1 hc2 x0 x1 acc)]
  unfold kernelRun0_B
  dsimp only
  sl_unfold_words
  simp only [View.readAt_eq_ld, h3.read_unread, h4.read_unread, h6.read_unread, View.ld_unit_zero (S := S2048x1024) hz,
    View.ld_unit_zero (S := S1024x1024) hz, View.canon_unit_zero (S := S1024x1024) hz]
  exact added x0 x1 acc r l

/-- and the last writes the sum out. -/
theorem last (hc0 : ¬cond0_0 i) (hc1 : ¬cond0_1 i) (hc2 : cond0_2 i) :
    out0_C_2 c i a3 h3 a4 h4 a5 h5 a6 h6 hc0 hc1 hc2 x0 x1 acc (ix2 r l)
      = acc (ix2 r l) + ∑ k : Fin 2048, x0 (ix2 k r) * x1 (ix2 k l) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  simp only [View.readAt_eq_ld, h3.read_unread, h4.read_unread, h6.read_unread, View.ld_unit_zero (S := S2048x1024) hz,
    View.ld_unit_zero (S := S1024x1024) hz, View.canon_unit_zero (S := S1024x1024) hz]
  exact total x0 x1 acc r l

end Body

variable (m : (b : Loc nD τ sig) → Buf (Elt Ideal) b) (c : Dev nD)

/-- The two arguments, entry by entry. -/
abbrev act (t : Fin 8192) (l : Fin 1024) : EReal := m ((c : Thread nD τ).loc main_arg0) (ix2 t l)
abbrev grad (t : Fin 8192) (l : Fin 1024) : EReal := m ((c : Thread nD τ).loc main_arg1) (ix2 t l)

/-- The row and the column of the arguments that a place of a point's blocks holds. -/
def row (n : ℕ) (k : Fin 2048) : Fin 8192 := ⟨n % 4 * 2048 + k.val, by have := k.isLt; omega⟩

theorem idx0 : ∀ t : Fin cfg0.N, win0_0.index t = ![t.val % 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![0, 0] := (by decide +kernel : ∀ t : Fin grid0.N, _)

/-- The two blocks a point reads. -/
abbrev in0 (t : Fin cfg0.N) : Vec Ideal S2048x1024 .bf16 := iblk m c 0 t
abbrev in1 (t : Fin cfg0.N) : Vec Ideal S2048x1024 .f32 := iblk m c 1 t

theorem blk0 (t : Fin cfg0.N) (k : Fin 2048) (r : Fin 1024) : in0 m c t (ix2 k r) = act m c (row t.val k) r := by
  blk_simp [in0, in1, iblk]
  rw [V_main_arg0]
  refine congrArg _ (funext fun a => Fin.ext ?_)
  match a with
  | ⟨0, _⟩ => blk_simp [idx0]; rfl
  | ⟨1, _⟩ => blk_simp [idx0]

theorem blk1 (t : Fin cfg0.N) (k : Fin 2048) (l : Fin 1024) : in1 m c t (ix2 k l) = grad m c (row t.val k) l := by
  blk_simp [in0, in1, iblk]
  rw [V_main_arg1]
  refine congrArg _ (funext fun a => Fin.ext ?_)
  match a with
  | ⟨0, _⟩ => blk_simp [idx1]; rfl
  | ⟨1, _⟩ => blk_simp [idx1]

/-- A point's product. -/
def term (r l : Fin 1024) (n : ℕ) : EReal := ∑ k : Fin 2048, act m c (row n k) r * grad m c (row n k) l

theorem term_eq (r l : Fin 1024) (t : Fin cfg0.N) :
    ∑ k : Fin 2048, in0 m c t (ix2 k r) * in1 m c t (ix2 k l) = term m c r l t.val :=
  Finset.sum_congr rfl fun k _ => congrArg₂ (· * ·) (blk0 m c t k r) (blk1 m c t k l)

/-- The gradient: the sum over all the rows. -/
def DW : (⟨2, ![1024, 1024]⟩ : Shape).Idx → EReal := fun i => ∑ t : Fin 8192, act m c t (i 0) * grad m c t (i 1)

/-- What the last point of a run writes out. -/
theorem out2 (t : Fin cfg0.N) (ht : t.val % 4 = 3) (r l : Fin 1024) :
    (outsAt0 m c t.val t.isLt).1 (ix2 r l) = DW m c (ix2 r l) := by
  refine (Runs.sum_of_run 4 (by decide) (fun n hn => (outsAt0 m c n hn).2 (ix2 r l)) (fun n hn => (outsAt0 m c n hn).1 (ix2 r l))
    (term m c r l) (fun t h => ?_) (fun t h0 h1 => ?_) (fun t h => ?_) t ht).trans ?_
  · simp only [outsAt0_A m c t h (by omega) (by omega)]
    exact (first c _ _ _ _ _ _ _ _ _ _ _ r l _ _ _).trans (term_eq m c r l t)
  · simp only [outsAt0_B m c t h0 (by omega) h1]
    exact (next c _ _ _ _ _ _ _ _ _ _ _ _ r l _ _ _).trans (congrArg (_ + ·) (term_eq m c r l t))
  · simp only [outsAt0_C m c t (by omega) (by omega) h]
    exact (last c _ _ _ _ _ _ _ _ _ _ _ _ r l _ _ _).trans (congrArg (_ + ·) (term_eq m c r l t))
  · refine Eq.trans (Finset.sum_congr rfl fun k _ => ?_)
      (Fin.sum_mul_add_fin 4 2048 fun x => act m c x r * grad m c x l)
    have e : (4 * (t.val / 4) + k.val) % 4 = k.val := by have := k.isLt; omega
    refine Finset.sum_congr rfl fun x _ => ?_
    unfold row
    simp only [e]

theorem final : (dats m 0 c).arrAt 2 cfg0.N = DW m c := by
  refine (dats m 0 c).arrAt_eq_of_covers 2 _ (by decide +kernel) fun t hf y => ?_
  blk_simp
  rw [after0_2, eq_ix2 y]
  refine (out2 m c t ((flush0_2 t).mp hf) (y 0) (y 1)).trans (congrArg (DW m c) (funext fun a => Fin.ext ?_))
  match a with
  | ⟨0, _⟩ => blk_simp [idx2]
  | ⟨1, _⟩ => blk_simp [idx2]

/-- The run: the gradient, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = DW m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference's gradient. -/
theorem reference (x0 : S8192x1024.Idx → EReal) (x1 : S8192x1024.Idx → EReal) :
    WoDwRefIdeal.Read.val_main_v5 (F := Ideal) x0 x1 = fun i => ∑ t : Fin 8192, x0 (ix2 t (i 0)) * x1 (ix2 t (i 1)) := by
  funext i
  rw [WoDwRefIdeal.Read.val_main_v5_apply, WoDwRefIdeal.Read.val_main_v4_apply, WoDwRefIdeal.Read.val_main_v3_apply]
  refine Finset.sum_congr rfl fun t _ => ?_
  rw [mul_comm, WoDwRefIdeal.Read.val_main_v1_apply, eq_ix2 (WoDwRefIdeal.Read.lidx_main_v3 _ t),
    eq_ix2 (WoDwRefIdeal.Read.ridx_main_v3 _ t)]
  rfl

end Cert.Proof.AttnWeight

end
-- ==== Proof.QueryWeight.lean ====
/-
  The gradient of the matrix of the queries: what the kernel accumulates over the rows' blocks, and
  the reference's, are one sum over all the rows.
-/
module

public import proofs.«01_k».proof.Proof.Runs
public import proofs.«01_k».proof.Proof.Gen.WqDwIdeal.Value
public import proofs.«01_k».proof.Proof.Gen.WqDwRefIdeal.Read
public import Idealize.ShloMosaic.Lib.Pointwise
public import Idealize.ShloMosaic.Lib.Tactic

@[expose] public section

set_option maxRecDepth 16384

noncomputable section

namespace Cert.Proof.QueryWeight

open Idealize.ShloMosaic Idealize.ShloMosaic.TcCoe Idealize.ShloMosaic.Pipeline Idealize.SL.Sem Cert.WqDwIdeal Cert.WqDwIdeal.Gen

section Body

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x0 : Vec Ideal S2048x1024 .bf16) (x1 : Vec Ideal S2048x1024 .bf16) (acc : Vec Ideal S1024x1024 .f32)
  (r l : Fin 1024)

theorem hz : (![0, 0] : Fin 2 → Nat) = fun _ => 0 := funext fun a => by fin_cases a <;> rfl

/-- The product of two blocks of rows, alone and added to the accumulator. -/
theorem product : k0_pay2 x1 x0 (ix2 r l) = ∑ k : Fin 2048, x0 (ix2 k r) * x1 (ix2 k l) := by
  unfold k0_pay2 k0_pay1
  pointwise

theorem added : k0_pay3 x1 x0 acc (ix2 r l) = acc (ix2 r l) + ∑ k : Fin 2048, x0 (ix2 k r) * x1 (ix2 k l) := by
  unfold k0_pay3 k0_pay1
  pointwise

theorem total : k0_pay4 x1 x0 acc (ix2 r l) = acc (ix2 r l) + ∑ k : Fin 2048, x0 (ix2 k r) * x1 (ix2 k l) := by
  unfold k0_pay4 k0_pay1
  pointwise

/-- The first point of a run stores its product in the accumulator, -/
theorem first (hc0 : cond0_0 i) (hc1 : ¬cond0_1 i) (hc2 : ¬cond0_2 i) :
    sout0_A_0 c i a3 h3 a4 h4 a5 h5 a6 h6 hc0 hc1 hc2 x0 x1 (ix2 r l) = ∑ k : Fin 2048, x0 (ix2 k r) * x1 (ix2 k l) := by
  unfold sout0_A_0
  rw [View.read_writes_eq_canon _ _ _ (scover0_A_0 c i a3 h3 a4 h4 a5 h5 a6 h6 hc0 hc1 hc2 x0 x1)]
  unfold kernelRun0_A
  dsimp only
  sl_unfold_words
  simp only [View.readAt_eq_ld, h3.read_unread, h4.read_unread, View.ld_unit_zero (S := S2048x1024) hz,
    View.canon_unit_zero (S := S1024x1024) hz]
  exact product x0 x1 r l

/-- a point between adds its product to it, -/
theorem next (hc0 : ¬cond0_0 i) (hc1 : cond0_1 i) (hc2 : ¬cond0_2 i) :
    sout0_B_0 c i a3 h3 a4 h4 a5 h5 a6 h6 hc0 hc1 hc2 x0 x1 acc (ix2 r l)
      = acc (ix2 r l) + ∑ k : Fin 2048, x0 (ix2 k r) * x1 (ix2 k l) := by
  unfold sout0_B_0
  rw [View.read_writes_eq_canon _ _ _ (scover0_B_0 c i a3 h3 a4 h4 a5 h5 a6 h6 hc0 hc1 hc2 x0 x1 acc)]
  unfold kernelRun0_B
  dsimp only
  sl_unfold_words
  simp only [View.readAt_eq_ld, h3.read_unread, h4.read_unread, h6.read_unread, View.ld_unit_zero (S := S2048x1024) hz,
    View.ld_unit_zero (S := S1024x1024) hz, View.canon_unit_zero (S := S1024x1024) hz]
  exact added x0 x1 acc r l

/-- and the last writes the sum out. -/
theorem last (hc0 : ¬cond0_0 i) (hc1 : ¬cond0_1 i) (hc2 : cond0_2 i) :
    out0_C_2 c i a3 h3 a4 h4 a5 h5 a6 h6 hc0 hc1 hc2 x0 x1 acc (ix2 r l)
      = acc (ix2 r l) + ∑ k : Fin 2048, x0 (ix2 k r) * x1 (ix2 k l) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  simp only [View.readAt_eq_ld, h3.read_unread, h4.read_unread, h6.read_unread, View.ld_unit_zero (S := S2048x1024) hz,
    View.ld_unit_zero (S := S1024x1024) hz, View.canon_unit_zero (S := S1024x1024) hz]
  exact total x0 x1 acc r l

end Body

variable (m : (b : Loc nD τ sig) → Buf (Elt Ideal) b) (c : Dev nD)

/-- The two arguments, entry by entry. -/
abbrev act (t : Fin 8192) (l : Fin 1024) : EReal := m ((c : Thread nD τ).loc main_arg0) (ix2 t l)
abbrev grad (t : Fin 8192) (l : Fin 1024) : EReal := m ((c : Thread nD τ).loc main_arg1) (ix2 t l)

/-- The row and the column of the arguments that a place of a point's blocks holds. -/
def row (n : ℕ) (k : Fin 2048) : Fin 8192 := ⟨n % 4 * 2048 + k.val, by have := k.isLt; omega⟩

theorem idx0 : ∀ t : Fin cfg0.N, win0_0.index t = ![t.val % 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![0, 0] := (by decide +kernel : ∀ t : Fin grid0.N, _)

/-- The two blocks a point reads. -/
abbrev in0 (t : Fin cfg0.N) : Vec Ideal S2048x1024 .bf16 := iblk m c 0 t
abbrev in1 (t : Fin cfg0.N) : Vec Ideal S2048x1024 .bf16 := iblk m c 1 t

theorem blk0 (t : Fin cfg0.N) (k : Fin 2048) (r : Fin 1024) : in0 m c t (ix2 k r) = act m c (row t.val k) r := by
  blk_simp [in0, in1, iblk]
  rw [V_main_arg0]
  refine congrArg _ (funext fun a => Fin.ext ?_)
  match a with
  | ⟨0, _⟩ => blk_simp [idx0]; rfl
  | ⟨1, _⟩ => blk_simp [idx0]

theorem blk1 (t : Fin cfg0.N) (k : Fin 2048) (l : Fin 1024) : in1 m c t (ix2 k l) = grad m c (row t.val k) l := by
  blk_simp [in0, in1, iblk]
  rw [V_main_arg1]
  refine congrArg _ (funext fun a => Fin.ext ?_)
  match a with
  | ⟨0, _⟩ => blk_simp [idx1]; rfl
  | ⟨1, _⟩ => blk_simp [idx1]

/-- A point's product. -/
def term (r l : Fin 1024) (n : ℕ) : EReal := ∑ k : Fin 2048, act m c (row n k) r * grad m c (row n k) l

theorem term_eq (r l : Fin 1024) (t : Fin cfg0.N) :
    ∑ k : Fin 2048, in0 m c t (ix2 k r) * in1 m c t (ix2 k l) = term m c r l t.val :=
  Finset.sum_congr rfl fun k _ => congrArg₂ (· * ·) (blk0 m c t k r) (blk1 m c t k l)

/-- The gradient: the sum over all the rows. -/
def DW : (⟨2, ![1024, 1024]⟩ : Shape).Idx → EReal := fun i => ∑ t : Fin 8192, act m c t (i 0) * grad m c t (i 1)

/-- What the last point of a run writes out. -/
theorem out2 (t : Fin cfg0.N) (ht : t.val % 4 = 3) (r l : Fin 1024) :
    (outsAt0 m c t.val t.isLt).1 (ix2 r l) = DW m c (ix2 r l) := by
  refine (Runs.sum_of_run 4 (by decide) (fun n hn => (outsAt0 m c n hn).2 (ix2 r l)) (fun n hn => (outsAt0 m c n hn).1 (ix2 r l))
    (term m c r l) (fun t h => ?_) (fun t h0 h1 => ?_) (fun t h => ?_) t ht).trans ?_
  · simp only [outsAt0_A m c t h (by omega) (by omega)]
    exact (first c _ _ _ _ _ _ _ _ _ _ _ r l _ _ _).trans (term_eq m c r l t)
  · simp only [outsAt0_B m c t h0 (by omega) h1]
    exact (next c _ _ _ _ _ _ _ _ _ _ _ _ r l _ _ _).trans (congrArg (_ + ·) (term_eq m c r l t))
  · simp only [outsAt0_C m c t (by omega) (by omega) h]
    exact (last c _ _ _ _ _ _ _ _ _ _ _ _ r l _ _ _).trans (congrArg (_ + ·) (term_eq m c r l t))
  · refine Eq.trans (Finset.sum_congr rfl fun k _ => ?_)
      (Fin.sum_mul_add_fin 4 2048 fun x => act m c x r * grad m c x l)
    have e : (4 * (t.val / 4) + k.val) % 4 = k.val := by have := k.isLt; omega
    refine Finset.sum_congr rfl fun x _ => ?_
    unfold row
    simp only [e]

theorem final : (dats m 0 c).arrAt 2 cfg0.N = DW m c := by
  refine (dats m 0 c).arrAt_eq_of_covers 2 _ (by decide +kernel) fun t hf y => ?_
  blk_simp
  rw [after0_2, eq_ix2 y]
  refine (out2 m c t ((flush0_2 t).mp hf) (y 0) (y 1)).trans (congrArg (DW m c) (funext fun a => Fin.ext ?_))
  match a with
  | ⟨0, _⟩ => blk_simp [idx2]
  | ⟨1, _⟩ => blk_simp [idx2]

/-- The run: the gradient, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = DW m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference's gradient. -/
theorem reference (x0 : S8192x1024.Idx → EReal) (x1 : S8192x1024.Idx → EReal) :
    WqDwRefIdeal.Read.val_main_v6 (F := Ideal) x0 x1 = fun i => ∑ t : Fin 8192, x0 (ix2 t (i 0)) * x1 (ix2 t (i 1)) := by
  funext i
  rw [WqDwRefIdeal.Read.val_main_v6_apply, WqDwRefIdeal.Read.val_main_v5_apply, WqDwRefIdeal.Read.val_main_v4_apply]
  refine Finset.sum_congr rfl fun t _ => ?_
  rw [mul_comm, WqDwRefIdeal.Read.val_main_v1_apply, WqDwRefIdeal.Read.val_main_v3_apply,
    eq_ix2 (WqDwRefIdeal.Read.lidx_main_v4 _ t), eq_ix2 (WqDwRefIdeal.Read.ridx_main_v4 _ t)]
  rfl

end Cert.Proof.QueryWeight

end
-- ==== Proof.InWeight.lean ====
/-
  The gradient of the matrix before the two mixers: what the kernel accumulates over the rows' blocks, and
  the reference's, are one sum over all the rows.
-/
module

public import proofs.«01_k».proof.Proof.Runs
public import proofs.«01_k».proof.Proof.Gen.InDwIdeal.Value
public import proofs.«01_k».proof.Proof.Gen.InDwRefIdeal.Read
public import Idealize.ShloMosaic.Lib.Pointwise
public import Idealize.ShloMosaic.Lib.Tactic

@[expose] public section

set_option maxRecDepth 16384

noncomputable section

namespace Cert.Proof.InWeight

open Idealize.ShloMosaic Idealize.ShloMosaic.TcCoe Idealize.ShloMosaic.Pipeline Idealize.SL.Sem Cert.InDwIdeal Cert.InDwIdeal.Gen

section Body

variable (c : Dev nD) (i : grid0.Coords) (a3 : Memref sig .tc .vmem S4096x1024 .bf16) (h3 : a3.IsWhole)
  (a4 : Memref sig .tc .vmem S4096x1152 .bf16) (h4 : a4.IsWhole) (a5 : Memref sig .tc .vmem S1024x1152 .bf16) (h5 : a5.IsWhole)
  (a6 : Memref sig .tc .vmem S1024x1152 .f32) (h6 : a6.IsWhole)
  (x0 : Vec Ideal S4096x1024 .bf16) (x1 : Vec Ideal S4096x1152 .bf16) (acc : Vec Ideal S1024x1152 .f32)
  (r : Fin 1024) (l : Fin 1152)

theorem hz : (![0, 0] : Fin 2 → Nat) = fun _ => 0 := funext fun a => by fin_cases a <;> rfl

/-- The product of two blocks of rows, alone and added to the accumulator. -/
theorem product : k0_pay2 x1 x0 (ix2 r l) = ∑ k : Fin 4096, x0 (ix2 k r) * x1 (ix2 k l) := by
  unfold k0_pay2 k0_pay1
  pointwise

theorem total : k0_pay4 x1 x0 acc (ix2 r l) = acc (ix2 r l) + ∑ k : Fin 4096, x0 (ix2 k r) * x1 (ix2 k l) := by
  unfold k0_pay4 k0_pay1
  pointwise

/-- The first of the two points of a run stores its product in the accumulator, -/
theorem first (hc0 : cond0_0 i) (hc1 : ¬cond0_1 i) (hc2 : ¬cond0_2 i) :
    sout0_A_0 c i a3 h3 a4 h4 a5 h5 a6 h6 hc0 hc1 hc2 x0 x1 (ix2 r l) = ∑ k : Fin 4096, x0 (ix2 k r) * x1 (ix2 k l) := by
  unfold sout0_A_0
  rw [View.read_writes_eq_canon _ _ _ (scover0_A_0 c i a3 h3 a4 h4 a5 h5 a6 h6 hc0 hc1 hc2 x0 x1)]
  unfold kernelRun0_A
  dsimp only
  sl_unfold_words
  simp only [View.readAt_eq_ld, h3.read_unread, h4.read_unread, View.ld_unit_zero (S := S4096x1024) hz, View.ld_unit_zero (S := S4096x1152) hz,
    View.canon_unit_zero (S := S1024x1152) hz]
  exact product x0 x1 r l

/-- and the second adds its product and writes the sum out. -/
theorem last (hc0 : ¬cond0_0 i) (hc1 : ¬cond0_1 i) (hc2 : cond0_2 i) :
    out0_B_2 c i a3 h3 a4 h4 a5 h5 a6 h6 hc0 hc1 hc2 x0 x1 acc (ix2 r l)
      = acc (ix2 r l) + ∑ k : Fin 4096, x0 (ix2 k r) * x1 (ix2 k l) := by
  unfold out0_B_2
  rw [View.read_writes_eq_canon _ _ _ (cover0_B_2 c i a3 h3 a4 h4 a5 h5 a6 h6 hc0 hc1 hc2 x0 x1 acc)]
  unfold kernelRun0_B
  dsimp only
  sl_unfold_words
  simp only [View.readAt_eq_ld, h3.read_unread, h4.read_unread, h6.read_unread, View.ld_unit_zero (S := S4096x1024) hz, View.ld_unit_zero (S := S4096x1152) hz,
    View.ld_unit_zero (S := S1024x1152) hz, View.canon_unit_zero (S := S1024x1152) hz]
  exact total x0 x1 acc r l

end Body

variable (m : (b : Loc nD τ sig) → Buf (Elt Ideal) b) (c : Dev nD)

/-- The two arguments, entry by entry. -/
abbrev act (t : Fin 8192) (r : Fin 1024) : EReal := m ((c : Thread nD τ).loc main_arg0) (ix2 t r)
abbrev grad (t : Fin 8192) (l : Fin 6912) : EReal := m ((c : Thread nD τ).loc main_arg1) (ix2 t l)

/-- The row and the column of the arguments that a place of a point's blocks holds. -/
def row (n : ℕ) (k : Fin 4096) : Fin 8192 := ⟨n % 2 * 4096 + k.val, by have := k.isLt; omega⟩
def col (n : ℕ) (l : Fin 1152) : Fin 6912 := ⟨n / 2 % 6 * 1152 + l.val, by have := l.isLt; omega⟩

theorem idx0 : ∀ t : Fin cfg0.N, win0_0.index t = ![t.val % 2, 0] := (by decide +kernel : ∀ t : Fin grid0.N, _)
theorem idx1 : ∀ t : Fin cfg0.N, win0_1.index t = ![t.val % 2, t.val / 2 % 6] := (by decide +kernel : ∀ t : Fin grid0.N, _)
theorem idx2 : ∀ t : Fin cfg0.N, win0_2.index t = ![0, t.val / 2 % 6] := (by decide +kernel : ∀ t : Fin grid0.N, _)

/-- The two blocks a point reads. -/
abbrev in0 (t : Fin cfg0.N) : Vec Ideal S4096x1024 .bf16 := iblk m c 0 t
abbrev in1 (t : Fin cfg0.N) : Vec Ideal S4096x1152 .bf16 := iblk m c 1 t

theorem blk0 (t : Fin cfg0.N) (k : Fin 4096) (r : Fin 1024) : in0 m c t (ix2 k r) = act m c (row t.val k) r := by
  blk_simp [in0, in1, iblk]
  rw [V_main_arg0]
  refine congrArg _ (funext fun a => Fin.ext ?_)
  match a with
  | ⟨0, _⟩ => blk_simp [idx0]; rfl
  | ⟨1, _⟩ => blk_simp [idx0]

theorem blk1 (t : Fin cfg0.N) (k : Fin 4096) (l : Fin 1152) : in1 m c t (ix2 k l) = grad m c (row t.val k) (col t.val l) := by
  blk_simp [in0, in1, iblk]
  rw [V_main_arg1]
  refine congrArg _ (funext fun a => Fin.ext ?_)
  match a with
  | ⟨0, _⟩ => blk_simp [idx1]; rfl
  | ⟨1, _⟩ => blk_simp [idx1]; rfl

/-- A point's product. -/
def term (r : Fin 1024) (l : Fin 1152) (n : ℕ) : EReal := ∑ k : Fin 4096, act m c (row n k) r * grad m c (row n k) (col n l)

theorem term_eq (r : Fin 1024) (l : Fin 1152) (t : Fin cfg0.N) :
    ∑ k : Fin 4096, in0 m c t (ix2 k r) * in1 m c t (ix2 k l) = term m c r l t.val :=
  Finset.sum_congr rfl fun k _ => congrArg₂ (· * ·) (blk0 m c t k r) (blk1 m c t k l)

/-- The gradient: the sum over all the rows. -/
def DW : (⟨2, ![1024, 6912]⟩ : Shape).Idx → EReal := fun i => ∑ t : Fin 8192, act m c t (i 0) * grad m c t (i 1)

/-- What the second point of a run writes out. -/
theorem out2 (t : Fin cfg0.N) (ht : t.val % 2 = 1) (r : Fin 1024) (l : Fin 1152) :
    (outsAt0 m c t.val t.isLt).1 (ix2 r l) = DW m c (ix2 r (col t.val l)) := by
  refine (Runs.sum_of_run 2 (le_refl 2) (fun n hn => (outsAt0 m c n hn).2 (ix2 r l)) (fun n hn => (outsAt0 m c n hn).1 (ix2 r l))
    (term m c r l) (fun t h => ?_) (fun t h0 h1 => by omega) (fun t h => ?_) t ht).trans ?_
  · simp only [outsAt0_A m c t h (by omega)]
    exact (first c _ _ _ _ _ _ _ _ _ _ _ r l _ _ _).trans (term_eq m c r l t)
  · simp only [outsAt0_B m c t (by omega) h]
    exact (last c _ _ _ _ _ _ _ _ _ _ _ _ r l _ _ _).trans (congrArg (_ + ·) (term_eq m c r l t))
  · refine Eq.trans (Finset.sum_congr rfl fun k _ => ?_)
      (Fin.sum_mul_add_fin 2 4096 fun x => act m c x r * grad m c x (col t.val l))
    have e : (2 * (t.val / 2) + k.val) % 2 = k.val := by have := k.isLt; omega
    have d : (2 * (t.val / 2) + k.val) / 2 = t.val / 2 := by have := k.isLt; omega
    refine Finset.sum_congr rfl fun x _ => ?_
    unfold row col
    simp only [e, d]

theorem final : (dats m 0 c).arrAt 2 cfg0.N = DW m c := by
  refine (dats m 0 c).arrAt_eq_of_covers 2 _ (by decide +kernel) fun t hf y => ?_
  blk_simp
  rw [after0_2, eq_ix2 y]
  refine (out2 m c t ((flush0_2 t).mp hf) (y 0) (y 1)).trans (congrArg (DW m c) (funext fun a => Fin.ext ?_))
  match a with
  | ⟨0, _⟩ => blk_simp [idx2]
  | ⟨1, _⟩ => blk_simp [idx2]; rfl

/-- The run: the gradient, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = DW m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference's gradient. -/
theorem reference (x0 : S8192x1024.Idx → EReal) (x1 : S8192x6912.Idx → EReal) :
    InDwRefIdeal.Read.val_main_v6 (F := Ideal) x0 x1 = fun i => ∑ t : Fin 8192, x0 (ix2 t (i 0)) * x1 (ix2 t (i 1)) := by
  funext i
  rw [InDwRefIdeal.Read.val_main_v6_apply, InDwRefIdeal.Read.val_main_v5_apply, InDwRefIdeal.Read.val_main_v4_apply]
  refine Finset.sum_congr rfl fun t _ => ?_
  rw [mul_comm, InDwRefIdeal.Read.val_main_v1_apply, InDwRefIdeal.Read.val_main_v3_apply,
    eq_ix2 (InDwRefIdeal.Read.lidx_main_v4 _ t), eq_ix2 (InDwRefIdeal.Read.ridx_main_v4 _ t)]
  rfl

end Cert.Proof.InWeight

end
-- ==== Proof.Weights.lean ====
/-
  The claims about the calls that take a weight's gradient in the mixers and the cross-attention: a product summed over all
  the tokens. Each reference leaves its arguments alone and has no semaphore; from agreeing arguments its result is the
  one that the kernel's module says the kernel leaves.
-/
module

public import proofs.«01_k».proof.Defs
public import proofs.«01_k».proof.Proof.OutWeight
public import proofs.«01_k».proof.Proof.AttnWeight
public import proofs.«01_k».proof.Proof.QueryWeight
public import proofs.«01_k».proof.Proof.InWeight
public import proofs.«01_k».proof.Proof.Gen.OutDwRefIdeal.Run
public import proofs.«01_k».proof.Proof.Gen.WoDwRefIdeal.Run
public import proofs.«01_k».proof.Proof.Gen.WqDwRefIdeal.Run
public import proofs.«01_k».proof.Proof.Gen.InDwRefIdeal.Run

@[expose] public section

set_option maxRecDepth 16384

noncomputable section

namespace Cert.Proof.Weights

open Idealize.ShloMosaic Idealize.SL.Sem

theorem frame_out_weight : Cert.quiescent_OutDwRefIdeal := fun m ρ _ =>
  (θ_run OutDwRefIdeal.defs _ _).mono (fun r h => ⟨fun c => (h c).2, sem_eq_zero_of_no_sems (by decide) r.2⟩)
    (OutDwRefIdeal.Value.run (F := Ideal) m ρ)

theorem frame_attn_weight : Cert.quiescent_WoDwRefIdeal := fun m ρ _ =>
  (θ_run WoDwRefIdeal.defs _ _).mono (fun r h => ⟨fun c => (h c).2, sem_eq_zero_of_no_sems (by decide) r.2⟩)
    (WoDwRefIdeal.Value.run (F := Ideal) m ρ)

theorem frame_query_weight : Cert.quiescent_WqDwRefIdeal := fun m ρ _ =>
  (θ_run WqDwRefIdeal.defs _ _).mono (fun r h => ⟨fun c => (h c).2, sem_eq_zero_of_no_sems (by decide) r.2⟩)
    (WqDwRefIdeal.Value.run (F := Ideal) m ρ)

theorem frame_in_weight : Cert.quiescent_InDwRefIdeal := fun m ρ _ =>
  (θ_run InDwRefIdeal.defs _ _).mono (fun r h => ⟨fun c => (h c).2, sem_eq_zero_of_no_sems (by decide) r.2⟩)
    (InDwRefIdeal.Value.run (F := Ideal) m ρ)

/-- The gradient in the mixers' output matrix. -/
theorem out_weight : Cert.algebraic_OutDwIdeal_OutDwRefIdeal := by
  intro m ρ m' ρ' _ hagree
  refine ⟨OutWeight.DW m, OutWeight.run m ρ,
    (θ_run OutDwRefIdeal.defs _ _).mono (fun r h c => ?_) (OutDwRefIdeal.Value.run m' ρ')⟩
  obtain ⟨e0, e1⟩ := hagree c
  refine ⟨(h c).1.trans ?_, (h c).2⟩
  rw [OutDwRefIdeal.Read.val_main_v5_eq, e0, e1, OutWeight.reference]
  rfl

/-- The gradient in the cross-attention's output matrix. -/
theorem attn_weight : Cert.algebraic_WoDwIdeal_WoDwRefIdeal := by
  intro m ρ m' ρ' _ hagree
  refine ⟨AttnWeight.DW m, AttnWeight.run m ρ,
    (θ_run WoDwRefIdeal.defs _ _).mono (fun r h c => ?_) (WoDwRefIdeal.Value.run m' ρ')⟩
  obtain ⟨e0, e1⟩ := hagree c
  refine ⟨(h c).1.trans ?_, (h c).2⟩
  rw [WoDwRefIdeal.Read.val_main_v5_eq, e0, e1, AttnWeight.reference]
  rfl

/-- The gradient in the cross-attention's query matrix. -/
theorem query_weight : Cert.algebraic_WqDwIdeal_WqDwRefIdeal := by
  intro m ρ m' ρ' _ hagree
  refine ⟨QueryWeight.DW m, QueryWeight.run m ρ,
    (θ_run WqDwRefIdeal.defs _ _).mono (fun r h c => ?_) (WqDwRefIdeal.Value.run m' ρ')⟩
  obtain ⟨e0, e1⟩ := hagree c
  refine ⟨(h c).1.trans ?_, (h c).2⟩
  rw [WqDwRefIdeal.Read.val_main_v6_eq, e0, e1, QueryWeight.reference]
  rfl

/-- The gradient in the mixers' input matrix. -/
theorem in_weight : Cert.algebraic_InDwIdeal_InDwRefIdeal := by
  intro m ρ m' ρ' _ hagree
  refine ⟨InWeight.DW m, InWeight.run m ρ,
    (θ_run InDwRefIdeal.defs _ _).mono (fun r h c => ?_) (InDwRefIdeal.Value.run m' ρ')⟩
  obtain ⟨e0, e1⟩ := hagree c
  refine ⟨(h c).1.trans ?_, (h c).2⟩
  rw [InDwRefIdeal.Read.val_main_v6_eq, e0, e1, InWeight.reference]
  rfl

end Cert.Proof.Weights

end
-- ==== Proof.AttnInput.lean ====
/-
  The gradient of what the attention puts out: the kernel's product with the transposed matrix block by block, and the reference's, are one product.
-/
module

public import proofs.«01_k».proof.Proof.Gen.WoDxIdeal.Value
public import proofs.«01_k».proof.Proof.Gen.WoDxRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.AttnInput

open Idealize.ShloMosaic Idealize.ShloMosaic.TcCoe Idealize.ShloMosaic.Pipeline Idealize.SL.Sem Cert.WoDxIdeal Cert.WoDxIdeal.Gen

theorem hz : (![0, 0] : Fin 2 → Nat) = fun _ => 0 := funext fun a => by fin_cases a <;> rfl

/-- What a point leaves in its block. -/
theorem block (x0 : Vec Ideal S1024x1024 .f32) (x1 : Vec Ideal S1024x1024 .bf16) (r l : Fin 1024) :
    out0_2 x0 x1 (ix2 r l) = ∑ k : Fin 1024, x0 (ix2 r k) * x1 (ix2 l k) := by
  unfold out0_2
  simp only [View.ld_unit_zero (S := S1024x1024) hz, View.canon_unit_zero (S := S1024x1024) hz]
  unfold k0_pay1
  pointwise

variable (m : (b : Loc nD τ sig) → Buf (Elt Ideal) b) (c : Dev nD)

/-- The two arguments, entry by entry. -/
abbrev input (t : Fin 8192) (k : Fin 1024) : EReal := m ((c : Thread nD τ).loc main_arg1) (ix2 t k)
abbrev mat (l k : Fin 1024) : EReal := m ((c : Thread nD τ).loc main_arg0) (ix2 l k)

def row (n : ℕ) (r : Fin 1024) : Fin 8192 := ⟨n % 8 * 1024 + r.val, by have := r.isLt; omega⟩

theorem idx0 : ∀ t : Fin cfg0.N, win0_0.index t = ![t.val % 8, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 8, 0] := (by decide +kernel : ∀ t : Fin grid0.N, _)

abbrev in0 (t : Fin cfg0.N) : Vec Ideal S1024x1024 .f32 := iblk m c 0 t
abbrev in1 (t : Fin cfg0.N) : Vec Ideal S1024x1024 .bf16 := iblk m c 1 t

theorem blk0 (t : Fin cfg0.N) (r k : Fin 1024) : in0 m c t (ix2 r k) = input m c (row t.val r) k := by
  blk_simp [in0, in1, iblk]
  rw [V_main_arg1]
  refine congrArg _ (funext fun a => Fin.ext ?_)
  match a with
  | ⟨0, _⟩ => blk_simp [idx0]; rfl
  | ⟨1, _⟩ => blk_simp [idx0]

theorem blk1 (t : Fin cfg0.N) (l k : Fin 1024) : in1 m c t (ix2 l k) = mat m c l k := by
  blk_simp [in0, in1, iblk]
  rw [V_main_arg0]
  refine congrArg _ (funext fun a => Fin.ext ?_)
  match a with
  | ⟨0, _⟩ => blk_simp [idx1]
  | ⟨1, _⟩ => blk_simp [idx1]

/-- The product. -/
def Q : (⟨2, ![8192, 1024]⟩ : Shape).Idx → EReal := fun i => ∑ k : Fin 1024, input m c (i 0) k * mat m c (i 1) k

theorem final : (dats m 0 c).arrAt 2 cfg0.N = Q m c := by
  refine (dats m 0 c).arrAt_eq_of_covers 2 _ (by decide +kernel) fun t _ y => ?_
  blk_simp
  rw [after0_2, eq_ix2 y]
  refine ((block (in0 m c t) (in1 m c t) (y 0) (y 1)).trans (Finset.sum_congr rfl fun k _ =>
    congrArg₂ (· * ·) (blk0 m c t (y 0) k) (blk1 m c t (y 1) k))).trans
    (congrArg (Q m c) (funext fun a => Fin.ext ?_ : ix2 (row t.val (y 0)) (y 1) = _))
  match a with
  | ⟨0, _⟩ => blk_simp [idx2]; rfl
  | ⟨1, _⟩ => blk_simp [idx2]

/-- The run: the product, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = Q m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference's product. -/
theorem reference (x0 : S1024x1024.Idx → EReal) (x1 : S8192x1024.Idx → EReal) :
    WoDxRefIdeal.Read.val_main_v4 (F := Ideal) x0 x1 = fun i => ∑ k : Fin 1024, x1 (ix2 (i 0) k) * x0 (ix2 (i 1) k) := by
  funext i
  rw [WoDxRefIdeal.Read.val_main_v4_apply, WoDxRefIdeal.Read.val_main_v3_apply]
  refine Finset.sum_congr rfl fun k _ => ?_
  rw [WoDxRefIdeal.Read.val_main_v1_apply, eq_ix2 (WoDxRefIdeal.Read.lidx_main_v3 i k),
    eq_ix2 (WoDxRefIdeal.Read.ridx_main_v3 i k)]
  rfl

end Cert.Proof.AttnInput

end
-- ==== Proof.QueryInput.lean ====
/-
  The gradient of the cross-attention's input through its query matrix and the norm before it: each point of the kernel
  takes a block of rows' product with the matrix and the norm's gradient of each row in one step, and adds its part of the
  norm weight's gradient, summed over the rows' blocks.
-/
module

public import proofs.«01_k».proof.Proof.Norm
public import proofs.«01_k».proof.Proof.Gen.WqDxIdeal.Value
public import proofs.«01_k».proof.Proof.Gen.WqDxRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.QueryInput

open Idealize.ShloMosaic Idealize.ShloMosaic.TcCoe Idealize.ShloMosaic.Pipeline Idealize.SL.Sem Cert.WqDxIdeal Cert.WqDxIdeal.Gen

theorem hz : (![0, 0] : Fin 2 → Nat) = fun _ => 0 := funext fun a => by fin_cases a <;> rfl

/-- A row's length and the constant of the norm. -/
abbrev len : EReal := Ideal.ofBits .f32 0x44800000#32
abbrev eps : EReal := Ideal.ofBits .f32 0x358637BD#32

section Payloads

variable (v1 : Vec Ideal S1024x1024 .bf16) (v2 : Vec Ideal S512x1024 .bf16) (v4 v19 : Vec Ideal S512x1024 .f32)
  (v15 v40 : Vec Ideal S1x1024 .f32) (r : Fin 512) (j : Fin 1024)

/-- A point's product. -/
def part (r : Fin 512) (l : Fin 1024) : EReal := ∑ k : Fin 1024, v2 (ix2 r k) * v1 (ix2 l k)

theorem product : k0_pay2 v1 v2 (ix2 r j) = part v1 v2 r j := by
  unfold k0_pay2
  pointwise
  rfl

/-- The norm's gradient of a row, added to what comes along the residual. -/
def result : EReal := v19 (ix2 r j) + Norm.direct len eps (fun l => v4 (ix2 r l)) (fun l => part v1 v2 r l * v15 (ix2 0 l)) j

theorem normed : k0_pay5 v1 v2 v4 v15 v19 (ix2 r j) = result v1 v2 v4 v19 v15 r j := by
  unfold result
  simp only [← product]
  unfold k0_pay5 k0_pay4 k0_pay3
  generalize k0_pay2 v1 v2 = u
  pointwise
  rfl

/-- The norm weight's gradient over a block of rows. -/
def weight : EReal := ∑ r : Fin 512, part v1 v2 r j * (v4 (ix2 r j) * Norm.inv len eps (fun l => v4 (ix2 r l)))

theorem columns : k0_pay6 v1 v2 v4 (ix2 0 j) = weight v1 v2 v4 j := by
  unfold weight
  simp only [← product]
  unfold k0_pay6 k0_pay4 k0_pay3
  generalize k0_pay2 v1 v2 = u
  pointwise
  rfl

theorem columns_added : k0_pay1 (k0_pay6 v1 v2 v4) v40 (ix2 0 j) = v40 (ix2 0 j) + weight v1 v2 v4 j := by
  rw [← columns]
  unfold k0_pay1
  generalize k0_pay6 v1 v2 v4 = u
  pointwise

end Payloads

section Body

variable (c : Dev nD) (i : grid0.Coords) (a3 : Memref sig .tc .vmem S512x1024 .bf16) (h3 : a3.IsWhole)
  (a4 : Memref sig .tc .vmem S1024x1024 .bf16) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (a8 : Memref sig .tc .vmem S512x1024 .f32) (h8 : a8.IsWhole) (a9 : Memref sig .tc .vmem S1x1024 .f32) (h9 : a9.IsWhole)
  (x0 : Vec Ideal S512x1024 .bf16) (x1 : Vec Ideal S1024x1024 .bf16) (x2 x3 : Vec Ideal S512x1024 .f32)
  (x4 xo : Vec Ideal S1x1024 .f32) (r : Fin 512) (j : Fin 1024)

/-- The first point's rows, and a later point's. -/
theorem first (hc0 : cond0_0 i) (hc1 : ¬cond0_1 i) :
    out0_A_5 c i a3 h3 a4 h4 a5 h5 a6 h6 a7 h7 a8 h8 a9 h9 hc0 hc1 x0 x1 x2 x3 x4 (ix2 r j) = result x1 x0 x2 x3 x4 r j := by
  unfold out0_A_5
  rw [View.read_writes_eq_canon _ _ _ (cover0_A_5 c i a3 h3 a4 h4 a5 h5 a6 h6 a7 h7 a8 h8 a9 h9 hc0 hc1 x0 x1 x2 x3 x4)]
  unfold kernelRun0_A
  dsimp only
  sl_unfold_words
  simp only [View.readAt_eq_ld, h3.read_unread, h4.read_unread, h5.read_unread, h6.read_unread, h7.read_unread,
    View.ld_unit_zero (S := S512x1024) hz, View.ld_unit_zero (S := S1024x1024) hz, View.ld_unit_zero (S := S1x1024) hz,
    View.canon_unit_zero (S := S512x1024) hz]
  exact normed x1 x0 x2 x3 x4 r j

theorem later (hc0 : ¬cond0_0 i) (hc1 : cond0_1 i) :
    out0_B_5 c i a3 h3 a4 h4 a5 h5 a6 h6 a7 h7 a8 h8 a9 h9 hc0 hc1 x0 x1 x2 x3 x4 xo (ix2 r j) = result x1 x0 x2 x3 x4 r j := by
  unfold out0_B_5
  rw [View.read_writes_eq_canon _ _ _ (cover0_B_5 c i a3 h3 a4 h4 a5 h5 a6 h6 a7 h7 a8 h8 a9 h9 hc0 hc1 x0 x1 x2 x3 x4 xo)]
  unfold kernelRun0_B
  dsimp only
  sl_unfold_words
  simp only [View.readAt_eq_ld, h3.read_unread, h4.read_unread, h5.read_unread, h6.read_unread, h7.read_unread,
    View.ld_unit_zero (S := S512x1024) hz, View.ld_unit_zero (S := S1024x1024) hz, View.ld_unit_zero (S := S1x1024) hz,
    View.canon_unit_zero (S := S512x1024) hz]
  exact normed x1 x0 x2 x3 x4 r j

/-- The first point's part of the norm weight's gradient, and a later point's, added. -/
theorem weight_first (hc0 : cond0_0 i) (hc1 : ¬cond0_1 i) :
    out0_A_6 c i a3 h3 a4 h4 a5 h5 a6 h6 a7 h7 a8 h8 a9 h9 hc0 hc1 x0 x1 x2 x3 x4 (ix2 0 j) = weight x1 x0 x2 j := by
  unfold out0_A_6
  rw [View.read_writes_eq_canon _ _ _ (cover0_A_6 c i a3 h3 a4 h4 a5 h5 a6 h6 a7 h7 a8 h8 a9 h9 hc0 hc1 x0 x1 x2 x3 x4)]
  unfold kernelRun0_A
  dsimp only
  sl_unfold_words
  simp only [View.readAt_eq_ld, h3.read_unread, h4.read_unread, h5.read_unread,
    View.ld_unit_zero (S := S512x1024) hz, View.ld_unit_zero (S := S1024x1024) hz, View.canon_unit_zero (S := S1x1024) hz]
  exact columns x1 x0 x2 j

theorem weight_later (hc0 : ¬cond0_0 i) (hc1 : cond0_1 i) :
    out0_B_6 c i a3 h3 a4 h4 a5 h5 a6 h6 a7 h7 a8 h8 a9 h9 hc0 hc1 x0 x1 x2 x3 x4 xo (ix2 0 j)
      = xo (ix2 0 j) + weight x1 x0 x2 j := by
  unfold out0_B_6
  rw [View.read_writes_eq_canon _ _ _ (cover0_B_6 c i a3 h3 a4 h4 a5 h5 a6 h6 a7 h7 a8 h8 a9 h9 hc0 hc1 x0 x1 x2 x3 x4 xo)]
  unfold kernelRun0_B
  dsimp only
  sl_unfold_words
  simp only [View.readAt_eq_ld, h3.read_unread, h4.read_unread, h5.read_unread, h9.read_unread,
    View.ld_unit_zero (S := S512x1024) hz, View.ld_unit_zero (S := S1024x1024) hz, View.ld_unit_zero (S := S1x1024) hz,
    View.canon_unit_zero (S := S1x1024) hz]
  exact columns_added x1 x0 x2 xo j

end Body

variable (m : (b : Loc nD τ sig) → Buf (Elt Ideal) b) (c : Dev nD)

/-- The arguments, entry by entry. -/
abbrev input (t : Fin 8192) (j : Fin 1024) : EReal := m ((c : Thread nD τ).loc main_arg0) (ix2 t j)
abbrev scale (j : Fin 1024) : EReal := m ((c : Thread nD τ).loc main_arg1) (ix1 j)
abbrev mat (j k : Fin 1024) : EReal := m ((c : Thread nD τ).loc main_arg2) (ix2 j k)
abbrev along (t : Fin 8192) (j : Fin 1024) : EReal := m ((c : Thread nD τ).loc main_arg3) (ix2 t j)
abbrev grad (t : Fin 8192) (k : Fin 1024) : EReal := m ((c : Thread nD τ).loc main_arg4) (ix2 t k)

theorem reshaped (j : Fin 1024) : V m c main_v0 (ix2 0 j) = scale m c j := by
  have e : V m c main_v0 = (shapeCast S1x1024 (m ((c : Thread nD τ).loc main_arg1) : FVec Ideal S1024 .f32)
      shapeCasts_S1024_S1x1024 : FVec Ideal S1x1024 .f32) := by
    unfold V
    simp only [hostOps0, List.flatten_cons, List.flatten_nil, List.append_nil, List.cons_append, List.nil_append]
    after_results
    rfl
  rw [e]
  pointwise

def row (n : ℕ) (r : Fin 512) : Fin 8192 := ⟨n % 16 * 512 + r.val, by have := r.isLt; omega⟩

theorem idx0 : ∀ t : Fin cfg0.N, win0_0.index t = ![t.val % 16, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 16, 0] := (by decide +kernel : ∀ t : Fin grid0.N, _)
theorem idx3 : ∀ t : Fin cfg0.N, win0_3.index t = ![t.val % 16, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val % 16, 0] := (by decide +kernel : ∀ t : Fin grid0.N, _)
theorem idx6 : ∀ t : Fin cfg0.N, win0_6.index t = ![0, 0] := (by decide +kernel : ∀ t : Fin grid0.N, _)

/-- The blocks a point reads. -/
abbrev in0 (t : Fin cfg0.N) : Vec Ideal S512x1024 .bf16 := iblk m c 0 t
abbrev in1 (t : Fin cfg0.N) : Vec Ideal S1024x1024 .bf16 := iblk m c 1 t
abbrev in2 (t : Fin cfg0.N) : Vec Ideal S512x1024 .f32 := iblk m c 2 t
abbrev in3 (t : Fin cfg0.N) : Vec Ideal S512x1024 .f32 := iblk m c 3 t
abbrev in4 (t : Fin cfg0.N) : Vec Ideal S1x1024 .f32 := iblk m c 4 t

theorem blk0 (t : Fin cfg0.N) (r : Fin 512) (k : Fin 1024) : in0 m c t (ix2 r k) = grad m c (row t.val r) k := by
  blk_simp [in0, iblk]
  rw [V_main_arg4]
  refine congrArg _ (funext fun a => Fin.ext ?_)
  match a with
  | ⟨0, _⟩ => blk_simp [idx0]; rfl
  | ⟨1, _⟩ => blk_simp [idx0]

theorem blk1 (t : Fin cfg0.N) (j k : Fin 1024) : in1 m c t (ix2 j k) = mat m c j k := by
  blk_simp [in1, iblk]
  rw [V_main_arg2]
  refine congrArg _ (funext fun a => Fin.ext ?_)
  match a with
  | ⟨0, _⟩ => blk_simp [idx1]
  | ⟨1, _⟩ => blk_simp [idx1]

theorem blk2 (t : Fin cfg0.N) (r : Fin 512) (j : Fin 1024) : in2 m c t (ix2 r j) = input m c (row t.val r) j := by
  blk_simp [in2, iblk]
  rw [V_main_arg0]
  refine congrArg _ (funext fun a => Fin.ext ?_)
  match a with
  | ⟨0, _⟩ => blk_simp [idx2]; rfl
  | ⟨1, _⟩ => blk_simp [idx2]

theorem blk3 (t : Fin cfg0.N) (r : Fin 512) (j : Fin 1024) : in3 m c t (ix2 r j) = along m c (row t.val r) j := by
  blk_simp [in3, iblk]
  rw [V_main_arg3]
  refine congrArg _ (funext fun a => Fin.ext ?_)
  match a with
  | ⟨0, _⟩ => blk_simp [idx3]; rfl
  | ⟨1, _⟩ => blk_simp [idx3]

theorem blk4 (t : Fin cfg0.N) (j : Fin 1024) : in4 m c t (ix2 0 j) = scale m c j := by
  rw [← reshaped]
  blk_simp [in4, iblk]
  refine congrArg _ (funext fun a => Fin.ext ?_)
  match a with
  | ⟨0, _⟩ => blk_simp [idx4]
  | ⟨1, _⟩ => blk_simp [idx4]

/-- What comes to the norm's output. -/
def dh (t : Fin 8192) (j : Fin 1024) : EReal := ∑ k : Fin 1024, grad m c t k * mat m c j k

theorem part_eq (t : Fin cfg0.N) (r : Fin 512) (j : Fin 1024) : part (in1 m c t) (in0 m c t) r j = dh m c (row t.val r) j :=
  Finset.sum_congr rfl fun k _ => congrArg₂ (· * ·) (blk0 m c t r k) (blk1 m c t j k)

/-- The input's gradient, -/
def DX : (⟨2, ![8192, 1024]⟩ : Shape).Idx → EReal := fun i => along m c (i 0) (i 1) +
  Norm.direct len eps (fun l => input m c (i 0) l) (fun l => dh m c (i 0) l * scale m c l) (i 1)

/-- and the norm weight's. -/
def GW : (⟨2, ![1, 1024]⟩ : Shape).Idx → EReal := fun i => ∑ t : Fin 8192, dh m c t (i 1) *
  (input m c t (i 1) * Norm.inv len eps (fun l => input m c t l))

theorem result_eq (t : Fin cfg0.N) (r : Fin 512) (j : Fin 1024) :
    result (in1 m c t) (in0 m c t) (in2 m c t) (in3 m c t) (in4 m c t) r j = DX m c (ix2 (row t.val r) j) := by
  unfold result DX
  simp only [part_eq m c t, blk2, blk3, blk4, ix2_0, ix2_1]

theorem out5 (t : Fin cfg0.N) (r : Fin 512) (j : Fin 1024) :
    (outsAt0 m c t.val t.isLt).1 (ix2 r j) = DX m c (ix2 (row t.val r) j) := by
  have hN : t.val < 16 := lt_of_lt_of_eq t.isLt (show cfg0.N = 16 from N_0)
  by_cases h : t.val = 0
  · simp only [outsAt0_A m c t (by omega) (by omega)]
    exact (first c _ _ _ _ _ _ _ _ _ _ _ _ _ _ _ _ _ _ _ _ r j _ _).trans (result_eq m c t r j)
  · simp only [outsAt0_B m c t (by omega) (by omega)]
    exact (later c _ _ _ _ _ _ _ _ _ _ _ _ _ _ _ _ _ _ _ _ _ r j _ _).trans (result_eq m c t r j)

theorem final5 : (dats m 0 c).arrAt 5 cfg0.N = DX m c := by
  refine (dats m 0 c).arrAt_eq_of_covers 5 _ (by decide +kernel) fun t _ y => ?_
  blk_simp
  rw [after0_5, eq_ix2 y]
  refine (out5 m c t (y 0) (y 1)).trans (congrArg (DX m c) (funext fun a => Fin.ext ?_))
  match a with
  | ⟨0, _⟩ => blk_simp [idx5]; rfl
  | ⟨1, _⟩ => blk_simp [idx5]

/-- A point's part of the norm weight's gradient. -/
def rows (j : Fin 1024) (q : ℕ) : EReal := ∑ r : Fin 512, dh m c (row q r) j *
  (input m c (row q r) j * Norm.inv len eps (fun l => input m c (row q r) l))

theorem weight_eq (t : Fin cfg0.N) (j : Fin 1024) : weight (in1 m c t) (in0 m c t) (in2 m c t) j = rows m c j t.val := by
  unfold weight rows
  simp only [part_eq m c t, blk2]

theorem sums (j : Fin 1024) (n : ℕ) : ∀ hn : n < cfg0.N, (outsAt0 m c n hn).2 (ix2 0 j) = ∑ q ∈ Finset.range (n + 1), rows m c j q := by
  induction n with
  | zero =>
    intro hn
    rw [Finset.sum_range_one]
    simp only [outsAt0_A m c ⟨0, hn⟩ (Nat.zero_mod _) (by simp)]
    exact (weight_first c _ _ _ _ _ _ _ _ _ _ _ _ _ _ _ _ _ _ _ _ j _ _).trans (weight_eq m c ⟨0, hn⟩ j)
  | succ n ih =>
    intro hn
    have hN : n + 1 < 16 := lt_of_lt_of_eq hn (show cfg0.N = 16 from N_0)
    rw [Finset.sum_range_succ, ← ih (by omega)]
    refine Eq.trans ?_ (congrArg ((outsAt0 m c n (by omega)).2 (ix2 0 j) + ·) (weight_eq m c ⟨n + 1, hn⟩ j))
    simp only [outsAt0_B m c ⟨n + 1, hn⟩ (by show ¬(n + 1) % 16 = 0; omega) (by show 1 ≤ n + 1; omega)]
    exact weight_later c _ _ _ _ _ _ _ _ _ _ _ _ _ _ _ _ _ _ _ _ _ j _ _

theorem out6 (t : Fin cfg0.N) (ht : t.val % 16 = 15) (j : Fin 1024) :
    (outsAt0 m c t.val t.isLt).2 (ix2 0 j) = GW m c (ix2 0 j) := by
  have hN : t.val < 16 := lt_of_lt_of_eq t.isLt (show cfg0.N = 16 from N_0)
  rw [sums, show t.val + 1 = 16 by omega, Finset.sum_range]
  refine Eq.trans (Finset.sum_congr rfl fun q _ => ?_) (Fin.sum_mul_add_fin 16 512 fun x => dh m c x j *
    (input m c x j * Norm.inv len eps (fun l => input m c x l)))
  refine Finset.sum_congr rfl fun r _ => ?_
  unfold row
  simp only [show q.val % 16 = q.val by have := q.isLt; omega]

theorem final6 : (dats m 0 c).arrAt 6 cfg0.N = GW m c := by
  refine (dats m 0 c).arrAt_eq_of_covers 6 _ (by decide +kernel) fun t hf y => ?_
  blk_simp
  rw [after0_6, eq_ix2 y]
  refine (congrArg (fun a : Fin 1 => (outsAt0 m c t.val t.isLt).2 (ix2 a (y 1))) (Fin.fin_one_eq_zero (y 0))).trans
    ((out6 m c t ((flush0_6 t).mp hf) (y 1)).trans (congrArg (GW m c) (funext fun a => Fin.ext ?_)))
  match a with
  | ⟨0, _⟩ => blk_simp [idx6]; rfl
  | ⟨1, _⟩ => blk_simp [idx6]

/-- The run: the two gradients, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1_0) = DX m c
      ∧ r.2.mem ((c : Thread nD τ).loc main_v1_1) = GW m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2⟩)
    (Value.run_blocks m ρ)

section Reference

open WqDxRefIdeal.Read

variable (x0 : S8192x1024.Idx → EReal) (x1 : S1024.Idx → EReal) (x2 : S1024x1024.Idx → EReal) (x3 : S8192x1024.Idx → EReal)
  (x4 : S8192x1024.Idx → EReal)

/-- The reference's product, -/
def prod (t : Fin 8192) (j : Fin 1024) : EReal := ∑ k : Fin 1024, x4 (ix2 t k) * x2 (ix2 j k)

theorem ref_product (t : Fin 8192) (j : Fin 1024) : val_main_v19 (F := Ideal) x2 x4 (ix2 t j) = prod x2 x4 t j := by
  rw [val_main_v19_apply]
  refine Finset.sum_congr rfl fun k _ => ?_
  rw [val_main_v18_apply, val_main_v16_apply, eq_ix2 (lidx_main_v19 (ix2 t j) k), eq_ix2 (ridx_main_v19 (ix2 t j) k)]
  rfl

/-- its mean square and its inverse root, -/
theorem ref_ms (t : Fin 8192) : val_main_v6 (F := Ideal) x0 (ix2 t 0) = Norm.ms len eps fun l => x0 (ix2 t l) := by
  rw [val_main_v6_apply, val_main_v4_apply, val_main_v2_apply, val_main_v1_apply, val_main_cst_apply, val_main_v3_apply,
    val_main_cst_0_apply, val_main_v5_apply, val_main_cst_1_apply]
  show Ideal.div (Ideal.ofBits .f32 0x00000000#32 + _) _ + _ = _
  rw [Rows.ofBits_zero, zero_add]
  refine congrArg (fun s => Ideal.div s len + eps) (Finset.sum_congr rfl fun k _ => ?_)
  rw [val_main_v0_apply, eq_ix2 (idx_main_v1 _ k)]
  rfl

theorem ref_inv (t : Fin 8192) : val_main_v7 (F := Ideal) x0 (ix2 t 0) = Norm.inv len eps fun l => x0 (ix2 t l) := by
  rw [val_main_v7_apply, ref_ms]
  rfl

/-- what comes to the norm, -/
theorem ref_scaled (t : Fin 8192) (j : Fin 1024) :
    val_main_v24 (F := Ideal) x1 x2 x4 (ix2 t j) = prod x2 x4 t j * x1 (ix1 j) := by
  rw [val_main_v24_apply, ref_product, val_main_v23_apply, val_main_v13_apply, eq_ix1 (idx_main_v13 _)]
  rfl

/-- the row's sum of its products with the input, -/
theorem ref_sum (t : Fin 8192) : val_main_v28 (F := Ideal) x0 x1 x2 x4 (ix2 t 0)
    = ∑ l : Fin 1024, x0 (ix2 t l) * (prod x2 x4 t l * x1 (ix1 l)) := by
  rw [val_main_v28_apply, val_main_v27_apply, val_main_cst_5_apply]
  show Ideal.ofBits .f32 0x00000000#32 + _ = _
  rw [Rows.ofBits_zero, zero_add]
  refine Finset.sum_congr rfl fun k _ => ?_
  have e : idx_main_v27 (idx_main_v28 (ix2 t 0)) k = ix2 t k := funext fun a => Fin.ext (by
    match a with
    | ⟨0, _⟩ => show t.val * 1 + 0 = t.val; omega
    | ⟨1, _⟩ => rfl)
  rw [e, val_main_v26_apply, ref_scaled]
  rfl

/-- the coefficient of each row, -/
theorem ref_coef (t : Fin 8192) (j : Fin 1024) : val_main_v36 (F := Ideal) x0 x1 x2 x4 (ix2 t j)
    = Norm.coef len eps (Ideal.ofBits .f32 0xBF000000#32) (fun l => x0 (ix2 t l)) (fun l => prod x2 x4 t l * x1 (ix1 l)) := by
  rw [val_main_v36_apply, val_main_v35_apply, Fin.sum_univ_one, val_main_cst_7_apply, eq_ix2 (idx_main_v35 _ 0),
    val_main_v34_apply, val_main_v33_apply, val_main_cst_6_apply, val_main_v32_apply, val_main_v10_apply, val_main_v9_apply,
    val_main_cst_2_apply, val_main_v8_apply]
  show Ideal.ofBits .f32 0x00000000#32 + Ideal.div (val_main_v28 (F := Ideal) x0 x1 x2 x4 (ix2 t 0) * (_ * Ideal.div
    (val_main_v7 (F := Ideal) x0 (ix2 t 0)) (val_main_v6 (F := Ideal) x0 (ix2 t 0)))) _ = _
  rw [Rows.ofBits_zero, zero_add, ref_inv, ref_ms, ref_sum]
  rfl

/-- and its two gradients, entry by entry, -/
theorem ref_entry (t : Fin 8192) (j : Fin 1024) : val_main_v40 (F := Ideal) x0 x1 x2 x3 x4 (ix2 t j) = x3 (ix2 t j) +
    Norm.direct len eps (fun l => x0 (ix2 t l)) (fun l => prod x2 x4 t l * x1 (ix1 l)) j := by
  rw [Norm.direct_eq Rows.ofBits_thousand Rows.ofBits_small (by norm_num) (by norm_num) Rows.ofBits_neg_half,
    val_main_v40_apply, val_main_v38_apply, val_main_v39_apply, val_main_v37_apply, val_main_v31_apply, val_main_v30_apply,
    val_main_v29_apply, ref_coef, ref_scaled, eq_ix2 (idx_main_v29 _), ← ref_inv]
  rfl

theorem ref_weight (j : Fin 1024) : val_main_v41 (F := Ideal) x0 x2 x4 (ix2 0 j) = ∑ t : Fin 8192, prod x2 x4 t j *
    (x0 (ix2 t j) * Norm.inv len eps fun l => x0 (ix2 t l)) := by
  rw [val_main_v41_apply, val_main_v25_apply, Fin.sum_univ_one, val_main_cst_4_apply, val_main_v22_apply, val_main_v21_apply,
    val_main_cst_3_apply]
  show Ideal.ofBits .f32 0x00000000#32 + (Ideal.ofBits .f32 0x00000000#32 + _) = _
  rw [Rows.ofBits_zero, zero_add, zero_add]
  refine Finset.sum_congr rfl fun t _ => ?_
  have e : idx_main_v21 (idx_main_v22 (idx_main_v25 (idx_main_v41 (ix2 0 j)) 0)) t = ix2 t j := funext fun a => Fin.ext (by
    match a with
    | ⟨0, _⟩ => rfl
    | ⟨1, _⟩ => show 0 * 1024 + (0 * 1024 + j.val) = j.val; omega)
  rw [e, val_main_v20_apply, ref_product, val_main_v12_apply, val_main_v11_apply, eq_ix2 (idx_main_v11 _), ← ref_inv]
  exact mul_comm _ _

/-- and whole. -/
theorem reference : val_main_v40 (F := Ideal) x0 x1 x2 x3 x4 = fun i => x3 (ix2 (i 0) (i 1)) + Norm.direct len eps
    (fun l => x0 (ix2 (i 0) l)) (fun l => prod x2 x4 (i 0) l * x1 (ix1 l)) (i 1) :=
  funext fun i => (congrArg _ (eq_ix2 i)).trans (ref_entry x0 x1 x2 x3 x4 (i 0) (i 1))

theorem reference_weight : val_main_v41 (F := Ideal) x0 x2 x4 = fun i => ∑ t : Fin 8192, prod x2 x4 t (i 1) *
    (x0 (ix2 t (i 1)) * Norm.inv len eps fun l => x0 (ix2 t l)) :=
  funext fun i => (congrArg _ ((eq_ix2 i).trans (congrArg (fun a : Fin 1 => ix2 a (i 1)) (Fin.fin_one_eq_zero (i 0))))).trans
    (ref_weight x0 x2 x4 (i 1))

end Reference

end Cert.Proof.QueryInput

end
-- ==== Proof.ColumnInput.lean ====
/-
  The gradient of the network's input through the mixer's input projection and the norm before it: the kernel accumulates the
  product with the projection's matrix over the columns' blocks, takes the norm's gradient of each row in one step, and sums the
  norm weight's gradient over the rows' blocks.
-/
module

public import proofs.«01_k».proof.Proof.Runs
public import proofs.«01_k».proof.Proof.Norm
public import proofs.«01_k».proof.Proof.Gen.InDxIdeal.Value
public import proofs.«01_k».proof.Proof.Gen.InDxRefIdeal.Read
public import Idealize.ShloMosaic.Lib.Pointwise
public import Idealize.ShloMosaic.Lib.Tactic

@[expose] public section

set_option maxRecDepth 16384

noncomputable section

namespace Cert.Proof.ColumnInput

open Idealize.ShloMosaic Idealize.ShloMosaic.TcCoe Idealize.ShloMosaic.Pipeline Idealize.SL.Sem Cert.InDxIdeal Cert.InDxIdeal.Gen

theorem hz : (![0, 0] : Fin 2 → Nat) = fun _ => 0 := funext fun a => by fin_cases a <;> rfl

/-- A row's length and the constant of the norm. -/
abbrev len : EReal := Ideal.ofBits .f32 0x44800000#32
abbrev eps : EReal := Ideal.ofBits .f32 0x358637BD#32

section Payloads

variable (v8 v9 : Vec Ideal S1024x1152 .bf16) (v10 v22 v24 v39 : Vec Ideal S1024x1024 .f32) (v35 v60 : Vec Ideal S1x1024 .f32)
  (r j : Fin 1024)

theorem product : k0_pay1 v8 v9 (ix2 r j) = ∑ k : Fin 1152, v9 (ix2 r k) * v8 (ix2 j k) := by
  unfold k0_pay1
  pointwise

theorem stored : k0_pay2 v8 v9 (ix2 r j) = ∑ k : Fin 1152, v9 (ix2 r k) * v8 (ix2 j k) := by
  unfold k0_pay2 k0_pay1
  pointwise

theorem added : k0_pay3 v8 v9 v22 (ix2 r j) = v22 (ix2 r j) + ∑ k : Fin 1152, v9 (ix2 r k) * v8 (ix2 j k) := by
  unfold k0_pay3 k0_pay1
  pointwise

/-- The norm's gradient of a row, added to what comes along the residual. -/
theorem normed (d : Fin 1024 → EReal) (hd : ∀ l, v10 (ix2 r l) = d l) :
    k0_pay7 v10 v22 v24 v35 v39 (ix2 r j) = v39 (ix2 r j) + Norm.direct len eps (fun l => v24 (ix2 r l))
      (fun l => (v22 (ix2 r l) + d l) * v35 (ix2 0 l)) j := by
  obtain rfl : d = fun l => v10 (ix2 r l) := funext fun l => (hd l).symm
  unfold k0_pay7 k0_pay6 k0_pay5 k0_pay4
  pointwise
  rfl

/-- The norm weight's gradient over a block of rows. -/
theorem columns (d : Fin 1024 → EReal) (hd : ∀ r, v10 (ix2 r j) = d r) :
    k0_pay8 v10 v22 v24 (ix2 0 j) = ∑ r : Fin 1024, (v22 (ix2 r j) + d r) *
      (v24 (ix2 r j) * Norm.inv len eps (fun l => v24 (ix2 r l))) := by
  obtain rfl : d = fun r => v10 (ix2 r j) := funext fun l => (hd l).symm
  unfold k0_pay8 k0_pay6 k0_pay5 k0_pay4
  pointwise
  rfl

theorem columns_added (d : Fin 1024 → EReal) (hd : ∀ r, v10 (ix2 r j) = d r) :
    k0_pay9 v10 v22 v24 v60 (ix2 0 j) = v60 (ix2 0 j) + ∑ r : Fin 1024, (v22 (ix2 r j) + d r) *
      (v24 (ix2 r j) * Norm.inv len eps (fun l => v24 (ix2 r l))) := by
  rw [← columns v10 v22 v24 j d hd]
  unfold k0_pay9
  generalize k0_pay8 v10 v22 v24 = u
  pointwise

end Payloads

section Body

variable (c : Dev nD) (i : grid0.Coords) (a3 : Memref sig .tc .vmem S1024x1152 .bf16) (h3 : a3.IsWhole)
  (a4 : Memref sig .tc .vmem S1024x6912 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1x1024 .f32) (h7 : a7.IsWhole)
  (a8 : Memref sig .tc .vmem S1024x1024 .f32) (h8 : a8.IsWhole) (a9 : Memref sig .tc .vmem S1x1024 .f32) (h9 : a9.IsWhole)
  (a10 : Memref sig .tc .vmem S1024x1024 .f32) (h10 : a10.IsWhole)
  (x0 : Vec Ideal S1024x1152 .bf16) (x1 : Vec Ideal S1024x6912 .bf16) (x2 x3 : Vec Ideal S1024x1024 .f32)
  (x4 xo : Vec Ideal S1x1024 .f32) (acc : Vec Ideal S1024x1024 .f32)
  (r j : Fin 1024)

/-- The columns of the matrix that a point takes. -/
def wcol (i : grid0.Coords) (k : Fin 1152) : Fin 6912 :=
  ⟨1152 * (i 2).val + k.val, by have : (i 2).val < 6 := (i 2).isLt; have := k.isLt; omega⟩

/-- A point's load of them. -/
theorem load (l : Fin 1024) (k : Fin 1152) :
    View.ld x1 (Rect.unit (s := S1024x6912) (k0_off1 i) S1024x1152.size (k0_off1_inb i)) (ix2 l k)
    = x1 (ix2 l (wcol i k)) := by
  refine View.ld_unit_apply_of x1 _ _ _ _ _ fun a => ?_
  refine Eq.trans ?_ (congrArg (· + _) (congrFun (k0_off1_eq i) a).symm)
  have : (i 1).val = 0 := by have : (i 1).val < 1 := (i 1).isLt; omega
  match a with
  | ⟨0, _⟩ => show l.val = 1024 * (i 1).val + l.val; omega
  | ⟨1, _⟩ => rfl

/-- A point's product. -/
def part (r l : Fin 1024) : EReal := ∑ k : Fin 1152, x0 (ix2 r k) * x1 (ix2 l (wcol i k))

theorem loaded (r l : Fin 1024) : ∑ k : Fin 1152, x0 (ix2 r k) *
    View.ld x1 (Rect.unit (s := S1024x6912) (k0_off1 i) S1024x1152.size (k0_off1_inb i)) (ix2 l k) = part i x0 x1 r l :=
  Finset.sum_congr rfl fun k _ => congrArg (_ * ·) (load i x1 l k)

/-- The first point of a run stores its product in the accumulator, -/
theorem first (hc0 : cond0_0 i) (hc1 : ¬cond0_1 i) (hc2 : ¬cond0_2 i) :
    sout0_A_0 c i a3 h3 a4 h4 a5 h5 a6 h6 a7 h7 a8 h8 a9 h9 a10 h10 hc0 hc1 hc2 x0 x1 x2 x3 x4 (ix2 r j) = part i x0 x1 r j := by
  unfold sout0_A_0
  rw [View.read_writes_eq_canon _ _ _ (scover0_A_0 c i a3 h3 a4 h4 a5 h5 a6 h6 a7 h7 a8 h8 a9 h9 a10 h10 hc0 hc1 hc2 x0 x1 x2 x3 x4)]
  unfold kernelRun0_A
  dsimp only
  sl_unfold_words
  simp only [View.readAt_eq_ld, h3.read_unread, h4.read_unread, View.ld_unit_zero (S := S1024x1024) hz, View.ld_unit_zero (S := S1024x1152) hz,
    View.canon_unit_zero (S := S1024x1024) hz]
  exact (stored _ x0 r j).trans (loaded i x0 x1 r j)

/-- a point between adds its product to it, -/
theorem next (hc0 : ¬cond0_0 i) (hc1 : cond0_1 i) (hc2 : ¬cond0_2 i) :
    sout0_B_0 c i a3 h3 a4 h4 a5 h5 a6 h6 a7 h7 a8 h8 a9 h9 a10 h10 hc0 hc1 hc2 x0 x1 x2 x3 x4 acc (ix2 r j)
      = acc (ix2 r j) + part i x0 x1 r j := by
  unfold sout0_B_0
  rw [View.read_writes_eq_canon _ _ _ (scover0_B_0 c i a3 h3 a4 h4 a5 h5 a6 h6 a7 h7 a8 h8 a9 h9 a10 h10 hc0 hc1 hc2 x0 x1 x2 x3 x4 acc)]
  unfold kernelRun0_B
  dsimp only
  sl_unfold_words
  simp only [View.readAt_eq_ld, h3.read_unread, h4.read_unread, h10.read_unread, View.ld_unit_zero (S := S1024x1024) hz, View.ld_unit_zero (S := S1024x1152) hz,
    View.canon_unit_zero (S := S1024x1024) hz]
  exact (added _ x0 acc r j).trans (congrArg (_ + ·) (loaded i x0 x1 r j))

/-- and the last takes the norm's gradient of the sum. -/
def result : EReal := x3 (ix2 r j) + Norm.direct len eps (fun l => x2 (ix2 r l))
  (fun l => (acc (ix2 r l) + part i x0 x1 r l) * x4 (ix2 0 l)) j

theorem last (hc0 : ¬cond0_0 i) (hc1 : ¬cond0_1 i) (hc2 : cond0_2 i) (hc3 : cond0_3 i) (hc4 : ¬cond0_4 i) :
    out0_C_5 c i a3 h3 a4 h4 a5 h5 a6 h6 a7 h7 a8 h8 a9 h9 a10 h10 hc0 hc1 hc2 hc3 hc4 x0 x1 x2 x3 x4 acc (ix2 r j)
      = result i x0 x1 x2 x3 x4 acc r j := by
  unfold out0_C_5
  rw [View.read_writes_eq_canon _ _ _ (cover0_C_5 c i a3 h3 a4 h4 a5 h5 a6 h6 a7 h7 a8 h8 a9 h9 a10 h10 hc0 hc1 hc2 hc3 hc4 x0 x1 x2 x3 x4 acc)]
  unfold kernelRun0_C
  dsimp only
  sl_unfold_words
  simp only [View.readAt_eq_ld, h3.read_unread, h4.read_unread, h5.read_unread, h6.read_unread, h7.read_unread, h10.read_unread,
    View.ld_unit_zero (S := S1024x1024) hz, View.ld_unit_zero (S := S1024x1152) hz, View.ld_unit_zero (S := S1x1024) hz, View.canon_unit_zero (S := S1024x1024) hz]
  exact normed _ acc x2 x3 x4 r j _ fun l => (product _ x0 r l).trans (loaded i x0 x1 r l)

theorem last' (hc0 : ¬cond0_0 i) (hc1 : ¬cond0_1 i) (hc2 : cond0_2 i) (hc3 : ¬cond0_3 i) (hc4 : cond0_4 i) :
    out0_D_5 c i a3 h3 a4 h4 a5 h5 a6 h6 a7 h7 a8 h8 a9 h9 a10 h10 hc0 hc1 hc2 hc3 hc4 x0 x1 x2 x3 x4 xo acc (ix2 r j)
      = result i x0 x1 x2 x3 x4 acc r j := by
  unfold out0_D_5
  rw [View.read_writes_eq_canon _ _ _ (cover0_D_5 c i a3 h3 a4 h4 a5 h5 a6 h6 a7 h7 a8 h8 a9 h9 a10 h10 hc0 hc1 hc2 hc3 hc4 x0 x1 x2 x3 x4 xo acc)]
  unfold kernelRun0_D
  dsimp only
  sl_unfold_words
  simp only [View.readAt_eq_ld, h3.read_unread, h4.read_unread, h5.read_unread, h6.read_unread, h7.read_unread, h10.read_unread,
    View.ld_unit_zero (S := S1024x1024) hz, View.ld_unit_zero (S := S1024x1152) hz, View.ld_unit_zero (S := S1x1024) hz, View.canon_unit_zero (S := S1024x1024) hz]
  exact normed _ acc x2 x3 x4 r j _ fun l => (product _ x0 r l).trans (loaded i x0 x1 r l)

/-- The norm weight's gradient over a point's rows, stored by the first run and added by the later ones. -/
def weight : EReal := ∑ r : Fin 1024, (acc (ix2 r j) + part i x0 x1 r j) *
  (x2 (ix2 r j) * Norm.inv len eps (fun l => x2 (ix2 r l)))

theorem weight_first (hc0 : ¬cond0_0 i) (hc1 : ¬cond0_1 i) (hc2 : cond0_2 i) (hc3 : cond0_3 i) (hc4 : ¬cond0_4 i) :
    out0_C_6 c i a3 h3 a4 h4 a5 h5 a6 h6 a7 h7 a8 h8 a9 h9 a10 h10 hc0 hc1 hc2 hc3 hc4 x0 x1 x2 x3 x4 acc (ix2 0 j)
      = weight i x0 x1 x2 acc j := by
  unfold out0_C_6
  rw [View.read_writes_eq_canon _ _ _ (cover0_C_6 c i a3 h3 a4 h4 a5 h5 a6 h6 a7 h7 a8 h8 a9 h9 a10 h10 hc0 hc1 hc2 hc3 hc4 x0 x1 x2 x3 x4 acc)]
  unfold kernelRun0_C
  dsimp only
  sl_unfold_words
  simp only [View.readAt_eq_ld, h3.read_unread, h4.read_unread, h5.read_unread, h10.read_unread,
    View.ld_unit_zero (S := S1024x1024) hz, View.ld_unit_zero (S := S1024x1152) hz, View.canon_unit_zero (S := S1x1024) hz]
  exact columns _ acc x2 j _ fun r => (product _ x0 r j).trans (loaded i x0 x1 r j)

theorem weight_next (hc0 : ¬cond0_0 i) (hc1 : ¬cond0_1 i) (hc2 : cond0_2 i) (hc3 : ¬cond0_3 i) (hc4 : cond0_4 i) :
    out0_D_6 c i a3 h3 a4 h4 a5 h5 a6 h6 a7 h7 a8 h8 a9 h9 a10 h10 hc0 hc1 hc2 hc3 hc4 x0 x1 x2 x3 x4 xo acc (ix2 0 j)
      = xo (ix2 0 j) + weight i x0 x1 x2 acc j := by
  unfold out0_D_6
  rw [View.read_writes_eq_canon _ _ _ (cover0_D_6 c i a3 h3 a4 h4 a5 h5 a6 h6 a7 h7 a8 h8 a9 h9 a10 h10 hc0 hc1 hc2 hc3 hc4 x0 x1 x2 x3 x4 xo acc)]
  unfold kernelRun0_D
  dsimp only
  sl_unfold_words
  simp only [View.readAt_eq_ld, h3.read_unread, h4.read_unread, h5.read_unread, h9.read_unread, h10.read_unread,
    View.ld_unit_zero (S := S1024x1024) hz, View.ld_unit_zero (S := S1024x1152) hz, View.ld_unit_zero (S := S1x1024) hz, View.canon_unit_zero (S := S1x1024) hz]
  exact columns_added _ acc x2 xo j _ fun r => (product _ x0 r j).trans (loaded i x0 x1 r j)

end Body

variable (m : (b : Loc nD τ sig) → Buf (Elt Ideal) b) (c : Dev nD)

/-- The arguments, entry by entry. -/
abbrev input (t : Fin 8192) (j : Fin 1024) : EReal := m ((c : Thread nD τ).loc main_arg0) (ix2 t j)
abbrev scale (j : Fin 1024) : EReal := m ((c : Thread nD τ).loc main_arg1) (ix1 j)
abbrev mat (j : Fin 1024) (k : Fin 6912) : EReal := m ((c : Thread nD τ).loc main_arg2) (ix2 j k)
abbrev along (t : Fin 8192) (j : Fin 1024) : EReal := m ((c : Thread nD τ).loc main_arg3) (ix2 t j)
abbrev grad (t : Fin 8192) (k : Fin 6912) : EReal := m ((c : Thread nD τ).loc main_arg4) (ix2 t k)

theorem reshaped (j : Fin 1024) : V m c main_v0 (ix2 0 j) = scale m c j := by
  have e : V m c main_v0 = (shapeCast S1x1024 (m ((c : Thread nD τ).loc main_arg1) : FVec Ideal S1024 .f32)
      shapeCasts_S1024_S1x1024 : FVec Ideal S1x1024 .f32) := by
    unfold V
    simp only [hostOps0, List.flatten_cons, List.flatten_nil, List.append_nil, List.cons_append, List.nil_append]
    after_results
    rfl
  rw [e]
  pointwise

def row (n : ℕ) (r : Fin 1024) : Fin 8192 := ⟨n / 6 % 8 * 1024 + r.val, by have := r.isLt; omega⟩
def col (n : ℕ) (k : Fin 1152) : Fin 6912 := ⟨n % 6 * 1152 + k.val, by have := k.isLt; omega⟩

theorem idx0 : ∀ t : Fin cfg0.N, win0_0.index t = ![t.val / 6 % 8, t.val % 6] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 6 % 8, 0] := (by decide +kernel : ∀ t : Fin grid0.N, _)
theorem idx3 : ∀ t : Fin cfg0.N, win0_3.index t = ![t.val / 6 % 8, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 6 % 8, 0] := (by decide +kernel : ∀ t : Fin grid0.N, _)
theorem idx6 : ∀ t : Fin cfg0.N, win0_6.index t = ![0, 0] := (by decide +kernel : ∀ t : Fin grid0.N, _)
theorem coord : ∀ t : Fin cfg0.N, (grid0.coords t 2).val = t.val % 6 := (by decide +kernel : ∀ t : Fin grid0.N, _)

/-- The blocks a point reads. -/
abbrev in0 (t : Fin cfg0.N) : Vec Ideal S1024x1152 .bf16 := iblk m c 0 t
abbrev in1 (t : Fin cfg0.N) : Vec Ideal S1024x6912 .bf16 := iblk m c 1 t
abbrev in2 (t : Fin cfg0.N) : Vec Ideal S1024x1024 .f32 := iblk m c 2 t
abbrev in3 (t : Fin cfg0.N) : Vec Ideal S1024x1024 .f32 := iblk m c 3 t
abbrev in4 (t : Fin cfg0.N) : Vec Ideal S1x1024 .f32 := iblk m c 4 t

theorem blk0 (t : Fin cfg0.N) (r : Fin 1024) (k : Fin 1152) : in0 m c t (ix2 r k) = grad m c (row t.val r) (col t.val k) := by
  blk_simp [in0, iblk]
  rw [V_main_arg4]
  refine congrArg _ (funext fun a => Fin.ext ?_)
  match a with
  | ⟨0, _⟩ => blk_simp [idx0]; rfl
  | ⟨1, _⟩ => blk_simp [idx0]; rfl

theorem blk1 (t : Fin cfg0.N) (j : Fin 1024) (k : Fin 1152) :
    in1 m c t (ix2 j (wcol (grid0.coords t) k)) = mat m c j (col t.val k) := by
  blk_simp [in1, iblk]
  rw [V_main_arg2]
  refine congrArg _ (funext fun a => Fin.ext ?_)
  match a with
  | ⟨0, _⟩ => blk_simp [idx1]
  | ⟨1, _⟩ =>
    blk_simp [idx1]
    show 1152 * (grid0.coords t 2).val + k.val = t.val % 6 * 1152 + k.val
    rw [coord]
    omega

theorem blk2 (t : Fin cfg0.N) (r j : Fin 1024) : in2 m c t (ix2 r j) = input m c (row t.val r) j := by
  blk_simp [in2, iblk]
  rw [V_main_arg0]
  refine congrArg _ (funext fun a => Fin.ext ?_)
  match a with
  | ⟨0, _⟩ => blk_simp [idx2]; rfl
  | ⟨1, _⟩ => blk_simp [idx2]

theorem blk3 (t : Fin cfg0.N) (r j : Fin 1024) : in3 m c t (ix2 r j) = along m c (row t.val r) j := by
  blk_simp [in3, iblk]
  rw [V_main_arg3]
  refine congrArg _ (funext fun a => Fin.ext ?_)
  match a with
  | ⟨0, _⟩ => blk_simp [idx3]; rfl
  | ⟨1, _⟩ => blk_simp [idx3]

theorem blk4 (t : Fin cfg0.N) (j : Fin 1024) : in4 m c t (ix2 0 j) = scale m c j := by
  rw [← reshaped]
  blk_simp [in4, iblk]
  refine congrArg _ (funext fun a => Fin.ext ?_)
  match a with
  | ⟨0, _⟩ => blk_simp [idx4]
  | ⟨1, _⟩ => blk_simp [idx4]

/-- What comes to the norm's output: the product over all the columns. -/
def dh (t : Fin 8192) (j : Fin 1024) : EReal := ∑ k : Fin 6912, grad m c t k * mat m c j k

/-- A point's product. -/
def term (r j : Fin 1024) (n : ℕ) : EReal := ∑ k : Fin 1152, grad m c (row n r) (col n k) * mat m c j (col n k)

theorem term_eq (r j : Fin 1024) (t : Fin cfg0.N) : part (grid0.coords t) (in0 m c t) (in1 m c t) r j = term m c r j t.val :=
  Finset.sum_congr rfl fun k _ => congrArg₂ (· * ·) (blk0 m c t r k) (blk1 m c t j k)

/-- What the point before left in the accumulator. -/
abbrev before (t : Fin cfg0.N) : Vec Ideal S1024x1024 .f32 :=
  (outsAt0 m c (t.val - 1) (Nat.lt_of_le_of_lt (Nat.sub_le _ _) t.isLt)).2.2

/-- The last point's sum is the whole product. -/
theorem summed (t : Fin cfg0.N) (ht : t.val % 6 = 5) (r j : Fin 1024) :
    before m c t (ix2 r j) + part (grid0.coords t) (in0 m c t) (in1 m c t) r j = dh m c (row t.val r) j := by
  rw [term_eq]
  refine (Runs.sum_of_run 6 (by decide) (fun n hn => (outsAt0 m c n hn).2.2 (ix2 r j))
    (fun n hn => (outsAt0 m c (n - 1) (Nat.lt_of_le_of_lt (Nat.sub_le _ _) hn)).2.2 (ix2 r j) + term m c r j n)
    (term m c r j) (fun t h => ?_) (fun t h0 h1 => ?_) (fun t h => rfl) t ht).trans ?_
  · simp only [outsAt0_A m c t h (by omega) (by omega)]
    exact (first c _ _ _ _ _ _ _ _ _ _ _ _ _ _ _ _ _ _ _ _ _ _ r j _ _ _).trans (term_eq m c r j t)
  · simp only [outsAt0_B m c t h0 (by omega) h1]
    exact (next c _ _ _ _ _ _ _ _ _ _ _ _ _ _ _ _ _ _ _ _ _ _ _ r j _ _ _).trans (congrArg (_ + ·) (term_eq m c r j t))
  · refine Eq.trans (Finset.sum_congr rfl fun k _ => ?_)
      (Fin.sum_mul_add_fin 6 1152 fun x => grad m c (row t.val r) x * mat m c j x)
    have e : (6 * (t.val / 6) + k.val) % 6 = k.val := by have := k.isLt; omega
    have d : (6 * (t.val / 6) + k.val) / 6 = t.val / 6 := by have := k.isLt; omega
    refine Finset.sum_congr rfl fun x _ => ?_
    unfold row col
    simp only [e, d]

/-- The input's gradient, -/
def DX : (⟨2, ![8192, 1024]⟩ : Shape).Idx → EReal := fun i => along m c (i 0) (i 1) +
  Norm.direct len eps (fun l => input m c (i 0) l) (fun l => dh m c (i 0) l * scale m c l) (i 1)

/-- and the norm weight's. -/
def GW : (⟨2, ![1, 1024]⟩ : Shape).Idx → EReal := fun i => ∑ t : Fin 8192, dh m c t (i 1) *
  (input m c t (i 1) * Norm.inv len eps (fun l => input m c t l))

theorem result_eq (t : Fin cfg0.N) (ht : t.val % 6 = 5) (r j : Fin 1024) :
    result (grid0.coords t) (in0 m c t) (in1 m c t) (in2 m c t) (in3 m c t) (in4 m c t) (before m c t) r j
      = DX m c (ix2 (row t.val r) j) := by
  unfold result DX
  simp only [summed m c t ht, blk2, blk3, blk4, ix2_0, ix2_1]

theorem out5 (t : Fin cfg0.N) (ht : t.val % 6 = 5) (r j : Fin 1024) :
    (outsAt0 m c t.val t.isLt).1 (ix2 r j) = DX m c (ix2 (row t.val r) j) := by
  by_cases h : t.val < 6
  · simp only [outsAt0_C m c t (by omega) (by omega) ht h (by omega)]
    exact (last c _ _ _ _ _ _ _ _ _ _ _ _ _ _ _ _ _ _ _ _ _ _ _ r j _ _ _ _ _).trans (result_eq m c t ht r j)
  · simp only [outsAt0_D m c t (by omega) (by omega) ht h (by omega)]
    exact (last' c _ _ _ _ _ _ _ _ _ _ _ _ _ _ _ _ _ _ _ _ _ _ _ _ r j _ _ _ _ _).trans (result_eq m c t ht r j)

theorem final5 : (dats m 0 c).arrAt 5 cfg0.N = DX m c := by
  refine (dats m 0 c).arrAt_eq_of_covers 5 _ (by decide +kernel) fun t hf y => ?_
  blk_simp
  rw [after0_5, eq_ix2 y]
  refine (out5 m c t ((flush0_5 t).mp hf) (y 0) (y 1)).trans (congrArg (DX m c) (funext fun a => Fin.ext ?_))
  match a with
  | ⟨0, _⟩ => blk_simp [idx5]; rfl
  | ⟨1, _⟩ => blk_simp [idx5]

/-- A run's part of the norm weight's gradient. -/
def rows (j : Fin 1024) (q : ℕ) : EReal := ∑ r : Fin 1024, dh m c (row (6 * q) r) j *
  (input m c (row (6 * q) r) j * Norm.inv len eps (fun l => input m c (row (6 * q) r) l))

theorem weight_eq (t : Fin cfg0.N) (ht : t.val % 6 = 5) (j : Fin 1024) :
    weight (grid0.coords t) (in0 m c t) (in1 m c t) (in2 m c t) (before m c t) j = rows m c j (t.val / 6) := by
  have e : ∀ r, row t.val r = row (6 * (t.val / 6)) r := fun r => by
    unfold row
    simp only [show 6 * (t.val / 6) / 6 = t.val / 6 by omega]
  unfold weight rows
  simp only [summed m c t ht, blk2, e]

theorem out6 (t : Fin cfg0.N) (ht : t.val % 48 = 47) (j : Fin 1024) :
    (outsAt0 m c t.val t.isLt).2.1 (ix2 0 j) = GW m c (ix2 0 j) := by
  have hN : t.val < 48 := lt_of_lt_of_eq t.isLt (show cfg0.N = 48 from N_0)
  refine (Runs.sum_of_steps 6 (by decide) (fun n hn => (outsAt0 m c n hn).2.1 (ix2 0 j)) (rows m c j)
    (fun t h => ?_) (fun t h => ?_) (fun t h h4 => ?_) t.val (by omega) t.isLt).trans ?_
  · by_cases h0 : t.val % 6 = 0
    · simp only [outsAt0_A m c t h0 (by omega) (by omega)]
      rfl
    · simp only [outsAt0_B m c t h0 (by omega) h]
      rfl
  · simp only [outsAt0_C m c t (by omega) (by omega) (by omega) (by omega) (by omega)]
    refine (weight_first c _ _ _ _ _ _ _ _ _ _ _ _ _ _ _ _ _ _ _ _ _ _ _ j _ _ _ _ _).trans
      ((weight_eq m c t (by omega) j).trans (congrArg (rows m c j) ?_))
    omega
  · simp only [outsAt0_D m c t (by omega) (by omega) h (by omega) h4]
    exact (weight_next c _ _ _ _ _ _ _ _ _ _ _ _ _ _ _ _ _ _ _ _ _ _ _ _ j _ _ _ _ _).trans
      (congrArg (_ + ·) (weight_eq m c t h j))
  · rw [show (t.val + 1) / 6 = 8 by omega, Finset.sum_range]
    refine Eq.trans (Finset.sum_congr rfl fun q _ => ?_) (Fin.sum_mul_add_fin 8 1024 fun x => dh m c x j *
      (input m c x j * Norm.inv len eps (fun l => input m c x l)))
    refine Finset.sum_congr rfl fun r _ => ?_
    unfold row
    simp only [show 6 * q.val / 6 % 8 = q.val by have := q.isLt; omega]

theorem final6 : (dats m 0 c).arrAt 6 cfg0.N = GW m c := by
  refine (dats m 0 c).arrAt_eq_of_covers 6 _ (by decide +kernel) fun t hf y => ?_
  blk_simp
  rw [after0_6, eq_ix2 y]
  refine (congrArg (fun a : Fin 1 => (outsAt0 m c t.val t.isLt).2.1 (ix2 a (y 1))) (Fin.fin_one_eq_zero (y 0))).trans
    ((out6 m c t ((flush0_6 t).mp hf) (y 1)).trans (congrArg (GW m c) (funext fun a => Fin.ext ?_)))
  match a with
  | ⟨0, _⟩ => blk_simp [idx6]; rfl
  | ⟨1, _⟩ => blk_simp [idx6]

/-- The run: the two gradients, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1_0) = DX m c
      ∧ r.2.mem ((c : Thread nD τ).loc main_v1_1) = GW m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2⟩)
    (Value.run_blocks m ρ)

section Reference

open InDxRefIdeal.Read

variable (x0 : S8192x1024.Idx → EReal) (x1 : S1024.Idx → EReal) (x2 : S1024x6912.Idx → EReal) (x3 : S8192x1024.Idx → EReal)
  (x4 : S8192x6912.Idx → EReal)

/-- The reference's product, -/
def prod (t : Fin 8192) (j : Fin 1024) : EReal := ∑ k : Fin 6912, x4 (ix2 t k) * x2 (ix2 j k)

theorem ref_product (t : Fin 8192) (j : Fin 1024) : val_main_v19 (F := Ideal) x2 x4 (ix2 t j) = prod x2 x4 t j := by
  rw [val_main_v19_apply]
  refine Finset.sum_congr rfl fun k _ => ?_
  rw [val_main_v18_apply, val_main_v16_apply, eq_ix2 (lidx_main_v19 (ix2 t j) k), eq_ix2 (ridx_main_v19 (ix2 t j) k)]
  rfl

/-- its mean square and its inverse root, -/
theorem ref_ms (t : Fin 8192) : val_main_v6 (F := Ideal) x0 (ix2 t 0) = Norm.ms len eps fun l => x0 (ix2 t l) := by
  rw [val_main_v6_apply, val_main_v4_apply, val_main_v2_apply, val_main_v1_apply, val_main_cst_apply, val_main_v3_apply,
    val_main_cst_0_apply, val_main_v5_apply, val_main_cst_1_apply]
  show Ideal.div (Ideal.ofBits .f32 0x00000000#32 + _) _ + _ = _
  rw [Rows.ofBits_zero, zero_add]
  refine congrArg (fun s => Ideal.div s len + eps) (Finset.sum_congr rfl fun k _ => ?_)
  rw [val_main_v0_apply, eq_ix2 (idx_main_v1 _ k)]
  rfl

theorem ref_inv (t : Fin 8192) : val_main_v7 (F := Ideal) x0 (ix2 t 0) = Norm.inv len eps fun l => x0 (ix2 t l) := by
  rw [val_main_v7_apply, ref_ms]
  rfl

/-- what comes to the norm, -/
theorem ref_scaled (t : Fin 8192) (j : Fin 1024) :
    val_main_v24 (F := Ideal) x1 x2 x4 (ix2 t j) = prod x2 x4 t j * x1 (ix1 j) := by
  rw [val_main_v24_apply, ref_product, val_main_v23_apply, val_main_v13_apply, eq_ix1 (idx_main_v13 _)]
  rfl

/-- the row's sum of its products with the input, -/
theorem ref_sum (t : Fin 8192) : val_main_v28 (F := Ideal) x0 x1 x2 x4 (ix2 t 0)
    = ∑ l : Fin 1024, x0 (ix2 t l) * (prod x2 x4 t l * x1 (ix1 l)) := by
  rw [val_main_v28_apply, val_main_v27_apply, val_main_cst_5_apply]
  show Ideal.ofBits .f32 0x00000000#32 + _ = _
  rw [Rows.ofBits_zero, zero_add]
  refine Finset.sum_congr rfl fun k _ => ?_
  have e : idx_main_v27 (idx_main_v28 (ix2 t 0)) k = ix2 t k := funext fun a => Fin.ext (by
    match a with
    | ⟨0, _⟩ => show t.val * 1 + 0 = t.val; omega
    | ⟨1, _⟩ => rfl)
  rw [e, val_main_v26_apply, ref_scaled]
  rfl

/-- the coefficient of each row, -/
theorem ref_coef (t : Fin 8192) (j : Fin 1024) : val_main_v36 (F := Ideal) x0 x1 x2 x4 (ix2 t j)
    = Norm.coef len eps (Ideal.ofBits .f32 0xBF000000#32) (fun l => x0 (ix2 t l)) (fun l => prod x2 x4 t l * x1 (ix1 l)) := by
  rw [val_main_v36_apply, val_main_v35_apply, Fin.sum_univ_one, val_main_cst_7_apply, eq_ix2 (idx_main_v35 _ 0),
    val_main_v34_apply, val_main_v33_apply, val_main_cst_6_apply, val_main_v32_apply, val_main_v10_apply, val_main_v9_apply,
    val_main_cst_2_apply, val_main_v8_apply]
  show Ideal.ofBits .f32 0x00000000#32 + Ideal.div (val_main_v28 (F := Ideal) x0 x1 x2 x4 (ix2 t 0) * (_ * Ideal.div
    (val_main_v7 (F := Ideal) x0 (ix2 t 0)) (val_main_v6 (F := Ideal) x0 (ix2 t 0)))) _ = _
  rw [Rows.ofBits_zero, zero_add, ref_inv, ref_ms, ref_sum]
  rfl

/-- and its two gradients, entry by entry, -/
theorem ref_entry (t : Fin 8192) (j : Fin 1024) : val_main_v40 (F := Ideal) x0 x1 x2 x3 x4 (ix2 t j) = x3 (ix2 t j) +
    Norm.direct len eps (fun l => x0 (ix2 t l)) (fun l => prod x2 x4 t l * x1 (ix1 l)) j := by
  rw [Norm.direct_eq Rows.ofBits_thousand Rows.ofBits_small (by norm_num) (by norm_num) Rows.ofBits_neg_half,
    val_main_v40_apply, val_main_v38_apply, val_main_v39_apply, val_main_v37_apply, val_main_v31_apply, val_main_v30_apply,
    val_main_v29_apply, ref_coef, ref_scaled, eq_ix2 (idx_main_v29 _), ← ref_inv]
  rfl

theorem ref_weight (j : Fin 1024) : val_main_v41 (F := Ideal) x0 x2 x4 (ix2 0 j) = ∑ t : Fin 8192, prod x2 x4 t j *
    (x0 (ix2 t j) * Norm.inv len eps fun l => x0 (ix2 t l)) := by
  rw [val_main_v41_apply, val_main_v25_apply, Fin.sum_univ_one, val_main_cst_4_apply, val_main_v22_apply, val_main_v21_apply,
    val_main_cst_3_apply]
  show Ideal.ofBits .f32 0x00000000#32 + (Ideal.ofBits .f32 0x00000000#32 + _) = _
  rw [Rows.ofBits_zero, zero_add, zero_add]
  refine Finset.sum_congr rfl fun t _ => ?_
  have e : idx_main_v21 (idx_main_v22 (idx_main_v25 (idx_main_v41 (ix2 0 j)) 0)) t = ix2 t j := funext fun a => Fin.ext (by
    match a with
    | ⟨0, _⟩ => rfl
    | ⟨1, _⟩ => show 0 * 1024 + (0 * 1024 + j.val) = j.val; omega)
  rw [e, val_main_v20_apply, ref_product, val_main_v12_apply, val_main_v11_apply, eq_ix2 (idx_main_v11 _), ← ref_inv]
  exact mul_comm _ _

/-- and whole. -/
theorem reference : val_main_v40 (F := Ideal) x0 x1 x2 x3 x4 = fun i => x3 (ix2 (i 0) (i 1)) + Norm.direct len eps
    (fun l => x0 (ix2 (i 0) l)) (fun l => prod x2 x4 (i 0) l * x1 (ix1 l)) (i 1) :=
  funext fun i => (congrArg _ (eq_ix2 i)).trans (ref_entry x0 x1 x2 x3 x4 (i 0) (i 1))

theorem reference_weight : val_main_v41 (F := Ideal) x0 x2 x4 = fun i => ∑ t : Fin 8192, prod x2 x4 t (i 1) *
    (x0 (ix2 t (i 1)) * Norm.inv len eps fun l => x0 (ix2 t l)) :=
  funext fun i => (congrArg _ ((eq_ix2 i).trans (congrArg (fun a : Fin 1 => ix2 a (i 1)) (Fin.fin_one_eq_zero (i 0))))).trans
    (ref_weight x0 x2 x4 (i 1))

end Reference

end Cert.Proof.ColumnInput

end
-- ==== Proof.Inputs.lean ====
/-
  The claims about the calls that take an input's gradient in the mixers and the cross-attention: the product with the
  transposed matrix, and behind two of them the gradient of the norm before it. Each reference leaves its arguments alone
  and has no semaphore; from agreeing arguments its results are the ones that the kernel's module says the kernel leaves.
-/
module

public import proofs.«01_k».proof.Defs
public import proofs.«01_k».proof.Proof.AttnInput
public import proofs.«01_k».proof.Proof.QueryInput
public import proofs.«01_k».proof.Proof.ColumnInput
public import proofs.«01_k».proof.Proof.Gen.WoDxRefIdeal.Run
public import proofs.«01_k».proof.Proof.Gen.WqDxRefIdeal.Run
public import proofs.«01_k».proof.Proof.Gen.InDxRefIdeal.Run

@[expose] public section

set_option maxRecDepth 16384

noncomputable section

namespace Cert.Proof.Inputs

open Idealize.ShloMosaic Idealize.SL.Sem

theorem frame_attn_input : Cert.quiescent_WoDxRefIdeal := fun m ρ _ =>
  (θ_run WoDxRefIdeal.defs _ _).mono (fun r h => ⟨fun c => (h c).2, sem_eq_zero_of_no_sems (by decide) r.2⟩)
    (WoDxRefIdeal.Value.run (F := Ideal) m ρ)

theorem frame_query_input : Cert.quiescent_WqDxRefIdeal := fun m ρ _ =>
  (θ_run WqDxRefIdeal.defs _ _).mono (fun r h => ⟨fun c => (h c).2.2, sem_eq_zero_of_no_sems (by decide) r.2⟩)
    (WqDxRefIdeal.Value.run (F := Ideal) m ρ)

theorem frame_column_input : Cert.quiescent_InDxRefIdeal := fun m ρ _ =>
  (θ_run InDxRefIdeal.defs _ _).mono (fun r h => ⟨fun c => (h c).2.2, sem_eq_zero_of_no_sems (by decide) r.2⟩)
    (InDxRefIdeal.Value.run (F := Ideal) m ρ)

/-- The gradient in the attended values. -/
theorem attn_input : Cert.algebraic_WoDxIdeal_WoDxRefIdeal := by
  intro m ρ m' ρ' _ hagree
  refine ⟨AttnInput.Q m, AttnInput.run m ρ,
    (θ_run WoDxRefIdeal.defs _ _).mono (fun r h c => ?_) (WoDxRefIdeal.Value.run m' ρ')⟩
  obtain ⟨e0, e1⟩ := hagree c
  refine ⟨(h c).1.trans ?_, (h c).2⟩
  rw [WoDxRefIdeal.Read.val_main_v4_eq, e0, e1, AttnInput.reference]
  rfl

/-- The gradient in the cross-attention's input, through its norm, and the norm weight's. -/
theorem query_input : Cert.algebraic_WqDxIdeal_WqDxRefIdeal := by
  intro m ρ m' ρ' _ hagree
  refine ⟨QueryInput.DX m, QueryInput.GW m, QueryInput.run m ρ,
    (θ_run WqDxRefIdeal.defs _ _).mono (fun r h c => ?_) (WqDxRefIdeal.Value.run m' ρ')⟩
  obtain ⟨e0, e1, e2, e3, e4⟩ := hagree c
  refine ⟨(h c).1.trans ?_, (h c).2.1.trans ?_, (h c).2.2⟩
  · rw [WqDxRefIdeal.Read.val_main_v40_eq, e0, e1, e2, e3, e4, QueryInput.reference]
    rfl
  · rw [WqDxRefIdeal.Read.val_main_v41_eq, e0, e2, e4, QueryInput.reference_weight]
    rfl

/-- The gradient in the mixers' input, through its norm, and the norm weight's. -/
theorem column_input : Cert.algebraic_InDxIdeal_InDxRefIdeal := by
  intro m ρ m' ρ' _ hagree
  refine ⟨ColumnInput.DX m, ColumnInput.GW m, ColumnInput.run m ρ,
    (θ_run InDxRefIdeal.defs _ _).mono (fun r h c => ?_) (InDxRefIdeal.Value.run m' ρ')⟩
  obtain ⟨e0, e1, e2, e3, e4⟩ := hagree c
  refine ⟨(h c).1.trans ?_, (h c).2.1.trans ?_, (h c).2.2⟩
  · rw [InDxRefIdeal.Read.val_main_v40_eq, e0, e1, e2, e3, e4, ColumnInput.reference]
    rfl
  · rw [InDxRefIdeal.Read.val_main_v41_eq, e0, e2, e4, ColumnInput.reference_weight]
    rfl

end Cert.Proof.Inputs

end
-- ==== Proof.Columns.lean ====
/-
  The product before the two mixers, at the columns that hold no gate: the kernel's block by block, and the reference's, are one product.
-/
module

public import proofs.«01_k».proof.Proof.Gen.InIdeal.Value
public import proofs.«01_k».proof.Proof.Gen.InRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.Columns

open Idealize.ShloMosaic Idealize.ShloMosaic.TcCoe Idealize.ShloMosaic.Pipeline Idealize.SL.Sem Cert.InIdeal Cert.InIdeal.Gen

theorem hz : (![0, 0] : Fin 2 → Nat) = fun _ => 0 := funext fun a => by fin_cases a <;> rfl

/-- What a point leaves in its block. -/
theorem block (i : grid0.Coords) (a3 : Memref sig .tc .vmem S1024x1024 .bf16) (h3 : a3.IsWhole)
    (a4 : Memref sig .tc .vmem S1024x1664 .bf16) (h4 : a4.IsWhole) (a5 : Memref sig .tc .vmem S1024x1664 .bf16) (h5 : a5.IsWhole)
    (c : Dev nD) (x0 : Vec Ideal S1024x1024 .bf16) (x1 : Vec Ideal S1024x1664 .bf16) (r : Fin 1024) (l : Fin 1664) :
    out0_A_2 c i a3 h3 a4 h4 a5 h5 x0 x1 (ix2 r l) = ∑ k : Fin 1024, x0 (ix2 r k) * x1 (ix2 k l) := by
  unfold out0_A_2
  rw [View.read_writes_eq_canon _ _ _ (cover0_A_2 c i a3 h3 a4 h4 a5 h5 x0 x1)]
  unfold kernelRun0_A
  dsimp only
  sl_unfold_words
  simp only [View.readAt_eq_ld, h3.read_unread, h4.read_unread, View.ld_unit_zero (S := S1024x1024) hz,
    View.ld_unit_zero (S := S1024x1664) hz, View.canon_unit_zero (S := S1024x1664) hz]
  unfold k0_pay1
  pointwise

variable (m : (b : Loc nD τ sig) → Buf (Elt Ideal) b) (c : Dev nD)

/-- The two arguments, entry by entry. -/
abbrev input (t : Fin 8192) (k : Fin 1024) : EReal := m ((c : Thread nD τ).loc main_arg0) (ix2 t k)
abbrev mat (k : Fin 1024) (l : Fin 6912) : EReal := m ((c : Thread nD τ).loc main_arg1) (ix2 k l)

def row (n : ℕ) (r : Fin 1024) : Fin 8192 := ⟨n / 4 % 8 * 1024 + r.val, by have := r.isLt; omega⟩
def col (n : ℕ) (l : Fin 1664) : Fin 6656 := ⟨n % 4 * 1664 + l.val, by have := l.isLt; omega⟩

/-- The columns taken are the first of the matrix. -/
def into (l : Fin 6656) : Fin 6912 := ⟨l.val, by have := l.isLt; omega⟩

theorem idx0 : ∀ t : Fin cfg0.N, win0_0.index t = ![t.val / 4 % 8, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4 % 8, t.val % 4] := (by decide +kernel : ∀ t : Fin grid0.N, _)

abbrev in0 (t : Fin cfg0.N) : Vec Ideal S1024x1024 .bf16 := iblk m c 0 t
abbrev in1 (t : Fin cfg0.N) : Vec Ideal S1024x1664 .bf16 := X0_1 m c t

theorem blk0 (t : Fin cfg0.N) (r k : Fin 1024) : in0 m c t (ix2 r k) = input m c (row t.val r) k := by
  blk_simp [in0, in1, iblk]
  rw [V_main_arg0]
  refine congrArg _ (funext fun a => Fin.ext ?_)
  match a with
  | ⟨0, _⟩ => blk_simp [idx0]; rfl
  | ⟨1, _⟩ => blk_simp [idx0]

theorem blk1 (t : Fin cfg0.N) (k : Fin 1024) (l : Fin 1664) : in1 m c t (ix2 k l) = mat m c k (into (col t.val l)) := by
  unfold in1 X0_1 Pipeline.Window.fill
  rw [dif_pos (moved0_1 t (ix2 k l))]
  blk_simp [iblk]
  rw [V_main_arg1]
  refine congrArg _ (funext fun a => Fin.ext ?_)
  match a with
  | ⟨0, _⟩ => blk_simp [idx1]
  | ⟨1, _⟩ => blk_simp [idx1]; rfl

/-- The product. -/
def P : (⟨2, ![8192, 6656]⟩ : Shape).Idx → EReal := fun i => ∑ k : Fin 1024, input m c (i 0) k * mat m c k (into (i 1))

theorem out2 (t : Fin cfg0.N) (r : Fin 1024) (l : Fin 1664) :
    outsAt0 m c t (ix2 r l) = P m c (ix2 (row t.val r) (col t.val l)) := by
  unfold outsAt0
  exact (block _ _ _ _ _ _ _ c _ _ r l).trans (Finset.sum_congr rfl fun k _ =>
    congrArg₂ (· * ·) (blk0 m c t r k) (blk1 m c t k l))

theorem final : (dats m 0 c).arrAt 2 cfg0.N = P m c := by
  refine (dats m 0 c).arrAt_eq_of_covers 2 _ (by decide +kernel) fun t _ y => ?_
  blk_simp
  rw [after0_2, eq_ix2 y]
  refine (out2 m c t (y 0) (y 1)).trans (congrArg (P m c) (funext fun a => Fin.ext ?_))
  match a with
  | ⟨0, _⟩ => blk_simp [idx2]; rfl
  | ⟨1, _⟩ => blk_simp [idx2]; rfl

/-- The run: the product, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = P m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference's product. -/
theorem reference (x0 : S8192x1024.Idx → EReal) (x1 : S1024x6912.Idx → EReal) :
    InRefIdeal.Read.val_main_v4 (F := Ideal) x0 x1 = fun i => ∑ k : Fin 1024, x0 (ix2 (i 0) k) * x1 (ix2 k (into (i 1))) := by
  funext i
  rw [InRefIdeal.Read.val_main_v4_apply, InRefIdeal.Read.val_main_v3_apply, InRefIdeal.Read.val_main_v2_apply]
  refine Finset.sum_congr rfl fun k _ => ?_
  rw [InRefIdeal.Read.val_main_v0_apply, InRefIdeal.Read.val_main_v1_apply, eq_ix2 (InRefIdeal.Read.lidx_main_v2 _ k),
    eq_ix2 (InRefIdeal.Read.ridx_main_v2 _ k)]
  rfl

end Cert.Proof.Columns

end
-- ==== Proof.Queries.lean ====
/-
  The queries of the cross-attention: the kernel's product block by block, and the reference's, are one product.
-/
module

public import proofs.«01_k».proof.Proof.Gen.WqIdeal.Value
public import proofs.«01_k».proof.Proof.Gen.WqRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.Queries

open Idealize.ShloMosaic Idealize.ShloMosaic.TcCoe Idealize.ShloMosaic.Pipeline Idealize.SL.Sem Cert.WqIdeal Cert.WqIdeal.Gen

theorem hz : (![0, 0] : Fin 2 → Nat) = fun _ => 0 := funext fun a => by fin_cases a <;> rfl

/-- What a point leaves in its block. -/
theorem block (x0 x1 : Vec Ideal S1024x1024 .bf16) (r l : Fin 1024) :
    out0_2 x0 x1 (ix2 r l) = ∑ k : Fin 1024, x0 (ix2 r k) * x1 (ix2 k l) := by
  unfold out0_2
  simp only [View.ld_unit_zero (S := S1024x1024) hz, View.canon_unit_zero (S := S1024x1024) hz]
  unfold k0_pay1
  pointwise

variable (m : (b : Loc nD τ sig) → Buf (Elt Ideal) b) (c : Dev nD)

/-- The two arguments, entry by entry. -/
abbrev input (t : Fin 8192) (k : Fin 1024) : EReal := m ((c : Thread nD τ).loc main_arg0) (ix2 t k)
abbrev mat (k l : Fin 1024) : EReal := m ((c : Thread nD τ).loc main_arg1) (ix2 k l)

def row (n : ℕ) (r : Fin 1024) : Fin 8192 := ⟨n % 8 * 1024 + r.val, by have := r.isLt; omega⟩

theorem idx0 : ∀ t : Fin cfg0.N, win0_0.index t = ![t.val % 8, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 8, 0] := (by decide +kernel : ∀ t : Fin grid0.N, _)

abbrev in0 (t : Fin cfg0.N) : Vec Ideal S1024x1024 .bf16 := iblk m c 0 t
abbrev in1 (t : Fin cfg0.N) : Vec Ideal S1024x1024 .bf16 := iblk m c 1 t

theorem blk0 (t : Fin cfg0.N) (r k : Fin 1024) : in0 m c t (ix2 r k) = input m c (row t.val r) k := by
  blk_simp [in0, in1, iblk]
  rw [V_main_arg0]
  refine congrArg _ (funext fun a => Fin.ext ?_)
  match a with
  | ⟨0, _⟩ => blk_simp [idx0]; rfl
  | ⟨1, _⟩ => blk_simp [idx0]

theorem blk1 (t : Fin cfg0.N) (k l : Fin 1024) : in1 m c t (ix2 k l) = mat m c k l := by
  blk_simp [in0, in1, iblk]
  rw [V_main_arg1]
  refine congrArg _ (funext fun a => Fin.ext ?_)
  match a with
  | ⟨0, _⟩ => blk_simp [idx1]
  | ⟨1, _⟩ => blk_simp [idx1]

/-- The product. -/
def Q : (⟨2, ![8192, 1024]⟩ : Shape).Idx → EReal := fun i => ∑ k : Fin 1024, input m c (i 0) k * mat m c k (i 1)

theorem final : (dats m 0 c).arrAt 2 cfg0.N = Q m c := by
  refine (dats m 0 c).arrAt_eq_of_covers 2 _ (by decide +kernel) fun t _ y => ?_
  blk_simp
  rw [after0_2, eq_ix2 y]
  refine ((block (in0 m c t) (in1 m c t) (y 0) (y 1)).trans (Finset.sum_congr rfl fun k _ =>
    congrArg₂ (· * ·) (blk0 m c t (y 0) k) (blk1 m c t k (y 1)))).trans
    (congrArg (Q m c) (funext fun a => Fin.ext ?_ : ix2 (row t.val (y 0)) (y 1) = _))
  match a with
  | ⟨0, _⟩ => blk_simp [idx2]; rfl
  | ⟨1, _⟩ => blk_simp [idx2]

/-- The run: the product, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = Q m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference's product. -/
theorem reference (x0 : S8192x1024.Idx → EReal) (x1 : S1024x1024.Idx → EReal) :
    WqRefIdeal.Read.val_main_v3 (F := Ideal) x0 x1 = fun i => ∑ k : Fin 1024, x0 (ix2 (i 0) k) * x1 (ix2 k (i 1)) := by
  funext i
  rw [WqRefIdeal.Read.val_main_v3_apply, WqRefIdeal.Read.val_main_v2_apply]
  refine Finset.sum_congr rfl fun k _ => ?_
  rw [WqRefIdeal.Read.val_main_v0_apply, WqRefIdeal.Read.val_main_v1_apply, eq_ix2 (WqRefIdeal.Read.lidx_main_v2 i k),
    eq_ix2 (WqRefIdeal.Read.ridx_main_v2 i k)]
  rfl

end Cert.Proof.Queries

end
-- ==== Proof.Mixed.lean ====
/-
  The mixer's output projection, added to the residual and normalised: the kernel's blocks and the reference's are the
  sum of the input and one product, and that sum's rows over their root mean square, times the norm weight.
-/
module

public import proofs.«01_k».proof.Proof.Norm
public import proofs.«01_k».proof.Proof.Gen.OutIdeal.Value
public import proofs.«01_k».proof.Proof.Gen.OutRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.Mixed

open Idealize.ShloMosaic Idealize.ShloMosaic.TcCoe Idealize.ShloMosaic.Pipeline Idealize.SL.Sem Cert.OutIdeal Cert.OutIdeal.Gen

theorem hz : (![0, 0] : Fin 2 → Nat) = fun _ => 0 := funext fun a => by fin_cases a <;> rfl

/-- A row's length and the constant of the norm. -/
abbrev len : EReal := Ideal.ofBits .f32 0x44800000#32
abbrev eps : EReal := Ideal.ofBits .f32 0x358637BD#32

/-- A row over its root mean square, times the norm weight. -/
def normed (x w : Fin 1024 → EReal) (j : Fin 1024) : EReal := x j * Norm.inv len eps x * w j

section Body

variable (x0 : Vec Ideal S512x2048 .bf16) (x1 : Vec Ideal S2048x1024 .bf16) (x2 : Vec Ideal S512x1024 .f32)
  (x3 : Vec Ideal S1x1024 .f32) (r : Fin 512) (j : Fin 1024)

/-- A point's sum, -/
def part (r : Fin 512) (j : Fin 1024) : EReal := (∑ k : Fin 2048, x0 (ix2 r k) * x1 (ix2 k j)) + x2 (ix2 r j)

theorem sum : k0_pay1 x1 x0 x2 (ix2 r j) = part x0 x1 x2 r j := by
  unfold k0_pay1
  pointwise
  rfl

theorem scaled (y : Fin 1024 → EReal) (hy : ∀ l, k0_pay1 x1 x0 x2 (ix2 r l) = y l) :
    k0_pay2 x1 x0 x2 x3 (ix2 r j) = normed y (fun l => x3 (ix2 0 l)) j := by
  obtain rfl : y = fun l => k0_pay1 x1 x0 x2 (ix2 r l) := funext fun l => (hy l).symm
  unfold k0_pay2
  generalize k0_pay1 x1 x0 x2 = u
  pointwise
  rfl

/-- what it leaves in its first block, and in its second. -/
theorem block4 : out0_4 x0 x1 x2 x3 (ix2 r j) = part x0 x1 x2 r j := by
  unfold out0_4
  simp only [View.ld_unit_zero (S := S512x2048) hz, View.ld_unit_zero (S := S2048x1024) hz, View.ld_unit_zero (S := S512x1024) hz,
    View.canon_unit_zero (S := S512x1024) hz]
  exact sum x0 x1 x2 r j

theorem block5 : out0_5 x0 x1 x2 x3 (ix2 r j) = normed (part x0 x1 x2 r) (fun l => x3 (ix2 0 l)) j := by
  unfold out0_5
  simp only [View.ld_unit_zero (S := S512x2048) hz, View.ld_unit_zero (S := S2048x1024) hz, View.ld_unit_zero (S := S512x1024) hz,
    View.ld_unit_zero (S := S1x1024) hz, View.canon_unit_zero (S := S512x1024) hz]
  exact scaled x0 x1 x2 x3 r j _ fun l => sum x0 x1 x2 r l

end Body

variable (m : (b : Loc nD τ sig) → Buf (Elt Ideal) b) (c : Dev nD)

/-- The arguments, entry by entry. -/
abbrev along (t : Fin 8192) (j : Fin 1024) : EReal := m ((c : Thread nD τ).loc main_arg0) (ix2 t j)
abbrev input (t : Fin 8192) (k : Fin 2048) : EReal := m ((c : Thread nD τ).loc main_arg1) (ix2 t k)
abbrev mat (k : Fin 2048) (j : Fin 1024) : EReal := m ((c : Thread nD τ).loc main_arg2) (ix2 k j)
abbrev scale (j : Fin 1024) : EReal := m ((c : Thread nD τ).loc main_arg3) (ix1 j)

theorem reshaped (j : Fin 1024) : V m c main_v0 (ix2 0 j) = scale m c j := by
  have e : V m c main_v0 = (shapeCast S1x1024 (m ((c : Thread nD τ).loc main_arg3) : FVec Ideal S1024 .f32)
      shapeCasts_S1024_S1x1024 : FVec Ideal S1x1024 .f32) := by
    unfold V
    simp only [hostOps0, List.flatten_cons, List.flatten_nil, List.append_nil, List.cons_append, List.nil_append]
    after_results
    rfl
  rw [e]
  pointwise

def row (n : ℕ) (r : Fin 512) : Fin 8192 := ⟨n % 16 * 512 + r.val, by have := r.isLt; omega⟩

theorem idx0 : ∀ t : Fin cfg0.N, win0_0.index t = ![t.val % 16, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 16, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val % 16, 0] := (by decide +kernel : ∀ t : Fin grid0.N, _)
theorem idx5 : ∀ t : Fin cfg0.N, win0_5.index t = ![t.val % 16, 0] := (by decide +kernel : ∀ t : Fin grid0.N, _)

/-- The blocks a point reads. -/
abbrev in0 (t : Fin cfg0.N) : Vec Ideal S512x2048 .bf16 := iblk m c 0 t
abbrev in1 (t : Fin cfg0.N) : Vec Ideal S2048x1024 .bf16 := iblk m c 1 t
abbrev in2 (t : Fin cfg0.N) : Vec Ideal S512x1024 .f32 := iblk m c 2 t
abbrev in3 (t : Fin cfg0.N) : Vec Ideal S1x1024 .f32 := iblk m c 3 t

theorem blk0 (t : Fin cfg0.N) (r : Fin 512) (k : Fin 2048) : in0 m c t (ix2 r k) = input m c (row t.val r) k := by
  blk_simp [in0, iblk]
  rw [V_main_arg1]
  refine congrArg _ (funext fun a => Fin.ext ?_)
  match a with
  | ⟨0, _⟩ => blk_simp [idx0]; rfl
  | ⟨1, _⟩ => blk_simp [idx0]

theorem blk1 (t : Fin cfg0.N) (k : Fin 2048) (j : Fin 1024) : in1 m c t (ix2 k j) = mat m c k j := by
  blk_simp [in1, iblk]
  rw [V_main_arg2]
  refine congrArg _ (funext fun a => Fin.ext ?_)
  match a with
  | ⟨0, _⟩ => blk_simp [idx1]
  | ⟨1, _⟩ => blk_simp [idx1]

theorem blk2 (t : Fin cfg0.N) (r : Fin 512) (j : Fin 1024) : in2 m c t (ix2 r j) = along m c (row t.val r) j := by
  blk_simp [in2, iblk]
  rw [V_main_arg0]
  refine congrArg _ (funext fun a => Fin.ext ?_)
  match a with
  | ⟨0, _⟩ => blk_simp [idx2]; rfl
  | ⟨1, _⟩ => blk_simp [idx2]

theorem blk3 (t : Fin cfg0.N) (j : Fin 1024) : in3 m c t (ix2 0 j) = scale m c j := by
  rw [← reshaped]
  blk_simp [in3, iblk]
  refine congrArg _ (funext fun a => Fin.ext ?_)
  match a with
  | ⟨0, _⟩ => blk_simp [idx3]
  | ⟨1, _⟩ => blk_simp [idx3]

/-- The sum and the normalised sum. -/
def X (t : Fin 8192) (j : Fin 1024) : EReal := (∑ k : Fin 2048, input m c t k * mat m c k j) + along m c t j
def X1 : (⟨2, ![8192, 1024]⟩ : Shape).Idx → EReal := fun i => X m c (i 0) (i 1)
def H : (⟨2, ![8192, 1024]⟩ : Shape).Idx → EReal := fun i => normed (X m c (i 0)) (scale m c) (i 1)

theorem part_eq (t : Fin cfg0.N) (r : Fin 512) (j : Fin 1024) :
    part (in0 m c t) (in1 m c t) (in2 m c t) r j = X m c (row t.val r) j :=
  congrArg₂ (· + ·) (Finset.sum_congr rfl fun k _ => congrArg₂ (· * ·) (blk0 m c t r k) (blk1 m c t k j)) (blk2 m c t r j)

theorem final4 : (dats m 0 c).arrAt 4 cfg0.N = X1 m c := by
  refine (dats m 0 c).arrAt_eq_of_covers 4 _ (by decide +kernel) fun t _ y => ?_
  blk_simp
  rw [after0_4, eq_ix2 y]
  refine ((block4 (in0 m c t) (in1 m c t) (in2 m c t) (in3 m c t) (y 0) (y 1)).trans (part_eq m c t (y 0) (y 1))).trans
    (congrArg (X1 m c) (funext fun a => Fin.ext ?_ : ix2 (row t.val (y 0)) (y 1) = _))
  match a with
  | ⟨0, _⟩ => blk_simp [idx4]; rfl
  | ⟨1, _⟩ => blk_simp [idx4]

theorem normed_eq (t : Fin cfg0.N) (r : Fin 512) (j : Fin 1024) :
    normed (part (in0 m c t) (in1 m c t) (in2 m c t) r) (fun l => in3 m c t (ix2 0 l)) j = H m c (ix2 (row t.val r) j) := by
  rw [show part (in0 m c t) (in1 m c t) (in2 m c t) r = X m c (row t.val r) from funext fun l => part_eq m c t r l,
    show (fun l => in3 m c t (ix2 0 l)) = scale m c from funext fun l => blk3 m c t l]
  rfl

theorem final5 : (dats m 0 c).arrAt 5 cfg0.N = H m c := by
  refine (dats m 0 c).arrAt_eq_of_covers 5 _ (by decide +kernel) fun t _ y => ?_
  blk_simp
  rw [after0_5, eq_ix2 y]
  refine ((block5 (in0 m c t) (in1 m c t) (in2 m c t) (in3 m c t) (y 0) (y 1)).trans (normed_eq m c t (y 0) (y 1))).trans
    (congrArg (H m c) (funext fun a => Fin.ext ?_))
  match a with
  | ⟨0, _⟩ => blk_simp [idx5]; rfl
  | ⟨1, _⟩ => blk_simp [idx5]

/-- The run: the sum and the normalised sum, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1_0) = X1 m c
      ∧ r.2.mem ((c : Thread nD τ).loc main_v1_1) = H m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

section Reference

open OutRefIdeal.Read

variable (x0 : S8192x1024.Idx → EReal) (x1 : S8192x2048.Idx → EReal) (x2 : S2048x1024.Idx → EReal) (x3 : S1024.Idx → EReal)

/-- The reference's sum, -/
def added (t : Fin 8192) (j : Fin 1024) : EReal := (∑ k : Fin 2048, x1 (ix2 t k) * x2 (ix2 k j)) + x0 (ix2 t j)

theorem ref_sum (t : Fin 8192) (j : Fin 1024) : val_main_v3 (F := Ideal) x0 x1 x2 (ix2 t j) = added x0 x1 x2 t j := by
  rw [val_main_v3_apply, val_main_v2_apply]
  refine (add_comm _ _).trans (congrArg (· + _) (Finset.sum_congr rfl fun k _ => ?_))
  rw [val_main_v0_apply, val_main_v1_apply, eq_ix2 (lidx_main_v2 (ix2 t j) k), eq_ix2 (ridx_main_v2 (ix2 t j) k)]
  rfl

/-- its rows' inverse root mean squares, -/
theorem ref_inv (t : Fin 8192) : val_main_v11 (F := Ideal) x0 x1 x2 (ix2 t 0) = Norm.inv len eps (added x0 x1 x2 t) := by
  rw [val_main_v11_apply, val_main_v10_apply, val_main_v8_apply, val_main_v6_apply, val_main_v5_apply, val_main_cst_apply,
    val_main_v7_apply, val_main_cst_0_apply, val_main_v9_apply, val_main_cst_1_apply]
  show Ideal.rsqrt (Ideal.div (Ideal.ofBits .f32 0x00000000#32 + _) _ + _) = _
  rw [Rows.ofBits_zero, zero_add]
  refine congrArg (fun s => Ideal.rsqrt (Ideal.div s len + eps)) (Finset.sum_congr rfl fun k _ => ?_)
  rw [val_main_v4_apply, eq_ix2 (idx_main_v5 _ k)]
  exact congrArg₂ (· * ·) (ref_sum x0 x1 x2 t k) (ref_sum x0 x1 x2 t k)

/-- and the normalised sum, -/
theorem ref_normed (t : Fin 8192) (j : Fin 1024) : val_main_v17 (F := Ideal) x0 x1 x2 x3 (ix2 t j)
    = normed (added x0 x1 x2 t) (fun l => x3 (ix1 l)) j := by
  rw [val_main_v17_apply, val_main_v16_apply, val_main_v13_apply, ref_sum, val_main_v12_apply, eq_ix2 (idx_main_v12 _),
    val_main_v15_apply, val_main_v14_apply, eq_ix1 (idx_main_v14 _)]
  exact congrArg (fun z => added x0 x1 x2 t j * z * x3 (ix1 j)) (ref_inv x0 x1 x2 t)

/-- whole. -/
theorem reference_sum : val_main_v3 (F := Ideal) x0 x1 x2 = fun i => added x0 x1 x2 (i 0) (i 1) :=
  funext fun i => (congrArg _ (eq_ix2 i)).trans (ref_sum x0 x1 x2 (i 0) (i 1))

theorem reference : val_main_v17 (F := Ideal) x0 x1 x2 x3 = fun i => normed (added x0 x1 x2 (i 0)) (fun l => x3 (ix1 l)) (i 1) :=
  funext fun i => (congrArg _ (eq_ix2 i)).trans (ref_normed x0 x1 x2 x3 (i 0) (i 1))

end Reference

end Cert.Proof.Mixed

end
-- ==== Proof.Attended.lean ====
/-
  The cross-attention's output projection, added to the residual and normalised: the kernel's blocks and the reference's are the
  sum of the input and one product, and that sum's rows over their root mean square, times the norm weight.
-/
module

public import proofs.«01_k».proof.Proof.Norm
public import proofs.«01_k».proof.Proof.Gen.WoIdeal.Value
public import proofs.«01_k».proof.Proof.Gen.WoRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.Attended

open Idealize.ShloMosaic Idealize.ShloMosaic.TcCoe Idealize.ShloMosaic.Pipeline Idealize.SL.Sem Cert.WoIdeal Cert.WoIdeal.Gen

theorem hz : (![0, 0] : Fin 2 → Nat) = fun _ => 0 := funext fun a => by fin_cases a <;> rfl

/-- A row's length and the constant of the norm. -/
abbrev len : EReal := Ideal.ofBits .f32 0x44800000#32
abbrev eps : EReal := Ideal.ofBits .f32 0x358637BD#32

/-- A row over its root mean square, times the norm weight. -/
def normed (x w : Fin 1024 → EReal) (j : Fin 1024) : EReal := x j * Norm.inv len eps x * w j

section Body

variable (x0 : Vec Ideal S512x1024 .bf16) (x1 : Vec Ideal S1024x1024 .bf16) (x2 : Vec Ideal S512x1024 .f32)
  (x3 : Vec Ideal S1x1024 .f32) (r : Fin 512) (j : Fin 1024)

/-- A point's sum, -/
def part (r : Fin 512) (j : Fin 1024) : EReal := (∑ k : Fin 1024, x0 (ix2 r k) * x1 (ix2 k j)) + x2 (ix2 r j)

theorem sum : k0_pay1 x1 x0 x2 (ix2 r j) = part x0 x1 x2 r j := by
  unfold k0_pay1
  pointwise
  rfl

theorem scaled (y : Fin 1024 → EReal) (hy : ∀ l, k0_pay1 x1 x0 x2 (ix2 r l) = y l) :
    k0_pay2 x1 x0 x2 x3 (ix2 r j) = normed y (fun l => x3 (ix2 0 l)) j := by
  obtain rfl : y = fun l => k0_pay1 x1 x0 x2 (ix2 r l) := funext fun l => (hy l).symm
  unfold k0_pay2
  generalize k0_pay1 x1 x0 x2 = u
  pointwise
  rfl

/-- what it leaves in its first block, and in its second. -/
theorem block4 : out0_4 x0 x1 x2 x3 (ix2 r j) = part x0 x1 x2 r j := by
  unfold out0_4
  simp only [View.ld_unit_zero (S := S512x1024) hz, View.ld_unit_zero (S := S1024x1024) hz,
    View.canon_unit_zero (S := S512x1024) hz]
  exact sum x0 x1 x2 r j

theorem block5 : out0_5 x0 x1 x2 x3 (ix2 r j) = normed (part x0 x1 x2 r) (fun l => x3 (ix2 0 l)) j := by
  unfold out0_5
  simp only [View.ld_unit_zero (S := S512x1024) hz, View.ld_unit_zero (S := S1024x1024) hz,
    View.ld_unit_zero (S := S1x1024) hz, View.canon_unit_zero (S := S512x1024) hz]
  exact scaled x0 x1 x2 x3 r j _ fun l => sum x0 x1 x2 r l

end Body

variable (m : (b : Loc nD τ sig) → Buf (Elt Ideal) b) (c : Dev nD)

/-- The arguments, entry by entry. -/
abbrev along (t : Fin 8192) (j : Fin 1024) : EReal := m ((c : Thread nD τ).loc main_arg0) (ix2 t j)
abbrev input (t : Fin 8192) (k : Fin 1024) : EReal := m ((c : Thread nD τ).loc main_arg1) (ix2 t k)
abbrev mat (k : Fin 1024) (j : Fin 1024) : EReal := m ((c : Thread nD τ).loc main_arg2) (ix2 k j)
abbrev scale (j : Fin 1024) : EReal := m ((c : Thread nD τ).loc main_arg3) (ix1 j)

theorem reshaped (j : Fin 1024) : V m c main_v0 (ix2 0 j) = scale m c j := by
  have e : V m c main_v0 = (shapeCast S1x1024 (m ((c : Thread nD τ).loc main_arg3) : FVec Ideal S1024 .f32)
      shapeCasts_S1024_S1x1024 : FVec Ideal S1x1024 .f32) := by
    unfold V
    simp only [hostOps0, List.flatten_cons, List.flatten_nil, List.append_nil, List.cons_append, List.nil_append]
    after_results
    rfl
  rw [e]
  pointwise

def row (n : ℕ) (r : Fin 512) : Fin 8192 := ⟨n % 16 * 512 + r.val, by have := r.isLt; omega⟩

theorem idx0 : ∀ t : Fin cfg0.N, win0_0.index t = ![t.val % 16, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 16, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val % 16, 0] := (by decide +kernel : ∀ t : Fin grid0.N, _)
theorem idx5 : ∀ t : Fin cfg0.N, win0_5.index t = ![t.val % 16, 0] := (by decide +kernel : ∀ t : Fin grid0.N, _)

/-- The blocks a point reads. -/
abbrev in0 (t : Fin cfg0.N) : Vec Ideal S512x1024 .bf16 := iblk m c 0 t
abbrev in1 (t : Fin cfg0.N) : Vec Ideal S1024x1024 .bf16 := iblk m c 1 t
abbrev in2 (t : Fin cfg0.N) : Vec Ideal S512x1024 .f32 := iblk m c 2 t
abbrev in3 (t : Fin cfg0.N) : Vec Ideal S1x1024 .f32 := iblk m c 3 t

theorem blk0 (t : Fin cfg0.N) (r : Fin 512) (k : Fin 1024) : in0 m c t (ix2 r k) = input m c (row t.val r) k := by
  blk_simp [in0, iblk]
  rw [V_main_arg1]
  refine congrArg _ (funext fun a => Fin.ext ?_)
  match a with
  | ⟨0, _⟩ => blk_simp [idx0]; rfl
  | ⟨1, _⟩ => blk_simp [idx0]

theorem blk1 (t : Fin cfg0.N) (k : Fin 1024) (j : Fin 1024) : in1 m c t (ix2 k j) = mat m c k j := by
  blk_simp [in1, iblk]
  rw [V_main_arg2]
  refine congrArg _ (funext fun a => Fin.ext ?_)
  match a with
  | ⟨0, _⟩ => blk_simp [idx1]
  | ⟨1, _⟩ => blk_simp [idx1]

theorem blk2 (t : Fin cfg0.N) (r : Fin 512) (j : Fin 1024) : in2 m c t (ix2 r j) = along m c (row t.val r) j := by
  blk_simp [in2, iblk]
  rw [V_main_arg0]
  refine congrArg _ (funext fun a => Fin.ext ?_)
  match a with
  | ⟨0, _⟩ => blk_simp [idx2]; rfl
  | ⟨1, _⟩ => blk_simp [idx2]

theorem blk3 (t : Fin cfg0.N) (j : Fin 1024) : in3 m c t (ix2 0 j) = scale m c j := by
  rw [← reshaped]
  blk_simp [in3, iblk]
  refine congrArg _ (funext fun a => Fin.ext ?_)
  match a with
  | ⟨0, _⟩ => blk_simp [idx3]
  | ⟨1, _⟩ => blk_simp [idx3]

/-- The sum and the normalised sum. -/
def X (t : Fin 8192) (j : Fin 1024) : EReal := (∑ k : Fin 1024, input m c t k * mat m c k j) + along m c t j
def X1 : (⟨2, ![8192, 1024]⟩ : Shape).Idx → EReal := fun i => X m c (i 0) (i 1)
def H : (⟨2, ![8192, 1024]⟩ : Shape).Idx → EReal := fun i => normed (X m c (i 0)) (scale m c) (i 1)

theorem part_eq (t : Fin cfg0.N) (r : Fin 512) (j : Fin 1024) :
    part (in0 m c t) (in1 m c t) (in2 m c t) r j = X m c (row t.val r) j :=
  congrArg₂ (· + ·) (Finset.sum_congr rfl fun k _ => congrArg₂ (· * ·) (blk0 m c t r k) (blk1 m c t k j)) (blk2 m c t r j)

theorem final4 : (dats m 0 c).arrAt 4 cfg0.N = X1 m c := by
  refine (dats m 0 c).arrAt_eq_of_covers 4 _ (by decide +kernel) fun t _ y => ?_
  blk_simp
  rw [after0_4, eq_ix2 y]
  refine ((block4 (in0 m c t) (in1 m c t) (in2 m c t) (in3 m c t) (y 0) (y 1)).trans (part_eq m c t (y 0) (y 1))).trans
    (congrArg (X1 m c) (funext fun a => Fin.ext ?_ : ix2 (row t.val (y 0)) (y 1) = _))
  match a with
  | ⟨0, _⟩ => blk_simp [idx4]; rfl
  | ⟨1, _⟩ => blk_simp [idx4]

theorem normed_eq (t : Fin cfg0.N) (r : Fin 512) (j : Fin 1024) :
    normed (part (in0 m c t) (in1 m c t) (in2 m c t) r) (fun l => in3 m c t (ix2 0 l)) j = H m c (ix2 (row t.val r) j) := by
  rw [show part (in0 m c t) (in1 m c t) (in2 m c t) r = X m c (row t.val r) from funext fun l => part_eq m c t r l,
    show (fun l => in3 m c t (ix2 0 l)) = scale m c from funext fun l => blk3 m c t l]
  rfl

theorem final5 : (dats m 0 c).arrAt 5 cfg0.N = H m c := by
  refine (dats m 0 c).arrAt_eq_of_covers 5 _ (by decide +kernel) fun t _ y => ?_
  blk_simp
  rw [after0_5, eq_ix2 y]
  refine ((block5 (in0 m c t) (in1 m c t) (in2 m c t) (in3 m c t) (y 0) (y 1)).trans (normed_eq m c t (y 0) (y 1))).trans
    (congrArg (H m c) (funext fun a => Fin.ext ?_))
  match a with
  | ⟨0, _⟩ => blk_simp [idx5]; rfl
  | ⟨1, _⟩ => blk_simp [idx5]

/-- The run: the sum and the normalised sum, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1_0) = X1 m c
      ∧ r.2.mem ((c : Thread nD τ).loc main_v1_1) = H m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

section Reference

open WoRefIdeal.Read

variable (x0 : S8192x1024.Idx → EReal) (x1 : S8192x1024.Idx → EReal) (x2 : S1024x1024.Idx → EReal) (x3 : S1024.Idx → EReal)

/-- The reference's sum, -/
def added (t : Fin 8192) (j : Fin 1024) : EReal := (∑ k : Fin 1024, x1 (ix2 t k) * x2 (ix2 k j)) + x0 (ix2 t j)

theorem ref_sum (t : Fin 8192) (j : Fin 1024) : val_main_v3 (F := Ideal) x0 x1 x2 (ix2 t j) = added x0 x1 x2 t j := by
  rw [val_main_v3_apply, val_main_v2_apply]
  refine (add_comm _ _).trans (congrArg (· + _) (Finset.sum_congr rfl fun k _ => ?_))
  rw [val_main_v0_apply, val_main_v1_apply, eq_ix2 (lidx_main_v2 (ix2 t j) k), eq_ix2 (ridx_main_v2 (ix2 t j) k)]
  rfl

/-- its rows' inverse root mean squares, -/
theorem ref_inv (t : Fin 8192) : val_main_v11 (F := Ideal) x0 x1 x2 (ix2 t 0) = Norm.inv len eps (added x0 x1 x2 t) := by
  rw [val_main_v11_apply, val_main_v10_apply, val_main_v8_apply, val_main_v6_apply, val_main_v5_apply, val_main_cst_apply,
    val_main_v7_apply, val_main_cst_0_apply, val_main_v9_apply, val_main_cst_1_apply]
  show Ideal.rsqrt (Ideal.div (Ideal.ofBits .f32 0x00000000#32 + _) _ + _) = _
  rw [Rows.ofBits_zero, zero_add]
  refine congrArg (fun s => Ideal.rsqrt (Ideal.div s len + eps)) (Finset.sum_congr rfl fun k _ => ?_)
  rw [val_main_v4_apply, eq_ix2 (idx_main_v5 _ k)]
  exact congrArg₂ (· * ·) (ref_sum x0 x1 x2 t k) (ref_sum x0 x1 x2 t k)

/-- and the normalised sum, -/
theorem ref_normed (t : Fin 8192) (j : Fin 1024) : val_main_v17 (F := Ideal) x0 x1 x2 x3 (ix2 t j)
    = normed (added x0 x1 x2 t) (fun l => x3 (ix1 l)) j := by
  rw [val_main_v17_apply, val_main_v16_apply, val_main_v13_apply, ref_sum, val_main_v12_apply, eq_ix2 (idx_main_v12 _),
    val_main_v15_apply, val_main_v14_apply, eq_ix1 (idx_main_v14 _)]
  exact congrArg (fun z => added x0 x1 x2 t j * z * x3 (ix1 j)) (ref_inv x0 x1 x2 t)

/-- whole. -/
theorem reference_sum : val_main_v3 (F := Ideal) x0 x1 x2 = fun i => added x0 x1 x2 (i 0) (i 1) :=
  funext fun i => (congrArg _ (eq_ix2 i)).trans (ref_sum x0 x1 x2 (i 0) (i 1))

theorem reference : val_main_v17 (F := Ideal) x0 x1 x2 x3 = fun i => normed (added x0 x1 x2 (i 0)) (fun l => x3 (ix1 l)) (i 1) :=
  funext fun i => (congrArg _ (eq_ix2 i)).trans (ref_normed x0 x1 x2 x3 (i 0) (i 1))

end Reference

end Cert.Proof.Attended

end
-- ==== Proof.Hidden.lean ====
/-
  The network's first layer: the kernel's blocks and the reference's are both the positive part of one product, and its
  square.
-/
module

public import proofs.«01_k».proof.Proof.Rows
public import proofs.«01_k».proof.Proof.Gen.UpIdeal.Value
public import proofs.«01_k».proof.Proof.Gen.UpRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.Hidden

open Idealize.ShloMosaic Idealize.ShloMosaic.TcCoe Idealize.ShloMosaic.Pipeline Idealize.SL.Sem Cert.UpIdeal Cert.UpIdeal.Gen

theorem hz : (![0, 0] : Fin 2 → Nat) = fun _ => 0 := funext fun a => by fin_cases a <;> rfl

section Body

variable (c : Dev nD) (i : grid0.Coords) (a3 : Memref sig .tc .vmem S1024x1024 .bf16) (h3 : a3.IsWhole)
  (a4 : Memref sig .tc .vmem S1024x4096 .bf16) (h4 : a4.IsWhole) (a5 : Memref sig .tc .vmem S1024x2048 .bf16) (h5 : a5.IsWhole)
  (a6 : Memref sig .tc .vmem S1024x2048 .bf16) (h6 : a6.IsWhole)
  (x0 : Vec Ideal S1024x1024 .bf16) (x1 : Vec Ideal S1024x4096 .bf16) (r : Fin 1024) (l : Fin 2048)

theorem positive (w : Vec Ideal S1024x2048 .bf16) :
    k0_pay1 w x0 (ix2 r l) = max (∑ k : Fin 1024, x0 (ix2 r k) * w (ix2 k l)) 0 := by
  unfold k0_pay1
  pointwise

theorem stored (w : Vec Ideal S1024x2048 .bf16) :
    k0_pay2 w x0 (ix2 r l) = max (∑ k : Fin 1024, x0 (ix2 r k) * w (ix2 k l)) 0 :=
  positive x0 r l w

theorem squared (w : Vec Ideal S1024x2048 .bf16) : k0_pay3 w x0 (ix2 r l)
    = max (∑ k : Fin 1024, x0 (ix2 r k) * w (ix2 k l)) 0 * max (∑ k : Fin 1024, x0 (ix2 r k) * w (ix2 k l)) 0 :=
  congrArg₂ (· * ·) (positive x0 r l w) (positive x0 r l w)

/-- The columns of the matrix that a point takes. -/
def wcol (i : grid0.Coords) (l : Fin 2048) : Fin 4096 :=
  ⟨2048 * (i 1).val + l.val, by have : (i 1).val < 2 := (i 1).isLt; have := l.isLt; omega⟩

/-- A point's load of them. -/
theorem load (k : Fin 1024) (l : Fin 2048) :
    View.ld x1 (Rect.unit (s := S1024x4096) (k0_off1 i) S1024x2048.size (k0_off1_inb i)) (ix2 k l) = x1 (ix2 k (wcol i l)) := by
  refine View.ld_unit_apply_of x1 _ _ _ _ _ fun a => ?_
  refine Eq.trans ?_ (congrArg (· + _) (congrFun (k0_off1_eq i) a).symm)
  have : (i 2).val = 0 := by have : (i 2).val < 1 := (i 2).isLt; omega
  match a with
  | ⟨0, _⟩ => show k.val = 1024 * (i 2).val + k.val; omega
  | ⟨1, _⟩ => rfl

/-- A point's product. -/
def part : EReal := ∑ k : Fin 1024, x0 (ix2 r k) * x1 (ix2 k (wcol i l))

theorem loaded : ∑ k : Fin 1024, x0 (ix2 r k) *
    View.ld x1 (Rect.unit (s := S1024x4096) (k0_off1 i) S1024x2048.size (k0_off1_inb i)) (ix2 k l) = part i x0 x1 r l :=
  Finset.sum_congr rfl fun k _ => congrArg (_ * ·) (load i x1 k l)

/-- What a point leaves in its two blocks. -/
theorem block2 : out0_A_2 c i a3 h3 a4 h4 a5 h5 a6 h6 x0 x1 (ix2 r l) = max (part i x0 x1 r l) 0 := by
  unfold out0_A_2
  rw [View.read_writes_eq_canon _ _ _ (cover0_A_2 c i a3 h3 a4 h4 a5 h5 a6 h6 x0 x1)]
  unfold kernelRun0_A
  dsimp only
  sl_unfold_words
  simp only [View.readAt_eq_ld, h3.read_unread, h4.read_unread,
    View.ld_unit_zero (S := S1024x1024) hz, View.canon_unit_zero (S := S1024x2048) hz]
  exact (stored x0 r l _).trans (congrArg (max · 0) (loaded i x0 x1 r l))

theorem block3 : out0_A_3 c i a3 h3 a4 h4 a5 h5 a6 h6 x0 x1 (ix2 r l)
    = max (part i x0 x1 r l) 0 * max (part i x0 x1 r l) 0 := by
  unfold out0_A_3
  rw [View.read_writes_eq_canon _ _ _ (cover0_A_3 c i a3 h3 a4 h4 a5 h5 a6 h6 x0 x1)]
  unfold kernelRun0_A
  dsimp only
  sl_unfold_words
  simp only [View.readAt_eq_ld, h3.read_unread, h4.read_unread,
    View.ld_unit_zero (S := S1024x1024) hz, View.canon_unit_zero (S := S1024x2048) hz]
  exact (squared x0 r l _).trans (congrArg (fun p => max p 0 * max p 0) (loaded i x0 x1 r l))

end Body

variable (m : (b : Loc nD τ sig) → Buf (Elt Ideal) b) (c : Dev nD)

/-- The two arguments, entry by entry. -/
abbrev input (t : Fin 8192) (k : Fin 1024) : EReal := m ((c : Thread nD τ).loc main_arg0) (ix2 t k)
abbrev mat (k : Fin 1024) (l : Fin 4096) : EReal := m ((c : Thread nD τ).loc main_arg1) (ix2 k l)

def row (n : ℕ) (r : Fin 1024) : Fin 8192 := ⟨n / 2 % 8 * 1024 + r.val, by have := r.isLt; omega⟩
def col (n : ℕ) (l : Fin 2048) : Fin 4096 := ⟨n % 2 * 2048 + l.val, by have := l.isLt; omega⟩

theorem idx0 : ∀ t : Fin cfg0.N, win0_0.index t = ![t.val / 2 % 8, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 2 % 8, t.val % 2] := (by decide +kernel : ∀ t : Fin grid0.N, _)
theorem idx3 : ∀ t : Fin cfg0.N, win0_3.index t = ![t.val / 2 % 8, t.val % 2] := (by decide +kernel : ∀ t : Fin grid0.N, _)
theorem coord : ∀ t : Fin cfg0.N, (grid0.coords t 1).val = t.val % 2 := (by decide +kernel : ∀ t : Fin grid0.N, _)

/-- The two blocks a point reads. -/
abbrev in0 (t : Fin cfg0.N) : Vec Ideal S1024x1024 .bf16 := iblk m c 0 t
abbrev in1 (t : Fin cfg0.N) : Vec Ideal S1024x4096 .bf16 := iblk m c 1 t

theorem blk0 (t : Fin cfg0.N) (r k : Fin 1024) : in0 m c t (ix2 r k) = input m c (row t.val r) k := by
  blk_simp [in0, in1, iblk]
  rw [V_main_arg0]
  refine congrArg _ (funext fun a => Fin.ext ?_)
  match a with
  | ⟨0, _⟩ => blk_simp [idx0]; rfl
  | ⟨1, _⟩ => blk_simp [idx0]

theorem blk1 (t : Fin cfg0.N) (k : Fin 1024) (l : Fin 2048) :
    in1 m c t (ix2 k (wcol (grid0.coords t) l)) = mat m c k (col t.val l) := by
  blk_simp [in0, in1, iblk]
  rw [V_main_arg1]
  refine congrArg _ (funext fun a => Fin.ext ?_)
  match a with
  | ⟨0, _⟩ => blk_simp [idx1]
  | ⟨1, _⟩ =>
    blk_simp [idx1]
    show 2048 * (grid0.coords t 1).val + l.val = t.val % 2 * 2048 + l.val
    rw [coord]
    omega

/-- The layer and its square. -/
def U : (⟨2, ![8192, 4096]⟩ : Shape).Idx → EReal := fun i => max (∑ k : Fin 1024, input m c (i 0) k * mat m c k (i 1)) 0
def U2 : (⟨2, ![8192, 4096]⟩ : Shape).Idx → EReal := fun i => U m c i * U m c i

theorem part_eq (t : Fin cfg0.N) (r : Fin 1024) (l : Fin 2048) :
    max (part (grid0.coords t) (in0 m c t) (in1 m c t) r l) 0 = U m c (ix2 (row t.val r) (col t.val l)) :=
  congrArg (max · 0) (Finset.sum_congr rfl fun k _ => congrArg₂ (· * ·) (blk0 m c t r k) (blk1 m c t k l))

theorem out2 (t : Fin cfg0.N) (r : Fin 1024) (l : Fin 2048) :
    (outsAt0 m c t).1 (ix2 r l) = U m c (ix2 (row t.val r) (col t.val l)) := by
  refine Eq.trans ?_ (part_eq m c t r l)
  simp only [outsAt0]
  exact block2 c (grid0.coords t) _ _ _ _ _ _ _ _ (in0 m c t) (in1 m c t) r l

theorem out3 (t : Fin cfg0.N) (r : Fin 1024) (l : Fin 2048) :
    (outsAt0 m c t).2 (ix2 r l) = U2 m c (ix2 (row t.val r) (col t.val l)) := by
  refine Eq.trans ?_ (congrArg₂ (· * ·) (part_eq m c t r l) (part_eq m c t r l))
  simp only [outsAt0]
  exact block3 c (grid0.coords t) _ _ _ _ _ _ _ _ (in0 m c t) (in1 m c t) r l

theorem final2 : (dats m 0 c).arrAt 2 cfg0.N = U m c := by
  refine (dats m 0 c).arrAt_eq_of_covers 2 _ (by decide +kernel) fun t _ y => ?_
  blk_simp
  rw [after0_2, eq_ix2 y]
  refine (out2 m c t (y 0) (y 1)).trans (congrArg (U m c) (funext fun a => Fin.ext ?_))
  match a with
  | ⟨0, _⟩ => blk_simp [idx2]; rfl
  | ⟨1, _⟩ => blk_simp [idx2]; rfl

theorem final3 : (dats m 0 c).arrAt 3 cfg0.N = U2 m c := by
  refine (dats m 0 c).arrAt_eq_of_covers 3 _ (by decide +kernel) fun t _ y => ?_
  blk_simp
  rw [after0_3, eq_ix2 y]
  refine (out3 m c t (y 0) (y 1)).trans (congrArg (U2 m c) (funext fun a => Fin.ext ?_))
  match a with
  | ⟨0, _⟩ => blk_simp [idx3]; rfl
  | ⟨1, _⟩ => blk_simp [idx3]; rfl

/-- The run: the layer and its square, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = U m c
      ∧ r.2.mem ((c : Thread nD τ).loc main_v0_1) = U2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2.1.trans (final3 m c), (h c).2.2⟩) (Value.run_blocks m ρ)

open UpRefIdeal.Read in
/-- The reference's layer, -/
theorem reference (x0 : S8192x1024.Idx → EReal) (x1 : S1024x4096.Idx → EReal) :
    val_main_v4 (F := Ideal) x0 x1 = fun i => max (∑ k : Fin 1024, x0 (ix2 (i 0) k) * x1 (ix2 k (i 1))) 0 := by
  funext i
  rw [val_main_v4_apply, val_main_v3_apply, val_main_v2_apply, val_main_call0_v0_apply, val_main_call0_cst_apply]
  show max _ (Ideal.ofBits .f32 0x00000000#32) = _
  rw [Rows.ofBits_zero]
  refine congrArg (max · 0) (Finset.sum_congr rfl fun k _ => ?_)
  rw [val_main_v0_apply, val_main_v1_apply, eq_ix2 (lidx_main_v2 i k), eq_ix2 (ridx_main_v2 i k)]
  rfl

open UpRefIdeal.Read in
/-- and its square. -/
theorem reference_square (x0 : S8192x1024.Idx → EReal) (x1 : S1024x4096.Idx → EReal) :
    val_main_v6 (F := Ideal) x0 x1 = fun i => max (∑ k : Fin 1024, x0 (ix2 (i 0) k) * x1 (ix2 k (i 1))) 0
      * max (∑ k : Fin 1024, x0 (ix2 (i 0) k) * x1 (ix2 k (i 1))) 0 := by
  funext i
  rw [val_main_v6_apply, val_main_v5_apply]
  exact congrArg (fun u => u * u) (congrFun (reference x0 x1) i)

end Cert.Proof.Hidden

end
-- ==== Proof.Loss.lean ====
/-
  The last product of the network with the loss behind it: the kernel accumulates the product over the second matrix's rows,
  adds the residual, and in one step takes the final norm, the squared error against the target, the loss, and the loss's
  gradients for the residual and for the norm's weight, the last two summed over the rows' blocks.
-/
module

public import proofs.«01_k».proof.Proof.Runs
public import proofs.«01_k».proof.Proof.Norm
public import proofs.«01_k».proof.Proof.Gen.DownIdeal.Value
public import proofs.«01_k».proof.Proof.Gen.DownRefIdeal.Read
public import Idealize.ShloMosaic.Lib.Pointwise
public import Idealize.ShloMosaic.Lib.Tactic

@[expose] public section

set_option maxRecDepth 16384

noncomputable section

namespace Cert.Proof.Loss

open Idealize.ShloMosaic Idealize.ShloMosaic.TcCoe Idealize.ShloMosaic.Pipeline Idealize.SL.Sem Cert.DownIdeal Cert.DownIdeal.Gen

theorem hz : (![0, 0] : Fin 2 → Nat) = fun _ => 0 := funext fun a => by fin_cases a <;> rfl

/-- A row's length, the constant of the norm, one over the length, and one half. -/
abbrev len : EReal := Ideal.ofBits .f32 0x44800000#32
abbrev eps : EReal := Ideal.ofBits .f32 0x358637BD#32
abbrev step : EReal := Ideal.ofBits .f32 0x3A800000#32
abbrev half : EReal := Ideal.ofBits .f32 0x3F000000#32

theorem step_eq : step = ((1 / 1024 : ℝ) : EReal) := by
  simp [step, Ideal.ofBits, Ideal.ieee, -EReal.coe_mul]; norm_num

theorem half_eq : half = ((1 / 2 : ℝ) : EReal) := by
  simp [half, Ideal.ofBits, Ideal.ieee, -EReal.coe_mul]; norm_num

section Row

variable (y w g : Fin 1024 → EReal)

/-- A row's error: the normed and scaled row against the target; -/
def err (l : Fin 1024) : EReal := y l * Norm.inv len eps y * w l - g l

/-- its gradient under the loss, -/
def derr (l : Fin 1024) : EReal := err y w g l * step

/-- the row's part of the loss before the half, -/
def square : EReal := Ideal.div (∑ l, err y w g l * err y w g l) len

/-- the row's gradient, and its part of the weight's. -/
def dx (j : Fin 1024) : EReal := Norm.direct len eps y (fun l => derr y w g l * w l) j
def gw (j : Fin 1024) : EReal := derr y w g j * (y j * Norm.inv len eps y)

end Row

section Payloads

variable (v8 v9 : Vec Ideal S1024x1024 .bf16) (v10 : FVec Ideal S1024x1024 .f32) (v22 v24 v40 : Vec Ideal S1024x1024 .f32)
  (v26 v76 : Vec Ideal S1x1024 .f32) (r j : Fin 1024) (y : Fin 1024 → Fin 1024 → EReal)

theorem product : k0_pay1 v8 v9 (ix2 r j) = ∑ k : Fin 1024, v9 (ix2 r k) * v8 (ix2 k j) := by
  unfold k0_pay1
  pointwise

theorem stored : k0_pay2 v8 v9 (ix2 r j) = ∑ k : Fin 1024, v9 (ix2 r k) * v8 (ix2 k j) := by
  unfold k0_pay2 k0_pay1
  pointwise

theorem added : k0_pay3 v8 v9 v22 (ix2 r j) = v22 (ix2 r j) + ∑ k : Fin 1024, v9 (ix2 r k) * v8 (ix2 k j) := by
  unfold k0_pay3 k0_pay1
  pointwise

variable (hy : ∀ r l, (v22 (ix2 r l) + v10 (ix2 r l)) + v24 (ix2 r l) = y r l)

include hy

/-- The row that is normed, -/
theorem residual (l : Fin 1024) : k0_pay9 v10 v22 v24 (ix2 r l) = y r l := by
  rw [← hy]
  unfold k0_pay9
  pointwise

/-- its inverse root, -/
theorem root : k0_pay11 v10 v22 v24 (ix2 r 0) = Norm.inv len eps (y r) := by
  have h := residual v10 v22 v24 r y hy
  unfold k0_pay11
  generalize k0_pay9 v10 v22 v24 = u at *
  obtain e : y r = fun l => u (ix2 r l) := funext fun l => (h l).symm
  rw [e]
  pointwise
  rfl

/-- the normed row, -/
theorem unit : k0_pay12 v10 v22 v24 (ix2 r j) = y r j * Norm.inv len eps (y r) := by
  rw [← root v10 v22 v24 r y hy, ← residual v10 v22 v24 r y hy]
  unfold k0_pay12
  generalize k0_pay9 v10 v22 v24 = u
  generalize k0_pay11 v10 v22 v24 = v
  pointwise

/-- and its error. -/
theorem error : k0_pay13 v10 v22 v24 v26 v40 (ix2 r j)
    = err (y r) (fun l => v26 (ix2 0 l)) (fun l => v40 (ix2 r l)) j := by
  unfold err
  rw [← unit v10 v22 v24 r j y hy]
  unfold k0_pay13 k0_pay10
  generalize k0_pay12 v10 v22 v24 = u
  pointwise

theorem error_scaled : k0_pay15 v10 v22 v24 v26 v40 (ix2 r j)
    = derr (y r) (fun l => v26 (ix2 0 l)) (fun l => v40 (ix2 r l)) j := by
  unfold derr
  rw [← error v10 v22 v24 v40 v26 r j y hy]
  unfold k0_pay15
  generalize k0_pay13 v10 v22 v24 v26 v40 = u
  pointwise

/-- A row's gradient, -/
theorem normed : k0_pay4 (k0_pay16 v10 v22 v24 v26 v40) (k0_pay17 v10 v22 v24) (ix2 r j)
    = dx (y r) (fun l => v26 (ix2 0 l)) (fun l => v40 (ix2 r l)) j := by
  have h1 := fun l => error_scaled v10 v22 v24 v40 v26 r l y hy
  have h2 := fun l => unit v10 v22 v24 r l y hy
  unfold dx Norm.direct
  simp only [← h1, ← h2]
  rw [← root v10 v22 v24 r y hy]
  unfold k0_pay4 k0_pay16 k0_pay17 k0_pay10
  generalize k0_pay15 v10 v22 v24 v26 v40 = u
  generalize k0_pay12 v10 v22 v24 = v
  generalize k0_pay11 v10 v22 v24 = w
  pointwise

/-- the weight's over a block of rows, -/
theorem columns : k0_pay5 (k0_pay12 v10 v22 v24) (k0_pay15 v10 v22 v24 v26 v40) (ix2 0 j)
    = ∑ r : Fin 1024, gw (y r) (fun l => v26 (ix2 0 l)) (fun l => v40 (ix2 r l)) j := by
  have h1 := fun r => error_scaled v10 v22 v24 v40 v26 r j y hy
  have h2 := fun r => unit v10 v22 v24 r j y hy
  unfold gw
  simp only [← h1, ← h2]
  unfold k0_pay5
  generalize k0_pay15 v10 v22 v24 v26 v40 = u
  generalize k0_pay12 v10 v22 v24 = v
  pointwise

theorem columns_added : k0_pay7 (k0_pay12 v10 v22 v24) (k0_pay15 v10 v22 v24 v26 v40) v76 (ix2 0 j)
    = v76 (ix2 0 j) + ∑ r : Fin 1024, gw (y r) (fun l => v26 (ix2 0 l)) (fun l => v40 (ix2 r l)) j := by
  rw [← columns v10 v22 v24 v40 v26 j y hy]
  unfold k0_pay7
  generalize k0_pay5 (k0_pay12 v10 v22 v24) (k0_pay15 v10 v22 v24 v26 v40) = u
  pointwise

/-- and the block's part of the loss. -/
theorem losses : k0_pay14 v10 v22 v24 v26 v40 (ix2 0 0)
    = half * ∑ r : Fin 1024, square (y r) (fun l => v26 (ix2 0 l)) (fun l => v40 (ix2 r l)) := by
  have h := fun r l => error v10 v22 v24 v40 v26 r l y hy
  unfold square
  simp only [← h]
  unfold k0_pay14
  generalize k0_pay13 v10 v22 v24 v26 v40 = u
  pointwise

theorem losses_row : k0_pay6 (k0_pay14 v10 v22 v24 v26 v40) (ix2 0 j)
    = half * ∑ r : Fin 1024, square (y r) (fun l => v26 (ix2 0 l)) (fun l => v40 (ix2 r l)) := by
  rw [← losses v10 v22 v24 v40 v26 y hy]
  unfold k0_pay6
  generalize k0_pay14 v10 v22 v24 v26 v40 = u
  pointwise

theorem losses_added : k0_pay8 (k0_pay14 v10 v22 v24 v26 v40) v76 (ix2 0 j)
    = v76 (ix2 0 j) + half * ∑ r : Fin 1024, square (y r) (fun l => v26 (ix2 0 l)) (fun l => v40 (ix2 r l)) := by
  rw [← losses_row v10 v22 v24 v40 v26 j y hy]
  unfold k0_pay8
  generalize k0_pay6 (k0_pay14 v10 v22 v24 v26 v40) = u
  pointwise

end Payloads

section Body

variable (c : Dev nD) (i : grid0.Coords) (a3 : Memref sig .tc .vmem S1024x1024 .bf16) (h3 : a3.IsWhole)
  (a4 : Memref sig .tc .vmem S4096x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1x1024 .f32) (h7 : a7.IsWhole)
  (a8 : Memref sig .tc .vmem S1024x1024 .f32) (h8 : a8.IsWhole) (a9 : Memref sig .tc .vmem S1x1024 .f32) (h9 : a9.IsWhole)
  (a10 : Memref sig .tc .vmem S1x1024 .f32) (h10 : a10.IsWhole) (a11 : Memref sig .tc .vmem S1024x1024 .f32) (h11 : a11.IsWhole)
  (x0 : Vec Ideal S1024x1024 .bf16) (x1 : Vec Ideal S4096x1024 .bf16) (x2 x3 : Vec Ideal S1024x1024 .f32)
  (x4 xo xl : Vec Ideal S1x1024 .f32) (acc : Vec Ideal S1024x1024 .f32)
  (r j : Fin 1024)

/-- The rows of the matrix that a point takes. -/
def wrow (i : grid0.Coords) (k : Fin 1024) : Fin 4096 :=
  ⟨1024 * (i 2).val + k.val, by have : (i 2).val < 4 := (i 2).isLt; have := k.isLt; omega⟩

/-- A point's load of them. -/
theorem load (k l : Fin 1024) : View.ld x1 (Rect.unit (s := S4096x1024) (k0_off1 i) S1024x1024.size (k0_off1_inb i)) (ix2 k l)
    = x1 (ix2 (wrow i k) l) := by
  refine View.ld_unit_apply_of x1 _ _ _ _ _ fun a => ?_
  refine Eq.trans ?_ (congrArg (· + _) (congrFun (k0_off1_eq i) a).symm)
  have : (i 1).val = 0 := by have : (i 1).val < 1 := (i 1).isLt; omega
  match a with
  | ⟨0, _⟩ => rfl
  | ⟨1, _⟩ => show l.val = 1024 * (i 1).val + l.val; omega

/-- A point's product. -/
def part (r l : Fin 1024) : EReal := ∑ k : Fin 1024, x0 (ix2 r k) * x1 (ix2 (wrow i k) l)

theorem loaded (r l : Fin 1024) : ∑ k : Fin 1024, x0 (ix2 r k) *
    View.ld x1 (Rect.unit (s := S4096x1024) (k0_off1 i) S1024x1024.size (k0_off1_inb i)) (ix2 k l) = part i x0 x1 r l :=
  Finset.sum_congr rfl fun k _ => congrArg (_ * ·) (load i x1 k l)

/-- The first point of a run stores its product in the accumulator, -/
theorem first (hc0 : cond0_0 i) (hc1 : ¬cond0_1 i) (hc2 : ¬cond0_2 i) :
    sout0_A_0 c i a3 h3 a4 h4 a5 h5 a6 h6 a7 h7 a8 h8 a9 h9 a10 h10 a11 h11 hc0 hc1 hc2 x0 x1 x2 x3 x4 (ix2 r j) = part i x0 x1 r j := by
  unfold sout0_A_0
  rw [View.read_writes_eq_canon _ _ _ (scover0_A_0 c i a3 h3 a4 h4 a5 h5 a6 h6 a7 h7 a8 h8 a9 h9 a10 h10 a11 h11 hc0 hc1 hc2 x0 x1 x2 x3 x4)]
  unfold kernelRun0_A
  dsimp only
  sl_unfold_words
  simp only [View.readAt_eq_ld, h3.read_unread, h4.read_unread, View.ld_unit_zero (S := S1024x1024) hz,
    View.canon_unit_zero (S := S1024x1024) hz]
  exact (stored _ x0 r j).trans (loaded i x0 x1 r j)

/-- a point between adds its product to it, -/
theorem next (hc0 : ¬cond0_0 i) (hc1 : cond0_1 i) (hc2 : ¬cond0_2 i) :
    sout0_B_0 c i a3 h3 a4 h4 a5 h5 a6 h6 a7 h7 a8 h8 a9 h9 a10 h10 a11 h11 hc0 hc1 hc2 x0 x1 x2 x3 x4 acc (ix2 r j)
      = acc (ix2 r j) + part i x0 x1 r j := by
  unfold sout0_B_0
  rw [View.read_writes_eq_canon _ _ _ (scover0_B_0 c i a3 h3 a4 h4 a5 h5 a6 h6 a7 h7 a8 h8 a9 h9 a10 h10 a11 h11 hc0 hc1 hc2 x0 x1 x2 x3 x4 acc)]
  unfold kernelRun0_B
  dsimp only
  sl_unfold_words
  simp only [View.readAt_eq_ld, h3.read_unread, h4.read_unread, h11.read_unread, View.ld_unit_zero (S := S1024x1024) hz,
    View.canon_unit_zero (S := S1024x1024) hz]
  exact (added _ x0 acc r j).trans (congrArg (_ + ·) (loaded i x0 x1 r j))

/-- and the last norms the sum with the residual. -/
def sum (r l : Fin 1024) : EReal := (acc (ix2 r l) + part i x0 x1 r l) + x2 (ix2 r l)

theorem sum_eq (r l : Fin 1024) : (acc (ix2 r l) + k0_pay1 (View.ld x1 (Rect.unit (s := S4096x1024) (k0_off1 i) S1024x1024.size
    (k0_off1_inb i))) x0 (ix2 r l)) + x2 (ix2 r l) = sum i x0 x1 x2 acc r l :=
  congrArg (fun e => (acc (ix2 r l) + e) + x2 (ix2 r l)) ((product _ x0 r l).trans (loaded i x0 x1 r l))

/-- Its gradient, -/
def result : EReal := dx (sum i x0 x1 x2 acc r) (fun l => x4 (ix2 0 l)) (fun l => x3 (ix2 r l)) j

/-- the weight's over the point's rows, -/
def weight : EReal := ∑ r : Fin 1024, gw (sum i x0 x1 x2 acc r) (fun l => x4 (ix2 0 l)) (fun l => x3 (ix2 r l)) j

/-- and the loss over them. -/
def lost : EReal := half * ∑ r : Fin 1024, square (sum i x0 x1 x2 acc r) (fun l => x4 (ix2 0 l)) (fun l => x3 (ix2 r l))

theorem last (hc0 : ¬cond0_0 i) (hc1 : ¬cond0_1 i) (hc2 : cond0_2 i) (hc3 : cond0_3 i) (hc4 : ¬cond0_4 i) :
    out0_C_5 c i a3 h3 a4 h4 a5 h5 a6 h6 a7 h7 a8 h8 a9 h9 a10 h10 a11 h11 hc0 hc1 hc2 hc3 hc4 x0 x1 x2 x3 x4 acc (ix2 r j)
      = result i x0 x1 x2 x3 x4 acc r j := by
  unfold out0_C_5
  rw [View.read_writes_eq_canon _ _ _ (cover0_C_5 c i a3 h3 a4 h4 a5 h5 a6 h6 a7 h7 a8 h8 a9 h9 a10 h10 a11 h11 hc0 hc1 hc2 hc3 hc4 x0 x1 x2 x3 x4 acc)]
  unfold kernelRun0_C
  dsimp only
  sl_unfold_words
  simp only [View.readAt_eq_ld, h3.read_unread, h4.read_unread, h5.read_unread, h6.read_unread, h7.read_unread, h11.read_unread,
    View.ld_unit_zero (S := S1024x1024) hz, View.ld_unit_zero (S := S1x1024) hz, View.canon_unit_zero (S := S1024x1024) hz]
  exact normed _ acc x2 x3 x4 r j (sum i x0 x1 x2 acc) (sum_eq i x0 x1 x2 acc)

theorem last' (hc0 : ¬cond0_0 i) (hc1 : ¬cond0_1 i) (hc2 : cond0_2 i) (hc3 : ¬cond0_3 i) (hc4 : cond0_4 i) :
    out0_D_5 c i a3 h3 a4 h4 a5 h5 a6 h6 a7 h7 a8 h8 a9 h9 a10 h10 a11 h11 hc0 hc1 hc2 hc3 hc4 x0 x1 x2 x3 x4 xo xl acc (ix2 r j)
      = result i x0 x1 x2 x3 x4 acc r j := by
  unfold out0_D_5
  rw [View.read_writes_eq_canon _ _ _ (cover0_D_5 c i a3 h3 a4 h4 a5 h5 a6 h6 a7 h7 a8 h8 a9 h9 a10 h10 a11 h11 hc0 hc1 hc2 hc3 hc4 x0 x1 x2 x3 x4 xo xl acc)]
  unfold kernelRun0_D
  dsimp only
  sl_unfold_words
  simp only [View.readAt_eq_ld, h3.read_unread, h4.read_unread, h5.read_unread, h6.read_unread, h7.read_unread, h11.read_unread,
    View.ld_unit_zero (S := S1024x1024) hz, View.ld_unit_zero (S := S1x1024) hz, View.canon_unit_zero (S := S1024x1024) hz]
  exact normed _ acc x2 x3 x4 r j (sum i x0 x1 x2 acc) (sum_eq i x0 x1 x2 acc)

/-- The two sums are stored by the first run and added to by the later ones. -/
theorem weight_first (hc0 : ¬cond0_0 i) (hc1 : ¬cond0_1 i) (hc2 : cond0_2 i) (hc3 : cond0_3 i) (hc4 : ¬cond0_4 i) :
    out0_C_6 c i a3 h3 a4 h4 a5 h5 a6 h6 a7 h7 a8 h8 a9 h9 a10 h10 a11 h11 hc0 hc1 hc2 hc3 hc4 x0 x1 x2 x3 x4 acc (ix2 0 j)
      = weight i x0 x1 x2 x3 x4 acc j := by
  unfold out0_C_6
  rw [View.read_writes_eq_canon _ _ _ (cover0_C_6 c i a3 h3 a4 h4 a5 h5 a6 h6 a7 h7 a8 h8 a9 h9 a10 h10 a11 h11 hc0 hc1 hc2 hc3 hc4 x0 x1 x2 x3 x4 acc)]
  unfold kernelRun0_C
  dsimp only
  sl_unfold_words
  simp only [View.readAt_eq_ld, h3.read_unread, h4.read_unread, h5.read_unread, h6.read_unread, h7.read_unread, h11.read_unread,
    View.ld_unit_zero (S := S1024x1024) hz, View.ld_unit_zero (S := S1x1024) hz, View.canon_unit_zero (S := S1x1024) hz]
  exact columns _ acc x2 x3 x4 j (sum i x0 x1 x2 acc) (sum_eq i x0 x1 x2 acc)

theorem weight_next (hc0 : ¬cond0_0 i) (hc1 : ¬cond0_1 i) (hc2 : cond0_2 i) (hc3 : ¬cond0_3 i) (hc4 : cond0_4 i) :
    out0_D_6 c i a3 h3 a4 h4 a5 h5 a6 h6 a7 h7 a8 h8 a9 h9 a10 h10 a11 h11 hc0 hc1 hc2 hc3 hc4 x0 x1 x2 x3 x4 xo xl acc (ix2 0 j)
      = xo (ix2 0 j) + weight i x0 x1 x2 x3 x4 acc j := by
  unfold out0_D_6
  rw [View.read_writes_eq_canon _ _ _ (cover0_D_6 c i a3 h3 a4 h4 a5 h5 a6 h6 a7 h7 a8 h8 a9 h9 a10 h10 a11 h11 hc0 hc1 hc2 hc3 hc4 x0 x1 x2 x3 x4 xo xl acc)]
  unfold kernelRun0_D
  dsimp only
  sl_unfold_words
  simp only [View.readAt_eq_ld, h3.read_unread, h4.read_unread, h5.read_unread, h6.read_unread, h7.read_unread, h9.read_unread, h11.read_unread,
    View.ld_unit_zero (S := S1024x1024) hz, View.ld_unit_zero (S := S1x1024) hz, View.canon_unit_zero (S := S1x1024) hz]
  exact columns_added _ acc x2 x3 x4 xo j (sum i x0 x1 x2 acc) (sum_eq i x0 x1 x2 acc)

theorem loss_first (hc0 : ¬cond0_0 i) (hc1 : ¬cond0_1 i) (hc2 : cond0_2 i) (hc3 : cond0_3 i) (hc4 : ¬cond0_4 i) :
    out0_C_7 c i a3 h3 a4 h4 a5 h5 a6 h6 a7 h7 a8 h8 a9 h9 a10 h10 a11 h11 hc0 hc1 hc2 hc3 hc4 x0 x1 x2 x3 x4 acc (ix2 0 j)
      = lost i x0 x1 x2 x3 x4 acc := by
  unfold out0_C_7
  rw [View.read_writes_eq_canon _ _ _ (cover0_C_7 c i a3 h3 a4 h4 a5 h5 a6 h6 a7 h7 a8 h8 a9 h9 a10 h10 a11 h11 hc0 hc1 hc2 hc3 hc4 x0 x1 x2 x3 x4 acc)]
  unfold kernelRun0_C
  dsimp only
  sl_unfold_words
  simp only [View.readAt_eq_ld, h3.read_unread, h4.read_unread, h5.read_unread, h6.read_unread, h7.read_unread, h11.read_unread,
    View.ld_unit_zero (S := S1024x1024) hz, View.ld_unit_zero (S := S1x1024) hz, View.canon_unit_zero (S := S1x1024) hz]
  exact losses_row _ acc x2 x3 x4 j (sum i x0 x1 x2 acc) (sum_eq i x0 x1 x2 acc)

theorem loss_next (hc0 : ¬cond0_0 i) (hc1 : ¬cond0_1 i) (hc2 : cond0_2 i) (hc3 : ¬cond0_3 i) (hc4 : cond0_4 i) :
    out0_D_7 c i a3 h3 a4 h4 a5 h5 a6 h6 a7 h7 a8 h8 a9 h9 a10 h10 a11 h11 hc0 hc1 hc2 hc3 hc4 x0 x1 x2 x3 x4 xo xl acc (ix2 0 j)
      = xl (ix2 0 j) + lost i x0 x1 x2 x3 x4 acc := by
  unfold out0_D_7
  rw [View.read_writes_eq_canon _ _ _ (cover0_D_7 c i a3 h3 a4 h4 a5 h5 a6 h6 a7 h7 a8 h8 a9 h9 a10 h10 a11 h11 hc0 hc1 hc2 hc3 hc4 x0 x1 x2 x3 x4 xo xl acc)]
  unfold kernelRun0_D
  dsimp only
  sl_unfold_words
  simp only [View.readAt_eq_ld, h3.read_unread, h4.read_unread, h5.read_unread, h6.read_unread, h7.read_unread, h10.read_unread, h11.read_unread,
    View.ld_unit_zero (S := S1024x1024) hz, View.ld_unit_zero (S := S1x1024) hz, View.canon_unit_zero (S := S1x1024) hz]
  exact losses_added _ acc x2 x3 x4 xl j (sum i x0 x1 x2 acc) (sum_eq i x0 x1 x2 acc)

end Body

variable (m : (b : Loc nD τ sig) → Buf (Elt Ideal) b) (c : Dev nD)

/-- The arguments, entry by entry. -/
abbrev act (t : Fin 8192) (k : Fin 4096) : EReal := m ((c : Thread nD τ).loc main_arg0) (ix2 t k)
abbrev mat (k : Fin 4096) (j : Fin 1024) : EReal := m ((c : Thread nD τ).loc main_arg1) (ix2 k j)
abbrev along (t : Fin 8192) (j : Fin 1024) : EReal := m ((c : Thread nD τ).loc main_arg2) (ix2 t j)
abbrev target (t : Fin 8192) (j : Fin 1024) : EReal := m ((c : Thread nD τ).loc main_arg3) (ix2 t j)
abbrev scale (j : Fin 1024) : EReal := m ((c : Thread nD τ).loc main_arg4) (ix1 j)

theorem reshaped (j : Fin 1024) : V m c main_v0 (ix2 0 j) = scale m c j := by
  have e : V m c main_v0 = (shapeCast S1x1024 (m ((c : Thread nD τ).loc main_arg4) : FVec Ideal S1024 .f32)
      shapeCasts_S1024_S1x1024 : FVec Ideal S1x1024 .f32) := by
    unfold V
    simp only [hostOps0, List.flatten_cons, List.flatten_nil, List.append_nil, List.cons_append, List.nil_append]
    after_results
    rfl
  rw [e]
  pointwise

def row (n : ℕ) (r : Fin 1024) : Fin 8192 := ⟨n / 4 % 8 * 1024 + r.val, by have := r.isLt; omega⟩
def col (n : ℕ) (k : Fin 1024) : Fin 4096 := ⟨n % 4 * 1024 + k.val, by have := k.isLt; omega⟩

theorem idx0 : ∀ t : Fin cfg0.N, win0_0.index t = ![t.val / 4 % 8, t.val % 4] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 4 % 8, 0] := (by decide +kernel : ∀ t : Fin grid0.N, _)
theorem idx3 : ∀ t : Fin cfg0.N, win0_3.index t = ![t.val / 4 % 8, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 4 % 8, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem coord : ∀ t : Fin cfg0.N, (grid0.coords t 2).val = t.val % 4 := (by decide +kernel : ∀ t : Fin grid0.N, _)

/-- The blocks a point reads. -/
abbrev in0 (t : Fin cfg0.N) : Vec Ideal S1024x1024 .bf16 := iblk m c 0 t
abbrev in1 (t : Fin cfg0.N) : Vec Ideal S4096x1024 .bf16 := iblk m c 1 t
abbrev in2 (t : Fin cfg0.N) : Vec Ideal S1024x1024 .f32 := iblk m c 2 t
abbrev in3 (t : Fin cfg0.N) : Vec Ideal S1024x1024 .f32 := iblk m c 3 t
abbrev in4 (t : Fin cfg0.N) : Vec Ideal S1x1024 .f32 := iblk m c 4 t

theorem blk0 (t : Fin cfg0.N) (r k : Fin 1024) : in0 m c t (ix2 r k) = act m c (row t.val r) (col t.val k) := by
  blk_simp [in0, iblk]
  rw [V_main_arg0]
  refine congrArg _ (funext fun a => Fin.ext ?_)
  match a with
  | ⟨0, _⟩ => blk_simp [idx0]; rfl
  | ⟨1, _⟩ => blk_simp [idx0]; rfl

theorem blk1 (t : Fin cfg0.N) (k j : Fin 1024) : in1 m c t (ix2 (wrow (grid0.coords t) k) j) = mat m c (col t.val k) j := by
  blk_simp [in1, iblk]
  rw [V_main_arg1]
  refine congrArg _ (funext fun a => Fin.ext ?_)
  match a with
  | ⟨0, _⟩ =>
    blk_simp [idx1]
    show 1024 * (grid0.coords t 2).val + k.val = t.val % 4 * 1024 + k.val
    rw [coord]
    omega
  | ⟨1, _⟩ => blk_simp [idx1]

theorem blk2 (t : Fin cfg0.N) (r j : Fin 1024) : in2 m c t (ix2 r j) = along m c (row t.val r) j := by
  blk_simp [in2, iblk]
  rw [V_main_arg2]
  refine congrArg _ (funext fun a => Fin.ext ?_)
  match a with
  | ⟨0, _⟩ => blk_simp [idx2]; rfl
  | ⟨1, _⟩ => blk_simp [idx2]

theorem blk3 (t : Fin cfg0.N) (r j : Fin 1024) : in3 m c t (ix2 r j) = target m c (row t.val r) j := by
  blk_simp [in3, iblk]
  rw [V_main_arg3]
  refine congrArg _ (funext fun a => Fin.ext ?_)
  match a with
  | ⟨0, _⟩ => blk_simp [idx3]; rfl
  | ⟨1, _⟩ => blk_simp [idx3]

theorem blk4 (t : Fin cfg0.N) (j : Fin 1024) : in4 m c t (ix2 0 j) = scale m c j := by
  rw [← reshaped]
  blk_simp [in4, iblk]
  refine congrArg _ (funext fun a => Fin.ext ?_)
  match a with
  | ⟨0, _⟩ => blk_simp [idx4]
  | ⟨1, _⟩ => blk_simp [idx4]

/-- What is normed: the residual and the product over all the rows of the matrix. -/
def total (t : Fin 8192) (j : Fin 1024) : EReal := along m c t j + ∑ k : Fin 4096, act m c t k * mat m c k j

/-- A point's product. -/
def term (r j : Fin 1024) (n : ℕ) : EReal := ∑ k : Fin 1024, act m c (row n r) (col n k) * mat m c (col n k) j

theorem term_eq (r j : Fin 1024) (t : Fin cfg0.N) : part (grid0.coords t) (in0 m c t) (in1 m c t) r j = term m c r j t.val :=
  Finset.sum_congr rfl fun k _ => congrArg₂ (· * ·) (blk0 m c t r k) (blk1 m c t k j)

/-- What the point before left in the accumulator. -/
abbrev before (t : Fin cfg0.N) : Vec Ideal S1024x1024 .f32 :=
  (outsAt0 m c (t.val - 1) (Nat.lt_of_le_of_lt (Nat.sub_le _ _) t.isLt)).2.2.2

/-- The last point's sum is the whole product, -/
theorem summed (t : Fin cfg0.N) (ht : t.val % 4 = 3) (r j : Fin 1024) :
    before m c t (ix2 r j) + part (grid0.coords t) (in0 m c t) (in1 m c t) r j
      = ∑ k : Fin 4096, act m c (row t.val r) k * mat m c k j := by
  rw [term_eq]
  refine (Runs.sum_of_run 4 (by decide) (fun n hn => (outsAt0 m c n hn).2.2.2 (ix2 r j))
    (fun n hn => (outsAt0 m c (n - 1) (Nat.lt_of_le_of_lt (Nat.sub_le _ _) hn)).2.2.2 (ix2 r j) + term m c r j n)
    (term m c r j) (fun t h => ?_) (fun t h0 h1 => ?_) (fun t h => rfl) t ht).trans ?_
  · simp only [outsAt0_A m c t h (by omega) (by omega)]
    exact (first c _ _ _ _ _ _ _ _ _ _ _ _ _ _ _ _ _ _ _ _ _ _ _ _ r j _ _ _).trans (term_eq m c r j t)
  · simp only [outsAt0_B m c t h0 (by omega) h1]
    exact (next c _ _ _ _ _ _ _ _ _ _ _ _ _ _ _ _ _ _ _ _ _ _ _ _ _ r j _ _ _).trans (congrArg (_ + ·) (term_eq m c r j t))
  · refine Eq.trans (Finset.sum_congr rfl fun k _ => ?_)
      (Fin.sum_mul_add_fin 4 1024 fun x => act m c (row t.val r) x * mat m c x j)
    have e : (4 * (t.val / 4) + k.val) % 4 = k.val := by have := k.isLt; omega
    have d : (4 * (t.val / 4) + k.val) / 4 = t.val / 4 := by have := k.isLt; omega
    refine Finset.sum_congr rfl fun x _ => ?_
    unfold row col
    simp only [e, d]

/-- and with the residual what is normed. -/
theorem sum_total (t : Fin cfg0.N) (ht : t.val % 4 = 3) (r : Fin 1024) :
    sum (grid0.coords t) (in0 m c t) (in1 m c t) (in2 m c t) (before m c t) r = total m c (row t.val r) :=
  funext fun j => by
    unfold sum total
    rw [summed m c t ht, blk2, add_comm]

/-- The residual's gradient, -/
def DX : (⟨2, ![8192, 1024]⟩ : Shape).Idx → EReal := fun i =>
  dx (total m c (i 0)) (fun l => scale m c l) (fun l => target m c (i 0) l) (i 1)

/-- the norm weight's, -/
def GW : (⟨2, ![1, 1024]⟩ : Shape).Idx → EReal := fun i =>
  ∑ t : Fin 8192, gw (total m c t) (fun l => scale m c l) (fun l => target m c t l) (i 1)

/-- and the loss, the same in each entry of its row. -/
def LS : (⟨2, ![1, 1024]⟩ : Shape).Idx → EReal := fun _ =>
  half * ∑ t : Fin 8192, square (total m c t) (fun l => scale m c l) (fun l => target m c t l)

theorem result_eq (t : Fin cfg0.N) (ht : t.val % 4 = 3) (r j : Fin 1024) :
    result (grid0.coords t) (in0 m c t) (in1 m c t) (in2 m c t) (in3 m c t) (in4 m c t) (before m c t) r j
      = DX m c (ix2 (row t.val r) j) := by
  unfold result DX
  simp only [sum_total m c t ht, blk3, blk4, ix2_0, ix2_1]

theorem out5 (t : Fin cfg0.N) (ht : t.val % 4 = 3) (r j : Fin 1024) :
    (outsAt0 m c t.val t.isLt).1 (ix2 r j) = DX m c (ix2 (row t.val r) j) := by
  by_cases h : t.val < 4
  · simp only [outsAt0_C m c t (by omega) (by omega) ht h (by omega)]
    exact (last c _ _ _ _ _ _ _ _ _ _ _ _ _ _ _ _ _ _ _ _ _ _ _ _ _ r j _ _ _ _ _).trans (result_eq m c t ht r j)
  · simp only [outsAt0_D m c t (by omega) (by omega) ht h (by omega)]
    exact (last' c _ _ _ _ _ _ _ _ _ _ _ _ _ _ _ _ _ _ _ _ _ _ _ _ _ _ _ r j _ _ _ _ _).trans (result_eq m c t ht r j)

theorem final5 : (dats m 0 c).arrAt 5 cfg0.N = DX m c := by
  refine (dats m 0 c).arrAt_eq_of_covers 5 _ (by decide +kernel) fun t hf y => ?_
  blk_simp
  rw [after0_5, eq_ix2 y]
  refine (out5 m c t ((flush0_5 t).mp hf) (y 0) (y 1)).trans (congrArg (DX m c) (funext fun a => Fin.ext ?_))
  match a with
  | ⟨0, _⟩ => blk_simp [idx5]; rfl
  | ⟨1, _⟩ => blk_simp [idx5]

theorem row_eq (n : ℕ) (r : Fin 1024) : row n r = row (4 * (n / 4)) r := by
  unfold row
  simp only [show 4 * (n / 4) / 4 = n / 4 by omega]

theorem row_block (q : Fin 8) (r : Fin 1024) : row (4 * q.val) r = ⟨q.val * 1024 + r.val, by have := q.isLt; have := r.isLt; omega⟩ := by
  unfold row
  simp only [show 4 * q.val / 4 % 8 = q.val by have := q.isLt; omega]

/-- A run's part of the norm weight's gradient, and of the loss. -/
def rows (j : Fin 1024) (q : ℕ) : EReal := ∑ r : Fin 1024,
  gw (total m c (row (4 * q) r)) (fun l => scale m c l) (fun l => target m c (row (4 * q) r) l) j
def share (q : ℕ) : EReal := half * ∑ r : Fin 1024,
  square (total m c (row (4 * q) r)) (fun l => scale m c l) (fun l => target m c (row (4 * q) r) l)

theorem weight_eq (t : Fin cfg0.N) (ht : t.val % 4 = 3) (j : Fin 1024) :
    weight (grid0.coords t) (in0 m c t) (in1 m c t) (in2 m c t) (in3 m c t) (in4 m c t) (before m c t) j
      = rows m c j (t.val / 4) := by
  unfold weight rows
  simp only [sum_total m c t ht, blk3, blk4, ← row_eq]

theorem lost_eq (t : Fin cfg0.N) (ht : t.val % 4 = 3) :
    lost (grid0.coords t) (in0 m c t) (in1 m c t) (in2 m c t) (in3 m c t) (in4 m c t) (before m c t)
      = share m c (t.val / 4) := by
  unfold lost share
  simp only [sum_total m c t ht, blk3, blk4, ← row_eq]

theorem out6 (t : Fin cfg0.N) (ht : t.val % 32 = 31) (j : Fin 1024) :
    (outsAt0 m c t.val t.isLt).2.1 (ix2 0 j) = GW m c (ix2 0 j) := by
  have hN : t.val < 32 := lt_of_lt_of_eq t.isLt (show cfg0.N = 32 from N_0)
  refine (Runs.sum_of_steps 4 (by decide) (fun n hn => (outsAt0 m c n hn).2.1 (ix2 0 j)) (rows m c j)
    (fun t h => ?_) (fun t h => ?_) (fun t h h4 => ?_) t.val (by omega) t.isLt).trans ?_
  · by_cases h0 : t.val % 4 = 0
    · simp only [outsAt0_A m c t h0 (by omega) (by omega)]
      rfl
    · simp only [outsAt0_B m c t h0 (by omega) h]
      rfl
  · simp only [outsAt0_C m c t (by omega) (by omega) (by omega) (by omega) (by omega)]
    refine (weight_first c _ _ _ _ _ _ _ _ _ _ _ _ _ _ _ _ _ _ _ _ _ _ _ _ _ j _ _ _ _ _).trans
      ((weight_eq m c t (by omega) j).trans (congrArg (rows m c j) ?_))
    omega
  · simp only [outsAt0_D m c t (by omega) (by omega) h (by omega) h4]
    exact (weight_next c _ _ _ _ _ _ _ _ _ _ _ _ _ _ _ _ _ _ _ _ _ _ _ _ _ _ _ j _ _ _ _ _).trans
      (congrArg (_ + ·) (weight_eq m c t h j))
  · rw [show (t.val + 1) / 4 = 8 by omega, Finset.sum_range]
    refine Eq.trans (Finset.sum_congr rfl fun q _ => ?_) (Fin.sum_mul_add_fin 8 1024 fun x =>
      gw (total m c x) (fun l => scale m c l) (fun l => target m c x l) j)
    unfold rows
    simp only [row_block]

theorem out7 (t : Fin cfg0.N) (ht : t.val % 32 = 31) (j : Fin 1024) :
    (outsAt0 m c t.val t.isLt).2.2.1 (ix2 0 j) = LS m c (ix2 0 j) := by
  have hN : t.val < 32 := lt_of_lt_of_eq t.isLt (show cfg0.N = 32 from N_0)
  refine (Runs.sum_of_steps 4 (by decide) (fun n hn => (outsAt0 m c n hn).2.2.1 (ix2 0 j)) (share m c)
    (fun t h => ?_) (fun t h => ?_) (fun t h h4 => ?_) t.val (by omega) t.isLt).trans ?_
  · by_cases h0 : t.val % 4 = 0
    · simp only [outsAt0_A m c t h0 (by omega) (by omega)]
      rfl
    · simp only [outsAt0_B m c t h0 (by omega) h]
      rfl
  · simp only [outsAt0_C m c t (by omega) (by omega) (by omega) (by omega) (by omega)]
    refine (loss_first c _ _ _ _ _ _ _ _ _ _ _ _ _ _ _ _ _ _ _ _ _ _ _ _ _ j _ _ _ _ _).trans
      ((lost_eq m c t (by omega)).trans (congrArg (share m c) ?_))
    omega
  · simp only [outsAt0_D m c t (by omega) (by omega) h (by omega) h4]
    exact (loss_next c _ _ _ _ _ _ _ _ _ _ _ _ _ _ _ _ _ _ _ _ _ _ _ _ _ _ _ j _ _ _ _ _).trans
      (congrArg (_ + ·) (lost_eq m c t h))
  · rw [show (t.val + 1) / 4 = 8 by omega, Finset.sum_range]
    unfold LS
    rw [half_eq, mul_comm, ← Fin.sum_mul_add_fin 8 1024 fun x =>
      square (total m c x) (fun l => scale m c l) (fun l => target m c x l), Rows.sum_mul_coe _ _ (by norm_num)]
    refine Finset.sum_congr rfl fun q _ => ?_
    unfold share
    rw [half_eq, mul_comm]
    simp only [row_block]

theorem final6 : (dats m 0 c).arrAt 6 cfg0.N = GW m c := by
  refine (dats m 0 c).arrAt_eq_of_covers 6 _ (by decide +kernel) fun t hf y => ?_
  blk_simp
  rw [after0_6, eq_ix2 y]
  refine (congrArg (fun a : Fin 1 => (outsAt0 m c t.val t.isLt).2.1 (ix2 a (y 1))) (Fin.fin_one_eq_zero (y 0))).trans
    ((out6 m c t ((flush0_6 t).mp hf) (y 1)).trans (congrArg (GW m c) (funext fun a => Fin.ext ?_)))
  match a with
  | ⟨0, _⟩ => blk_simp [idx6]; rfl
  | ⟨1, _⟩ => blk_simp [idx6]

theorem final7 : (dats m 0 c).arrAt 7 cfg0.N = LS m c := by
  refine (dats m 0 c).arrAt_eq_of_covers 7 _ (by decide +kernel) fun t hf y => ?_
  blk_simp
  rw [after0_7, eq_ix2 y]
  exact (congrArg (fun a : Fin 1 => (outsAt0 m c t.val t.isLt).2.2.1 (ix2 a (y 1))) (Fin.fin_one_eq_zero (y 0))).trans
    (out7 m c t ((flush0_7 t).mp hf) (y 1))

/-- The run: the two gradients and the loss, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1_0) = DX m c
      ∧ r.2.mem ((c : Thread nD τ).loc main_v1_1) = GW m c
      ∧ r.2.mem ((c : Thread nD τ).loc main_v1_2) = LS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c),
    (h c).2.2.1.trans (final7 m c), (h c).2.2.2⟩) (Value.run_blocks m ρ)

section Reference

open DownRefIdeal.Read

variable (x0 : S8192x4096.Idx → EReal) (x1 : S4096x1024.Idx → EReal) (x2 x3 : S8192x1024.Idx → EReal) (x4 : S1024.Idx → EReal)

/-- The reference's row before the norm, -/
def whole (t : Fin 8192) (j : Fin 1024) : EReal := x2 (ix2 t j) + ∑ k : Fin 4096, x0 (ix2 t k) * x1 (ix2 k j)

theorem ref_whole (t : Fin 8192) (j : Fin 1024) : val_main_v3 (F := Ideal) x0 x1 x2 (ix2 t j) = whole x0 x1 x2 t j := by
  rw [val_main_v3_apply, val_main_v2_apply]
  refine congrArg (x2 (ix2 t j) + ·) (Finset.sum_congr rfl fun k _ => ?_)
  rw [val_main_v0_apply, val_main_v1_apply, eq_ix2 (lidx_main_v2 (ix2 t j) k), eq_ix2 (ridx_main_v2 (ix2 t j) k)]
  rfl

/-- its mean square and its inverse root, -/
theorem ref_ms (t : Fin 8192) : val_main_v10 (F := Ideal) x0 x1 x2 (ix2 t 0) = Norm.ms len eps (whole x0 x1 x2 t) := by
  rw [val_main_v10_apply, val_main_v8_apply, val_main_v6_apply, val_main_v5_apply, val_main_cst_apply, val_main_v7_apply,
    val_main_cst_0_apply, val_main_v9_apply, val_main_cst_1_apply]
  show Ideal.div (Ideal.ofBits .f32 0x00000000#32 + _) _ + _ = _
  rw [Rows.ofBits_zero, zero_add]
  refine congrArg (fun s => Ideal.div s len + eps) (Finset.sum_congr rfl fun k _ => ?_)
  rw [val_main_v4_apply, eq_ix2 (idx_main_v5 _ k), ← ref_whole]
  rfl

theorem ref_inv (t : Fin 8192) : val_main_v11 (F := Ideal) x0 x1 x2 (ix2 t 0) = Norm.inv len eps (whole x0 x1 x2 t) := by
  rw [val_main_v11_apply, ref_ms]
  rfl

/-- the normed row, -/
theorem ref_unit (t : Fin 8192) (j : Fin 1024) : val_main_v16 (F := Ideal) x0 x1 x2 (ix2 t j)
    = whole x0 x1 x2 t j * Norm.inv len eps (whole x0 x1 x2 t) := by
  rw [val_main_v16_apply, val_main_v15_apply, ref_whole, eq_ix2 (idx_main_v15 _), ← ref_inv]
  rfl

theorem ref_scale (t : Fin 8192) (j : Fin 1024) : val_main_v18 (F := Ideal) x4 (ix2 t j) = x4 (ix1 j) := by
  rw [val_main_v18_apply, val_main_v17_apply, eq_ix1 (idx_main_v17 _)]
  rfl

/-- its error, -/
theorem ref_err (t : Fin 8192) (j : Fin 1024) : val_main_v20 (F := Ideal) x0 x1 x2 x3 x4 (ix2 t j)
    = err (whole x0 x1 x2 t) (fun l => x4 (ix1 l)) (fun l => x3 (ix2 t l)) j := by
  rw [val_main_v20_apply, val_main_v19_apply, ref_unit, ref_scale]
  rfl

/-- whose square's gradient, over the row's length and with the loss's half, is the error over the length: -/
theorem halved (e : EReal) : Ideal.div (half * Ideal.ofBits .f32 0x3F800000#32) len * (Ideal.ofBits .f32 0x40000000#32 * e)
    = e * step := by
  rw [half_eq, step_eq, Rows.ofBits_one, Rows.ofBits_two, show len = ((1024 : ℝ) : EReal) from Rows.ofBits_thousand, mul_one, Rows.div_coe _ _ (by norm_num),
    ← mul_assoc, show (2 : EReal) = ((2 : ℝ) : EReal) from rfl, ← EReal.coe_mul, ← EReal.coe_mul, mul_comm e]
  norm_num

theorem ref_derr (t : Fin 8192) (j : Fin 1024) : val_main_v34 (F := Ideal) x0 x1 x2 x3 x4 (ix2 t j)
    = derr (whole x0 x1 x2 t) (fun l => x4 (ix1 l)) (fun l => x3 (ix2 t l)) j := by
  rw [val_main_v34_apply, val_main_v33_apply, val_main_v32_apply, val_main_v30_apply, val_main_v29_apply, val_main_cst_8_apply,
    val_main_cst_9_apply, val_main_v31_apply, val_main_cst_10_apply, val_main_v23_apply, val_main_v22_apply,
    val_main_cst_3_apply, ref_err]
  exact halved _

/-- what comes to the norm, -/
theorem ref_scaled (t : Fin 8192) (j : Fin 1024) : val_main_v39 (F := Ideal) x0 x1 x2 x3 x4 (ix2 t j)
    = derr (whole x0 x1 x2 t) (fun l => x4 (ix1 l)) (fun l => x3 (ix2 t l)) j * x4 (ix1 j) := by
  rw [val_main_v39_apply, ref_derr, val_main_v38_apply, val_main_v17_apply, eq_ix1 (idx_main_v17 _)]
  rfl

/-- the row's sum of its products with the row, -/
theorem ref_sum (t : Fin 8192) : val_main_v43 (F := Ideal) x0 x1 x2 x3 x4 (ix2 t 0) = ∑ l : Fin 1024, whole x0 x1 x2 t l *
    (derr (whole x0 x1 x2 t) (fun l => x4 (ix1 l)) (fun l => x3 (ix2 t l)) l * x4 (ix1 l)) := by
  rw [val_main_v43_apply, val_main_v42_apply, val_main_cst_13_apply]
  show Ideal.ofBits .f32 0x00000000#32 + _ = _
  rw [Rows.ofBits_zero, zero_add]
  refine Finset.sum_congr rfl fun k _ => ?_
  have e : idx_main_v42 (idx_main_v43 (ix2 t 0)) k = ix2 t k := funext fun a => Fin.ext (by
    match a with
    | ⟨0, _⟩ => show t.val * 1 + 0 = t.val; omega
    | ⟨1, _⟩ => rfl)
  rw [e, val_main_v41_apply, ref_scaled, ref_whole]
  rfl

/-- the coefficient of each row, -/
theorem ref_coef (t : Fin 8192) (j : Fin 1024) : val_main_v50 (F := Ideal) x0 x1 x2 x3 x4 (ix2 t j)
    = Norm.coef len eps (Ideal.ofBits .f32 0xBF000000#32) (whole x0 x1 x2 t)
      (fun l => derr (whole x0 x1 x2 t) (fun l => x4 (ix1 l)) (fun l => x3 (ix2 t l)) l * x4 (ix1 l)) := by
  rw [val_main_v50_apply, val_main_v49_apply, Fin.sum_univ_one, val_main_cst_15_apply, eq_ix2 (idx_main_v49 _ 0),
    val_main_v48_apply, val_main_v47_apply, val_main_cst_14_apply, val_main_v46_apply, val_main_v14_apply, val_main_v13_apply,
    val_main_cst_2_apply, val_main_v12_apply]
  show Ideal.ofBits .f32 0x00000000#32 + Ideal.div (val_main_v43 (F := Ideal) x0 x1 x2 x3 x4 (ix2 t 0) * (_ * Ideal.div
    (val_main_v11 (F := Ideal) x0 x1 x2 (ix2 t 0)) (val_main_v10 (F := Ideal) x0 x1 x2 (ix2 t 0)))) _ = _
  rw [Rows.ofBits_zero, zero_add, ref_inv, ref_ms, ref_sum]
  rfl

/-- and its three results, entry by entry, -/
theorem ref_entry (t : Fin 8192) (j : Fin 1024) : val_main_v54 (F := Ideal) x0 x1 x2 x3 x4 (ix2 t j)
    = dx (whole x0 x1 x2 t) (fun l => x4 (ix1 l)) (fun l => x3 (ix2 t l)) j := by
  have h := Norm.direct_eq Rows.ofBits_thousand Rows.ofBits_small (by norm_num) (by norm_num) Rows.ofBits_neg_half
    (whole x0 x1 x2 t) (fun l => derr (whole x0 x1 x2 t) (fun l => x4 (ix1 l)) (fun l => x3 (ix2 t l)) l * x4 (ix1 l)) 0 j
  rw [zero_add, zero_add] at h
  refine Eq.trans ?_ h.symm
  rw [val_main_v54_apply, val_main_v52_apply, val_main_v53_apply, val_main_v51_apply, val_main_v45_apply,
    val_main_v44_apply, ref_coef, ref_scaled, ref_whole, eq_ix2 (idx_main_v44 _), ← ref_inv]
  rfl

theorem ref_weight (j : Fin 1024) : val_main_v55 (F := Ideal) x0 x1 x2 x3 x4 (ix2 0 j)
    = ∑ t : Fin 8192, gw (whole x0 x1 x2 t) (fun l => x4 (ix1 l)) (fun l => x3 (ix2 t l)) j := by
  rw [val_main_v55_apply, val_main_v40_apply, Fin.sum_univ_one, val_main_cst_12_apply, val_main_v37_apply, val_main_v36_apply,
    val_main_cst_11_apply]
  show Ideal.ofBits .f32 0x00000000#32 + (Ideal.ofBits .f32 0x00000000#32 + _) = _
  rw [Rows.ofBits_zero, zero_add, zero_add]
  refine Finset.sum_congr rfl fun t _ => ?_
  have e : idx_main_v36 (idx_main_v37 (idx_main_v40 (idx_main_v55 (ix2 0 j)) 0)) t = ix2 t j := funext fun a => Fin.ext (by
    match a with
    | ⟨0, _⟩ => rfl
    | ⟨1, _⟩ => show 0 * 1024 + (0 * 1024 + j.val) = j.val; omega)
  rw [e, val_main_v35_apply, ref_unit, ref_derr]
  exact mul_comm _ _

/-- A sum over the indices of a one-axis array is one over the axis. -/
theorem sum_axis (f : DownRefIdeal.S8192.Idx → EReal) : ∑ i, f i = ∑ t : Fin 8192, f (ix1 t) :=
  Fintype.sum_equiv ⟨fun i => i 0, fun t => ix1 t, fun i => (eq_ix1 i).symm, fun t => rfl⟩ _ _ fun i => congrArg f (eq_ix1 i)

theorem ref_loss (j : Fin 1024) : val_main_v56 (F := Ideal) x0 x1 x2 x3 x4 (ix2 0 j)
    = half * ∑ t : Fin 8192, square (whole x0 x1 x2 t) (fun l => x4 (ix1 l)) (fun l => x3 (ix2 t l)) := by
  rw [val_main_v56_apply, val_main_v28_apply, val_main_v27_apply, val_main_cst_6_apply, val_main_cst_7_apply, sum_axis]
  show half * (Ideal.ofBits .f32 0x00000000#32 + _) = _
  rw [Rows.ofBits_zero, zero_add]
  refine congrArg (half * ·) (Finset.sum_congr rfl fun t _ => ?_)
  rw [val_main_v26_apply, val_main_v24_apply, val_main_v25_apply, val_main_cst_4_apply, val_main_cst_5_apply]
  show Ideal.div (Ideal.ofBits .f32 0x00000000#32 + _) len = _
  rw [Rows.ofBits_zero, zero_add]
  refine congrArg (fun s => Ideal.div s len) (Finset.sum_congr rfl fun k _ => ?_)
  rw [val_main_v21_apply, eq_ix2 (idx_main_v24 _ k), ← ref_err]
  rfl

/-- and whole. -/
theorem reference : val_main_v54 (F := Ideal) x0 x1 x2 x3 x4 = fun i =>
    dx (whole x0 x1 x2 (i 0)) (fun l => x4 (ix1 l)) (fun l => x3 (ix2 (i 0) l)) (i 1) :=
  funext fun i => (congrArg _ (eq_ix2 i)).trans (ref_entry x0 x1 x2 x3 x4 (i 0) (i 1))

theorem reference_weight : val_main_v55 (F := Ideal) x0 x1 x2 x3 x4 = fun i =>
    ∑ t : Fin 8192, gw (whole x0 x1 x2 t) (fun l => x4 (ix1 l)) (fun l => x3 (ix2 t l)) (i 1) :=
  funext fun i => (congrArg _ ((eq_ix2 i).trans (congrArg (fun a : Fin 1 => ix2 a (i 1)) (Fin.fin_one_eq_zero (i 0))))).trans
    (ref_weight x0 x1 x2 x3 x4 (i 1))

theorem reference_loss : val_main_v56 (F := Ideal) x0 x1 x2 x3 x4 = fun _ =>
    half * ∑ t : Fin 8192, square (whole x0 x1 x2 t) (fun l => x4 (ix1 l)) (fun l => x3 (ix2 t l)) :=
  funext fun i => (congrArg _ ((eq_ix2 i).trans (congrArg (fun a : Fin 1 => ix2 a (i 1)) (Fin.fin_one_eq_zero (i 0))))).trans
    (ref_loss x0 x1 x2 x3 x4 (i 1))

end Reference

end Cert.Proof.Loss

end
-- ==== Proof.Forward.lean ====
/-
  The claims about the forward calls: the mixers' input and output products, the cross-attention's query and output
  products, and the network's two layers, the second with the final norm, the loss and the loss's gradients. Each
  reference leaves its arguments alone and has no semaphore; from agreeing arguments its results are the ones that the
  kernel's module says the kernel leaves.
-/
module

public import proofs.«01_k».proof.Defs
public import proofs.«01_k».proof.Proof.Columns
public import proofs.«01_k».proof.Proof.Queries
public import proofs.«01_k».proof.Proof.Mixed
public import proofs.«01_k».proof.Proof.Attended
public import proofs.«01_k».proof.Proof.Hidden
public import proofs.«01_k».proof.Proof.Loss
public import proofs.«01_k».proof.Proof.Gen.InRefIdeal.Run
public import proofs.«01_k».proof.Proof.Gen.WqRefIdeal.Run
public import proofs.«01_k».proof.Proof.Gen.OutRefIdeal.Run
public import proofs.«01_k».proof.Proof.Gen.WoRefIdeal.Run
public import proofs.«01_k».proof.Proof.Gen.UpRefIdeal.Run
public import proofs.«01_k».proof.Proof.Gen.DownRefIdeal.Run

@[expose] public section

set_option maxRecDepth 16384

noncomputable section

namespace Cert.Proof.Forward

open Idealize.ShloMosaic Idealize.SL.Sem

theorem frame_columns : Cert.quiescent_InRefIdeal := fun m ρ _ =>
  (θ_run InRefIdeal.defs _ _).mono (fun r h => ⟨fun c => (h c).2, sem_eq_zero_of_no_sems (by decide) r.2⟩)
    (InRefIdeal.Value.run (F := Ideal) m ρ)

theorem frame_queries : Cert.quiescent_WqRefIdeal := fun m ρ _ =>
  (θ_run WqRefIdeal.defs _ _).mono (fun r h => ⟨fun c => (h c).2, sem_eq_zero_of_no_sems (by decide) r.2⟩)
    (WqRefIdeal.Value.run (F := Ideal) m ρ)

theorem frame_mixed : Cert.quiescent_OutRefIdeal := fun m ρ _ =>
  (θ_run OutRefIdeal.defs _ _).mono (fun r h => ⟨fun c => (h c).2.2, sem_eq_zero_of_no_sems (by decide) r.2⟩)
    (OutRefIdeal.Value.run (F := Ideal) m ρ)

theorem frame_attended : Cert.quiescent_WoRefIdeal := fun m ρ _ =>
  (θ_run WoRefIdeal.defs _ _).mono (fun r h => ⟨fun c => (h c).2.2, sem_eq_zero_of_no_sems (by decide) r.2⟩)
    (WoRefIdeal.Value.run (F := Ideal) m ρ)

theorem frame_hidden : Cert.quiescent_UpRefIdeal := fun m ρ _ =>
  (θ_run UpRefIdeal.defs _ _).mono (fun r h => ⟨fun c => (h c).2.2, sem_eq_zero_of_no_sems (by decide) r.2⟩)
    (UpRefIdeal.Value.run (F := Ideal) m ρ)

theorem frame_loss : Cert.quiescent_DownRefIdeal := fun m ρ _ =>
  (θ_run DownRefIdeal.defs _ _).mono (fun r h => ⟨fun c => (h c).2.2.2, sem_eq_zero_of_no_sems (by decide) r.2⟩)
    (DownRefIdeal.Value.run (F := Ideal) m ρ)

/-- The mixers' columns. -/
theorem columns : Cert.algebraic_InIdeal_InRefIdeal := by
  intro m ρ m' ρ' _ hagree
  refine ⟨Columns.P m, Columns.run m ρ,
    (θ_run InRefIdeal.defs _ _).mono (fun r h c => ?_) (InRefIdeal.Value.run m' ρ')⟩
  obtain ⟨e0, e1⟩ := hagree c
  refine ⟨(h c).1.trans ?_, (h c).2⟩
  rw [InRefIdeal.Read.val_main_v4_eq, e0, e1, Columns.reference]
  rfl

/-- The queries. -/
theorem queries : Cert.algebraic_WqIdeal_WqRefIdeal := by
  intro m ρ m' ρ' _ hagree
  refine ⟨Queries.Q m, Queries.run m ρ,
    (θ_run WqRefIdeal.defs _ _).mono (fun r h c => ?_) (WqRefIdeal.Value.run m' ρ')⟩
  obtain ⟨e0, e1⟩ := hagree c
  refine ⟨(h c).1.trans ?_, (h c).2⟩
  rw [WqRefIdeal.Read.val_main_v3_eq, e0, e1, Queries.reference]
  rfl

/-- The residual after the mixers, and its norm. -/
theorem mixed : Cert.algebraic_OutIdeal_OutRefIdeal := by
  intro m ρ m' ρ' _ hagree
  refine ⟨Mixed.X1 m, Mixed.H m, Mixed.run m ρ,
    (θ_run OutRefIdeal.defs _ _).mono (fun r h c => ?_) (OutRefIdeal.Value.run m' ρ')⟩
  obtain ⟨e0, e1, e2, e3⟩ := hagree c
  refine ⟨(h c).1.trans ?_, (h c).2.1.trans ?_, (h c).2.2⟩
  · rw [OutRefIdeal.Read.val_main_v3_eq, e0, e1, e2, Mixed.reference_sum]
    rfl
  · rw [OutRefIdeal.Read.val_main_v17_eq, e0, e1, e2, e3, Mixed.reference]
    rfl

/-- The residual after the cross-attention, and its norm. -/
theorem attended : Cert.algebraic_WoIdeal_WoRefIdeal := by
  intro m ρ m' ρ' _ hagree
  refine ⟨Attended.X1 m, Attended.H m, Attended.run m ρ,
    (θ_run WoRefIdeal.defs _ _).mono (fun r h c => ?_) (WoRefIdeal.Value.run m' ρ')⟩
  obtain ⟨e0, e1, e2, e3⟩ := hagree c
  refine ⟨(h c).1.trans ?_, (h c).2.1.trans ?_, (h c).2.2⟩
  · rw [WoRefIdeal.Read.val_main_v3_eq, e0, e1, e2, Attended.reference_sum]
    rfl
  · rw [WoRefIdeal.Read.val_main_v17_eq, e0, e1, e2, e3, Attended.reference]
    rfl

/-- The network's hidden layer, and its square. -/
theorem hidden : Cert.algebraic_UpIdeal_UpRefIdeal := by
  intro m ρ m' ρ' _ hagree
  refine ⟨Hidden.U m, Hidden.U2 m, Hidden.run m ρ,
    (θ_run UpRefIdeal.defs _ _).mono (fun r h c => ?_) (UpRefIdeal.Value.run m' ρ')⟩
  obtain ⟨e0, e1⟩ := hagree c
  refine ⟨(h c).1.trans ?_, (h c).2.1.trans ?_, (h c).2.2⟩
  · rw [UpRefIdeal.Read.val_main_v4_eq, e0, e1, Hidden.reference]
    rfl
  · rw [UpRefIdeal.Read.val_main_v6_eq, e0, e1, Hidden.reference_square]
    rfl

/-- The loss, its gradient in the last residual, and the final norm weight's. -/
theorem loss : Cert.algebraic_DownIdeal_DownRefIdeal := by
  intro m ρ m' ρ' _ hagree
  refine ⟨Loss.DX m, Loss.GW m, Loss.LS m, Loss.run m ρ,
    (θ_run DownRefIdeal.defs _ _).mono (fun r h c => ?_) (DownRefIdeal.Value.run m' ρ')⟩
  obtain ⟨e0, e1, e2, e3, e4⟩ := hagree c
  refine ⟨(h c).1.trans ?_, (h c).2.1.trans ?_, (h c).2.2.1.trans ?_, (h c).2.2.2⟩
  · rw [DownRefIdeal.Read.val_main_v54_eq, e0, e1, e2, e3, e4, Loss.reference]
    rfl
  · rw [DownRefIdeal.Read.val_main_v55_eq, e0, e1, e2, e3, e4, Loss.reference_weight]
    rfl
  · rw [DownRefIdeal.Read.val_main_v56_eq, e0, e1, e2, e3, e4, Loss.reference_loss]
    rfl

end Cert.Proof.Forward

end
-- ==== Proof.AttnForward.lean ====
/-
  The cross-attention's forward call: in each head a row's softmax weights over the 256 memories, times the values. The
  reference's maximum and sum are the kernel's, so no condition on the arguments is needed.
-/
module

public import proofs.«01_k».proof.Proof.Heads
public import proofs.«01_k».proof.Proof.Gen.AttnIdeal.Value
public import proofs.«01_k».proof.Proof.Gen.AttnRefIdeal.Read
public import Idealize.ShloMosaic.Lib.Pointwise
public import Idealize.ShloMosaic.Lib.Pipeline.ValueKit

@[expose] public section

set_option maxRecDepth 16384

noncomputable section

namespace Cert.Proof.AttnForward

open Idealize.ShloMosaic Idealize.ShloMosaic.TcCoe Idealize.ShloMosaic.Pipeline Idealize.SL.Sem Cert.AttnIdeal Cert.AttnIdeal.Gen
open Cert.Proof.Rows Cert.Proof.Heads

/-- A query's weighted sum of the values in head `h`. -/
def att {n : ℕ} (q : Fin n → Fin 1024 → EReal) (k v : Fin 256 → Fin 1024 → EReal) (h : Fin 4) (t : Fin n) (d : Fin 256) : EReal :=
  ∑ j, prob (sc q k h t) j * v j (col h d)

/-! ## The body's text for one head: the first's, which the others' repeat -/

theorem ex0 (q : Vec Ideal S1024x256 .bf16) (k : Vec Ideal S256x256 .f32) (t : Fin 1024) (j : Fin 256) :
    k0_pay5 q k (ix2 t j) = ex (scores (fun d => q (ix2 t d)) (fun n d => k (ix2 n d))) j := by
  unfold k0_pay5 ex top scores
  pointwise
  rw [ofBits_neg_inf]

theorem sum0 (e : FVec Ideal S1024x256 .f32) (v : Vec Ideal S256x256 .f32) (t : Fin 1024) (d : Fin 256) :
    k0_pay9 e v (ix2 t d) = ∑ j : Fin 256, Ideal.div (e (ix2 t j)) (∑ n : Fin 256, e (ix2 t n)) * v (ix2 j d) := by
  unfold k0_pay9
  pointwise

theorem head1 (q : Vec Ideal S1024x256 .bf16) (k v : Vec Ideal S256x256 .f32) :
    k0_pay10 (k0_pay6 q k) v = k0_pay9 (k0_pay5 q k) v := rfl
theorem head2 (q : Vec Ideal S1024x256 .bf16) (k v : Vec Ideal S256x256 .f32) :
    k0_pay1 (k0_pay7 (k0_pay3 q k)) v = k0_pay9 (k0_pay5 q k) v := rfl
theorem head3 (q : Vec Ideal S1024x256 .bf16) (k v : Vec Ideal S256x256 .f32) :
    k0_pay2 (k0_pay8 (k0_pay4 q k)) v = k0_pay9 (k0_pay5 q k) v := rfl

/-- An array's entries by row and column. -/
abbrev ent {n m : ℕ} {e : EltTy} (x : (⟨2, ![n, m]⟩ : Shape).Idx → Elt Ideal e) (r : Fin n) (l : Fin m) : Elt Ideal e := x (ix2 r l)

/-- What a point leaves in its block. -/
theorem block (x0 : Vec Ideal S1024x1024 .bf16) (x1 x2 : Vec Ideal S256x1024 .f32) (h : Fin 4) (t : Fin 1024) (d : Fin 256) :
    out0_3 x0 x1 x2 (ix2 t (col h d)) = att (ent x0) (ent x1) (ent x2) h t d := by
  have one : k0_pay9 (k0_pay5 (head h x0) (head h x1)) (head h x2) (ix2 t d) = att (ent x0) (ent x1) (ent x2) h t d := by
    rw [sum0]
    simp only [ex0, head_apply]
    rfl
  rw [← one]
  unfold out0_3
  simp only [r0_0, r0_1, r0_2, r0_3, r0_4, r0_5, r0_6, r0_7, head1, head2, head3,
    ld_head 0 0 rfl, ld_head 256 1 rfl, ld_head 512 2 rfl, ld_head 768 3 rfl]
  fin_cases h <;> simp (discharger := decide) only [Fin.zero_eta, Fin.mk_one, Fin.reduceFinMk, canon_same 0 0 rfl, canon_same 256 1 rfl,
    canon_same 512 2 rfl, canon_same 768 3 rfl, canon_other 256 _ 1 rfl, canon_other 512 _ 2 rfl, canon_other 768 _ 3 rfl]

variable (m : (b : Loc nD τ sig) → Buf (Elt Ideal) b) (c : Dev nD)

/-- The queries, the keys and the values, entry by entry. -/
abbrev Q (t : Fin 8192) (k : Fin 1024) : EReal := m ((c : Thread nD τ).loc main_arg0) (ix2 t k)
abbrev K (j : Fin 256) (k : Fin 1024) : EReal := m ((c : Thread nD τ).loc main_arg1) (ix2 j k)
abbrev U (j : Fin 256) (k : Fin 1024) : EReal := m ((c : Thread nD τ).loc main_arg2) (ix2 j k)

def row (n : ℕ) (r : Fin 1024) : Fin 8192 := ⟨n % 8 * 1024 + r.val, by have := r.isLt; omega⟩

theorem idx0 : ∀ t : Fin cfg0.N, win0_0.index t = ![t.val % 8, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val % 8, 0] := (by decide +kernel : ∀ t : Fin grid0.N, _)

abbrev in0 (t : Fin cfg0.N) : Vec Ideal S1024x1024 .bf16 := iblk m c 0 t
abbrev in1 (t : Fin cfg0.N) : Vec Ideal S256x1024 .f32 := iblk m c 1 t
abbrev in2 (t : Fin cfg0.N) : Vec Ideal S256x1024 .f32 := iblk m c 2 t

theorem blk0 (t : Fin cfg0.N) : ent (in0 m c t) = fun r k => Q m c (row t.val r) k := by
  funext r k
  unfold ent
  blk_simp [in0, iblk]
  rw [V_main_arg0]
  refine congrArg _ (funext fun a => Fin.ext ?_)
  match a with
  | ⟨0, _⟩ => blk_simp [idx0]; rfl
  | ⟨1, _⟩ => blk_simp [idx0]

theorem blk1 (t : Fin cfg0.N) : ent (in1 m c t) = K m c := by
  funext j k
  unfold ent
  blk_simp [in1, iblk]
  rw [V_main_arg1]
  refine congrArg _ (funext fun a => Fin.ext ?_)
  match a with
  | ⟨0, _⟩ => blk_simp [idx1]
  | ⟨1, _⟩ => blk_simp [idx1]

theorem blk2 (t : Fin cfg0.N) : ent (in2 m c t) = U m c := by
  funext j k
  unfold ent
  blk_simp [in2, iblk]
  rw [V_main_arg2]
  refine congrArg _ (funext fun a => Fin.ext ?_)
  match a with
  | ⟨0, _⟩ => blk_simp [idx2]
  | ⟨1, _⟩ => blk_simp [idx2]

/-- The heads' outputs. -/
def O : (⟨2, ![8192, 1024]⟩ : Shape).Idx → EReal := spread (att (Q m c) (K m c) (U m c))

theorem out (t : Fin cfg0.N) (h : Fin 4) (r : Fin 1024) (d : Fin 256) :
    out0_3 (in0 m c t) (in1 m c t) (in2 m c t) (ix2 r (col h d)) = att (Q m c) (K m c) (U m c) h (row t.val r) d := by
  rw [block, blk0, blk1, blk2]
  rfl

theorem final : (dats m 0 c).arrAt 3 cfg0.N = O m c := by
  refine (dats m 0 c).arrAt_eq_of_covers 3 _ (by decide +kernel) fun t _ y => ?_
  blk_simp
  rw [after0_3]
  obtain ⟨h, d, e⟩ := exists_col (y 1)
  have hy : y = ix2 (y 0) (col h d) := by rw [← e]; exact eq_ix2 y
  have he : (win0_3.blk t).view.emb y = ix2 (row t.val (y 0)) (col h d) := by
    rw [hy]
    refine funext fun a => Fin.ext ?_
    match a with
    | ⟨0, _⟩ => blk_simp [idx3]; rfl
    | ⟨1, _⟩ => blk_simp [idx3]
  rw [he]
  exact (congrArg _ hy).trans ((out m c t h (y 0) d).trans (spread_apply _ _ _ _).symm)

/-- The run: the heads' outputs, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = O m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Proof.AttnForward

/-! ## The reference -/

namespace Cert.Proof.AttnForward.Reference

open Idealize.ShloMosaic Cert.AttnRefIdeal Cert.AttnRefIdeal.Gen Cert.AttnRefIdeal.Read
open Cert.Proof.Rows Cert.Proof.Heads

variable (q : S8192x1024.Idx → EReal) (k v : S256x1024.Idx → EReal)

/-- An array's entries by row and column. -/
abbrev at2 {n m : ℕ} (x : (⟨2, ![n, m]⟩ : Shape).Idx → EReal) (r : Fin n) (l : Fin m) : EReal := x (ix2 r l)

theorem q_at (t : Fin 8192) (h : Fin 4) (d : Fin 256) : val_main_v1 (F := Ideal) q (ix3 t h d) = q (ix2 t (col h d)) := by
  rw [val_main_v1_apply, val_main_v0_apply]
  refine congrArg q (funext fun a => Fin.ext ?_)
  have := h.isLt
  have := d.isLt
  match a with
  | ⟨0, _⟩ => show ((t.val * 4 + h.val) * 256 + d.val) / 1024 = t.val; omega
  | ⟨1, _⟩ => show ((t.val * 4 + h.val) * 256 + d.val) % 1024 = 256 * h.val + d.val; omega

theorem k_at (j : Fin 256) (h : Fin 4) (d : Fin 256) : val_main_v2 (F := Ideal) k (ix3 j h d) = k (ix2 j (col h d)) := by
  rw [val_main_v2_apply]
  refine congrArg k (funext fun a => Fin.ext ?_)
  have := h.isLt
  have := d.isLt
  match a with
  | ⟨0, _⟩ => show ((j.val * 4 + h.val) * 256 + d.val) / 1024 = j.val; omega
  | ⟨1, _⟩ => show ((j.val * 4 + h.val) * 256 + d.val) % 1024 = 256 * h.val + d.val; omega

theorem v_at (j : Fin 256) (h : Fin 4) (d : Fin 256) : val_main_v3 (F := Ideal) v (ix3 j h d) = v (ix2 j (col h d)) := by
  rw [val_main_v3_apply]
  refine congrArg v (funext fun a => Fin.ext ?_)
  have := h.isLt
  have := d.isLt
  match a with
  | ⟨0, _⟩ => show ((j.val * 4 + h.val) * 256 + d.val) / 1024 = j.val; omega
  | ⟨1, _⟩ => show ((j.val * 4 + h.val) * 256 + d.val) % 1024 = 256 * h.val + d.val; omega

theorem scores_at (h : Fin 4) (t : Fin 8192) (j : Fin 256) :
    val_main_v6 (F := Ideal) q k (ix3 h t j) = sc (at2 q) (at2 k) h t j := by
  rw [val_main_v6_apply, val_main_v4_apply, val_main_v5_apply, val_main_cst_apply]
  refine congrArg (· * scale) (Finset.sum_congr rfl fun d _ => ?_)
  rw [eq_ix3 (lidx_main_v4 (ix3 h t j) d), eq_ix3 (ridx_main_v4 (ix3 h t j) d)]
  exact congrArg₂ (· * ·) (q_at q t h d) (k_at k j h d)

theorem top_at (h : Fin 4) (t : Fin 8192) : val_main_v7 (F := Ideal) q k (ix2 h t) = top (sc (at2 q) (at2 k) h t) := by
  unfold val_main_v7
  rw [Host.reduce_eq_fold_single FloatOps.maximumf _ _ reducesTo_S4x8192x256_S4x8192_d2 (by decide) h_S_]
  rw [val_main_cst_0_apply]
  show Finset.univ.fold max (Ideal.ofBits .f32 0xFF800000#32) _ = _
  rw [ofBits_neg_inf]
  refine Finset.fold_congr fun j _ => ?_
  exact (congrArg _ (eq_ix3 _)).trans (scores_at q k h t j)

theorem ex_at (h : Fin 4) (t : Fin 8192) (j : Fin 256) :
    val_main_v13 (F := Ideal) q k (ix3 h t j) = ex (sc (at2 q) (at2 k) h t) j := by
  rw [val_main_v13_apply, val_main_v12_apply, val_main_v11_apply, val_main_v10_apply, val_main_v9_apply, val_main_v8_apply,
    val_main_cst_1_apply, scores_at, eq_ix2 (idx_main_v10 _)]
  show Ideal.exp (_ - max (Ideal.ofBits .f32 0xFF800000#32) (val_main_v7 (F := Ideal) q k (ix2 h t))) = _
  rw [top_at, ofBits_neg_inf, max_eq_right bot_le]
  rfl

theorem den_at (h : Fin 4) (t : Fin 8192) (u : Fin 1) :
    val_main_v15 (F := Ideal) q k (ix3 h t u) = den (sc (at2 q) (at2 k) h t) := by
  rw [val_main_v15_apply, val_main_v14_apply, val_main_cst_2_apply]
  show Ideal.ofBits .f32 0x00000000#32 + _ = _
  rw [ofBits_zero, zero_add]
  refine Finset.sum_congr rfl fun j _ => ?_
  rw [eq_ix3 (idx_main_v14 _ j)]
  exact ex_at q k h t j

theorem prob_at (h : Fin 4) (t : Fin 8192) (j : Fin 256) :
    val_main_v17 (F := Ideal) q k (ix3 h t j) = prob (sc (at2 q) (at2 k) h t) j := by
  rw [val_main_v17_apply, val_main_v16_apply, eq_ix3 (idx_main_v16 _), ex_at]
  exact congrArg (Ideal.div _) (den_at q k h t 0)

/-- The reference's output. -/
theorem out_at (t : Fin 8192) (h : Fin 4) (d : Fin 256) :
    val_main_v21 (F := Ideal) q k v (ix2 t (col h d)) = att (at2 q) (at2 k) (at2 v) h t d := by
  have hi : idx_main_v20 (ix2 t (col h d)) = ix3 t h d := funext fun a => Fin.ext (by
    have := t.isLt
    have := h.isLt
    have := d.isLt
    match a with
    | ⟨0, _⟩ => show (t.val * 1024 + (256 * h.val + d.val)) / 1024 = t.val; omega
    | ⟨1, _⟩ => show (t.val * 1024 + (256 * h.val + d.val)) / 256 % 4 = h.val; omega
    | ⟨2, _⟩ => show (t.val * 1024 + (256 * h.val + d.val)) % 256 = d.val; omega)
  rw [val_main_v21_apply, val_main_v20_apply, hi, val_main_v19_apply, eq_ix3 (idx_main_v19 _), val_main_v18_apply]
  refine Finset.sum_congr rfl fun j _ => ?_
  rw [eq_ix3 (lidx_main_v18 _ j), eq_ix3 (ridx_main_v18 _ j), mul_comm]
  exact congrArg₂ (· * ·) (prob_at q k h t j) (v_at v j h d)

end Cert.Proof.AttnForward.Reference

end
-- ==== Proof.Groups.lean ====
/-
  An array of 1024 columns as equal groups of neighbouring columns: what a load and a store of one group read and
  leave, and an array given group by group.
-/
module

public import proofs.«01_k».proof.Proof.Rows
public import Idealize.ShloMosaic.Lib.Pipeline.Value
public import Idealize.ShloMosaic.Lib.Pipeline.ValueKit

@[expose] public section

noncomputable section

namespace Cert.Proof.Groups

open Idealize.ShloMosaic Cert.Proof.Rows

variable {k w : ℕ} [F : Fact (k * w = 1024)]

instance : Fact (8 * 128 = 1024) := ⟨rfl⟩
instance : Fact (2 * 512 = 1024) := ⟨rfl⟩

omit F in
theorem pos [F : Fact (k * w = 1024)] : 0 < w := Nat.pos_of_ne_zero fun h => by have := F.out; rw [h] at this; omega

/-- Column `d` of group `h`. -/
def col (h : Fin k) (d : Fin w) : Fin 1024 := ⟨w * h.val + d.val, by
  have h1 : w * (h.val + 1) ≤ w * k := Nat.mul_le_mul_left w h.isLt
  have h2 := F.out
  rw [Nat.mul_comm] at h2
  have := d.isLt
  rw [Nat.mul_add] at h1
  omega⟩

theorem col_val (h : Fin k) (d : Fin w) : (col h d).val = w * h.val + d.val := rfl

/-- The group of a column, and the column's place in it. -/
def grp (k w : ℕ) [F : Fact (k * w = 1024)] (c : Fin 1024) : Fin k := ⟨c.val / w, Nat.div_lt_of_lt_mul (by rw [Nat.mul_comm, F.out]; exact c.isLt)⟩
def place (k w : ℕ) [Fact (k * w = 1024)] (c : Fin 1024) : Fin w := ⟨c.val % w, Nat.mod_lt _ (pos (k := k))⟩

theorem grp_col (h : Fin k) (d : Fin w) : grp k w (col h d) = h :=
  Fin.ext (by show (w * h.val + d.val) / w = h.val; rw [Nat.mul_add_div (pos (k := k)), Nat.div_eq_of_lt d.isLt, Nat.add_zero])

theorem place_col (h : Fin k) (d : Fin w) : place k w (col h d) = d :=
  Fin.ext (by show (w * h.val + d.val) % w = d.val; rw [Nat.mul_add_mod, Nat.mod_eq_of_lt d.isLt])

/-- Every column is a column of a group. -/
theorem col_grp (c : Fin 1024) : c = col (grp k w c) (place k w c) :=
  Fin.ext (Nat.div_add_mod _ _).symm

/-! ## Loads and stores of one group's columns -/

section Columns

variable {Val : EltTy → Type} {e : EltTy} {n : ℕ}

/-- An array's columns of one group. -/
def part (h : Fin k) (x : (⟨2, ![n, 1024]⟩ : Shape).Idx → Val e) (i : (⟨2, ![n, w]⟩ : Shape).Idx) : Val e :=
  x (ix2 (i 0) (col (w := w) h (i 1)))

theorem part_apply (h : Fin k) (x : (⟨2, ![n, 1024]⟩ : Shape).Idx → Val e) (t : Fin n) (d : Fin w) :
    part h x (ix2 t d) = x (ix2 t (col h d)) := rfl

theorem unit_idx (o : ℕ) (h : Fin k) (ho : o = w * h.val) (inb) (t : Fin n) (d : Fin w) :
    (Rect.unit (s := ⟨2, ![n, 1024]⟩) ![0, o] ![n, w] inb).idx (ix2 t d) = ix2 t (col h d) := by
  subst ho
  funext a
  apply Fin.ext
  rw [Rect.idx_unit_val]
  match a with
  | ⟨0, _⟩ => exact Nat.zero_add _
  | ⟨1, _⟩ => rfl

theorem not_mem_unit (o : ℕ) (h h' : Fin k) (ho : o = w * h'.val) (hne : h ≠ h') (inb) (t : Fin n) (d : Fin w) :
    ix2 t (col h d) ∉ (Rect.unit (s := ⟨2, ![n, 1024]⟩) ![0, o] ![n, w] inb).set := by
  rw [Rect.mem_set_unit]
  intro hm
  have h1 : o ≤ (col h d).val ∧ (col h d).val < o + w := hm 1
  have h2 : (col h d).val / w = h'.val := by
    rw [show (col h d).val = w * h'.val + ((col h d).val - o) from by omega, Nat.mul_add_div (pos (k := k)),
      Nat.div_eq_of_lt (by omega), Nat.add_zero]
  exact hne ((grp_col h d).symm.trans (Fin.ext h2))

/-- A load of a group's columns. -/
theorem ld_part (o : ℕ) (h : Fin k) (ho : o = w * h.val) (inb) (x : (⟨2, ![n, 1024]⟩ : Shape).Idx → Val e) :
    View.ld x (Rect.unit (s := ⟨2, ![n, 1024]⟩) ![0, o] ![n, w] inb) = part h x := by
  funext i
  rw [eq_ix2 i]
  exact congrArg x (unit_idx o h ho inb (i 0) (i 1))

/-- A slice of a group's columns. -/
theorem slice_part (o : ℕ) (h : Fin k) (ho : o = w * h.val) {F : FTy → Type} {ty : FTy} (x : (⟨2, ![n, 1024]⟩ : Shape).Idx → F ty)
    (sl : (⟨2, ![n, 1024]⟩ : Shape).Slices ![0, o] ⟨2, ![n, w]⟩) (t : Fin n) (d : Fin w) :
    extractStridedSlice ⟨2, ![n, w]⟩ ![0, o] x sl (ix2 t d) = x (ix2 t (col h d)) := by
  subst ho
  exact extractStridedSlice_apply _ x sl _ _ fun a => match a with
    | ⟨0, _⟩ => (Nat.zero_add _).symm
    | ⟨1, _⟩ => rfl

variable [∀ e, Nonempty (Val e)]

/-- What a store of a group's columns leaves in them, -/
theorem canon_same (o : ℕ) (h : Fin k) (ho : o = w * h.val) (inb)
    (x : (Rect.unit (s := ⟨2, ![n, 1024]⟩) ![0, o] ![n, w] inb).shape.Idx → Val e) (L) (t : Fin n) (d : Fin w) :
    View.canon (⟨Rect.unit ![0, o] ![n, w] inb, x⟩ :: L) (ix2 t (col h d)) = x (ix2 t d) := by
  rw [← unit_idx o h ho inb t d]
  exact View.canon_cons_emb _ x L (ix2 t d)

/-- and in another group's. -/
theorem canon_other (o : ℕ) (h h' : Fin k) (ho : o = w * h'.val) (hne : h ≠ h') (inb)
    (x : (Rect.unit (s := ⟨2, ![n, 1024]⟩) ![0, o] ![n, w] inb).shape.Idx → Val e) (L) (t : Fin n) (d : Fin w) :
    View.canon (⟨Rect.unit ![0, o] ![n, w] inb, x⟩ :: L) (ix2 t (col h d)) = View.canon L (ix2 t (col h d)) :=
  View.canon_cons_of_not_mem _ L (not_mem_unit o h h' ho hne inb t d)

/-- A load of a group's columns after stores. -/
theorem readCov_part {sig : RefSig} {κ : Kind} {sp : Space} (v : View sig κ sp ⟨2, ![n, 1024]⟩ e) (L)
    (o : ℕ) (h : Fin k) (ho : o = w * h.val) (inb) :
    v.readCov (Val := Val) L (Rect.unit (s := ⟨2, ![n, 1024]⟩) ![0, o] ![n, w] inb).toLoadRect = part h (View.canon L) := by
  rw [View.readCov_eq_canon']
  funext i
  rw [eq_ix2 i]
  exact congrArg (View.canon L) (unit_idx o h ho inb (i 0) (i 1))

end Columns

/-! ## An array given group by group -/

/-- The array whose entry in row `t` and column `d` of group `h` is `f h t d`. -/
def spread {n : ℕ} (f : Fin k → Fin n → Fin w → EReal) (i : (⟨2, ![n, 1024]⟩ : Shape).Idx) : EReal :=
  f (grp k w (i 1)) (i 0) (place k w (i 1))

theorem spread_apply {n : ℕ} (f : Fin k → Fin n → Fin w → EReal) (t : Fin n) (h : Fin k) (d : Fin w) :
    spread f (ix2 t (col h d)) = f h t d :=
  congrArg₂ (fun a b => f a t b) (grp_col h d) (place_col h d)

/-- Two arrays are equal when they are group by group. -/
theorem ext_groups (k w : ℕ) [Fact (k * w = 1024)] {n : ℕ} {x y : (⟨2, ![n, 1024]⟩ : Shape).Idx → EReal}
    (H : ∀ (t : Fin n) (h : Fin k) (d : Fin w), x (ix2 t (col h d)) = y (ix2 t (col h d))) : x = y := by
  funext i
  have hi : i = ix2 (i 0) (col (grp k w (i 1)) (place k w (i 1))) :=
    (eq_ix2 i).trans (congrArg (ix2 (i 0)) (col_grp (k := k) (w := w) (i 1)))
  rw [hi]
  exact H _ _ _

end Cert.Proof.Groups

end
-- ==== Proof.Gate.lean ====
/-
  The gate of the mixers, `z` times its sigmoid. The sigmoid of the kernels is a hyperbolic tangent, that of the references
  one over one plus an exponential; the two are equal at every extended real.
-/
module

public import proofs.«01_k».proof.Proof.Rows

@[expose] public section

noncomputable section

namespace Cert.Proof.Gate

open Idealize.ShloMosaic Cert.Proof.Rows

/-- The constant of the norm, and one half. -/
abbrev eps : EReal := Ideal.ofBits .f32 0x358637BD#32
abbrev half : EReal := Ideal.ofBits .f32 0x3F000000#32

/-- The gate, the sigmoid through the hyperbolic tangent. -/
def gate (z : EReal) : EReal := z * (half * Ideal.tanh (half * z) + half)

/-- The product of a row with a row of the matrix. -/
def dmix (x : Fin 1024 → EReal) (w : Fin 1024 → Fin 1024 → EReal) (l : Fin 1024) : EReal := ∑ j, x j * w l j

theorem half_eq : half = ((1 / 2 : ℝ) : EReal) := by
  simp [half, Ideal.ofBits, Ideal.ieee, -EReal.coe_mul]; norm_num

/-- The sigmoid by the hyperbolic tangent of half the argument. -/
theorem sigmoid (z : EReal) : half * Ideal.tanh (half * z) + half = Ideal.div 1 (1 + Ideal.exp (-z)) := by
  show _ = Ideal.logistic z
  rw [half_eq]
  induction z with
  | bot =>
    rw [EReal.coe_mul_bot_of_pos (by norm_num), Ideal.tanh_bot, Ideal.logistic_bot, ← EReal.coe_one, ← EReal.coe_neg,
      ← EReal.coe_mul, ← EReal.coe_add, ← EReal.coe_zero]
    norm_num
  | top =>
    rw [EReal.coe_mul_top_of_pos (by norm_num), Ideal.tanh_top, Ideal.logistic_top, ← EReal.coe_one,
      ← EReal.coe_mul, ← EReal.coe_add]
    norm_num
  | coe r =>
    rw [← EReal.coe_mul, Ideal.tanh_coe, Ideal.logistic_coe, ← EReal.coe_mul, ← EReal.coe_add]
    refine congrArg _ ?_
    have e : Real.exp (-r) = Real.exp (-(1 / 2 * r)) * Real.exp (-(1 / 2 * r)) := by rw [← Real.exp_add]; ring_nf
    have p : Real.exp (1 / 2 * r) * Real.exp (-(1 / 2 * r)) = 1 := by rw [← Real.exp_add]; simp
    rw [Real.tanh_eq_sinh_div_cosh, Real.sinh_eq, Real.cosh_eq, e]
    generalize Real.exp (1 / 2 * r) = a at *
    have hb : 0 < Real.exp (-(1 / 2 * r)) := Real.exp_pos _
    generalize Real.exp (-(1 / 2 * r)) = b at *
    have ha : a = 1 / b := by field_simp; exact p
    subst ha
    field_simp
    ring

end Cert.Proof.Gate

end
-- ==== Proof.GatedHead.lean ====
/-
  One head of the gated delta rule's output norm, backward: the gradient of what is normalised and the point's share of
  the gradient of the norm's weight, entry by entry. The body's text for each of the eight heads is the last head's.
-/
module

public import proofs.«01_k».proof.Proof.Groups
public import proofs.«01_k».proof.Proof.Norm
public import proofs.«01_k».proof.Proof.Gate
public import proofs.«01_k».proof.Proof.Gen.GdnPostIdeal.Value
public import Idealize.ShloMosaic.Lib.Pointwise
public import Idealize.ShloMosaic.Lib.Tactic

@[expose] public section

set_option maxRecDepth 16384

noncomputable section

namespace Cert.Proof.GatedHead

open Idealize.ShloMosaic Idealize.ShloMosaic.TcCoe Idealize.ShloMosaic.Pipeline Idealize.SL.Sem Cert.GdnPostIdeal Cert.GdnPostIdeal.Gen
open Cert.Proof.Rows Cert.Proof.Groups Cert.Proof.Gate

/-- The length of a head. -/
abbrev len : EReal := Ideal.ofBits .f32 0x43000000#32

/-- The gradient of the row that is normalised, and a row's term of the gradient of the norm's weight. -/
def gradRow {ι : Type} [Fintype ι] (dm o z w : ι → EReal) (d : ι) : EReal :=
  Norm.direct len eps o (fun d => dm d * gate (z d) * w d) d
def weightTerm {ι : Type} [Fintype ι] (dm o z : ι → EReal) (d : ι) : EReal :=
  dm d * gate (z d) * (o d * Norm.inv len eps o)

/-- The body's text for the last head. -/
def textDo (dm : FVec Ideal S512x128 .f32) (o z : Vec Ideal S512x128 .bf16) (w : Vec Ideal S1x128 .f32) : FVec Ideal S512x128 .bf16 :=
  k0_pay88 (k0_pay81 z) w dm (k0_pay83 o) (k0_pay84 o) (k0_pay85 z)
def textDw (dm : FVec Ideal S512x128 .f32) (o z : Vec Ideal S512x128 .bf16) (acc : Vec Ideal S1x128 .f32) : FVec Ideal S1x128 .f32 :=
  k0_pay89 (k0_pay81 z) dm (k0_pay84 o) (k0_pay85 z) acc

variable (dm : FVec Ideal S512x128 .f32) (o z : Vec Ideal S512x128 .bf16) (w acc : Vec Ideal S1x128 .f32)
  (p : FVec Ideal S512x1024 .f32) (x0 : Vec Ideal S512x1024 .f32) (x1 : Vec Ideal S1024x1024 .bf16)

theorem root (t : Fin 512) (u : Fin 1) : k0_pay83 o (ix2 t u) = Norm.inv len eps (fun d => o (ix2 t d)) := by
  unfold k0_pay83 k0_pay80 Norm.inv Norm.ms
  pointwise

theorem normed (t : Fin 512) (d : Fin 128) : k0_pay84 o (ix2 t d) = o (ix2 t d) * Norm.inv len eps (fun d => o (ix2 t d)) := by
  unfold k0_pay84 k0_pay80
  pointwise
  rw [root]

theorem gated (t : Fin 512) (d : Fin 128) : k0_pay86 (k0_pay81 z) dm (k0_pay85 z) (ix2 t d) = dm (ix2 t d) * gate (z (ix2 t d)) := by
  unfold k0_pay86 k0_pay85 k0_pay81 gate
  pointwise

theorem do_apply (t : Fin 512) (d : Fin 128) : textDo dm o z w (ix2 t d) =
    gradRow (fun d => dm (ix2 t d)) (fun d => o (ix2 t d)) (fun d => z (ix2 t d)) (fun d => w (ix2 0 d)) d := by
  unfold textDo k0_pay88 gradRow Norm.direct
  pointwise
  simp only [root, normed, gated]

theorem dw_apply (u : Fin 1) (d : Fin 128) : textDw dm o z acc (ix2 u d) =
    acc (ix2 u d) + ∑ t : Fin 512, weightTerm (fun d => dm (ix2 t d)) (fun d => o (ix2 t d)) (fun d => z (ix2 t d)) d := by
  unfold textDw k0_pay89 weightTerm
  pointwise
  simp only [normed, gated]

/-- The weight's gradient starts from zero. -/
theorem start (i : S1x1024.Idx) : k0_pay1 (F := Ideal) i = 0 := by
  unfold k0_pay1
  pointwise

theorem prod (t : Fin 512) (l : Fin 1024) : k0_pay2 x0 x1 (ix2 t l) = ∑ j : Fin 1024, x0 (ix2 t j) * x1 (ix2 l j) := by
  unfold k0_pay2
  pointwise

/-! ## The eight heads' texts -/

theorem do0 : k0_pay12 w (k0_pay6 o) (k0_pay7 o) (k0_pay8 x0 x1 z) = textDo (k0_pay5 x0 x1) o z w := rfl
theorem do1 : k0_pay23 (k0_pay17 (k0_pay14 o)) (k0_pay18 (k0_pay14 o)) (k0_pay21 p (k0_pay15 z) w) (k0_pay22 p (k0_pay14 o) (k0_pay15 z) w)
    = textDo (k0_pay16 p) o z w := rfl
theorem do2 : k0_pay33 (k0_pay26 z) w dm (k0_pay28 o) (k0_pay29 o) (k0_pay30 z) = textDo dm o z w := rfl
theorem do3 : k0_pay46 w (k0_pay38 o) (k0_pay39 o) (k0_pay40 p z) = textDo (k0_pay37 p) o z w := rfl
theorem do4 : k0_pay56 (k0_pay48 o) (k0_pay49 z) w dm (k0_pay51 o) (FloatOps.ofBits FTy.f32 897988541#32) = textDo dm o z w := rfl
theorem do5 : k0_pay67 w (k0_pay61 o) (k0_pay62 o) (k0_pay63 p z) = textDo (k0_pay60 p) o z w := rfl
theorem do6 : k0_pay78 (k0_pay72 (k0_pay69 o)) (k0_pay73 (k0_pay69 o)) (k0_pay76 p (k0_pay70 z) w) (k0_pay77 p (k0_pay69 o) (k0_pay70 z) w)
    = textDo (k0_pay71 p) o z w := rfl
theorem do7 : k0_pay88 (k0_pay81 z) w dm (k0_pay83 o) (k0_pay84 o) (k0_pay85 z) = textDo dm o z w := rfl

theorem dw0 : k0_pay13 (k0_pay7 o) (k0_pay8 x0 x1 z) acc = textDw (k0_pay5 x0 x1) o z acc := rfl
theorem dw1 : k0_pay24 (k0_pay18 (k0_pay14 o)) (k0_pay19 p (k0_pay15 z)) acc = textDw (k0_pay16 p) o z acc := rfl
theorem dw2 : k0_pay34 (k0_pay26 z) dm (k0_pay29 o) (k0_pay30 z) acc = textDw dm o z acc := rfl
theorem dw3 : k0_pay47 (k0_pay39 o) (k0_pay40 p z) acc = textDw (k0_pay37 p) o z acc := rfl
theorem dw4 : k0_pay57 (k0_pay53 (k0_pay48 o) (k0_pay51 o) (FloatOps.ofBits FTy.f32 897988541#32)) (k0_pay54 (k0_pay49 z) dm) acc
    = textDw dm o z acc := rfl
theorem dw5 : k0_pay68 (k0_pay62 o) (k0_pay63 p z) acc = textDw (k0_pay60 p) o z acc := rfl
theorem dw6 : k0_pay79 (k0_pay73 (k0_pay69 o)) (k0_pay74 p (k0_pay70 z)) acc = textDw (k0_pay71 p) o z acc := rfl
theorem dw7 : k0_pay89 (k0_pay81 z) dm (k0_pay84 o) (k0_pay85 z) acc = textDw dm o z acc := rfl

/-- Each head's columns of the product. -/
abbrev own (h : Fin 8) (p : FVec Ideal S512x1024 .f32) : FVec Ideal S512x128 .f32 :=
  part (Val := Elt Ideal) (e := .f32) (n := 512) (w := 128) h p

theorem cols (h : Fin 8) (off : ℕ) (ho : off = 128 * h.val) (sl) : extractStridedSlice S512x128 ![0, off] p sl = own h p := by
  funext i
  rw [eq_ix2 i]
  exact slice_part off h ho p sl (i 0) (i 1)

theorem cols0 : k0_pay5 x0 x1 = own 0 (k0_pay2 x0 x1) := cols _ 0 0 rfl slices_S512x1024_o0_0_S512x128
theorem cols1 : k0_pay16 p = own 1 p := cols _ 1 128 rfl slices_S512x1024_o0_128_S512x128
theorem cols2 : k0_pay27 p = own 2 p := cols _ 2 256 rfl slices_S512x1024_o0_256_S512x128
theorem cols3 : k0_pay37 p = own 3 p := cols _ 3 384 rfl slices_S512x1024_o0_384_S512x128
theorem cols4 : k0_pay50 p = own 4 p := cols _ 4 512 rfl slices_S512x1024_o0_512_S512x128
theorem cols5 : k0_pay60 p = own 5 p := cols _ 5 640 rfl slices_S512x1024_o0_640_S512x128
theorem cols6 : k0_pay71 p = own 6 p := cols _ 6 768 rfl slices_S512x1024_o0_768_S512x128
theorem cols7 : k0_pay82 p = own 7 p := cols _ 7 896 rfl slices_S512x1024_o0_896_S512x128

end Cert.Proof.GatedHead

end
-- ==== Proof.GatedBlocks.lean ====
/-
  What a point of the grid leaves in its blocks: the gradient of the rows that are normalised, head by head, and the
  gradient of the norm's weight so far, which the first point starts from zero.
-/
module

public import proofs.«01_k».proof.Proof.GatedHead

@[expose] public section

set_option maxRecDepth 16384

noncomputable section

namespace Cert.Proof.GatedBlocks

open Idealize.ShloMosaic Idealize.ShloMosaic.TcCoe Idealize.ShloMosaic.Pipeline Idealize.SL.Sem Cert.GdnPostIdeal Cert.GdnPostIdeal.Gen
open Cert.Proof.Rows Cert.Proof.Groups Cert.Proof.Gate Cert.Proof.GatedHead

/-- A row's gradient in head `h`, and its term of the weight's. -/
def rowDo (x : Fin 1024 → EReal) (m : Fin 1024 → Fin 1024 → EReal) (o z w : Fin 1024 → EReal) (h : Fin 8) (d : Fin 128) : EReal :=
  gradRow (fun d => dmix x m (col h d)) (fun d => o (col h d)) (fun d => z (col h d)) (fun d => w (col h d)) d
def rowDw (x : Fin 1024 → EReal) (m : Fin 1024 → Fin 1024 → EReal) (o z : Fin 1024 → EReal) (h : Fin 8) (d : Fin 128) : EReal :=
  weightTerm (fun d => dmix x m (col h d)) (fun d => o (col h d)) (fun d => z (col h d)) d

variable (c : Dev nD) (i : grid0.Coords) (a1 : Memref sig .tc .vmem S512x1024 .f32) (h1 : a1.IsWhole)
  (a2 : Memref sig .tc .vmem S1024x1024 .bf16) (h2 : a2.IsWhole) (a3 : Memref sig .tc .vmem S512x1024 .bf16) (h3 : a3.IsWhole)
  (a4 : Memref sig .tc .vmem S512x1024 .bf16) (h4 : a4.IsWhole) (a5 : Memref sig .tc .vmem S1x1024 .f32) (h5 : a5.IsWhole)
  (a6 : Memref sig .tc .vmem S512x1024 .bf16) (h6 : a6.IsWhole) (a7 : Memref sig .tc .vmem S512x1024 .bf16) (h7 : a7.IsWhole)
  (a8 : Memref sig .tc .vmem S1x1024 .f32) (h8 : a8.IsWhole)
  (x0 : Vec Ideal S512x1024 .f32) (x1 : Vec Ideal S1024x1024 .bf16) (x2 x3 : Vec Ideal S512x1024 .bf16)
  (x4 o7 : Vec Ideal S1x1024 .f32)

theorem hz : (![0, 0] : Fin 2 → Nat) = fun _ => 0 := funext fun a => by fin_cases a <;> rfl

/-- An array's columns of one head. -/
abbrev hd {n : ℕ} {e : EltTy} (h : Fin 8) (x : (⟨2, ![n, 1024]⟩ : Shape).Idx → Elt Ideal e) : (⟨2, ![n, 128]⟩ : Shape).Idx → Elt Ideal e :=
  part (Val := Elt Ideal) (w := 128) h x

theorem text_do (h : Fin 8) (t : Fin 512) (d : Fin 128) :
    textDo (own h (k0_pay2 x0 x1)) (hd h x2) (hd h x3) (hd h x4) (ix2 t d)
      = rowDo (fun l => x0 (ix2 t l)) (fun l j => x1 (ix2 l j)) (fun l => x2 (ix2 t l)) (fun l => x3 (ix2 t l)) (fun l => x4 (ix2 0 l)) h d := by
  rw [do_apply]
  simp only [part_apply, prod]
  rfl

theorem text_dw (h : Fin 8) (acc : Vec Ideal S1x128 .f32) (u : Fin 1) (d : Fin 128) :
    textDw (own h (k0_pay2 x0 x1)) (hd h x2) (hd h x3) acc (ix2 u d) = acc (ix2 u d) + ∑ t : Fin 512,
      rowDw (fun l => x0 (ix2 t l)) (fun l j => x1 (ix2 l j)) (fun l => x2 (ix2 t l)) (fun l => x3 (ix2 t l)) h d := by
  rw [dw_apply]
  simp only [part_apply, prod]
  rfl

/-- The rows' gradient, at the first point -/
theorem outA5 (hc : cond0_0 i) (h : Fin 8) (t : Fin 512) (d : Fin 128) :
    out0_A_5 c i a1 h1 a2 h2 a3 h3 a4 h4 a5 h5 a6 h6 a7 h7 a8 h8 hc x0 x1 x2 x3 x4 (ix2 t (col h d)) = rowDo (fun l => x0 (ix2 t l)) (fun l j => x1 (ix2 l j)) (fun l => x2 (ix2 t l)) (fun l => x3 (ix2 t l)) (fun l => x4 (ix2 0 l)) h d := by
  rw [← text_do x0 x1 x2 x3 x4 h t d]
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  fin_cases h <;> simp (discharger := decide) only [Fin.zero_eta, Fin.mk_one, Fin.reduceFinMk, canon_same (w := 128) 0 (0 : Fin 8) rfl, canon_same (w := 128) 128 (1 : Fin 8) rfl,
    canon_same (w := 128) 256 (2 : Fin 8) rfl, canon_same (w := 128) 384 (3 : Fin 8) rfl, canon_same (w := 128) 512 (4 : Fin 8) rfl, canon_same (w := 128) 640 (5 : Fin 8) rfl,
    canon_same (w := 128) 768 (6 : Fin 8) rfl, canon_same (w := 128) 896 (7 : Fin 8) rfl,
    canon_other (w := 128) 128 _ (1 : Fin 8) rfl, canon_other (w := 128) 256 _ (2 : Fin 8) rfl, canon_other (w := 128) 384 _ (3 : Fin 8) rfl,
    canon_other (w := 128) 512 _ (4 : Fin 8) rfl, canon_other (w := 128) 640 _ (5 : Fin 8) rfl, canon_other (w := 128) 768 _ (6 : Fin 8) rfl, canon_other (w := 128) 896 _ (7 : Fin 8) rfl]
    <;> simp only [View.readAt_eq_ld, h1.read_unread, h2.read_unread, h3.read_unread, h4.read_unread, h5.read_unread, View.ld_unit_zero (S := S512x1024) hz, View.ld_unit_zero (S := S1024x1024) hz,
    ld_part (w := 128) 0 (0 : Fin 8) rfl, ld_part (w := 128) 128 (1 : Fin 8) rfl, ld_part (w := 128) 256 (2 : Fin 8) rfl, ld_part (w := 128) 384 (3 : Fin 8) rfl,
    ld_part (w := 128) 512 (4 : Fin 8) rfl, ld_part (w := 128) 640 (5 : Fin 8) rfl, ld_part (w := 128) 768 (6 : Fin 8) rfl, ld_part (w := 128) 896 (7 : Fin 8) rfl,
    do0, do1, do2, do3, do4, do5, do6, do7, cols0, cols1, cols2, cols3, cols4, cols5, cols6, cols7]

/-- and at the others. -/
theorem outB5 (hc : ¬cond0_0 i) (h : Fin 8) (t : Fin 512) (d : Fin 128) :
    out0_B_5 c i a1 h1 a2 h2 a3 h3 a4 h4 a5 h5 a6 h6 a7 h7 a8 h8 hc x0 x1 x2 x3 x4 o7 (ix2 t (col h d)) = rowDo (fun l => x0 (ix2 t l)) (fun l j => x1 (ix2 l j)) (fun l => x2 (ix2 t l)) (fun l => x3 (ix2 t l)) (fun l => x4 (ix2 0 l)) h d := by
  rw [← text_do x0 x1 x2 x3 x4 h t d]
  unfold out0_B_5
  rw [View.read_writes_eq_canon _ _ _ (cover0_B_5 c i a1 h1 a2 h2 a3 h3 a4 h4 a5 h5 a6 h6 a7 h7 a8 h8 hc x0 x1 x2 x3 x4 o7)]
  unfold kernelRun0_B
  dsimp only
  sl_unfold_words
  fin_cases h <;> simp (discharger := decide) only [Fin.zero_eta, Fin.mk_one, Fin.reduceFinMk, canon_same (w := 128) 0 (0 : Fin 8) rfl, canon_same (w := 128) 128 (1 : Fin 8) rfl,
    canon_same (w := 128) 256 (2 : Fin 8) rfl, canon_same (w := 128) 384 (3 : Fin 8) rfl, canon_same (w := 128) 512 (4 : Fin 8) rfl, canon_same (w := 128) 640 (5 : Fin 8) rfl,
    canon_same (w := 128) 768 (6 : Fin 8) rfl, canon_same (w := 128) 896 (7 : Fin 8) rfl,
    canon_other (w := 128) 128 _ (1 : Fin 8) rfl, canon_other (w := 128) 256 _ (2 : Fin 8) rfl, canon_other (w := 128) 384 _ (3 : Fin 8) rfl,
    canon_other (w := 128) 512 _ (4 : Fin 8) rfl, canon_other (w := 128) 640 _ (5 : Fin 8) rfl, canon_other (w := 128) 768 _ (6 : Fin 8) rfl, canon_other (w := 128) 896 _ (7 : Fin 8) rfl]
    <;> simp only [View.readAt_eq_ld, h1.read_unread, h2.read_unread, h3.read_unread, h4.read_unread, h5.read_unread, View.ld_unit_zero (S := S512x1024) hz, View.ld_unit_zero (S := S1024x1024) hz,
    ld_part (w := 128) 0 (0 : Fin 8) rfl, ld_part (w := 128) 128 (1 : Fin 8) rfl, ld_part (w := 128) 256 (2 : Fin 8) rfl, ld_part (w := 128) 384 (3 : Fin 8) rfl,
    ld_part (w := 128) 512 (4 : Fin 8) rfl, ld_part (w := 128) 640 (5 : Fin 8) rfl, ld_part (w := 128) 768 (6 : Fin 8) rfl, ld_part (w := 128) 896 (7 : Fin 8) rfl,
    do0, do1, do2, do3, do4, do5, do6, do7, cols0, cols1, cols2, cols3, cols4, cols5, cols6, cols7]

/-- The weight's gradient, at the first point, -/
theorem outA7 (hc : cond0_0 i) (h : Fin 8) (u : Fin 1) (d : Fin 128) :
    out0_A_7 c i a1 h1 a2 h2 a3 h3 a4 h4 a5 h5 a6 h6 a7 h7 a8 h8 hc x0 x1 x2 x3 x4 (ix2 u (col h d)) = 0 + ∑ t : Fin 512,
      rowDw (fun l => x0 (ix2 t l)) (fun l j => x1 (ix2 l j)) (fun l => x2 (ix2 t l)) (fun l => x3 (ix2 t l)) h d := by
  rw [show (0 : EReal) = hd (n := 1) (e := .f32) h (k0_pay1 (F := Ideal)) (ix2 u d) from (start _).symm,
    ← text_dw x0 x1 x2 x3 h _ u d]
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  fin_cases h <;> simp (discharger := decide) only [Fin.zero_eta, Fin.mk_one, Fin.reduceFinMk, canon_same (w := 128) 0 (0 : Fin 8) rfl, canon_same (w := 128) 128 (1 : Fin 8) rfl,
    canon_same (w := 128) 256 (2 : Fin 8) rfl, canon_same (w := 128) 384 (3 : Fin 8) rfl, canon_same (w := 128) 512 (4 : Fin 8) rfl, canon_same (w := 128) 640 (5 : Fin 8) rfl,
    canon_same (w := 128) 768 (6 : Fin 8) rfl, canon_same (w := 128) 896 (7 : Fin 8) rfl,
    canon_other (w := 128) 128 _ (1 : Fin 8) rfl, canon_other (w := 128) 256 _ (2 : Fin 8) rfl, canon_other (w := 128) 384 _ (3 : Fin 8) rfl,
    canon_other (w := 128) 512 _ (4 : Fin 8) rfl, canon_other (w := 128) 640 _ (5 : Fin 8) rfl, canon_other (w := 128) 768 _ (6 : Fin 8) rfl, canon_other (w := 128) 896 _ (7 : Fin 8) rfl]
    <;> simp only [View.readAt_eq_ld, h1.read_unread, h2.read_unread, h3.read_unread, h4.read_unread, h5.read_unread, View.ld_unit_zero (S := S512x1024) hz, View.ld_unit_zero (S := S1024x1024) hz,
    ld_part (w := 128) 0 (0 : Fin 8) rfl, ld_part (w := 128) 128 (1 : Fin 8) rfl, ld_part (w := 128) 256 (2 : Fin 8) rfl, ld_part (w := 128) 384 (3 : Fin 8) rfl,
    ld_part (w := 128) 512 (4 : Fin 8) rfl, ld_part (w := 128) 640 (5 : Fin 8) rfl, ld_part (w := 128) 768 (6 : Fin 8) rfl, ld_part (w := 128) 896 (7 : Fin 8) rfl,
    dw0, dw1, dw2, dw3, dw4, dw5, dw6, dw7, cols0, cols1, cols2, cols3, cols4, cols5, cols6, cols7]
  all_goals
    rw [dw_apply, dw_apply]
    refine congrArg (· + _) ?_
    simp (discharger := decide) only [readCov_part (w := 128) _ _ 0 (0 : Fin 8) rfl, readCov_part (w := 128) _ _ 128 (1 : Fin 8) rfl, readCov_part (w := 128) _ _ 256 (2 : Fin 8) rfl,
      readCov_part (w := 128) _ _ 384 (3 : Fin 8) rfl, readCov_part (w := 128) _ _ 512 (4 : Fin 8) rfl, readCov_part (w := 128) _ _ 640 (5 : Fin 8) rfl,
      readCov_part (w := 128) _ _ 768 (6 : Fin 8) rfl, readCov_part (w := 128) _ _ 896 (7 : Fin 8) rfl, part_apply,
      canon_other (w := 128) 0 _ (0 : Fin 8) rfl, canon_other (w := 128) 128 _ (1 : Fin 8) rfl, canon_other (w := 128) 256 _ (2 : Fin 8) rfl, canon_other (w := 128) 384 _ (3 : Fin 8) rfl,
      canon_other (w := 128) 512 _ (4 : Fin 8) rfl, canon_other (w := 128) 640 _ (5 : Fin 8) rfl, canon_other (w := 128) 768 _ (6 : Fin 8) rfl, View.canon_unit_zero (S := S1x1024) hz]

/-- and at the others. -/
theorem outB7 (hc : ¬cond0_0 i) (h : Fin 8) (u : Fin 1) (d : Fin 128) :
    out0_B_7 c i a1 h1 a2 h2 a3 h3 a4 h4 a5 h5 a6 h6 a7 h7 a8 h8 hc x0 x1 x2 x3 x4 o7 (ix2 u (col h d)) = o7 (ix2 u (col h d)) + ∑ t : Fin 512,
      rowDw (fun l => x0 (ix2 t l)) (fun l j => x1 (ix2 l j)) (fun l => x2 (ix2 t l)) (fun l => x3 (ix2 t l)) h d := by
  rw [show o7 (ix2 u (col h d)) = hd h o7 (ix2 u d) from rfl, ← text_dw x0 x1 x2 x3 h _ u d]
  unfold out0_B_7
  rw [View.read_writes_eq_canon _ _ _ (cover0_B_7 c i a1 h1 a2 h2 a3 h3 a4 h4 a5 h5 a6 h6 a7 h7 a8 h8 hc x0 x1 x2 x3 x4 o7)]
  unfold kernelRun0_B
  dsimp only
  sl_unfold_words
  fin_cases h <;> simp (discharger := decide) only [Fin.zero_eta, Fin.mk_one, Fin.reduceFinMk, canon_same (w := 128) 0 (0 : Fin 8) rfl, canon_same (w := 128) 128 (1 : Fin 8) rfl,
    canon_same (w := 128) 256 (2 : Fin 8) rfl, canon_same (w := 128) 384 (3 : Fin 8) rfl, canon_same (w := 128) 512 (4 : Fin 8) rfl, canon_same (w := 128) 640 (5 : Fin 8) rfl,
    canon_same (w := 128) 768 (6 : Fin 8) rfl, canon_same (w := 128) 896 (7 : Fin 8) rfl,
    canon_other (w := 128) 128 _ (1 : Fin 8) rfl, canon_other (w := 128) 256 _ (2 : Fin 8) rfl, canon_other (w := 128) 384 _ (3 : Fin 8) rfl,
    canon_other (w := 128) 512 _ (4 : Fin 8) rfl, canon_other (w := 128) 640 _ (5 : Fin 8) rfl, canon_other (w := 128) 768 _ (6 : Fin 8) rfl, canon_other (w := 128) 896 _ (7 : Fin 8) rfl]
    <;> simp only [View.readAt_eq_ld, h1.read_unread, h2.read_unread, h3.read_unread, h4.read_unread, h5.read_unread, h8.read_unread, View.ld_unit_zero (S := S512x1024) hz, View.ld_unit_zero (S := S1024x1024) hz,
    ld_part (w := 128) 0 (0 : Fin 8) rfl, ld_part (w := 128) 128 (1 : Fin 8) rfl, ld_part (w := 128) 256 (2 : Fin 8) rfl, ld_part (w := 128) 384 (3 : Fin 8) rfl,
    ld_part (w := 128) 512 (4 : Fin 8) rfl, ld_part (w := 128) 640 (5 : Fin 8) rfl, ld_part (w := 128) 768 (6 : Fin 8) rfl, ld_part (w := 128) 896 (7 : Fin 8) rfl,
    dw0, dw1, dw2, dw3, dw4, dw5, dw6, dw7, cols0, cols1, cols2, cols3, cols4, cols5, cols6, cols7]

end Cert.Proof.GatedBlocks

end
-- ==== Proof.GatedNorm.lean ====
/-
  The gated delta rule's output norm and gate with the output projection, backward: the kernel's run leaves the gradient
  of the rows that are normalised and the gradient of the norm's weight, a sum over every row.
-/
module

public import proofs.«01_k».proof.Proof.GatedBlocks
public import Idealize.ShloMosaic.Lib.Pipeline.ValueKit

@[expose] public section

set_option maxRecDepth 16384

noncomputable section

namespace Cert.Proof.GatedNorm

open Idealize.ShloMosaic Idealize.ShloMosaic.TcCoe Idealize.ShloMosaic.Pipeline Idealize.SL.Sem Cert.GdnPostIdeal Cert.GdnPostIdeal.Gen
open Cert.Proof.Rows Cert.Proof.Groups Cert.Proof.GatedBlocks

variable (m : (b : Loc nD τ sig) → Buf (Elt Ideal) b) (c : Dev nD)

/-- The first half of the matrix's rows, and the gate's columns among the projection's. -/
def into (l : Fin 1024) : Fin 2048 := ⟨l.val, by have := l.isLt; omega⟩
def gateCol (l : Fin 1024) : Fin 6656 := ⟨3072 + l.val, by have := l.isLt; omega⟩

/-- The arguments, entry by entry. -/
abbrev X (t : Fin 8192) (j : Fin 1024) : EReal := m ((c : Thread nD τ).loc main_arg0) (ix2 t j)
abbrev W (l j : Fin 1024) : EReal := m ((c : Thread nD τ).loc main_arg1) (ix2 (into l) j)
abbrev O (t : Fin 8192) (l : Fin 1024) : EReal := m ((c : Thread nD τ).loc main_arg2) (ix2 t l)
abbrev Z (t : Fin 8192) (l : Fin 1024) : EReal := m ((c : Thread nD τ).loc main_arg3) (ix2 t (gateCol l))
abbrev S (l : Fin 1024) : EReal := m ((c : Thread nD τ).loc main_arg4) (ix2 0 l)

/-- The row of the array that row `r` of block `n` is. -/
def row (n : ℕ) (r : Fin 512) : Fin 8192 := ⟨n % 16 * 512 + r.val, by have := r.isLt; omega⟩

theorem idx0 : ∀ t : Fin cfg0.N, win0_0.index t = ![t.val % 16, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 16, 0] := (by decide +kernel : ∀ t : Fin grid0.N, _)
theorem idx3 : ∀ t : Fin cfg0.N, win0_3.index t = ![t.val % 16, 3] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val % 16, 0] := (by decide +kernel : ∀ t : Fin grid0.N, _)
theorem idx7 : ∀ t : Fin cfg0.N, win0_7.index t = ![0, 0] := (by decide +kernel : ∀ t : Fin grid0.N, _)

abbrev in0 (t : Fin cfg0.N) : Vec Ideal S512x1024 .f32 := iblk m c 0 t
abbrev in1 (t : Fin cfg0.N) : Vec Ideal S1024x1024 .bf16 := iblk m c 1 t
abbrev in2 (t : Fin cfg0.N) : Vec Ideal S512x1024 .bf16 := iblk m c 2 t
abbrev in3 (t : Fin cfg0.N) : Vec Ideal S512x1024 .bf16 := X0_3 m c t
abbrev in4 (t : Fin cfg0.N) : Vec Ideal S1x1024 .f32 := iblk m c 4 t

theorem blk0 (t : Fin cfg0.N) (r : Fin 512) (k : Fin 1024) : in0 m c t (ix2 r k) = X m c (row t.val r) k := by
  blk_simp [in0, iblk]
  rw [V_main_arg0]
  refine congrArg _ (funext fun a => Fin.ext ?_)
  match a with
  | ⟨0, _⟩ => blk_simp [idx0]; rfl
  | ⟨1, _⟩ => blk_simp [idx0]

theorem blk1 (t : Fin cfg0.N) (l j : Fin 1024) : in1 m c t (ix2 l j) = W m c l j := by
  blk_simp [in1, iblk]
  rw [V_main_arg1]
  refine congrArg _ (funext fun a => Fin.ext ?_)
  match a with
  | ⟨0, _⟩ => blk_simp [idx1]; rfl
  | ⟨1, _⟩ => blk_simp [idx1]

theorem blk2 (t : Fin cfg0.N) (r : Fin 512) (k : Fin 1024) : in2 m c t (ix2 r k) = O m c (row t.val r) k := by
  blk_simp [in2, iblk]
  rw [V_main_arg2]
  refine congrArg _ (funext fun a => Fin.ext ?_)
  match a with
  | ⟨0, _⟩ => blk_simp [idx2]; rfl
  | ⟨1, _⟩ => blk_simp [idx2]

theorem blk3 (t : Fin cfg0.N) (r : Fin 512) (k : Fin 1024) : in3 m c t (ix2 r k) = Z m c (row t.val r) k := by
  unfold in3 X0_3 Pipeline.Window.fill
  rw [dif_pos (moved0_3 t (ix2 r k))]
  blk_simp [iblk]
  rw [V_main_arg3]
  refine congrArg _ (funext fun a => Fin.ext ?_)
  match a with
  | ⟨0, _⟩ => blk_simp [idx3]; rfl
  | ⟨1, _⟩ => blk_simp [idx3]; rfl

theorem blk4 (t : Fin cfg0.N) (k : Fin 1024) : in4 m c t (ix2 0 k) = S m c k := by
  blk_simp [in4, iblk]
  rw [V_main_arg4]
  refine congrArg _ (funext fun a => Fin.ext ?_)
  match a with
  | ⟨0, _⟩ => blk_simp [idx4]
  | ⟨1, _⟩ => blk_simp [idx4]

/-- The two gradients. -/
def DO : (⟨2, ![8192, 1024]⟩ : Shape).Idx → EReal :=
  spread fun (h : Fin 8) t d => rowDo (X m c t) (W m c) (O m c t) (Z m c t) (S m c) h d
def DW : (⟨2, ![1, 1024]⟩ : Shape).Idx → EReal :=
  spread fun (h : Fin 8) _ d => ∑ t : Fin 8192, rowDw (X m c t) (W m c) (O m c t) (Z m c t) h d

theorem out5 (t : Fin cfg0.N) (r : Fin 512) (h : Fin 8) (d : Fin 128) :
    (outsAt0 m c t.val t.isLt).1 (ix2 r (col h d)) = DO m c (ix2 (row t.val r) (col h d)) := by
  have e : rowDo (fun l => in0 m c t (ix2 r l)) (fun l j => in1 m c t (ix2 l j)) (fun l => in2 m c t (ix2 r l))
      (fun l => in3 m c t (ix2 r l)) (fun l => in4 m c t (ix2 0 l)) h d = DO m c (ix2 (row t.val r) (col h d)) := by
    unfold DO
    rw [spread_apply]
    simp only [blk0, blk1, blk2, blk3, blk4]
  by_cases h0 : t.val % 16 = 0
  · rw [outsAt0_A m c t h0]
    dsimp only
    rw [outA5]
    exact e
  · rw [outsAt0_B m c t h0]
    dsimp only
    rw [outB5]
    exact e

theorem N16 : cfg0.N = 16 := N_0

theorem out7 (t : Fin cfg0.N) (ht : t.val + 1 = cfg0.N) (u : Fin 1) (h : Fin 8) (d : Fin 128) :
    (outsAt0 m c t.val t.isLt).2.2 (ix2 u (col h d)) = DW m c (ix2 u (col h d)) := by
  have e : ∀ t : Fin cfg0.N, ∑ r : Fin 512, rowDw (fun l => in0 m c t (ix2 r l)) (fun l j => in1 m c t (ix2 l j))
      (fun l => in2 m c t (ix2 r l)) (fun l => in3 m c t (ix2 r l)) h d
      = ∑ r : Fin 512, rowDw (X m c (row t.val r)) (W m c) (O m c (row t.val r)) (Z m c (row t.val r)) h d := fun t => by
    simp only [blk0, blk1, blk2, blk3]
  refine (eq_sum_fin_of_reset_step_last (fun n hn => (outsAt0 m c n hn).2.2 (ix2 u (col h d))) 16 0
    (fun n => ∑ r : Fin 512, rowDw (X m c (row n r)) (W m c) (O m c (row n r)) (Z m c (row n r)) h d) ?_ ?_ (le_of_eq N16) t ht).trans ?_
  · intro t h0
    rw [outsAt0_A m c t h0]
    dsimp only
    rw [outA7]
    exact congrArg _ (e t)
  · intro t h0
    rw [outsAt0_B m c t h0]
    dsimp only
    rw [outB7]
    exact congrArg _ (e t)
  · unfold DW
    rw [zero_add, spread_apply]
    show ∑ k : Fin 16, ∑ r : Fin 512, rowDw (X m c (row k.val r)) (W m c) (O m c (row k.val r)) (Z m c (row k.val r)) h d = _
    refine Eq.trans (Finset.sum_congr rfl fun k _ => Finset.sum_congr rfl fun r _ => ?_)
      (Fin.sum_mul_add_fin 16 512 fun t => rowDw (X m c t) (W m c) (O m c t) (Z m c t) h d)
    unfold row
    simp only [show k.val % 16 = k.val by have := k.isLt; omega]

theorem final5 : (dats m 0 c).arrAt 5 cfg0.N = DO m c := by
  refine (dats m 0 c).arrAt_eq_of_covers 5 _ (by decide +kernel) fun t _ y => ?_
  have hy : y = ix2 (y 0) (col (grp 8 128 (y 1)) (place 8 128 (y 1))) := (eq_ix2 y).trans (congrArg (ix2 (y 0)) (col_grp (k := 8) (w := 128) (y 1)))
  blk_simp
  rw [after0_5]
  refine (congrArg _ hy).trans ((out5 m c t (y 0) _ _).trans
    ((congrArg (fun a => DO m c (ix2 (row t.val (y 0)) a)) (col_grp (k := 8) (w := 128) (y 1)).symm).trans
      (congrArg (DO m c) (funext fun a => Fin.ext ?_))))
  match a with
  | ⟨0, _⟩ => blk_simp [idx5]; rfl
  | ⟨1, _⟩ => blk_simp [idx5]; rfl

theorem final7 : (dats m 0 c).arrAt 7 cfg0.N = DW m c := by
  refine (dats m 0 c).arrAt_eq_of_after_last 7 t0_15 (by decide +kernel) _ fun y => ?_
  have hy : y = ix2 (y 0) (col (grp 8 128 (y 1)) (place 8 128 (y 1))) := (eq_ix2 y).trans (congrArg (ix2 (y 0)) (col_grp (k := 8) (w := 128) (y 1)))
  blk_simp
  rw [after0_7]
  exact (congrArg _ hy).trans ((out7 m c t0_15 (by decide) (y 0) _ _).trans (congrArg (DW m c) hy.symm))

/-- The run: the two gradients, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = DO m c
      ∧ r.2.mem ((c : Thread nD τ).loc main_v0_2) = DW m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.2.1.trans (final7 m c), (h c).2.2.2⟩)
    (Value.run_blocks m ρ)

end Cert.Proof.GatedNorm

end
-- ==== Proof.GatedReference.lean ====
/-
  The reference of the gated delta rule's output norm and gate with the output projection, backward: its two gradients
  are the kernel's.
-/
module

public import proofs.«01_k».proof.Proof.GatedNorm
public import proofs.«01_k».proof.Proof.Gen.GdnPostRefIdeal.Read

@[expose] public section

set_option maxRecDepth 16384

noncomputable section

namespace Cert.Proof.GatedReference

open Idealize.ShloMosaic Cert.GdnPostRefIdeal Cert.GdnPostRefIdeal.Gen Cert.GdnPostRefIdeal.Read
open Cert.Proof.Rows Cert.Proof.Groups Cert.Proof.Gate Cert.Proof.GatedHead Cert.Proof.GatedBlocks
open Cert.Proof.GatedNorm (into gateCol)

theorem len_eq : len = ((128 : ℝ) : EReal) := by
  simp [len, Ideal.ofBits, Ideal.ieee, -EReal.coe_mul]; norm_num

variable (x : S8192x1024.Idx → EReal) (w : S2048x1024.Idx → EReal) (o : S8192x1024.Idx → EReal) (p : S8192x6656.Idx → EReal)
  (s : S1x1024.Idx → EReal)

/-- What the head's row is at an entry: the normalised array's, the product's, the gate's, the weight's. -/
abbrev Or (t : Fin 8192) (h : Fin 8) (d : Fin 128) : EReal := o (ix2 t (col h d))
abbrev Dr (t : Fin 8192) (h : Fin 8) (d : Fin 128) : EReal := dmix (fun j => x (ix2 t j)) (fun l j => w (ix2 (into l) j)) (col h d)
abbrev Zr (t : Fin 8192) (h : Fin 8) (d : Fin 128) : EReal := p (ix2 t (gateCol (col h d)))
abbrev Sr (h : Fin 8) (d : Fin 128) : EReal := s (ix2 0 (col h d))

/-- A column's place when the columns are split in heads. -/
theorem split (t : Fin 8192) (h : Fin 8) (d : Fin 128) (f : S8192x1024.Idx)
    (h0 : (f 0).val = ((t.val * 8 + h.val) * 128 + d.val) / 1024) (h1 : (f 1).val = ((t.val * 8 + h.val) * 128 + d.val) % 1024) :
    f = ix2 t (col h d) := funext fun a => Fin.ext (by
  have := t.isLt
  have := h.isLt
  have := d.isLt
  match a with
  | ⟨0, _⟩ => refine h0.trans ?_; show _ = t.val; omega
  | ⟨1, _⟩ => refine h1.trans ?_; show _ = 128 * h.val + d.val; omega)

theorem ref_o (t : Fin 8192) (h : Fin 8) (d : Fin 128) : val_main_v3 (F := Ideal) o (ix3 t h d) = Or o t h d := by
  rw [val_main_v3_apply, split t h d (idx_main_v3 (ix3 t h d)) rfl rfl, val_main_v2_apply]
  rfl

theorem ref_z (t : Fin 8192) (h : Fin 8) (d : Fin 128) : val_main_v21 (F := Ideal) p (ix3 t h d) = Zr p t h d := by
  rw [val_main_v21_apply, split t h d (idx_main_v21 (ix3 t h d)) rfl rfl, val_main_v1_apply, val_main_v0_apply, eq_ix2 (idx_main_v0 _)]
  rfl

theorem ref_dmix (t : Fin 8192) (h : Fin 8) (d : Fin 128) : val_main_v29 (F := Ideal) x w (ix3 t h d) = Dr x w t h d := by
  rw [val_main_v29_apply, split t h d (idx_main_v29 (ix3 t h d)) rfl rfl, val_main_v28_apply]
  refine Finset.sum_congr rfl fun k _ => ?_
  rw [val_main_v26_apply, val_main_v25_apply, eq_ix2 (lidx_main_v28 _ k), eq_ix2 (idx_main_v25 _)]
  rfl

theorem ref_w (h : Fin 8) (d : Fin 128) : val_main_v4 (F := Ideal) s (ix2 h d) = Sr s h d := by
  rw [val_main_v4_apply]
  refine congrArg s (funext fun a => Fin.ext ?_)
  have := h.isLt
  have := d.isLt
  match a with
  | ⟨0, _⟩ => rfl
  | ⟨1, _⟩ => show (h.val * 128 + d.val) % 1024 = 128 * h.val + d.val; omega

/-- The gate, -/
theorem ref_gate (t : Fin 8192) (h : Fin 8) (d : Fin 128) : val_main_v22 (F := Ideal) p (ix3 t h d) = gate (Zr p t h d) := by
  rw [val_main_v22_apply, val_main_call0_v5_apply, val_main_call0_v4_apply, val_main_call0_v3_apply, val_main_call0_v2_apply,
    val_main_call0_v1_apply, val_main_call0_v0_apply, ref_z, val_main_call0_cst_apply, val_main_call0_cst_0_apply]
  show Zr p t h d * Ideal.div (Ideal.ofBits .f32 0x3F800000#32) (Ideal.ofBits .f32 0x3F800000#32 + Ideal.exp (-Zr p t h d)) = _
  rw [Rows.ofBits_one, gate, sigmoid]

/-- the mean square of a head's row and its inverse root, -/
theorem ref_ms (t : Fin 8192) (h : Fin 8) : val_main_v11 (F := Ideal) o (ix3 t h 0) = Norm.ms len eps (Or o t h) := by
  rw [val_main_v11_apply, val_main_v9_apply, val_main_v7_apply, val_main_v6_apply, val_main_cst_apply, val_main_v8_apply,
    val_main_cst_0_apply, val_main_v10_apply, val_main_cst_1_apply]
  show Ideal.div (Ideal.ofBits .f32 0x00000000#32 + _) _ + _ = _
  rw [Rows.ofBits_zero, zero_add]
  refine congrArg (fun s => Ideal.div s len + eps) (Finset.sum_congr rfl fun k _ => ?_)
  rw [val_main_v5_apply, show idx_main_v6 (idx_main_v7 (ix3 t h 0)) k = ix3 t h k from eq_ix3 _, ref_o]
  rfl

theorem ref_inv (t : Fin 8192) (h : Fin 8) : val_main_v12 (F := Ideal) o (ix3 t h 0) = Norm.inv len eps (Or o t h) := by
  rw [val_main_v12_apply, ref_ms]
  rfl

/-- what comes to the norm before its weight and after it, -/
theorem ref_before (t : Fin 8192) (h : Fin 8) (d : Fin 128) :
    val_main_v30 (F := Ideal) x w p (ix3 t h d) = Dr x w t h d * gate (Zr p t h d) := by
  rw [val_main_v30_apply, ref_dmix, ref_gate]
  rfl

theorem ref_scaled (t : Fin 8192) (h : Fin 8) (d : Fin 128) :
    val_main_v35 (F := Ideal) x w p s (ix3 t h d) = Dr x w t h d * gate (Zr p t h d) * Sr s h d := by
  rw [val_main_v35_apply, ref_before, val_main_v34_apply, val_main_v18_apply,
    show idx_main_v18 (idx_main_v34 (ix3 t h d)) = ix2 h d from eq_ix2 _, ref_w]
  rfl

/-- the row's sum of its products with the input, -/
theorem ref_sum (t : Fin 8192) (h : Fin 8) : val_main_v39 (F := Ideal) x w o p s (ix3 t h 0)
    = ∑ d : Fin 128, Or o t h d * (Dr x w t h d * gate (Zr p t h d) * Sr s h d) := by
  have e : idx_main_v39 (ix3 t h 0) = ix2 t h := funext fun a => Fin.ext (by
    have := t.isLt
    have := h.isLt
    match a with
    | ⟨0, _⟩ => show ((t.val * 8 + h.val) * 1 + 0) / 8 = t.val; omega
    | ⟨1, _⟩ => show ((t.val * 8 + h.val) * 1 + 0) % 8 = h.val; omega)
  rw [val_main_v39_apply, e, val_main_v38_apply, val_main_cst_5_apply]
  show Ideal.ofBits .f32 0x00000000#32 + _ = _
  rw [Rows.ofBits_zero, zero_add]
  refine Finset.sum_congr rfl fun k _ => ?_
  rw [show idx_main_v38 (ix2 t h) k = ix3 t h k from eq_ix3 _, val_main_v37_apply, ref_o, ref_scaled]
  rfl

/-- the coefficient of each row of each head, -/
theorem ref_coef (t : Fin 8192) (h : Fin 8) (d : Fin 128) : val_main_v46 (F := Ideal) x w o p s (ix3 t h d)
    = Norm.coef len eps (Ideal.ofBits .f32 0xBF000000#32) (Or o t h) (fun d => Dr x w t h d * gate (Zr p t h d) * Sr s h d) := by
  rw [val_main_v46_apply, val_main_v45_apply, Fin.sum_univ_one, val_main_cst_7_apply,
    show idx_main_v45 (idx_main_v46 (ix3 t h d)) 0 = ix3 t h 0 from eq_ix3 _,
    val_main_v44_apply, val_main_v43_apply, val_main_cst_6_apply, val_main_v42_apply, val_main_v15_apply, val_main_v14_apply,
    val_main_cst_2_apply, val_main_v13_apply]
  show Ideal.ofBits .f32 0x00000000#32 + Ideal.div (val_main_v39 (F := Ideal) x w o p s (ix3 t h 0) * (_ * Ideal.div
    (val_main_v12 (F := Ideal) o (ix3 t h 0)) (val_main_v11 (F := Ideal) o (ix3 t h 0)))) _ = _
  rw [Rows.ofBits_zero, zero_add, ref_inv, ref_ms, ref_sum]
  rfl

/-- and its two gradients, entry by entry, -/
theorem ref_entry (t : Fin 8192) (h : Fin 8) (d : Fin 128) : val_main_v50 (F := Ideal) x w o p s (ix3 t h d) =
    gradRow (Dr x w t h) (Or o t h) (Zr p t h) (Sr s h) d := by
  rw [gradRow, ← zero_add (Norm.direct _ _ _ _ _), Norm.direct_eq len_eq Rows.ofBits_small (by norm_num) (by norm_num)
    Rows.ofBits_neg_half, zero_add, val_main_v50_apply, val_main_v48_apply, val_main_v49_apply, val_main_v47_apply,
    val_main_v41_apply, val_main_v40_apply, ref_coef, ref_scaled, ref_o,
    show idx_main_v40 (ix3 t h d) = ix3 t h 0 from eq_ix3 _, ref_inv]
  rfl

theorem ref_weight (h : Fin 8) (d : Fin 128) : val_main_v32 (F := Ideal) x w o p (ix2 h d) =
    ∑ t : Fin 8192, weightTerm (Dr x w t h) (Or o t h) (Zr p t h) d := by
  rw [val_main_v32_apply, val_main_cst_3_apply]
  show Ideal.ofBits .f32 0x00000000#32 + _ = _
  rw [Rows.ofBits_zero, zero_add]
  refine Finset.sum_congr rfl fun t _ => ?_
  rw [show idx_main_v32 (ix2 h d) t = ix3 t h d from eq_ix3 _, val_main_v31_apply, ref_before, val_main_v17_apply, ref_o,
    val_main_v16_apply, show idx_main_v16 (ix3 t h d) = ix3 t h 0 from eq_ix3 _, ref_inv]
  exact mul_comm _ _

/-- and whole. -/
theorem reference : val_main_v53 (F := Ideal) x w o p s = spread fun (h : Fin 8) t d => rowDo (fun j => x (ix2 t j))
    (fun l j => w (ix2 (into l) j)) (fun l => o (ix2 t l)) (fun l => p (ix2 t (gateCol l))) (fun l => s (ix2 0 l)) h d := by
  refine ext_groups 8 128 fun t h d => ?_
  have e : idx_main_v52 (ix2 t (col h d)) = ix3 t h d := funext fun a => Fin.ext (by
    have := t.isLt
    have := h.isLt
    have := d.isLt
    match a with
    | ⟨0, _⟩ => show (t.val * 1024 + (128 * h.val + d.val)) / 1024 = t.val; omega
    | ⟨1, _⟩ => show (t.val * 1024 + (128 * h.val + d.val)) / 128 % 8 = h.val; omega
    | ⟨2, _⟩ => show (t.val * 1024 + (128 * h.val + d.val)) % 128 = d.val; omega)
  rw [spread_apply, val_main_v53_apply, val_main_v52_apply, e]
  exact ref_entry x w o p s t h d

theorem reference_weight : val_main_v51 (F := Ideal) x w o p = spread fun (h : Fin 8) _ d => ∑ t : Fin 8192,
    rowDw (fun j => x (ix2 t j)) (fun l j => w (ix2 (into l) j)) (fun l => o (ix2 t l)) (fun l => p (ix2 t (gateCol l))) h d := by
  refine ext_groups 8 128 fun u h d => ?_
  obtain rfl : u = 0 := Fin.fin_one_eq_zero u
  have e : idx_main_v33 (idx_main_v36 (idx_main_v51 (ix2 (0 : Fin 1) (col h d))) 0) = ix2 h d := funext fun a => Fin.ext (by
    have := h.isLt
    have := d.isLt
    match a with
    | ⟨0, _⟩ => show ((0 * 8 + (0 * 1024 + (128 * h.val + d.val)) / 128) * 128 + (0 * 1024 + (128 * h.val + d.val)) % 128) / 128 = h.val; omega
    | ⟨1, _⟩ => show ((0 * 8 + (0 * 1024 + (128 * h.val + d.val)) / 128) * 128 + (0 * 1024 + (128 * h.val + d.val)) % 128) % 128 = d.val; omega)
  rw [spread_apply, val_main_v51_apply, val_main_v36_apply, Fin.sum_univ_one, val_main_v33_apply, e, val_main_cst_4_apply, ref_weight]
  show Ideal.ofBits .f32 0x00000000#32 + _ = _
  rw [Rows.ofBits_zero, zero_add]
  rfl

end Cert.Proof.GatedReference

end
-- ==== Proof.GroupTexts.lean ====
/-
  One block of the state space mixer's gated norm, backward: the gradient of what is normalised in each of the two groups
  of 512 columns, and from it the block's gradients and its shares of the gradients of the two vectors, entry by entry.
-/
module

public import proofs.«01_k».proof.Proof.Groups
public import proofs.«01_k».proof.Proof.Norm
public import proofs.«01_k».proof.Proof.Gate
public import Idealize.ShloMosaic.Lib.Pointwise
public import Idealize.ShloMosaic.Lib.Tactic
public import proofs.«01_k».proof.Proof.Gen.SsdPostIdeal.Value

@[expose] public section

set_option maxRecDepth 16384

noncomputable section

namespace Cert.Proof.GroupTexts

open Idealize.ShloMosaic Idealize.ShloMosaic.TcCoe Idealize.ShloMosaic.Pipeline Idealize.SL.Sem Cert.SsdPostIdeal Cert.SsdPostIdeal.Gen
open Cert.Proof.Rows Cert.Proof.Groups Cert.Proof.Gate

/-- The length of a group. -/
abbrev len : EReal := Ideal.ofBits .f32 0x44000000#32

/-- The second half of the matrix's rows, the input's columns among the convolved ones, the gate's among the projection's. -/
def lower (l : Fin 1024) : Fin 2048 := ⟨1024 + l.val, by have := l.isLt; omega⟩
def xCol (l : Fin 1024) : Fin 1536 := ⟨l.val, by have := l.isLt; omega⟩
def zCol (l : Fin 1024) : Fin 6656 := ⟨4096 + l.val, by have := l.isLt; omega⟩

/-- What is normalised: the scan's output and the skipped input, gated. -/
def act (y v z d : Fin 1024 → EReal) (l : Fin 1024) : EReal := (y l + v l * d l) * gate (z l)

/-- A row's gradient in what is normalised, in the scan's output, and its terms of the two vectors' gradients. -/
def rowG (x : Fin 1024 → EReal) (m : Fin 1024 → Fin 1024 → EReal) (y v z d w : Fin 1024 → EReal) (h : Fin 2) (e : Fin 512) : EReal :=
  Norm.direct len eps (fun e : Fin 512 => act y v z d (col h e)) (fun e : Fin 512 => dmix x m (col h e) * w (col h e)) e
def rowDy (x : Fin 1024 → EReal) (m : Fin 1024 → Fin 1024 → EReal) (y v z d w : Fin 1024 → EReal) (h : Fin 2) (e : Fin 512) : EReal :=
  rowG x m y v z d w h e * gate (z (col h e))
def rowDd (x : Fin 1024 → EReal) (m : Fin 1024 → Fin 1024 → EReal) (y v z d w : Fin 1024 → EReal) (h : Fin 2) (e : Fin 512) : EReal :=
  rowDy x m y v z d w h e * v (col h e)
def rowDw (x : Fin 1024 → EReal) (m : Fin 1024 → Fin 1024 → EReal) (y v z d : Fin 1024 → EReal) (h : Fin 2) (e : Fin 512) : EReal :=
  dmix x m (col h e) * (act y v z d (col h e) * Norm.inv len eps fun e : Fin 512 => act y v z d (col h e))

variable (x0 v : Vec Ideal S512x1024 .f32) (x1 : Vec Ideal S1024x1024 .bf16) (y z : Vec Ideal S512x1024 .bf16)
  (d w acc : Vec Ideal S1x1024 .f32) (yg dm s : FVec Ideal S512x1024 .f32)
  (r : FVec Ideal S512x1 .f32) (a b g : FVec Ideal S512x512 .f32) (wh : Vec Ideal S1x512 .f32)

/-- An array's columns of one group. -/
abbrev hd {n : ℕ} {e : EltTy} (h : Fin 2) (x : (⟨2, ![n, 1024]⟩ : Shape).Idx → Elt Ideal e) : (⟨2, ![n, 512]⟩ : Shape).Idx → Elt Ideal e :=
  part (Val := Elt Ideal) (w := 512) h x

theorem cols (h : Fin 2) (off : ℕ) (ho : off = 512 * h.val) (sl) :
    extractStridedSlice S512x512 ![0, off] yg sl = hd (n := 512) (e := .f32) h yg := by
  funext i
  rw [eq_ix2 i]
  exact slice_part off h ho yg sl (i 0) (i 1)

theorem cols8 : k0_pay8 v z y d = hd (n := 512) (e := .f32) 0 (k0_pay7 v z y d) := cols _ 0 0 rfl slices_S512x1024_o0_0_S512x512
theorem cols11 : k0_pay11 x0 x1 = hd (n := 512) (e := .f32) 0 (k0_pay3 x0 x1) := cols _ 0 0 rfl slices_S512x1024_o0_0_S512x512
theorem cols14 : k0_pay14 yg = hd (n := 512) (e := .f32) 1 yg := cols _ 1 512 rfl slices_S512x1024_o0_512_S512x512
theorem cols17 : k0_pay17 dm = hd (n := 512) (e := .f32) 1 dm := cols _ 1 512 rfl slices_S512x1024_o0_512_S512x512

theorem prod (t : Fin 512) (l : Fin 1024) : k0_pay3 x0 x1 (ix2 t l) = dmix (fun j => x0 (ix2 t j)) (fun l j => x1 (ix2 l j)) l := by
  unfold k0_pay3 dmix
  pointwise

theorem gated (t : Fin 512) (l : Fin 1024) : k0_pay6 z (ix2 t l) = gate (z (ix2 t l)) := by
  unfold k0_pay6 k0_pay4 gate
  pointwise

theorem acted (t : Fin 512) (l : Fin 1024) : k0_pay7 v z y d (ix2 t l) =
    act (fun l => y (ix2 t l)) (fun l => v (ix2 t l)) (fun l => z (ix2 t l)) (fun l => d (ix2 0 l)) l := by
  unfold k0_pay7 k0_pay5 act
  pointwise
  rw [gated]

theorem root0 (t : Fin 512) (u : Fin 1) : k0_pay9 v z y d (ix2 t u) = Norm.inv len eps (fun e : Fin 512 => k0_pay7 v z y d (ix2 t (col (0 : Fin 2) e))) := by
  unfold k0_pay9 Norm.inv Norm.ms
  rw [cols8]
  pointwise
  simp only [part_apply]

theorem root1 (t : Fin 512) (u : Fin 1) : k0_pay15 yg (ix2 t u) = Norm.inv len eps (fun e : Fin 512 => yg (ix2 t (col (1 : Fin 2) e))) := by
  unfold k0_pay15 Norm.inv Norm.ms
  rw [cols14]
  pointwise
  simp only [part_apply]

theorem normed0 (t : Fin 512) (e : Fin 512) : k0_pay10 v z y d (ix2 t e) =
    k0_pay7 v z y d (ix2 t (col (0 : Fin 2) e)) * Norm.inv len eps (fun e : Fin 512 => k0_pay7 v z y d (ix2 t (col (0 : Fin 2) e))) := by
  unfold k0_pay10
  rw [cols8]
  pointwise
  rw [root0]
  rfl

theorem normed1 (t : Fin 512) (e : Fin 512) : k0_pay16 yg (ix2 t e) =
    yg (ix2 t (col (1 : Fin 2) e)) * Norm.inv len eps (fun e : Fin 512 => yg (ix2 t (col (1 : Fin 2) e))) := by
  unfold k0_pay16
  rw [cols14]
  pointwise
  rw [root1]
  rfl

theorem scaled1 (t : Fin 512) (e : Fin 512) : k0_pay18 dm wh (ix2 t e) = dm (ix2 t (col (1 : Fin 2) e)) * wh (ix2 0 e) := by
  unfold k0_pay18
  rw [cols17]
  pointwise
  rfl

theorem grad0 (t : Fin 512) (e : Fin 512) : k0_pay13 r a b wh (ix2 t e) =
    r (ix2 t 0) * (b (ix2 t e) * wh (ix2 0 e) - a (ix2 t e) * Ideal.div (∑ k : Fin 512, b (ix2 t k) * wh (ix2 0 k) * a (ix2 t k)) len) := by
  unfold k0_pay13
  pointwise

/-- The two groups side by side: the first, -/
theorem both0 (t : Fin 512) (e : Fin 512) : k0_pay20 g r a b (ix2 t (col (0 : Fin 2) e)) = g (ix2 t e) := by
  unfold k0_pay20
  exact concatenate_pair_apply_left (t := S512x1024) (s₁ := S512x512) (s₂ := S512x512) 1 _ _ _ _ rfl (ix2 t e) fun c => match c with
    | ⟨0, _⟩ => rfl
    | ⟨1, _⟩ => (Nat.zero_add _).symm

/-- and the second. -/
theorem both1 (t : Fin 512) (e : Fin 512) : k0_pay20 g r a b (ix2 t (col (1 : Fin 2) e)) =
    r (ix2 t 0) * (b (ix2 t e) - a (ix2 t e) * Ideal.div (∑ k : Fin 512, b (ix2 t k) * a (ix2 t k)) len) := by
  unfold k0_pay20
  rw [concatenate_pair_apply_right (t := S512x1024) (s₁ := S512x512) (s₂ := S512x512) 1 _ _ _ (ix2 t (col (1 : Fin 2) e)) rfl rfl (ix2 t e) (fun c hc => match c with
    | ⟨0, _⟩ => rfl
    | ⟨1, _⟩ => absurd rfl hc) (Nat.add_comm _ _)]
  pointwise

/-- The body's text of the gradient of what is normalised, -/
def textG : FVec Ideal S512x1024 .f32 :=
  k0_pay20 (k0_pay13 (k0_pay9 v z y d) (k0_pay10 v z y d) (k0_pay11 x0 x1) (hd (n := 1) (e := .f32) 0 w)) (k0_pay15 (k0_pay7 v z y d))
    (k0_pay16 (k0_pay7 v z y d)) (k0_pay18 (k0_pay3 x0 x1) (hd (n := 1) (e := .f32) 1 w))

theorem text_g (t : Fin 512) (h : Fin 2) (e : Fin 512) : textG x0 v x1 y z d w (ix2 t (col h e)) =
    rowG (fun l => x0 (ix2 t l)) (fun l j => x1 (ix2 l j)) (fun l => y (ix2 t l)) (fun l => v (ix2 t l)) (fun l => z (ix2 t l))
      (fun l => d (ix2 0 l)) (fun l => w (ix2 0 l)) h e := by
  unfold textG rowG Norm.direct
  fin_cases h
  · refine (both0 _ _ _ _ t e).trans ?_
    rw [grad0]
    simp only [cols11, part_apply, prod, root0, normed0, acted]
    rfl
  · refine (both1 _ _ _ _ t e).trans ?_
    simp only [scaled1, part_apply, prod, root1, normed1, acted]
    rfl

/-- of the scan's output, -/
def textDy : FVec Ideal S512x1024 .f32 :=
  k0_pay21 (k0_pay6 z) (k0_pay13 (k0_pay9 v z y d) (k0_pay10 v z y d) (k0_pay11 x0 x1) (hd (n := 1) (e := .f32) 0 w)) (k0_pay15 (k0_pay7 v z y d))
    (k0_pay16 (k0_pay7 v z y d)) (k0_pay18 (k0_pay3 x0 x1) (hd (n := 1) (e := .f32) 1 w))

theorem text_dy (t : Fin 512) (h : Fin 2) (e : Fin 512) : textDy x0 v x1 y z d w (ix2 t (col h e)) =
    rowDy (fun l => x0 (ix2 t l)) (fun l j => x1 (ix2 l j)) (fun l => y (ix2 t l)) (fun l => v (ix2 t l)) (fun l => z (ix2 t l))
      (fun l => d (ix2 0 l)) (fun l => w (ix2 0 l)) h e := by
  unfold rowDy
  rw [← text_g, ← gated]
  rfl

/-- of the skip's vector, -/
def textDd : FVec Ideal S1x1024 .f32 :=
  k0_pay23 v (k0_pay6 z) (k0_pay13 (k0_pay9 v z y d) (k0_pay10 v z y d) (k0_pay11 x0 x1) (hd (n := 1) (e := .f32) 0 w)) (k0_pay15 (k0_pay7 v z y d))
    (k0_pay16 (k0_pay7 v z y d)) (k0_pay18 (k0_pay3 x0 x1) (hd (n := 1) (e := .f32) 1 w)) acc

theorem dd_apply (r : FVec Ideal S512x1 .f32) (a b g : FVec Ideal S512x512 .f32) (u : Fin 1) (l : Fin 1024) :
    k0_pay23 v s g r a b acc (ix2 u l) = acc (ix2 u l) + ∑ t : Fin 512, k0_pay21 s g r a b (ix2 t l) * v (ix2 t l) := by
  unfold k0_pay23
  pointwise

theorem text_dd (u : Fin 1) (h : Fin 2) (e : Fin 512) : textDd x0 v x1 y z d w acc (ix2 u (col h e)) = acc (ix2 u (col h e)) + ∑ t : Fin 512,
    rowDd (fun l => x0 (ix2 t l)) (fun l j => x1 (ix2 l j)) (fun l => y (ix2 t l)) (fun l => v (ix2 t l)) (fun l => z (ix2 t l))
      (fun l => d (ix2 0 l)) (fun l => w (ix2 0 l)) h e := by
  refine (dd_apply v acc _ _ _ _ _ u _).trans (congrArg _ (Finset.sum_congr rfl fun t _ => ?_))
  exact congrArg (· * v (ix2 t (col h e))) (text_dy x0 v x1 y z d w t h e)

/-- and of the norm's weight, in each group. -/
theorem dw0_apply (u : Fin 1) (e : Fin 512) : k0_pay12 a b wh (ix2 u e) = wh (ix2 u e) + ∑ t : Fin 512, b (ix2 t e) * a (ix2 t e) := by
  unfold k0_pay12
  pointwise

theorem dw1_apply (u : Fin 1) (e : Fin 512) : k0_pay19 dm yg wh (ix2 u e) =
    wh (ix2 u e) + ∑ t : Fin 512, dm (ix2 t (col (1 : Fin 2) e)) * k0_pay16 yg (ix2 t e) := by
  unfold k0_pay19
  rw [cols17]
  pointwise
  simp only [part_apply]

theorem text_dw0 (u : Fin 1) (e : Fin 512) : k0_pay12 (k0_pay10 v z y d) (k0_pay11 x0 x1) wh (ix2 u e) = wh (ix2 u e) + ∑ t : Fin 512,
    rowDw (fun l => x0 (ix2 t l)) (fun l j => x1 (ix2 l j)) (fun l => y (ix2 t l)) (fun l => v (ix2 t l)) (fun l => z (ix2 t l))
      (fun l => d (ix2 0 l)) 0 e := by
  rw [dw0_apply]
  simp only [cols11, part_apply, prod, normed0, acted]
  rfl

theorem text_dw1 (u : Fin 1) (e : Fin 512) : k0_pay19 (k0_pay3 x0 x1) (k0_pay7 v z y d) wh (ix2 u e) = wh (ix2 u e) + ∑ t : Fin 512,
    rowDw (fun l => x0 (ix2 t l)) (fun l j => x1 (ix2 l j)) (fun l => y (ix2 t l)) (fun l => v (ix2 t l)) (fun l => z (ix2 t l))
      (fun l => d (ix2 0 l)) 1 e := by
  rw [dw1_apply]
  simp only [prod, normed1, acted]
  rfl

/-- The vectors' gradients start from zero. -/
theorem start1 (i : S1x1024.Idx) : k0_pay1 (F := Ideal) i = 0 := by
  unfold k0_pay1
  pointwise
theorem start2 (i : S1x1024.Idx) : k0_pay2 (F := Ideal) i = 0 := by
  unfold k0_pay2
  pointwise

end Cert.Proof.GroupTexts

end
-- ==== Proof.GroupBlocks.lean ====
/-
  What a point of the grid leaves in its blocks: the gradient of the scan's output, and the gradients so far of the skip's
  vector and of the norm's weight, which the first point starts from zero.
-/
module

public import proofs.«01_k».proof.Proof.GroupTexts
public import proofs.«01_k».proof.Proof.Gen.SsdPostIdeal.Value

@[expose] public section

set_option maxRecDepth 16384

noncomputable section

namespace Cert.Proof.GroupBlocks

open Idealize.ShloMosaic Idealize.ShloMosaic.TcCoe Idealize.ShloMosaic.Pipeline Idealize.SL.Sem Cert.SsdPostIdeal Cert.SsdPostIdeal.Gen
open Cert.Proof.Rows Cert.Proof.Groups Cert.Proof.GroupTexts

variable (c : Dev nD) (i : grid0.Coords) (a1 : Memref sig .tc .vmem S512x1024 .f32) (h1 : a1.IsWhole)
  (a2 : Memref sig .tc .vmem S1024x1024 .bf16) (h2 : a2.IsWhole) (a3 : Memref sig .tc .vmem S512x1024 .bf16) (h3 : a3.IsWhole)
  (a4 : Memref sig .tc .vmem S512x1024 .f32) (h4 : a4.IsWhole) (a5 : Memref sig .tc .vmem S512x1024 .bf16) (h5 : a5.IsWhole)
  (a6 : Memref sig .tc .vmem S1x1024 .f32) (h6 : a6.IsWhole) (a7 : Memref sig .tc .vmem S1x1024 .f32) (h7 : a7.IsWhole)
  (a9 : Memref sig .tc .vmem S512x1024 .f32) (h9 : a9.IsWhole) (a10 : Memref sig .tc .vmem S512x1024 .bf16) (h10 : a10.IsWhole)
  (a11 : Memref sig .tc .vmem S1x1024 .f32) (h11 : a11.IsWhole) (a12 : Memref sig .tc .vmem S1x1024 .f32) (h12 : a12.IsWhole)
  (x0 : Vec Ideal S512x1024 .f32) (x1 : Vec Ideal S1024x1024 .bf16) (x2 : Vec Ideal S512x1024 .bf16) (x3 : Vec Ideal S512x1024 .f32)
  (x4 : Vec Ideal S512x1024 .bf16) (x5 x6 o9 o10 : Vec Ideal S1x1024 .f32)

theorem hz : (![0, 0] : Fin 2 → Nat) = fun _ => 0 := funext fun a => by fin_cases a <;> rfl

/-- The scan output's gradient, at the first point -/
theorem outA7 (hc : cond0_0 i) : out0_A_7 c i a1 h1 a2 h2 a3 h3 a4 h4 a5 h5 a6 h6 a7 h7 a9 h9 a10 h10 a11 h11 a12 h12 hc x0 x1 x2 x3 x4 x5 x6 = textDy x0 x3 x1 x2 x4 x5 x6 := by
  unfold out0_A_7
  rw [View.read_writes_eq_canon _ _ _ (cover0_A_7 c i a1 h1 a2 h2 a3 h3 a4 h4 a5 h5 a6 h6 a7 h7 a9 h9 a10 h10 a11 h11 a12 h12 hc x0 x1 x2 x3 x4 x5 x6)]
  unfold kernelRun0_A
  dsimp only
  sl_unfold_words
  rw [View.canon_unit_zero (S := S512x1024) hz]
  simp only [View.readAt_eq_ld, h1.read_unread, h2.read_unread, h3.read_unread, h4.read_unread, h5.read_unread, h6.read_unread, h7.read_unread,
    View.ld_unit_zero (S := S512x1024) hz, View.ld_unit_zero (S := S1024x1024) hz, View.ld_unit_zero (S := S1x1024) hz,
    ld_part (w := 512) 0 (0 : Fin 2) rfl, ld_part (w := 512) 512 (1 : Fin 2) rfl]
  rfl

/-- and at the others. -/
theorem outB7 (hc : ¬cond0_0 i) : out0_B_7 c i a1 h1 a2 h2 a3 h3 a4 h4 a5 h5 a6 h6 a7 h7 a9 h9 a10 h10 a11 h11 a12 h12 hc x0 x1 x2 x3 x4 x5 x6 o9 o10 = textDy x0 x3 x1 x2 x4 x5 x6 := by
  unfold out0_B_7
  rw [View.read_writes_eq_canon _ _ _ (cover0_B_7 c i a1 h1 a2 h2 a3 h3 a4 h4 a5 h5 a6 h6 a7 h7 a9 h9 a10 h10 a11 h11 a12 h12 hc x0 x1 x2 x3 x4 x5 x6 o9 o10)]
  unfold kernelRun0_B
  dsimp only
  sl_unfold_words
  rw [View.canon_unit_zero (S := S512x1024) hz]
  simp only [View.readAt_eq_ld, h1.read_unread, h2.read_unread, h3.read_unread, h4.read_unread, h5.read_unread, h6.read_unread, h7.read_unread,
    View.ld_unit_zero (S := S512x1024) hz, View.ld_unit_zero (S := S1024x1024) hz, View.ld_unit_zero (S := S1x1024) hz,
    ld_part (w := 512) 0 (0 : Fin 2) rfl, ld_part (w := 512) 512 (1 : Fin 2) rfl]
  rfl

/-- The gradient of the skip's vector, at the first point -/
theorem outA9 (hc : cond0_0 i) : out0_A_9 c i a1 h1 a2 h2 a3 h3 a4 h4 a5 h5 a6 h6 a7 h7 a9 h9 a10 h10 a11 h11 a12 h12 hc x0 x1 x2 x3 x4 x5 x6 = textDd x0 x3 x1 x2 x4 x5 x6 (k0_pay1 (F := Ideal)) := by
  unfold out0_A_9
  rw [View.read_writes_eq_canon _ _ _ (cover0_A_9 c i a1 h1 a2 h2 a3 h3 a4 h4 a5 h5 a6 h6 a7 h7 a9 h9 a10 h10 a11 h11 a12 h12 hc x0 x1 x2 x3 x4 x5 x6)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread,
    View.ld_unit_zero (S := S512x1024) hz, View.ld_unit_zero (S := S1024x1024) hz, View.ld_unit_zero (S := S1x1024) hz,
    ld_part (w := 512) 0 (0 : Fin 2) rfl, ld_part (w := 512) 512 (1 : Fin 2) rfl]
  rfl

/-- and at the others. -/
theorem outB9 (hc : ¬cond0_0 i) : out0_B_9 c i a1 h1 a2 h2 a3 h3 a4 h4 a5 h5 a6 h6 a7 h7 a9 h9 a10 h10 a11 h11 a12 h12 hc x0 x1 x2 x3 x4 x5 x6 o9 o10 = textDd x0 x3 x1 x2 x4 x5 x6 o9 := by
  unfold out0_B_9
  rw [View.read_writes_eq_canon _ _ _ (cover0_B_9 c i a1 h1 a2 h2 a3 h3 a4 h4 a5 h5 a6 h6 a7 h7 a9 h9 a10 h10 a11 h11 a12 h12 hc x0 x1 x2 x3 x4 x5 x6 o9 o10)]
  unfold kernelRun0_B
  dsimp only
  sl_unfold_words
  rw [View.canon_unit_zero (S := S1x1024) hz]
  simp only [h11.read_unread, View.readAt_eq_ld, h1.read_unread, h2.read_unread, h3.read_unread, h4.read_unread, h5.read_unread, h6.read_unread, h7.read_unread,
    View.ld_unit_zero (S := S512x1024) hz, View.ld_unit_zero (S := S1024x1024) hz, View.ld_unit_zero (S := S1x1024) hz,
    ld_part (w := 512) 0 (0 : Fin 2) rfl, ld_part (w := 512) 512 (1 : Fin 2) rfl]
  rfl

/-- The gradient of the norm's weight, at the first point, -/
theorem outA10 (hc : cond0_0 i) (h : Fin 2) (u : Fin 1) (e : Fin 512) :
    out0_A_10 c i a1 h1 a2 h2 a3 h3 a4 h4 a5 h5 a6 h6 a7 h7 a9 h9 a10 h10 a11 h11 a12 h12 hc x0 x1 x2 x3 x4 x5 x6 (ix2 u (col h e)) = 0 + ∑ t : Fin 512, rowDw (fun l => x0 (ix2 t l)) (fun l j => x1 (ix2 l j)) (fun l => x2 (ix2 t l)) (fun l => x3 (ix2 t l)) (fun l => x4 (ix2 t l))
      (fun l => x5 (ix2 0 l)) h e := by
  unfold out0_A_10
  rw [View.read_writes_eq_canon _ _ _ (cover0_A_10 c i a1 h1 a2 h2 a3 h3 a4 h4 a5 h5 a6 h6 a7 h7 a9 h9 a10 h10 a11 h11 a12 h12 hc x0 x1 x2 x3 x4 x5 x6)]
  unfold kernelRun0_A
  dsimp only
  sl_unfold_words
  fin_cases h
  · refine (canon_other (w := 512) 512 (0 : Fin 2) (1 : Fin 2) rfl (by decide) _ _ _ u e).trans ((canon_same (w := 512) 0 (0 : Fin 2) rfl _ _ _ u e).trans ?_)
    simp only [View.readAt_eq_ld, h1.read_unread, h2.read_unread, h3.read_unread, h4.read_unread, h5.read_unread, h6.read_unread, h7.read_unread,
    View.ld_unit_zero (S := S512x1024) hz, View.ld_unit_zero (S := S1024x1024) hz, View.ld_unit_zero (S := S1x1024) hz,
    ld_part (w := 512) 0 (0 : Fin 2) rfl, ld_part (w := 512) 512 (1 : Fin 2) rfl]
    refine (text_dw0 x0 x3 x1 x2 x4 x5 _ u e).trans (congrArg (· + _) ?_)
    rw [readCov_part (w := 512) _ _ 0 (0 : Fin 2) rfl, part_apply, View.canon_unit_zero (S := S1x1024) hz]
    exact start2 _
  · refine (canon_same (w := 512) 512 (1 : Fin 2) rfl _ _ _ u e).trans ?_
    simp only [View.readAt_eq_ld, h1.read_unread, h2.read_unread, h3.read_unread, h4.read_unread, h5.read_unread, h6.read_unread, h7.read_unread,
    View.ld_unit_zero (S := S512x1024) hz, View.ld_unit_zero (S := S1024x1024) hz, View.ld_unit_zero (S := S1x1024) hz,
    ld_part (w := 512) 0 (0 : Fin 2) rfl, ld_part (w := 512) 512 (1 : Fin 2) rfl]
    refine (text_dw1 x0 x3 x1 x2 x4 x5 _ u e).trans (congrArg (· + _) ?_)
    rw [readCov_part (w := 512) _ _ 512 (1 : Fin 2) rfl, part_apply, canon_other (w := 512) 0 (1 : Fin 2) (0 : Fin 2) rfl (by decide),
      View.canon_unit_zero (S := S1x1024) hz]
    exact start2 _

/-- and at the others. -/
theorem outB10 (hc : ¬cond0_0 i) (h : Fin 2) (u : Fin 1) (e : Fin 512) :
    out0_B_10 c i a1 h1 a2 h2 a3 h3 a4 h4 a5 h5 a6 h6 a7 h7 a9 h9 a10 h10 a11 h11 a12 h12 hc x0 x1 x2 x3 x4 x5 x6 o9 o10 (ix2 u (col h e)) = o10 (ix2 u (col h e)) + ∑ t : Fin 512, rowDw (fun l => x0 (ix2 t l)) (fun l j => x1 (ix2 l j)) (fun l => x2 (ix2 t l)) (fun l => x3 (ix2 t l)) (fun l => x4 (ix2 t l))
      (fun l => x5 (ix2 0 l)) h e := by
  unfold out0_B_10
  rw [View.read_writes_eq_canon _ _ _ (cover0_B_10 c i a1 h1 a2 h2 a3 h3 a4 h4 a5 h5 a6 h6 a7 h7 a9 h9 a10 h10 a11 h11 a12 h12 hc x0 x1 x2 x3 x4 x5 x6 o9 o10)]
  unfold kernelRun0_B
  dsimp only
  sl_unfold_words
  fin_cases h
  · refine (canon_other (w := 512) 512 (0 : Fin 2) (1 : Fin 2) rfl (by decide) _ _ _ u e).trans ((canon_same (w := 512) 0 (0 : Fin 2) rfl _ _ _ u e).trans ?_)
    simp only [h12.read_unread, View.readAt_eq_ld, h1.read_unread, h2.read_unread, h3.read_unread, h4.read_unread, h5.read_unread, h6.read_unread, h7.read_unread,
    View.ld_unit_zero (S := S512x1024) hz, View.ld_unit_zero (S := S1024x1024) hz, View.ld_unit_zero (S := S1x1024) hz,
    ld_part (w := 512) 0 (0 : Fin 2) rfl, ld_part (w := 512) 512 (1 : Fin 2) rfl]
    refine (text_dw0 x0 x3 x1 x2 x4 x5 _ u e).trans (congrArg (· + _) ?_)
    rfl
  · refine (canon_same (w := 512) 512 (1 : Fin 2) rfl _ _ _ u e).trans ?_
    simp only [h12.read_unread, View.readAt_eq_ld, h1.read_unread, h2.read_unread, h3.read_unread, h4.read_unread, h5.read_unread, h6.read_unread, h7.read_unread,
    View.ld_unit_zero (S := S512x1024) hz, View.ld_unit_zero (S := S1024x1024) hz, View.ld_unit_zero (S := S1x1024) hz,
    ld_part (w := 512) 0 (0 : Fin 2) rfl, ld_part (w := 512) 512 (1 : Fin 2) rfl]
    refine (text_dw1 x0 x3 x1 x2 x4 x5 _ u e).trans (congrArg (· + _) ?_)
    rfl

end Cert.Proof.GroupBlocks

end
-- ==== Proof.GroupNorm.lean ====
/-
  The state space mixer's gated norm with the output projection, backward: the kernel's run leaves the gradient of the
  scan's output, and the gradients of the skip's vector and of the norm's weight, sums over every row.
-/
module

public import proofs.«01_k».proof.Proof.GroupBlocks
public import Idealize.ShloMosaic.Lib.Pipeline.ValueKit

@[expose] public section

set_option maxRecDepth 16384

noncomputable section

namespace Cert.Proof.GroupNorm

open Idealize.ShloMosaic Idealize.ShloMosaic.TcCoe Idealize.ShloMosaic.Pipeline Idealize.SL.Sem Cert.SsdPostIdeal Cert.SsdPostIdeal.Gen
open Cert.Proof.Rows Cert.Proof.Groups Cert.Proof.GroupTexts Cert.Proof.GroupBlocks

variable (m : (b : Loc nD τ sig) → Buf (Elt Ideal) b) (c : Dev nD)

/-- The arguments, entry by entry. -/
abbrev X (t : Fin 8192) (j : Fin 1024) : EReal := m ((c : Thread nD τ).loc main_arg0) (ix2 t j)
abbrev W (l j : Fin 1024) : EReal := m ((c : Thread nD τ).loc main_arg1) (ix2 (lower l) j)
abbrev Y (t : Fin 8192) (l : Fin 1024) : EReal := m ((c : Thread nD τ).loc main_arg2) (ix2 t l)
abbrev I (t : Fin 8192) (l : Fin 1024) : EReal := m ((c : Thread nD τ).loc main_arg3) (ix2 t (xCol l))
abbrev Z (t : Fin 8192) (l : Fin 1024) : EReal := m ((c : Thread nD τ).loc main_arg4) (ix2 t (zCol l))
abbrev D (l : Fin 1024) : EReal := m ((c : Thread nD τ).loc main_arg5) (ix2 0 l)
abbrev S (l : Fin 1024) : EReal := m ((c : Thread nD τ).loc main_arg6) (ix2 0 l)

/-- The row of the array that row `r` of block `n` is. -/
def row (n : ℕ) (r : Fin 512) : Fin 8192 := ⟨n % 16 * 512 + r.val, by have := r.isLt; omega⟩

theorem idx0 : ∀ t : Fin cfg0.N, win0_0.index t = ![t.val % 16, 0] := (by decide +kernel : ∀ t : Fin grid0.N, _)
theorem idx1 : ∀ t : Fin cfg0.N, win0_1.index t = ![1, 0] := (by decide +kernel : ∀ t : Fin grid0.N, _)
theorem idx2 : ∀ t : Fin cfg0.N, win0_2.index t = ![t.val % 16, 0] := (by decide +kernel : ∀ t : Fin grid0.N, _)
theorem idx3 : ∀ t : Fin cfg0.N, win0_3.index t = ![t.val % 16, 0] := (by decide +kernel : ∀ t : Fin grid0.N, _)
theorem idx4 : ∀ t : Fin cfg0.N, win0_4.index t = ![t.val % 16, 4] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val % 16, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)

abbrev in0 (t : Fin cfg0.N) : Vec Ideal S512x1024 .f32 := iblk m c 0 t
abbrev in1 (t : Fin cfg0.N) : Vec Ideal S1024x1024 .bf16 := iblk m c 1 t
abbrev in2 (t : Fin cfg0.N) : Vec Ideal S512x1024 .bf16 := iblk m c 2 t
abbrev in3 (t : Fin cfg0.N) : Vec Ideal S512x1024 .f32 := X0_3 m c t
abbrev in4 (t : Fin cfg0.N) : Vec Ideal S512x1024 .bf16 := X0_4 m c t
abbrev in5 (t : Fin cfg0.N) : Vec Ideal S1x1024 .f32 := iblk m c 5 t
abbrev in6 (t : Fin cfg0.N) : Vec Ideal S1x1024 .f32 := iblk m c 6 t

theorem blk0 (t : Fin cfg0.N) (r : Fin 512) (k : Fin 1024) : in0 m c t (ix2 r k) = X m c (row t.val r) k := by
  blk_simp [in0, iblk]
  rw [V_main_arg0]
  refine congrArg _ (funext fun a => Fin.ext ?_)
  match a with
  | ⟨0, _⟩ => blk_simp [idx0]; rfl
  | ⟨1, _⟩ => blk_simp [idx0]

theorem blk1 (t : Fin cfg0.N) (l j : Fin 1024) : in1 m c t (ix2 l j) = W m c l j := by
  blk_simp [in1, iblk]
  rw [V_main_arg1]
  refine congrArg _ (funext fun a => Fin.ext ?_)
  match a with
  | ⟨0, _⟩ => blk_simp [idx1]; rfl
  | ⟨1, _⟩ => blk_simp [idx1]

theorem blk2 (t : Fin cfg0.N) (r : Fin 512) (k : Fin 1024) : in2 m c t (ix2 r k) = Y m c (row t.val r) k := by
  blk_simp [in2, iblk]
  rw [V_main_arg2]
  refine congrArg _ (funext fun a => Fin.ext ?_)
  match a with
  | ⟨0, _⟩ => blk_simp [idx2]; rfl
  | ⟨1, _⟩ => blk_simp [idx2]

theorem blk3 (t : Fin cfg0.N) (r : Fin 512) (k : Fin 1024) : in3 m c t (ix2 r k) = I m c (row t.val r) k := by
  unfold in3 X0_3 Pipeline.Window.fill
  rw [dif_pos (moved0_3 t (ix2 r k))]
  blk_simp [iblk]
  rw [V_main_arg3]
  refine congrArg _ (funext fun a => Fin.ext ?_)
  match a with
  | ⟨0, _⟩ => blk_simp [idx3]; rfl
  | ⟨1, _⟩ => blk_simp [idx3]; rfl

theorem blk4 (t : Fin cfg0.N) (r : Fin 512) (k : Fin 1024) : in4 m c t (ix2 r k) = Z m c (row t.val r) k := by
  unfold in4 X0_4 Pipeline.Window.fill
  rw [dif_pos (moved0_4 t (ix2 r k))]
  blk_simp [iblk]
  rw [V_main_arg4]
  refine congrArg _ (funext fun a => Fin.ext ?_)
  match a with
  | ⟨0, _⟩ => blk_simp [idx4]; rfl
  | ⟨1, _⟩ => blk_simp [idx4]; rfl

theorem blk5 (t : Fin cfg0.N) (k : Fin 1024) : in5 m c t (ix2 0 k) = D m c k := by
  blk_simp [in5, iblk]
  rw [V_main_arg5]
  refine congrArg _ (funext fun a => Fin.ext ?_)
  match a with
  | ⟨0, _⟩ => blk_simp [idx5]
  | ⟨1, _⟩ => blk_simp [idx5]

theorem blk6 (t : Fin cfg0.N) (k : Fin 1024) : in6 m c t (ix2 0 k) = S m c k := by
  blk_simp [in6, iblk]
  rw [V_main_arg6]
  refine congrArg _ (funext fun a => Fin.ext ?_)
  match a with
  | ⟨0, _⟩ => blk_simp [idx6]
  | ⟨1, _⟩ => blk_simp [idx6]

/-- The three gradients. -/
def DY : (⟨2, ![8192, 1024]⟩ : Shape).Idx → EReal :=
  spread fun (h : Fin 2) t e => rowDy (X m c t) (W m c) (Y m c t) (I m c t) (Z m c t) (D m c) (S m c) h e
def DD : (⟨2, ![1, 1024]⟩ : Shape).Idx → EReal :=
  spread fun (h : Fin 2) _ e => ∑ t : Fin 8192, rowDd (X m c t) (W m c) (Y m c t) (I m c t) (Z m c t) (D m c) (S m c) h e
def DW : (⟨2, ![1, 1024]⟩ : Shape).Idx → EReal :=
  spread fun (h : Fin 2) _ e => ∑ t : Fin 8192, rowDw (X m c t) (W m c) (Y m c t) (I m c t) (Z m c t) (D m c) h e

theorem out7 (t : Fin cfg0.N) (r : Fin 512) (h : Fin 2) (e : Fin 512) :
    (outsAt0 m c t.val t.isLt).1 (ix2 r (col h e)) = DY m c (ix2 (row t.val r) (col h e)) := by
  have q : textDy (in0 m c t) (in3 m c t) (in1 m c t) (in2 m c t) (in4 m c t) (in5 m c t) (in6 m c t) (ix2 r (col h e))
      = DY m c (ix2 (row t.val r) (col h e)) := by
    unfold DY
    rw [spread_apply, text_dy]
    simp only [blk0, blk1, blk2, blk3, blk4, blk5, blk6]
  by_cases h0 : t.val % 16 = 0
  · rw [outsAt0_A m c t h0]
    dsimp only
    rw [outA7]
    exact q
  · rw [outsAt0_B m c t h0]
    dsimp only
    rw [outB7]
    exact q

/-- A sum over the rows is the sum over the blocks of the sums over their rows. -/
theorem sum_blocks (f : Fin 8192 → EReal) : ∑ k : Fin 16, ∑ r : Fin 512, f (row k.val r) = ∑ t : Fin 8192, f t := by
  refine Eq.trans (Finset.sum_congr rfl fun k _ => Finset.sum_congr rfl fun r _ => ?_) (Fin.sum_mul_add_fin 16 512 f)
  unfold row
  simp only [show k.val % 16 = k.val by have := k.isLt; omega]

theorem N16 : cfg0.N = 16 := N_0

theorem out9 (t : Fin cfg0.N) (ht : t.val + 1 = cfg0.N) (u : Fin 1) (h : Fin 2) (e : Fin 512) :
    (outsAt0 m c t.val t.isLt).2.2.1 (ix2 u (col h e)) = DD m c (ix2 u (col h e)) := by
  have q : ∀ t : Fin cfg0.N, ∑ r : Fin 512, rowDd (fun l => in0 m c t (ix2 r l)) (fun l j => in1 m c t (ix2 l j)) (fun l => in2 m c t (ix2 r l))
      (fun l => in3 m c t (ix2 r l)) (fun l => in4 m c t (ix2 r l)) (fun l => in5 m c t (ix2 0 l)) (fun l => in6 m c t (ix2 0 l)) h e
      = ∑ r : Fin 512, rowDd (X m c (row t.val r)) (W m c) (Y m c (row t.val r)) (I m c (row t.val r)) (Z m c (row t.val r)) (D m c) (S m c) h e := fun t => by
    simp only [blk0, blk1, blk2, blk3, blk4, blk5, blk6]
  refine (eq_sum_fin_of_reset_step_last (fun n hn => (outsAt0 m c n hn).2.2.1 (ix2 u (col h e))) 16 0
    (fun n => ∑ r : Fin 512, rowDd (X m c (row n r)) (W m c) (Y m c (row n r)) (I m c (row n r)) (Z m c (row n r)) (D m c) (S m c) h e) ?_ ?_ (le_of_eq N16) t ht).trans ?_
  · intro t h0
    rw [outsAt0_A m c t h0]
    dsimp only
    rw [outA9]
    exact (text_dd _ _ _ _ _ _ _ _ u h e).trans (congrArg₂ (· + ·) (start1 _) (q t))
  · intro t h0
    rw [outsAt0_B m c t h0]
    dsimp only
    rw [outB9]
    exact (text_dd _ _ _ _ _ _ _ _ u h e).trans (congrArg _ (q t))
  · unfold DD
    rw [zero_add, spread_apply]
    exact sum_blocks fun t => rowDd (X m c t) (W m c) (Y m c t) (I m c t) (Z m c t) (D m c) (S m c) h e

theorem out10 (t : Fin cfg0.N) (ht : t.val + 1 = cfg0.N) (u : Fin 1) (h : Fin 2) (e : Fin 512) :
    (outsAt0 m c t.val t.isLt).2.2.2 (ix2 u (col h e)) = DW m c (ix2 u (col h e)) := by
  have q : ∀ t : Fin cfg0.N, ∑ r : Fin 512, rowDw (fun l => in0 m c t (ix2 r l)) (fun l j => in1 m c t (ix2 l j)) (fun l => in2 m c t (ix2 r l))
      (fun l => in3 m c t (ix2 r l)) (fun l => in4 m c t (ix2 r l)) (fun l => in5 m c t (ix2 0 l)) h e
      = ∑ r : Fin 512, rowDw (X m c (row t.val r)) (W m c) (Y m c (row t.val r)) (I m c (row t.val r)) (Z m c (row t.val r)) (D m c) h e := fun t => by
    simp only [blk0, blk1, blk2, blk3, blk4, blk5]
  refine (eq_sum_fin_of_reset_step_last (fun n hn => (outsAt0 m c n hn).2.2.2 (ix2 u (col h e))) 16 0
    (fun n => ∑ r : Fin 512, rowDw (X m c (row n r)) (W m c) (Y m c (row n r)) (I m c (row n r)) (Z m c (row n r)) (D m c) h e) ?_ ?_ (le_of_eq N16) t ht).trans ?_
  · intro t h0
    rw [outsAt0_A m c t h0]
    dsimp only
    rw [outA10]
    exact congrArg _ (q t)
  · intro t h0
    rw [outsAt0_B m c t h0]
    dsimp only
    rw [outB10]
    exact congrArg _ (q t)
  · unfold DW
    rw [zero_add, spread_apply]
    exact sum_blocks fun t => rowDw (X m c t) (W m c) (Y m c t) (I m c t) (Z m c t) (D m c) h e

theorem final7 : (dats m 0 c).arrAt 7 cfg0.N = DY m c := by
  refine (dats m 0 c).arrAt_eq_of_covers 7 _ (by decide +kernel) fun t _ y => ?_
  have hy : y = ix2 (y 0) (col (grp 2 512 (y 1)) (place 2 512 (y 1))) := (eq_ix2 y).trans (congrArg (ix2 (y 0)) (col_grp (k := 2) (w := 512) (y 1)))
  blk_simp
  rw [after0_7]
  refine (congrArg _ hy).trans ((out7 m c t (y 0) _ _).trans
    ((congrArg (fun a => DY m c (ix2 (row t.val (y 0)) a)) (col_grp (k := 2) (w := 512) (y 1)).symm).trans
      (congrArg (DY m c) (funext fun a => Fin.ext ?_))))
  match a with
  | ⟨0, _⟩ => blk_simp [idx7]; rfl
  | ⟨1, _⟩ => blk_simp [idx7]; rfl

theorem final9 : (dats m 0 c).arrAt 9 cfg0.N = DD m c := by
  refine (dats m 0 c).arrAt_eq_of_after_last 9 t0_15 (by decide +kernel) _ fun y => ?_
  have hy : y = ix2 (y 0) (col (grp 2 512 (y 1)) (place 2 512 (y 1))) := (eq_ix2 y).trans (congrArg (ix2 (y 0)) (col_grp (k := 2) (w := 512) (y 1)))
  blk_simp
  rw [after0_9]
  exact (congrArg _ hy).trans ((out9 m c t0_15 (by decide) (y 0) _ _).trans (congrArg (DD m c) hy.symm))

theorem final10 : (dats m 0 c).arrAt 10 cfg0.N = DW m c := by
  refine (dats m 0 c).arrAt_eq_of_after_last 10 t0_15 (by decide +kernel) _ fun y => ?_
  have hy : y = ix2 (y 0) (col (grp 2 512 (y 1)) (place 2 512 (y 1))) := (eq_ix2 y).trans (congrArg (ix2 (y 0)) (col_grp (k := 2) (w := 512) (y 1)))
  blk_simp
  rw [after0_10]
  exact (congrArg _ hy).trans ((out10 m c t0_15 (by decide) (y 0) _ _).trans (congrArg (DW m c) hy.symm))

/-- The run: the three gradients, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = DY m c
      ∧ r.2.mem ((c : Thread nD τ).loc main_v0_2) = DD m c
      ∧ r.2.mem ((c : Thread nD τ).loc main_v0_3) = DW m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final7 m c), (h c).2.2.1.trans (final9 m c), (h c).2.2.2.1.trans (final10 m c),
    (h c).2.2.2.2⟩) (Value.run_blocks m ρ)

end Cert.Proof.GroupNorm

end
-- ==== Proof.GroupReference.lean ====
/-
  The reference of the state space mixer's gated norm with the output projection, backward: its three gradients are the
  kernel's.
-/
module

public import proofs.«01_k».proof.Proof.GroupTexts
public import proofs.«01_k».proof.Proof.Gen.SsdPostRefIdeal.Read

@[expose] public section

set_option maxRecDepth 16384

noncomputable section

namespace Cert.Proof.GroupReference

open Idealize.ShloMosaic Cert.SsdPostRefIdeal Cert.SsdPostRefIdeal.Gen Cert.SsdPostRefIdeal.Read
open Cert.Proof.Rows Cert.Proof.Groups Cert.Proof.Gate Cert.Proof.GroupTexts

theorem len_eq : len = ((512 : ℝ) : EReal) := by
  simp [len, Ideal.ofBits, Ideal.ieee, -EReal.coe_mul]; norm_num

variable (x : S8192x1024.Idx → EReal) (w : S2048x1024.Idx → EReal) (y : S8192x1024.Idx → EReal) (v : S8192x1536.Idx → EReal)
  (p : S8192x6656.Idx → EReal) (d s : S1x1024.Idx → EReal)

/-- A row's product, and what is normalised of it. -/
abbrev Dr (t : Fin 8192) (l : Fin 1024) : EReal := dmix (fun j => x (ix2 t j)) (fun l j => w (ix2 (lower l) j)) l
abbrev Ar (t : Fin 8192) (l : Fin 1024) : EReal :=
  act (fun l => y (ix2 t l)) (fun l => v (ix2 t (xCol l))) (fun l => p (ix2 t (zCol l))) (fun l => d (ix2 0 l)) l
abbrev Ah (t : Fin 8192) (h : Fin 2) (e : Fin 512) : EReal := Ar y v p d t (col h e)
abbrev Sh (t : Fin 8192) (h : Fin 2) (e : Fin 512) : EReal := Dr x w t (col h e) * s (ix2 0 (col h e))

/-- A column's place when the columns are split in groups, and back. -/
theorem split (t : Fin 8192) (h : Fin 2) (e : Fin 512) (f : S8192x1024.Idx)
    (h0 : (f 0).val = ((t.val * 2 + h.val) * 512 + e.val) / 1024) (h1 : (f 1).val = ((t.val * 2 + h.val) * 512 + e.val) % 1024) :
    f = ix2 t (col h e) := funext fun a => Fin.ext (by
  have := t.isLt
  have := h.isLt
  have := e.isLt
  match a with
  | ⟨0, _⟩ => refine h0.trans ?_; show _ = t.val; omega
  | ⟨1, _⟩ => refine h1.trans ?_; show _ = 512 * h.val + e.val; omega)

theorem join (t : Fin 8192) (h : Fin 2) (e : Fin 512) (f : S8192x2x512.Idx)
    (h0 : (f 0).val = (t.val * 1024 + (512 * h.val + e.val)) / 1024) (h1 : (f 1).val = (t.val * 1024 + (512 * h.val + e.val)) / 512 % 2)
    (h2 : (f 2).val = (t.val * 1024 + (512 * h.val + e.val)) % 512) : f = ix3 t h e := funext fun a => Fin.ext (by
  have := t.isLt
  have := h.isLt
  have := e.isLt
  match a with
  | ⟨0, _⟩ => refine h0.trans ?_; show _ = t.val; omega
  | ⟨1, _⟩ => refine h1.trans ?_; show _ = h.val; omega
  | ⟨2, _⟩ => refine h2.trans ?_; show _ = e.val; omega)

theorem ref_in (t : Fin 8192) (l : Fin 1024) : val_main_v0 (F := Ideal) v (ix2 t l) = v (ix2 t (xCol l)) := by
  rw [val_main_v0_apply]
  exact congrArg v (eq_ix2 _)

/-- The gate, -/
theorem ref_gate (t : Fin 8192) (l : Fin 1024) : val_main_v7 (F := Ideal) p (ix2 t l) = gate (p (ix2 t (zCol l))) := by
  have z : val_main_v2 (F := Ideal) p (ix2 t l) = p (ix2 t (zCol l)) := by
    rw [val_main_v2_apply, val_main_v1_apply, eq_ix2 (idx_main_v1 _)]
    rfl
  rw [val_main_v7_apply, val_main_call0_v5_apply, val_main_call0_v4_apply, val_main_call0_v3_apply, val_main_call0_v2_apply,
    val_main_call0_v1_apply, val_main_call0_v0_apply, z, val_main_call0_cst_apply, val_main_call0_cst_0_apply]
  show p (ix2 t (zCol l)) * Ideal.div (Ideal.ofBits .f32 0x3F800000#32)
    (Ideal.ofBits .f32 0x3F800000#32 + Ideal.exp (-p (ix2 t (zCol l)))) = _
  rw [Rows.ofBits_one, gate, sigmoid]

/-- what is normalised, -/
theorem ref_act (t : Fin 8192) (h : Fin 2) (e : Fin 512) : val_main_v9 (F := Ideal) y v p d (ix3 t h e) = Ah y v p d t h e := by
  rw [val_main_v9_apply, split t h e (idx_main_v9 (ix3 t h e)) rfl rfl, val_main_v8_apply, ref_gate, val_main_v6_apply,
    val_main_v5_apply, ref_in, val_main_v4_apply, eq_ix2 (idx_main_v4 _), val_main_v3_apply]
  rfl

theorem ref_dmix (t : Fin 8192) (l : Fin 1024) : val_main_v29 (F := Ideal) x w (ix2 t l) = Dr x w t l := by
  rw [val_main_v29_apply]
  refine Finset.sum_congr rfl fun k _ => ?_
  rw [val_main_v27_apply, val_main_v26_apply, eq_ix2 (lidx_main_v29 _ k), eq_ix2 (idx_main_v26 _)]
  rfl

theorem ref_scaled (t : Fin 8192) (h : Fin 2) (e : Fin 512) : val_main_v35 (F := Ideal) x w s (ix3 t h e) = Sh x w s t h e := by
  rw [val_main_v35_apply, split t h e (idx_main_v35 (ix3 t h e)) rfl rfl, val_main_v34_apply, ref_dmix, val_main_v33_apply,
    eq_ix2 (idx_main_v33 _)]
  rfl

/-- the mean square of a group and its inverse root, -/
theorem ref_ms (t : Fin 8192) (h : Fin 2) : val_main_v16 (F := Ideal) y v p d (ix3 t h 0) = Norm.ms len eps (Ah y v p d t h) := by
  rw [val_main_v16_apply, val_main_v14_apply, val_main_v12_apply, val_main_v11_apply, val_main_cst_apply, val_main_v13_apply,
    val_main_cst_0_apply, val_main_v15_apply, val_main_cst_1_apply]
  show Ideal.div (Ideal.ofBits .f32 0x00000000#32 + _) _ + _ = _
  rw [Rows.ofBits_zero, zero_add]
  refine congrArg (fun s => Ideal.div s len + eps) (Finset.sum_congr rfl fun k _ => ?_)
  rw [val_main_v10_apply, show idx_main_v11 (idx_main_v12 (ix3 t h 0)) k = ix3 t h k from eq_ix3 _, ref_act]
  rfl

theorem ref_inv (t : Fin 8192) (h : Fin 2) : val_main_v17 (F := Ideal) y v p d (ix3 t h 0) = Norm.inv len eps (Ah y v p d t h) := by
  rw [val_main_v17_apply, ref_ms]
  rfl

/-- the group's sum of its products with the input, -/
theorem ref_sum (t : Fin 8192) (h : Fin 2) : val_main_v38 (F := Ideal) x w y v p d s (ix3 t h 0)
    = ∑ e : Fin 512, Ah y v p d t h e * Sh x w s t h e := by
  have e : idx_main_v38 (ix3 t h 0) = ix2 t h := funext fun a => Fin.ext (by
    have := t.isLt
    have := h.isLt
    match a with
    | ⟨0, _⟩ => show ((t.val * 2 + h.val) * 1 + 0) / 2 = t.val; omega
    | ⟨1, _⟩ => show ((t.val * 2 + h.val) * 1 + 0) % 2 = h.val; omega)
  rw [val_main_v38_apply, e, val_main_v37_apply, val_main_cst_4_apply]
  show Ideal.ofBits .f32 0x00000000#32 + _ = _
  rw [Rows.ofBits_zero, zero_add]
  refine Finset.sum_congr rfl fun k _ => ?_
  rw [show idx_main_v37 (ix2 t h) k = ix3 t h k from eq_ix3 _, val_main_v36_apply, ref_act, ref_scaled]
  rfl

/-- the coefficient of each row of each group, -/
theorem ref_coef (t : Fin 8192) (h : Fin 2) (e : Fin 512) : val_main_v45 (F := Ideal) x w y v p d s (ix3 t h e)
    = Norm.coef len eps (Ideal.ofBits .f32 0xBF000000#32) (Ah y v p d t h) (Sh x w s t h) := by
  rw [val_main_v45_apply, val_main_v44_apply, Fin.sum_univ_one, val_main_cst_6_apply,
    show idx_main_v44 (idx_main_v45 (ix3 t h e)) 0 = ix3 t h 0 from eq_ix3 _,
    val_main_v43_apply, val_main_v42_apply, val_main_cst_5_apply, val_main_v41_apply, val_main_v20_apply, val_main_v19_apply,
    val_main_cst_2_apply, val_main_v18_apply]
  show Ideal.ofBits .f32 0x00000000#32 + Ideal.div (val_main_v38 (F := Ideal) x w y v p d s (ix3 t h 0) * (_ * Ideal.div
    (val_main_v17 (F := Ideal) y v p d (ix3 t h 0)) (val_main_v16 (F := Ideal) y v p d (ix3 t h 0)))) _ = _
  rw [Rows.ofBits_zero, zero_add, ref_inv, ref_ms, ref_sum]
  rfl

/-- the gradient of what is normalised, -/
theorem ref_entry (t : Fin 8192) (h : Fin 2) (e : Fin 512) : val_main_v49 (F := Ideal) x w y v p d s (ix3 t h e) =
    Norm.direct len eps (Ah y v p d t h) (Sh x w s t h) e := by
  rw [← zero_add (Norm.direct _ _ _ _ _), Norm.direct_eq len_eq Rows.ofBits_small (by norm_num) (by norm_num)
    Rows.ofBits_neg_half, zero_add, val_main_v49_apply, val_main_v47_apply, val_main_v48_apply, val_main_v46_apply,
    val_main_v40_apply, val_main_v39_apply, ref_coef, ref_scaled, ref_act,
    show idx_main_v39 (ix3 t h e) = ix3 t h 0 from eq_ix3 _, ref_inv]
  rfl

/-- and of the scan's output, entry by entry. -/
theorem ref_dy (t : Fin 8192) (h : Fin 2) (e : Fin 512) : val_main_v51 (F := Ideal) x w y v p d s (ix2 t (col h e)) =
    rowDy (fun j => x (ix2 t j)) (fun l j => w (ix2 (lower l) j)) (fun l => y (ix2 t l)) (fun l => v (ix2 t (xCol l)))
      (fun l => p (ix2 t (zCol l))) (fun l => d (ix2 0 l)) (fun l => s (ix2 0 l)) h e := by
  rw [val_main_v51_apply, val_main_v50_apply, join t h e (idx_main_v50 (ix2 t (col h e))) rfl rfl rfl, ref_entry, ref_gate]
  rfl

/-- The three gradients, whole. -/
theorem reference : val_main_v51 (F := Ideal) x w y v p d s = spread fun (h : Fin 2) t e => rowDy (fun j => x (ix2 t j))
    (fun l j => w (ix2 (lower l) j)) (fun l => y (ix2 t l)) (fun l => v (ix2 t (xCol l))) (fun l => p (ix2 t (zCol l)))
    (fun l => d (ix2 0 l)) (fun l => s (ix2 0 l)) h e := by
  refine ext_groups 2 512 fun t h e => ?_
  rw [spread_apply]
  exact ref_dy x w y v p d s t h e

theorem reference_skip : val_main_v54 (F := Ideal) x w y v p d s = spread fun (h : Fin 2) _ e => ∑ t : Fin 8192,
    rowDd (fun j => x (ix2 t j)) (fun l j => w (ix2 (lower l) j)) (fun l => y (ix2 t l)) (fun l => v (ix2 t (xCol l)))
    (fun l => p (ix2 t (zCol l))) (fun l => d (ix2 0 l)) (fun l => s (ix2 0 l)) h e := by
  refine ext_groups 2 512 fun u h e => ?_
  obtain rfl : u = 0 := Fin.fin_one_eq_zero u
  rw [spread_apply, val_main_v54_apply, val_main_v53_apply, val_main_cst_7_apply]
  show Ideal.ofBits .f32 0x00000000#32 + _ = _
  rw [Rows.ofBits_zero, zero_add]
  refine Finset.sum_congr rfl fun t _ => ?_
  have i : idx_main_v53 (idx_main_v54 (ix2 (0 : Fin 1) (col h e))) t = ix2 t (col h e) := funext fun a => Fin.ext (by
    match a with
    | ⟨0, _⟩ => rfl
    | ⟨1, _⟩ => show 0 * 1024 + (512 * h.val + e.val) = 512 * h.val + e.val; omega)
  rw [i, val_main_v52_apply, ref_in, ref_dy]
  exact mul_comm _ _

theorem reference_weight : val_main_v32 (F := Ideal) x w y v p d = spread fun (h : Fin 2) _ e => ∑ t : Fin 8192,
    rowDw (fun j => x (ix2 t j)) (fun l j => w (ix2 (lower l) j)) (fun l => y (ix2 t l)) (fun l => v (ix2 t (xCol l)))
    (fun l => p (ix2 t (zCol l))) (fun l => d (ix2 0 l)) h e := by
  refine ext_groups 2 512 fun u h e => ?_
  obtain rfl : u = 0 := Fin.fin_one_eq_zero u
  rw [spread_apply, val_main_v32_apply, val_main_v31_apply, val_main_cst_3_apply]
  show Ideal.ofBits .f32 0x00000000#32 + _ = _
  rw [Rows.ofBits_zero, zero_add]
  refine Finset.sum_congr rfl fun t _ => ?_
  have i : idx_main_v31 (idx_main_v32 (ix2 (0 : Fin 1) (col h e))) t = ix2 t (col h e) := funext fun a => Fin.ext (by
    match a with
    | ⟨0, _⟩ => rfl
    | ⟨1, _⟩ => show 0 * 1024 + (512 * h.val + e.val) = 512 * h.val + e.val; omega)
  rw [i, val_main_v30_apply, ref_dmix, val_main_v23_apply, join t h e (idx_main_v23 (ix2 t (col h e))) rfl rfl rfl, val_main_v22_apply,
    ref_act, val_main_v21_apply, show idx_main_v21 (ix3 t h e) = ix3 t h 0 from eq_ix3 _, ref_inv]
  exact mul_comm _ _

end Cert.Proof.GroupReference

end
-- ==== Proof.Mixers.lean ====
/-
  The claims about the attention's forward call and about the calls behind the mixers' scans: the gradient of the norm and
  gate that end a mixer, together with the output projection's. Each reference leaves its arguments alone and has no
  semaphore; from agreeing arguments its results are the ones that the kernel's module says the kernel leaves.
-/
module

public import proofs.«01_k».proof.Defs
public import proofs.«01_k».proof.Proof.AttnForward
public import proofs.«01_k».proof.Proof.GatedReference
public import proofs.«01_k».proof.Proof.GroupNorm
public import proofs.«01_k».proof.Proof.GroupReference
public import proofs.«01_k».proof.Proof.Gen.AttnRefIdeal.Run
public import proofs.«01_k».proof.Proof.Gen.GdnPostRefIdeal.Run
public import proofs.«01_k».proof.Proof.Gen.SsdPostRefIdeal.Run

@[expose] public section

set_option maxRecDepth 16384

noncomputable section

namespace Cert.Proof.Mixers

open Idealize.ShloMosaic Idealize.SL.Sem

theorem frame_heads : Cert.quiescent_AttnRefIdeal := fun m ρ _ =>
  (θ_run AttnRefIdeal.defs _ _).mono (fun r h => ⟨fun c => (h c).2, sem_eq_zero_of_no_sems (by decide) r.2⟩)
    (AttnRefIdeal.Value.run (F := Ideal) m ρ)

theorem frame_gated_norm : Cert.quiescent_GdnPostRefIdeal := fun m ρ _ =>
  (θ_run GdnPostRefIdeal.defs _ _).mono (fun r h => ⟨fun c => (h c).2.2, sem_eq_zero_of_no_sems (by decide) r.2⟩)
    (GdnPostRefIdeal.Value.run (F := Ideal) m ρ)

theorem frame_group_norm : Cert.quiescent_SsdPostRefIdeal := fun m ρ _ =>
  (θ_run SsdPostRefIdeal.defs _ _).mono (fun r h => ⟨fun c => (h c).2.2.2, sem_eq_zero_of_no_sems (by decide) r.2⟩)
    (SsdPostRefIdeal.Value.run (F := Ideal) m ρ)

/-- The heads' outputs. -/
theorem heads : Cert.algebraic_AttnIdeal_AttnRefIdeal := by
  intro m ρ m' ρ' _ hagree
  refine ⟨AttnForward.O m, AttnForward.run m ρ,
    (θ_run AttnRefIdeal.defs _ _).mono (fun r h c => ?_) (AttnRefIdeal.Value.run m' ρ')⟩
  obtain ⟨e0, e1, e2⟩ := hagree c
  refine ⟨(h c).1.trans ?_, (h c).2⟩
  rw [AttnRefIdeal.Read.val_main_v21_eq, e0, e1, e2]
  exact Heads.ext_heads fun t h d => (AttnForward.Reference.out_at _ _ _ t h d).trans (Heads.spread_apply _ _ _ _).symm

/-- The gradient behind the gated delta rule's scan, and its norm weight's. -/
theorem gated_norm : Cert.algebraic_GdnPostIdeal_GdnPostRefIdeal := by
  intro m ρ m' ρ' _ hagree
  refine ⟨GatedNorm.DO m, GatedNorm.DW m, GatedNorm.run m ρ,
    (θ_run GdnPostRefIdeal.defs _ _).mono (fun r h c => ?_) (GdnPostRefIdeal.Value.run m' ρ')⟩
  obtain ⟨e0, e1, e2, e3, e4⟩ := hagree c
  refine ⟨(h c).1.trans ?_, (h c).2.1.trans ?_, (h c).2.2⟩
  · rw [GdnPostRefIdeal.Read.val_main_v53_eq, e0, e1, e2, e3, e4, GatedReference.reference]
    rfl
  · rw [GdnPostRefIdeal.Read.val_main_v51_eq, e0, e1, e2, e3, GatedReference.reference_weight]
    rfl

/-- The gradient behind the state space mixer's scan, its skip's and its norm weight's. -/
theorem group_norm : Cert.algebraic_SsdPostIdeal_SsdPostRefIdeal := by
  intro m ρ m' ρ' _ hagree
  refine ⟨GroupNorm.DY m, GroupNorm.DD m, GroupNorm.DW m, GroupNorm.run m ρ,
    (θ_run SsdPostRefIdeal.defs _ _).mono (fun r h c => ?_) (SsdPostRefIdeal.Value.run m' ρ')⟩
  obtain ⟨e0, e1, e2, e3, e4, e5, e6, e7⟩ := hagree c
  refine ⟨(h c).1.trans ?_, (h c).2.1.trans ?_, (h c).2.2.1.trans ?_, (h c).2.2.2⟩
  · rw [SsdPostRefIdeal.Read.val_main_v51_eq, e0, e1, e2, e3, e4, e5, e6, GroupReference.reference]
    rfl
  · rw [SsdPostRefIdeal.Read.val_main_v54_eq, e0, e1, e2, e3, e4, e5, e6, GroupReference.reference_skip]
    rfl
  · rw [e0, e1, e2, e3, e4, e5]
    refine (SsdPostRefIdeal.Read.val_main_v32_eq _ _ _ _ _ _).trans ?_
    rw [GroupReference.reference_weight]
    rfl

end Cert.Proof.Mixers

end
-- ==== Proof.Adam.lean ====
/-
  The optimiser's step, as mathematics over the extended reals: the two moments and the change of a weight from its
  gradient, entry by entry, and a gradient that arrives as the eight devices' parts, summed.
-/
module

public import Idealize.ShloMosaic.Lib.Pointwise

@[expose] public section

noncomputable section

namespace Cert.Proof.Adam

open Idealize.ShloMosaic

variable {S : Shape}

/-- The new first moment. -/
def first (g m : S.Idx → EReal) : S.Idx → EReal := fun i =>
  Ideal.ofBits .f32 0x3F666666#32 * m i + Ideal.ofBits .f32 0x3DCCCCCD#32 * g i

/-- The new second moment. -/
def second (g v : S.Idx → EReal) : S.Idx → EReal := fun i =>
  Ideal.ofBits .f32 0x3F7FBE77#32 * v i + Ideal.ofBits .f32 0x3A83126F#32 * (g i * g i)

/-- The change of the weight: the quotient of the moments, both corrected for their start, and the weight's decay. -/
def change (w g m v : S.Idx → EReal) : S.Idx → EReal := fun i =>
  Ideal.ofBits .f32 0xBA83126F#32
    * (Ideal.div (Ideal.div (first g m i) (Ideal.ofBits .f32 0x3F26BD02#32))
        (Ideal.sqrt (Ideal.div (second g v i) (Ideal.ofBits .f32 0x3C231ACC#32)) + Ideal.ofBits .f32 0x322BCC77#32)
      + Ideal.ofBits .f32 0x3C23D70A#32 * w i)

/-- The sum of the eight devices' parts. -/
def total {R C : ℕ} (g : (⟨3, ![8, R, C]⟩ : Shape).Idx → EReal) : (⟨2, ![R, C]⟩ : Shape).Idx → EReal := fun i =>
  ∑ k : Fin 8, g (ix3 k (i 0) (i 1))

theorem first_congr {S' : Shape} (g m : S.Idx → EReal) (g' m' : S'.Idx → EReal) (i : S.Idx) (j : S'.Idx)
    (hg : g i = g' j) (hm : m i = m' j) : first g m i = first g' m' j := by
  unfold first
  rw [hg, hm]

theorem second_congr {S' : Shape} (g v : S.Idx → EReal) (g' v' : S'.Idx → EReal) (i : S.Idx) (j : S'.Idx)
    (hg : g i = g' j) (hv : v i = v' j) : second g v i = second g' v' j := by
  unfold second
  rw [hg, hv]

theorem change_congr {S' : Shape} (w g m v : S.Idx → EReal) (w' g' m' v' : S'.Idx → EReal) (i : S.Idx) (j : S'.Idx)
    (hw : w i = w' j) (hg : g i = g' j) (hm : m i = m' j) (hv : v i = v' j) : change w g m v i = change w' g' m' v' j := by
  unfold change
  rw [first_congr g m g' m' i j hg hm, second_congr g v g' v' i j hg hv, hw]

theorem hz : (![0, 0] : Fin 2 → Nat) = fun _ => 0 := funext fun a => by fin_cases a <;> rfl

end Cert.Proof.Adam

end
-- ==== Proof.AdamIn.lean ====
/-
  The optimiser's step of the input projection's matrix: the kernel's blocks of 128 rows are the step's rows.
-/
module

public import proofs.«01_k».proof.Proof.Adam
public import proofs.«01_k».proof.Proof.Gen.AdamInIdeal.Value
public import Idealize.ShloMosaic.Lib.Pipeline.ValueKit

@[expose] public section

set_option maxRecDepth 16384

noncomputable section

namespace Cert.Proof.AdamIn

open Idealize.ShloMosaic Idealize.ShloMosaic.TcCoe Idealize.ShloMosaic.Pipeline Idealize.SL.Sem Cert.AdamInIdeal Cert.AdamInIdeal.Gen
open Cert.Proof.Adam

/-- The sum of the parts, of a block. -/
theorem sum_eq (x0 : Vec Ideal S128x836 .f32) (x1 : Vec Ideal S8x128x836 .bf16) (x2 x3 : Vec Ideal S128x836 .f32) :
    k0_pay5 x0 x1 x2 x3 = total x1 := by
  funext i
  rw [eq_ix2 i]
  unfold k0_pay5 k0_pay4 total
  rw [Fin.sum_univ_eight]
  pointwise

/-- What the body leaves in the four blocks. -/
theorem out4 (x0 : Vec Ideal S128x836 .f32) (x1 : Vec Ideal S8x128x836 .bf16) (x2 x3 : Vec Ideal S128x836 .f32) :
    out0_4 x0 x1 x2 x3 = total x1 := by
  unfold out0_4
  rw [View.canon_cons_unit_zero (S := S128x836) hz]
  exact sum_eq x0 x1 x2 x3

theorem out5 (x0 : Vec Ideal S128x836 .f32) (x1 : Vec Ideal S8x128x836 .bf16) (x2 x3 : Vec Ideal S128x836 .f32) :
    out0_5 x0 x1 x2 x3 = change x0 (total x1) x2 x3 := by
  unfold out0_5
  rw [View.canon_cons_unit_zero (S := S128x836) hz, sum_eq]
  simp only [View.ld_unit_zero (S := S128x836) hz]
  rfl

theorem out6 (x0 : Vec Ideal S128x836 .f32) (x1 : Vec Ideal S8x128x836 .bf16) (x2 x3 : Vec Ideal S128x836 .f32) :
    out0_6 x0 x1 x2 x3 = first (total x1) x2 := by
  unfold out0_6
  rw [View.canon_cons_unit_zero (S := S128x836) hz, sum_eq]
  simp only [View.ld_unit_zero (S := S128x836) hz]
  rfl

theorem out7 (x0 : Vec Ideal S128x836 .f32) (x1 : Vec Ideal S8x128x836 .bf16) (x2 x3 : Vec Ideal S128x836 .f32) :
    out0_7 x0 x1 x2 x3 = second (total x1) x3 := by
  unfold out0_7
  rw [View.canon_cons_unit_zero (S := S128x836) hz, sum_eq]
  simp only [View.ld_unit_zero (S := S128x836) hz]
  rfl

variable (m : (b : Loc nD τ sig) → Buf (Elt Ideal) b) (c : Dev nD)

abbrev W : (⟨2, ![1024, 836]⟩ : Shape).Idx → EReal := m ((c : Thread nD τ).loc main_arg0)
abbrev G : (⟨2, ![1024, 836]⟩ : Shape).Idx → EReal := total (R := 1024) (C := 836) (m ((c : Thread nD τ).loc main_arg1))
abbrev M : (⟨2, ![1024, 836]⟩ : Shape).Idx → EReal := m ((c : Thread nD τ).loc main_arg2)
abbrev V : (⟨2, ![1024, 836]⟩ : Shape).Idx → EReal := m ((c : Thread nD τ).loc main_arg3)

/-- All blocks of a point are the same rows, of every part in the parts' array. -/
theorem idx : ∀ t : Fin cfg0.N, win0_0.index t = win0_4.index t ∧ win0_1.index t = ![0, win0_4.index t 0, win0_4.index t 1]
    ∧ win0_2.index t = win0_4.index t ∧ win0_3.index t = win0_4.index t := (by decide +kernel : ∀ t : Fin grid0.N, _)

/-- An entry of a block, in the array. -/
abbrev at4 (t : Fin cfg0.N) (y : S128x836.Idx) : S1024x836.Idx := (win0_4.blk t).view.emb y

theorem blk0 (t : Fin cfg0.N) (y : S128x836.Idx) : iblk m c 0 t y = W m c (at4 t y) := by
  blk_simp [iblk]
  rw [V_main_arg0]
  refine congrArg _ (funext fun a => Fin.ext ?_)
  match a with
  | ⟨0, _⟩ => blk_simp [(idx t).1, at4]
  | ⟨1, _⟩ => blk_simp [(idx t).1, at4]

theorem blk2 (t : Fin cfg0.N) (y : S128x836.Idx) : iblk m c 2 t y = M m c (at4 t y) := by
  blk_simp [iblk]
  rw [V_main_arg2]
  refine congrArg _ (funext fun a => Fin.ext ?_)
  match a with
  | ⟨0, _⟩ => blk_simp [(idx t).2.2.1, at4]
  | ⟨1, _⟩ => blk_simp [(idx t).2.2.1, at4]

theorem blk3 (t : Fin cfg0.N) (y : S128x836.Idx) : iblk m c 3 t y = V m c (at4 t y) := by
  blk_simp [iblk]
  rw [V_main_arg3]
  refine congrArg _ (funext fun a => Fin.ext ?_)
  match a with
  | ⟨0, _⟩ => blk_simp [(idx t).2.2.2, at4]
  | ⟨1, _⟩ => blk_simp [(idx t).2.2.2, at4]

theorem blk1 (t : Fin cfg0.N) (y : S128x836.Idx) : total (R := 128) (C := 836) (iblk m c 1 t) y = G m c (at4 t y) := by
  unfold G total
  refine Finset.sum_congr rfl fun k _ => ?_
  blk_simp [iblk]
  rw [V_main_arg1]
  refine congrArg _ (funext fun a => Fin.ext ?_)
  match a with
  | ⟨0, _⟩ => blk_simp [(idx t).2.1, at4]
  | ⟨1, _⟩ => blk_simp [(idx t).2.1, at4]
  | ⟨2, _⟩ => blk_simp [(idx t).2.1, at4]

theorem final4 : (dats m 0 c).arrAt 4 cfg0.N = G m c := by
  refine (dats m 0 c).arrAt_eq_of_covers 4 _ (by decide +kernel) fun t _ y => ?_
  blk_simp
  rw [after0_4, out4]
  exact blk1 m c t y

theorem final5 : (dats m 0 c).arrAt 5 cfg0.N = change (W m c) (G m c) (M m c) (V m c) := by
  refine (dats m 0 c).arrAt_eq_of_covers 5 _ (by decide +kernel) fun t _ y => ?_
  blk_simp
  rw [after0_5, out5]
  exact change_congr _ _ _ _ _ _ _ _ _ _ (blk0 m c t y) (blk1 m c t y) (blk2 m c t y) (blk3 m c t y)

theorem final6 : (dats m 0 c).arrAt 6 cfg0.N = first (G m c) (M m c) := by
  refine (dats m 0 c).arrAt_eq_of_covers 6 _ (by decide +kernel) fun t _ y => ?_
  blk_simp
  rw [after0_6, out6]
  exact first_congr _ _ _ _ _ _ (blk1 m c t y) (blk2 m c t y)

theorem final7 : (dats m 0 c).arrAt 7 cfg0.N = second (G m c) (V m c) := by
  refine (dats m 0 c).arrAt_eq_of_covers 7 _ (by decide +kernel) fun t _ y => ?_
  blk_simp
  rw [after0_7, out7]
  exact second_congr _ _ _ _ _ _ (blk1 m c t y) (blk3 m c t y)

/-- The run: the sum, the change and the moments; the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = G m c
      ∧ r.2.mem ((c : Thread nD τ).loc main_v0_1) = change (W m c) (G m c) (M m c) (V m c)
      ∧ r.2.mem ((c : Thread nD τ).loc main_v0_2) = first (G m c) (M m c)
      ∧ r.2.mem ((c : Thread nD τ).loc main_v0_3) = second (G m c) (V m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c),
    (h c).2.2.2.1.trans (final7 m c), (h c).2.2.2.2⟩) (Value.run_blocks m ρ)

end Cert.Proof.AdamIn

end
-- ==== Proof.AdamOut.lean ====
/-
  The optimiser's step of the output projection's matrix, a device's rows: the kernel's blocks of 128 rows are the step's rows.
-/
module

public import proofs.«01_k».proof.Proof.Adam
public import proofs.«01_k».proof.Proof.Gen.AdamOutIdeal.Value
public import Idealize.ShloMosaic.Lib.Pipeline.ValueKit

@[expose] public section

set_option maxRecDepth 16384

noncomputable section

namespace Cert.Proof.AdamOut

open Idealize.ShloMosaic Idealize.ShloMosaic.TcCoe Idealize.ShloMosaic.Pipeline Idealize.SL.Sem Cert.AdamOutIdeal Cert.AdamOutIdeal.Gen
open Cert.Proof.Adam

/-- The sum of the parts, of a block. -/
theorem sum_eq (x0 : Vec Ideal S128x1024 .f32) (x1 : Vec Ideal S8x128x1024 .bf16) (x2 x3 : Vec Ideal S128x1024 .f32) :
    k0_pay5 x0 x1 x2 x3 = total x1 := by
  funext i
  rw [eq_ix2 i]
  unfold k0_pay5 k0_pay4 total
  rw [Fin.sum_univ_eight]
  pointwise

/-- What the body leaves in the four blocks. -/
theorem out4 (x0 : Vec Ideal S128x1024 .f32) (x1 : Vec Ideal S8x128x1024 .bf16) (x2 x3 : Vec Ideal S128x1024 .f32) :
    out0_4 x0 x1 x2 x3 = total x1 := by
  unfold out0_4
  rw [View.canon_cons_unit_zero (S := S128x1024) hz]
  exact sum_eq x0 x1 x2 x3

theorem out5 (x0 : Vec Ideal S128x1024 .f32) (x1 : Vec Ideal S8x128x1024 .bf16) (x2 x3 : Vec Ideal S128x1024 .f32) :
    out0_5 x0 x1 x2 x3 = change x0 (total x1) x2 x3 := by
  unfold out0_5
  rw [View.canon_cons_unit_zero (S := S128x1024) hz, sum_eq]
  simp only [View.ld_unit_zero (S := S128x1024) hz]
  rfl

theorem out6 (x0 : Vec Ideal S128x1024 .f32) (x1 : Vec Ideal S8x128x1024 .bf16) (x2 x3 : Vec Ideal S128x1024 .f32) :
    out0_6 x0 x1 x2 x3 = first (total x1) x2 := by
  unfold out0_6
  rw [View.canon_cons_unit_zero (S := S128x1024) hz, sum_eq]
  simp only [View.ld_unit_zero (S := S128x1024) hz]
  rfl

theorem out7 (x0 : Vec Ideal S128x1024 .f32) (x1 : Vec Ideal S8x128x1024 .bf16) (x2 x3 : Vec Ideal S128x1024 .f32) :
    out0_7 x0 x1 x2 x3 = second (total x1) x3 := by
  unfold out0_7
  rw [View.canon_cons_unit_zero (S := S128x1024) hz, sum_eq]
  simp only [View.ld_unit_zero (S := S128x1024) hz]
  rfl

variable (m : (b : Loc nD τ sig) → Buf (Elt Ideal) b) (c : Dev nD)

abbrev W : (⟨2, ![256, 1024]⟩ : Shape).Idx → EReal := m ((c : Thread nD τ).loc main_arg0)
abbrev G : (⟨2, ![256, 1024]⟩ : Shape).Idx → EReal := total (R := 256) (C := 1024) (m ((c : Thread nD τ).loc main_arg1))
abbrev M : (⟨2, ![256, 1024]⟩ : Shape).Idx → EReal := m ((c : Thread nD τ).loc main_arg2)
abbrev V : (⟨2, ![256, 1024]⟩ : Shape).Idx → EReal := m ((c : Thread nD τ).loc main_arg3)

/-- All blocks of a point are the same rows, of every part in the parts' array. -/
theorem idx : ∀ t : Fin cfg0.N, win0_0.index t = win0_4.index t ∧ win0_1.index t = ![0, win0_4.index t 0, win0_4.index t 1]
    ∧ win0_2.index t = win0_4.index t ∧ win0_3.index t = win0_4.index t := (by decide +kernel : ∀ t : Fin grid0.N, _)

/-- An entry of a block, in the array. -/
abbrev at4 (t : Fin cfg0.N) (y : S128x1024.Idx) : S256x1024.Idx := (win0_4.blk t).view.emb y

theorem blk0 (t : Fin cfg0.N) (y : S128x1024.Idx) : iblk m c 0 t y = W m c (at4 t y) := by
  blk_simp [iblk]
  rw [V_main_arg0]
  refine congrArg _ (funext fun a => Fin.ext ?_)
  match a with
  | ⟨0, _⟩ => blk_simp [(idx t).1, at4]
  | ⟨1, _⟩ => blk_simp [(idx t).1, at4]

theorem blk2 (t : Fin cfg0.N) (y : S128x1024.Idx) : iblk m c 2 t y = M m c (at4 t y) := by
  blk_simp [iblk]
  rw [V_main_arg2]
  refine congrArg _ (funext fun a => Fin.ext ?_)
  match a with
  | ⟨0, _⟩ => blk_simp [(idx t).2.2.1, at4]
  | ⟨1, _⟩ => blk_simp [(idx t).2.2.1, at4]

theorem blk3 (t : Fin cfg0.N) (y : S128x1024.Idx) : iblk m c 3 t y = V m c (at4 t y) := by
  blk_simp [iblk]
  rw [V_main_arg3]
  refine congrArg _ (funext fun a => Fin.ext ?_)
  match a with
  | ⟨0, _⟩ => blk_simp [(idx t).2.2.2, at4]
  | ⟨1, _⟩ => blk_simp [(idx t).2.2.2, at4]

theorem blk1 (t : Fin cfg0.N) (y : S128x1024.Idx) : total (R := 128) (C := 1024) (iblk m c 1 t) y = G m c (at4 t y) := by
  unfold G total
  refine Finset.sum_congr rfl fun k _ => ?_
  blk_simp [iblk]
  rw [V_main_arg1]
  refine congrArg _ (funext fun a => Fin.ext ?_)
  match a with
  | ⟨0, _⟩ => blk_simp [(idx t).2.1, at4]
  | ⟨1, _⟩ => blk_simp [(idx t).2.1, at4]
  | ⟨2, _⟩ => blk_simp [(idx t).2.1, at4]

theorem final4 : (dats m 0 c).arrAt 4 cfg0.N = G m c := by
  refine (dats m 0 c).arrAt_eq_of_covers 4 _ (by decide +kernel) fun t _ y => ?_
  blk_simp
  rw [after0_4, out4]
  exact blk1 m c t y

theorem final5 : (dats m 0 c).arrAt 5 cfg0.N = change (W m c) (G m c) (M m c) (V m c) := by
  refine (dats m 0 c).arrAt_eq_of_covers 5 _ (by decide +kernel) fun t _ y => ?_
  blk_simp
  rw [after0_5, out5]
  exact change_congr _ _ _ _ _ _ _ _ _ _ (blk0 m c t y) (blk1 m c t y) (blk2 m c t y) (blk3 m c t y)

theorem final6 : (dats m 0 c).arrAt 6 cfg0.N = first (G m c) (M m c) := by
  refine (dats m 0 c).arrAt_eq_of_covers 6 _ (by decide +kernel) fun t _ y => ?_
  blk_simp
  rw [after0_6, out6]
  exact first_congr _ _ _ _ _ _ (blk1 m c t y) (blk2 m c t y)

theorem final7 : (dats m 0 c).arrAt 7 cfg0.N = second (G m c) (V m c) := by
  refine (dats m 0 c).arrAt_eq_of_covers 7 _ (by decide +kernel) fun t _ y => ?_
  blk_simp
  rw [after0_7, out7]
  exact second_congr _ _ _ _ _ _ (blk1 m c t y) (blk3 m c t y)

/-- The run: the sum, the change and the moments; the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = G m c
      ∧ r.2.mem ((c : Thread nD τ).loc main_v0_1) = change (W m c) (G m c) (M m c) (V m c)
      ∧ r.2.mem ((c : Thread nD τ).loc main_v0_2) = first (G m c) (M m c)
      ∧ r.2.mem ((c : Thread nD τ).loc main_v0_3) = second (G m c) (V m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c),
    (h c).2.2.2.1.trans (final7 m c), (h c).2.2.2.2⟩) (Value.run_blocks m ρ)

end Cert.Proof.AdamOut

end
-- ==== Proof.AdamMem.lean ====
/-
  The optimiser's step of a matrix of the memory attention, a device's rows: the kernel's blocks of 128 rows are the step's rows.
-/
module

public import proofs.«01_k».proof.Proof.Adam
public import proofs.«01_k».proof.Proof.Gen.AdamMemIdeal.Value
public import Idealize.ShloMosaic.Lib.Pipeline.ValueKit

@[expose] public section

set_option maxRecDepth 16384

noncomputable section

namespace Cert.Proof.AdamMem

open Idealize.ShloMosaic Idealize.ShloMosaic.TcCoe Idealize.ShloMosaic.Pipeline Idealize.SL.Sem Cert.AdamMemIdeal Cert.AdamMemIdeal.Gen
open Cert.Proof.Adam

/-- The sum of the parts, of a block. -/
theorem sum_eq (x0 : Vec Ideal S128x1024 .f32) (x1 : Vec Ideal S8x128x1024 .bf16) (x2 x3 : Vec Ideal S128x1024 .f32) :
    k0_pay5 x0 x1 x2 x3 = total x1 := by
  funext i
  rw [eq_ix2 i]
  unfold k0_pay5 k0_pay4 total
  rw [Fin.sum_univ_eight]
  pointwise

/-- What the body leaves in the four blocks. -/
theorem out4 (x0 : Vec Ideal S128x1024 .f32) (x1 : Vec Ideal S8x128x1024 .bf16) (x2 x3 : Vec Ideal S128x1024 .f32) :
    out0_4 x0 x1 x2 x3 = total x1 := by
  unfold out0_4
  rw [View.canon_cons_unit_zero (S := S128x1024) hz]
  exact sum_eq x0 x1 x2 x3

theorem out5 (x0 : Vec Ideal S128x1024 .f32) (x1 : Vec Ideal S8x128x1024 .bf16) (x2 x3 : Vec Ideal S128x1024 .f32) :
    out0_5 x0 x1 x2 x3 = change x0 (total x1) x2 x3 := by
  unfold out0_5
  rw [View.canon_cons_unit_zero (S := S128x1024) hz, sum_eq]
  simp only [View.ld_unit_zero (S := S128x1024) hz]
  rfl

theorem out6 (x0 : Vec Ideal S128x1024 .f32) (x1 : Vec Ideal S8x128x1024 .bf16) (x2 x3 : Vec Ideal S128x1024 .f32) :
    out0_6 x0 x1 x2 x3 = first (total x1) x2 := by
  unfold out0_6
  rw [View.canon_cons_unit_zero (S := S128x1024) hz, sum_eq]
  simp only [View.ld_unit_zero (S := S128x1024) hz]
  rfl

theorem out7 (x0 : Vec Ideal S128x1024 .f32) (x1 : Vec Ideal S8x128x1024 .bf16) (x2 x3 : Vec Ideal S128x1024 .f32) :
    out0_7 x0 x1 x2 x3 = second (total x1) x3 := by
  unfold out0_7
  rw [View.canon_cons_unit_zero (S := S128x1024) hz, sum_eq]
  simp only [View.ld_unit_zero (S := S128x1024) hz]
  rfl

variable (m : (b : Loc nD τ sig) → Buf (Elt Ideal) b) (c : Dev nD)

abbrev W : (⟨2, ![128, 1024]⟩ : Shape).Idx → EReal := m ((c : Thread nD τ).loc main_arg0)
abbrev G : (⟨2, ![128, 1024]⟩ : Shape).Idx → EReal := total (R := 128) (C := 1024) (m ((c : Thread nD τ).loc main_arg1))
abbrev M : (⟨2, ![128, 1024]⟩ : Shape).Idx → EReal := m ((c : Thread nD τ).loc main_arg2)
abbrev V : (⟨2, ![128, 1024]⟩ : Shape).Idx → EReal := m ((c : Thread nD τ).loc main_arg3)

/-- All blocks of a point are the same rows, of every part in the parts' array. -/
theorem idx : ∀ t : Fin cfg0.N, win0_0.index t = win0_4.index t ∧ win0_1.index t = ![0, win0_4.index t 0, win0_4.index t 1]
    ∧ win0_2.index t = win0_4.index t ∧ win0_3.index t = win0_4.index t := (by decide +kernel : ∀ t : Fin grid0.N, _)

/-- An entry of a block, in the array. -/
abbrev at4 (t : Fin cfg0.N) (y : S128x1024.Idx) : S128x1024.Idx := (win0_4.blk t).view.emb y

theorem blk0 (t : Fin cfg0.N) (y : S128x1024.Idx) : iblk m c 0 t y = W m c (at4 t y) := by
  blk_simp [iblk]
  rw [V_main_arg0]
  refine congrArg _ (funext fun a => Fin.ext ?_)
  match a with
  | ⟨0, _⟩ => blk_simp [(idx t).1, at4]
  | ⟨1, _⟩ => blk_simp [(idx t).1, at4]

theorem blk2 (t : Fin cfg0.N) (y : S128x1024.Idx) : iblk m c 2 t y = M m c (at4 t y) := by
  blk_simp [iblk]
  rw [V_main_arg2]
  refine congrArg _ (funext fun a => Fin.ext ?_)
  match a with
  | ⟨0, _⟩ => blk_simp [(idx t).2.2.1, at4]
  | ⟨1, _⟩ => blk_simp [(idx t).2.2.1, at4]

theorem blk3 (t : Fin cfg0.N) (y : S128x1024.Idx) : iblk m c 3 t y = V m c (at4 t y) := by
  blk_simp [iblk]
  rw [V_main_arg3]
  refine congrArg _ (funext fun a => Fin.ext ?_)
  match a with
  | ⟨0, _⟩ => blk_simp [(idx t).2.2.2, at4]
  | ⟨1, _⟩ => blk_simp [(idx t).2.2.2, at4]

theorem blk1 (t : Fin cfg0.N) (y : S128x1024.Idx) : total (R := 128) (C := 1024) (iblk m c 1 t) y = G m c (at4 t y) := by
  unfold G total
  refine Finset.sum_congr rfl fun k _ => ?_
  blk_simp [iblk]
  rw [V_main_arg1]
  refine congrArg _ (funext fun a => Fin.ext ?_)
  match a with
  | ⟨0, _⟩ => blk_simp [(idx t).2.1, at4]
  | ⟨1, _⟩ => blk_simp [(idx t).2.1, at4]
  | ⟨2, _⟩ => blk_simp [(idx t).2.1, at4]

theorem final4 : (dats m 0 c).arrAt 4 cfg0.N = G m c := by
  refine (dats m 0 c).arrAt_eq_of_covers 4 _ (by decide +kernel) fun t _ y => ?_
  blk_simp
  rw [after0_4, out4]
  exact blk1 m c t y

theorem final5 : (dats m 0 c).arrAt 5 cfg0.N = change (W m c) (G m c) (M m c) (V m c) := by
  refine (dats m 0 c).arrAt_eq_of_covers 5 _ (by decide +kernel) fun t _ y => ?_
  blk_simp
  rw [after0_5, out5]
  exact change_congr _ _ _ _ _ _ _ _ _ _ (blk0 m c t y) (blk1 m c t y) (blk2 m c t y) (blk3 m c t y)

theorem final6 : (dats m 0 c).arrAt 6 cfg0.N = first (G m c) (M m c) := by
  refine (dats m 0 c).arrAt_eq_of_covers 6 _ (by decide +kernel) fun t _ y => ?_
  blk_simp
  rw [after0_6, out6]
  exact first_congr _ _ _ _ _ _ (blk1 m c t y) (blk2 m c t y)

theorem final7 : (dats m 0 c).arrAt 7 cfg0.N = second (G m c) (V m c) := by
  refine (dats m 0 c).arrAt_eq_of_covers 7 _ (by decide +kernel) fun t _ y => ?_
  blk_simp
  rw [after0_7, out7]
  exact second_congr _ _ _ _ _ _ (blk1 m c t y) (blk3 m c t y)

/-- The run: the sum, the change and the moments; the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = G m c
      ∧ r.2.mem ((c : Thread nD τ).loc main_v0_1) = change (W m c) (G m c) (M m c) (V m c)
      ∧ r.2.mem ((c : Thread nD τ).loc main_v0_2) = first (G m c) (M m c)
      ∧ r.2.mem ((c : Thread nD τ).loc main_v0_3) = second (G m c) (V m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c),
    (h c).2.2.2.1.trans (final7 m c), (h c).2.2.2.2⟩) (Value.run_blocks m ρ)

end Cert.Proof.AdamMem

end
-- ==== Proof.AdamUp.lean ====
/-
  The optimiser's step of the MLP's first matrix: the kernel's blocks of 128 rows are the step's rows.
-/
module

public import proofs.«01_k».proof.Proof.Adam
public import proofs.«01_k».proof.Proof.Gen.AdamUpIdeal.Value
public import Idealize.ShloMosaic.Lib.Pipeline.ValueKit

@[expose] public section

set_option maxRecDepth 16384

noncomputable section

namespace Cert.Proof.AdamUp

open Idealize.ShloMosaic Idealize.ShloMosaic.TcCoe Idealize.ShloMosaic.Pipeline Idealize.SL.Sem Cert.AdamUpIdeal Cert.AdamUpIdeal.Gen
open Cert.Proof.Adam

/-- The sum of the parts, of a block. -/
theorem sum_eq (x0 : Vec Ideal S128x512 .f32) (x1 : Vec Ideal S8x128x512 .bf16) (x2 x3 : Vec Ideal S128x512 .f32) :
    k0_pay5 x0 x1 x2 x3 = total x1 := by
  funext i
  rw [eq_ix2 i]
  unfold k0_pay5 k0_pay4 total
  rw [Fin.sum_univ_eight]
  pointwise

/-- What the body leaves in the four blocks. -/
theorem out4 (x0 : Vec Ideal S128x512 .f32) (x1 : Vec Ideal S8x128x512 .bf16) (x2 x3 : Vec Ideal S128x512 .f32) :
    out0_4 x0 x1 x2 x3 = total x1 := by
  unfold out0_4
  rw [View.canon_cons_unit_zero (S := S128x512) hz]
  exact sum_eq x0 x1 x2 x3

theorem out5 (x0 : Vec Ideal S128x512 .f32) (x1 : Vec Ideal S8x128x512 .bf16) (x2 x3 : Vec Ideal S128x512 .f32) :
    out0_5 x0 x1 x2 x3 = change x0 (total x1) x2 x3 := by
  unfold out0_5
  rw [View.canon_cons_unit_zero (S := S128x512) hz, sum_eq]
  simp only [View.ld_unit_zero (S := S128x512) hz]
  rfl

theorem out6 (x0 : Vec Ideal S128x512 .f32) (x1 : Vec Ideal S8x128x512 .bf16) (x2 x3 : Vec Ideal S128x512 .f32) :
    out0_6 x0 x1 x2 x3 = first (total x1) x2 := by
  unfold out0_6
  rw [View.canon_cons_unit_zero (S := S128x512) hz, sum_eq]
  simp only [View.ld_unit_zero (S := S128x512) hz]
  rfl

theorem out7 (x0 : Vec Ideal S128x512 .f32) (x1 : Vec Ideal S8x128x512 .bf16) (x2 x3 : Vec Ideal S128x512 .f32) :
    out0_7 x0 x1 x2 x3 = second (total x1) x3 := by
  unfold out0_7
  rw [View.canon_cons_unit_zero (S := S128x512) hz, sum_eq]
  simp only [View.ld_unit_zero (S := S128x512) hz]
  rfl

variable (m : (b : Loc nD τ sig) → Buf (Elt Ideal) b) (c : Dev nD)

abbrev W : (⟨2, ![1024, 512]⟩ : Shape).Idx → EReal := m ((c : Thread nD τ).loc main_arg0)
abbrev G : (⟨2, ![1024, 512]⟩ : Shape).Idx → EReal := total (R := 1024) (C := 512) (m ((c : Thread nD τ).loc main_arg1))
abbrev M : (⟨2, ![1024, 512]⟩ : Shape).Idx → EReal := m ((c : Thread nD τ).loc main_arg2)
abbrev V : (⟨2, ![1024, 512]⟩ : Shape).Idx → EReal := m ((c : Thread nD τ).loc main_arg3)

/-- All blocks of a point are the same rows, of every part in the parts' array. -/
theorem idx : ∀ t : Fin cfg0.N, win0_0.index t = win0_4.index t ∧ win0_1.index t = ![0, win0_4.index t 0, win0_4.index t 1]
    ∧ win0_2.index t = win0_4.index t ∧ win0_3.index t = win0_4.index t := (by decide +kernel : ∀ t : Fin grid0.N, _)

/-- An entry of a block, in the array. -/
abbrev at4 (t : Fin cfg0.N) (y : S128x512.Idx) : S1024x512.Idx := (win0_4.blk t).view.emb y

theorem blk0 (t : Fin cfg0.N) (y : S128x512.Idx) : iblk m c 0 t y = W m c (at4 t y) := by
  blk_simp [iblk]
  rw [V_main_arg0]
  refine congrArg _ (funext fun a => Fin.ext ?_)
  match a with
  | ⟨0, _⟩ => blk_simp [(idx t).1, at4]
  | ⟨1, _⟩ => blk_simp [(idx t).1, at4]

theorem blk2 (t : Fin cfg0.N) (y : S128x512.Idx) : iblk m c 2 t y = M m c (at4 t y) := by
  blk_simp [iblk]
  rw [V_main_arg2]
  refine congrArg _ (funext fun a => Fin.ext ?_)
  match a with
  | ⟨0, _⟩ => blk_simp [(idx t).2.2.1, at4]
  | ⟨1, _⟩ => blk_simp [(idx t).2.2.1, at4]

theorem blk3 (t : Fin cfg0.N) (y : S128x512.Idx) : iblk m c 3 t y = V m c (at4 t y) := by
  blk_simp [iblk]
  rw [V_main_arg3]
  refine congrArg _ (funext fun a => Fin.ext ?_)
  match a with
  | ⟨0, _⟩ => blk_simp [(idx t).2.2.2, at4]
  | ⟨1, _⟩ => blk_simp [(idx t).2.2.2, at4]

theorem blk1 (t : Fin cfg0.N) (y : S128x512.Idx) : total (R := 128) (C := 512) (iblk m c 1 t) y = G m c (at4 t y) := by
  unfold G total
  refine Finset.sum_congr rfl fun k _ => ?_
  blk_simp [iblk]
  rw [V_main_arg1]
  refine congrArg _ (funext fun a => Fin.ext ?_)
  match a with
  | ⟨0, _⟩ => blk_simp [(idx t).2.1, at4]
  | ⟨1, _⟩ => blk_simp [(idx t).2.1, at4]
  | ⟨2, _⟩ => blk_simp [(idx t).2.1, at4]

theorem final4 : (dats m 0 c).arrAt 4 cfg0.N = G m c := by
  refine (dats m 0 c).arrAt_eq_of_covers 4 _ (by decide +kernel) fun t _ y => ?_
  blk_simp
  rw [after0_4, out4]
  exact blk1 m c t y

theorem final5 : (dats m 0 c).arrAt 5 cfg0.N = change (W m c) (G m c) (M m c) (V m c) := by
  refine (dats m 0 c).arrAt_eq_of_covers 5 _ (by decide +kernel) fun t _ y => ?_
  blk_simp
  rw [after0_5, out5]
  exact change_congr _ _ _ _ _ _ _ _ _ _ (blk0 m c t y) (blk1 m c t y) (blk2 m c t y) (blk3 m c t y)

theorem final6 : (dats m 0 c).arrAt 6 cfg0.N = first (G m c) (M m c) := by
  refine (dats m 0 c).arrAt_eq_of_covers 6 _ (by decide +kernel) fun t _ y => ?_
  blk_simp
  rw [after0_6, out6]
  exact first_congr _ _ _ _ _ _ (blk1 m c t y) (blk2 m c t y)

theorem final7 : (dats m 0 c).arrAt 7 cfg0.N = second (G m c) (V m c) := by
  refine (dats m 0 c).arrAt_eq_of_covers 7 _ (by decide +kernel) fun t _ y => ?_
  blk_simp
  rw [after0_7, out7]
  exact second_congr _ _ _ _ _ _ (blk1 m c t y) (blk3 m c t y)

/-- The run: the sum, the change and the moments; the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = G m c
      ∧ r.2.mem ((c : Thread nD τ).loc main_v0_1) = change (W m c) (G m c) (M m c) (V m c)
      ∧ r.2.mem ((c : Thread nD τ).loc main_v0_2) = first (G m c) (M m c)
      ∧ r.2.mem ((c : Thread nD τ).loc main_v0_3) = second (G m c) (V m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c),
    (h c).2.2.2.1.trans (final7 m c), (h c).2.2.2.2⟩) (Value.run_blocks m ρ)

end Cert.Proof.AdamUp

end
-- ==== Proof.AdamDown.lean ====
/-
  The optimiser's step of the MLP's second matrix: the kernel's blocks of 128 rows are the step's rows.
-/
module

public import proofs.«01_k».proof.Proof.Adam
public import proofs.«01_k».proof.Proof.Gen.AdamDownIdeal.Value
public import Idealize.ShloMosaic.Lib.Pipeline.ValueKit

@[expose] public section

set_option maxRecDepth 16384

noncomputable section

namespace Cert.Proof.AdamDown

open Idealize.ShloMosaic Idealize.ShloMosaic.TcCoe Idealize.ShloMosaic.Pipeline Idealize.SL.Sem Cert.AdamDownIdeal Cert.AdamDownIdeal.Gen
open Cert.Proof.Adam

/-- The sum of the parts, of a block. -/
theorem sum_eq (x0 : Vec Ideal S128x1024 .f32) (x1 : Vec Ideal S8x128x1024 .bf16) (x2 x3 : Vec Ideal S128x1024 .f32) :
    k0_pay5 x0 x1 x2 x3 = total x1 := by
  funext i
  rw [eq_ix2 i]
  unfold k0_pay5 k0_pay4 total
  rw [Fin.sum_univ_eight]
  pointwise

/-- What the body leaves in the four blocks. -/
theorem out4 (x0 : Vec Ideal S128x1024 .f32) (x1 : Vec Ideal S8x128x1024 .bf16) (x2 x3 : Vec Ideal S128x1024 .f32) :
    out0_4 x0 x1 x2 x3 = total x1 := by
  unfold out0_4
  rw [View.canon_cons_unit_zero (S := S128x1024) hz]
  exact sum_eq x0 x1 x2 x3

theorem out5 (x0 : Vec Ideal S128x1024 .f32) (x1 : Vec Ideal S8x128x1024 .bf16) (x2 x3 : Vec Ideal S128x1024 .f32) :
    out0_5 x0 x1 x2 x3 = change x0 (total x1) x2 x3 := by
  unfold out0_5
  rw [View.canon_cons_unit_zero (S := S128x1024) hz, sum_eq]
  simp only [View.ld_unit_zero (S := S128x1024) hz]
  rfl

theorem out6 (x0 : Vec Ideal S128x1024 .f32) (x1 : Vec Ideal S8x128x1024 .bf16) (x2 x3 : Vec Ideal S128x1024 .f32) :
    out0_6 x0 x1 x2 x3 = first (total x1) x2 := by
  unfold out0_6
  rw [View.canon_cons_unit_zero (S := S128x1024) hz, sum_eq]
  simp only [View.ld_unit_zero (S := S128x1024) hz]
  rfl

theorem out7 (x0 : Vec Ideal S128x1024 .f32) (x1 : Vec Ideal S8x128x1024 .bf16) (x2 x3 : Vec Ideal S128x1024 .f32) :
    out0_7 x0 x1 x2 x3 = second (total x1) x3 := by
  unfold out0_7
  rw [View.canon_cons_unit_zero (S := S128x1024) hz, sum_eq]
  simp only [View.ld_unit_zero (S := S128x1024) hz]
  rfl

variable (m : (b : Loc nD τ sig) → Buf (Elt Ideal) b) (c : Dev nD)

abbrev W : (⟨2, ![512, 1024]⟩ : Shape).Idx → EReal := m ((c : Thread nD τ).loc main_arg0)
abbrev G : (⟨2, ![512, 1024]⟩ : Shape).Idx → EReal := total (R := 512) (C := 1024) (m ((c : Thread nD τ).loc main_arg1))
abbrev M : (⟨2, ![512, 1024]⟩ : Shape).Idx → EReal := m ((c : Thread nD τ).loc main_arg2)
abbrev V : (⟨2, ![512, 1024]⟩ : Shape).Idx → EReal := m ((c : Thread nD τ).loc main_arg3)

/-- All blocks of a point are the same rows, of every part in the parts' array. -/
theorem idx : ∀ t : Fin cfg0.N, win0_0.index t = win0_4.index t ∧ win0_1.index t = ![0, win0_4.index t 0, win0_4.index t 1]
    ∧ win0_2.index t = win0_4.index t ∧ win0_3.index t = win0_4.index t := (by decide +kernel : ∀ t : Fin grid0.N, _)

/-- An entry of a block, in the array. -/
abbrev at4 (t : Fin cfg0.N) (y : S128x1024.Idx) : S512x1024.Idx := (win0_4.blk t).view.emb y

theorem blk0 (t : Fin cfg0.N) (y : S128x1024.Idx) : iblk m c 0 t y = W m c (at4 t y) := by
  blk_simp [iblk]
  rw [V_main_arg0]
  refine congrArg _ (funext fun a => Fin.ext ?_)
  match a with
  | ⟨0, _⟩ => blk_simp [(idx t).1, at4]
  | ⟨1, _⟩ => blk_simp [(idx t).1, at4]

theorem blk2 (t : Fin cfg0.N) (y : S128x1024.Idx) : iblk m c 2 t y = M m c (at4 t y) := by
  blk_simp [iblk]
  rw [V_main_arg2]
  refine congrArg _ (funext fun a => Fin.ext ?_)
  match a with
  | ⟨0, _⟩ => blk_simp [(idx t).2.2.1, at4]
  | ⟨1, _⟩ => blk_simp [(idx t).2.2.1, at4]

theorem blk3 (t : Fin cfg0.N) (y : S128x1024.Idx) : iblk m c 3 t y = V m c (at4 t y) := by
  blk_simp [iblk]
  rw [V_main_arg3]
  refine congrArg _ (funext fun a => Fin.ext ?_)
  match a with
  | ⟨0, _⟩ => blk_simp [(idx t).2.2.2, at4]
  | ⟨1, _⟩ => blk_simp [(idx t).2.2.2, at4]

theorem blk1 (t : Fin cfg0.N) (y : S128x1024.Idx) : total (R := 128) (C := 1024) (iblk m c 1 t) y = G m c (at4 t y) := by
  unfold G total
  refine Finset.sum_congr rfl fun k _ => ?_
  blk_simp [iblk]
  rw [V_main_arg1]
  refine congrArg _ (funext fun a => Fin.ext ?_)
  match a with
  | ⟨0, _⟩ => blk_simp [(idx t).2.1, at4]
  | ⟨1, _⟩ => blk_simp [(idx t).2.1, at4]
  | ⟨2, _⟩ => blk_simp [(idx t).2.1, at4]

theorem final4 : (dats m 0 c).arrAt 4 cfg0.N = G m c := by
  refine (dats m 0 c).arrAt_eq_of_covers 4 _ (by decide +kernel) fun t _ y => ?_
  blk_simp
  rw [after0_4, out4]
  exact blk1 m c t y

theorem final5 : (dats m 0 c).arrAt 5 cfg0.N = change (W m c) (G m c) (M m c) (V m c) := by
  refine (dats m 0 c).arrAt_eq_of_covers 5 _ (by decide +kernel) fun t _ y => ?_
  blk_simp
  rw [after0_5, out5]
  exact change_congr _ _ _ _ _ _ _ _ _ _ (blk0 m c t y) (blk1 m c t y) (blk2 m c t y) (blk3 m c t y)

theorem final6 : (dats m 0 c).arrAt 6 cfg0.N = first (G m c) (M m c) := by
  refine (dats m 0 c).arrAt_eq_of_covers 6 _ (by decide +kernel) fun t _ y => ?_
  blk_simp
  rw [after0_6, out6]
  exact first_congr _ _ _ _ _ _ (blk1 m c t y) (blk2 m c t y)

theorem final7 : (dats m 0 c).arrAt 7 cfg0.N = second (G m c) (V m c) := by
  refine (dats m 0 c).arrAt_eq_of_covers 7 _ (by decide +kernel) fun t _ y => ?_
  blk_simp
  rw [after0_7, out7]
  exact second_congr _ _ _ _ _ _ (blk1 m c t y) (blk3 m c t y)

/-- The run: the sum, the change and the moments; the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = G m c
      ∧ r.2.mem ((c : Thread nD τ).loc main_v0_1) = change (W m c) (G m c) (M m c) (V m c)
      ∧ r.2.mem ((c : Thread nD τ).loc main_v0_2) = first (G m c) (M m c)
      ∧ r.2.mem ((c : Thread nD τ).loc main_v0_3) = second (G m c) (V m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c),
    (h c).2.2.2.1.trans (final7 m c), (h c).2.2.2.2⟩) (Value.run_blocks m ρ)

end Cert.Proof.AdamDown

end
-- ==== Proof.Sums.lean ====
/-
  The sum of the small gradients and of the loss over the eight devices: the kernel's three blocks of 88 rows are the
  sum's rows.
-/
module

public import proofs.«01_k».proof.Proof.Adam
public import proofs.«01_k».proof.Proof.Gen.SumIdeal.Value
public import Idealize.ShloMosaic.Lib.Pipeline.ValueKit

@[expose] public section

set_option maxRecDepth 16384

noncomputable section

namespace Cert.Proof.Sums

open Idealize.ShloMosaic Idealize.ShloMosaic.TcCoe Idealize.ShloMosaic.Pipeline Idealize.SL.Sem Cert.SumIdeal Cert.SumIdeal.Gen
open Cert.Proof.Adam

theorem out1 (x0 : Vec Ideal S8x88x128 .f32) : out0_1 x0 = total x0 := by
  unfold out0_1
  rw [View.canon_cons_unit_zero (S := S88x128) hz]
  funext i
  rw [eq_ix2 i]
  unfold k0_pay1 total
  rw [Fin.sum_univ_eight]
  pointwise

variable (m : (b : Loc nD τ sig) → Buf (Elt Ideal) b) (c : Dev nD)

abbrev G : (⟨2, ![264, 128]⟩ : Shape).Idx → EReal := total (R := 264) (C := 128) (m ((c : Thread nD τ).loc main_arg0))

theorem idx : ∀ t : Fin cfg0.N, win0_0.index t = ![0, win0_1.index t 0, win0_1.index t 1] := (by decide +kernel : ∀ t : Fin grid0.N, _)

/-- An entry of a block, in the array. -/
abbrev at1 (t : Fin cfg0.N) (y : S88x128.Idx) : S264x128.Idx := (win0_1.blk t).view.emb y

theorem blk0 (t : Fin cfg0.N) (y : S88x128.Idx) : total (R := 88) (C := 128) (iblk m c 0 t) y = G m c (at1 t y) := by
  unfold G total
  refine Finset.sum_congr rfl fun k _ => ?_
  blk_simp [iblk]
  rw [V_main_arg0]
  refine congrArg _ (funext fun a => Fin.ext ?_)
  match a with
  | ⟨0, _⟩ => blk_simp [idx, at1]
  | ⟨1, _⟩ => blk_simp [idx, at1]
  | ⟨2, _⟩ => blk_simp [idx, at1]

theorem final1 : (dats m 0 c).arrAt 1 cfg0.N = G m c := by
  refine (dats m 0 c).arrAt_eq_of_covers 1 _ (by decide +kernel) fun t _ y => ?_
  blk_simp
  rw [after0_1, out1]
  exact blk0 m c t y

/-- The run: the sum, the argument unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0) :=
  (θ_run defs _ _).mono (fun _ h c => ⟨(h c).1.trans (final1 m c), (h c).2⟩) (Value.run_blocks m ρ)

end Cert.Proof.Sums

end
-- ==== Proof.Optimiser.lean ====
/-
  The claims about the optimiser: its step for every matrix, whose gradient arrives as eight parts, its step for every
  small array, and the sum that makes the small arrays' gradients and the loss. Each reference leaves its arguments alone
  and has no semaphore.
-/
module

public import proofs.«01_k».proof.Defs
public import proofs.«01_k».proof.Proof.AdamIn
public import proofs.«01_k».proof.Proof.AdamOut
public import proofs.«01_k».proof.Proof.AdamMem
public import proofs.«01_k».proof.Proof.AdamUp
public import proofs.«01_k».proof.Proof.AdamDown
public import proofs.«01_k».proof.Proof.Sums
public import proofs.«01_k».proof.Proof.Rows
public import proofs.«01_k».proof.Proof.Gen.AdamInRefIdeal.Run
public import proofs.«01_k».proof.Proof.Gen.AdamInRefIdeal.Read
public import proofs.«01_k».proof.Proof.Gen.AdamOutRefIdeal.Run
public import proofs.«01_k».proof.Proof.Gen.AdamOutRefIdeal.Read
public import proofs.«01_k».proof.Proof.Gen.AdamMemRefIdeal.Run
public import proofs.«01_k».proof.Proof.Gen.AdamMemRefIdeal.Read
public import proofs.«01_k».proof.Proof.Gen.AdamUpRefIdeal.Run
public import proofs.«01_k».proof.Proof.Gen.AdamUpRefIdeal.Read
public import proofs.«01_k».proof.Proof.Gen.AdamDownRefIdeal.Run
public import proofs.«01_k».proof.Proof.Gen.AdamDownRefIdeal.Read
public import proofs.«01_k».proof.Proof.Gen.SumRefIdeal.Run
public import proofs.«01_k».proof.Proof.Gen.SumRefIdeal.Read
public import proofs.«01_k».proof.Proof.Gen.AdamNormIdeal.Value
public import proofs.«01_k».proof.Proof.Gen.AdamNormRefIdeal.Run
public import proofs.«01_k».proof.Proof.Gen.AdamGateIdeal.Value
public import proofs.«01_k».proof.Proof.Gen.AdamGateRefIdeal.Run
public import proofs.«01_k».proof.Proof.Gen.AdamHeadIdeal.Value
public import proofs.«01_k».proof.Proof.Gen.AdamHeadRefIdeal.Run
public import proofs.«01_k».proof.Proof.Gen.AdamSkipIdeal.Value
public import proofs.«01_k».proof.Proof.Gen.AdamSkipRefIdeal.Run
public import proofs.«01_k».proof.Proof.Gen.AdamBiasIdeal.Value
public import proofs.«01_k».proof.Proof.Gen.AdamBiasRefIdeal.Run
public import proofs.«01_k».proof.Proof.Gen.AdamTapsIdeal.Value
public import proofs.«01_k».proof.Proof.Gen.AdamTapsRefIdeal.Run
public import proofs.«01_k».proof.Proof.Gen.AdamFilterIdeal.Value
public import proofs.«01_k».proof.Proof.Gen.AdamFilterRefIdeal.Run

@[expose] public section

set_option maxRecDepth 16384

noncomputable section

namespace Cert.Proof.Optimiser

open Idealize.ShloMosaic Idealize.ShloMosaic.TcCoe Idealize.SL.Sem Cert.Proof.Adam

theorem frame_in : Cert.quiescent_AdamInRefIdeal := fun m ρ _ =>
  (θ_run AdamInRefIdeal.defs _ _).mono (fun r h => ⟨fun c => (h c).2.2.2.2, sem_eq_zero_of_no_sems (by decide) r.2⟩)
    (AdamInRefIdeal.Value.run (F := Ideal) m ρ)

theorem frame_out : Cert.quiescent_AdamOutRefIdeal := fun m ρ _ =>
  (θ_run AdamOutRefIdeal.defs _ _).mono (fun r h => ⟨fun c => (h c).2.2.2.2, sem_eq_zero_of_no_sems (by decide) r.2⟩)
    (AdamOutRefIdeal.Value.run (F := Ideal) m ρ)

theorem frame_mem : Cert.quiescent_AdamMemRefIdeal := fun m ρ _ =>
  (θ_run AdamMemRefIdeal.defs _ _).mono (fun r h => ⟨fun c => (h c).2.2.2.2, sem_eq_zero_of_no_sems (by decide) r.2⟩)
    (AdamMemRefIdeal.Value.run (F := Ideal) m ρ)

theorem frame_up : Cert.quiescent_AdamUpRefIdeal := fun m ρ _ =>
  (θ_run AdamUpRefIdeal.defs _ _).mono (fun r h => ⟨fun c => (h c).2.2.2.2, sem_eq_zero_of_no_sems (by decide) r.2⟩)
    (AdamUpRefIdeal.Value.run (F := Ideal) m ρ)

theorem frame_down : Cert.quiescent_AdamDownRefIdeal := fun m ρ _ =>
  (θ_run AdamDownRefIdeal.defs _ _).mono (fun r h => ⟨fun c => (h c).2.2.2.2, sem_eq_zero_of_no_sems (by decide) r.2⟩)
    (AdamDownRefIdeal.Value.run (F := Ideal) m ρ)

theorem frame_norm : Cert.quiescent_AdamNormRefIdeal := fun m ρ _ =>
  (θ_run AdamNormRefIdeal.defs _ _).mono (fun r h => ⟨fun c => (h c).2.2.2.2, sem_eq_zero_of_no_sems (by decide) r.2⟩)
    (AdamNormRefIdeal.Value.run (F := Ideal) m ρ)

theorem frame_gate : Cert.quiescent_AdamGateRefIdeal := fun m ρ _ =>
  (θ_run AdamGateRefIdeal.defs _ _).mono (fun r h => ⟨fun c => (h c).2.2.2.2, sem_eq_zero_of_no_sems (by decide) r.2⟩)
    (AdamGateRefIdeal.Value.run (F := Ideal) m ρ)

theorem frame_head : Cert.quiescent_AdamHeadRefIdeal := fun m ρ _ =>
  (θ_run AdamHeadRefIdeal.defs _ _).mono (fun r h => ⟨fun c => (h c).2.2.2.2, sem_eq_zero_of_no_sems (by decide) r.2⟩)
    (AdamHeadRefIdeal.Value.run (F := Ideal) m ρ)

theorem frame_skip : Cert.quiescent_AdamSkipRefIdeal := fun m ρ _ =>
  (θ_run AdamSkipRefIdeal.defs _ _).mono (fun r h => ⟨fun c => (h c).2.2.2.2, sem_eq_zero_of_no_sems (by decide) r.2⟩)
    (AdamSkipRefIdeal.Value.run (F := Ideal) m ρ)

theorem frame_bias : Cert.quiescent_AdamBiasRefIdeal := fun m ρ _ =>
  (θ_run AdamBiasRefIdeal.defs _ _).mono (fun r h => ⟨fun c => (h c).2.2.2.2, sem_eq_zero_of_no_sems (by decide) r.2⟩)
    (AdamBiasRefIdeal.Value.run (F := Ideal) m ρ)

theorem frame_taps : Cert.quiescent_AdamTapsRefIdeal := fun m ρ _ =>
  (θ_run AdamTapsRefIdeal.defs _ _).mono (fun r h => ⟨fun c => (h c).2.2.2.2, sem_eq_zero_of_no_sems (by decide) r.2⟩)
    (AdamTapsRefIdeal.Value.run (F := Ideal) m ρ)

theorem frame_filter : Cert.quiescent_AdamFilterRefIdeal := fun m ρ _ =>
  (θ_run AdamFilterRefIdeal.defs _ _).mono (fun r h => ⟨fun c => (h c).2.2.2.2, sem_eq_zero_of_no_sems (by decide) r.2⟩)
    (AdamFilterRefIdeal.Value.run (F := Ideal) m ρ)

theorem frame_sum : Cert.quiescent_SumRefIdeal := fun m ρ _ =>
  (θ_run SumRefIdeal.defs _ _).mono (fun r h => ⟨fun c => (h c).2, sem_eq_zero_of_no_sems (by decide) r.2⟩)
    (SumRefIdeal.Value.run (F := Ideal) m ρ)

/-! ## The steps of the matrices -/

theorem sum_in (x : (⟨3, ![8, 1024, 836]⟩ : Shape).Idx → EReal) : AdamInRefIdeal.Read.val_main_v1 (F := Ideal) x = total x := by
  funext i
  rw [AdamInRefIdeal.Read.val_main_v1_apply]
  refine (congrArg (· + _) Rows.ofBits_zero).trans ((zero_add _).trans (Finset.sum_congr rfl fun k _ => congrArg x (funext fun a => ?_)))
  match a with
  | ⟨0, _⟩ => rfl
  | ⟨1, _⟩ => rfl
  | ⟨2, _⟩ => rfl

theorem in_step : Cert.algebraic_AdamInIdeal_AdamInRefIdeal := by
  intro m ρ m' ρ' _ hagree
  refine ⟨AdamIn.G m, fun c => change (AdamIn.W m c) (AdamIn.G m c) (AdamIn.M m c) (AdamIn.V m c), fun c => first (AdamIn.G m c) (AdamIn.M m c),
    fun c => second (AdamIn.G m c) (AdamIn.V m c), AdamIn.run m ρ,
    (θ_run AdamInRefIdeal.defs _ _).mono (fun r h c => ?_) (AdamInRefIdeal.Value.run m' ρ')⟩
  obtain ⟨e0, e1, e2, e3⟩ := hagree c
  have q := sum_in (m ((c : Thread AdamInIdeal.nD AdamInIdeal.τ).loc AdamInIdeal.main_arg1))
  refine ⟨(h c).1.trans ?_, (h c).2.1.trans ?_, (h c).2.2.1.trans ?_, (h c).2.2.2.1.trans ?_, (h c).2.2.2.2⟩
  · rw [e1]
    exact q
  · rw [e0, e1, e2, e3]
    exact congrArg (fun g => change (AdamIn.W m c) g (AdamIn.M m c) (AdamIn.V m c)) q
  · rw [e1, e2]
    exact congrArg (fun g => first g (AdamIn.M m c)) q
  · rw [e1, e3]
    exact congrArg (fun g => second g (AdamIn.V m c)) q

theorem sum_out (x : (⟨3, ![8, 256, 1024]⟩ : Shape).Idx → EReal) : AdamOutRefIdeal.Read.val_main_v1 (F := Ideal) x = total x := by
  funext i
  rw [AdamOutRefIdeal.Read.val_main_v1_apply]
  refine (congrArg (· + _) Rows.ofBits_zero).trans ((zero_add _).trans (Finset.sum_congr rfl fun k _ => congrArg x (funext fun a => ?_)))
  match a with
  | ⟨0, _⟩ => rfl
  | ⟨1, _⟩ => rfl
  | ⟨2, _⟩ => rfl

theorem out_step : Cert.algebraic_AdamOutIdeal_AdamOutRefIdeal := by
  intro m ρ m' ρ' _ hagree
  refine ⟨AdamOut.G m, fun c => change (AdamOut.W m c) (AdamOut.G m c) (AdamOut.M m c) (AdamOut.V m c), fun c => first (AdamOut.G m c) (AdamOut.M m c),
    fun c => second (AdamOut.G m c) (AdamOut.V m c), AdamOut.run m ρ,
    (θ_run AdamOutRefIdeal.defs _ _).mono (fun r h c => ?_) (AdamOutRefIdeal.Value.run m' ρ')⟩
  obtain ⟨e0, e1, e2, e3⟩ := hagree c
  have q := sum_out (m ((c : Thread AdamOutIdeal.nD AdamOutIdeal.τ).loc AdamOutIdeal.main_arg1))
  refine ⟨(h c).1.trans ?_, (h c).2.1.trans ?_, (h c).2.2.1.trans ?_, (h c).2.2.2.1.trans ?_, (h c).2.2.2.2⟩
  · rw [e1]
    exact q
  · rw [e0, e1, e2, e3]
    exact congrArg (fun g => change (AdamOut.W m c) g (AdamOut.M m c) (AdamOut.V m c)) q
  · rw [e1, e2]
    exact congrArg (fun g => first g (AdamOut.M m c)) q
  · rw [e1, e3]
    exact congrArg (fun g => second g (AdamOut.V m c)) q

theorem sum_mem (x : (⟨3, ![8, 128, 1024]⟩ : Shape).Idx → EReal) : AdamMemRefIdeal.Read.val_main_v1 (F := Ideal) x = total x := by
  funext i
  rw [AdamMemRefIdeal.Read.val_main_v1_apply]
  refine (congrArg (· + _) Rows.ofBits_zero).trans ((zero_add _).trans (Finset.sum_congr rfl fun k _ => congrArg x (funext fun a => ?_)))
  match a with
  | ⟨0, _⟩ => rfl
  | ⟨1, _⟩ => rfl
  | ⟨2, _⟩ => rfl

theorem mem_step : Cert.algebraic_AdamMemIdeal_AdamMemRefIdeal := by
  intro m ρ m' ρ' _ hagree
  refine ⟨AdamMem.G m, fun c => change (AdamMem.W m c) (AdamMem.G m c) (AdamMem.M m c) (AdamMem.V m c), fun c => first (AdamMem.G m c) (AdamMem.M m c),
    fun c => second (AdamMem.G m c) (AdamMem.V m c), AdamMem.run m ρ,
    (θ_run AdamMemRefIdeal.defs _ _).mono (fun r h c => ?_) (AdamMemRefIdeal.Value.run m' ρ')⟩
  obtain ⟨e0, e1, e2, e3⟩ := hagree c
  have q := sum_mem (m ((c : Thread AdamMemIdeal.nD AdamMemIdeal.τ).loc AdamMemIdeal.main_arg1))
  refine ⟨(h c).1.trans ?_, (h c).2.1.trans ?_, (h c).2.2.1.trans ?_, (h c).2.2.2.1.trans ?_, (h c).2.2.2.2⟩
  · rw [e1]
    exact q
  · rw [e0, e1, e2, e3]
    exact congrArg (fun g => change (AdamMem.W m c) g (AdamMem.M m c) (AdamMem.V m c)) q
  · rw [e1, e2]
    exact congrArg (fun g => first g (AdamMem.M m c)) q
  · rw [e1, e3]
    exact congrArg (fun g => second g (AdamMem.V m c)) q

theorem sum_up (x : (⟨3, ![8, 1024, 512]⟩ : Shape).Idx → EReal) : AdamUpRefIdeal.Read.val_main_v1 (F := Ideal) x = total x := by
  funext i
  rw [AdamUpRefIdeal.Read.val_main_v1_apply]
  refine (congrArg (· + _) Rows.ofBits_zero).trans ((zero_add _).trans (Finset.sum_congr rfl fun k _ => congrArg x (funext fun a => ?_)))
  match a with
  | ⟨0, _⟩ => rfl
  | ⟨1, _⟩ => rfl
  | ⟨2, _⟩ => rfl

theorem up_step : Cert.algebraic_AdamUpIdeal_AdamUpRefIdeal := by
  intro m ρ m' ρ' _ hagree
  refine ⟨AdamUp.G m, fun c => change (AdamUp.W m c) (AdamUp.G m c) (AdamUp.M m c) (AdamUp.V m c), fun c => first (AdamUp.G m c) (AdamUp.M m c),
    fun c => second (AdamUp.G m c) (AdamUp.V m c), AdamUp.run m ρ,
    (θ_run AdamUpRefIdeal.defs _ _).mono (fun r h c => ?_) (AdamUpRefIdeal.Value.run m' ρ')⟩
  obtain ⟨e0, e1, e2, e3⟩ := hagree c
  have q := sum_up (m ((c : Thread AdamUpIdeal.nD AdamUpIdeal.τ).loc AdamUpIdeal.main_arg1))
  refine ⟨(h c).1.trans ?_, (h c).2.1.trans ?_, (h c).2.2.1.trans ?_, (h c).2.2.2.1.trans ?_, (h c).2.2.2.2⟩
  · rw [e1]
    exact q
  · rw [e0, e1, e2, e3]
    exact congrArg (fun g => change (AdamUp.W m c) g (AdamUp.M m c) (AdamUp.V m c)) q
  · rw [e1, e2]
    exact congrArg (fun g => first g (AdamUp.M m c)) q
  · rw [e1, e3]
    exact congrArg (fun g => second g (AdamUp.V m c)) q

theorem sum_down (x : (⟨3, ![8, 512, 1024]⟩ : Shape).Idx → EReal) : AdamDownRefIdeal.Read.val_main_v1 (F := Ideal) x = total x := by
  funext i
  rw [AdamDownRefIdeal.Read.val_main_v1_apply]
  refine (congrArg (· + _) Rows.ofBits_zero).trans ((zero_add _).trans (Finset.sum_congr rfl fun k _ => congrArg x (funext fun a => ?_)))
  match a with
  | ⟨0, _⟩ => rfl
  | ⟨1, _⟩ => rfl
  | ⟨2, _⟩ => rfl

theorem down_step : Cert.algebraic_AdamDownIdeal_AdamDownRefIdeal := by
  intro m ρ m' ρ' _ hagree
  refine ⟨AdamDown.G m, fun c => change (AdamDown.W m c) (AdamDown.G m c) (AdamDown.M m c) (AdamDown.V m c), fun c => first (AdamDown.G m c) (AdamDown.M m c),
    fun c => second (AdamDown.G m c) (AdamDown.V m c), AdamDown.run m ρ,
    (θ_run AdamDownRefIdeal.defs _ _).mono (fun r h c => ?_) (AdamDownRefIdeal.Value.run m' ρ')⟩
  obtain ⟨e0, e1, e2, e3⟩ := hagree c
  have q := sum_down (m ((c : Thread AdamDownIdeal.nD AdamDownIdeal.τ).loc AdamDownIdeal.main_arg1))
  refine ⟨(h c).1.trans ?_, (h c).2.1.trans ?_, (h c).2.2.1.trans ?_, (h c).2.2.2.1.trans ?_, (h c).2.2.2.2⟩
  · rw [e1]
    exact q
  · rw [e0, e1, e2, e3]
    exact congrArg (fun g => change (AdamDown.W m c) g (AdamDown.M m c) (AdamDown.V m c)) q
  · rw [e1, e2]
    exact congrArg (fun g => first g (AdamDown.M m c)) q
  · rw [e1, e3]
    exact congrArg (fun g => second g (AdamDown.V m c)) q

/-- The sum of the small arrays' gradients and the loss. -/
theorem sum : Cert.algebraic_SumIdeal_SumRefIdeal := by
  intro m ρ m' ρ' _ hagree
  refine ⟨Sums.G m, Sums.run m ρ, (θ_run SumRefIdeal.defs _ _).mono (fun r h c => ?_) (SumRefIdeal.Value.run m' ρ')⟩
  refine ⟨(h c).1.trans ?_, (h c).2⟩
  rw [hagree c]
  funext i
  refine (SumRefIdeal.Read.val_main_v0_apply _ i).trans ?_
  refine (congrArg (· + _) Rows.ofBits_zero).trans ((zero_add _).trans (Finset.sum_congr rfl fun k _ => congrArg _ (funext fun a => ?_)))
  match a with
  | ⟨0, _⟩ => rfl
  | ⟨1, _⟩ => rfl
  | ⟨2, _⟩ => rfl

/-! ## The steps of the small arrays -/

theorem norm_step : Cert.algebraic_AdamNormIdeal_AdamNormRefIdeal := by
  intro m ρ m' ρ' _ hagree
  refine ⟨_, _, _, _, AdamNormIdeal.Value.run m ρ, (θ_run AdamNormRefIdeal.defs _ _).mono (fun r h c => ?_) (AdamNormRefIdeal.Value.run m' ρ')⟩
  obtain ⟨e0, e1, e2, e3⟩ := hagree c
  refine ⟨(h c).1.trans e1, (h c).2.1.trans ?_, (h c).2.2.1.trans ?_, (h c).2.2.2.1.trans ?_, (h c).2.2.2.2⟩
  · rw [e0, e1, e2, e3]
    rfl
  · rw [e1, e2]
    rfl
  · rw [e1, e3]
    rfl

theorem gate_step : Cert.algebraic_AdamGateIdeal_AdamGateRefIdeal := by
  intro m ρ m' ρ' _ hagree
  refine ⟨_, _, _, _, AdamGateIdeal.Value.run m ρ, (θ_run AdamGateRefIdeal.defs _ _).mono (fun r h c => ?_) (AdamGateRefIdeal.Value.run m' ρ')⟩
  obtain ⟨e0, e1, e2, e3⟩ := hagree c
  refine ⟨(h c).1.trans e1, (h c).2.1.trans ?_, (h c).2.2.1.trans ?_, (h c).2.2.2.1.trans ?_, (h c).2.2.2.2⟩
  · rw [e0, e1, e2, e3]
    rfl
  · rw [e1, e2]
    rfl
  · rw [e1, e3]
    rfl

theorem head_step : Cert.algebraic_AdamHeadIdeal_AdamHeadRefIdeal := by
  intro m ρ m' ρ' _ hagree
  refine ⟨_, _, _, _, AdamHeadIdeal.Value.run m ρ, (θ_run AdamHeadRefIdeal.defs _ _).mono (fun r h c => ?_) (AdamHeadRefIdeal.Value.run m' ρ')⟩
  obtain ⟨e0, e1, e2, e3⟩ := hagree c
  refine ⟨(h c).1.trans e1, (h c).2.1.trans ?_, (h c).2.2.1.trans ?_, (h c).2.2.2.1.trans ?_, (h c).2.2.2.2⟩
  · rw [e0, e1, e2, e3]
    rfl
  · rw [e1, e2]
    rfl
  · rw [e1, e3]
    rfl

theorem skip_step : Cert.algebraic_AdamSkipIdeal_AdamSkipRefIdeal := by
  intro m ρ m' ρ' _ hagree
  refine ⟨_, _, _, _, AdamSkipIdeal.Value.run m ρ, (θ_run AdamSkipRefIdeal.defs _ _).mono (fun r h c => ?_) (AdamSkipRefIdeal.Value.run m' ρ')⟩
  obtain ⟨e0, e1, e2, e3⟩ := hagree c
  refine ⟨(h c).1.trans e1, (h c).2.1.trans ?_, (h c).2.2.1.trans ?_, (h c).2.2.2.1.trans ?_, (h c).2.2.2.2⟩
  · rw [e0, e1, e2, e3]
    rfl
  · rw [e1, e2]
    rfl
  · rw [e1, e3]
    rfl

theorem bias_step : Cert.algebraic_AdamBiasIdeal_AdamBiasRefIdeal := by
  intro m ρ m' ρ' _ hagree
  refine ⟨_, _, _, _, AdamBiasIdeal.Value.run m ρ, (θ_run AdamBiasRefIdeal.defs _ _).mono (fun r h c => ?_) (AdamBiasRefIdeal.Value.run m' ρ')⟩
  obtain ⟨e0, e1, e2, e3⟩ := hagree c
  refine ⟨(h c).1.trans e1, (h c).2.1.trans ?_, (h c).2.2.1.trans ?_, (h c).2.2.2.1.trans ?_, (h c).2.2.2.2⟩
  · rw [e0, e1, e2, e3]
    rfl
  · rw [e1, e2]
    rfl
  · rw [e1, e3]
    rfl

theorem taps_step : Cert.algebraic_AdamTapsIdeal_AdamTapsRefIdeal := by
  intro m ρ m' ρ' _ hagree
  refine ⟨_, _, _, _, AdamTapsIdeal.Value.run m ρ, (θ_run AdamTapsRefIdeal.defs _ _).mono (fun r h c => ?_) (AdamTapsRefIdeal.Value.run m' ρ')⟩
  obtain ⟨e0, e1, e2, e3⟩ := hagree c
  refine ⟨(h c).1.trans e1, (h c).2.1.trans ?_, (h c).2.2.1.trans ?_, (h c).2.2.2.1.trans ?_, (h c).2.2.2.2⟩
  · rw [e0, e1, e2, e3]
    rfl
  · rw [e1, e2]
    rfl
  · rw [e1, e3]
    rfl

theorem filter_step : Cert.algebraic_AdamFilterIdeal_AdamFilterRefIdeal := by
  intro m ρ m' ρ' _ hagree
  refine ⟨_, _, _, _, AdamFilterIdeal.Value.run m ρ, (θ_run AdamFilterRefIdeal.defs _ _).mono (fun r h c => ?_) (AdamFilterRefIdeal.Value.run m' ρ')⟩
  obtain ⟨e0, e1, e2, e3⟩ := hagree c
  refine ⟨(h c).1.trans e1, (h c).2.1.trans ?_, (h c).2.2.1.trans ?_, (h c).2.2.2.1.trans ?_, (h c).2.2.2.2⟩
  · rw [e0, e1, e2, e3]
    rfl
  · rw [e1, e2]
    rfl
  · rw [e1, e3]
    rfl

end Cert.Proof.Optimiser

end
-- ==== Proof.Memories.lean ====
/-
  The products of the memory: its keys (its values are the same product), the gradient of the keys' matrix (the values'
  is the same), the gradient of the normed memory through the keys, and through the values, added to it. The whole of an
  array is one block, so each call is one product, and the reference's is the same.
-/
module

public import proofs.«01_k».proof.Proof.Gen.KeysIdeal.Value
public import proofs.«01_k».proof.Proof.Gen.KeysRefIdeal.Read
public import proofs.«01_k».proof.Proof.Gen.KeysDwIdeal.Value
public import proofs.«01_k».proof.Proof.Gen.KeysDwRefIdeal.Read
public import proofs.«01_k».proof.Proof.Gen.KeysDxIdeal.Value
public import proofs.«01_k».proof.Proof.Gen.KeysDxRefIdeal.Read
public import proofs.«01_k».proof.Proof.Gen.ValuesDxIdeal.Value
public import proofs.«01_k».proof.Proof.Gen.ValuesDxRefIdeal.Read
public import Idealize.ShloMosaic.Lib.Pointwise

@[expose] public section

set_option maxRecDepth 16384

noncomputable section

namespace Cert.Proof.Memories

open Idealize.ShloMosaic

/-- 256 memories of width 1024, and a square matrix. -/
abbrev Mem : Type := (⟨2, ![256, 1024]⟩ : Shape).Idx → EReal
abbrev Mat : Type := (⟨2, ![1024, 1024]⟩ : Shape).Idx → EReal

/-- Rows times a matrix, a sum over the rows of two arrays, and rows times a transposed matrix. -/
def times (x : Mem) (w : Mat) : Mem := fun i => ∑ k : Fin 1024, x (ix2 (i 0) k) * w (ix2 k (i 1))
def crossed (x d : Mem) : Mat := fun i => ∑ k : Fin 256, x (ix2 k (i 0)) * d (ix2 k (i 1))
def back (d : Mem) (w : Mat) : Mem := fun i => ∑ k : Fin 1024, d (ix2 (i 0) k) * w (ix2 (i 1) k)

theorem keys (x : Mem) (w : Mat) : KeysIdeal.Value.G2 (F := Ideal) x w = times x w := by
  funext i
  rw [eq_ix2 i]
  unfold KeysIdeal.Value.G2 KeysIdeal.Gen.k0_pay1 times
  pointwise

theorem keys_reference (x : Mem) (w : Mat) : KeysRefIdeal.Read.val_main_v2 (F := Ideal) x w = times x w := by
  funext i
  rw [KeysRefIdeal.Read.val_main_v2_apply]
  refine Finset.sum_congr rfl fun k _ => ?_
  rw [KeysRefIdeal.Read.val_main_v0_apply, KeysRefIdeal.Read.val_main_v1_apply, eq_ix2 (KeysRefIdeal.Read.lidx_main_v2 i k),
    eq_ix2 (KeysRefIdeal.Read.ridx_main_v2 i k)]
  rfl

theorem keys_weight (x d : Mem) : KeysDwIdeal.Value.G2 (F := Ideal) x d = crossed x d := by
  funext i
  rw [eq_ix2 i]
  unfold KeysDwIdeal.Value.G2 KeysDwIdeal.Gen.k0_pay1 crossed
  pointwise

theorem keys_weight_reference (x d : Mem) : KeysDwRefIdeal.Read.val_main_v5 (F := Ideal) x d = crossed x d := by
  funext i
  rw [KeysDwRefIdeal.Read.val_main_v5_apply, KeysDwRefIdeal.Read.val_main_v4_apply, KeysDwRefIdeal.Read.val_main_v3_apply]
  refine Finset.sum_congr rfl fun k _ => ?_
  rw [mul_comm, KeysDwRefIdeal.Read.val_main_v1_apply, eq_ix2 (KeysDwRefIdeal.Read.lidx_main_v3 _ k),
    eq_ix2 (KeysDwRefIdeal.Read.ridx_main_v3 _ k)]
  rfl

theorem keys_input (d : Mem) (w : Mat) : KeysDxIdeal.Value.G2 (F := Ideal) d w = back d w := by
  funext i
  rw [eq_ix2 i]
  unfold KeysDxIdeal.Value.G2 KeysDxIdeal.Gen.k0_pay1 back
  pointwise

theorem keys_input_reference (w : Mat) (d : Mem) : KeysDxRefIdeal.Read.val_main_v3 (F := Ideal) w d = back d w := by
  funext i
  rw [KeysDxRefIdeal.Read.val_main_v3_apply]
  refine Finset.sum_congr rfl fun k _ => ?_
  rw [KeysDxRefIdeal.Read.val_main_v1_apply, eq_ix2 (KeysDxRefIdeal.Read.lidx_main_v3 i k),
    eq_ix2 (KeysDxRefIdeal.Read.ridx_main_v3 i k)]
  rfl

theorem values_input (d : Mem) (w : Mat) (e : Mem) :
    ValuesDxIdeal.Value.G3 (F := Ideal) d w e = fun i => back d w i + e i := by
  funext i
  rw [eq_ix2 i]
  unfold ValuesDxIdeal.Value.G3 ValuesDxIdeal.Gen.k0_pay1 back
  pointwise

theorem values_input_reference (w : Mat) (d e : Mem) :
    ValuesDxRefIdeal.Read.val_main_v4 (F := Ideal) w d e = fun i => back d w i + e i := by
  funext i
  rw [ValuesDxRefIdeal.Read.val_main_v4_apply, ValuesDxRefIdeal.Read.val_main_v3_apply]
  refine (add_comm _ _).trans (congrArg (· + e i) (Finset.sum_congr rfl fun k _ => ?_))
  rw [ValuesDxRefIdeal.Read.val_main_v1_apply, eq_ix2 (ValuesDxRefIdeal.Read.lidx_main_v3 i k),
    eq_ix2 (ValuesDxRefIdeal.Read.ridx_main_v3 i k)]
  rfl

end Cert.Proof.Memories

end
-- ==== Proof.Gates.lean ====
/-
  The product before the two mixers, at the columns of the gates (the last 256 of the matrix): the kernel's block by
  block, and the reference's, are one product.
-/
module

public import proofs.«01_k».proof.Proof.Gen.GatesIdeal.Value
public import proofs.«01_k».proof.Proof.Gen.GatesRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.Gates

open Idealize.ShloMosaic Idealize.ShloMosaic.TcCoe Idealize.ShloMosaic.Pipeline Idealize.SL.Sem Cert.GatesIdeal Cert.GatesIdeal.Gen

theorem hz : (![0, 0] : Fin 2 → Nat) = fun _ => 0 := funext fun a => by fin_cases a <;> rfl

/-- What a point leaves in its block. -/
theorem block (x0 : Vec Ideal S1024x1024 .bf16) (x1 : Vec Ideal S1024x256 .bf16) (r : Fin 1024) (l : Fin 256) :
    out0_2 x0 x1 (ix2 r l) = ∑ k : Fin 1024, x0 (ix2 r k) * x1 (ix2 k l) := by
  unfold out0_2
  simp only [View.ld_unit_zero (S := S1024x1024) hz, View.ld_unit_zero (S := S1024x256) hz, View.canon_unit_zero (S := S1024x256) hz]
  unfold k0_pay1
  pointwise

variable (m : (b : Loc nD τ sig) → Buf (Elt Ideal) b) (c : Dev nD)

/-- The two arguments, entry by entry. -/
abbrev input (t : Fin 8192) (k : Fin 1024) : EReal := m ((c : Thread nD τ).loc main_arg0) (ix2 t k)
abbrev mat (k : Fin 1024) (l : Fin 6912) : EReal := m ((c : Thread nD τ).loc main_arg1) (ix2 k l)

def row (n : ℕ) (r : Fin 1024) : Fin 8192 := ⟨n % 8 * 1024 + r.val, by have := r.isLt; omega⟩

/-- The gates' columns in the matrix. -/
def into (l : Fin 256) : Fin 6912 := ⟨6656 + l.val, by have := l.isLt; omega⟩

theorem idx0 : ∀ t : Fin cfg0.N, win0_0.index t = ![t.val % 8, 0] := (by decide +kernel : ∀ t : Fin grid0.N, _)
theorem idx1 : ∀ t : Fin cfg0.N, win0_1.index t = ![0, 26] := (by decide +kernel : ∀ t : Fin grid0.N, _)
theorem idx2 : ∀ t : Fin cfg0.N, win0_2.index t = ![t.val % 8, 0] := (by decide +kernel : ∀ t : Fin grid0.N, _)

abbrev in0 (t : Fin cfg0.N) : Vec Ideal S1024x1024 .bf16 := iblk m c 0 t
abbrev in1 (t : Fin cfg0.N) : Vec Ideal S1024x256 .bf16 := iblk m c 1 t

theorem blk0 (t : Fin cfg0.N) (r k : Fin 1024) : in0 m c t (ix2 r k) = input m c (row t.val r) k := by
  blk_simp [in0, in1, iblk]
  rw [V_main_arg0]
  refine congrArg _ (funext fun a => Fin.ext ?_)
  match a with
  | ⟨0, _⟩ => blk_simp [idx0]; rfl
  | ⟨1, _⟩ => blk_simp [idx0]

theorem blk1 (t : Fin cfg0.N) (k : Fin 1024) (l : Fin 256) : in1 m c t (ix2 k l) = mat m c k (into l) := by
  blk_simp [in0, in1, iblk]
  rw [V_main_arg1]
  refine congrArg _ (funext fun a => Fin.ext ?_)
  match a with
  | ⟨0, _⟩ => blk_simp [idx1]
  | ⟨1, _⟩ => blk_simp [idx1]; rfl

/-- The product. -/
def Q : (⟨2, ![8192, 256]⟩ : Shape).Idx → EReal := fun i => ∑ k : Fin 1024, input m c (i 0) k * mat m c k (into (i 1))

theorem final : (dats m 0 c).arrAt 2 cfg0.N = Q m c := by
  refine (dats m 0 c).arrAt_eq_of_covers 2 _ (by decide +kernel) fun t _ y => ?_
  blk_simp
  rw [after0_2, eq_ix2 y]
  refine ((block (in0 m c t) (in1 m c t) (y 0) (y 1)).trans (Finset.sum_congr rfl fun k _ =>
    congrArg₂ (· * ·) (blk0 m c t (y 0) k) (blk1 m c t k (y 1)))).trans
    (congrArg (Q m c) (funext fun a => Fin.ext ?_ : ix2 (row t.val (y 0)) (y 1) = _))
  match a with
  | ⟨0, _⟩ => blk_simp [idx2]; rfl
  | ⟨1, _⟩ => blk_simp [idx2]

/-- The run: the product, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = Q m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference's product. -/
theorem reference (x0 : S8192x1024.Idx → EReal) (x1 : S1024x6912.Idx → EReal) :
    GatesRefIdeal.Read.val_main_v3 (F := Ideal) x0 x1 = fun i => ∑ k : Fin 1024, x0 (ix2 (i 0) k) * x1 (ix2 k (into (i 1))) := by
  funext i
  rw [GatesRefIdeal.Read.val_main_v3_apply]
  refine Finset.sum_congr rfl fun k _ => ?_
  rw [GatesRefIdeal.Read.val_main_v0_apply, GatesRefIdeal.Read.val_main_v2_apply, GatesRefIdeal.Read.val_main_v1_apply,
    eq_ix2 (GatesRefIdeal.Read.lidx_main_v3 i k), eq_ix2 (GatesRefIdeal.Read.idx_main_v1 _)]
  rfl

end Cert.Proof.Gates

end
-- ==== Proof.Normed.lean ====
/-
  The norm before the mixers, row by row: the kernel's blocks and the reference's rows are one.
-/
module

public import proofs.«01_k».proof.Proof.Norm
public import proofs.«01_k».proof.Proof.Gen.RowNormIdeal.Value
public import proofs.«01_k».proof.Proof.Gen.RowNormRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.Normed

open Idealize.ShloMosaic Idealize.ShloMosaic.TcCoe Idealize.ShloMosaic.Pipeline Idealize.SL.Sem Cert.RowNormIdeal Cert.RowNormIdeal.Gen

theorem hz : (![0, 0] : Fin 2 → Nat) = fun _ => 0 := funext fun a => by fin_cases a <;> rfl

/-- A row's length and the constant of the norm. -/
abbrev len : EReal := Ideal.ofBits .f32 0x44800000#32
abbrev eps : EReal := Ideal.ofBits .f32 0x358637BD#32

/-- A row over its root mean square, times the norm weight. -/
def normed (x w : Fin 1024 → EReal) (j : Fin 1024) : EReal := x j * Norm.inv len eps x * w j

/-- What a point leaves in its block. -/
theorem block (x0 : Vec Ideal S1024x1024 .f32) (x1 : Vec Ideal S1x1024 .f32) (r : Fin 1024) (j : Fin 1024) :
    out0_2 x0 x1 (ix2 r j) = normed (fun l => x0 (ix2 r l)) (fun l => x1 (ix2 0 l)) j := by
  unfold out0_2
  simp only [View.ld_unit_zero (S := S1024x1024) hz, View.ld_unit_zero (S := S1x1024) hz, View.canon_unit_zero (S := S1024x1024) hz]
  unfold k0_pay1
  pointwise
  rfl

variable (m : (b : Loc nD τ sig) → Buf (Elt Ideal) b) (c : Dev nD)

/-- The rows and the norm's weight, entry by entry. -/
abbrev input (t : Fin 8192) (j : Fin 1024) : EReal := m ((c : Thread nD τ).loc main_arg0) (ix2 t j)
abbrev weight (j : Fin 1024) : EReal := m ((c : Thread nD τ).loc main_arg1) (ix1 j)

theorem reshaped (j : Fin 1024) : V m c main_v0 (ix2 0 j) = weight m c j := by
  have e : V m c main_v0 = (shapeCast S1x1024 (m ((c : Thread nD τ).loc main_arg1) : FVec Ideal S1024 .f32)
      shapeCasts_S1024_S1x1024 : FVec Ideal S1x1024 .f32) := by
    unfold V
    simp only [hostOps0, List.flatten_cons, List.flatten_nil, List.append_nil, List.cons_append, List.nil_append]
    after_results
    rfl
  rw [e]
  pointwise

def row (n : ℕ) (r : Fin 1024) : Fin 8192 := ⟨n % 8 * 1024 + r.val, by have := r.isLt; omega⟩

theorem idx0 : ∀ t : Fin cfg0.N, win0_0.index t = ![t.val % 8, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 8, 0] := (by decide +kernel : ∀ t : Fin grid0.N, _)

abbrev in0 (t : Fin cfg0.N) : Vec Ideal S1024x1024 .f32 := iblk m c 0 t
abbrev in1 (t : Fin cfg0.N) : Vec Ideal S1x1024 .f32 := iblk m c 1 t

theorem blk0 (t : Fin cfg0.N) (r : Fin 1024) (k : Fin 1024) : in0 m c t (ix2 r k) = input m c (row t.val r) k := by
  blk_simp [in0, iblk]
  rw [V_main_arg0]
  refine congrArg _ (funext fun a => Fin.ext ?_)
  match a with
  | ⟨0, _⟩ => blk_simp [idx0]; rfl
  | ⟨1, _⟩ => blk_simp [idx0]

theorem blk1 (t : Fin cfg0.N) (j : Fin 1024) : in1 m c t (ix2 0 j) = weight m c j := by
  rw [← reshaped]
  blk_simp [in1, iblk]
  refine congrArg _ (funext fun a => Fin.ext ?_)
  match a with
  | ⟨0, _⟩ => blk_simp [idx1]
  | ⟨1, _⟩ => blk_simp [idx1]

/-- The normalised rows. -/
def H : (⟨2, ![8192, 1024]⟩ : Shape).Idx → EReal := fun i => normed (input m c (i 0)) (weight m c) (i 1)

theorem final : (dats m 0 c).arrAt 2 cfg0.N = H m c := by
  refine (dats m 0 c).arrAt_eq_of_covers 2 _ (by decide +kernel) fun t _ y => ?_
  blk_simp
  rw [after0_2, eq_ix2 y]
  refine ((block (in0 m c t) (in1 m c t) (y 0) (y 1)).trans (congrArg₂ (fun x w => normed x w (y 1))
    (funext fun l => blk0 m c t (y 0) l) (funext fun l => blk1 m c t l))).trans
    (congrArg (H m c) (funext fun a => Fin.ext ?_ : ix2 (row t.val (y 0)) (y 1) = _))
  match a with
  | ⟨0, _⟩ => blk_simp [idx2]; rfl
  | ⟨1, _⟩ => blk_simp [idx2]

/-- The run: the normalised rows, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1) = H m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

section Reference

open RowNormRefIdeal.Read

variable (x0 : S8192x1024.Idx → EReal) (x1 : S1024.Idx → EReal)

/-- The reference's inverse root mean squares, -/
theorem ref_inv (t : Fin 8192) : val_main_v7 (F := Ideal) x0 (ix2 t 0) = Norm.inv len eps (fun l => x0 (ix2 t l)) := by
  rw [val_main_v7_apply, val_main_v6_apply, val_main_v4_apply, val_main_v2_apply, val_main_v1_apply, val_main_cst_apply,
    val_main_v3_apply, val_main_cst_0_apply, val_main_v5_apply, val_main_cst_1_apply]
  show Ideal.rsqrt (Ideal.div (Ideal.ofBits .f32 0x00000000#32 + _) _ + _) = _
  rw [Rows.ofBits_zero, zero_add]
  refine congrArg (fun s => Ideal.rsqrt (Ideal.div s len + eps)) (Finset.sum_congr rfl fun k _ => ?_)
  rw [val_main_v0_apply, eq_ix2 (idx_main_v1 _ k)]
  rfl

/-- and its normalised rows. -/
theorem reference : val_main_v13 (F := Ideal) x0 x1 = fun i => normed (fun l => x0 (ix2 (i 0) l)) (fun l => x1 (ix1 l)) (i 1) := by
  funext i
  rw [val_main_v13_apply, val_main_v12_apply, val_main_v9_apply, val_main_v8_apply, eq_ix2 (idx_main_v8 _),
    val_main_v11_apply, val_main_v10_apply, eq_ix1 (idx_main_v10 _)]
  exact congrArg₂ (fun y z => y * z * x1 (ix1 (i 1))) (congrArg x0 (eq_ix2 i)) (ref_inv x0 (i 0))

end Reference

end Cert.Proof.Normed

end
-- ==== Proof.NormedMemory.lean ====
/-
  The norm of the memory, one block, row by row: the kernel's rows and the reference's are one.
-/
module

public import proofs.«01_k».proof.Proof.Norm
public import proofs.«01_k».proof.Proof.Gen.MemNormIdeal.Value
public import proofs.«01_k».proof.Proof.Gen.MemNormRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.NormedMemory

open Idealize.ShloMosaic Idealize.ShloMosaic.TcCoe Idealize.ShloMosaic.Pipeline Idealize.SL.Sem Cert.MemNormIdeal Cert.MemNormIdeal.Gen

theorem hz : (![0, 0] : Fin 2 → Nat) = fun _ => 0 := funext fun a => by fin_cases a <;> rfl

/-- A row's length and the constant of the norm. -/
abbrev len : EReal := Ideal.ofBits .f32 0x44800000#32
abbrev eps : EReal := Ideal.ofBits .f32 0x358637BD#32

/-- A row over its root mean square, times the norm weight. -/
def normed (x w : Fin 1024 → EReal) (j : Fin 1024) : EReal := x j * Norm.inv len eps x * w j

/-- What a point leaves in its block. -/
theorem block (x0 : Vec Ideal S256x1024 .f32) (x1 : Vec Ideal S1x1024 .f32) (r : Fin 256) (j : Fin 1024) :
    out0_2 x0 x1 (ix2 r j) = normed (fun l => x0 (ix2 r l)) (fun l => x1 (ix2 0 l)) j := by
  unfold out0_2
  simp only [View.ld_unit_zero (S := S256x1024) hz, View.ld_unit_zero (S := S1x1024) hz, View.canon_unit_zero (S := S256x1024) hz]
  unfold k0_pay1
  pointwise
  rfl

variable (m : (b : Loc nD τ sig) → Buf (Elt Ideal) b) (c : Dev nD)

/-- The rows and the norm's weight, entry by entry. -/
abbrev input (t : Fin 256) (j : Fin 1024) : EReal := m ((c : Thread nD τ).loc main_arg0) (ix2 t j)
abbrev weight (j : Fin 1024) : EReal := m ((c : Thread nD τ).loc main_arg1) (ix1 j)

theorem reshaped (j : Fin 1024) : V m c main_v0 (ix2 0 j) = weight m c j := by
  have e : V m c main_v0 = (shapeCast S1x1024 (m ((c : Thread nD τ).loc main_arg1) : FVec Ideal S1024 .f32)
      shapeCasts_S1024_S1x1024 : FVec Ideal S1x1024 .f32) := by
    unfold V
    simp only [hostOps0, List.flatten_cons, List.flatten_nil, List.append_nil, List.cons_append, List.nil_append]
    after_results
    rfl
  rw [e]
  pointwise

def row (n : ℕ) (r : Fin 256) : Fin 256 := ⟨n % 1 * 256 + r.val, by have := r.isLt; omega⟩

theorem idx0 : ∀ t : Fin cfg0.N, win0_0.index t = ![t.val % 1, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val % 1, 0] := (by decide +kernel : ∀ t : Fin grid0.N, _)

abbrev in0 (t : Fin cfg0.N) : Vec Ideal S256x1024 .f32 := iblk m c 0 t
abbrev in1 (t : Fin cfg0.N) : Vec Ideal S1x1024 .f32 := iblk m c 1 t

theorem blk0 (t : Fin cfg0.N) (r : Fin 256) (k : Fin 1024) : in0 m c t (ix2 r k) = input m c (row t.val r) k := by
  blk_simp [in0, iblk]
  rw [V_main_arg0]
  refine congrArg _ (funext fun a => Fin.ext ?_)
  match a with
  | ⟨0, _⟩ => blk_simp [idx0]; rfl
  | ⟨1, _⟩ => blk_simp [idx0]

theorem blk1 (t : Fin cfg0.N) (j : Fin 1024) : in1 m c t (ix2 0 j) = weight m c j := by
  rw [← reshaped]
  blk_simp [in1, iblk]
  refine congrArg _ (funext fun a => Fin.ext ?_)
  match a with
  | ⟨0, _⟩ => blk_simp [idx1]
  | ⟨1, _⟩ => blk_simp [idx1]

/-- The normalised rows. -/
def H : (⟨2, ![256, 1024]⟩ : Shape).Idx → EReal := fun i => normed (input m c (i 0)) (weight m c) (i 1)

theorem final : (dats m 0 c).arrAt 2 cfg0.N = H m c := by
  refine (dats m 0 c).arrAt_eq_of_covers 2 _ (by decide +kernel) fun t _ y => ?_
  blk_simp
  rw [after0_2, eq_ix2 y]
  refine ((block (in0 m c t) (in1 m c t) (y 0) (y 1)).trans (congrArg₂ (fun x w => normed x w (y 1))
    (funext fun l => blk0 m c t (y 0) l) (funext fun l => blk1 m c t l))).trans
    (congrArg (H m c) (funext fun a => Fin.ext ?_ : ix2 (row t.val (y 0)) (y 1) = _))
  match a with
  | ⟨0, _⟩ => blk_simp [idx2]; rfl
  | ⟨1, _⟩ => blk_simp [idx2]

/-- The run: the normalised rows, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1) = H m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

section Reference

open MemNormRefIdeal.Read

variable (x0 : S256x1024.Idx → EReal) (x1 : S1024.Idx → EReal)

/-- The reference's inverse root mean squares, -/
theorem ref_inv (t : Fin 256) : val_main_v7 (F := Ideal) x0 (ix2 t 0) = Norm.inv len eps (fun l => x0 (ix2 t l)) := by
  rw [val_main_v7_apply, val_main_v6_apply, val_main_v4_apply, val_main_v2_apply, val_main_v1_apply, val_main_cst_apply,
    val_main_v3_apply, val_main_cst_0_apply, val_main_v5_apply, val_main_cst_1_apply]
  show Ideal.rsqrt (Ideal.div (Ideal.ofBits .f32 0x00000000#32 + _) _ + _) = _
  rw [Rows.ofBits_zero, zero_add]
  refine congrArg (fun s => Ideal.rsqrt (Ideal.div s len + eps)) (Finset.sum_congr rfl fun k _ => ?_)
  rw [val_main_v0_apply, eq_ix2 (idx_main_v1 _ k)]
  rfl

/-- and its normalised rows. -/
theorem reference : val_main_v13 (F := Ideal) x0 x1 = fun i => normed (fun l => x0 (ix2 (i 0) l)) (fun l => x1 (ix1 l)) (i 1) := by
  funext i
  rw [val_main_v13_apply, val_main_v12_apply, val_main_v9_apply, val_main_v8_apply, eq_ix2 (idx_main_v8 _),
    val_main_v11_apply, val_main_v10_apply, eq_ix1 (idx_main_v10 _)]
  exact congrArg₂ (fun y z => y * z * x1 (ix1 (i 1))) (congrArg x0 (eq_ix2 i)) (ref_inv x0 (i 0))

end Reference

end Cert.Proof.NormedMemory

end
-- ==== Proof.MemoryNorm.lean ====
/-
  The gradient of the memory's norm, in the memory and in the norm's weight, one block: the kernel's rows and the reference's
  are one, and so are the sums over the rows.
-/
module

public import proofs.«01_k».proof.Proof.Norm
public import proofs.«01_k».proof.Proof.Gen.MemNormDxIdeal.Value
public import proofs.«01_k».proof.Proof.Gen.MemNormDxRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.MemoryNorm

open Idealize.ShloMosaic Idealize.ShloMosaic.TcCoe Idealize.ShloMosaic.Pipeline Idealize.SL.Sem Cert.MemNormDxIdeal Cert.MemNormDxIdeal.Gen

theorem hz : (![0, 0] : Fin 2 → Nat) = fun _ => 0 := funext fun a => by fin_cases a <;> rfl

/-- A row's length and the constant of the norm. -/
abbrev len : EReal := Ideal.ofBits .f32 0x44800000#32
abbrev eps : EReal := Ideal.ofBits .f32 0x358637BD#32

/-- The two gradients, from the rows, the norm's weight and what comes to the norm's output. -/
def inRows (x : Fin 256 → Fin 1024 → EReal) (w : Fin 1024 → EReal) (d : Fin 256 → Fin 1024 → EReal) (t : Fin 256) (j : Fin 1024) : EReal :=
  Norm.direct len eps (x t) (fun l => d t l * w l) j
def inWeight (x d : Fin 256 → Fin 1024 → EReal) (j : Fin 1024) : EReal :=
  ∑ t : Fin 256, d t j * (x t j * Norm.inv len eps (x t))

section Body

variable (c : Dev nD) (i : grid0.Coords) (a1 : Memref sig .tc .vmem S256x1024 .f32) (h1 : a1.IsWhole)
  (a2 : Memref sig .tc .vmem S1x1024 .f32) (h2 : a2.IsWhole) (a3 : Memref sig .tc .vmem S256x1024 .f32) (h3 : a3.IsWhole)
  (a4 : Memref sig .tc .vmem S256x1024 .f32) (h4 : a4.IsWhole) (a5 : Memref sig .tc .vmem S1x1024 .f32) (h5 : a5.IsWhole)
  (hc0 : cond0_0 i) (x0 x2 : Vec Ideal S256x1024 .f32) (x1 : Vec Ideal S1x1024 .f32) (r : Fin 256) (j : Fin 1024)

theorem rows : k0_pay3 x0 x2 x1 (ix2 r j)
    = inRows (fun t l => x0 (ix2 t l)) (fun l => x1 (ix2 0 l)) (fun t l => x2 (ix2 t l)) r j := by
  unfold k0_pay3 k0_pay2 k0_pay1
  pointwise
  rfl

theorem zero : k0_pay4 (F := Ideal) (ix2 0 j) = 0 := by
  unfold k0_pay4
  pointwise

theorem columns (v : Vec Ideal S1x1024 .f32) : k0_pay5 x0 x2 v (ix2 0 j)
    = v (ix2 0 j) + inWeight (fun t l => x0 (ix2 t l)) (fun t l => x2 (ix2 t l)) j := by
  unfold k0_pay5 k0_pay2 k0_pay1
  pointwise
  rfl

/-- What the point leaves in its two blocks. -/
theorem block3 : out0_A_3 c i a1 h1 a2 h2 a3 h3 a4 h4 a5 h5 hc0 x0 x1 x2 (ix2 r j)
    = inRows (fun t l => x0 (ix2 t l)) (fun l => x1 (ix2 0 l)) (fun t l => x2 (ix2 t l)) r j := by
  unfold out0_A_3
  rw [View.read_writes_eq_canon _ _ _ (cover0_A_3 c i a1 h1 a2 h2 a3 h3 a4 h4 a5 h5 hc0 x0 x1 x2)]
  unfold kernelRun0_A
  dsimp only
  sl_unfold_words
  simp only [View.readAt_eq_ld, h1.read_unread, h2.read_unread, h3.read_unread, View.ld_unit_zero (S := S256x1024) hz,
    View.ld_unit_zero (S := S1x1024) hz, View.canon_unit_zero (S := S256x1024) hz]
  exact rows x0 x2 x1 r j

theorem block4 : out0_A_4 c i a1 h1 a2 h2 a3 h3 a4 h4 a5 h5 hc0 x0 x1 x2 (ix2 0 j)
    = inWeight (fun t l => x0 (ix2 t l)) (fun t l => x2 (ix2 t l)) j := by
  unfold out0_A_4
  rw [View.read_writes_eq_canon _ _ _ (cover0_A_4 c i a1 h1 a2 h2 a3 h3 a4 h4 a5 h5 hc0 x0 x1 x2)]
  unfold kernelRun0_A
  dsimp only
  sl_unfold_words
  simp only [View.readAt_eq_ld, h1.read_unread, h2.read_unread, h3.read_unread, View.ld_unit_zero (S := S256x1024) hz,
    View.ld_unit_zero (S := S1x1024) hz, View.canon_cons_unit_zero (S := S1x1024) hz, View.readCov_unit_zero (S := S1x1024) _ hz]
  refine (columns x0 x2 j _).trans ?_
  rw [zero, zero_add]

end Body

variable (m : (b : Loc nD τ sig) → Buf (Elt Ideal) b) (c : Dev nD)

/-- The memory, the norm's weight, and what comes to the norm's output, entry by entry. -/
abbrev input (t : Fin 256) (j : Fin 1024) : EReal := m ((c : Thread nD τ).loc main_arg0) (ix2 t j)
abbrev scale (j : Fin 1024) : EReal := m ((c : Thread nD τ).loc main_arg1) (ix1 j)
abbrev grad (t : Fin 256) (j : Fin 1024) : EReal := m ((c : Thread nD τ).loc main_arg2) (ix2 t j)

theorem reshaped (j : Fin 1024) : V m c main_v0 (ix2 0 j) = scale m c j := by
  have e : V m c main_v0 = (shapeCast S1x1024 (m ((c : Thread nD τ).loc main_arg1) : FVec Ideal S1024 .f32)
      shapeCasts_S1024_S1x1024 : FVec Ideal S1x1024 .f32) := by
    unfold V
    simp only [hostOps0, List.flatten_cons, List.flatten_nil, List.append_nil, List.cons_append, List.nil_append]
    after_results
    rfl
  rw [e]
  pointwise

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)

abbrev in0 (t : Fin cfg0.N) : Vec Ideal S256x1024 .f32 := iblk m c 0 t
abbrev in1 (t : Fin cfg0.N) : Vec Ideal S1x1024 .f32 := iblk m c 1 t
abbrev in2 (t : Fin cfg0.N) : Vec Ideal S256x1024 .f32 := iblk m c 2 t

theorem blk0 (t : Fin cfg0.N) (r : Fin 256) (j : Fin 1024) : in0 m c t (ix2 r j) = input m c r j := by
  blk_simp [in0, iblk]
  rw [V_main_arg0]
  refine congrArg _ (funext fun a => Fin.ext ?_)
  match a with
  | ⟨0, _⟩ => blk_simp [idx0]
  | ⟨1, _⟩ => blk_simp [idx0]

theorem blk1 (t : Fin cfg0.N) (j : Fin 1024) : in1 m c t (ix2 0 j) = scale m c j := by
  rw [← reshaped]
  blk_simp [in1, iblk]
  refine congrArg _ (funext fun a => Fin.ext ?_)
  match a with
  | ⟨0, _⟩ => blk_simp [idx1]
  | ⟨1, _⟩ => blk_simp [idx1]

theorem blk2 (t : Fin cfg0.N) (r : Fin 256) (j : Fin 1024) : in2 m c t (ix2 r j) = grad m c r j := by
  blk_simp [in2, iblk]
  rw [V_main_arg2]
  refine congrArg _ (funext fun a => Fin.ext ?_)
  match a with
  | ⟨0, _⟩ => blk_simp [idx2]
  | ⟨1, _⟩ => blk_simp [idx2]

/-- The gradient in the memory, and in the norm's weight. -/
def DX : (⟨2, ![256, 1024]⟩ : Shape).Idx → EReal := fun i => inRows (input m c) (scale m c) (grad m c) (i 0) (i 1)
def GW : (⟨2, ![1, 1024]⟩ : Shape).Idx → EReal := fun i => inWeight (input m c) (grad m c) (i 1)

theorem rows_eq (t : Fin cfg0.N) (r : Fin 256) (j : Fin 1024) :
    inRows (fun s l => in0 m c t (ix2 s l)) (fun l => in1 m c t (ix2 0 l)) (fun s l => in2 m c t (ix2 s l)) r j = DX m c (ix2 r j) := by
  simp only [blk0, blk1, blk2]
  rfl

theorem weight_eq (t : Fin cfg0.N) (j : Fin 1024) :
    inWeight (fun s l => in0 m c t (ix2 s l)) (fun s l => in2 m c t (ix2 s l)) j = GW m c (ix2 0 j) := by
  simp only [blk0, blk2]
  rfl

theorem out3 (t : Fin cfg0.N) (r : Fin 256) (j : Fin 1024) : (outsAt0 m c t).1 (ix2 r j) = DX m c (ix2 r j) := by
  unfold outsAt0
  dsimp only
  rw [block3]
  exact rows_eq m c t r j

theorem out4 (t : Fin cfg0.N) (j : Fin 1024) : (outsAt0 m c t).2 (ix2 0 j) = GW m c (ix2 0 j) := by
  unfold outsAt0
  dsimp only
  rw [block4]
  exact weight_eq m c t j

theorem final3 : (dats m 0 c).arrAt 3 cfg0.N = DX m c := by
  refine (dats m 0 c).arrAt_eq_of_covers 3 _ (by decide +kernel) fun t _ y => ?_
  blk_simp
  rw [after0_3, eq_ix2 y]
  refine (out3 m c t (y 0) (y 1)).trans (congrArg (DX m c) (funext fun a => Fin.ext ?_))
  match a with
  | ⟨0, _⟩ => blk_simp [idx3]
  | ⟨1, _⟩ => blk_simp [idx3]

theorem final4 : (dats m 0 c).arrAt 4 cfg0.N = GW m c := by
  refine (dats m 0 c).arrAt_eq_of_covers 4 _ (by decide +kernel) fun t _ y => ?_
  blk_simp
  rw [after0_4, eq_ix2 y]
  refine (congrArg (fun a : Fin 1 => (outsAt0 m c t).2 (ix2 a (y 1))) (Fin.fin_one_eq_zero (y 0))).trans
    ((out4 m c t (y 1)).trans (congrArg (GW m c) (funext fun a => Fin.ext ?_)))
  match a with
  | ⟨0, _⟩ => blk_simp [idx4]; rfl
  | ⟨1, _⟩ => blk_simp [idx4]

/-- The run: the two gradients, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1_0) = DX m c
      ∧ r.2.mem ((c : Thread nD τ).loc main_v1_1) = GW m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2⟩)
    (Value.run_blocks m ρ)

section Reference

open MemNormDxRefIdeal.Read

variable (x0 : S256x1024.Idx → EReal) (x1 : S1024.Idx → EReal) (x2 : S256x1024.Idx → EReal)

/-- The reference's mean square and its inverse root, -/
theorem ref_ms (t : Fin 256) : val_main_v6 (F := Ideal) x0 (ix2 t 0) = Norm.ms len eps fun l => x0 (ix2 t l) := by
  rw [val_main_v6_apply, val_main_v4_apply, val_main_v2_apply, val_main_v1_apply, val_main_cst_apply, val_main_v3_apply,
    val_main_cst_0_apply, val_main_v5_apply, val_main_cst_1_apply]
  show Ideal.div (Ideal.ofBits .f32 0x00000000#32 + _) _ + _ = _
  rw [Rows.ofBits_zero, zero_add]
  refine congrArg (fun s => Ideal.div s len + eps) (Finset.sum_congr rfl fun k _ => ?_)
  rw [val_main_v0_apply, eq_ix2 (idx_main_v1 _ k)]
  rfl

theorem ref_inv (t : Fin 256) : val_main_v7 (F := Ideal) x0 (ix2 t 0) = Norm.inv len eps fun l => x0 (ix2 t l) := by
  rw [val_main_v7_apply, ref_ms]
  rfl

/-- what comes to the norm, -/
theorem ref_scaled (t : Fin 256) (j : Fin 1024) :
    val_main_v20 (F := Ideal) x1 x2 (ix2 t j) = x2 (ix2 t j) * x1 (ix1 j) := by
  rw [val_main_v20_apply, val_main_v19_apply, val_main_v13_apply, eq_ix1 (idx_main_v13 _)]
  rfl

/-- the row's sum of its products with the input, -/
theorem ref_sum (t : Fin 256) : val_main_v24 (F := Ideal) x0 x1 x2 (ix2 t 0)
    = ∑ l : Fin 1024, x0 (ix2 t l) * (x2 (ix2 t l) * x1 (ix1 l)) := by
  rw [val_main_v24_apply, val_main_v23_apply, val_main_cst_5_apply]
  show Ideal.ofBits .f32 0x00000000#32 + _ = _
  rw [Rows.ofBits_zero, zero_add]
  refine Finset.sum_congr rfl fun k _ => ?_
  have e : idx_main_v23 (idx_main_v24 (ix2 t 0)) k = ix2 t k := funext fun a => Fin.ext (by
    match a with
    | ⟨0, _⟩ => show t.val * 1 + 0 = t.val; omega
    | ⟨1, _⟩ => rfl)
  rw [e, val_main_v22_apply, ref_scaled]
  rfl

/-- the coefficient of each row, -/
theorem ref_coef (t : Fin 256) (j : Fin 1024) : val_main_v31 (F := Ideal) x0 x1 x2 (ix2 t j)
    = Norm.coef len eps (Ideal.ofBits .f32 0xBF000000#32) (fun l => x0 (ix2 t l)) (fun l => x2 (ix2 t l) * x1 (ix1 l)) := by
  rw [val_main_v31_apply, val_main_v30_apply, Fin.sum_univ_one, val_main_cst_7_apply, eq_ix2 (idx_main_v30 _ 0),
    val_main_v29_apply, val_main_v28_apply, val_main_cst_6_apply, val_main_v27_apply, val_main_v10_apply, val_main_v9_apply,
    val_main_cst_2_apply, val_main_v8_apply]
  show Ideal.ofBits .f32 0x00000000#32 + Ideal.div (val_main_v24 (F := Ideal) x0 x1 x2 (ix2 t 0) * (_ * Ideal.div
    (val_main_v7 (F := Ideal) x0 (ix2 t 0)) (val_main_v6 (F := Ideal) x0 (ix2 t 0)))) _ = _
  rw [Rows.ofBits_zero, zero_add, ref_inv, ref_ms, ref_sum]
  rfl

/-- and its two gradients, entry by entry, -/
theorem ref_entry (t : Fin 256) (j : Fin 1024) : val_main_v35 (F := Ideal) x0 x1 x2 (ix2 t j) =
    Norm.direct len eps (fun l => x0 (ix2 t l)) (fun l => x2 (ix2 t l) * x1 (ix1 l)) j := by
  rw [← zero_add (Norm.direct _ _ _ _ _), Norm.direct_eq Rows.ofBits_thousand Rows.ofBits_small (by norm_num) (by norm_num)
    Rows.ofBits_neg_half, zero_add, val_main_v35_apply, val_main_v33_apply, val_main_v34_apply, val_main_v32_apply,
    val_main_v26_apply, val_main_v25_apply, ref_coef, ref_scaled, eq_ix2 (idx_main_v25 _), ← ref_inv]
  rfl

theorem ref_weight (j : Fin 1024) : val_main_v36 (F := Ideal) x0 x2 (ix2 0 j) = ∑ t : Fin 256, x2 (ix2 t j) *
    (x0 (ix2 t j) * Norm.inv len eps fun l => x0 (ix2 t l)) := by
  rw [val_main_v36_apply, val_main_v21_apply, Fin.sum_univ_one, val_main_cst_4_apply, val_main_v18_apply, val_main_v17_apply,
    val_main_cst_3_apply]
  show Ideal.ofBits .f32 0x00000000#32 + (Ideal.ofBits .f32 0x00000000#32 + _) = _
  rw [Rows.ofBits_zero, zero_add, zero_add]
  refine Finset.sum_congr rfl fun t _ => ?_
  have e : idx_main_v17 (idx_main_v18 (idx_main_v21 (idx_main_v36 (ix2 0 j)) 0)) t = ix2 t j := funext fun a => Fin.ext (by
    match a with
    | ⟨0, _⟩ => rfl
    | ⟨1, _⟩ => show 0 * 1024 + (0 * 1024 + j.val) = j.val; omega)
  rw [e, val_main_v16_apply, val_main_v12_apply, val_main_v11_apply, eq_ix2 (idx_main_v11 _), ← ref_inv]
  exact mul_comm _ _

/-- and whole. -/
theorem reference : val_main_v35 (F := Ideal) x0 x1 x2
    = fun i => inRows (fun t l => x0 (ix2 t l)) (fun l => x1 (ix1 l)) (fun t l => x2 (ix2 t l)) (i 0) (i 1) :=
  funext fun i => (congrArg _ (eq_ix2 i)).trans (ref_entry x0 x1 x2 (i 0) (i 1))

theorem reference_weight : val_main_v36 (F := Ideal) x0 x2
    = fun i => inWeight (fun t l => x0 (ix2 t l)) (fun t l => x2 (ix2 t l)) (i 1) :=
  funext fun i => (congrArg _ ((eq_ix2 i).trans (congrArg (fun a : Fin 1 => ix2 a (i 1)) (Fin.fin_one_eq_zero (i 0))))).trans
    (ref_weight x0 x2 (i 1))

end Reference

end Cert.Proof.MemoryNorm

end
-- ==== Proof.MixNorm.lean ====
/-
  The state space mixer's gated norm: the kernel's run leaves, in the second half of the columns, each group of 512
  columns of the gated sum over its root mean square, times the norm's weight, and keeps the first half.
-/
module

public import proofs.«01_k».proof.Proof.GroupTexts
public import Idealize.ShloMosaic.Lib.Pointwise
public import Idealize.ShloMosaic.Lib.Tactic
public import Idealize.ShloMosaic.Lib.Pipeline.ValueKit
public import proofs.«01_k».proof.Proof.Gen.MixIdeal.Value

@[expose] public section

set_option maxRecDepth 16384

noncomputable section

namespace Cert.Proof.MixNorm

open Idealize.ShloMosaic Idealize.ShloMosaic.TcCoe Idealize.ShloMosaic.Pipeline Idealize.SL.Sem Cert.MixIdeal Cert.MixIdeal.Gen
open Cert.Proof.Rows Cert.Proof.Groups Cert.Proof.Gate Cert.Proof.GroupTexts

theorem hz : (![0, 0] : Fin 2 → Nat) = fun _ => 0 := funext fun a => by fin_cases a <;> rfl

/-- A group of a row, normed and scaled. -/
def rowN (y v z d w : Fin 1024 → EReal) (h : Fin 2) (e : Fin 512) : EReal :=
  act y v z d (col h e) * Norm.inv len eps (fun e : Fin 512 => act y v z d (col h e)) * w (col h e)

section Body

variable (y z : Vec Ideal S1024x1024 .bf16) (v : Vec Ideal S1024x1024 .f32) (d w : Vec Ideal S1x1024 .f32)
  (wh : Vec Ideal S1x512 .f32)

theorem acted (t : Fin 1024) (l : Fin 1024) : k0_pay2 y v d z (ix2 t l) =
    act (fun l => y (ix2 t l)) (fun l => v (ix2 t l)) (fun l => z (ix2 t l)) (fun l => d (ix2 0 l)) l := by
  unfold k0_pay2 act gate
  pointwise

theorem cols (yg : FVec Ideal S1024x1024 .f32) (h : Fin 2) (off : ℕ) (ho : off = 512 * h.val) (sl) :
    extractStridedSlice S1024x512 ![0, off] yg sl = hd (n := 1024) (e := .f32) h yg := by
  funext i
  rw [eq_ix2 i]
  exact slice_part off h ho yg sl (i 0) (i 1)

theorem cols4 : k0_pay4 y v d z = hd (n := 1024) (e := .f32) 1 (k0_pay2 y v d z) :=
  cols _ 1 512 rfl slices_S1024x1024_o0_512_S1024x512

/-- The first group's text, -/
theorem text0 (t : Fin 1024) (e : Fin 512) : k0_pay3 y v d z (hd (n := 1) (e := .f32) 0 w) (ix2 t e) =
    rowN (fun l => y (ix2 t l)) (fun l => v (ix2 t l)) (fun l => z (ix2 t l)) (fun l => d (ix2 0 l)) (fun l => w (ix2 0 l)) 0 e := by
  unfold k0_pay3 rowN Norm.inv Norm.ms
  rw [cols _ 0 0 rfl slices_S1024x1024_o0_0_S1024x512]
  pointwise
  simp only [part_apply, acted]

/-- and the second's. -/
theorem text1 (t : Fin 1024) (e : Fin 512) :
    k0_pay1 (k0_pay4 y v d z) (k0_pay5 y v d z) (Scalar.ofBits .f32 0x44000000#32) (hd (n := 1) (e := .f32) 1 w) (ix2 t e) =
    rowN (fun l => y (ix2 t l)) (fun l => v (ix2 t l)) (fun l => z (ix2 t l)) (fun l => d (ix2 0 l)) (fun l => w (ix2 0 l)) 1 e := by
  unfold k0_pay1 k0_pay5 rowN Norm.inv Norm.ms
  rw [cols4]
  pointwise
  simp only [part_apply, acted]

variable (c : Dev nD) (i : grid0.Coords) (a1 : Memref sig .tc .vmem S1024x1024 .bf16) (h1 : a1.IsWhole)
  (a2 : Memref sig .tc .vmem S1024x1024 .f32) (h2 : a2.IsWhole) (a3 : Memref sig .tc .vmem S1024x1024 .bf16) (h3 : a3.IsWhole)
  (a4 : Memref sig .tc .vmem S1x1024 .f32) (h4 : a4.IsWhole) (a5 : Memref sig .tc .vmem S1x1024 .f32) (h5 : a5.IsWhole)
  (a7 : Memref sig .tc .vmem S1024x1024 .bf16) (h7 : a7.IsWhole)

/-- What a point leaves in its block. -/
theorem block (t : Fin 1024) (h : Fin 2) (e : Fin 512) :
    out0_A_5 c i a1 h1 a2 h2 a3 h3 a4 h4 a5 h5 a7 h7 y v z d w (ix2 t (col h e)) =
    rowN (fun l => y (ix2 t l)) (fun l => v (ix2 t l)) (fun l => z (ix2 t l)) (fun l => d (ix2 0 l)) (fun l => w (ix2 0 l)) h e := by
  unfold out0_A_5
  rw [View.read_writes_eq_canon _ _ _ (cover0_A_5 c i a1 h1 a2 h2 a3 h3 a4 h4 a5 h5 a7 h7 y v z d w)]
  unfold kernelRun0_A
  dsimp only
  sl_unfold_words
  fin_cases h
  · refine (canon_other (w := 512) 512 (0 : Fin 2) (1 : Fin 2) rfl (by decide) _ _ _ t e).trans ((canon_same (w := 512) 0 (0 : Fin 2) rfl _ _ _ t e).trans ?_)
    simp only [View.readAt_eq_ld, h1.read_unread, h2.read_unread, h3.read_unread, h4.read_unread, h5.read_unread,
      View.ld_unit_zero (S := S1024x1024) hz, View.ld_unit_zero (S := S1x1024) hz,
      ld_part (w := 512) 0 (0 : Fin 2) rfl, ld_part (w := 512) 512 (1 : Fin 2) rfl]
    exact text0 y z v d w t e
  · refine (canon_same (w := 512) 512 (1 : Fin 2) rfl _ _ _ t e).trans ?_
    simp only [View.readAt_eq_ld, h1.read_unread, h2.read_unread, h3.read_unread, h4.read_unread, h5.read_unread,
      View.ld_unit_zero (S := S1024x1024) hz, View.ld_unit_zero (S := S1x1024) hz,
      ld_part (w := 512) 0 (0 : Fin 2) rfl, ld_part (w := 512) 512 (1 : Fin 2) rfl]
    exact text1 y z v d w t e

end Body

variable (m : (b : Loc nD τ sig) → Buf (Elt Ideal) b) (c : Dev nD)

/-- The arguments, entry by entry. -/
abbrev Y (t : Fin 8192) (l : Fin 1024) : EReal := m ((c : Thread nD τ).loc main_arg0) (ix2 t l)
abbrev I (t : Fin 8192) (l : Fin 1024) : EReal := m ((c : Thread nD τ).loc main_arg1) (ix2 t (xCol l))
abbrev Z (t : Fin 8192) (l : Fin 1024) : EReal := m ((c : Thread nD τ).loc main_arg2) (ix2 t (zCol l))
abbrev D (l : Fin 1024) : EReal := m ((c : Thread nD τ).loc main_arg3) (ix2 0 l)
abbrev S (l : Fin 1024) : EReal := m ((c : Thread nD τ).loc main_arg4) (ix2 0 l)

/-- The row of the array that row `r` of block `n` is. -/
def row (n : ℕ) (r : Fin 1024) : Fin 8192 := ⟨n % 8 * 1024 + r.val, by have := r.isLt; omega⟩

theorem idx0 : ∀ t : Fin cfg0.N, win0_0.index t = ![t.val % 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val % 8, 4] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val % 8, 1] := (by decide +kernel : ∀ t : Fin grid0.N, _)

abbrev in0 (t : Fin cfg0.N) : Vec Ideal S1024x1024 .bf16 := iblk m c 0 t
abbrev in1 (t : Fin cfg0.N) : Vec Ideal S1024x1024 .f32 := X0_1 m c t
abbrev in2 (t : Fin cfg0.N) : Vec Ideal S1024x1024 .bf16 := X0_2 m c t
abbrev in3 (t : Fin cfg0.N) : Vec Ideal S1x1024 .f32 := iblk m c 3 t
abbrev in4 (t : Fin cfg0.N) : Vec Ideal S1x1024 .f32 := iblk m c 4 t

theorem blk0 (t : Fin cfg0.N) (r k : Fin 1024) : in0 m c t (ix2 r k) = Y m c (row t.val r) k := by
  blk_simp [in0, iblk]
  rw [V_main_arg0]
  refine congrArg _ (funext fun a => Fin.ext ?_)
  match a with
  | ⟨0, _⟩ => blk_simp [idx0]; rfl
  | ⟨1, _⟩ => blk_simp [idx0]

theorem blk1 (t : Fin cfg0.N) (r k : Fin 1024) : in1 m c t (ix2 r k) = I m c (row t.val r) k := by
  unfold in1 X0_1 Pipeline.Window.fill
  rw [dif_pos (moved0_1 t (ix2 r k))]
  blk_simp [iblk]
  rw [V_main_arg1]
  refine congrArg _ (funext fun a => Fin.ext ?_)
  match a with
  | ⟨0, _⟩ => blk_simp [idx1]; rfl
  | ⟨1, _⟩ => blk_simp [idx1]; rfl

theorem blk2 (t : Fin cfg0.N) (r k : Fin 1024) : in2 m c t (ix2 r k) = Z m c (row t.val r) k := by
  unfold in2 X0_2 Pipeline.Window.fill
  rw [dif_pos (moved0_2 t (ix2 r k))]
  blk_simp [iblk]
  rw [V_main_arg2]
  refine congrArg _ (funext fun a => Fin.ext ?_)
  match a with
  | ⟨0, _⟩ => blk_simp [idx2]; rfl
  | ⟨1, _⟩ => blk_simp [idx2]; rfl

theorem blk3 (t : Fin cfg0.N) (k : Fin 1024) : in3 m c t (ix2 0 k) = D m c k := by
  blk_simp [in3, iblk]
  rw [V_main_arg3]
  refine congrArg _ (funext fun a => Fin.ext ?_)
  match a with
  | ⟨0, _⟩ => blk_simp [idx3]
  | ⟨1, _⟩ => blk_simp [idx3]

theorem blk4 (t : Fin cfg0.N) (k : Fin 1024) : in4 m c t (ix2 0 k) = S m c k := by
  blk_simp [in4, iblk]
  rw [V_main_arg4]
  refine congrArg _ (funext fun a => Fin.ext ?_)
  match a with
  | ⟨0, _⟩ => blk_simp [idx4]
  | ⟨1, _⟩ => blk_simp [idx4]

/-- The second half of the columns. -/
def N : (⟨2, ![8192, 1024]⟩ : Shape).Idx → EReal :=
  spread fun (h : Fin 2) t e => rowN (Y m c t) (I m c t) (Z m c t) (D m c) (S m c) h e

theorem out (t : Fin cfg0.N) (r : Fin 1024) (h : Fin 2) (e : Fin 512) :
    outsAt0 m c t (ix2 r (col h e)) = N m c (ix2 (row t.val r) (col h e)) := by
  unfold outsAt0
  rw [block]
  unfold N
  rw [spread_apply]
  simp only [blk0, blk1, blk2, blk3, blk4]

/-- The result: the first half of the columns kept, the second half the normed groups. -/
def M : (⟨2, ![8192, 2048]⟩ : Shape).Idx → EReal := fun i =>
  if h : (i 1).val < 1024 then m ((c : Thread nD τ).loc main_arg5) i
  else N m c (ix2 (i 0) ⟨(i 1).val - 1024, by have h1 : (i 1).val < 2048 := (i 1).isLt; omega⟩)

theorem M_lower (t : Fin 8192) (l : Fin 1024) : M m c (ix2 t (lower l)) = N m c (ix2 t l) := by
  unfold M
  rw [dif_neg (by show ¬1024 + l.val < 1024; omega)]
  exact congrArg (N m c) (funext fun a => Fin.ext (match a with
    | ⟨0, _⟩ => rfl
    | ⟨1, _⟩ => Nat.add_sub_cancel_left _ _))

theorem final : (dats m 0 c).arrAt 5 cfg0.N = M m c := by
  refine ((dats m 0 c).arrAt_eq_of_coversWhere 5 (M m c) (P := fun i : (⟨2, ![8192, 2048]⟩ : Shape).Idx => 1 ≤ (i 1).val / 1024) (fun β => 1 ≤ β (1 : Fin _)) (by decide +kernel)
    (fun t _ y => ?_) (fun j => Iff.rfl)).trans (funext fun i => ?_)
  · have hy : y = ix2 (y 0) (col (grp 2 512 (y 1)) (place 2 512 (y 1))) := (eq_ix2 y).trans (congrArg (ix2 (y 0)) (col_grp (k := 2) (w := 512) (y 1)))
    blk_simp
    rw [after0_5]
    refine (congrArg _ hy).trans ((out m c t (y 0) _ _).trans
      ((congrArg (fun a => N m c (ix2 (row t.val (y 0)) a)) (col_grp (k := 2) (w := 512) (y 1)).symm).trans
        ((M_lower m c _ _).symm.trans (congrArg (M m c) (funext fun a => Fin.ext ?_)))))
    match a with
    | ⟨0, _⟩ => blk_simp [idx5]; rfl
    | ⟨1, _⟩ => blk_simp [idx5]; rfl
  · split
    · rfl
    · next h =>
      unfold M
      rw [dif_pos (by
        have h2 : ¬1 ≤ (i 1).val / 1024 := h
        omega)]
      exact congrFun (V_main_arg5 m c) i

/-- The run: the result, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = M m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.Proof.MixNorm

end
-- ==== Proof.MixReference.lean ====
/-
  The reference of the state space mixer's gated norm: its result is the kernel's.
-/
module

public import proofs.«01_k».proof.Proof.MixNorm
public import proofs.«01_k».proof.Proof.GroupReference
public import proofs.«01_k».proof.Proof.Gen.MixRefIdeal.Read

@[expose] public section

set_option maxRecDepth 16384

noncomputable section

namespace Cert.Proof.MixReference

open Idealize.ShloMosaic Cert.MixRefIdeal Cert.MixRefIdeal.Gen Cert.MixRefIdeal.Read
open Cert.Proof.Rows Cert.Proof.Groups Cert.Proof.Gate Cert.Proof.GroupTexts Cert.Proof.MixNorm
open Cert.Proof.GroupReference (split join)

variable (y : S8192x1024.Idx → EReal) (v : S8192x1536.Idx → EReal)
  (p : S8192x6656.Idx → EReal) (d s : S1x1024.Idx → EReal) (o : S8192x2048.Idx → EReal)

/-- A row of what is normed. -/
abbrev Ar (t : Fin 8192) (l : Fin 1024) : EReal :=
  act (fun l => y (ix2 t l)) (fun l => v (ix2 t (xCol l))) (fun l => p (ix2 t (zCol l))) (fun l => d (ix2 0 l)) l

/-- The gate, -/
theorem ref_gate (t : Fin 8192) (l : Fin 1024) : val_main_v7 (F := Ideal) p (ix2 t l) = gate (p (ix2 t (zCol l))) := by
  have z : val_main_v6 (F := Ideal) p (ix2 t l) = p (ix2 t (zCol l)) := by
    rw [val_main_v6_apply, val_main_v5_apply, eq_ix2 (idx_main_v5 _)]
    rfl
  rw [val_main_v7_apply, val_main_call0_v5_apply, val_main_call0_v4_apply, val_main_call0_v3_apply, val_main_call0_v2_apply,
    val_main_call0_v1_apply, val_main_call0_v0_apply, z, val_main_call0_cst_apply, val_main_call0_cst_0_apply]
  show p (ix2 t (zCol l)) * Ideal.div (Ideal.ofBits .f32 0x3F800000#32)
    (Ideal.ofBits .f32 0x3F800000#32 + Ideal.exp (-p (ix2 t (zCol l)))) = _
  rw [Rows.ofBits_one, gate, sigmoid]

/-- what is normed, -/
theorem ref_act (t : Fin 8192) (h : Fin 2) (e : Fin 512) : val_main_v9 (F := Ideal) y v p d (ix3 t h e) = Ar y v p d t (col h e) := by
  rw [val_main_v9_apply, split t h e (idx_main_v9 (ix3 t h e)) rfl rfl, val_main_v8_apply, ref_gate, val_main_v4_apply,
    val_main_v3_apply, val_main_v1_apply, eq_ix2 (idx_main_v1 _), val_main_v2_apply, eq_ix2 (idx_main_v2 _), val_main_v0_apply]
  rfl

/-- the inverse root of a group's mean square, -/
theorem ref_inv (t : Fin 8192) (h : Fin 2) :
    val_main_v17 (F := Ideal) y v p d (ix3 t h 0) = Norm.inv len eps fun e : Fin 512 => Ar y v p d t (col h e) := by
  rw [val_main_v17_apply, val_main_v16_apply, val_main_v14_apply, val_main_v12_apply, val_main_v11_apply, val_main_cst_apply,
    val_main_v13_apply, val_main_cst_0_apply, val_main_v15_apply, val_main_cst_1_apply]
  show Ideal.rsqrt (Ideal.div (Ideal.ofBits .f32 0x00000000#32 + _) _ + _) = _
  rw [Rows.ofBits_zero, zero_add]
  refine congrArg (fun s => Ideal.rsqrt (Ideal.div s len + eps)) (Finset.sum_congr rfl fun k _ => ?_)
  rw [val_main_v10_apply, show idx_main_v11 (idx_main_v12 (ix3 t h 0)) k = ix3 t h k from eq_ix3 _, ref_act]
  rfl

/-- the normed groups, -/
theorem ref_normed (t : Fin 8192) (h : Fin 2) (e : Fin 512) : val_main_v24 (F := Ideal) y v p d s (ix2 t (col h e)) =
    rowN (fun l => y (ix2 t l)) (fun l => v (ix2 t (xCol l))) (fun l => p (ix2 t (zCol l))) (fun l => d (ix2 0 l))
      (fun l => s (ix2 0 l)) h e := by
  rw [val_main_v24_apply, val_main_v23_apply, val_main_v22_apply, eq_ix2 (idx_main_v22 _), val_main_v21_apply,
    join t h e (idx_main_v21 (ix2 t (col h e))) rfl rfl rfl, val_main_v19_apply, ref_act, val_main_v18_apply,
    show idx_main_v18 (ix3 t h e) = ix3 t h 0 from eq_ix3 _, ref_inv]
  rfl

/-- and the result, whole. -/
theorem reference : val_main_v25 (F := Ideal) y v p d s o = fun i => if h : (i 1).val < 1024 then o i
    else spread (fun (h : Fin 2) t e => rowN (fun l => y (ix2 t l)) (fun l => v (ix2 t (xCol l))) (fun l => p (ix2 t (zCol l)))
      (fun l => d (ix2 0 l)) (fun l => s (ix2 0 l)) h e)
      (ix2 (i 0) (⟨(i 1).val - 1024, by have h1 : (i 1).val < 2048 := (i 1).isLt; omega⟩ : Fin 1024)) := by
  funext i
  unfold val_main_v25
  have h1 : (i 1).val < 2048 := (i 1).isLt
  split
  · next h =>
    rw [concatenate_pair_apply_left (t := S8192x2048) (s₁ := S8192x1024) (s₂ := S8192x1024) 1 _ _ _ i rfl (ix2 (i 0) ⟨(i 1).val, h⟩)
      (fun c => match c with
        | ⟨0, _⟩ => rfl
        | ⟨1, _⟩ => rfl), val_main_v20_apply]
    exact congrArg o (funext fun a => Fin.ext (match a with
      | ⟨0, _⟩ => rfl
      | ⟨1, _⟩ => rfl))
  · next h =>
    rw [concatenate_pair_apply_right (t := S8192x2048) (s₁ := S8192x1024) (s₂ := S8192x1024) 1 _ _ _ i rfl rfl
      (ix2 (i 0) (⟨(i 1).val - 1024, by omega⟩ : Fin 1024)) (fun c hc => match c with
        | ⟨0, _⟩ => rfl
        | ⟨1, _⟩ => absurd rfl hc) (by show (i 1).val - 1024 + 1024 = (i 1).val; omega)]
    refine congrFun (ext_groups 2 512 fun t h e => ?_) _
    rw [spread_apply]
    exact ref_normed y v p d s t h e

end Cert.Proof.MixReference

end
-- ==== Proof.Alone.lean ====
/-
  The claims about the calls that stand alone: the gates' columns, the memory's keys and values and their gradients, the
  norms, and the state space mixer's gated norm. Each reference leaves its arguments alone and has no semaphore; from
  agreeing arguments its results are the ones that the kernel's module says the kernel leaves.
-/
module

public import proofs.«01_k».proof.Defs
public import proofs.«01_k».proof.Proof.Memories
public import proofs.«01_k».proof.Proof.Gates
public import proofs.«01_k».proof.Proof.Normed
public import proofs.«01_k».proof.Proof.NormedMemory
public import proofs.«01_k».proof.Proof.MemoryNorm
public import proofs.«01_k».proof.Proof.MixReference
public import proofs.«01_k».proof.Proof.Gen.GatesRefIdeal.Run
public import proofs.«01_k».proof.Proof.Gen.KeysRefIdeal.Run
public import proofs.«01_k».proof.Proof.Gen.KeysDwRefIdeal.Run
public import proofs.«01_k».proof.Proof.Gen.KeysDxRefIdeal.Run
public import proofs.«01_k».proof.Proof.Gen.ValuesDxRefIdeal.Run
public import proofs.«01_k».proof.Proof.Gen.RowNormRefIdeal.Run
public import proofs.«01_k».proof.Proof.Gen.MemNormRefIdeal.Run
public import proofs.«01_k».proof.Proof.Gen.MemNormDxRefIdeal.Run
public import proofs.«01_k».proof.Proof.Gen.MixRefIdeal.Run

@[expose] public section

set_option maxRecDepth 16384

noncomputable section

namespace Cert.Proof.Alone

open Idealize.ShloMosaic Idealize.ShloMosaic.TcCoe Idealize.SL.Sem

theorem frame_gate_columns : Cert.quiescent_GatesRefIdeal := fun m ρ _ =>
  (θ_run GatesRefIdeal.defs _ _).mono (fun r h => ⟨fun c => (h c).2, sem_eq_zero_of_no_sems (by decide) r.2⟩)
    (GatesRefIdeal.Value.run (F := Ideal) m ρ)

theorem frame_keys : Cert.quiescent_KeysRefIdeal := fun m ρ _ =>
  (θ_run KeysRefIdeal.defs _ _).mono (fun r h => ⟨fun c => (h c).2, sem_eq_zero_of_no_sems (by decide) r.2⟩)
    (KeysRefIdeal.Value.run (F := Ideal) m ρ)

theorem frame_keys_weight : Cert.quiescent_KeysDwRefIdeal := fun m ρ _ =>
  (θ_run KeysDwRefIdeal.defs _ _).mono (fun r h => ⟨fun c => (h c).2, sem_eq_zero_of_no_sems (by decide) r.2⟩)
    (KeysDwRefIdeal.Value.run (F := Ideal) m ρ)

theorem frame_keys_input : Cert.quiescent_KeysDxRefIdeal := fun m ρ _ =>
  (θ_run KeysDxRefIdeal.defs _ _).mono (fun r h => ⟨fun c => (h c).2, sem_eq_zero_of_no_sems (by decide) r.2⟩)
    (KeysDxRefIdeal.Value.run (F := Ideal) m ρ)

theorem frame_values_input : Cert.quiescent_ValuesDxRefIdeal := fun m ρ _ =>
  (θ_run ValuesDxRefIdeal.defs _ _).mono (fun r h => ⟨fun c => (h c).2, sem_eq_zero_of_no_sems (by decide) r.2⟩)
    (ValuesDxRefIdeal.Value.run (F := Ideal) m ρ)

theorem frame_norm : Cert.quiescent_RowNormRefIdeal := fun m ρ _ =>
  (θ_run RowNormRefIdeal.defs _ _).mono (fun r h => ⟨fun c => (h c).2, sem_eq_zero_of_no_sems (by decide) r.2⟩)
    (RowNormRefIdeal.Value.run (F := Ideal) m ρ)

theorem frame_memory_norm : Cert.quiescent_MemNormRefIdeal := fun m ρ _ =>
  (θ_run MemNormRefIdeal.defs _ _).mono (fun r h => ⟨fun c => (h c).2, sem_eq_zero_of_no_sems (by decide) r.2⟩)
    (MemNormRefIdeal.Value.run (F := Ideal) m ρ)

theorem frame_memory_norm_back : Cert.quiescent_MemNormDxRefIdeal := fun m ρ _ =>
  (θ_run MemNormDxRefIdeal.defs _ _).mono (fun r h => ⟨fun c => (h c).2.2, sem_eq_zero_of_no_sems (by decide) r.2⟩)
    (MemNormDxRefIdeal.Value.run (F := Ideal) m ρ)

theorem frame_group_norm : Cert.quiescent_MixRefIdeal := fun m ρ _ =>
  (θ_run MixRefIdeal.defs _ _).mono (fun r h => ⟨fun c => (h c).2, sem_eq_zero_of_no_sems (by decide) r.2⟩)
    (MixRefIdeal.Value.run (F := Ideal) m ρ)

/-- The gates' columns of the projection. -/
theorem gate_columns : Cert.algebraic_GatesIdeal_GatesRefIdeal := by
  intro m ρ m' ρ' _ hagree
  refine ⟨Gates.Q m, Gates.run m ρ,
    (θ_run GatesRefIdeal.defs _ _).mono (fun r h c => ?_) (GatesRefIdeal.Value.run m' ρ')⟩
  obtain ⟨e0, e1⟩ := hagree c
  refine ⟨(h c).1.trans ?_, (h c).2⟩
  rw [GatesRefIdeal.Read.val_main_v3_eq, e0, e1, Gates.reference]
  rfl

/-- The keys of the memory; its values are the same text with the values' matrix. -/
theorem keys : Cert.algebraic_KeysIdeal_KeysRefIdeal := by
  intro m ρ m' ρ' _ hagree
  refine ⟨fun c => KeysIdeal.Value.G2 (m ((c : Thread KeysIdeal.nD KeysIdeal.τ).loc KeysIdeal.main_arg0)) (m ((c : Thread KeysIdeal.nD KeysIdeal.τ).loc KeysIdeal.main_arg1)), KeysIdeal.Value.run m ρ,
    (θ_run KeysRefIdeal.defs _ _).mono (fun r h c => ?_) (KeysRefIdeal.Value.run m' ρ')⟩
  obtain ⟨e0, e1⟩ := hagree c
  refine ⟨(h c).1.trans ?_, (h c).2⟩
  rw [KeysRefIdeal.Read.val_main_v2_eq, e0, e1, Memories.keys_reference]
  exact (Memories.keys _ _).symm

/-- The gradient in the keys' matrix; that in the values' is the same text. -/
theorem keys_weight : Cert.algebraic_KeysDwIdeal_KeysDwRefIdeal := by
  intro m ρ m' ρ' _ hagree
  refine ⟨fun c => KeysDwIdeal.Value.G2 (m ((c : Thread KeysDwIdeal.nD KeysDwIdeal.τ).loc KeysDwIdeal.main_arg0)) (m ((c : Thread KeysDwIdeal.nD KeysDwIdeal.τ).loc KeysDwIdeal.main_arg1)), KeysDwIdeal.Value.run m ρ,
    (θ_run KeysDwRefIdeal.defs _ _).mono (fun r h c => ?_) (KeysDwRefIdeal.Value.run m' ρ')⟩
  obtain ⟨e0, e1⟩ := hagree c
  refine ⟨(h c).1.trans ?_, (h c).2⟩
  rw [KeysDwRefIdeal.Read.val_main_v5_eq, e0, e1, Memories.keys_weight_reference]
  exact (Memories.keys_weight _ _).symm

/-- The keys' part of the gradient in the memory. -/
theorem keys_input : Cert.algebraic_KeysDxIdeal_KeysDxRefIdeal := by
  intro m ρ m' ρ' _ hagree
  refine ⟨fun c => KeysDxIdeal.Value.G2 (m ((c : Thread KeysDxIdeal.nD KeysDxIdeal.τ).loc KeysDxIdeal.main_arg1)) (m ((c : Thread KeysDxIdeal.nD KeysDxIdeal.τ).loc KeysDxIdeal.main_arg0)), KeysDxIdeal.Value.run m ρ,
    (θ_run KeysDxRefIdeal.defs _ _).mono (fun r h c => ?_) (KeysDxRefIdeal.Value.run m' ρ')⟩
  obtain ⟨e0, e1⟩ := hagree c
  refine ⟨(h c).1.trans ?_, (h c).2⟩
  rw [KeysDxRefIdeal.Read.val_main_v3_eq, e0, e1, Memories.keys_input_reference]
  exact (Memories.keys_input _ _).symm

/-- The values' part, added to the keys'. -/
theorem values_input : Cert.algebraic_ValuesDxIdeal_ValuesDxRefIdeal := by
  intro m ρ m' ρ' _ hagree
  refine ⟨fun c => ValuesDxIdeal.Value.G3 (m ((c : Thread ValuesDxIdeal.nD ValuesDxIdeal.τ).loc ValuesDxIdeal.main_arg1)) (m ((c : Thread ValuesDxIdeal.nD ValuesDxIdeal.τ).loc ValuesDxIdeal.main_arg0)) (m ((c : Thread ValuesDxIdeal.nD ValuesDxIdeal.τ).loc ValuesDxIdeal.main_arg2)), ValuesDxIdeal.Value.run m ρ,
    (θ_run ValuesDxRefIdeal.defs _ _).mono (fun r h c => ?_) (ValuesDxRefIdeal.Value.run m' ρ')⟩
  obtain ⟨e0, e1, e2⟩ := hagree c
  refine ⟨(h c).1.trans ?_, (h c).2⟩
  rw [ValuesDxRefIdeal.Read.val_main_v4_eq, e0, e1, e2, Memories.values_input_reference]
  exact (Memories.values_input _ _ _).symm

/-- The norm before the mixers. -/
theorem norm : Cert.algebraic_RowNormIdeal_RowNormRefIdeal := by
  intro m ρ m' ρ' _ hagree
  refine ⟨Normed.H m, Normed.run m ρ,
    (θ_run RowNormRefIdeal.defs _ _).mono (fun r h c => ?_) (RowNormRefIdeal.Value.run m' ρ')⟩
  obtain ⟨e0, e1⟩ := hagree c
  refine ⟨(h c).1.trans ?_, (h c).2⟩
  rw [RowNormRefIdeal.Read.val_main_v13_eq, e0, e1, Normed.reference]
  rfl

/-- The memory's norm. -/
theorem memory_norm : Cert.algebraic_MemNormIdeal_MemNormRefIdeal := by
  intro m ρ m' ρ' _ hagree
  refine ⟨NormedMemory.H m, NormedMemory.run m ρ,
    (θ_run MemNormRefIdeal.defs _ _).mono (fun r h c => ?_) (MemNormRefIdeal.Value.run m' ρ')⟩
  obtain ⟨e0, e1⟩ := hagree c
  refine ⟨(h c).1.trans ?_, (h c).2⟩
  rw [MemNormRefIdeal.Read.val_main_v13_eq, e0, e1, NormedMemory.reference]
  rfl

/-- The gradient through the memory's norm, and the norm weight's. -/
theorem memory_norm_back : Cert.algebraic_MemNormDxIdeal_MemNormDxRefIdeal := by
  intro m ρ m' ρ' _ hagree
  refine ⟨MemoryNorm.DX m, MemoryNorm.GW m, MemoryNorm.run m ρ,
    (θ_run MemNormDxRefIdeal.defs _ _).mono (fun r h c => ?_) (MemNormDxRefIdeal.Value.run m' ρ')⟩
  obtain ⟨e0, e1, e2⟩ := hagree c
  refine ⟨(h c).1.trans ?_, (h c).2.1.trans ?_, (h c).2.2⟩
  · rw [MemNormDxRefIdeal.Read.val_main_v35_eq, e0, e1, e2, MemoryNorm.reference]
    rfl
  · rw [MemNormDxRefIdeal.Read.val_main_v36_eq, e0, e2, MemoryNorm.reference_weight]
    rfl

/-- The state space mixer's gated norm. -/
theorem group_norm : Cert.algebraic_MixIdeal_MixRefIdeal := by
  intro m ρ m' ρ' _ hagree
  refine ⟨MixNorm.M m, MixNorm.run m ρ,
    (θ_run MixRefIdeal.defs _ _).mono (fun r h c => ?_) (MixRefIdeal.Value.run m' ρ')⟩
  obtain ⟨e0, e1, e2, e3, e4, e5⟩ := hagree c
  refine ⟨(h c).1.trans ?_, (h c).2⟩
  rw [MixRefIdeal.Read.val_main_v25_eq, e0, e1, e2, e3, e4, e5, MixReference.reference]
  rfl

end Cert.Proof.Alone

end
-- ==== Proof.Taps.lean ====
/-
  The convolution over four rows: a row's entry and those of the three rows before it, each times its own weight. A
  block of rows put below the last rows before it, turned by `s` rows and cut, gives the entries `s` rows before; put
  above the first rows after it, those `s` rows after.
-/
module

public import proofs.«01_k».proof.Proof.Gate
public import Idealize.ShloMosaic.Lib.KernelVsHost
public import Idealize.ShloMosaic.Lib.Pipeline.ValueKit

@[expose] public section

noncomputable section

namespace Cert.Proof.Taps

open Idealize.ShloMosaic

/-- The entry `s` rows before row `t`, zero before the first row, -/
def tap (x : Fin 8192 → EReal) (s : ℕ) (t : Fin 8192) : EReal :=
  if h : s ≤ t.val then x ⟨t.val - s, by have := t.isLt; omega⟩ else 0

/-- and the sum of the four rows' entries, each times its weight. -/
def conv (x : Fin 8192 → EReal) (w : Fin 4 → EReal) (t : Fin 8192) : EReal :=
  tap x 3 t * w 0 + tap x 2 t * w 1 + tap x 1 t * w 2 + tap x 0 t * w 3

theorem tap_zero (x : Fin 8192 → EReal) (t : Fin 8192) : tap x 0 t = x t := dif_pos (Nat.zero_le _)

/-- The sum in the kernels' order. -/
theorem conv_last (x : Fin 8192 → EReal) (w : Fin 4 → EReal) (t : Fin 8192) :
    x t * w 3 + tap x 3 t * w 0 + tap x 2 t * w 1 + tap x 1 t * w 2 = conv x w t := by
  unfold conv
  rw [tap_zero, add_comm _ (x t * w 3), ← add_assoc, ← add_assoc]

/-- The entry `s` rows after row `t`, zero after the last row, -/
def next (x : Fin 8192 → EReal) (s : ℕ) (t : Fin 8192) : EReal :=
  if h : t.val + s < 8192 then x ⟨t.val + s, h⟩ else 0

/-- and the sum of the four rows' entries, each times its weight. -/
def vnoc (x : Fin 8192 → EReal) (w : Fin 4 → EReal) (t : Fin 8192) : EReal :=
  next x 0 t * w 3 + next x 3 t * w 0 + next x 2 t * w 1 + next x 1 t * w 2

section Blocks

variable {α : Type} {n : ℕ}

/-- The entries `s` rows before, of a block of 512 rows and the 16 rows before it. -/
def back (s : ℕ) (p : (⟨2, ![16, n]⟩ : Shape).Idx → α) (x : (⟨2, ![512, n]⟩ : Shape).Idx → α)
    (i : (⟨2, ![512, n]⟩ : Shape).Idx) : α :=
  if s ≤ (i 0).val then x (ix2 ⟨(i 0).val - s, by have : (i 0).val < 512 := (i 0).isLt; omega⟩ (i 1))
  else p (ix2 ⟨(16 + (i 0).val - s) % 16, Nat.mod_lt _ (by decide)⟩ (i 1))

theorem rolled (sb : BitVec 32) (s : ℕ) (hs : sb.toNat = s) (h16 : s ≤ 16) (p : (⟨2, ![16, n]⟩ : Shape).Idx → α)
    (x : (⟨2, ![512, n]⟩ : Shape).Idx → α) (hc) (hr) (hl) :
    extractStridedSlice ⟨2, ![512, n]⟩ ![16, 0]
      (dynamicRotate 0 sb none (concatenate ⟨2, ![528, n]⟩ 0 [⟨⟨2, ![16, n]⟩, p⟩, ⟨⟨2, ![512, n]⟩, x⟩] hc) hr) hl = back s p x := by
  funext i
  obtain ⟨r, l, rfl⟩ : ∃ (r : Fin 512) (l : Fin n), i = ix2 r l := ⟨i 0, i 1, eq_ix2 i⟩
  have hr' : r.val < 512 := r.isLt
  rw [extractStridedSlice_apply ![16, 0] _ hl (ix2 r l) (ix2 (⟨16 + r.val, by omega⟩ : Fin 528) l) (by
    intro a; fin_cases a <;> simp [ix2]),
    dynamicRotate_apply (0 : Fin 2) sb _ hr _ (ix2 (⟨16 + r.val - s, by omega⟩ : Fin 528) l) (by
      intro b
      match b with
      | ⟨0, _⟩ =>
        refine Eq.trans ?_ (if_pos rfl).symm
        rw [hs]
        show 16 + r.val - s = (16 + r.val + 528 - s % 528) % 528
        omega
      | ⟨1, _⟩ => rw [if_neg (fun h => absurd (congrArg Fin.val h) Nat.one_ne_zero)]; rfl)]
  unfold back
  split
  · next h =>
    have h' : s ≤ r.val := h
    exact concatenate_pair_apply_right (t := ⟨2, ![528, n]⟩) (s₁ := ⟨2, ![16, n]⟩) (s₂ := ⟨2, ![512, n]⟩) 0 _ _ _ _ rfl rfl _
      (fun c hc => match c with
        | ⟨0, _⟩ => absurd rfl hc
        | ⟨1, _⟩ => rfl) (by show r.val - s + 16 = 16 + r.val - s; omega)
  · next h =>
    have h' : ¬s ≤ r.val := h
    exact concatenate_pair_apply_left (t := ⟨2, ![528, n]⟩) (s₁ := ⟨2, ![16, n]⟩) (s₂ := ⟨2, ![512, n]⟩) 0 _ _ _ _ rfl _
      (fun c => match c with
        | ⟨0, _⟩ => (by show (16 + r.val - s) % 16 = 16 + r.val - s; omega)
        | ⟨1, _⟩ => rfl)

/-- The entries `s` rows after, of a block of 1024 rows and the 8 rows after it. -/
def ahead (s : ℕ) (x : (⟨2, ![1024, n]⟩ : Shape).Idx → α) (p : (⟨2, ![8, n]⟩ : Shape).Idx → α)
    (i : (⟨2, ![1024, n]⟩ : Shape).Idx) : α :=
  if h : (i 0).val + s < 1024 then x (ix2 ⟨(i 0).val + s, h⟩ (i 1))
  else p (ix2 ⟨((i 0).val + s - 1024) % 8, Nat.mod_lt _ (by decide)⟩ (i 1))

theorem turned (sb : BitVec 32) (s : ℕ) (hs : sb.toNat = 1032 - s) (h1 : 1 ≤ s) (h8 : s ≤ 8) (x : (⟨2, ![1024, n]⟩ : Shape).Idx → α)
    (p : (⟨2, ![8, n]⟩ : Shape).Idx → α) (hc) (hr) (hl) :
    extractStridedSlice ⟨2, ![1024, n]⟩ ![0, 0]
      (dynamicRotate 0 sb none (concatenate ⟨2, ![1032, n]⟩ 0 [⟨⟨2, ![1024, n]⟩, x⟩, ⟨⟨2, ![8, n]⟩, p⟩] hc) hr) hl = ahead s x p := by
  funext i
  obtain ⟨r, l, rfl⟩ : ∃ (r : Fin 1024) (l : Fin n), i = ix2 r l := ⟨i 0, i 1, eq_ix2 i⟩
  have hr' : r.val < 1024 := r.isLt
  rw [extractStridedSlice_apply ![0, 0] _ hl (ix2 r l) (ix2 (⟨r.val, by omega⟩ : Fin 1032) l) (by
    intro a; fin_cases a <;> simp [ix2]),
    dynamicRotate_apply (0 : Fin 2) sb _ hr _ (ix2 (⟨(r.val + s) % 1032, Nat.mod_lt _ (by decide)⟩ : Fin 1032) l) (by
      intro b
      match b with
      | ⟨0, _⟩ =>
        refine Eq.trans ?_ (if_pos rfl).symm
        rw [hs]
        show (r.val + s) % 1032 = (r.val + 1032 - (1032 - s) % 1032) % 1032
        omega
      | ⟨1, _⟩ => rw [if_neg (fun h => absurd (congrArg Fin.val h) Nat.one_ne_zero)]; rfl)]
  unfold ahead
  split
  · next h =>
    have h' : r.val + s < 1024 := h
    exact concatenate_pair_apply_left (t := ⟨2, ![1032, n]⟩) (s₁ := ⟨2, ![1024, n]⟩) (s₂ := ⟨2, ![8, n]⟩) 0 _ _ _ _ rfl _
      (fun c => match c with
        | ⟨0, _⟩ => (by show r.val + s = (r.val + s) % 1032; omega)
        | ⟨1, _⟩ => rfl)
  · next h =>
    have h' : ¬r.val + s < 1024 := h
    exact concatenate_pair_apply_right (t := ⟨2, ![1032, n]⟩) (s₁ := ⟨2, ![1024, n]⟩) (s₂ := ⟨2, ![8, n]⟩) 0 _ _ _ _ rfl rfl _
      (fun c hc => match c with
        | ⟨0, _⟩ => absurd rfl hc
        | ⟨1, _⟩ => rfl) (by show (r.val + s - 1024) % 8 + 1024 = (r.val + s) % 1032; omega)

/-- Row `r` of block `b`, of blocks of 512 rows and of 1024. -/
def row (b : ℕ) (r : Fin 512) : Fin 8192 := ⟨b % 16 * 512 + r.val, by have := r.isLt; omega⟩
def wide (b : ℕ) (r : Fin 1024) : Fin 8192 := ⟨b % 8 * 1024 + r.val, by have := r.isLt; omega⟩

/-- A block's entries `s` rows before are the array's. -/
theorem back_tap (X : Fin 8192 → EReal) (b : ℕ) (hb : b < 16) (s : ℕ) (h16 : s ≤ 16) (p : (⟨2, ![16, n]⟩ : Shape).Idx → EReal)
    (x : (⟨2, ![512, n]⟩ : Shape).Idx → EReal) (l : Fin n) (hx : ∀ r, x (ix2 r l) = X (row b r)) (h0 : b = 0 → ∀ q, p (ix2 q l) = 0)
    (hp : 0 < b → ∀ q : Fin 16, p (ix2 q l) = X ⟨(b * 512 - 16 + q.val) % 8192, Nat.mod_lt _ (by decide)⟩) (r : Fin 512) :
    back s p x (ix2 r l) = tap X s (row b r) := by
  have hr : r.val < 512 := r.isLt
  unfold back tap
  split
  · next h =>
    have h' : s ≤ r.val := h
    rw [dif_pos (by show s ≤ b % 16 * 512 + r.val; omega)]
    exact (hx _).trans (congrArg X (Fin.ext (by show b % 16 * 512 + (r.val - s) = b % 16 * 512 + r.val - s; omega)))
  · next h =>
    have h' : ¬s ≤ r.val := h
    rcases Nat.eq_zero_or_pos b with hz | hz
    · rw [dif_neg (by show ¬s ≤ b % 16 * 512 + r.val; omega)]
      exact h0 hz _
    · rw [dif_pos (by show s ≤ b % 16 * 512 + r.val; omega)]
      exact (hp hz _).trans (congrArg X (Fin.ext (by
        show (b * 512 - 16 + (16 + r.val - s) % 16) % 8192 = b % 16 * 512 + r.val - s
        omega)))

/-- A block's entries `s` rows after are the array's. -/
theorem ahead_next (X : Fin 8192 → EReal) (b : ℕ) (hb : b < 8) (s : ℕ) (h8 : s ≤ 8) (p : (⟨2, ![8, n]⟩ : Shape).Idx → EReal)
    (x : (⟨2, ![1024, n]⟩ : Shape).Idx → EReal) (l : Fin n) (hx : ∀ r, x (ix2 r l) = X (wide b r)) (h7 : b = 7 → ∀ q, p (ix2 q l) = 0)
    (hp : b < 7 → ∀ q : Fin 8, p (ix2 q l) = X ⟨((b + 1) * 1024 + q.val) % 8192, Nat.mod_lt _ (by decide)⟩) (r : Fin 1024) :
    ahead s x p (ix2 r l) = next X s (wide b r) := by
  have hr : r.val < 1024 := r.isLt
  unfold ahead next
  split
  · next h =>
    have h' : r.val + s < 1024 := h
    rw [dif_pos (by show b % 8 * 1024 + r.val + s < 8192; omega)]
    exact (hx _).trans (congrArg X (Fin.ext (by show b % 8 * 1024 + (r.val + s) = b % 8 * 1024 + r.val + s; omega)))
  · next h =>
    have h' : ¬r.val + s < 1024 := h
    rcases Nat.lt_or_ge b 7 with hz | hz
    · rw [dif_pos (by show b % 8 * 1024 + r.val + s < 8192; omega)]
      exact (hp hz _).trans (congrArg X (Fin.ext (by
        show ((b + 1) * 1024 + (r.val + s - 1024) % 8) % 8192 = b % 8 * 1024 + r.val + s
        omega)))
    · rw [dif_neg (by show ¬b % 8 * 1024 + r.val + s < 8192; omega)]
      exact h7 (by omega) _

/-- An index from its two coordinates. -/
theorem at2 {a b : ℕ} (j : (⟨2, ![a, b]⟩ : Shape).Idx) (k : Fin a) (l : Fin b) (h0 : (j 0).val = k.val) (h1 : (j 1).val = l.val) :
    j = ix2 k l :=
  funext fun c => Fin.ext (match c with
    | ⟨0, _⟩ => h0
    | ⟨1, _⟩ => h1)

/-- One row of an array of four rows, -/
def line (k : Fin 4) (x : (⟨2, ![4, n]⟩ : Shape).Idx → α) (i : (⟨2, ![1, n]⟩ : Shape).Idx) : α := x (ix2 k (i 1))

/-- as a load reads it. -/
theorem ld_line {Val : EltTy → Type} {e : EltTy} (o : ℕ) (k : Fin 4) (ho : o = k.val) (inb) (x : (⟨2, ![4, n]⟩ : Shape).Idx → Val e) :
    View.ld x (Rect.unit (s := ⟨2, ![4, n]⟩) ![o, 0] ![1, n] inb) = line k x := by
  subst ho
  funext i
  refine congrArg x (funext fun a => Fin.ext ?_)
  rw [Rect.idx_unit_val]
  match a with
  | ⟨0, _⟩ =>
    have h : (i 0).val < 1 := (i 0).isLt
    show k.val + (i 0).val = k.val
    omega
  | ⟨1, _⟩ => exact Nat.zero_add _

/-- An array below three rows of zeros, read `k` rows on: the entries `3 - k` rows before. -/
theorem shifted (k : ℕ) (hk : k ≤ 3) (z : (⟨2, ![3, n]⟩ : Shape).Idx → EReal) (hz : ∀ i, z i = 0)
    (x : (⟨2, ![8192, n]⟩ : Shape).Idx → EReal) (hc) (t : Fin 8192) (l : Fin n) (j : (⟨2, ![8195, n]⟩ : Shape).Idx)
    (h0 : (j 0).val = t.val + k) (h1 : (j 1).val = l.val) :
    concatenate ⟨2, ![8195, n]⟩ 0 [⟨⟨2, ![3, n]⟩, z⟩, ⟨⟨2, ![8192, n]⟩, x⟩] hc j = tap (fun t => x (ix2 t l)) (3 - k) t := by
  have ht := t.isLt
  unfold tap
  split
  · next h =>
    exact concatenate_pair_apply_right (t := ⟨2, ![8195, n]⟩) (s₁ := ⟨2, ![3, n]⟩) (s₂ := ⟨2, ![8192, n]⟩) 0 _ _ _ _ rfl rfl _
      (fun c hc => match c with
        | ⟨0, _⟩ => absurd rfl hc
        | ⟨1, _⟩ => h1.symm) (by show t.val - (3 - k) + 3 = (j 0).val; omega)
  · next h =>
    exact (concatenate_pair_apply_left (t := ⟨2, ![8195, n]⟩) (s₁ := ⟨2, ![3, n]⟩) (s₂ := ⟨2, ![8192, n]⟩) 0 _ _ _ _ rfl
      (ix2 (⟨t.val + k, by omega⟩ : Fin 3) l)
      (fun c => match c with
        | ⟨0, _⟩ => h0.symm
        | ⟨1, _⟩ => h1.symm)).trans (hz _)

/-- The four products added up in the other order. -/
theorem vnoc_up (x : Fin 8192 → EReal) (w : Fin 4 → EReal) (t : Fin 8192) :
    next x 0 t * w 3 + next x 1 t * w 2 + next x 2 t * w 1 + next x 3 t * w 0 = vnoc x w t := by
  unfold vnoc
  rw [add_right_comm _ _ (next x 3 t * w 0), add_right_comm (next x 0 t * w 3) _ (next x 3 t * w 0),
    add_right_comm _ (next x 1 t * w 2)]

theorem next_zero (x : Fin 8192 → EReal) (t : Fin 8192) : next x 0 t = x t := dif_pos t.isLt

theorem next_mul (x : Fin 8192 → EReal) (a : EReal) (s : ℕ) (t : Fin 8192) : next (fun t => x t * a) s t = next x s t * a := by
  unfold next
  split
  · rfl
  · exact (zero_mul a).symm

/-- An array between `lo` rows of zeros and `s` more, read three rows on: the entries `s` rows after. -/
theorem padded (lo s : ℕ) (hs : s + lo = 3) (x : (⟨2, ![8192, n]⟩ : Shape).Idx → EReal) {u : Shape} (z : u.Idx → EReal)
    (hz : ∀ i, z i = 0) (h) (hu) (t : Fin 8192) (l : Fin n) (j : (⟨2, ![8195, n]⟩ : Shape).Idx) (h0 : (j 0).val = 3 + t.val)
    (h1 : (j 1).val = l.val) :
    pad ⟨2, ![8195, n]⟩ ![lo, 0] ![s, 0] ![0, 0] x z h hu j = next (fun t => x (ix2 t l)) s t := by
  have ht := t.isLt
  unfold next
  split
  · next hi =>
    exact pad_apply_of_inside (s := ⟨2, ![8192, n]⟩) _ _ _ x z h hu j (ix2 ⟨t.val + s, hi⟩ l) (fun a => match a with
      | ⟨0, _⟩ => (by show (j 0).val = lo + (t.val + s) * 1; omega)
      | ⟨1, _⟩ => (by show (j 1).val = 0 + l.val * 1; omega))
  · next hi =>
    refine (pad_apply_of_not_inside (s := ⟨2, ![8192, n]⟩) _ _ _ x z h hu j 0 (fun hin => hi ?_)).trans (hz _)
    have h2 : ((j 0).val - lo) / 1 < 8192 := hin.2.2
    rw [Nat.div_one] at h2
    omega

end Blocks

end Cert.Proof.Taps

end
-- ==== Proof.TapsV.lean ====
/-
  The convolution of the gated delta rule's values, with the gate on its sum: the kernel's, on blocks of 512 rows below
  the last rows of the block before, and the reference's, on the whole array below rows of zeros, are one.
-/
module

public import proofs.«01_k».proof.Proof.Taps
public import proofs.«01_k».proof.Proof.Gen.ConvVIdeal.Value
public import proofs.«01_k».proof.Proof.Gen.ConvVRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.TapsV

open Idealize.ShloMosaic Idealize.ShloMosaic.TcCoe Idealize.ShloMosaic.Pipeline Idealize.SL.Sem Cert.ConvVIdeal Cert.ConvVIdeal.Gen
open Cert.Proof.Taps Cert.Proof.Gate

theorem hz : (![0, 0] : Fin 2 → Nat) = fun _ => 0 := funext fun a => by fin_cases a <;> rfl

section Body

variable (i : grid0.Coords) (x : Vec Ideal S512x1024 .bf16) (p : Vec Ideal S16x1024 .bf16) (w : Vec Ideal S4x1024 .f32)

/-- The rows above a block: zeros above the first. -/
def above : S16x1024.Idx → EReal :=
  Scalar.select (Scalar.cmpi .sgt (BitVec.ofNat 32 (i 0).val) 0#32) p fun _ => 0

theorem text (r : Fin 512) (l : Fin 1024) :
    k0_pay1 i x p (line (α := EReal) 3 w) (line (α := EReal) 0 w) (line (α := EReal) 1 w) (line (α := EReal) 2 w) (ix2 r l) =
    gate (x (ix2 r l) * w (ix2 3 l) + back 3 (above i p) x (ix2 r l) * w (ix2 0 l) + back 2 (above i p) x (ix2 r l) * w (ix2 1 l)
      + back 1 (above i p) x (ix2 r l) * w (ix2 2 l)) := by
  have e : (Scalar.select (Scalar.cmpi .sgt (BitVec.ofNat 32 (i 0).val) 0#32) (extf .f32 p bitsLt_bf16_f32)
      (broadcast S16x1024 (Scalar.ofBits .f32 0x00000000#32)) : FVec Ideal S16x1024 .f32) = above i p := by
    unfold above
    exact congrArg _ (funext fun _ => Rows.ofBits_zero)
  unfold k0_pay1
  dsimp only
  rw [e, rolled 3#32 3 rfl (by decide), rolled 2#32 2 rfl (by decide), rolled 1#32 1 rfl (by decide)]
  unfold gate
  pointwise
  rfl

variable (c : Dev nD) (a2 : Memref sig .tc .vmem S512x1024 .bf16) (h2 : a2.IsWhole)
  (a3 : Memref sig .tc .vmem S16x1024 .bf16) (h3 : a3.IsWhole) (a4 : Memref sig .tc .vmem S4x1024 .f32) (h4 : a4.IsWhole)
  (a5 : Memref sig .tc .vmem S512x1024 .f32) (h5 : a5.IsWhole)

/-- What a point leaves in its block. -/
theorem block (r : Fin 512) (l : Fin 1024) : out0_A_3 c i a2 h2 a3 h3 a4 h4 a5 h5 x p w (ix2 r l) =
    gate (x (ix2 r l) * w (ix2 3 l) + back 3 (above i p) x (ix2 r l) * w (ix2 0 l) + back 2 (above i p) x (ix2 r l) * w (ix2 1 l)
      + back 1 (above i p) x (ix2 r l) * w (ix2 2 l)) := by
  unfold out0_A_3
  rw [View.read_writes_eq_canon _ _ _ (cover0_A_3 c i a2 h2 a3 h3 a4 h4 a5 h5 x p w)]
  unfold kernelRun0_A
  dsimp only
  sl_unfold_words
  simp only [View.readAt_eq_ld, h2.read_unread, h3.read_unread, h4.read_unread, View.ld_unit_zero (S := S512x1024) hz,
    View.ld_unit_zero (S := S16x1024) hz, View.canon_unit_zero (S := S512x1024) hz, ld_line (n := 1024) 3 3 rfl,
    ld_line (n := 1024) 0 0 rfl, ld_line (n := 1024) 1 1 rfl, ld_line (n := 1024) 2 2 rfl]
  exact text i x p w r l

end Body

variable (m : (b : Loc nD τ sig) → Buf (Elt Ideal) b) (c : Dev nD)

/-- The values' columns of the input projection. -/
def into (l : Fin 1024) : Fin 6656 := ⟨2048 + l.val, by have := l.isLt; omega⟩

/-- The two arguments: a column, and its four weights. -/
abbrev input (l : Fin 1024) (t : Fin 8192) : EReal := m ((c : Thread nD τ).loc main_arg0) (ix2 t (into l))
abbrev taps (l : Fin 1024) (k : Fin 4) : EReal := m ((c : Thread nD τ).loc main_arg1) (ix2 k l)

theorem point : ∀ t : Fin cfg0.N, (grid0.coords t 0).val = t.val % 16 := (by decide +kernel : ∀ t : Fin grid0.N, _)
theorem idx0 : ∀ t : Fin cfg0.N, win0_0.index t = ![t.val % 16, 2] := (by decide +kernel : ∀ t : Fin grid0.N, _)
theorem idx1 : ∀ t : Fin cfg0.N, win0_1.index t = ![t.val % 16 * 32 - 1, 2] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val % 16, 0] := (by decide +kernel : ∀ t : Fin grid0.N, _)

abbrev in0 (t : Fin cfg0.N) : Vec Ideal S512x1024 .bf16 := X0_0 m c t
abbrev in1 (t : Fin cfg0.N) : Vec Ideal S16x1024 .bf16 := X0_1 m c t
abbrev in2 (t : Fin cfg0.N) : Vec Ideal S4x1024 .f32 := iblk m c 2 t

theorem blk0 (t : Fin cfg0.N) (r : Fin 512) (l : Fin 1024) : in0 m c t (ix2 r l) = input m c l (row (t.val % 16) r) := by
  unfold in0 X0_0 Pipeline.Window.fill
  rw [dif_pos (moved0_0 t (ix2 r l))]
  blk_simp [iblk]
  rw [V_main_arg0]
  refine congrArg _ (funext fun a => Fin.ext ?_)
  match a with
  | ⟨0, _⟩ => blk_simp [idx0]; simp [row]
  | ⟨1, _⟩ => blk_simp [idx0]; rfl

theorem blk1 (t : Fin cfg0.N) (h : 0 < t.val % 16) (q : Fin 16) (l : Fin 1024) : in1 m c t (ix2 q l) =
    input m c l ⟨(t.val % 16 * 512 - 16 + q.val) % 8192, Nat.mod_lt _ (by decide)⟩ := by
  unfold in1 X0_1 Pipeline.Window.fill
  rw [dif_pos (moved0_1 t (ix2 q l))]
  blk_simp [iblk]
  rw [V_main_arg0]
  refine congrArg _ (funext fun a => Fin.ext ?_)
  have hq := q.isLt
  match a with
  | ⟨0, _⟩ =>
    blk_simp [idx1]
    show (t.val % 16 * 32 - 1) * 16 + q.val = (t.val % 16 * 512 - 16 + q.val) % 8192
    omega
  | ⟨1, _⟩ => blk_simp [idx1]; rfl

theorem blk2 (t : Fin cfg0.N) (k : Fin 4) (l : Fin 1024) : in2 m c t (ix2 k l) = taps m c l k := by
  blk_simp [in2, iblk]
  rw [V_main_arg1]
  refine congrArg _ (funext fun a => Fin.ext ?_)
  match a with
  | ⟨0, _⟩ => blk_simp [idx2]
  | ⟨1, _⟩ => blk_simp [idx2]

/-- The rows above, zeros in the first block, -/
theorem above_first (t : Fin cfg0.N) (h : t.val % 16 = 0) (q : Fin 16) (l : Fin 1024) : above (grid0.coords t) (in1 m c t) (ix2 q l) = 0 := by
  unfold above
  rw [point, h]
  rfl

/-- and the array's in the others, -/
theorem above_next (t : Fin cfg0.N) (h : 0 < t.val % 16) (q : Fin 16) (l : Fin 1024) : above (grid0.coords t) (in1 m c t) (ix2 q l) =
    input m c l ⟨(t.val % 16 * 512 - 16 + q.val) % 8192, Nat.mod_lt _ (by decide)⟩ := by
  have e : Scalar.cmpi .sgt (BitVec.ofNat 32 (t.val % 16)) 0#32 = 1#1 :=
    (by decide : ∀ n : Fin 16, 0 < n.val → Scalar.cmpi .sgt (BitVec.ofNat 32 n.val) 0#32 = 1#1) ⟨t.val % 16, Nat.mod_lt _ (by decide)⟩ h
  unfold above
  rw [point, e]
  exact blk1 m c t h q l

/-- so that the entries before an entry of a block are the array's. -/
theorem before (t : Fin cfg0.N) (s : ℕ) (hs : s ≤ 16) (r : Fin 512) (l : Fin 1024) :
    back s (above (grid0.coords t) (in1 m c t)) (in0 m c t) (ix2 r l) = tap (input m c l) s (row (t.val % 16) r) :=
  back_tap _ _ (Nat.mod_lt _ (by decide)) s hs _ _ l (fun r => blk0 m c t r l) (fun h q => above_first m c t h q l)
    (fun h q => above_next m c t h q l) r

/-- The result. -/
def Q : (⟨2, ![8192, 1024]⟩ : Shape).Idx → EReal := fun i => gate (conv (input m c (i 1)) (taps m c (i 1)) (i 0))

theorem out (t : Fin cfg0.N) (r : Fin 512) (l : Fin 1024) : outsAt0 m c t (ix2 r l) = Q m c (ix2 (row (t.val % 16) r) l) := by
  unfold outsAt0
  rw [block, before m c t 3 (by decide), before m c t 2 (by decide), before m c t 1 (by decide)]
  simp only [blk0, blk2]
  rw [conv_last]
  rfl

theorem final : (dats m 0 c).arrAt 3 cfg0.N = Q m c := by
  refine (dats m 0 c).arrAt_eq_of_covers 3 _ (by decide +kernel) fun t _ y => ?_
  blk_simp
  rw [after0_3, eq_ix2 y]
  refine (out m c t (y 0) (y 1)).trans (congrArg (Q m c) (funext fun a => Fin.ext ?_ : ix2 (row (t.val % 16) (y 0)) (y 1) = _))
  match a with
  | ⟨0, _⟩ => blk_simp [idx3]; simp [row]
  | ⟨1, _⟩ => blk_simp [idx3]

/-- The run: the result, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = Q m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

section Reference

open ConvVRefIdeal.Read

variable (x0 : S8192x6656.Idx → EReal) (x1 : S4x1024.Idx → EReal)

/-- The reference's array below the rows of zeros, read `k` rows on, -/
theorem ref_tap (k : ℕ) (hk : k ≤ 3) (t : Fin 8192) (l : Fin 1024) (j : (⟨2, ![8195, 1024]⟩ : Shape).Idx)
    (h0 : (j 0).val = t.val + k) (h1 : (j 1).val = l.val) :
    val_main_v3 (F := Ideal) x0 j = tap (fun t => x0 (ix2 t (into l))) (3 - k) t := by
  unfold val_main_v3
  refine (shifted k hk _ (fun i => ?_) _ _ t l j h0 h1).trans (congrArg (tap · _ t) (funext fun t => ?_))
  · rw [val_main_v1_apply, val_main_cst_apply]
    exact Rows.ofBits_zero
  · rw [val_main_v2_apply, val_main_v0_apply, eq_ix2 (idx_main_v0 _)]
    rfl

/-- the sum of the four, -/
theorem ref_conv (t : Fin 8192) (l : Fin 1024) :
    val_main_v32 (F := Ideal) x0 x1 (ix2 t l) = conv (fun t => x0 (ix2 t (into l))) (fun k => x1 (ix2 k l)) t := by
  rw [val_main_v32_apply, val_main_v25_apply, val_main_v18_apply, val_main_v11_apply, val_main_v10_apply, val_main_cst_0_apply,
    val_main_v9_apply, val_main_v17_apply, val_main_v24_apply, val_main_v31_apply, val_main_v4_apply, val_main_v12_apply,
    val_main_v19_apply, val_main_v26_apply, ref_tap x0 0 (by decide) t l _ rfl rfl,
    ref_tap x0 1 (by decide) t l _ (Nat.add_comm _ _) rfl,
    ref_tap x0 2 (by decide) t l _ (Nat.add_comm _ _) rfl,
    ref_tap x0 3 (by decide) t l _ (Nat.add_comm _ _) rfl,
    val_main_v8_apply, val_main_v7_apply, val_main_v6_apply, val_main_v5_apply, at2 (idx_main_v5 _) 0 l rfl (Nat.mod_eq_of_lt l.isLt),
    val_main_v16_apply, val_main_v15_apply, val_main_v14_apply, val_main_v13_apply, at2 (idx_main_v13 _) 1 l rfl (Nat.mod_eq_of_lt l.isLt),
    val_main_v23_apply, val_main_v22_apply, val_main_v21_apply, val_main_v20_apply, at2 (idx_main_v20 _) 2 l rfl (Nat.mod_eq_of_lt l.isLt),
    val_main_v30_apply, val_main_v29_apply, val_main_v28_apply, val_main_v27_apply, at2 (idx_main_v27 _) 3 l rfl (Nat.mod_eq_of_lt l.isLt)]
  show Ideal.ofBits .f32 0x00000000#32 + _ + _ + _ + _ = _
  rw [Rows.ofBits_zero, zero_add]
  rfl

/-- and the result. -/
theorem reference : val_main_v33 (F := Ideal) x0 x1 = fun i => gate (conv (fun t => x0 (ix2 t (into (i 1)))) (fun k => x1 (ix2 k (i 1))) (i 0)) := by
  funext i
  obtain ⟨t, l, rfl⟩ : ∃ (t : Fin 8192) (l : Fin 1024), i = ix2 t l := ⟨i 0, i 1, eq_ix2 i⟩
  rw [val_main_v33_apply, val_main_call0_v5_apply, val_main_call0_v4_apply, val_main_call0_v3_apply, val_main_call0_v2_apply,
    val_main_call0_v1_apply, val_main_call0_v0_apply, val_main_call0_cst_apply, val_main_call0_cst_0_apply, ref_conv]
  show _ * Ideal.div (Ideal.ofBits .f32 0x3F800000#32) (Ideal.ofBits .f32 0x3F800000#32 + Ideal.exp (-_)) = _
  rw [Rows.ofBits_one, gate, sigmoid]
  rfl

end Reference

end Cert.Proof.TapsV

end
-- ==== Proof.TapsX.lean ====
/-
  The state space mixer's convolution, with its offset and the gate on the sum: the kernel's, on blocks of 512 rows and
  512 columns below the last rows of the block before, and the reference's, on the whole array below rows of zeros, are one.
-/
module

public import proofs.«01_k».proof.Proof.Taps
public import proofs.«01_k».proof.Proof.Gen.ConvXIdeal.Value
public import proofs.«01_k».proof.Proof.Gen.ConvXRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.TapsX

open Idealize.ShloMosaic Idealize.ShloMosaic.TcCoe Idealize.ShloMosaic.Pipeline Idealize.SL.Sem Cert.ConvXIdeal Cert.ConvXIdeal.Gen
open Cert.Proof.Taps Cert.Proof.Gate

theorem hz : (![0, 0] : Fin 2 → Nat) = fun _ => 0 := funext fun a => by fin_cases a <;> rfl

section Body

variable (i : grid0.Coords) (x : Vec Ideal S512x512 .bf16) (p : Vec Ideal S16x512 .bf16) (w : Vec Ideal S4x512 .f32)

/-- The rows above a block: zeros above the first. -/
def above : S16x512.Idx → EReal :=
  Scalar.select (Scalar.cmpi .sgt (BitVec.ofNat 32 (i 0).val) 0#32) p fun _ => 0

theorem sums (o : Vec Ideal S1x512 .f32) (r : Fin 512) (l : Fin 512) :
    k0_pay2 i x p (line (α := EReal) 3 w) (line (α := EReal) 0 w) (line (α := EReal) 1 w) (line (α := EReal) 2 w) o (ix2 r l) =
    x (ix2 r l) * w (ix2 3 l) + back 3 (above i p) x (ix2 r l) * w (ix2 0 l) + back 2 (above i p) x (ix2 r l) * w (ix2 1 l)
      + back 1 (above i p) x (ix2 r l) * w (ix2 2 l) + o (ix2 0 l) := by
  have e : (Scalar.select (Scalar.cmpi .sgt (BitVec.ofNat 32 (i 0).val) 0#32) (extf .f32 p bitsLt_bf16_f32)
      (broadcast S16x512 (Scalar.ofBits .f32 0x00000000#32)) : FVec Ideal S16x512 .f32) = above i p := by
    unfold above
    exact congrArg _ (funext fun _ => Rows.ofBits_zero)
  unfold k0_pay2
  dsimp only
  rw [e, rolled 3#32 3 rfl (by decide), rolled 2#32 2 rfl (by decide), rolled 1#32 1 rfl (by decide)]
  pointwise
  rfl

/-- What a point leaves in its block. -/
theorem block (o : Vec Ideal S1x512 .f32) (r : Fin 512) (l : Fin 512) : out0_4 i x p w o (ix2 r l) =
    gate (x (ix2 r l) * w (ix2 3 l) + back 3 (above i p) x (ix2 r l) * w (ix2 0 l) + back 2 (above i p) x (ix2 r l) * w (ix2 1 l)
      + back 1 (above i p) x (ix2 r l) * w (ix2 2 l) + o (ix2 0 l)) := by
  unfold out0_4
  simp only [View.ld_unit_zero (S := S512x512) hz, View.ld_unit_zero (S := S16x512) hz, View.ld_unit_zero (S := S1x512) hz,
    View.canon_unit_zero (S := S512x512) hz, ld_line (n := 512) 3 3 rfl, ld_line (n := 512) 0 0 rfl, ld_line (n := 512) 1 1 rfl,
    ld_line (n := 512) 2 2 rfl]
  unfold k0_pay1 k0_pay3 k0_pay4 gate
  pointwise
  rw [sums]

end Body

variable (m : (b : Loc nD τ sig) → Buf (Elt Ideal) b) (c : Dev nD)

/-- The mixer's columns of the input projection, and the columns of a block. -/
def into (l : Fin 1536) : Fin 6656 := ⟨5120 + l.val, by have := l.isLt; omega⟩
def place (n : ℕ) (l : Fin 512) : Fin 1536 := ⟨n % 3 * 512 + l.val, by have := l.isLt; omega⟩

/-- The arguments: a column, its four weights and its offset. -/
abbrev input (l : Fin 1536) (t : Fin 8192) : EReal := m ((c : Thread nD τ).loc main_arg0) (ix2 t (into l))
abbrev taps (l : Fin 1536) (k : Fin 4) : EReal := m ((c : Thread nD τ).loc main_arg1) (ix2 k l)
abbrev offset (l : Fin 1536) : EReal := m ((c : Thread nD τ).loc main_arg2) (ix1 l)

theorem reshaped (l : Fin 1536) : V m c main_v0 (ix2 0 l) = offset m c l := by
  have e : V m c main_v0 = (shapeCast S1x1536 (m ((c : Thread nD τ).loc main_arg2) : FVec Ideal S1536 .f32)
      shapeCasts_S1536_S1x1536 : FVec Ideal S1x1536 .f32) := by
    unfold V
    simp only [hostOps0, List.flatten_cons, List.flatten_nil, List.append_nil, List.cons_append, List.nil_append]
    after_results
    rfl
  rw [e]
  pointwise

theorem point : ∀ t : Fin cfg0.N, (grid0.coords t 0).val = t.val / 3 % 16 := (by decide +kernel : ∀ t : Fin grid0.N, _)
theorem idx0 : ∀ t : Fin cfg0.N, win0_0.index t = ![t.val / 3 % 16, 10 + t.val % 3] := (by decide +kernel : ∀ t : Fin grid0.N, _)
theorem idx1 : ∀ t : Fin cfg0.N, win0_1.index t = ![t.val / 3 % 16 * 32 - 1, 10 + t.val % 3] := (by decide +kernel : ∀ t : Fin grid0.N, _)
theorem idx2 : ∀ t : Fin cfg0.N, win0_2.index t = ![0, t.val % 3] := (by decide +kernel : ∀ t : Fin grid0.N, _)
theorem idx3 : ∀ t : Fin cfg0.N, win0_3.index t = ![0, t.val % 3] := (by decide +kernel : ∀ t : Fin grid0.N, _)
theorem idx4 : ∀ t : Fin cfg0.N, win0_4.index t = ![t.val / 3 % 16, t.val % 3] := (by decide +kernel : ∀ t : Fin grid0.N, _)

abbrev in0 (t : Fin cfg0.N) : Vec Ideal S512x512 .bf16 := iblk m c 0 t
abbrev in1 (t : Fin cfg0.N) : Vec Ideal S16x512 .bf16 := iblk m c 1 t
abbrev in2 (t : Fin cfg0.N) : Vec Ideal S4x512 .f32 := iblk m c 2 t
abbrev in3 (t : Fin cfg0.N) : Vec Ideal S1x512 .f32 := iblk m c 3 t

theorem blk0 (t : Fin cfg0.N) (r : Fin 512) (l : Fin 512) : in0 m c t (ix2 r l) = input m c (place t.val l) (row (t.val / 3 % 16) r) := by
  blk_simp [in0, iblk]
  rw [V_main_arg0]
  refine congrArg _ (funext fun a => Fin.ext ?_)
  match a with
  | ⟨0, _⟩ => blk_simp [idx0]; simp [row]
  | ⟨1, _⟩ =>
    blk_simp [idx0]
    show (10 + t.val % 3) * 512 + l.val = 5120 + (t.val % 3 * 512 + l.val)
    omega

theorem blk1 (t : Fin cfg0.N) (h : 0 < t.val / 3 % 16) (q : Fin 16) (l : Fin 512) : in1 m c t (ix2 q l) =
    input m c (place t.val l) ⟨(t.val / 3 % 16 * 512 - 16 + q.val) % 8192, Nat.mod_lt _ (by decide)⟩ := by
  blk_simp [in1, iblk]
  rw [V_main_arg0]
  refine congrArg _ (funext fun a => Fin.ext ?_)
  have hq := q.isLt
  match a with
  | ⟨0, _⟩ =>
    blk_simp [idx1]
    show (t.val / 3 % 16 * 32 - 1) * 16 + q.val = (t.val / 3 % 16 * 512 - 16 + q.val) % 8192
    omega
  | ⟨1, _⟩ =>
    blk_simp [idx1]
    show (10 + t.val % 3) * 512 + l.val = 5120 + (t.val % 3 * 512 + l.val)
    omega

theorem blk2 (t : Fin cfg0.N) (k : Fin 4) (l : Fin 512) : in2 m c t (ix2 k l) = taps m c (place t.val l) k := by
  blk_simp [in2, iblk]
  rw [V_main_arg1]
  refine congrArg _ (funext fun a => Fin.ext ?_)
  match a with
  | ⟨0, _⟩ => blk_simp [idx2]
  | ⟨1, _⟩ => blk_simp [idx2]; rfl

theorem blk3 (t : Fin cfg0.N) (l : Fin 512) : in3 m c t (ix2 0 l) = offset m c (place t.val l) := by
  rw [← reshaped]
  blk_simp [in3, iblk]
  refine congrArg _ (funext fun a => Fin.ext ?_)
  match a with
  | ⟨0, _⟩ => blk_simp [idx3]
  | ⟨1, _⟩ => blk_simp [idx3]; rfl

/-- The rows above, zeros in the first block, -/
theorem above_first (t : Fin cfg0.N) (h : t.val / 3 % 16 = 0) (q : Fin 16) (l : Fin 512) : above (grid0.coords t) (in1 m c t) (ix2 q l) = 0 := by
  unfold above
  rw [point, h]
  rfl

/-- and the array's in the others, -/
theorem above_next (t : Fin cfg0.N) (h : 0 < t.val / 3 % 16) (q : Fin 16) (l : Fin 512) : above (grid0.coords t) (in1 m c t) (ix2 q l) =
    input m c (place t.val l) ⟨(t.val / 3 % 16 * 512 - 16 + q.val) % 8192, Nat.mod_lt _ (by decide)⟩ := by
  have e : Scalar.cmpi .sgt (BitVec.ofNat 32 (t.val / 3 % 16)) 0#32 = 1#1 :=
    (by decide : ∀ n : Fin 16, 0 < n.val → Scalar.cmpi .sgt (BitVec.ofNat 32 n.val) 0#32 = 1#1) ⟨t.val / 3 % 16, Nat.mod_lt _ (by decide)⟩ h
  unfold above
  rw [point, e]
  exact blk1 m c t h q l

/-- so that the entries before an entry of a block are the array's. -/
theorem before (t : Fin cfg0.N) (s : ℕ) (hs : s ≤ 16) (r : Fin 512) (l : Fin 512) :
    back s (above (grid0.coords t) (in1 m c t)) (in0 m c t) (ix2 r l) = tap (input m c (place t.val l)) s (row (t.val / 3 % 16) r) :=
  back_tap _ _ (Nat.mod_lt _ (by decide)) s hs _ _ l (fun r => blk0 m c t r l) (fun h q => above_first m c t h q l)
    (fun h q => above_next m c t h q l) r

/-- The result. -/
def Q : (⟨2, ![8192, 1536]⟩ : Shape).Idx → EReal := fun i => gate (conv (input m c (i 1)) (taps m c (i 1)) (i 0) + offset m c (i 1))

theorem out (t : Fin cfg0.N) (r : Fin 512) (l : Fin 512) :
    out0_4 (grid0.coords t) (in0 m c t) (in1 m c t) (in2 m c t) (in3 m c t) (ix2 r l) = Q m c (ix2 (row (t.val / 3 % 16) r) (place t.val l)) := by
  rw [block, before m c t 3 (by decide), before m c t 2 (by decide), before m c t 1 (by decide)]
  simp only [blk0, blk2, blk3]
  rw [conv_last]
  rfl

theorem final : (dats m 0 c).arrAt 4 cfg0.N = Q m c := by
  refine (dats m 0 c).arrAt_eq_of_covers 4 _ (by decide +kernel) fun t _ y => ?_
  blk_simp
  rw [after0_4, eq_ix2 y]
  refine (out m c t (y 0) (y 1)).trans (congrArg (Q m c) (funext fun a => Fin.ext ?_ : ix2 (row (t.val / 3 % 16) (y 0)) (place t.val (y 1)) = _))
  match a with
  | ⟨0, _⟩ => blk_simp [idx4]; simp [row]
  | ⟨1, _⟩ => blk_simp [idx4]; rfl

/-- The run: the result, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1) = Q m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

section Reference

open ConvXRefIdeal.Read

variable (x0 : S8192x6656.Idx → EReal) (x1 : S4x1536.Idx → EReal) (x2 : S1536.Idx → EReal)

/-- The reference's array below the rows of zeros, read `k` rows on, -/
theorem ref_tap (k : ℕ) (hk : k ≤ 3) (t : Fin 8192) (l : Fin 1536) (j : (⟨2, ![8195, 1536]⟩ : Shape).Idx)
    (h0 : (j 0).val = t.val + k) (h1 : (j 1).val = l.val) :
    val_main_v3 (F := Ideal) x0 j = tap (fun t => x0 (ix2 t (into l))) (3 - k) t := by
  unfold val_main_v3
  refine (shifted k hk _ (fun i => ?_) _ _ t l j h0 h1).trans (congrArg (tap · _ t) (funext fun t => ?_))
  · rw [val_main_v1_apply, val_main_cst_apply]
    exact Rows.ofBits_zero
  · rw [val_main_v2_apply, val_main_v0_apply, eq_ix2 (idx_main_v0 _)]
    rfl

/-- the sum of the four, -/
theorem ref_conv (t : Fin 8192) (l : Fin 1536) :
    val_main_v32 (F := Ideal) x0 x1 (ix2 t l) = conv (fun t => x0 (ix2 t (into l))) (fun k => x1 (ix2 k l)) t := by
  rw [val_main_v32_apply, val_main_v25_apply, val_main_v18_apply, val_main_v11_apply, val_main_v10_apply, val_main_cst_0_apply,
    val_main_v9_apply, val_main_v17_apply, val_main_v24_apply, val_main_v31_apply, val_main_v4_apply, val_main_v12_apply,
    val_main_v19_apply, val_main_v26_apply, ref_tap x0 0 (by decide) t l _ rfl rfl,
    ref_tap x0 1 (by decide) t l _ (Nat.add_comm _ _) rfl,
    ref_tap x0 2 (by decide) t l _ (Nat.add_comm _ _) rfl,
    ref_tap x0 3 (by decide) t l _ (Nat.add_comm _ _) rfl,
    val_main_v8_apply, val_main_v7_apply, val_main_v6_apply, val_main_v5_apply, at2 (idx_main_v5 _) 0 l rfl (Nat.mod_eq_of_lt l.isLt),
    val_main_v16_apply, val_main_v15_apply, val_main_v14_apply, val_main_v13_apply, at2 (idx_main_v13 _) 1 l rfl (Nat.mod_eq_of_lt l.isLt),
    val_main_v23_apply, val_main_v22_apply, val_main_v21_apply, val_main_v20_apply, at2 (idx_main_v20 _) 2 l rfl (Nat.mod_eq_of_lt l.isLt),
    val_main_v30_apply, val_main_v29_apply, val_main_v28_apply, val_main_v27_apply, at2 (idx_main_v27 _) 3 l rfl (Nat.mod_eq_of_lt l.isLt)]
  show Ideal.ofBits .f32 0x00000000#32 + _ + _ + _ + _ = _
  rw [Rows.ofBits_zero, zero_add]
  rfl

/-- with the offset, -/
theorem ref_sum (t : Fin 8192) (l : Fin 1536) : val_main_v35 (F := Ideal) x0 x1 x2 (ix2 t l) =
    conv (fun t => x0 (ix2 t (into l))) (fun k => x1 (ix2 k l)) t + x2 (ix1 l) := by
  rw [val_main_v35_apply, ref_conv, val_main_v34_apply, val_main_v33_apply, eq_ix1 (idx_main_v33 _)]
  rfl

/-- and the result. -/
theorem reference : val_main_v36 (F := Ideal) x0 x1 x2 = fun i =>
    gate (conv (fun t => x0 (ix2 t (into (i 1)))) (fun k => x1 (ix2 k (i 1))) (i 0) + x2 (ix1 (i 1))) := by
  funext i
  obtain ⟨t, l, rfl⟩ : ∃ (t : Fin 8192) (l : Fin 1536), i = ix2 t l := ⟨i 0, i 1, eq_ix2 i⟩
  rw [val_main_v36_apply, val_main_call0_v5_apply, val_main_call0_v4_apply, val_main_call0_v3_apply, val_main_call0_v2_apply,
    val_main_call0_v1_apply, val_main_call0_v0_apply, val_main_call0_cst_apply, val_main_call0_cst_0_apply, ref_sum]
  show _ * Ideal.div (Ideal.ofBits .f32 0x3F800000#32) (Ideal.ofBits .f32 0x3F800000#32 + Ideal.exp (-_)) = _
  rw [Rows.ofBits_one, gate, sigmoid]
  rfl

end Reference

end Cert.Proof.TapsX

end
-- ==== Proof.TapsQk.lean ====
/-
  The queries' and keys' convolution: the gate of it, and each head's 128 columns of that over the root of their sum of
  squares, the queries' scaled. The kernel's, on blocks of 512 rows below the last rows of the block before, and the
  reference's are one.
-/
module

public import proofs.«01_k».proof.Proof.Taps
public import proofs.«01_k».proof.Proof.Groups
public import proofs.«01_k».proof.Proof.Gen.ConvQkIdeal.Value
public import proofs.«01_k».proof.Proof.Gen.ConvQkRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.TapsQk

open Idealize.ShloMosaic Idealize.ShloMosaic.TcCoe Idealize.ShloMosaic.Pipeline Idealize.SL.Sem Cert.ConvQkIdeal Cert.ConvQkIdeal.Gen
open Cert.Proof.Taps Cert.Proof.Gate Cert.Proof.Groups

theorem hz : (![0, 0] : Fin 2 → Nat) = fun _ => 0 := funext fun a => by fin_cases a <;> rfl

/-- One over the root of a head's sum of squares, -/
def inv (x : Fin 128 → EReal) : EReal := Ideal.rsqrt (∑ e, x e * x e + Ideal.ofBits .f32 0x358637BD#32)

/-- the scale of the queries and of the keys, -/
def scale (n : ℕ) : EReal := if n = 0 then Ideal.ofBits .f32 0x3DB504F3#32 else 1

/-- and a head's columns normed and scaled. -/
def unit (x : Fin 1024 → EReal) (s : EReal) (h : Fin 8) (e : Fin 128) : EReal :=
  x (col h e) * (inv (fun e : Fin 128 => x (col h e)) * s)

section Body

/-- Eight heads side by side. -/
theorem joined {α : Type} (f : Fin 8 → S512x128.Idx → α) (hc) (t : Fin 512) (h : Fin 8) (e : Fin 128) :
    concatenate S512x1024 1 [⟨S512x128, f 0⟩, ⟨S512x128, f 1⟩, ⟨S512x128, f 2⟩, ⟨S512x128, f 3⟩, ⟨S512x128, f 4⟩,
      ⟨S512x128, f 5⟩, ⟨S512x128, f 6⟩, ⟨S512x128, f 7⟩] hc (ix2 t (col h e)) = f h (ix2 t e) := by
  have hk : h.val < 8 := h.isLt
  refine concatenate_apply_piece (t := S512x1024) 1 _ hc _ h.val hk S512x128 (f h) ?_ rfl (128 * h.val) ?_ (ix2 t e)
    (fun b hb => match b with
      | ⟨0, _⟩ => rfl
      | ⟨1, _⟩ => absurd rfl hb) rfl
  · fin_cases h <;> rfl
  · fin_cases h <;> rfl

variable (i : grid0.Coords) (x : Vec Ideal S512x1024 .bf16) (p : Vec Ideal S16x1024 .bf16) (w : Vec Ideal S4x1024 .f32)

/-- The rows above a block: zeros above the first. -/
def above : S16x1024.Idx → EReal :=
  Scalar.select (Scalar.cmpi .sgt (BitVec.ofNat 32 (i 0).val) 0#32) p fun _ => 0

/-- The gate of a block's convolution. -/
abbrev acts : FVec Ideal S512x1024 .f32 :=
  k0_pay2 i x p (line (α := EReal) 3 w) (line (α := EReal) 0 w) (line (α := EReal) 1 w) (line (α := EReal) 2 w)

theorem acted (r : Fin 512) (l : Fin 1024) :
    acts i x p w (ix2 r l) =
    gate (x (ix2 r l) * w (ix2 3 l) + back 3 (above i p) x (ix2 r l) * w (ix2 0 l) + back 2 (above i p) x (ix2 r l) * w (ix2 1 l)
      + back 1 (above i p) x (ix2 r l) * w (ix2 2 l)) := by
  have e : (Scalar.select (Scalar.cmpi .sgt (BitVec.ofNat 32 (i 0).val) 0#32) (extf .f32 p bitsLt_bf16_f32)
      (broadcast S16x1024 (Scalar.ofBits .f32 0x00000000#32)) : FVec Ideal S16x1024 .f32) = above i p := by
    unfold above
    exact congrArg _ (funext fun _ => Rows.ofBits_zero)
  unfold acts k0_pay2
  dsimp only
  rw [e, rolled 3#32 3 rfl (by decide), rolled 2#32 2 rfl (by decide), rolled 1#32 1 rfl (by decide)]
  unfold gate
  pointwise
  rfl

/-- A head's text, -/
def headText (g : FVec Ideal S512x1024 .f32) (s : EReal) (h : Fin 8) : FVec Ideal S512x128 .f32 :=
  mulf (part (Val := Elt Ideal) (e := .f32) h g) (broadcastTo S512x128 (mulf (rsqrt (addf (shapeCast S512x1 (multiReduction .add [1] S512
    (mulf (part (Val := Elt Ideal) (e := .f32) h g) (part (Val := Elt Ideal) (e := .f32) h g)) 0x00000000#32 reduces_S512x128_S512 (.inl rfl) rfl) shapeCasts_S512_S512x1)
    (broadcast S512x1 (Scalar.ofBits .f32 0x358637BD#32)))) (broadcast S512x1 s)) broadcasts_S512x1_S512x128)

theorem head_text (g : FVec Ideal S512x1024 .f32) (s : EReal) (h : Fin 8) (t : Fin 512) (e : Fin 128) :
    headText g s h (ix2 t e) = unit (fun l => g (ix2 t l)) s h e := by
  unfold headText unit inv
  pointwise
  simp only [part_apply]

theorem cols (g : FVec Ideal S512x1024 .f32) (h : Fin 8) (off : ℕ) (ho : off = 128 * h.val) (sl) :
    extractStridedSlice S512x128 ![0, off] g sl = part (Val := Elt Ideal) (e := .f32) h g := by
  funext i
  rw [eq_ix2 i]
  exact slice_part off h ho g sl (i 0) (i 1)

/-- and the block's text. -/
theorem text (g : FVec Ideal S512x1024 .f32) (s : EReal) (t : Fin 512) (h : Fin 8) (e : Fin 128) :
    k0_pay1 g s (k0_pay4 g) (k0_pay5 g) (k0_pay6 g) (k0_pay7 g) (k0_pay8 g) (k0_pay9 g) (k0_pay10 g) (k0_pay11 g) (k0_pay12 g)
      (k0_pay13 g) (k0_pay14 g) (k0_pay15 g) (k0_pay16 g) (k0_pay17 g) (ix2 t (col h e)) = unit (fun l => g (ix2 t l)) s h e := by
  rw [← head_text]
  unfold k0_pay1 k0_pay5 k0_pay7 k0_pay9 k0_pay11 k0_pay13 k0_pay15 k0_pay17 k0_pay4 k0_pay6 k0_pay8 k0_pay10 k0_pay12 k0_pay14 k0_pay16
  dsimp only
  rw [cols g 0 0 rfl, cols g 1 128 rfl, cols g 2 256 rfl, cols g 3 384 rfl, cols g 4 512 rfl, cols g 5 640 rfl, cols g 6 768 rfl, cols g 7 896 rfl]
  exact joined (headText g s) _ t h e

theorem scaled : k0_pay3 (F := Ideal) (BitVec.ofNat 32 (i 1).val) 0#32 = scale (i 1).val := by
  have h : (i 1).val < 2 := (i 1).isLt
  unfold k0_pay3 scale
  generalize (i 1).val = n at h ⊢
  interval_cases n
  · rfl
  · exact Rows.ofBits_one

/-- A block's entries before the norm. -/
abbrev rows (r : Fin 512) (l : Fin 1024) : EReal :=
  gate (x (ix2 r l) * w (ix2 3 l) + back 3 (above i p) x (ix2 r l) * w (ix2 0 l) + back 2 (above i p) x (ix2 r l) * w (ix2 1 l)
    + back 1 (above i p) x (ix2 r l) * w (ix2 2 l))

variable (c : Dev nD) (a2 : Memref sig .tc .vmem S512x1024 .bf16) (h2 : a2.IsWhole)
  (a3 : Memref sig .tc .vmem S16x1024 .bf16) (h3 : a3.IsWhole) (a4 : Memref sig .tc .vmem S4x1024 .f32) (h4 : a4.IsWhole)
  (a5 : Memref sig .tc .vmem S512x1024 .f32) (h5 : a5.IsWhole)

/-- What a point leaves in its block. -/
theorem block (r : Fin 512) (h : Fin 8) (e : Fin 128) : out0_A_3 c i a2 h2 a3 h3 a4 h4 a5 h5 x p w (ix2 r (col h e)) =
    unit (rows i x p w r) (scale (i 1).val) h e := by
  unfold out0_A_3
  rw [View.read_writes_eq_canon _ _ _ (cover0_A_3 c i a2 h2 a3 h3 a4 h4 a5 h5 x p w)]
  unfold kernelRun0_A
  dsimp only
  sl_unfold_words
  simp only [View.readAt_eq_ld, h2.read_unread, h3.read_unread, h4.read_unread, View.ld_unit_zero (S := S512x1024) hz,
    View.ld_unit_zero (S := S16x1024) hz, View.canon_unit_zero (S := S512x1024) hz, ld_line (n := 1024) 3 3 rfl,
    ld_line (n := 1024) 0 0 rfl, ld_line (n := 1024) 1 1 rfl, ld_line (n := 1024) 2 2 rfl]
  refine (text (acts i x p w) _ r h e).trans ?_
  simp only [acted, scaled]

end Body

variable (m : (b : Loc nD τ sig) → Buf (Elt Ideal) b) (c : Dev nD)

/-- The queries' and keys' columns of the input projection, and a column of the one or the other. -/
def into (l : Fin 2048) : Fin 6656 := ⟨l.val, by have := l.isLt; omega⟩
def half (n : ℕ) (l : Fin 1024) : Fin 2048 := ⟨n % 2 * 1024 + l.val, by have := l.isLt; omega⟩

/-- The two arguments: a column, and its four weights. -/
abbrev input (l : Fin 2048) (t : Fin 8192) : EReal := m ((c : Thread nD τ).loc main_arg0) (ix2 t (into l))
abbrev taps (l : Fin 2048) (k : Fin 4) : EReal := m ((c : Thread nD τ).loc main_arg1) (ix2 k l)

theorem point : ∀ t : Fin cfg0.N, (grid0.coords t 0).val = t.val / 2 % 16 := (by decide +kernel : ∀ t : Fin grid0.N, _)
theorem turn : ∀ t : Fin cfg0.N, (grid0.coords t 1).val = t.val % 2 := (by decide +kernel : ∀ t : Fin grid0.N, _)
theorem idx0 : ∀ t : Fin cfg0.N, win0_0.index t = ![t.val / 2 % 16, t.val % 2] := (by decide +kernel : ∀ t : Fin grid0.N, _)
theorem idx1 : ∀ t : Fin cfg0.N, win0_1.index t = ![t.val / 2 % 16 * 32 - 1, t.val % 2] := (by decide +kernel : ∀ t : Fin grid0.N, _)
theorem idx2 : ∀ t : Fin cfg0.N, win0_2.index t = ![0, t.val % 2] := (by decide +kernel : ∀ t : Fin grid0.N, _)
theorem idx3 : ∀ t : Fin cfg0.N, win0_3.index t = ![t.val / 2 % 16, t.val % 2] := (by decide +kernel : ∀ t : Fin grid0.N, _)

abbrev in0 (t : Fin cfg0.N) : Vec Ideal S512x1024 .bf16 := X0_0 m c t
abbrev in1 (t : Fin cfg0.N) : Vec Ideal S16x1024 .bf16 := X0_1 m c t
abbrev in2 (t : Fin cfg0.N) : Vec Ideal S4x1024 .f32 := iblk m c 2 t

theorem blk0 (t : Fin cfg0.N) (r : Fin 512) (l : Fin 1024) : in0 m c t (ix2 r l) = input m c (half t.val l) (row (t.val / 2 % 16) r) := by
  unfold in0 X0_0 Pipeline.Window.fill
  rw [dif_pos (moved0_0 t (ix2 r l))]
  blk_simp [iblk]
  rw [V_main_arg0]
  refine congrArg _ (funext fun a => Fin.ext ?_)
  match a with
  | ⟨0, _⟩ => blk_simp [idx0]; simp [row]
  | ⟨1, _⟩ => blk_simp [idx0]; rfl

theorem blk1 (t : Fin cfg0.N) (h : 0 < t.val / 2 % 16) (q : Fin 16) (l : Fin 1024) : in1 m c t (ix2 q l) =
    input m c (half t.val l) ⟨(t.val / 2 % 16 * 512 - 16 + q.val) % 8192, Nat.mod_lt _ (by decide)⟩ := by
  unfold in1 X0_1 Pipeline.Window.fill
  rw [dif_pos (moved0_1 t (ix2 q l))]
  blk_simp [iblk]
  rw [V_main_arg0]
  refine congrArg _ (funext fun a => Fin.ext ?_)
  have hq := q.isLt
  match a with
  | ⟨0, _⟩ =>
    blk_simp [idx1]
    show (t.val / 2 % 16 * 32 - 1) * 16 + q.val = (t.val / 2 % 16 * 512 - 16 + q.val) % 8192
    omega
  | ⟨1, _⟩ => blk_simp [idx1]; rfl

theorem blk2 (t : Fin cfg0.N) (k : Fin 4) (l : Fin 1024) : in2 m c t (ix2 k l) = taps m c (half t.val l) k := by
  blk_simp [in2, iblk]
  rw [V_main_arg1]
  refine congrArg _ (funext fun a => Fin.ext ?_)
  match a with
  | ⟨0, _⟩ => blk_simp [idx2]
  | ⟨1, _⟩ => blk_simp [idx2]; rfl

/-- The rows above, zeros in the first block, -/
theorem above_first (t : Fin cfg0.N) (h : t.val / 2 % 16 = 0) (q : Fin 16) (l : Fin 1024) : above (grid0.coords t) (in1 m c t) (ix2 q l) = 0 := by
  unfold above
  rw [point, h]
  rfl

/-- and the array's in the others, -/
theorem above_next (t : Fin cfg0.N) (h : 0 < t.val / 2 % 16) (q : Fin 16) (l : Fin 1024) : above (grid0.coords t) (in1 m c t) (ix2 q l) =
    input m c (half t.val l) ⟨(t.val / 2 % 16 * 512 - 16 + q.val) % 8192, Nat.mod_lt _ (by decide)⟩ := by
  have e : Scalar.cmpi .sgt (BitVec.ofNat 32 (t.val / 2 % 16)) 0#32 = 1#1 :=
    (by decide : ∀ n : Fin 16, 0 < n.val → Scalar.cmpi .sgt (BitVec.ofNat 32 n.val) 0#32 = 1#1) ⟨t.val / 2 % 16, Nat.mod_lt _ (by decide)⟩ h
  unfold above
  rw [point, e]
  exact blk1 m c t h q l

/-- so that the entries before an entry of a block are the array's. -/
theorem before (t : Fin cfg0.N) (s : ℕ) (hs : s ≤ 16) (r : Fin 512) (l : Fin 1024) :
    back s (above (grid0.coords t) (in1 m c t)) (in0 m c t) (ix2 r l) = tap (input m c (half t.val l)) s (row (t.val / 2 % 16) r) :=
  back_tap _ _ (Nat.mod_lt _ (by decide)) s hs _ _ l (fun r => blk0 m c t r l) (fun h q => above_first m c t h q l)
    (fun h q => above_next m c t h q l) r

/-- The gate of the convolution, -/
def act (x : Fin 2048 → Fin 8192 → EReal) (w : Fin 2048 → Fin 4 → EReal) (t : Fin 8192) (l : Fin 2048) : EReal := gate (conv (x l) (w l) t)

/-- and the result. -/
def Q (x : Fin 2048 → Fin 8192 → EReal) (w : Fin 2048 → Fin 4 → EReal) : (⟨2, ![8192, 2048]⟩ : Shape).Idx → EReal := fun i =>
  unit (fun l => act x w (i 0) (half ((i 1).val / 1024) l)) (scale ((i 1).val / 1024))
    (grp 8 128 ⟨(i 1).val % 1024, Nat.mod_lt _ (by decide)⟩) (Groups.place 8 128 ⟨(i 1).val % 1024, Nat.mod_lt _ (by decide)⟩)

abbrev R : (⟨2, ![8192, 2048]⟩ : Shape).Idx → EReal := Q (input m c) (taps m c)

theorem Q_half (x : Fin 2048 → Fin 8192 → EReal) (w : Fin 2048 → Fin 4 → EReal) (n : ℕ) (hn : n < 2) (t : Fin 8192) (h : Fin 8) (e : Fin 128) :
    Q x w (ix2 t (half n (col h e))) = unit (fun l => act x w t (half n l)) (scale n) h e := by
  have hl := (col h e).isLt
  have e0 : (half n (col h e)).val / 1024 = n := by show (n % 2 * 1024 + (col h e).val) / 1024 = n; omega
  have e1 : (⟨(half n (col h e)).val % 1024, Nat.mod_lt _ (by decide)⟩ : Fin 1024) = col h e :=
    Fin.ext (by show (n % 2 * 1024 + (col h e).val) % 1024 = (col h e).val; omega)
  unfold Q
  show unit (fun l => act x w t (half ((half n (col h e)).val / 1024) l)) (scale ((half n (col h e)).val / 1024))
    (grp 8 128 ⟨(half n (col h e)).val % 1024, Nat.mod_lt _ (by decide)⟩) (Groups.place 8 128 ⟨(half n (col h e)).val % 1024, Nat.mod_lt _ (by decide)⟩) = _
  rw [e0, e1, grp_col, place_col]

theorem out (t : Fin cfg0.N) (r : Fin 512) (h : Fin 8) (e : Fin 128) :
    outsAt0 m c t (ix2 r (col h e)) = R m c (ix2 (row (t.val / 2 % 16) r) (half (t.val % 2) (col h e))) := by
  have hh : ∀ l, half (t.val % 2) l = half t.val l := fun l => Fin.ext (by show t.val % 2 % 2 * 1024 + _ = t.val % 2 * 1024 + _; omega)
  unfold outsAt0
  rw [block, R, Q_half _ _ _ (Nat.mod_lt _ (by decide)), turn]
  refine congrArg (fun x => unit x _ h e) (funext fun l => ?_)
  unfold rows act
  rw [before m c t 3 (by decide), before m c t 2 (by decide), before m c t 1 (by decide), hh]
  simp only [blk0, blk2]
  rw [conv_last]

theorem final : (dats m 0 c).arrAt 3 cfg0.N = R m c := by
  refine (dats m 0 c).arrAt_eq_of_covers 3 _ (by decide +kernel) fun t _ y => ?_
  have hy : y = ix2 (y 0) (col (grp 8 128 (y 1)) (Groups.place 8 128 (y 1))) := (eq_ix2 y).trans (congrArg (ix2 (y 0)) (col_grp (k := 8) (w := 128) (y 1)))
  blk_simp
  rw [after0_3]
  refine (congrArg _ hy).trans ((out m c t (y 0) _ _).trans
    ((congrArg (fun a => R m c (ix2 (row (t.val / 2 % 16) (y 0)) (half (t.val % 2) a))) (col_grp (k := 8) (w := 128) (y 1)).symm).trans
      (congrArg (R m c) (funext fun a => Fin.ext ?_))))
  match a with
  | ⟨0, _⟩ => blk_simp [idx3]; simp [row]
  | ⟨1, _⟩ => blk_simp [idx3]; simp [half]

/-- The run: the result, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

section Reference

open ConvQkRefIdeal.Read

variable (x0 : S8192x6656.Idx → EReal) (x1 : S4x2048.Idx → EReal)

/-- The reference's array below the rows of zeros, read `k` rows on, -/
theorem ref_tap (k : ℕ) (hk : k ≤ 3) (t : Fin 8192) (l : Fin 2048) (j : (⟨2, ![8195, 2048]⟩ : Shape).Idx)
    (h0 : (j 0).val = t.val + k) (h1 : (j 1).val = l.val) :
    val_main_v3 (F := Ideal) x0 j = tap (fun t => x0 (ix2 t (into l))) (3 - k) t := by
  unfold val_main_v3
  refine (shifted k hk _ (fun i => ?_) _ _ t l j h0 h1).trans (congrArg (tap · _ t) (funext fun t => ?_))
  · rw [val_main_v1_apply, val_main_cst_apply]
    exact Rows.ofBits_zero
  · rw [val_main_v2_apply, val_main_v0_apply, eq_ix2 (idx_main_v0 _)]
    rfl

/-- the sum of the four, -/
theorem ref_conv (t : Fin 8192) (l : Fin 2048) :
    val_main_v32 (F := Ideal) x0 x1 (ix2 t l) = conv (fun t => x0 (ix2 t (into l))) (fun k => x1 (ix2 k l)) t := by
  rw [val_main_v32_apply, val_main_v25_apply, val_main_v18_apply, val_main_v11_apply, val_main_v10_apply, val_main_cst_0_apply,
    val_main_v9_apply, val_main_v17_apply, val_main_v24_apply, val_main_v31_apply, val_main_v4_apply, val_main_v12_apply,
    val_main_v19_apply, val_main_v26_apply, ref_tap x0 0 (by decide) t l _ rfl rfl,
    ref_tap x0 1 (by decide) t l _ (Nat.add_comm _ _) rfl,
    ref_tap x0 2 (by decide) t l _ (Nat.add_comm _ _) rfl,
    ref_tap x0 3 (by decide) t l _ (Nat.add_comm _ _) rfl,
    val_main_v8_apply, val_main_v7_apply, val_main_v6_apply, val_main_v5_apply, at2 (idx_main_v5 _) 0 l rfl (Nat.mod_eq_of_lt l.isLt),
    val_main_v16_apply, val_main_v15_apply, val_main_v14_apply, val_main_v13_apply, at2 (idx_main_v13 _) 1 l rfl (Nat.mod_eq_of_lt l.isLt),
    val_main_v23_apply, val_main_v22_apply, val_main_v21_apply, val_main_v20_apply, at2 (idx_main_v20 _) 2 l rfl (Nat.mod_eq_of_lt l.isLt),
    val_main_v30_apply, val_main_v29_apply, val_main_v28_apply, val_main_v27_apply, at2 (idx_main_v27 _) 3 l rfl (Nat.mod_eq_of_lt l.isLt)]
  show Ideal.ofBits .f32 0x00000000#32 + _ + _ + _ + _ = _
  rw [Rows.ofBits_zero, zero_add]
  rfl

/-- its gate, -/
theorem ref_act (t : Fin 8192) (l : Fin 2048) : val_main_v33 (F := Ideal) x0 x1 (ix2 t l) =
    act (fun l t => x0 (ix2 t (into l))) (fun l k => x1 (ix2 k l)) t l := by
  rw [val_main_v33_apply, val_main_call0_v5_apply, val_main_call0_v4_apply, val_main_call0_v3_apply, val_main_call0_v2_apply,
    val_main_call0_v1_apply, val_main_call0_v0_apply, val_main_call0_cst_apply, val_main_call0_cst_0_apply, ref_conv]
  show _ * Ideal.div (Ideal.ofBits .f32 0x3F800000#32) (Ideal.ofBits .f32 0x3F800000#32 + Ideal.exp (-_)) = _
  rw [Rows.ofBits_one, act, gate, sigmoid]

/-- its heads, -/
theorem ref_q (t : Fin 8192) (h : Fin 8) (e : Fin 128) : val_main_v35 (F := Ideal) x0 x1 (ix3 t h e) =
    act (fun l t => x0 (ix2 t (into l))) (fun l k => x1 (ix2 k l)) t (half 0 (col h e)) := by
  have hl := (col h e).isLt
  have hc : (t.val * 8 + h.val) * 128 + e.val = t.val * 1024 + (col h e).val := by rw [col_val]; omega
  rw [val_main_v35_apply, at2 (idx_main_v35 _) t (col h e) (by show ((t.val * 8 + h.val) * 128 + e.val) / 1024 = t.val; omega)
    (by show ((t.val * 8 + h.val) * 128 + e.val) % 1024 = (col h e).val; omega), val_main_v34_apply,
    at2 (idx_main_v34 _) t (half 0 (col h e)) rfl (by show (col h e).val = 0 % 2 * 1024 + (col h e).val; omega), ref_act]

theorem ref_k (t : Fin 8192) (h : Fin 8) (e : Fin 128) : val_main_v47 (F := Ideal) x0 x1 (ix3 t h e) =
    act (fun l t => x0 (ix2 t (into l))) (fun l k => x1 (ix2 k l)) t (half 1 (col h e)) := by
  have hl := (col h e).isLt
  have hc : (t.val * 8 + h.val) * 128 + e.val = t.val * 1024 + (col h e).val := by rw [col_val]; omega
  rw [val_main_v47_apply, at2 (idx_main_v47 _) t (col h e) (by show ((t.val * 8 + h.val) * 128 + e.val) / 1024 = t.val; omega)
    (by show ((t.val * 8 + h.val) * 128 + e.val) % 1024 = (col h e).val; omega), val_main_v46_apply,
    at2 (idx_main_v46 _) t (half 1 (col h e)) rfl rfl, ref_act]

/-- normed, -/
theorem ref_unit_q (t : Fin 8192) (h : Fin 8) (e : Fin 128) : val_main_v56 (F := Ideal) x0 x1 (ix2 t (col h e)) =
    unit (fun l => act (fun l t => x0 (ix2 t (into l))) (fun l k => x1 (ix2 k l)) t (half 0 l)) (scale 0) h e := by
  have hj : idx_main_v56 (ix2 t (col h e)) = ix3 t h e := by
    have he := e.isLt
    have hh := h.isLt
    funext a
    refine Fin.ext ?_
    match a with
    | ⟨0, _⟩ => show (t.val * 1024 + (128 * h.val + e.val)) / 1024 = t.val; omega
    | ⟨1, _⟩ => show (t.val * 1024 + (128 * h.val + e.val)) / 128 % 8 = h.val; omega
    | ⟨2, _⟩ => show (t.val * 1024 + (128 * h.val + e.val)) % 128 = e.val; omega
  rw [val_main_v56_apply, hj, val_main_v45_apply, val_main_v44_apply, val_main_cst_3_apply, val_main_v43_apply, val_main_v42_apply,
    val_main_v41_apply, val_main_v40_apply, val_main_v39_apply, val_main_cst_2_apply, val_main_v38_apply, val_main_v37_apply,
    val_main_cst_1_apply, ref_q]
  have hs : ∀ k : Fin 128, val_main_v36 (F := Ideal) x0 x1 (idx_main_v37 (idx_main_v38 (idx_main_v42 (ix3 t h e))) k) =
      act (fun l t => x0 (ix2 t (into l))) (fun l k => x1 (ix2 k l)) t (half 0 (col h k)) * act (fun l t => x0 (ix2 t (into l))) (fun l k => x1 (ix2 k l)) t (half 0 (col h k)) := fun k => by
    rw [val_main_v36_apply, eq_ix3 (idx_main_v37 _ k)]
    exact congrArg (fun a => a * a) (ref_q x0 x1 t h k)
  rw [Finset.sum_congr rfl fun k _ => hs k]
  show _ * Ideal.rsqrt (Ideal.ofBits .f32 0x00000000#32 + _ + _) * _ = _
  rw [Rows.ofBits_zero, zero_add, mul_assoc]
  rfl

theorem ref_unit_k (t : Fin 8192) (h : Fin 8) (e : Fin 128) : val_main_v57 (F := Ideal) x0 x1 (ix2 t (col h e)) =
    unit (fun l => act (fun l t => x0 (ix2 t (into l))) (fun l k => x1 (ix2 k l)) t (half 1 l)) (scale 1) h e := by
  have hj : idx_main_v57 (ix2 t (col h e)) = ix3 t h e := by
    have he := e.isLt
    have hh := h.isLt
    funext a
    refine Fin.ext ?_
    match a with
    | ⟨0, _⟩ => show (t.val * 1024 + (128 * h.val + e.val)) / 1024 = t.val; omega
    | ⟨1, _⟩ => show (t.val * 1024 + (128 * h.val + e.val)) / 128 % 8 = h.val; omega
    | ⟨2, _⟩ => show (t.val * 1024 + (128 * h.val + e.val)) % 128 = e.val; omega
  rw [val_main_v57_apply, hj, val_main_v55_apply, val_main_v54_apply,
    val_main_v53_apply, val_main_v52_apply, val_main_v51_apply, val_main_cst_5_apply, val_main_v50_apply, val_main_v49_apply,
    val_main_cst_4_apply, ref_k]
  have hs : ∀ k : Fin 128, val_main_v48 (F := Ideal) x0 x1 (idx_main_v49 (idx_main_v50 (idx_main_v54 (ix3 t h e))) k) =
      act (fun l t => x0 (ix2 t (into l))) (fun l k => x1 (ix2 k l)) t (half 1 (col h k)) * act (fun l t => x0 (ix2 t (into l))) (fun l k => x1 (ix2 k l)) t (half 1 (col h k)) := fun k => by
    rw [val_main_v48_apply, eq_ix3 (idx_main_v49 _ k)]
    exact congrArg (fun a => a * a) (ref_k x0 x1 t h k)
  rw [Finset.sum_congr rfl fun k _ => hs k]
  show _ * Ideal.rsqrt (Ideal.ofBits .f32 0x00000000#32 + _ + _) = _
  unfold unit scale
  rw [Rows.ofBits_zero, zero_add, if_neg (by decide), mul_one]
  rfl

/-- and the result: the queries and the keys side by side. -/
theorem reference : val_main_v58 (F := Ideal) x0 x1 = Q (fun l t => x0 (ix2 t (into l))) (fun l k => x1 (ix2 k l)) := by
  funext i
  obtain ⟨t, l, rfl⟩ : ∃ (t : Fin 8192) (l : Fin 2048), i = ix2 t l := ⟨i 0, i 1, eq_ix2 i⟩
  have hl := l.isLt
  obtain ⟨n, hn, h, e, rfl⟩ : ∃ (n : ℕ) (_ : n < 2) (h : Fin 8) (e : Fin 128), l = half n (col h e) :=
    ⟨l.val / 1024, by omega, grp 8 128 ⟨l.val % 1024, Nat.mod_lt _ (by decide)⟩, Groups.place 8 128 ⟨l.val % 1024, Nat.mod_lt _ (by decide)⟩, by
      rw [← col_grp]
      exact Fin.ext (by show l.val = l.val / 1024 % 2 * 1024 + l.val % 1024; omega)⟩
  rw [Q_half _ _ _ hn]
  unfold val_main_v58
  interval_cases n
  · exact (concatenate_pair_apply_left (t := ConvQkRefIdeal.S8192x2048) (s₁ := ConvQkRefIdeal.S8192x1024) (s₂ := ConvQkRefIdeal.S8192x1024) 1 _ _ _ _ rfl
      (ix2 t (col h e)) (fun b => match b with
        | ⟨0, _⟩ => rfl
        | ⟨1, _⟩ => (Nat.zero_add _).symm)).trans (ref_unit_q x0 x1 t h e)
  · exact (concatenate_pair_apply_right (t := ConvQkRefIdeal.S8192x2048) (s₁ := ConvQkRefIdeal.S8192x1024) (s₂ := ConvQkRefIdeal.S8192x1024) 1 _ _ _ _ rfl rfl
      (ix2 t (col h e)) (fun b hb => match b with
        | ⟨0, _⟩ => rfl
        | ⟨1, _⟩ => absurd rfl hb) (Nat.add_comm _ _)).trans (ref_unit_k x0 x1 t h e)

end Reference

end Cert.Proof.TapsQk

end
-- ==== Proof.TapsIn.lean ====
/-
  The gradient of the values' convolution in its input: the kernel's, on blocks of 1024 rows above the first rows of the
  block after, and the reference's, the derivative of the sum of four shifted products, are one. It takes the values'
  columns of the gradient of the input projection; the other columns are kept.
-/
module

public import proofs.«01_k».proof.Proof.Taps
public import proofs.«01_k».proof.Proof.Gen.ConvVInIdeal.Value
public import proofs.«01_k».proof.Proof.Gen.ConvVInRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.TapsIn

open Idealize.ShloMosaic Idealize.ShloMosaic.TcCoe Idealize.ShloMosaic.Pipeline Idealize.SL.Sem Cert.ConvVInIdeal Cert.ConvVInIdeal.Gen
open Cert.Proof.Taps

theorem hz : (![0, 0] : Fin 2 → Nat) = fun _ => 0 := funext fun a => by fin_cases a <;> rfl

section Body

variable (i : grid0.Coords) (x : Vec Ideal S1024x1024 .f32) (p : Vec Ideal S8x1024 .f32) (w : Vec Ideal S4x1024 .f32)

/-- The rows below a block: zeros below the last. -/
def below : S8x1024.Idx → EReal :=
  Scalar.select (Scalar.cmpi .slt (BitVec.ofNat 32 (i 0).val) 7#32) p fun _ => 0

/-- A block's entry. -/
def entry (r : Fin 1024) (l : Fin 1024) : EReal :=
  ahead 0 x (below i p) (ix2 r l) * w (ix2 3 l) + ahead 3 x (below i p) (ix2 r l) * w (ix2 0 l)
    + ahead 2 x (below i p) (ix2 r l) * w (ix2 1 l) + ahead 1 x (below i p) (ix2 r l) * w (ix2 2 l)

theorem text (r : Fin 1024) (l : Fin 1024) :
    k0_pay1 i x p (line (α := EReal) 3 w) (line (α := EReal) 0 w) (line (α := EReal) 1 w) (line (α := EReal) 2 w) (ix2 r l) =
    entry i x p w r l := by
  have e : (Scalar.select (Scalar.cmpi .slt (BitVec.ofNat 32 (i 0).val) 7#32) p
      (broadcast S8x1024 (Scalar.ofBits .f32 0x00000000#32)) : FVec Ideal S8x1024 .f32) = below i p := by
    unfold below
    exact congrArg _ (funext fun _ => Rows.ofBits_zero)
  have e0 : ahead 0 x (below i p) (ix2 r l) = x (ix2 r l) := dif_pos r.isLt
  unfold k0_pay1 entry
  dsimp only
  rw [e, e0, turned 1029#32 3 rfl (by decide) (by decide), turned 1030#32 2 rfl (by decide) (by decide),
    turned 1031#32 1 rfl (by decide) (by decide)]
  pointwise
  rfl

variable (c : Dev nD) (a2 : Memref sig .tc .vmem S1024x1024 .f32) (h2 : a2.IsWhole)
  (a3 : Memref sig .tc .vmem S8x1024 .f32) (h3 : a3.IsWhole) (a4 : Memref sig .tc .vmem S4x1024 .f32) (h4 : a4.IsWhole)
  (a6 : Memref sig .tc .vmem S1024x1024 .bf16) (h6 : a6.IsWhole)

/-- What a point leaves in its block. -/
theorem block (r : Fin 1024) (l : Fin 1024) : out0_A_3 c i a2 h2 a3 h3 a4 h4 a6 h6 x p w (ix2 r l) = entry i x p w r l := by
  unfold out0_A_3
  rw [View.read_writes_eq_canon _ _ _ (cover0_A_3 c i a2 h2 a3 h3 a4 h4 a6 h6 x p w)]
  unfold kernelRun0_A
  dsimp only
  sl_unfold_words
  simp only [View.readAt_eq_ld, h2.read_unread, h3.read_unread, h4.read_unread, View.ld_unit_zero (S := S1024x1024) hz,
    View.ld_unit_zero (S := S8x1024) hz, View.canon_unit_zero (S := S1024x1024) hz, ld_line (n := 1024) 3 3 rfl,
    ld_line (n := 1024) 0 0 rfl, ld_line (n := 1024) 1 1 rfl, ld_line (n := 1024) 2 2 rfl]
  exact text i x p w r l

end Body

variable (m : (b : Loc nD τ sig) → Buf (Elt Ideal) b) (c : Dev nD)

/-- The arguments: a column of the gradient, and its four weights. -/
abbrev grad (l : Fin 1024) (t : Fin 8192) : EReal := m ((c : Thread nD τ).loc main_arg0) (ix2 t l)
abbrev taps (l : Fin 1024) (k : Fin 4) : EReal := m ((c : Thread nD τ).loc main_arg1) (ix2 k l)

theorem point : ∀ t : Fin cfg0.N, (grid0.coords t 0).val = t.val % 8 := (by decide +kernel : ∀ t : Fin grid0.N, _)
theorem idx0 : ∀ t : Fin cfg0.N, win0_0.index t = ![t.val % 8, 0] := (by decide +kernel : ∀ t : Fin grid0.N, _)
theorem idx1 : ∀ t : Fin cfg0.N, win0_1.index t = ![min ((t.val % 8 + 1) * 128) 1023, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val % 8, 2] := (by decide +kernel : ∀ t : Fin grid0.N, _)

abbrev in0 (t : Fin cfg0.N) : Vec Ideal S1024x1024 .f32 := iblk m c 0 t
abbrev in1 (t : Fin cfg0.N) : Vec Ideal S8x1024 .f32 := iblk m c 1 t
abbrev in2 (t : Fin cfg0.N) : Vec Ideal S4x1024 .f32 := iblk m c 2 t

theorem blk0 (t : Fin cfg0.N) (r : Fin 1024) (l : Fin 1024) : in0 m c t (ix2 r l) = grad m c l (wide (t.val % 8) r) := by
  blk_simp [in0, iblk]
  rw [V_main_arg0]
  refine congrArg _ (funext fun a => Fin.ext ?_)
  match a with
  | ⟨0, _⟩ => blk_simp [idx0]; simp [wide]
  | ⟨1, _⟩ => blk_simp [idx0]

theorem blk1 (t : Fin cfg0.N) (h : t.val % 8 < 7) (q : Fin 8) (l : Fin 1024) : in1 m c t (ix2 q l) =
    grad m c l ⟨((t.val % 8 + 1) * 1024 + q.val) % 8192, Nat.mod_lt _ (by decide)⟩ := by
  blk_simp [in1, iblk]
  rw [V_main_arg0]
  refine congrArg _ (funext fun a => Fin.ext ?_)
  have hq := q.isLt
  match a with
  | ⟨0, _⟩ =>
    blk_simp [idx1]
    show min ((t.val % 8 + 1) * 128) 1023 * 8 + q.val = ((t.val % 8 + 1) * 1024 + q.val) % 8192
    omega
  | ⟨1, _⟩ => blk_simp [idx1]

theorem blk2 (t : Fin cfg0.N) (k : Fin 4) (l : Fin 1024) : in2 m c t (ix2 k l) = taps m c l k := by
  blk_simp [in2, iblk]
  rw [V_main_arg1]
  refine congrArg _ (funext fun a => Fin.ext ?_)
  match a with
  | ⟨0, _⟩ => blk_simp [idx2]
  | ⟨1, _⟩ => blk_simp [idx2]

/-- The rows below, zeros in the last block, -/
theorem below_last (t : Fin cfg0.N) (h : t.val % 8 = 7) (q : Fin 8) (l : Fin 1024) : below (grid0.coords t) (in1 m c t) (ix2 q l) = 0 := by
  unfold below
  rw [point, h]
  rfl

/-- and the array's in the others, -/
theorem below_next (t : Fin cfg0.N) (h : t.val % 8 < 7) (q : Fin 8) (l : Fin 1024) : below (grid0.coords t) (in1 m c t) (ix2 q l) =
    grad m c l ⟨((t.val % 8 + 1) * 1024 + q.val) % 8192, Nat.mod_lt _ (by decide)⟩ := by
  have e : Scalar.cmpi .slt (BitVec.ofNat 32 (t.val % 8)) 7#32 = 1#1 :=
    (by decide : ∀ n : Fin 8, n.val < 7 → Scalar.cmpi .slt (BitVec.ofNat 32 n.val) 7#32 = 1#1) ⟨t.val % 8, Nat.mod_lt _ (by decide)⟩ h
  unfold below
  rw [point, e]
  exact blk1 m c t h q l

/-- so that the entries after an entry of a block are the array's. -/
theorem after (t : Fin cfg0.N) (s : ℕ) (hs : s ≤ 8) (r : Fin 1024) (l : Fin 1024) :
    ahead s (in0 m c t) (below (grid0.coords t) (in1 m c t)) (ix2 r l) = next (grad m c l) s (wide (t.val % 8) r) :=
  ahead_next _ _ (Nat.mod_lt _ (by decide)) s hs _ _ l (fun r => blk0 m c t r l) (fun h q => below_last m c t h q l)
    (fun h q => below_next m c t h q l) r

/-- The gradient, -/
def N (i : (⟨2, ![8192, 1024]⟩ : Shape).Idx) : EReal := vnoc (grad m c (i 1)) (taps m c (i 1)) (i 0)

theorem out (t : Fin cfg0.N) (r : Fin 1024) (l : Fin 1024) : outsAt0 m c t (ix2 r l) = N m c (ix2 (wide (t.val % 8) r) l) := by
  unfold outsAt0
  rw [block]
  unfold entry
  rw [after m c t 0 (by decide), after m c t 3 (by decide), after m c t 2 (by decide), after m c t 1 (by decide)]
  simp only [blk2]
  rfl

/-- and the result: the gradient in its columns, the others kept. -/
def Q (k : (⟨2, ![8192, 6912]⟩ : Shape).Idx → EReal) (n : (⟨2, ![8192, 1024]⟩ : Shape).Idx → EReal) :
    (⟨2, ![8192, 6912]⟩ : Shape).Idx → EReal := fun i =>
  if (i 1).val / 1024 = 2 then n (ix2 (i 0) ⟨(i 1).val % 1024, Nat.mod_lt _ (by decide)⟩) else k i

abbrev R : (⟨2, ![8192, 6912]⟩ : Shape).Idx → EReal := Q (m ((c : Thread nD τ).loc main_arg2)) (N m c)

def place (l : Fin 1024) : Fin 6912 := ⟨2 * 1024 + l.val, by have := l.isLt; omega⟩

theorem Q_place (k) (n) (t : Fin 8192) (l : Fin 1024) : Q k n (ix2 t (place l)) = n (ix2 t l) := by
  have hl := l.isLt
  unfold Q
  refine (if_pos (by show (2 * 1024 + l.val) / 1024 = 2; omega)).trans (congrArg n (funext fun a => Fin.ext (match a with
    | ⟨0, _⟩ => rfl
    | ⟨1, _⟩ => ?_)))
  show (2 * 1024 + l.val) % 1024 = l.val
  omega

theorem final : (dats m 0 c).arrAt 3 cfg0.N = R m c := by
  refine ((dats m 0 c).arrAt_eq_of_coversWhere 3 (R m c) (P := fun i : (⟨2, ![8192, 6912]⟩ : Shape).Idx => (i 1).val / 1024 = 2)
    (fun β => β (1 : Fin _) = 2) (by decide +kernel) (fun t _ y => ?_) (fun j => Iff.rfl)).trans (funext fun i => ?_)
  · blk_simp
    rw [after0_3]
    have hv : ∀ a : Fin 2, ((cfg0.win 3).xinj (cfg0.grid.coords t) y a).val = (y a).val := fun _ => rfl
    generalize (cfg0.win 3).xinj (cfg0.grid.coords t) y = z at hv ⊢
    obtain ⟨r, l, rfl⟩ : ∃ (r : Fin 1024) (l : Fin 1024), z = ix2 r l := ⟨z 0, z 1, eq_ix2 z⟩
    refine (out m c t r l).trans ((Q_place _ _ _ _).symm.trans (congrArg (R m c) (funext fun a => Fin.ext ?_)))
    match a with
    | ⟨0, _⟩ =>
      blk_simp [idx3]
      refine Eq.trans ?_ (congrArg (t.val % 8 * 1024 + ·) (hv 0))
      simp [wide]
    | ⟨1, _⟩ =>
      blk_simp [idx3]
      exact congrArg (2 * 1024 + ·) (hv 1)
  · split
    · rfl
    · next h =>
      refine (congrFun (V_main_arg2 m c) i).trans (if_neg h).symm

/-- The run: the result, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

section Reference

open ConvVInRefIdeal.Read

variable (x0 : S8192x1024.Idx → EReal) (x1 : S4x1024.Idx → EReal) (x2 : S8192x6912.Idx → EReal)

theorem same (t : Fin 8192) (l : Fin 1024) : val_main_v33 (F := Ideal) x0 (ix2 t l) = x0 (ix2 t l) := by
  have ht := t.isLt
  have hl := l.isLt
  rw [val_main_v33_apply, at2 (idx_main_v33 _) t l (by show (t.val * 1024 + l.val) / 1024 = t.val; omega)
    (by show (t.val * 1024 + l.val) % 1024 = l.val; omega)]

/-- The four products, -/
theorem prod3 (t : Fin 8192) (l : Fin 1024) : val_main_v36 (F := Ideal) x0 x1 (ix2 t l) = x0 (ix2 t l) * x1 (ix2 3 l) := by
  rw [val_main_v36_apply, val_main_v35_apply, val_main_v29_apply, val_main_v28_apply, val_main_v27_apply,
    at2 (idx_main_v27 _) 3 l rfl (Nat.mod_eq_of_lt l.isLt)]
  exact congrArg (· * _) (same x0 t l)

theorem prod2 (t : Fin 8192) (l : Fin 1024) : val_main_v39 (F := Ideal) x0 x1 (ix2 t l) = x0 (ix2 t l) * x1 (ix2 2 l) := by
  rw [val_main_v39_apply, val_main_v38_apply, val_main_v22_apply, val_main_v21_apply, val_main_v20_apply,
    at2 (idx_main_v20 _) 2 l rfl (Nat.mod_eq_of_lt l.isLt)]
  exact congrArg (· * _) (same x0 t l)

theorem prod1 (t : Fin 8192) (l : Fin 1024) : val_main_v43 (F := Ideal) x0 x1 (ix2 t l) = x0 (ix2 t l) * x1 (ix2 1 l) := by
  rw [val_main_v43_apply, val_main_v42_apply, val_main_v15_apply, val_main_v14_apply, val_main_v13_apply,
    at2 (idx_main_v13 _) 1 l rfl (Nat.mod_eq_of_lt l.isLt)]
  exact congrArg (· * _) (same x0 t l)

theorem prod0 (t : Fin 8192) (l : Fin 1024) : val_main_v47 (F := Ideal) x0 x1 (ix2 t l) = x0 (ix2 t l) * x1 (ix2 0 l) := by
  rw [val_main_v47_apply, val_main_v46_apply, val_main_v7_apply, val_main_v6_apply, val_main_v5_apply,
    at2 (idx_main_v5 _) 0 l rfl (Nat.mod_eq_of_lt l.isLt)]
  exact congrArg (· * _) (same x0 t l)

/-- each moved up by its own number of rows, and their sum, -/
theorem ref_sum (t : Fin 8192) (l : Fin 1024) : val_main_v52 (F := Ideal) x0 x1 (ix2 t l) =
    vnoc (fun t => x0 (ix2 t l)) (fun k => x1 (ix2 k l)) t := by
  rw [val_main_v52_apply, val_main_v51_apply, val_main_v49_apply, val_main_v45_apply, val_main_v41_apply]
  unfold val_main_v37 val_main_v40 val_main_v44 val_main_v48
  rw [padded 3 0 rfl _ (val_main_cst_3 (F := Ideal)) (fun _ => Rows.ofBits_zero) _ _ t l _ rfl rfl,
    padded 2 1 rfl _ (val_main_cst_4 (F := Ideal)) (fun _ => Rows.ofBits_zero) _ _ t l _ rfl rfl,
    padded 1 2 rfl _ (val_main_cst_5 (F := Ideal)) (fun _ => Rows.ofBits_zero) _ _ t l _ rfl rfl,
    padded 0 3 rfl _ (val_main_cst_6 (F := Ideal)) (fun _ => Rows.ofBits_zero) _ _ t l _ rfl rfl]
  simp only [prod3, prod2, prod1, prod0]
  rw [next_mul (fun t => x0 (ix2 t l)), next_mul (fun t => x0 (ix2 t l)), next_mul (fun t => x0 (ix2 t l)), next_mul (fun t => x0 (ix2 t l))]
  exact vnoc_up _ (fun k => x1 (ix2 k l)) t

/-- and the result: the columns before, the gradient's, and the columns after. -/
theorem reference : val_main_v55 (F := Ideal) x0 x1 x2 =
    Q x2 fun i => vnoc (fun t => x0 (ix2 t (i 1))) (fun k => x1 (ix2 k (i 1))) (i 0) := by
  funext i
  obtain ⟨t, l, rfl⟩ : ∃ (t : Fin 8192) (l : Fin 6912), i = ix2 t l := ⟨i 0, i 1, eq_ix2 i⟩
  have hl : l.val < 6912 := l.isLt
  unfold val_main_v55
  rcases Nat.lt_or_ge l.val 2048 with h | h
  · refine (concatenate_apply_piece (t := ConvVInRefIdeal.S8192x6912) 1 _ _ _ 0 (by show 0 < 3; decide) ConvVInRefIdeal.S8192x2048 _ rfl rfl 0 rfl (ix2 t ⟨l.val, h⟩) (fun b hb => match b with
      | ⟨0, _⟩ => rfl
      | ⟨1, _⟩ => absurd rfl hb) (Nat.zero_add _)).trans (Eq.trans ?_ (if_neg (by show ¬l.val / 1024 = 2; omega)).symm)
    rw [val_main_v53_apply, at2 (idx_main_v53 _) t l rfl rfl]
  · rcases Nat.lt_or_ge l.val 3072 with h' | h'
    · refine (concatenate_apply_piece (t := ConvVInRefIdeal.S8192x6912) 1 _ _ _ 1 (by show 1 < 3; decide) S8192x1024 _ rfl rfl 2048 rfl
        (ix2 t (⟨l.val - 2048, by omega⟩ : Fin 1024)) (fun b hb => match b with
        | ⟨0, _⟩ => rfl
        | ⟨1, _⟩ => absurd rfl hb) (by show 2048 + (l.val - 2048) = l.val; omega)).trans
        (Eq.trans (ref_sum x0 x1 t _) (Eq.trans ?_ (if_pos (by show l.val / 1024 = 2; omega)).symm))
      have e : (⟨l.val - 2048, by omega⟩ : Fin 1024) = ⟨l.val % 1024, Nat.mod_lt _ (by decide)⟩ :=
        Fin.ext (by show l.val - 2048 = l.val % 1024; omega)
      rw [e]
      rfl
    · refine (concatenate_apply_piece (t := ConvVInRefIdeal.S8192x6912) 1 _ _ _ 2 (by show 2 < 3; decide) ConvVInRefIdeal.S8192x3840 _ rfl rfl 3072 rfl
        (ix2 t (⟨l.val - 3072, by omega⟩ : Fin 3840)) (fun b hb => match b with
        | ⟨0, _⟩ => rfl
        | ⟨1, _⟩ => absurd rfl hb) (by show 3072 + (l.val - 3072) = l.val; omega)).trans
        (Eq.trans ?_ (if_neg (by show ¬l.val / 1024 = 2; omega)).symm)
      rw [val_main_v54_apply, at2 (idx_main_v54 _) t l rfl (by show 3072 + (l.val - 3072) = l.val; omega)]

end Reference

end Cert.Proof.TapsIn

end
-- ==== Proof.Convolved.lean ====
/-
  The claims about the causal convolutions: each reference leaves its arguments alone and has no semaphore, and from
  agreeing arguments its result is the one that the kernel's module says the kernel leaves.
-/
module

public import proofs.«01_k».proof.Defs
public import proofs.«01_k».proof.Proof.TapsV
public import proofs.«01_k».proof.Proof.TapsX
public import proofs.«01_k».proof.Proof.TapsQk
public import proofs.«01_k».proof.Proof.TapsIn
public import proofs.«01_k».proof.Proof.Gen.ConvVRefIdeal.Run
public import proofs.«01_k».proof.Proof.Gen.ConvXRefIdeal.Run
public import proofs.«01_k».proof.Proof.Gen.ConvQkRefIdeal.Run
public import proofs.«01_k».proof.Proof.Gen.ConvVInRefIdeal.Run

@[expose] public section

set_option maxRecDepth 16384

noncomputable section

namespace Cert.Proof.Convolved

open Idealize.ShloMosaic Idealize.ShloMosaic.TcCoe Idealize.SL.Sem

theorem frame_values : Cert.quiescent_ConvVRefIdeal := fun m ρ _ =>
  (θ_run ConvVRefIdeal.defs _ _).mono (fun r h => ⟨fun c => (h c).2, sem_eq_zero_of_no_sems (by decide) r.2⟩)
    (ConvVRefIdeal.Value.run (F := Ideal) m ρ)

theorem frame_mixer : Cert.quiescent_ConvXRefIdeal := fun m ρ _ =>
  (θ_run ConvXRefIdeal.defs _ _).mono (fun r h => ⟨fun c => (h c).2, sem_eq_zero_of_no_sems (by decide) r.2⟩)
    (ConvXRefIdeal.Value.run (F := Ideal) m ρ)

theorem frame_heads : Cert.quiescent_ConvQkRefIdeal := fun m ρ _ =>
  (θ_run ConvQkRefIdeal.defs _ _).mono (fun r h => ⟨fun c => (h c).2, sem_eq_zero_of_no_sems (by decide) r.2⟩)
    (ConvQkRefIdeal.Value.run (F := Ideal) m ρ)

theorem frame_values_in : Cert.quiescent_ConvVInRefIdeal := fun m ρ _ =>
  (θ_run ConvVInRefIdeal.defs _ _).mono (fun r h => ⟨fun c => (h c).2, sem_eq_zero_of_no_sems (by decide) r.2⟩)
    (ConvVInRefIdeal.Value.run (F := Ideal) m ρ)

theorem values : Cert.algebraic_ConvVIdeal_ConvVRefIdeal := by
  intro m ρ m' ρ' _ hagree
  refine ⟨TapsV.Q m, TapsV.run m ρ,
    (θ_run ConvVRefIdeal.defs _ _).mono (fun r h c => ?_) (ConvVRefIdeal.Value.run m' ρ')⟩
  obtain ⟨e0, e1⟩ := hagree c
  refine ⟨(h c).1.trans ?_, (h c).2⟩
  rw [ConvVRefIdeal.Read.val_main_v33_eq, e0, e1, TapsV.reference]
  rfl

theorem mixer : Cert.algebraic_ConvXIdeal_ConvXRefIdeal := by
  intro m ρ m' ρ' _ hagree
  refine ⟨TapsX.Q m, TapsX.run m ρ,
    (θ_run ConvXRefIdeal.defs _ _).mono (fun r h c => ?_) (ConvXRefIdeal.Value.run m' ρ')⟩
  obtain ⟨e0, e1, e2⟩ := hagree c
  refine ⟨(h c).1.trans ?_, (h c).2⟩
  rw [ConvXRefIdeal.Read.val_main_v36_eq, e0, e1, e2, TapsX.reference]
  rfl

theorem heads : Cert.algebraic_ConvQkIdeal_ConvQkRefIdeal := by
  intro m ρ m' ρ' _ hagree
  refine ⟨TapsQk.R m, TapsQk.run m ρ,
    (θ_run ConvQkRefIdeal.defs _ _).mono (fun r h c => ?_) (ConvQkRefIdeal.Value.run m' ρ')⟩
  obtain ⟨e0, e1⟩ := hagree c
  refine ⟨(h c).1.trans ?_, (h c).2⟩
  rw [ConvQkRefIdeal.Read.val_main_v58_eq, e0, e1, TapsQk.reference]

theorem values_in : Cert.algebraic_ConvVInIdeal_ConvVInRefIdeal := by
  intro m ρ m' ρ' _ hagree
  refine ⟨TapsIn.R m, TapsIn.run m ρ,
    (θ_run ConvVInRefIdeal.defs _ _).mono (fun r h c => ?_) (ConvVInRefIdeal.Value.run m' ρ')⟩
  obtain ⟨e0, e1, e2⟩ := hagree c
  refine ⟨(h c).1.trans ?_, (h c).2⟩
  rw [ConvVInRefIdeal.Read.val_main_v55_eq, e0, e1, e2, TapsIn.reference]
  rfl

end Cert.Proof.Convolved

end
-- ==== Proof.lean ====
/-
  `Cert.Claim` (proofs.«01_k».proof.Defs), assembled.

  The kernel and the idealized kernel run by the generated frames, the reference by its generated run. The two agree
  because both leave, head by head, the gradients of `Proof/Heads.lean`: the kernel by `Proof/Arrays.lean`, the reference
  by `Proof/Reference.lean`, the latter where the queries and the keys are numbers (`Proof/Finite.lean`).
  The claims about the MLP's backward pass are those of `Proof/Mlp.lean`, those about the other matrices' gradients of
  `Proof/Weights.lean`, about the other inputs' gradients of `Proof/Inputs.lean`, about the forward calls of
  `Proof/Forward.lean`, about the attention's forward call and the calls behind the scans of `Proof/Mixers.lean`, about
  the optimiser of `Proof/Optimiser.lean`, about the calls that stand alone of `Proof/Alone.lean`, and about the causal
  convolutions of `Proof/Convolved.lean`.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Gen.WoDw.Frame
public import proofs.«01_k».proof.Proof.Gen.WoDwIdeal.Frame
public import proofs.«01_k».proof.Proof.Gen.WoDwIdeal.Value
public import proofs.«01_k».proof.Proof.Gen.WoDwRefIdeal.Run
public import proofs.«01_k».proof.Proof.Gen.WoDwRefIdeal.Read
public import proofs.«01_k».proof.Proof.Gen.WqDw.Frame
public import proofs.«01_k».proof.Proof.Gen.WqDwIdeal.Frame
public import proofs.«01_k».proof.Proof.Gen.WqDwIdeal.Value
public import proofs.«01_k».proof.Proof.Gen.WqDwRefIdeal.Run
public import proofs.«01_k».proof.Proof.Gen.WqDwRefIdeal.Read
public import proofs.«01_k».proof.Proof.Gen.InDw.Frame
public import proofs.«01_k».proof.Proof.Gen.InDwIdeal.Frame
public import proofs.«01_k».proof.Proof.Gen.InDwIdeal.Value
public import proofs.«01_k».proof.Proof.Gen.InDwRefIdeal.Run
public import proofs.«01_k».proof.Proof.Gen.InDwRefIdeal.Read
public import proofs.«01_k».proof.Proof.Gen.WoDx.Frame
public import proofs.«01_k».proof.Proof.Gen.WoDxIdeal.Frame
public import proofs.«01_k».proof.Proof.Gen.WoDxIdeal.Value
public import proofs.«01_k».proof.Proof.Gen.WoDxRefIdeal.Run
public import proofs.«01_k».proof.Proof.Gen.WoDxRefIdeal.Read
public import proofs.«01_k».proof.Proof.Gen.WqDx.Frame
public import proofs.«01_k».proof.Proof.Gen.WqDxIdeal.Frame
public import proofs.«01_k».proof.Proof.Gen.WqDxIdeal.Value
public import proofs.«01_k».proof.Proof.Gen.WqDxRefIdeal.Run
public import proofs.«01_k».proof.Proof.Gen.WqDxRefIdeal.Read
public import proofs.«01_k».proof.Proof.Gen.InDx.Frame
public import proofs.«01_k».proof.Proof.Gen.InDxIdeal.Frame
public import proofs.«01_k».proof.Proof.Gen.InDxIdeal.Value
public import proofs.«01_k».proof.Proof.Gen.InDxRefIdeal.Run
public import proofs.«01_k».proof.Proof.Gen.InDxRefIdeal.Read
public import proofs.«01_k».proof.Proof.Gen.In.Frame
public import proofs.«01_k».proof.Proof.Gen.InIdeal.Frame
public import proofs.«01_k».proof.Proof.Gen.InIdeal.Value
public import proofs.«01_k».proof.Proof.Gen.InRefIdeal.Run
public import proofs.«01_k».proof.Proof.Gen.InRefIdeal.Read
public import proofs.«01_k».proof.Proof.Gen.Wq.Frame
public import proofs.«01_k».proof.Proof.Gen.WqIdeal.Frame
public import proofs.«01_k».proof.Proof.Gen.WqIdeal.Value
public import proofs.«01_k».proof.Proof.Gen.WqRefIdeal.Run
public import proofs.«01_k».proof.Proof.Gen.WqRefIdeal.Read
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.Wo.Frame
public import proofs.«01_k».proof.Proof.Gen.WoIdeal.Frame
public import proofs.«01_k».proof.Proof.Gen.WoIdeal.Value
public import proofs.«01_k».proof.Proof.Gen.WoRefIdeal.Run
public import proofs.«01_k».proof.Proof.Gen.WoRefIdeal.Read
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRefIdeal.Run
public import proofs.«01_k».proof.Proof.Gen.DownDxRefIdeal.Read
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal.Run
public import proofs.«01_k».proof.Proof.Gen.UpDwRefIdeal.Read
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal.Run
public import proofs.«01_k».proof.Proof.Gen.UpDxRefIdeal.Read
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.GdnPost.Frame
public import proofs.«01_k».proof.Proof.Gen.GdnPostIdeal.Frame
public import proofs.«01_k».proof.Proof.Gen.GdnPostIdeal.Value
public import proofs.«01_k».proof.Proof.Gen.GdnPostRefIdeal.Run
public import proofs.«01_k».proof.Proof.Gen.GdnPostRefIdeal.Read
public import proofs.«01_k».proof.Proof.Gen.SsdPost.Frame
public import proofs.«01_k».proof.Proof.Gen.SsdPostIdeal.Frame
public import proofs.«01_k».proof.Proof.Gen.SsdPostIdeal.Value
public import proofs.«01_k».proof.Proof.Gen.SsdPostRefIdeal.Run
public import proofs.«01_k».proof.Proof.Gen.SsdPostRefIdeal.Read
public import proofs.«01_k».proof.Proof.Gen.AdamIn.Frame
public import proofs.«01_k».proof.Proof.Gen.AdamInIdeal.Frame
public import proofs.«01_k».proof.Proof.Gen.AdamOut.Frame
public import proofs.«01_k».proof.Proof.Gen.AdamOutIdeal.Frame
public import proofs.«01_k».proof.Proof.Gen.AdamMem.Frame
public import proofs.«01_k».proof.Proof.Gen.AdamMemIdeal.Frame
public import proofs.«01_k».proof.Proof.Gen.AdamUp.Frame
public import proofs.«01_k».proof.Proof.Gen.AdamUpIdeal.Frame
public import proofs.«01_k».proof.Proof.Gen.AdamDown.Frame
public import proofs.«01_k».proof.Proof.Gen.AdamDownIdeal.Frame
public import proofs.«01_k».proof.Proof.Gen.AdamNorm.Frame
public import proofs.«01_k».proof.Proof.Gen.AdamNormIdeal.Frame
public import proofs.«01_k».proof.Proof.Gen.AdamGate.Frame
public import proofs.«01_k».proof.Proof.Gen.AdamGateIdeal.Frame
public import proofs.«01_k».proof.Proof.Gen.AdamHead.Frame
public import proofs.«01_k».proof.Proof.Gen.AdamHeadIdeal.Frame
public import proofs.«01_k».proof.Proof.Gen.AdamSkip.Frame
public import proofs.«01_k».proof.Proof.Gen.AdamSkipIdeal.Frame
public import proofs.«01_k».proof.Proof.Gen.AdamBias.Frame
public import proofs.«01_k».proof.Proof.Gen.AdamBiasIdeal.Frame
public import proofs.«01_k».proof.Proof.Gen.AdamTaps.Frame
public import proofs.«01_k».proof.Proof.Gen.AdamTapsIdeal.Frame
public import proofs.«01_k».proof.Proof.Gen.AdamFilter.Frame
public import proofs.«01_k».proof.Proof.Gen.AdamFilterIdeal.Frame
public import proofs.«01_k».proof.Proof.Gen.Sum.Frame
public import proofs.«01_k».proof.Proof.Gen.SumIdeal.Frame
public import proofs.«01_k».proof.Proof.Gen.Gates.Frame
public import proofs.«01_k».proof.Proof.Gen.GatesIdeal.Frame
public import proofs.«01_k».proof.Proof.Gen.Keys.Frame
public import proofs.«01_k».proof.Proof.Gen.KeysIdeal.Frame
public import proofs.«01_k».proof.Proof.Gen.KeysDw.Frame
public import proofs.«01_k».proof.Proof.Gen.KeysDwIdeal.Frame
public import proofs.«01_k».proof.Proof.Gen.KeysDx.Frame
public import proofs.«01_k».proof.Proof.Gen.KeysDxIdeal.Frame
public import proofs.«01_k».proof.Proof.Gen.ValuesDx.Frame
public import proofs.«01_k».proof.Proof.Gen.ValuesDxIdeal.Frame
public import proofs.«01_k».proof.Proof.Gen.RowNorm.Frame
public import proofs.«01_k».proof.Proof.Gen.RowNormIdeal.Frame
public import proofs.«01_k».proof.Proof.Gen.MemNorm.Frame
public import proofs.«01_k».proof.Proof.Gen.MemNormIdeal.Frame
public import proofs.«01_k».proof.Proof.Gen.MemNormDx.Frame
public import proofs.«01_k».proof.Proof.Gen.MemNormDxIdeal.Frame
public import proofs.«01_k».proof.Proof.Gen.Mix.Frame
public import proofs.«01_k».proof.Proof.Gen.MixIdeal.Frame
public import proofs.«01_k».proof.Proof.Gen.ConvV.Frame
public import proofs.«01_k».proof.Proof.Gen.ConvVIdeal.Frame
public import proofs.«01_k».proof.Proof.Gen.ConvX.Frame
public import proofs.«01_k».proof.Proof.Gen.ConvXIdeal.Frame
public import proofs.«01_k».proof.Proof.Gen.ConvQk.Frame
public import proofs.«01_k».proof.Proof.Gen.ConvQkIdeal.Frame
public import proofs.«01_k».proof.Proof.Gen.ConvVIn.Frame
public import proofs.«01_k».proof.Proof.Gen.ConvVInIdeal.Frame
public import proofs.«01_k».proof.Proof.Arrays
public import proofs.«01_k».proof.Proof.Reference
public import proofs.«01_k».proof.Proof.Finite
public import proofs.«01_k».proof.Proof.Mlp
public import proofs.«01_k».proof.Proof.Weights
public import proofs.«01_k».proof.Proof.Inputs
public import proofs.«01_k».proof.Proof.Forward
public import proofs.«01_k».proof.Proof.Mixers
public import proofs.«01_k».proof.Proof.Optimiser
public import proofs.«01_k».proof.Proof.Alone
public import proofs.«01_k».proof.Proof.Convolved

@[expose] public section

set_option maxRecDepth 16384

noncomputable section

namespace Cert.Proof

open Idealize.ShloMosaic Idealize.SL.Sem

/-- The reference leaves its arguments alone, and it has no semaphore. -/
theorem frame_reference : Cert.quiescent_ReferenceIdeal := fun m ρ _ =>
  (θ_run ReferenceIdeal.defs _ _).mono
    (fun r h => ⟨fun c => (h c).2.2.2, sem_eq_zero_of_no_sems (by decide) r.2⟩)
    (ReferenceIdeal.Value.run (F := Ideal) m ρ)

/-- From agreeing arguments, the queries and keys numbers, the reference's three results are the kernel's. -/
theorem algebraic : Cert.algebraic_KernelIdeal_ReferenceIdeal_pre_finite := by
  intro m ρ m' ρ' hpre hagree
  refine ⟨Arrays.DQ m, Arrays.DK m, Arrays.DV m, Arrays.run m ρ,
    (θ_run ReferenceIdeal.defs _ _).mono (fun r h c => ?_) (ReferenceIdeal.Value.run m' ρ')⟩
  obtain ⟨hq, hk⟩ := Finite.reals _ _ _ _ (hpre c)
  obtain ⟨e0, e1, e2, e3⟩ := hagree c
  obtain ⟨h65, h63, h62, hargs⟩ := h c
  refine ⟨h65.trans ?_, h63.trans ?_, h62.trans ?_, hargs⟩
  · rw [ReferenceIdeal.Read.val_main_v65_eq, e0, e1, e2, e3]
    exact Heads.ext_heads fun t h d => (Reference.dq_eq _ _ _ _ hq hk t h d).trans (Arrays.DQ_at m c _ h d).symm
  · rw [ReferenceIdeal.Read.val_main_v63_eq, e0, e1, e2, e3]
    exact Heads.ext_heads fun j h d => (Reference.dk_eq _ _ _ _ hq hk j h d).trans (Arrays.DK_at m c _ h d).symm
  · rw [ReferenceIdeal.Read.val_main_v62_eq, e0, e1, e3]
    exact Heads.ext_heads fun j h d => (Reference.dv_at _ _ _ j h d).trans (Arrays.DV_at m c _ h d).symm

theorem claim : Cert.Claim :=
  ⟨Kernel.Gen.facts, KernelIdeal.Gen.facts, ReferenceIdeal.Gen.facts,
    DownDx.Gen.facts, DownDxIdeal.Gen.facts, DownDxRefIdeal.Gen.facts,
    DownDw.Gen.facts, DownDwIdeal.Gen.facts, DownDwRefIdeal.Gen.facts,
    UpDw.Gen.facts, UpDwIdeal.Gen.facts, UpDwRefIdeal.Gen.facts,
    UpDx.Gen.facts, UpDxIdeal.Gen.facts, UpDxRefIdeal.Gen.facts,
    OutDw.Gen.facts, OutDwIdeal.Gen.facts, OutDwRefIdeal.Gen.facts,
    WoDw.Gen.facts, WoDwIdeal.Gen.facts, WoDwRefIdeal.Gen.facts,
    WqDw.Gen.facts, WqDwIdeal.Gen.facts, WqDwRefIdeal.Gen.facts,
    InDw.Gen.facts, InDwIdeal.Gen.facts, InDwRefIdeal.Gen.facts,
    WoDx.Gen.facts, WoDxIdeal.Gen.facts, WoDxRefIdeal.Gen.facts,
    WqDx.Gen.facts, WqDxIdeal.Gen.facts, WqDxRefIdeal.Gen.facts,
    InDx.Gen.facts, InDxIdeal.Gen.facts, InDxRefIdeal.Gen.facts,
    In.Gen.facts, InIdeal.Gen.facts, InRefIdeal.Gen.facts,
    Wq.Gen.facts, WqIdeal.Gen.facts, WqRefIdeal.Gen.facts,
    Out.Gen.facts, OutIdeal.Gen.facts, OutRefIdeal.Gen.facts,
    Wo.Gen.facts, WoIdeal.Gen.facts, WoRefIdeal.Gen.facts,
    Up.Gen.facts, UpIdeal.Gen.facts, UpRefIdeal.Gen.facts,
    Down.Gen.facts, DownIdeal.Gen.facts, DownRefIdeal.Gen.facts,
    Attn.Gen.facts, AttnIdeal.Gen.facts, AttnRefIdeal.Gen.facts,
    GdnPost.Gen.facts, GdnPostIdeal.Gen.facts, GdnPostRefIdeal.Gen.facts,
    SsdPost.Gen.facts, SsdPostIdeal.Gen.facts, SsdPostRefIdeal.Gen.facts,
    AdamIn.Gen.facts, AdamInIdeal.Gen.facts, AdamInRefIdeal.Gen.facts,
    AdamOut.Gen.facts, AdamOutIdeal.Gen.facts, AdamOutRefIdeal.Gen.facts,
    AdamMem.Gen.facts, AdamMemIdeal.Gen.facts, AdamMemRefIdeal.Gen.facts,
    AdamUp.Gen.facts, AdamUpIdeal.Gen.facts, AdamUpRefIdeal.Gen.facts,
    AdamDown.Gen.facts, AdamDownIdeal.Gen.facts, AdamDownRefIdeal.Gen.facts,
    AdamNorm.Gen.facts, AdamNormIdeal.Gen.facts, AdamNormRefIdeal.Gen.facts,
    AdamGate.Gen.facts, AdamGateIdeal.Gen.facts, AdamGateRefIdeal.Gen.facts,
    AdamHead.Gen.facts, AdamHeadIdeal.Gen.facts, AdamHeadRefIdeal.Gen.facts,
    AdamSkip.Gen.facts, AdamSkipIdeal.Gen.facts, AdamSkipRefIdeal.Gen.facts,
    AdamBias.Gen.facts, AdamBiasIdeal.Gen.facts, AdamBiasRefIdeal.Gen.facts,
    AdamTaps.Gen.facts, AdamTapsIdeal.Gen.facts, AdamTapsRefIdeal.Gen.facts,
    AdamFilter.Gen.facts, AdamFilterIdeal.Gen.facts, AdamFilterRefIdeal.Gen.facts,
    Sum.Gen.facts, SumIdeal.Gen.facts, SumRefIdeal.Gen.facts,
    Gates.Gen.facts, GatesIdeal.Gen.facts, GatesRefIdeal.Gen.facts,
    Keys.Gen.facts, KeysIdeal.Gen.facts, KeysRefIdeal.Gen.facts,
    KeysDw.Gen.facts, KeysDwIdeal.Gen.facts, KeysDwRefIdeal.Gen.facts,
    KeysDx.Gen.facts, KeysDxIdeal.Gen.facts, KeysDxRefIdeal.Gen.facts,
    ValuesDx.Gen.facts, ValuesDxIdeal.Gen.facts, ValuesDxRefIdeal.Gen.facts,
    RowNorm.Gen.facts, RowNormIdeal.Gen.facts, RowNormRefIdeal.Gen.facts,
    MemNorm.Gen.facts, MemNormIdeal.Gen.facts, MemNormRefIdeal.Gen.facts,
    MemNormDx.Gen.facts, MemNormDxIdeal.Gen.facts, MemNormDxRefIdeal.Gen.facts,
    Mix.Gen.facts, MixIdeal.Gen.facts, MixRefIdeal.Gen.facts,
    ConvV.Gen.facts, ConvVIdeal.Gen.facts, ConvVRefIdeal.Gen.facts,
    ConvX.Gen.facts, ConvXIdeal.Gen.facts, ConvXRefIdeal.Gen.facts,
    ConvQk.Gen.facts, ConvQkIdeal.Gen.facts, ConvQkRefIdeal.Gen.facts,
    ConvVIn.Gen.facts, ConvVInIdeal.Gen.facts, ConvVInRefIdeal.Gen.facts,
    Finite.facts,
    fun m ρ _ => Kernel.Gen.frame m ρ, fun m ρ _ => KernelIdeal.Gen.frame m ρ, fun m ρ _ => KernelIdeal.Gen.frame m ρ,
    frame_reference, fun m ρ _ => frame_reference m ρ trivial,
    fun m ρ _ => DownDx.Gen.frame m ρ, fun m ρ _ => DownDxIdeal.Gen.frame m ρ, Mlp.frame_down_input,
    fun m ρ _ => DownDw.Gen.frame m ρ, fun m ρ _ => DownDwIdeal.Gen.frame m ρ, Mlp.frame_down_weight,
    fun m ρ _ => UpDw.Gen.frame m ρ, fun m ρ _ => UpDwIdeal.Gen.frame m ρ, Mlp.frame_up_weight,
    fun m ρ _ => UpDx.Gen.frame m ρ, fun m ρ _ => UpDxIdeal.Gen.frame m ρ, Mlp.frame_up_input,
    fun m ρ _ => OutDw.Gen.frame m ρ, fun m ρ _ => OutDwIdeal.Gen.frame m ρ, Weights.frame_out_weight,
    fun m ρ _ => WoDw.Gen.frame m ρ, fun m ρ _ => WoDwIdeal.Gen.frame m ρ, Weights.frame_attn_weight,
    fun m ρ _ => WqDw.Gen.frame m ρ, fun m ρ _ => WqDwIdeal.Gen.frame m ρ, Weights.frame_query_weight,
    fun m ρ _ => InDw.Gen.frame m ρ, fun m ρ _ => InDwIdeal.Gen.frame m ρ, Weights.frame_in_weight,
    fun m ρ _ => WoDx.Gen.frame m ρ, fun m ρ _ => WoDxIdeal.Gen.frame m ρ, Inputs.frame_attn_input,
    fun m ρ _ => WqDx.Gen.frame m ρ, fun m ρ _ => WqDxIdeal.Gen.frame m ρ, Inputs.frame_query_input,
    fun m ρ _ => InDx.Gen.frame m ρ, fun m ρ _ => InDxIdeal.Gen.frame m ρ, Inputs.frame_column_input,
    fun m ρ _ => In.Gen.frame m ρ, fun m ρ _ => InIdeal.Gen.frame m ρ, Forward.frame_columns,
    fun m ρ _ => Wq.Gen.frame m ρ, fun m ρ _ => WqIdeal.Gen.frame m ρ, Forward.frame_queries,
    fun m ρ _ => Out.Gen.frame m ρ, fun m ρ _ => OutIdeal.Gen.frame m ρ, Forward.frame_mixed,
    fun m ρ _ => Wo.Gen.frame m ρ, fun m ρ _ => WoIdeal.Gen.frame m ρ, Forward.frame_attended,
    fun m ρ _ => Up.Gen.frame m ρ, fun m ρ _ => UpIdeal.Gen.frame m ρ, Forward.frame_hidden,
    fun m ρ _ => Down.Gen.frame m ρ, fun m ρ _ => DownIdeal.Gen.frame m ρ, Forward.frame_loss,
    fun m ρ _ => Attn.Gen.frame m ρ, fun m ρ _ => AttnIdeal.Gen.frame m ρ, Mixers.frame_heads,
    fun m ρ _ => GdnPost.Gen.frame m ρ, fun m ρ _ => GdnPostIdeal.Gen.frame m ρ, Mixers.frame_gated_norm,
    fun m ρ _ => SsdPost.Gen.frame m ρ, fun m ρ _ => SsdPostIdeal.Gen.frame m ρ, Mixers.frame_group_norm,
    fun m ρ _ => AdamIn.Gen.frame m ρ, fun m ρ _ => AdamInIdeal.Gen.frame m ρ, Optimiser.frame_in,
    fun m ρ _ => AdamOut.Gen.frame m ρ, fun m ρ _ => AdamOutIdeal.Gen.frame m ρ, Optimiser.frame_out,
    fun m ρ _ => AdamMem.Gen.frame m ρ, fun m ρ _ => AdamMemIdeal.Gen.frame m ρ, Optimiser.frame_mem,
    fun m ρ _ => AdamUp.Gen.frame m ρ, fun m ρ _ => AdamUpIdeal.Gen.frame m ρ, Optimiser.frame_up,
    fun m ρ _ => AdamDown.Gen.frame m ρ, fun m ρ _ => AdamDownIdeal.Gen.frame m ρ, Optimiser.frame_down,
    fun m ρ _ => AdamNorm.Gen.frame m ρ, fun m ρ _ => AdamNormIdeal.Gen.frame m ρ, Optimiser.frame_norm,
    fun m ρ _ => AdamGate.Gen.frame m ρ, fun m ρ _ => AdamGateIdeal.Gen.frame m ρ, Optimiser.frame_gate,
    fun m ρ _ => AdamHead.Gen.frame m ρ, fun m ρ _ => AdamHeadIdeal.Gen.frame m ρ, Optimiser.frame_head,
    fun m ρ _ => AdamSkip.Gen.frame m ρ, fun m ρ _ => AdamSkipIdeal.Gen.frame m ρ, Optimiser.frame_skip,
    fun m ρ _ => AdamBias.Gen.frame m ρ, fun m ρ _ => AdamBiasIdeal.Gen.frame m ρ, Optimiser.frame_bias,
    fun m ρ _ => AdamTaps.Gen.frame m ρ, fun m ρ _ => AdamTapsIdeal.Gen.frame m ρ, Optimiser.frame_taps,
    fun m ρ _ => AdamFilter.Gen.frame m ρ, fun m ρ _ => AdamFilterIdeal.Gen.frame m ρ, Optimiser.frame_filter,
    fun m ρ _ => Sum.Gen.frame m ρ, fun m ρ _ => SumIdeal.Gen.frame m ρ, Optimiser.frame_sum,
    fun m ρ _ => Gates.Gen.frame m ρ, fun m ρ _ => GatesIdeal.Gen.frame m ρ, Alone.frame_gate_columns,
    fun m ρ _ => Keys.Gen.frame m ρ, fun m ρ _ => KeysIdeal.Gen.frame m ρ, Alone.frame_keys,
    fun m ρ _ => KeysDw.Gen.frame m ρ, fun m ρ _ => KeysDwIdeal.Gen.frame m ρ, Alone.frame_keys_weight,
    fun m ρ _ => KeysDx.Gen.frame m ρ, fun m ρ _ => KeysDxIdeal.Gen.frame m ρ, Alone.frame_keys_input,
    fun m ρ _ => ValuesDx.Gen.frame m ρ, fun m ρ _ => ValuesDxIdeal.Gen.frame m ρ, Alone.frame_values_input,
    fun m ρ _ => RowNorm.Gen.frame m ρ, fun m ρ _ => RowNormIdeal.Gen.frame m ρ, Alone.frame_norm,
    fun m ρ _ => MemNorm.Gen.frame m ρ, fun m ρ _ => MemNormIdeal.Gen.frame m ρ, Alone.frame_memory_norm,
    fun m ρ _ => MemNormDx.Gen.frame m ρ, fun m ρ _ => MemNormDxIdeal.Gen.frame m ρ, Alone.frame_memory_norm_back,
    fun m ρ _ => Mix.Gen.frame m ρ, fun m ρ _ => MixIdeal.Gen.frame m ρ, Alone.frame_group_norm,
    fun m ρ _ => ConvV.Gen.frame m ρ, fun m ρ _ => ConvVIdeal.Gen.frame m ρ, Convolved.frame_values,
    fun m ρ _ => ConvX.Gen.frame m ρ, fun m ρ _ => ConvXIdeal.Gen.frame m ρ, Convolved.frame_mixer,
    fun m ρ _ => ConvQk.Gen.frame m ρ, fun m ρ _ => ConvQkIdeal.Gen.frame m ρ, Convolved.frame_heads,
    fun m ρ _ => ConvVIn.Gen.frame m ρ, fun m ρ _ => ConvVInIdeal.Gen.frame m ρ, Convolved.frame_values_in,
    trivial, algebraic,
    trivial, Mlp.down_input, trivial, Mlp.down_weight, trivial, Mlp.up_weight, trivial, Mlp.up_input,
    trivial, Weights.out_weight,
    trivial, Weights.attn_weight,
    trivial, Weights.query_weight,
    trivial, Weights.in_weight,
    trivial, Inputs.attn_input,
    trivial, Inputs.query_input,
    trivial, Inputs.column_input,
    trivial, Forward.columns,
    trivial, Forward.queries,
    trivial, Forward.mixed,
    trivial, Forward.attended,
    trivial, Forward.hidden,
    trivial, Forward.loss,
    trivial, Mixers.heads,
    trivial, Mixers.gated_norm,
    trivial, Mixers.group_norm,
    trivial, Optimiser.in_step,
    trivial, Optimiser.out_step,
    trivial, Optimiser.mem_step,
    trivial, Optimiser.up_step,
    trivial, Optimiser.down_step,
    trivial, Optimiser.norm_step,
    trivial, Optimiser.gate_step,
    trivial, Optimiser.head_step,
    trivial, Optimiser.skip_step,
    trivial, Optimiser.bias_step,
    trivial, Optimiser.taps_step,
    trivial, Optimiser.filter_step,
    trivial, Optimiser.sum,
    trivial, Alone.gate_columns,
    trivial, Alone.keys,
    trivial, Alone.keys_weight,
    trivial, Alone.keys_input,
    trivial, Alone.values_input,
    trivial, Alone.norm,
    trivial, Alone.memory_norm,
    trivial, Alone.memory_norm_back,
    trivial, Alone.group_norm,
    trivial, Convolved.values,
    trivial, Convolved.mixer,
    trivial, Convolved.heads,
    trivial, Convolved.values_in⟩

end Cert.Proof

end
